-- ==== Defs.lean ====
def Pre_PreKernel (m : (ℓ : Loc Cert.PreKernel.nD Cert.PreKernel.τ Cert.PreKernel.sig) → Buf (Elt Bits) ℓ) : Prop :=
  True

def Pre_PreKernelIdeal (m : (ℓ : Loc Cert.PreKernelIdeal.nD Cert.PreKernelIdeal.τ Cert.PreKernelIdeal.sig) → Buf (Elt Ideal) ℓ) : Prop :=
  True

def Pre_PreKernelIdeal_pre_finite [hPre_pre_finite : Cert.Pre_pre_finite.Facts] (m : (ℓ : Loc Cert.PreKernelIdeal.nD Cert.PreKernelIdeal.τ Cert.PreKernelIdeal.sig) → Buf (Elt Ideal) ℓ) : Prop :=
  ∀ c : Dev Cert.PreKernelIdeal.nD,
    (Cert.Pre_pre_finite.fn (F := Ideal) (m ((c.tc : Thread Cert.PreKernelIdeal.nD Cert.PreKernelIdeal.τ).loc Cert.PreKernelIdeal.main_arg0)) (m ((c.tc : Thread Cert.PreKernelIdeal.nD Cert.PreKernelIdeal.τ).loc Cert.PreKernelIdeal.main_arg1)) (m ((c.tc : Thread Cert.PreKernelIdeal.nD Cert.PreKernelIdeal.τ).loc Cert.PreKernelIdeal.main_arg2)) (m ((c.tc : Thread Cert.PreKernelIdeal.nD Cert.PreKernelIdeal.τ).loc Cert.PreKernelIdeal.main_arg3)) (m ((c.tc : Thread Cert.PreKernelIdeal.nD Cert.PreKernelIdeal.τ).loc Cert.PreKernelIdeal.main_arg4)) (m ((c.tc : Thread Cert.PreKernelIdeal.nD Cert.PreKernelIdeal.τ).loc Cert.PreKernelIdeal.main_arg5)) (m ((c.tc : Thread Cert.PreKernelIdeal.nD Cert.PreKernelIdeal.τ).loc Cert.PreKernelIdeal.main_arg6)) (m ((c.tc : Thread Cert.PreKernelIdeal.nD Cert.PreKernelIdeal.τ).loc Cert.PreKernelIdeal.main_arg7)) (m ((c.tc : Thread Cert.PreKernelIdeal.nD Cert.PreKernelIdeal.τ).loc Cert.PreKernelIdeal.main_arg8))) = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_pre_finite [hPre_pre_finite : Cert.Pre_pre_finite.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6)) (m ((c.tc : Thread Cert.PreRefIdeal.nD Cert.PreRefIdeal.τ).loc Cert.PreRefIdeal.main_arg7)) (m ((c.tc : Thread Cert.PreRefIdeal.nD Cert.PreRefIdeal.τ).loc Cert.PreRefIdeal.main_arg8))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_post_finite [hPre_post_finite : Cert.Pre_post_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RnnKernel (m : (ℓ : Loc Cert.RnnKernel.nD Cert.RnnKernel.τ Cert.RnnKernel.sig) → Buf (Elt Bits) ℓ) : Prop :=
  True

def Pre_RnnKernelIdeal (m : (ℓ : Loc Cert.RnnKernelIdeal.nD Cert.RnnKernelIdeal.τ Cert.RnnKernelIdeal.sig) → Buf (Elt Ideal) ℓ) : Prop :=
  True

def Pre_RnnKernelIdeal_rnn_finite [hPre_rnn_finite : Cert.Pre_rnn_finite.Facts] (m : (ℓ : Loc Cert.RnnKernelIdeal.nD Cert.RnnKernelIdeal.τ Cert.RnnKernelIdeal.sig) → Buf (Elt Ideal) ℓ) : Prop :=
  ∀ c : Dev Cert.RnnKernelIdeal.nD,
    (Cert.Pre_rnn_finite.fn (F := Ideal) (m ((c.tc : Thread Cert.RnnKernelIdeal.nD Cert.RnnKernelIdeal.τ).loc Cert.RnnKernelIdeal.main_arg0)) (m ((c.tc : Thread Cert.RnnKernelIdeal.nD Cert.RnnKernelIdeal.τ).loc Cert.RnnKernelIdeal.main_arg1)) (m ((c.tc : Thread Cert.RnnKernelIdeal.nD Cert.RnnKernelIdeal.τ).loc Cert.RnnKernelIdeal.main_arg2)) (m ((c.tc : Thread Cert.RnnKernelIdeal.nD Cert.RnnKernelIdeal.τ).loc Cert.RnnKernelIdeal.main_arg3)) (m ((c.tc : Thread Cert.RnnKernelIdeal.nD Cert.RnnKernelIdeal.τ).loc Cert.RnnKernelIdeal.main_arg4)) (m ((c.tc : Thread Cert.RnnKernelIdeal.nD Cert.RnnKernelIdeal.τ).loc Cert.RnnKernelIdeal.main_arg5)) (m ((c.tc : Thread Cert.RnnKernelIdeal.nD Cert.RnnKernelIdeal.τ).loc Cert.RnnKernelIdeal.main_arg6)) (m ((c.tc : Thread Cert.RnnKernelIdeal.nD Cert.RnnKernelIdeal.τ).loc Cert.RnnKernelIdeal.main_arg7)) (m ((c.tc : Thread Cert.RnnKernelIdeal.nD Cert.RnnKernelIdeal.τ).loc Cert.RnnKernelIdeal.main_arg8))) = (fun _ => 1#1)

def Pre_RnnRefIdeal (m : (ℓ : Loc Cert.RnnRefIdeal.nD Cert.RnnRefIdeal.τ Cert.RnnRefIdeal.sig) → Buf (Elt Ideal) ℓ) : Prop :=
  True

def Pre_RnnRefIdeal_rnn_finite [hPre_rnn_finite : Cert.Pre_rnn_finite.Facts] (m : (ℓ : Loc Cert.RnnRefIdeal.nD Cert.RnnRefIdeal.τ Cert.RnnRefIdeal.sig) → Buf (Elt Ideal) ℓ) : Prop :=
  ∀ c : Dev Cert.RnnRefIdeal.nD,
    (Cert.Pre_rnn_finite.fn (F := Ideal) (m ((c.tc : Thread Cert.RnnRefIdeal.nD Cert.RnnRefIdeal.τ).loc Cert.RnnRefIdeal.main_arg0)) (m ((c.tc : Thread Cert.RnnRefIdeal.nD Cert.RnnRefIdeal.τ).loc Cert.RnnRefIdeal.main_arg1)) (m ((c.tc : Thread Cert.RnnRefIdeal.nD Cert.RnnRefIdeal.τ).loc Cert.RnnRefIdeal.main_arg2)) (m ((c.tc : Thread Cert.RnnRefIdeal.nD Cert.RnnRefIdeal.τ).loc Cert.RnnRefIdeal.main_arg3)) (m ((c.tc : Thread Cert.RnnRefIdeal.nD Cert.RnnRefIdeal.τ).loc Cert.RnnRefIdeal.main_arg4)) (m ((c.tc : Thread Cert.RnnRefIdeal.nD Cert.RnnRefIdeal.τ).loc Cert.RnnRefIdeal.main_arg5)) (m ((c.tc : Thread Cert.RnnRefIdeal.nD Cert.RnnRefIdeal.τ).loc Cert.RnnRefIdeal.main_arg6)) (m ((c.tc : Thread Cert.RnnRefIdeal.nD Cert.RnnRefIdeal.τ).loc Cert.RnnRefIdeal.main_arg7)) (m ((c.tc : Thread Cert.RnnRefIdeal.nD Cert.RnnRefIdeal.τ).loc Cert.RnnRefIdeal.main_arg8))) = (fun _ => 1#1)

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_ScanKernel (m : (ℓ : Loc Cert.ScanKernel.nD Cert.ScanKernel.τ Cert.ScanKernel.sig) → Buf (Elt Bits) ℓ) : Prop :=
  True

def Pre_ScanKernelIdeal (m : (ℓ : Loc Cert.ScanKernelIdeal.nD Cert.ScanKernelIdeal.τ Cert.ScanKernelIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_WdownKernel (m : (ℓ : Loc Cert.WdownKernel.nD Cert.WdownKernel.τ Cert.WdownKernel.sig) → Buf (Elt Bits) ℓ) : Prop :=
  True

def Pre_WdownKernelIdeal (m : (ℓ : Loc Cert.WdownKernelIdeal.nD Cert.WdownKernelIdeal.τ Cert.WdownKernelIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def quiescent_PreKernel [hPreKernel : Cert.PreKernel.Facts] : Prop :=
  ∀ (m : (ℓ : Loc Cert.PreKernel.nD Cert.PreKernel.τ Cert.PreKernel.sig) → Buf (Elt Bits) ℓ) (g : Dev Cert.PreKernel.nD → PrngReg), Pre_PreKernel m →
    θ_run (Cert.PreKernel.defs (F := Bits)) (onTc (τ := Cert.PreKernel.τ) (Cert.PreKernel.main (F := Bits))) ⟨m, fun _ => 0, g⟩ (fun r => (∀ c : Dev Cert.PreKernel.nD,
      r.2.mem ((c.tc : Thread Cert.PreKernel.nD Cert.PreKernel.τ).loc Cert.PreKernel.main_arg0) = m ((c.tc : Thread Cert.PreKernel.nD Cert.PreKernel.τ).loc Cert.PreKernel.main_arg0)
      ∧ r.2.mem ((c.tc : Thread Cert.PreKernel.nD Cert.PreKernel.τ).loc Cert.PreKernel.main_arg1) = m ((c.tc : Thread Cert.PreKernel.nD Cert.PreKernel.τ).loc Cert.PreKernel.main_arg1)
      ∧ r.2.mem ((c.tc : Thread Cert.PreKernel.nD Cert.PreKernel.τ).loc Cert.PreKernel.main_arg2) = m ((c.tc : Thread Cert.PreKernel.nD Cert.PreKernel.τ).loc Cert.PreKernel.main_arg2)
      ∧ r.2.mem ((c.tc : Thread Cert.PreKernel.nD Cert.PreKernel.τ).loc Cert.PreKernel.main_arg3) = m ((c.tc : Thread Cert.PreKernel.nD Cert.PreKernel.τ).loc Cert.PreKernel.main_arg3)
      ∧ r.2.mem ((c.tc : Thread Cert.PreKernel.nD Cert.PreKernel.τ).loc Cert.PreKernel.main_arg4) = m ((c.tc : Thread Cert.PreKernel.nD Cert.PreKernel.τ).loc Cert.PreKernel.main_arg4)
      ∧ r.2.mem ((c.tc : Thread Cert.PreKernel.nD Cert.PreKernel.τ).loc Cert.PreKernel.main_arg5) = m ((c.tc : Thread Cert.PreKernel.nD Cert.PreKernel.τ).loc Cert.PreKernel.main_arg5)
      ∧ r.2.mem ((c.tc : Thread Cert.PreKernel.nD Cert.PreKernel.τ).loc Cert.PreKernel.main_arg6) = m ((c.tc : Thread Cert.PreKernel.nD Cert.PreKernel.τ).loc Cert.PreKernel.main_arg6)
      ∧ r.2.mem ((c.tc : Thread Cert.PreKernel.nD Cert.PreKernel.τ).loc Cert.PreKernel.main_arg7) = m ((c.tc : Thread Cert.PreKernel.nD Cert.PreKernel.τ).loc Cert.PreKernel.main_arg7)
      ∧ r.2.mem ((c.tc : Thread Cert.PreKernel.nD Cert.PreKernel.τ).loc Cert.PreKernel.main_arg8) = m ((c.tc : Thread Cert.PreKernel.nD Cert.PreKernel.τ).loc Cert.PreKernel.main_arg8))
      ∧ r.2.sem = fun _ => 0)

def quiescent_PreKernelIdeal [hPreKernelIdeal : Cert.PreKernelIdeal.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8))
      ∧ r.2.sem = fun _ => 0)

def quiescent_PreKernelIdeal_pre_pre_finite [hPreKernelIdeal : Cert.PreKernelIdeal.Facts] [hPre_pre_finite : Cert.Pre_pre_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg), Pre_PreKernelIdeal_pre_finite m →
    θ_run (Cert.PreKernelIdeal.defs (F := Ideal)) (onTc (τ := Cert.PreKernelIdeal.τ) (Cert.PreKernelIdeal.main (F := Ideal))) ⟨m, fun _ => 0, g⟩ (fun r => (∀ c : Dev Cert.PreKernelIdeal.nD,
      r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
      ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
      ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
      ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
      ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
      ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
      ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
      ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
      ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8))
      ∧ r.2.sem = fun _ => 0)

def quiescent_PreRefIdeal_pre_pre_finite [hPreRefIdeal : Cert.PreRefIdeal.Facts] [hPre_pre_finite : Cert.Pre_pre_finite.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_pre_finite m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ r.2.sem = fun _ => 0)

def quiescent_PostKernelIdeal_pre_post_finite [hPostKernelIdeal : Cert.PostKernelIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_post_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_RnnKernel [hRnnKernel : Cert.RnnKernel.Facts] : Prop :=
  ∀ (m : (ℓ : Loc Cert.RnnKernel.nD Cert.RnnKernel.τ Cert.RnnKernel.sig) → Buf (Elt Bits) ℓ) (g : Dev Cert.RnnKernel.nD → PrngReg), Pre_RnnKernel m →
    θ_run (Cert.RnnKernel.defs (F := Bits)) (onTc (τ := Cert.RnnKernel.τ) (Cert.RnnKernel.main (F := Bits))) ⟨m, fun _ => 0, g⟩ (fun r => (∀ c : Dev Cert.RnnKernel.nD,
      r.2.mem ((c.tc : Thread Cert.RnnKernel.nD Cert.RnnKernel.τ).loc Cert.RnnKernel.main_arg0) = m ((c.tc : Thread Cert.RnnKernel.nD Cert.RnnKernel.τ).loc Cert.RnnKernel.main_arg0)
      ∧ r.2.mem ((c.tc : Thread Cert.RnnKernel.nD Cert.RnnKernel.τ).loc Cert.RnnKernel.main_arg1) = m ((c.tc : Thread Cert.RnnKernel.nD Cert.RnnKernel.τ).loc Cert.RnnKernel.main_arg1)
      ∧ r.2.mem ((c.tc : Thread Cert.RnnKernel.nD Cert.RnnKernel.τ).loc Cert.RnnKernel.main_arg2) = m ((c.tc : Thread Cert.RnnKernel.nD Cert.RnnKernel.τ).loc Cert.RnnKernel.main_arg2)
      ∧ r.2.mem ((c.tc : Thread Cert.RnnKernel.nD Cert.RnnKernel.τ).loc Cert.RnnKernel.main_arg3) = m ((c.tc : Thread Cert.RnnKernel.nD Cert.RnnKernel.τ).loc Cert.RnnKernel.main_arg3)
      ∧ r.2.mem ((c.tc : Thread Cert.RnnKernel.nD Cert.RnnKernel.τ).loc Cert.RnnKernel.main_arg4) = m ((c.tc : Thread Cert.RnnKernel.nD Cert.RnnKernel.τ).loc Cert.RnnKernel.main_arg4)
      ∧ r.2.mem ((c.tc : Thread Cert.RnnKernel.nD Cert.RnnKernel.τ).loc Cert.RnnKernel.main_arg5) = m ((c.tc : Thread Cert.RnnKernel.nD Cert.RnnKernel.τ).loc Cert.RnnKernel.main_arg5)
      ∧ r.2.mem ((c.tc : Thread Cert.RnnKernel.nD Cert.RnnKernel.τ).loc Cert.RnnKernel.main_arg6) = m ((c.tc : Thread Cert.RnnKernel.nD Cert.RnnKernel.τ).loc Cert.RnnKernel.main_arg6)
      ∧ r.2.mem ((c.tc : Thread Cert.RnnKernel.nD Cert.RnnKernel.τ).loc Cert.RnnKernel.main_arg7) = m ((c.tc : Thread Cert.RnnKernel.nD Cert.RnnKernel.τ).loc Cert.RnnKernel.main_arg7)
      ∧ r.2.mem ((c.tc : Thread Cert.RnnKernel.nD Cert.RnnKernel.τ).loc Cert.RnnKernel.main_arg8) = m ((c.tc : Thread Cert.RnnKernel.nD Cert.RnnKernel.τ).loc Cert.RnnKernel.main_arg8))
      ∧ r.2.sem = fun _ => 0)

def quiescent_RnnKernelIdeal [hRnnKernelIdeal : Cert.RnnKernelIdeal.Facts] : Prop :=
  ∀ (m : (ℓ : Loc Cert.RnnKernelIdeal.nD Cert.RnnKernelIdeal.τ Cert.RnnKernelIdeal.sig) → Buf (Elt Ideal) ℓ) (g : Dev Cert.RnnKernelIdeal.nD → PrngReg), Pre_RnnKernelIdeal m →
    θ_run (Cert.RnnKernelIdeal.defs (F := Ideal)) (onTc (τ := Cert.RnnKernelIdeal.τ) (Cert.RnnKernelIdeal.main (F := Ideal))) ⟨m, fun _ => 0, g⟩ (fun r => (∀ c : Dev Cert.RnnKernelIdeal.nD,
      r.2.mem ((c.tc : Thread Cert.RnnKernelIdeal.nD Cert.RnnKernelIdeal.τ).loc Cert.RnnKernelIdeal.main_arg0) = m ((c.tc : Thread Cert.RnnKernelIdeal.nD Cert.RnnKernelIdeal.τ).loc Cert.RnnKernelIdeal.main_arg0)
      ∧ r.2.mem ((c.tc : Thread Cert.RnnKernelIdeal.nD Cert.RnnKernelIdeal.τ).loc Cert.RnnKernelIdeal.main_arg1) = m ((c.tc : Thread Cert.RnnKernelIdeal.nD Cert.RnnKernelIdeal.τ).loc Cert.RnnKernelIdeal.main_arg1)
      ∧ r.2.mem ((c.tc : Thread Cert.RnnKernelIdeal.nD Cert.RnnKernelIdeal.τ).loc Cert.RnnKernelIdeal.main_arg2) = m ((c.tc : Thread Cert.RnnKernelIdeal.nD Cert.RnnKernelIdeal.τ).loc Cert.RnnKernelIdeal.main_arg2)
      ∧ r.2.mem ((c.tc : Thread Cert.RnnKernelIdeal.nD Cert.RnnKernelIdeal.τ).loc Cert.RnnKernelIdeal.main_arg3) = m ((c.tc : Thread Cert.RnnKernelIdeal.nD Cert.RnnKernelIdeal.τ).loc Cert.RnnKernelIdeal.main_arg3)
      ∧ r.2.mem ((c.tc : Thread Cert.RnnKernelIdeal.nD Cert.RnnKernelIdeal.τ).loc Cert.RnnKernelIdeal.main_arg4) = m ((c.tc : Thread Cert.RnnKernelIdeal.nD Cert.RnnKernelIdeal.τ).loc Cert.RnnKernelIdeal.main_arg4)
      ∧ r.2.mem ((c.tc : Thread Cert.RnnKernelIdeal.nD Cert.RnnKernelIdeal.τ).loc Cert.RnnKernelIdeal.main_arg5) = m ((c.tc : Thread Cert.RnnKernelIdeal.nD Cert.RnnKernelIdeal.τ).loc Cert.RnnKernelIdeal.main_arg5)
      ∧ r.2.mem ((c.tc : Thread Cert.RnnKernelIdeal.nD Cert.RnnKernelIdeal.τ).loc Cert.RnnKernelIdeal.main_arg6) = m ((c.tc : Thread Cert.RnnKernelIdeal.nD Cert.RnnKernelIdeal.τ).loc Cert.RnnKernelIdeal.main_arg6)
      ∧ r.2.mem ((c.tc : Thread Cert.RnnKernelIdeal.nD Cert.RnnKernelIdeal.τ).loc Cert.RnnKernelIdeal.main_arg7) = m ((c.tc : Thread Cert.RnnKernelIdeal.nD Cert.RnnKernelIdeal.τ).loc Cert.RnnKernelIdeal.main_arg7)
      ∧ r.2.mem ((c.tc : Thread Cert.RnnKernelIdeal.nD Cert.RnnKernelIdeal.τ).loc Cert.RnnKernelIdeal.main_arg8) = m ((c.tc : Thread Cert.RnnKernelIdeal.nD Cert.RnnKernelIdeal.τ).loc Cert.RnnKernelIdeal.main_arg8))
      ∧ r.2.sem = fun _ => 0)

def quiescent_RnnKernelIdeal_pre_rnn_finite [hRnnKernelIdeal : Cert.RnnKernelIdeal.Facts] [hPre_rnn_finite : Cert.Pre_rnn_finite.Facts] : Prop :=
  ∀ (m : (ℓ : Loc Cert.RnnKernelIdeal.nD Cert.RnnKernelIdeal.τ Cert.RnnKernelIdeal.sig) → Buf (Elt Ideal) ℓ) (g : Dev Cert.RnnKernelIdeal.nD → PrngReg), Pre_RnnKernelIdeal_rnn_finite m →
    θ_run (Cert.RnnKernelIdeal.defs (F := Ideal)) (onTc (τ := Cert.RnnKernelIdeal.τ) (Cert.RnnKernelIdeal.main (F := Ideal))) ⟨m, fun _ => 0, g⟩ (fun r => (∀ c : Dev Cert.RnnKernelIdeal.nD,
      r.2.mem ((c.tc : Thread Cert.RnnKernelIdeal.nD Cert.RnnKernelIdeal.τ).loc Cert.RnnKernelIdeal.main_arg0) = m ((c.tc : Thread Cert.RnnKernelIdeal.nD Cert.RnnKernelIdeal.τ).loc Cert.RnnKernelIdeal.main_arg0)
      ∧ r.2.mem ((c.tc : Thread Cert.RnnKernelIdeal.nD Cert.RnnKernelIdeal.τ).loc Cert.RnnKernelIdeal.main_arg1) = m ((c.tc : Thread Cert.RnnKernelIdeal.nD Cert.RnnKernelIdeal.τ).loc Cert.RnnKernelIdeal.main_arg1)
      ∧ r.2.mem ((c.tc : Thread Cert.RnnKernelIdeal.nD Cert.RnnKernelIdeal.τ).loc Cert.RnnKernelIdeal.main_arg2) = m ((c.tc : Thread Cert.RnnKernelIdeal.nD Cert.RnnKernelIdeal.τ).loc Cert.RnnKernelIdeal.main_arg2)
      ∧ r.2.mem ((c.tc : Thread Cert.RnnKernelIdeal.nD Cert.RnnKernelIdeal.τ).loc Cert.RnnKernelIdeal.main_arg3) = m ((c.tc : Thread Cert.RnnKernelIdeal.nD Cert.RnnKernelIdeal.τ).loc Cert.RnnKernelIdeal.main_arg3)
      ∧ r.2.mem ((c.tc : Thread Cert.RnnKernelIdeal.nD Cert.RnnKernelIdeal.τ).loc Cert.RnnKernelIdeal.main_arg4) = m ((c.tc : Thread Cert.RnnKernelIdeal.nD Cert.RnnKernelIdeal.τ).loc Cert.RnnKernelIdeal.main_arg4)
      ∧ r.2.mem ((c.tc : Thread Cert.RnnKernelIdeal.nD Cert.RnnKernelIdeal.τ).loc Cert.RnnKernelIdeal.main_arg5) = m ((c.tc : Thread Cert.RnnKernelIdeal.nD Cert.RnnKernelIdeal.τ).loc Cert.RnnKernelIdeal.main_arg5)
      ∧ r.2.mem ((c.tc : Thread Cert.RnnKernelIdeal.nD Cert.RnnKernelIdeal.τ).loc Cert.RnnKernelIdeal.main_arg6) = m ((c.tc : Thread Cert.RnnKernelIdeal.nD Cert.RnnKernelIdeal.τ).loc Cert.RnnKernelIdeal.main_arg6)
      ∧ r.2.mem ((c.tc : Thread Cert.RnnKernelIdeal.nD Cert.RnnKernelIdeal.τ).loc Cert.RnnKernelIdeal.main_arg7) = m ((c.tc : Thread Cert.RnnKernelIdeal.nD Cert.RnnKernelIdeal.τ).loc Cert.RnnKernelIdeal.main_arg7)
      ∧ r.2.mem ((c.tc : Thread Cert.RnnKernelIdeal.nD Cert.RnnKernelIdeal.τ).loc Cert.RnnKernelIdeal.main_arg8) = m ((c.tc : Thread Cert.RnnKernelIdeal.nD Cert.RnnKernelIdeal.τ).loc Cert.RnnKernelIdeal.main_arg8))
      ∧ r.2.sem = fun _ => 0)

def quiescent_RnnRefIdeal [hRnnRefIdeal : Cert.RnnRefIdeal.Facts] : Prop :=
  ∀ (m : (ℓ : Loc Cert.RnnRefIdeal.nD Cert.RnnRefIdeal.τ Cert.RnnRefIdeal.sig) → Buf (Elt Ideal) ℓ) (g : Dev Cert.RnnRefIdeal.nD → PrngReg), Pre_RnnRefIdeal m →
    θ_run (Cert.RnnRefIdeal.defs (F := Ideal)) (onTc (τ := Cert.RnnRefIdeal.τ) (Cert.RnnRefIdeal.main (F := Ideal))) ⟨m, fun _ => 0, g⟩ (fun r => (∀ c : Dev Cert.RnnRefIdeal.nD,
      r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6)
      ∧ r.2.mem ((c.tc : Thread Cert.RnnRefIdeal.nD Cert.RnnRefIdeal.τ).loc Cert.RnnRefIdeal.main_arg7) = m ((c.tc : Thread Cert.RnnRefIdeal.nD Cert.RnnRefIdeal.τ).loc Cert.RnnRefIdeal.main_arg7)
      ∧ r.2.mem ((c.tc : Thread Cert.RnnRefIdeal.nD Cert.RnnRefIdeal.τ).loc Cert.RnnRefIdeal.main_arg8) = m ((c.tc : Thread Cert.RnnRefIdeal.nD Cert.RnnRefIdeal.τ).loc Cert.RnnRefIdeal.main_arg8))
      ∧ r.2.sem = fun _ => 0)

def quiescent_RnnRefIdeal_pre_rnn_finite [hRnnRefIdeal : Cert.RnnRefIdeal.Facts] [hPre_rnn_finite : Cert.Pre_rnn_finite.Facts] : Prop :=
  ∀ (m : (ℓ : Loc Cert.RnnRefIdeal.nD Cert.RnnRefIdeal.τ Cert.RnnRefIdeal.sig) → Buf (Elt Ideal) ℓ) (g : Dev Cert.RnnRefIdeal.nD → PrngReg), Pre_RnnRefIdeal_rnn_finite m →
    θ_run (Cert.RnnRefIdeal.defs (F := Ideal)) (onTc (τ := Cert.RnnRefIdeal.τ) (Cert.RnnRefIdeal.main (F := Ideal))) ⟨m, fun _ => 0, g⟩ (fun r => (∀ c : Dev Cert.RnnRefIdeal.nD,
      r.2.mem ((c.tc : Thread Cert.RnnRefIdeal.nD Cert.RnnRefIdeal.τ).loc Cert.RnnRefIdeal.main_arg0) = m ((c.tc : Thread Cert.RnnRefIdeal.nD Cert.RnnRefIdeal.τ).loc Cert.RnnRefIdeal.main_arg0)
      ∧ r.2.mem ((c.tc : Thread Cert.RnnRefIdeal.nD Cert.RnnRefIdeal.τ).loc Cert.RnnRefIdeal.main_arg1) = m ((c.tc : Thread Cert.RnnRefIdeal.nD Cert.RnnRefIdeal.τ).loc Cert.RnnRefIdeal.main_arg1)
      ∧ r.2.mem ((c.tc : Thread Cert.RnnRefIdeal.nD Cert.RnnRefIdeal.τ).loc Cert.RnnRefIdeal.main_arg2) = m ((c.tc : Thread Cert.RnnRefIdeal.nD Cert.RnnRefIdeal.τ).loc Cert.RnnRefIdeal.main_arg2)
      ∧ r.2.mem ((c.tc : Thread Cert.RnnRefIdeal.nD Cert.RnnRefIdeal.τ).loc Cert.RnnRefIdeal.main_arg3) = m ((c.tc : Thread Cert.RnnRefIdeal.nD Cert.RnnRefIdeal.τ).loc Cert.RnnRefIdeal.main_arg3)
      ∧ r.2.mem ((c.tc : Thread Cert.RnnRefIdeal.nD Cert.RnnRefIdeal.τ).loc Cert.RnnRefIdeal.main_arg4) = m ((c.tc : Thread Cert.RnnRefIdeal.nD Cert.RnnRefIdeal.τ).loc Cert.RnnRefIdeal.main_arg4)
      ∧ r.2.mem ((c.tc : Thread Cert.RnnRefIdeal.nD Cert.RnnRefIdeal.τ).loc Cert.RnnRefIdeal.main_arg5) = m ((c.tc : Thread Cert.RnnRefIdeal.nD Cert.RnnRefIdeal.τ).loc Cert.RnnRefIdeal.main_arg5)
      ∧ r.2.mem ((c.tc : Thread Cert.RnnRefIdeal.nD Cert.RnnRefIdeal.τ).loc Cert.RnnRefIdeal.main_arg6) = m ((c.tc : Thread Cert.RnnRefIdeal.nD Cert.RnnRefIdeal.τ).loc Cert.RnnRefIdeal.main_arg6)
      ∧ r.2.mem ((c.tc : Thread Cert.RnnRefIdeal.nD Cert.RnnRefIdeal.τ).loc Cert.RnnRefIdeal.main_arg7) = m ((c.tc : Thread Cert.RnnRefIdeal.nD Cert.RnnRefIdeal.τ).loc Cert.RnnRefIdeal.main_arg7)
      ∧ r.2.mem ((c.tc : Thread Cert.RnnRefIdeal.nD Cert.RnnRefIdeal.τ).loc Cert.RnnRefIdeal.main_arg8) = m ((c.tc : Thread Cert.RnnRefIdeal.nD Cert.RnnRefIdeal.τ).loc Cert.RnnRefIdeal.main_arg8))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2)
      ∧ r.2.mem ((c.tc : Thread Cert.AttKernel.nD Cert.AttKernel.τ).loc Cert.AttKernel.main_arg3) = m ((c.tc : Thread Cert.AttKernel.nD Cert.AttKernel.τ).loc Cert.AttKernel.main_arg3))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3)
      ∧ r.2.mem ((c.tc : Thread Cert.MixOutKernel.nD Cert.MixOutKernel.τ).loc Cert.MixOutKernel.main_arg4) = m ((c.tc : Thread Cert.MixOutKernel.nD Cert.MixOutKernel.τ).loc Cert.MixOutKernel.main_arg4)
      ∧ r.2.mem ((c.tc : Thread Cert.MixOutKernel.nD Cert.MixOutKernel.τ).loc Cert.MixOutKernel.main_arg5) = m ((c.tc : Thread Cert.MixOutKernel.nD Cert.MixOutKernel.τ).loc Cert.MixOutKernel.main_arg5))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_ScanKernel [hScanKernel : Cert.ScanKernel.Facts] : Prop :=
  ∀ (m : (ℓ : Loc Cert.ScanKernel.nD Cert.ScanKernel.τ Cert.ScanKernel.sig) → Buf (Elt Bits) ℓ) (g : Dev Cert.ScanKernel.nD → PrngReg), Pre_ScanKernel m →
    θ_run (Cert.ScanKernel.defs (F := Bits)) (onTc (τ := Cert.ScanKernel.τ) (Cert.ScanKernel.main (F := Bits))) ⟨m, fun _ => 0, g⟩ (fun r => (∀ c : Dev Cert.ScanKernel.nD,
      r.2.mem ((c.tc : Thread Cert.ScanKernel.nD Cert.ScanKernel.τ).loc Cert.ScanKernel.main_arg0) = m ((c.tc : Thread Cert.ScanKernel.nD Cert.ScanKernel.τ).loc Cert.ScanKernel.main_arg0)
      ∧ r.2.mem ((c.tc : Thread Cert.ScanKernel.nD Cert.ScanKernel.τ).loc Cert.ScanKernel.main_arg1) = m ((c.tc : Thread Cert.ScanKernel.nD Cert.ScanKernel.τ).loc Cert.ScanKernel.main_arg1)
      ∧ r.2.mem ((c.tc : Thread Cert.ScanKernel.nD Cert.ScanKernel.τ).loc Cert.ScanKernel.main_arg2) = m ((c.tc : Thread Cert.ScanKernel.nD Cert.ScanKernel.τ).loc Cert.ScanKernel.main_arg2)
      ∧ r.2.mem ((c.tc : Thread Cert.ScanKernel.nD Cert.ScanKernel.τ).loc Cert.ScanKernel.main_arg3) = m ((c.tc : Thread Cert.ScanKernel.nD Cert.ScanKernel.τ).loc Cert.ScanKernel.main_arg3)
      ∧ r.2.mem ((c.tc : Thread Cert.ScanKernel.nD Cert.ScanKernel.τ).loc Cert.ScanKernel.main_arg4) = m ((c.tc : Thread Cert.ScanKernel.nD Cert.ScanKernel.τ).loc Cert.ScanKernel.main_arg4)
      ∧ r.2.mem ((c.tc : Thread Cert.ScanKernel.nD Cert.ScanKernel.τ).loc Cert.ScanKernel.main_arg5) = m ((c.tc : Thread Cert.ScanKernel.nD Cert.ScanKernel.τ).loc Cert.ScanKernel.main_arg5)
      ∧ r.2.mem ((c.tc : Thread Cert.ScanKernel.nD Cert.ScanKernel.τ).loc Cert.ScanKernel.main_arg6) = m ((c.tc : Thread Cert.ScanKernel.nD Cert.ScanKernel.τ).loc Cert.ScanKernel.main_arg6)
      ∧ r.2.mem ((c.tc : Thread Cert.ScanKernel.nD Cert.ScanKernel.τ).loc Cert.ScanKernel.main_arg7) = m ((c.tc : Thread Cert.ScanKernel.nD Cert.ScanKernel.τ).loc Cert.ScanKernel.main_arg7))
      ∧ r.2.sem = fun _ => 0)

def quiescent_ScanKernelIdeal [hScanKernelIdeal : Cert.ScanKernelIdeal.Facts] : Prop :=
  ∀ (m : (ℓ : Loc Cert.ScanKernelIdeal.nD Cert.ScanKernelIdeal.τ Cert.ScanKernelIdeal.sig) → Buf (Elt Ideal) ℓ) (g : Dev Cert.ScanKernelIdeal.nD → PrngReg), Pre_ScanKernelIdeal m →
    θ_run (Cert.ScanKernelIdeal.defs (F := Ideal)) (onTc (τ := Cert.ScanKernelIdeal.τ) (Cert.ScanKernelIdeal.main (F := Ideal))) ⟨m, fun _ => 0, g⟩ (fun r => (∀ c : Dev Cert.ScanKernelIdeal.nD,
      r.2.mem ((c.tc : Thread Cert.ScanKernelIdeal.nD Cert.ScanKernelIdeal.τ).loc Cert.ScanKernelIdeal.main_arg0) = m ((c.tc : Thread Cert.ScanKernelIdeal.nD Cert.ScanKernelIdeal.τ).loc Cert.ScanKernelIdeal.main_arg0)
      ∧ r.2.mem ((c.tc : Thread Cert.ScanKernelIdeal.nD Cert.ScanKernelIdeal.τ).loc Cert.ScanKernelIdeal.main_arg1) = m ((c.tc : Thread Cert.ScanKernelIdeal.nD Cert.ScanKernelIdeal.τ).loc Cert.ScanKernelIdeal.main_arg1)
      ∧ r.2.mem ((c.tc : Thread Cert.ScanKernelIdeal.nD Cert.ScanKernelIdeal.τ).loc Cert.ScanKernelIdeal.main_arg2) = m ((c.tc : Thread Cert.ScanKernelIdeal.nD Cert.ScanKernelIdeal.τ).loc Cert.ScanKernelIdeal.main_arg2)
      ∧ r.2.mem ((c.tc : Thread Cert.ScanKernelIdeal.nD Cert.ScanKernelIdeal.τ).loc Cert.ScanKernelIdeal.main_arg3) = m ((c.tc : Thread Cert.ScanKernelIdeal.nD Cert.ScanKernelIdeal.τ).loc Cert.ScanKernelIdeal.main_arg3)
      ∧ r.2.mem ((c.tc : Thread Cert.ScanKernelIdeal.nD Cert.ScanKernelIdeal.τ).loc Cert.ScanKernelIdeal.main_arg4) = m ((c.tc : Thread Cert.ScanKernelIdeal.nD Cert.ScanKernelIdeal.τ).loc Cert.ScanKernelIdeal.main_arg4)
      ∧ r.2.mem ((c.tc : Thread Cert.ScanKernelIdeal.nD Cert.ScanKernelIdeal.τ).loc Cert.ScanKernelIdeal.main_arg5) = m ((c.tc : Thread Cert.ScanKernelIdeal.nD Cert.ScanKernelIdeal.τ).loc Cert.ScanKernelIdeal.main_arg5)
      ∧ r.2.mem ((c.tc : Thread Cert.ScanKernelIdeal.nD Cert.ScanKernelIdeal.τ).loc Cert.ScanKernelIdeal.main_arg6) = m ((c.tc : Thread Cert.ScanKernelIdeal.nD Cert.ScanKernelIdeal.τ).loc Cert.ScanKernelIdeal.main_arg6)
      ∧ r.2.mem ((c.tc : Thread Cert.ScanKernelIdeal.nD Cert.ScanKernelIdeal.τ).loc Cert.ScanKernelIdeal.main_arg7) = m ((c.tc : Thread Cert.ScanKernelIdeal.nD Cert.ScanKernelIdeal.τ).loc Cert.ScanKernelIdeal.main_arg7))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_WdownKernel [hWdownKernel : Cert.WdownKernel.Facts] : Prop :=
  ∀ (m : (ℓ : Loc Cert.WdownKernel.nD Cert.WdownKernel.τ Cert.WdownKernel.sig) → Buf (Elt Bits) ℓ) (g : Dev Cert.WdownKernel.nD → PrngReg), Pre_WdownKernel m →
    θ_run (Cert.WdownKernel.defs (F := Bits)) (onTc (τ := Cert.WdownKernel.τ) (Cert.WdownKernel.main (F := Bits))) ⟨m, fun _ => 0, g⟩ (fun r => (∀ c : Dev Cert.WdownKernel.nD,
      r.2.mem ((c.tc : Thread Cert.WdownKernel.nD Cert.WdownKernel.τ).loc Cert.WdownKernel.main_arg0) = m ((c.tc : Thread Cert.WdownKernel.nD Cert.WdownKernel.τ).loc Cert.WdownKernel.main_arg0)
      ∧ r.2.mem ((c.tc : Thread Cert.WdownKernel.nD Cert.WdownKernel.τ).loc Cert.WdownKernel.main_arg1) = m ((c.tc : Thread Cert.WdownKernel.nD Cert.WdownKernel.τ).loc Cert.WdownKernel.main_arg1))
      ∧ r.2.sem = fun _ => 0)

def quiescent_WdownKernelIdeal [hWdownKernelIdeal : Cert.WdownKernelIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg), Pre_WdownKernelIdeal m →
    θ_run (Cert.WdownKernelIdeal.defs (F := Ideal)) (onTc (τ := Cert.WdownKernelIdeal.τ) (Cert.WdownKernelIdeal.main (F := Ideal))) ⟨m, fun _ => 0, g⟩ (fun r => (∀ c : Dev Cert.WdownKernelIdeal.nD,
      r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
      ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4)
      ∧ r.2.mem ((c.tc : Thread Cert.WinKernel.nD Cert.WinKernel.τ).loc Cert.WinKernel.main_arg5) = m ((c.tc : Thread Cert.WinKernel.nD Cert.WinKernel.τ).loc Cert.WinKernel.main_arg5))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
      ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def preserves_PreKernel_PreKernelIdeal : Prop :=
  True

def algebraic_PreKernelIdeal_PreRefIdeal_pre_pre_finite [hPreKernelIdeal : Cert.PreKernelIdeal.Facts] [hPreRefIdeal : Cert.PreRefIdeal.Facts] [hPre_pre_finite : Cert.Pre_pre_finite.Facts] : Prop :=
  ∀ (m : (ℓ : Loc Cert.PreKernelIdeal.nD Cert.PreKernelIdeal.τ Cert.PreKernelIdeal.sig) → Buf (Elt Ideal) ℓ) (g : Dev Cert.PreKernelIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreKernelIdeal_pre_finite m →
    (∀ c : Dev Cert.PreKernelIdeal.nD,
      m' ((c.tc : Thread Cert.PreRefIdeal.nD Cert.PreRefIdeal.τ).loc Cert.PreRefIdeal.main_arg0) = m ((c.tc : Thread Cert.PreKernelIdeal.nD Cert.PreKernelIdeal.τ).loc Cert.PreKernelIdeal.main_arg0)
      ∧ m' ((c.tc : Thread Cert.PreRefIdeal.nD Cert.PreRefIdeal.τ).loc Cert.PreRefIdeal.main_arg1) = m ((c.tc : Thread Cert.PreKernelIdeal.nD Cert.PreKernelIdeal.τ).loc Cert.PreKernelIdeal.main_arg1)
      ∧ m' ((c.tc : Thread Cert.PreRefIdeal.nD Cert.PreRefIdeal.τ).loc Cert.PreRefIdeal.main_arg2) = m ((c.tc : Thread Cert.PreKernelIdeal.nD Cert.PreKernelIdeal.τ).loc Cert.PreKernelIdeal.main_arg2)
      ∧ m' ((c.tc : Thread Cert.PreRefIdeal.nD Cert.PreRefIdeal.τ).loc Cert.PreRefIdeal.main_arg3) = m ((c.tc : Thread Cert.PreKernelIdeal.nD Cert.PreKernelIdeal.τ).loc Cert.PreKernelIdeal.main_arg3)
      ∧ m' ((c.tc : Thread Cert.PreRefIdeal.nD Cert.PreRefIdeal.τ).loc Cert.PreRefIdeal.main_arg4) = m ((c.tc : Thread Cert.PreKernelIdeal.nD Cert.PreKernelIdeal.τ).loc Cert.PreKernelIdeal.main_arg4)
      ∧ m' ((c.tc : Thread Cert.PreRefIdeal.nD Cert.PreRefIdeal.τ).loc Cert.PreRefIdeal.main_arg5) = m ((c.tc : Thread Cert.PreKernelIdeal.nD Cert.PreKernelIdeal.τ).loc Cert.PreKernelIdeal.main_arg5)
      ∧ m' ((c.tc : Thread Cert.PreRefIdeal.nD Cert.PreRefIdeal.τ).loc Cert.PreRefIdeal.main_arg6) = m ((c.tc : Thread Cert.PreKernelIdeal.nD Cert.PreKernelIdeal.τ).loc Cert.PreKernelIdeal.main_arg6)
      ∧ m' ((c.tc : Thread Cert.PreRefIdeal.nD Cert.PreRefIdeal.τ).loc Cert.PreRefIdeal.main_arg7) = m ((c.tc : Thread Cert.PreKernelIdeal.nD Cert.PreKernelIdeal.τ).loc Cert.PreKernelIdeal.main_arg7)
      ∧ m' ((c.tc : Thread Cert.PreRefIdeal.nD Cert.PreRefIdeal.τ).loc Cert.PreRefIdeal.main_arg8) = m ((c.tc : Thread Cert.PreKernelIdeal.nD Cert.PreKernelIdeal.τ).loc Cert.PreKernelIdeal.main_arg8)) →
    ∃ (v0 : (c : Dev Cert.PreKernelIdeal.nD) → Buf (Elt Ideal) ((c.tc : Thread Cert.PreKernelIdeal.nD Cert.PreKernelIdeal.τ).loc Cert.PreKernelIdeal.main_v9_0)) (v1 : (c : Dev Cert.PreKernelIdeal.nD) → Buf (Elt Ideal) ((c.tc : Thread Cert.PreKernelIdeal.nD Cert.PreKernelIdeal.τ).loc Cert.PreKernelIdeal.main_v9_1)),
      θ_run (Cert.PreKernelIdeal.defs (F := Ideal)) (onTc (τ := Cert.PreKernelIdeal.τ) (Cert.PreKernelIdeal.main (F := Ideal))) ⟨m, fun _ => 0, g⟩ (fun r => ∀ c : Dev Cert.PreKernelIdeal.nD,
          r.2.mem ((c.tc : Thread Cert.PreKernelIdeal.nD Cert.PreKernelIdeal.τ).loc Cert.PreKernelIdeal.main_v9_0) = v0 c
          ∧ r.2.mem ((c.tc : Thread Cert.PreKernelIdeal.nD Cert.PreKernelIdeal.τ).loc Cert.PreKernelIdeal.main_v9_1) = v1 c
          ∧ r.2.mem ((c.tc : Thread Cert.PreKernelIdeal.nD Cert.PreKernelIdeal.τ).loc Cert.PreKernelIdeal.main_arg0) = m ((c.tc : Thread Cert.PreKernelIdeal.nD Cert.PreKernelIdeal.τ).loc Cert.PreKernelIdeal.main_arg0)
          ∧ r.2.mem ((c.tc : Thread Cert.PreKernelIdeal.nD Cert.PreKernelIdeal.τ).loc Cert.PreKernelIdeal.main_arg1) = m ((c.tc : Thread Cert.PreKernelIdeal.nD Cert.PreKernelIdeal.τ).loc Cert.PreKernelIdeal.main_arg1)
          ∧ r.2.mem ((c.tc : Thread Cert.PreKernelIdeal.nD Cert.PreKernelIdeal.τ).loc Cert.PreKernelIdeal.main_arg2) = m ((c.tc : Thread Cert.PreKernelIdeal.nD Cert.PreKernelIdeal.τ).loc Cert.PreKernelIdeal.main_arg2)
          ∧ r.2.mem ((c.tc : Thread Cert.PreKernelIdeal.nD Cert.PreKernelIdeal.τ).loc Cert.PreKernelIdeal.main_arg3) = m ((c.tc : Thread Cert.PreKernelIdeal.nD Cert.PreKernelIdeal.τ).loc Cert.PreKernelIdeal.main_arg3)
          ∧ r.2.mem ((c.tc : Thread Cert.PreKernelIdeal.nD Cert.PreKernelIdeal.τ).loc Cert.PreKernelIdeal.main_arg4) = m ((c.tc : Thread Cert.PreKernelIdeal.nD Cert.PreKernelIdeal.τ).loc Cert.PreKernelIdeal.main_arg4)
          ∧ r.2.mem ((c.tc : Thread Cert.PreKernelIdeal.nD Cert.PreKernelIdeal.τ).loc Cert.PreKernelIdeal.main_arg5) = m ((c.tc : Thread Cert.PreKernelIdeal.nD Cert.PreKernelIdeal.τ).loc Cert.PreKernelIdeal.main_arg5)
          ∧ r.2.mem ((c.tc : Thread Cert.PreKernelIdeal.nD Cert.PreKernelIdeal.τ).loc Cert.PreKernelIdeal.main_arg6) = m ((c.tc : Thread Cert.PreKernelIdeal.nD Cert.PreKernelIdeal.τ).loc Cert.PreKernelIdeal.main_arg6)
          ∧ r.2.mem ((c.tc : Thread Cert.PreKernelIdeal.nD Cert.PreKernelIdeal.τ).loc Cert.PreKernelIdeal.main_arg7) = m ((c.tc : Thread Cert.PreKernelIdeal.nD Cert.PreKernelIdeal.τ).loc Cert.PreKernelIdeal.main_arg7)
          ∧ r.2.mem ((c.tc : Thread Cert.PreKernelIdeal.nD Cert.PreKernelIdeal.τ).loc Cert.PreKernelIdeal.main_arg8) = m ((c.tc : Thread Cert.PreKernelIdeal.nD Cert.PreKernelIdeal.τ).loc Cert.PreKernelIdeal.main_arg8))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v46) = v0 c
          ∧ r.2.mem ((c.tc : Thread Cert.PreRefIdeal.nD Cert.PreRefIdeal.τ).loc Cert.PreRefIdeal.main_v47) = v1 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8))

def preserves_PostKernel_PostKernelIdeal : Prop :=
  True

def algebraic_PostKernelIdeal_PostRefIdeal_pre_post_finite [hPostKernelIdeal : Cert.PostKernelIdeal.Facts] [hPostRefIdeal : Cert.PostRefIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostKernelIdeal_post_finite m →
    (∀ c : Dev Cert.PostKernelIdeal.nD,
      m' ((c.tc : Thread Cert.PostRefIdeal.nD Cert.PostRefIdeal.τ).loc Cert.PostRefIdeal.main_arg0) = m ((c.tc : Thread Cert.PostKernelIdeal.nD Cert.PostKernelIdeal.τ).loc Cert.PostKernelIdeal.main_arg0)
      ∧ m' ((c.tc : Thread Cert.PostRefIdeal.nD Cert.PostRefIdeal.τ).loc Cert.PostRefIdeal.main_arg1) = m ((c.tc : Thread Cert.PostKernelIdeal.nD Cert.PostKernelIdeal.τ).loc Cert.PostKernelIdeal.main_arg1)
      ∧ m' ((c.tc : Thread Cert.PostRefIdeal.nD Cert.PostRefIdeal.τ).loc Cert.PostRefIdeal.main_arg2) = m ((c.tc : Thread Cert.PostKernelIdeal.nD Cert.PostKernelIdeal.τ).loc Cert.PostKernelIdeal.main_arg2)
      ∧ m' ((c.tc : Thread Cert.PostRefIdeal.nD Cert.PostRefIdeal.τ).loc Cert.PostRefIdeal.main_arg3) = m ((c.tc : Thread Cert.PostKernelIdeal.nD Cert.PostKernelIdeal.τ).loc Cert.PostKernelIdeal.main_arg3)
      ∧ m' ((c.tc : Thread Cert.PostRefIdeal.nD Cert.PostRefIdeal.τ).loc Cert.PostRefIdeal.main_arg4) = m ((c.tc : Thread Cert.PostKernelIdeal.nD Cert.PostKernelIdeal.τ).loc Cert.PostKernelIdeal.main_arg4)
      ∧ m' ((c.tc : Thread Cert.PostRefIdeal.nD Cert.PostRefIdeal.τ).loc Cert.PostRefIdeal.main_arg5) = m ((c.tc : Thread Cert.PostKernelIdeal.nD Cert.PostKernelIdeal.τ).loc Cert.PostKernelIdeal.main_arg5)
      ∧ m' ((c.tc : Thread Cert.PostRefIdeal.nD Cert.PostRefIdeal.τ).loc Cert.PostRefIdeal.main_arg6) = m ((c.tc : Thread Cert.PostKernelIdeal.nD Cert.PostKernelIdeal.τ).loc Cert.PostKernelIdeal.main_arg6)) →
    ∃ (v0 : (c : Dev Cert.PostKernelIdeal.nD) → Buf (Elt Ideal) ((c.tc : Thread Cert.PostKernelIdeal.nD Cert.PostKernelIdeal.τ).loc Cert.PostKernelIdeal.main_v2_0)) (v1 : (c : Dev Cert.PostKernelIdeal.nD) → Buf (Elt Ideal) ((c.tc : Thread Cert.PostKernelIdeal.nD Cert.PostKernelIdeal.τ).loc Cert.PostKernelIdeal.main_v2_1)) (v2 : (c : Dev Cert.PostKernelIdeal.nD) → Buf (Elt Ideal) ((c.tc : Thread Cert.PostKernelIdeal.nD Cert.PostKernelIdeal.τ).loc Cert.PostKernelIdeal.main_v2_2)) (v3 : (c : Dev Cert.PostKernelIdeal.nD) → Buf (Elt Ideal) ((c.tc : Thread Cert.PostKernelIdeal.nD Cert.PostKernelIdeal.τ).loc Cert.PostKernelIdeal.main_v2_3)) (v4 : (c : Dev Cert.PostKernelIdeal.nD) → Buf (Elt Ideal) ((c.tc : Thread Cert.PostKernelIdeal.nD Cert.PostKernelIdeal.τ).loc Cert.PostKernelIdeal.main_v2_4)) (v5 : (c : Dev Cert.PostKernelIdeal.nD) → Buf (Elt Ideal) ((c.tc : Thread Cert.PostKernelIdeal.nD Cert.PostKernelIdeal.τ).loc Cert.PostKernelIdeal.main_v2_5)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v2_0) = v0 c
          ∧ r.2.mem ((c.tc : Thread Cert.PostKernelIdeal.nD Cert.PostKernelIdeal.τ).loc Cert.PostKernelIdeal.main_v2_1) = v1 c
          ∧ r.2.mem ((c.tc : Thread Cert.PostKernelIdeal.nD Cert.PostKernelIdeal.τ).loc Cert.PostKernelIdeal.main_v2_2) = v2 c
          ∧ r.2.mem ((c.tc : Thread Cert.PostKernelIdeal.nD Cert.PostKernelIdeal.τ).loc Cert.PostKernelIdeal.main_v2_3) = v3 c
          ∧ r.2.mem ((c.tc : Thread Cert.PostKernelIdeal.nD Cert.PostKernelIdeal.τ).loc Cert.PostKernelIdeal.main_v2_4) = v4 c
          ∧ r.2.mem ((c.tc : Thread Cert.PostKernelIdeal.nD Cert.PostKernelIdeal.τ).loc Cert.PostKernelIdeal.main_v2_5) = v5 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v81) = v0 c
          ∧ r.2.mem ((c.tc : Thread Cert.PostRefIdeal.nD Cert.PostRefIdeal.τ).loc Cert.PostRefIdeal.main_v60) = v1 c
          ∧ r.2.mem ((c.tc : Thread Cert.PostRefIdeal.nD Cert.PostRefIdeal.τ).loc Cert.PostRefIdeal.main_v112) = v2 c
          ∧ r.2.mem ((c.tc : Thread Cert.PostRefIdeal.nD Cert.PostRefIdeal.τ).loc Cert.PostRefIdeal.main_v113) = v3 c
          ∧ r.2.mem ((c.tc : Thread Cert.PostRefIdeal.nD Cert.PostRefIdeal.τ).loc Cert.PostRefIdeal.main_v82) = v4 c
          ∧ r.2.mem ((c.tc : Thread Cert.PostRefIdeal.nD Cert.PostRefIdeal.τ).loc Cert.PostRefIdeal.main_v61) = v5 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_FfnKernel_FfnKernelIdeal : Prop :=
  True

def algebraic_FfnKernelIdeal_FfnRefIdeal_pre_ffn_finite [hFfnKernelIdeal : Cert.FfnKernelIdeal.Facts] [hFfnRefIdeal : Cert.FfnRefIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal_ffn_finite m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)
      ∧ m' ((c.tc : Thread Cert.FfnRefIdeal.nD Cert.FfnRefIdeal.τ).loc Cert.FfnRefIdeal.main_arg3) = m ((c.tc : Thread Cert.FfnKernelIdeal.nD Cert.FfnKernelIdeal.τ).loc Cert.FfnKernelIdeal.main_arg3)
      ∧ m' ((c.tc : Thread Cert.FfnRefIdeal.nD Cert.FfnRefIdeal.τ).loc Cert.FfnRefIdeal.main_arg4) = m ((c.tc : Thread Cert.FfnKernelIdeal.nD Cert.FfnKernelIdeal.τ).loc Cert.FfnKernelIdeal.main_arg4)
      ∧ m' ((c.tc : Thread Cert.FfnRefIdeal.nD Cert.FfnRefIdeal.τ).loc Cert.FfnRefIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v9_0)) (v1 : (c : Dev Cert.FfnKernelIdeal.nD) → Buf (Elt Ideal) ((c.tc : Thread Cert.FfnKernelIdeal.nD Cert.FfnKernelIdeal.τ).loc Cert.FfnKernelIdeal.main_v9_1)) (v2 : (c : Dev Cert.FfnKernelIdeal.nD) → Buf (Elt Ideal) ((c.tc : Thread Cert.FfnKernelIdeal.nD Cert.FfnKernelIdeal.τ).loc Cert.FfnKernelIdeal.main_v9_2)) (v3 : (c : Dev Cert.FfnKernelIdeal.nD) → Buf (Elt Ideal) ((c.tc : Thread Cert.FfnKernelIdeal.nD Cert.FfnKernelIdeal.τ).loc Cert.FfnKernelIdeal.main_v9_3)) (v4 : (c : Dev Cert.FfnKernelIdeal.nD) → Buf (Elt Ideal) ((c.tc : Thread Cert.FfnKernelIdeal.nD Cert.FfnKernelIdeal.τ).loc Cert.FfnKernelIdeal.main_v9_4)) (v5 : (c : Dev Cert.FfnKernelIdeal.nD) → Buf (Elt Ideal) ((c.tc : Thread Cert.FfnKernelIdeal.nD Cert.FfnKernelIdeal.τ).loc Cert.FfnKernelIdeal.main_v8_0)) (v6 : (c : Dev Cert.FfnKernelIdeal.nD) → Buf (Elt Ideal) ((c.tc : Thread Cert.FfnKernelIdeal.nD Cert.FfnKernelIdeal.τ).loc Cert.FfnKernelIdeal.main_v8_1)) (v7 : (c : Dev Cert.FfnKernelIdeal.nD) → Buf (Elt Ideal) ((c.tc : Thread Cert.FfnKernelIdeal.nD Cert.FfnKernelIdeal.τ).loc Cert.FfnKernelIdeal.main_v8_2)) (v8 : (c : Dev Cert.FfnKernelIdeal.nD) → Buf (Elt Ideal) ((c.tc : Thread Cert.FfnKernelIdeal.nD Cert.FfnKernelIdeal.τ).loc Cert.FfnKernelIdeal.main_v8_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9_0) = v0 c
          ∧ r.2.mem ((c.tc : Thread Cert.FfnKernelIdeal.nD Cert.FfnKernelIdeal.τ).loc Cert.FfnKernelIdeal.main_v9_1) = v1 c
          ∧ r.2.mem ((c.tc : Thread Cert.FfnKernelIdeal.nD Cert.FfnKernelIdeal.τ).loc Cert.FfnKernelIdeal.main_v9_2) = v2 c
          ∧ r.2.mem ((c.tc : Thread Cert.FfnKernelIdeal.nD Cert.FfnKernelIdeal.τ).loc Cert.FfnKernelIdeal.main_v9_3) = v3 c
          ∧ r.2.mem ((c.tc : Thread Cert.FfnKernelIdeal.nD Cert.FfnKernelIdeal.τ).loc Cert.FfnKernelIdeal.main_v9_4) = v4 c
          ∧ r.2.mem ((c.tc : Thread Cert.FfnKernelIdeal.nD Cert.FfnKernelIdeal.τ).loc Cert.FfnKernelIdeal.main_v8_0) = v5 c
          ∧ r.2.mem ((c.tc : Thread Cert.FfnKernelIdeal.nD Cert.FfnKernelIdeal.τ).loc Cert.FfnKernelIdeal.main_v8_1) = v6 c
          ∧ r.2.mem ((c.tc : Thread Cert.FfnKernelIdeal.nD Cert.FfnKernelIdeal.τ).loc Cert.FfnKernelIdeal.main_v8_2) = v7 c
          ∧ r.2.mem ((c.tc : Thread Cert.FfnKernelIdeal.nD Cert.FfnKernelIdeal.τ).loc Cert.FfnKernelIdeal.main_v8_3) = v8 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v92) = v1 c
          ∧ r.2.mem ((c.tc : Thread Cert.FfnRefIdeal.nD Cert.FfnRefIdeal.τ).loc Cert.FfnRefIdeal.main_v93) = v2 c
          ∧ r.2.mem ((c.tc : Thread Cert.FfnRefIdeal.nD Cert.FfnRefIdeal.τ).loc Cert.FfnRefIdeal.main_v94) = v3 c
          ∧ r.2.mem ((c.tc : Thread Cert.FfnRefIdeal.nD Cert.FfnRefIdeal.τ).loc Cert.FfnRefIdeal.main_v59) = v4 c
          ∧ r.2.mem ((c.tc : Thread Cert.FfnRefIdeal.nD Cert.FfnRefIdeal.τ).loc Cert.FfnRefIdeal.main_v95) = v5 c
          ∧ r.2.mem ((c.tc : Thread Cert.FfnRefIdeal.nD Cert.FfnRefIdeal.τ).loc Cert.FfnRefIdeal.main_v96) = v6 c
          ∧ r.2.mem ((c.tc : Thread Cert.FfnRefIdeal.nD Cert.FfnRefIdeal.τ).loc Cert.FfnRefIdeal.main_v97) = v7 c
          ∧ r.2.mem ((c.tc : Thread Cert.FfnRefIdeal.nD Cert.FfnRefIdeal.τ).loc Cert.FfnRefIdeal.main_v98) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)
      ∧ m' ((c.tc : Thread Cert.LossRefIdeal.nD Cert.LossRefIdeal.τ).loc Cert.LossRefIdeal.main_arg3) = m ((c.tc : Thread Cert.LossKernelIdeal.nD Cert.LossKernelIdeal.τ).loc Cert.LossKernelIdeal.main_arg3)
      ∧ m' ((c.tc : Thread Cert.LossRefIdeal.nD Cert.LossRefIdeal.τ).loc Cert.LossRefIdeal.main_arg4) = m ((c.tc : Thread Cert.LossKernelIdeal.nD Cert.LossKernelIdeal.τ).loc Cert.LossKernelIdeal.main_arg4)
      ∧ m' ((c.tc : Thread Cert.LossRefIdeal.nD Cert.LossRefIdeal.τ).loc Cert.LossRefIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v8_0)) (v1 : (c : Dev Cert.LossKernelIdeal.nD) → Buf (Elt Ideal) ((c.tc : Thread Cert.LossKernelIdeal.nD Cert.LossKernelIdeal.τ).loc Cert.LossKernelIdeal.main_v8_1)) (v2 : (c : Dev Cert.LossKernelIdeal.nD) → Buf (Elt Ideal) ((c.tc : Thread Cert.LossKernelIdeal.nD Cert.LossKernelIdeal.τ).loc Cert.LossKernelIdeal.main_v8_2)) (v3 : (c : Dev Cert.LossKernelIdeal.nD) → Buf (Elt Ideal) ((c.tc : Thread Cert.LossKernelIdeal.nD Cert.LossKernelIdeal.τ).loc Cert.LossKernelIdeal.main_v8_3)) (v4 : (c : Dev Cert.LossKernelIdeal.nD) → Buf (Elt Ideal) ((c.tc : Thread Cert.LossKernelIdeal.nD Cert.LossKernelIdeal.τ).loc Cert.LossKernelIdeal.main_v8_4)) (v5 : (c : Dev Cert.LossKernelIdeal.nD) → Buf (Elt Ideal) ((c.tc : Thread Cert.LossKernelIdeal.nD Cert.LossKernelIdeal.τ).loc Cert.LossKernelIdeal.main_v8_5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v8_0) = v0 c
          ∧ r.2.mem ((c.tc : Thread Cert.LossKernelIdeal.nD Cert.LossKernelIdeal.τ).loc Cert.LossKernelIdeal.main_v8_1) = v1 c
          ∧ r.2.mem ((c.tc : Thread Cert.LossKernelIdeal.nD Cert.LossKernelIdeal.τ).loc Cert.LossKernelIdeal.main_v8_2) = v2 c
          ∧ r.2.mem ((c.tc : Thread Cert.LossKernelIdeal.nD Cert.LossKernelIdeal.τ).loc Cert.LossKernelIdeal.main_v8_3) = v3 c
          ∧ r.2.mem ((c.tc : Thread Cert.LossKernelIdeal.nD Cert.LossKernelIdeal.τ).loc Cert.LossKernelIdeal.main_v8_4) = v4 c
          ∧ r.2.mem ((c.tc : Thread Cert.LossKernelIdeal.nD Cert.LossKernelIdeal.τ).loc Cert.LossKernelIdeal.main_v8_5) = v5 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v43) = v0 c
          ∧ r.2.mem ((c.tc : Thread Cert.LossRefIdeal.nD Cert.LossRefIdeal.τ).loc Cert.LossRefIdeal.main_v44) = v1 c
          ∧ r.2.mem ((c.tc : Thread Cert.LossRefIdeal.nD Cert.LossRefIdeal.τ).loc Cert.LossRefIdeal.main_v45) = v2 c
          ∧ r.2.mem ((c.tc : Thread Cert.LossRefIdeal.nD Cert.LossRefIdeal.τ).loc Cert.LossRefIdeal.main_v46) = v3 c
          ∧ r.2.mem ((c.tc : Thread Cert.LossRefIdeal.nD Cert.LossRefIdeal.τ).loc Cert.LossRefIdeal.main_v49) = v4 c
          ∧ r.2.mem ((c.tc : Thread Cert.LossRefIdeal.nD Cert.LossRefIdeal.τ).loc Cert.LossRefIdeal.main_v50) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_RnnKernel_RnnKernelIdeal : Prop :=
  IdealRules.named_const.Statement Cert.RnnKernelIdeal.κ "k1" .f32 0x3D372713#32 ((8943 / 200000 : ℝ) : EReal)
  ∧ IdealRules.named_const.Statement Cert.RnnKernelIdeal.κ "k1_thrice" .f32 0x3E095D4F#32 ((26829 / 200000 : ℝ) : EReal)

def algebraic_RnnKernelIdeal_RnnRefIdeal_pre_rnn_finite [hRnnKernelIdeal : Cert.RnnKernelIdeal.Facts] [hRnnRefIdeal : Cert.RnnRefIdeal.Facts] [hPre_rnn_finite : Cert.Pre_rnn_finite.Facts] : Prop :=
  ∀ (m : (ℓ : Loc Cert.RnnKernelIdeal.nD Cert.RnnKernelIdeal.τ Cert.RnnKernelIdeal.sig) → Buf (Elt Ideal) ℓ) (g : Dev Cert.RnnKernelIdeal.nD → PrngReg)
    (m' : (ℓ : Loc Cert.RnnRefIdeal.nD Cert.RnnRefIdeal.τ Cert.RnnRefIdeal.sig) → Buf (Elt Ideal) ℓ) (g' : Dev Cert.RnnRefIdeal.nD → PrngReg), Pre_RnnKernelIdeal_rnn_finite m →
    (∀ c : Dev Cert.RnnKernelIdeal.nD,
      m' ((c.tc : Thread Cert.RnnRefIdeal.nD Cert.RnnRefIdeal.τ).loc Cert.RnnRefIdeal.main_arg0) = m ((c.tc : Thread Cert.RnnKernelIdeal.nD Cert.RnnKernelIdeal.τ).loc Cert.RnnKernelIdeal.main_arg0)
      ∧ m' ((c.tc : Thread Cert.RnnRefIdeal.nD Cert.RnnRefIdeal.τ).loc Cert.RnnRefIdeal.main_arg1) = m ((c.tc : Thread Cert.RnnKernelIdeal.nD Cert.RnnKernelIdeal.τ).loc Cert.RnnKernelIdeal.main_arg1)
      ∧ m' ((c.tc : Thread Cert.RnnRefIdeal.nD Cert.RnnRefIdeal.τ).loc Cert.RnnRefIdeal.main_arg2) = m ((c.tc : Thread Cert.RnnKernelIdeal.nD Cert.RnnKernelIdeal.τ).loc Cert.RnnKernelIdeal.main_arg2)
      ∧ m' ((c.tc : Thread Cert.RnnRefIdeal.nD Cert.RnnRefIdeal.τ).loc Cert.RnnRefIdeal.main_arg3) = m ((c.tc : Thread Cert.RnnKernelIdeal.nD Cert.RnnKernelIdeal.τ).loc Cert.RnnKernelIdeal.main_arg3)
      ∧ m' ((c.tc : Thread Cert.RnnRefIdeal.nD Cert.RnnRefIdeal.τ).loc Cert.RnnRefIdeal.main_arg4) = m ((c.tc : Thread Cert.RnnKernelIdeal.nD Cert.RnnKernelIdeal.τ).loc Cert.RnnKernelIdeal.main_arg4)
      ∧ m' ((c.tc : Thread Cert.RnnRefIdeal.nD Cert.RnnRefIdeal.τ).loc Cert.RnnRefIdeal.main_arg5) = m ((c.tc : Thread Cert.RnnKernelIdeal.nD Cert.RnnKernelIdeal.τ).loc Cert.RnnKernelIdeal.main_arg5)
      ∧ m' ((c.tc : Thread Cert.RnnRefIdeal.nD Cert.RnnRefIdeal.τ).loc Cert.RnnRefIdeal.main_arg6) = m ((c.tc : Thread Cert.RnnKernelIdeal.nD Cert.RnnKernelIdeal.τ).loc Cert.RnnKernelIdeal.main_arg6)
      ∧ m' ((c.tc : Thread Cert.RnnRefIdeal.nD Cert.RnnRefIdeal.τ).loc Cert.RnnRefIdeal.main_arg7) = m ((c.tc : Thread Cert.RnnKernelIdeal.nD Cert.RnnKernelIdeal.τ).loc Cert.RnnKernelIdeal.main_arg7)
      ∧ m' ((c.tc : Thread Cert.RnnRefIdeal.nD Cert.RnnRefIdeal.τ).loc Cert.RnnRefIdeal.main_arg8) = m ((c.tc : Thread Cert.RnnKernelIdeal.nD Cert.RnnKernelIdeal.τ).loc Cert.RnnKernelIdeal.main_arg8)) →
    ∃ (v0 : (c : Dev Cert.RnnKernelIdeal.nD) → Buf (Elt Ideal) ((c.tc : Thread Cert.RnnKernelIdeal.nD Cert.RnnKernelIdeal.τ).loc Cert.RnnKernelIdeal.main_v431_1)),
      θ_run (Cert.RnnKernelIdeal.defs (F := Ideal)) (onTc (τ := Cert.RnnKernelIdeal.τ) (Cert.RnnKernelIdeal.main (F := Ideal))) ⟨m, fun _ => 0, g⟩ (fun r => ∀ c : Dev Cert.RnnKernelIdeal.nD,
          r.2.mem ((c.tc : Thread Cert.RnnKernelIdeal.nD Cert.RnnKernelIdeal.τ).loc Cert.RnnKernelIdeal.main_v431_1) = v0 c
          ∧ r.2.mem ((c.tc : Thread Cert.RnnKernelIdeal.nD Cert.RnnKernelIdeal.τ).loc Cert.RnnKernelIdeal.main_arg0) = m ((c.tc : Thread Cert.RnnKernelIdeal.nD Cert.RnnKernelIdeal.τ).loc Cert.RnnKernelIdeal.main_arg0)
          ∧ r.2.mem ((c.tc : Thread Cert.RnnKernelIdeal.nD Cert.RnnKernelIdeal.τ).loc Cert.RnnKernelIdeal.main_arg1) = m ((c.tc : Thread Cert.RnnKernelIdeal.nD Cert.RnnKernelIdeal.τ).loc Cert.RnnKernelIdeal.main_arg1)
          ∧ r.2.mem ((c.tc : Thread Cert.RnnKernelIdeal.nD Cert.RnnKernelIdeal.τ).loc Cert.RnnKernelIdeal.main_arg2) = m ((c.tc : Thread Cert.RnnKernelIdeal.nD Cert.RnnKernelIdeal.τ).loc Cert.RnnKernelIdeal.main_arg2)
          ∧ r.2.mem ((c.tc : Thread Cert.RnnKernelIdeal.nD Cert.RnnKernelIdeal.τ).loc Cert.RnnKernelIdeal.main_arg3) = m ((c.tc : Thread Cert.RnnKernelIdeal.nD Cert.RnnKernelIdeal.τ).loc Cert.RnnKernelIdeal.main_arg3)
          ∧ r.2.mem ((c.tc : Thread Cert.RnnKernelIdeal.nD Cert.RnnKernelIdeal.τ).loc Cert.RnnKernelIdeal.main_arg4) = m ((c.tc : Thread Cert.RnnKernelIdeal.nD Cert.RnnKernelIdeal.τ).loc Cert.RnnKernelIdeal.main_arg4)
          ∧ r.2.mem ((c.tc : Thread Cert.RnnKernelIdeal.nD Cert.RnnKernelIdeal.τ).loc Cert.RnnKernelIdeal.main_arg5) = m ((c.tc : Thread Cert.RnnKernelIdeal.nD Cert.RnnKernelIdeal.τ).loc Cert.RnnKernelIdeal.main_arg5)
          ∧ r.2.mem ((c.tc : Thread Cert.RnnKernelIdeal.nD Cert.RnnKernelIdeal.τ).loc Cert.RnnKernelIdeal.main_arg6) = m ((c.tc : Thread Cert.RnnKernelIdeal.nD Cert.RnnKernelIdeal.τ).loc Cert.RnnKernelIdeal.main_arg6)
          ∧ r.2.mem ((c.tc : Thread Cert.RnnKernelIdeal.nD Cert.RnnKernelIdeal.τ).loc Cert.RnnKernelIdeal.main_arg7) = m ((c.tc : Thread Cert.RnnKernelIdeal.nD Cert.RnnKernelIdeal.τ).loc Cert.RnnKernelIdeal.main_arg7)
          ∧ r.2.mem ((c.tc : Thread Cert.RnnKernelIdeal.nD Cert.RnnKernelIdeal.τ).loc Cert.RnnKernelIdeal.main_arg8) = m ((c.tc : Thread Cert.RnnKernelIdeal.nD Cert.RnnKernelIdeal.τ).loc Cert.RnnKernelIdeal.main_arg8))
      ∧ θ_run (Cert.RnnRefIdeal.defs (F := Ideal)) (onTc (τ := Cert.RnnRefIdeal.τ) (Cert.RnnRefIdeal.main (F := Ideal))) ⟨m', fun _ => 0, g'⟩ (fun r => ∀ c : Dev Cert.RnnRefIdeal.nD,
          r.2.mem ((c.tc : Thread Cert.RnnRefIdeal.nD Cert.RnnRefIdeal.τ).loc Cert.RnnRefIdeal.main_v475) = v0 c
          ∧ r.2.mem ((c.tc : Thread Cert.RnnRefIdeal.nD Cert.RnnRefIdeal.τ).loc Cert.RnnRefIdeal.main_arg0) = m' ((c.tc : Thread Cert.RnnRefIdeal.nD Cert.RnnRefIdeal.τ).loc Cert.RnnRefIdeal.main_arg0)
          ∧ r.2.mem ((c.tc : Thread Cert.RnnRefIdeal.nD Cert.RnnRefIdeal.τ).loc Cert.RnnRefIdeal.main_arg1) = m' ((c.tc : Thread Cert.RnnRefIdeal.nD Cert.RnnRefIdeal.τ).loc Cert.RnnRefIdeal.main_arg1)
          ∧ r.2.mem ((c.tc : Thread Cert.RnnRefIdeal.nD Cert.RnnRefIdeal.τ).loc Cert.RnnRefIdeal.main_arg2) = m' ((c.tc : Thread Cert.RnnRefIdeal.nD Cert.RnnRefIdeal.τ).loc Cert.RnnRefIdeal.main_arg2)
          ∧ r.2.mem ((c.tc : Thread Cert.RnnRefIdeal.nD Cert.RnnRefIdeal.τ).loc Cert.RnnRefIdeal.main_arg3) = m' ((c.tc : Thread Cert.RnnRefIdeal.nD Cert.RnnRefIdeal.τ).loc Cert.RnnRefIdeal.main_arg3)
          ∧ r.2.mem ((c.tc : Thread Cert.RnnRefIdeal.nD Cert.RnnRefIdeal.τ).loc Cert.RnnRefIdeal.main_arg4) = m' ((c.tc : Thread Cert.RnnRefIdeal.nD Cert.RnnRefIdeal.τ).loc Cert.RnnRefIdeal.main_arg4)
          ∧ r.2.mem ((c.tc : Thread Cert.RnnRefIdeal.nD Cert.RnnRefIdeal.τ).loc Cert.RnnRefIdeal.main_arg5) = m' ((c.tc : Thread Cert.RnnRefIdeal.nD Cert.RnnRefIdeal.τ).loc Cert.RnnRefIdeal.main_arg5)
          ∧ r.2.mem ((c.tc : Thread Cert.RnnRefIdeal.nD Cert.RnnRefIdeal.τ).loc Cert.RnnRefIdeal.main_arg6) = m' ((c.tc : Thread Cert.RnnRefIdeal.nD Cert.RnnRefIdeal.τ).loc Cert.RnnRefIdeal.main_arg6)
          ∧ r.2.mem ((c.tc : Thread Cert.RnnRefIdeal.nD Cert.RnnRefIdeal.τ).loc Cert.RnnRefIdeal.main_arg7) = m' ((c.tc : Thread Cert.RnnRefIdeal.nD Cert.RnnRefIdeal.τ).loc Cert.RnnRefIdeal.main_arg7)
          ∧ r.2.mem ((c.tc : Thread Cert.RnnRefIdeal.nD Cert.RnnRefIdeal.τ).loc Cert.RnnRefIdeal.main_arg8) = m' ((c.tc : Thread Cert.RnnRefIdeal.nD Cert.RnnRefIdeal.τ).loc Cert.RnnRefIdeal.main_arg8))

def preserves_AttKernel_AttKernelIdeal : Prop :=
  IdealRules.named_const.Statement Cert.AttKernelIdeal.κ "exit" .f32 0xC2D20000#32 ⊥

def preserves_MixInKernel_MixInKernelIdeal : Prop :=
  True

def algebraic_MixInKernelIdeal_MixInRefIdeal [hMixInKernelIdeal : Cert.MixInKernelIdeal.Facts] [hMixInRefIdeal : Cert.MixInRefIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInKernelIdeal m →
    (∀ c : Dev Cert.MixInKernelIdeal.nD,
      m' ((c.tc : Thread Cert.MixInRefIdeal.nD Cert.MixInRefIdeal.τ).loc Cert.MixInRefIdeal.main_arg0) = m ((c.tc : Thread Cert.MixInKernelIdeal.nD Cert.MixInKernelIdeal.τ).loc Cert.MixInKernelIdeal.main_arg0)
      ∧ m' ((c.tc : Thread Cert.MixInRefIdeal.nD Cert.MixInRefIdeal.τ).loc Cert.MixInRefIdeal.main_arg1) = m ((c.tc : Thread Cert.MixInKernelIdeal.nD Cert.MixInKernelIdeal.τ).loc Cert.MixInKernelIdeal.main_arg1)
      ∧ m' ((c.tc : Thread Cert.MixInRefIdeal.nD Cert.MixInRefIdeal.τ).loc Cert.MixInRefIdeal.main_arg2) = m ((c.tc : Thread Cert.MixInKernelIdeal.nD Cert.MixInKernelIdeal.τ).loc Cert.MixInKernelIdeal.main_arg2)) →
    ∃ (v0 : (c : Dev Cert.MixInKernelIdeal.nD) → Buf (Elt Ideal) ((c.tc : Thread Cert.MixInKernelIdeal.nD Cert.MixInKernelIdeal.τ).loc Cert.MixInKernelIdeal.main_v4_0)) (v1 : (c : Dev Cert.MixInKernelIdeal.nD) → Buf (Elt Ideal) ((c.tc : Thread Cert.MixInKernelIdeal.nD Cert.MixInKernelIdeal.τ).loc Cert.MixInKernelIdeal.main_v4_1)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v4_0) = v0 c
          ∧ r.2.mem ((c.tc : Thread Cert.MixInKernelIdeal.nD Cert.MixInKernelIdeal.τ).loc Cert.MixInKernelIdeal.main_v4_1) = v1 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v15) = v0 c
          ∧ r.2.mem ((c.tc : Thread Cert.MixInRefIdeal.nD Cert.MixInRefIdeal.τ).loc Cert.MixInRefIdeal.main_v16) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOutKernel_MixOutKernelIdeal : Prop :=
  True

def algebraic_MixOutKernelIdeal_MixOutRefIdeal [hMixOutKernelIdeal : Cert.MixOutKernelIdeal.Facts] [hMixOutRefIdeal : Cert.MixOutRefIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutKernelIdeal m →
    (∀ c : Dev Cert.MixOutKernelIdeal.nD,
      m' ((c.tc : Thread Cert.MixOutRefIdeal.nD Cert.MixOutRefIdeal.τ).loc Cert.MixOutRefIdeal.main_arg0) = m ((c.tc : Thread Cert.MixOutKernelIdeal.nD Cert.MixOutKernelIdeal.τ).loc Cert.MixOutKernelIdeal.main_arg0)
      ∧ m' ((c.tc : Thread Cert.MixOutRefIdeal.nD Cert.MixOutRefIdeal.τ).loc Cert.MixOutRefIdeal.main_arg1) = m ((c.tc : Thread Cert.MixOutKernelIdeal.nD Cert.MixOutKernelIdeal.τ).loc Cert.MixOutKernelIdeal.main_arg1)
      ∧ m' ((c.tc : Thread Cert.MixOutRefIdeal.nD Cert.MixOutRefIdeal.τ).loc Cert.MixOutRefIdeal.main_arg2) = m ((c.tc : Thread Cert.MixOutKernelIdeal.nD Cert.MixOutKernelIdeal.τ).loc Cert.MixOutKernelIdeal.main_arg2)
      ∧ m' ((c.tc : Thread Cert.MixOutRefIdeal.nD Cert.MixOutRefIdeal.τ).loc Cert.MixOutRefIdeal.main_arg3) = m ((c.tc : Thread Cert.MixOutKernelIdeal.nD Cert.MixOutKernelIdeal.τ).loc Cert.MixOutKernelIdeal.main_arg3)
      ∧ m' ((c.tc : Thread Cert.MixOutRefIdeal.nD Cert.MixOutRefIdeal.τ).loc Cert.MixOutRefIdeal.main_arg4) = m ((c.tc : Thread Cert.MixOutKernelIdeal.nD Cert.MixOutKernelIdeal.τ).loc Cert.MixOutKernelIdeal.main_arg4)
      ∧ m' ((c.tc : Thread Cert.MixOutRefIdeal.nD Cert.MixOutRefIdeal.τ).loc Cert.MixOutRefIdeal.main_arg5) = m ((c.tc : Thread Cert.MixOutKernelIdeal.nD Cert.MixOutKernelIdeal.τ).loc Cert.MixOutKernelIdeal.main_arg5)) →
    ∃ (v0 : (c : Dev Cert.MixOutKernelIdeal.nD) → Buf (Elt Ideal) ((c.tc : Thread Cert.MixOutKernelIdeal.nD Cert.MixOutKernelIdeal.τ).loc Cert.MixOutKernelIdeal.main_v2)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v2) = v0 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
          ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
          ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v31) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_SbKernel_SbKernelIdeal : Prop :=
  IdealRules.named_const.Statement Cert.SbKernelIdeal.κ "exit" .f32 0xC2D20000#32 ⊥

def algebraic_SbKernelIdeal_SbRefIdeal_pre_sb_finite [hSbKernelIdeal : Cert.SbKernelIdeal.Facts] [hSbRefIdeal : Cert.SbRefIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbKernelIdeal_sb_finite m →
    (∀ c : Dev Cert.SbKernelIdeal.nD,
      m' ((c.tc : Thread Cert.SbRefIdeal.nD Cert.SbRefIdeal.τ).loc Cert.SbRefIdeal.main_arg0) = m ((c.tc : Thread Cert.SbKernelIdeal.nD Cert.SbKernelIdeal.τ).loc Cert.SbKernelIdeal.main_arg0)
      ∧ m' ((c.tc : Thread Cert.SbRefIdeal.nD Cert.SbRefIdeal.τ).loc Cert.SbRefIdeal.main_arg1) = m ((c.tc : Thread Cert.SbKernelIdeal.nD Cert.SbKernelIdeal.τ).loc Cert.SbKernelIdeal.main_arg1)
      ∧ m' ((c.tc : Thread Cert.SbRefIdeal.nD Cert.SbRefIdeal.τ).loc Cert.SbRefIdeal.main_arg2) = m ((c.tc : Thread Cert.SbKernelIdeal.nD Cert.SbKernelIdeal.τ).loc Cert.SbKernelIdeal.main_arg2)) →
    ∃ (v0 : (c : Dev Cert.SbKernelIdeal.nD) → Buf (Elt Ideal) ((c.tc : Thread Cert.SbKernelIdeal.nD Cert.SbKernelIdeal.τ).loc Cert.SbKernelIdeal.main_v6)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v6) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v58) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_ScanKernel_ScanKernelIdeal : Prop :=
  IdealRules.named_const.Statement Cert.ScanKernelIdeal.κ "k1" .f32 0x3D372713#32 ((8943 / 200000 : ℝ) : EReal)

def preserves_AdamKernel_AdamKernelIdeal : Prop :=
  True

def algebraic_AdamKernelIdeal_AdamRefIdeal [hAdamKernelIdeal : Cert.AdamKernelIdeal.Facts] [hAdamRefIdeal : Cert.AdamRefIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamKernelIdeal m →
    (∀ c : Dev Cert.AdamKernelIdeal.nD,
      m' ((c.tc : Thread Cert.AdamRefIdeal.nD Cert.AdamRefIdeal.τ).loc Cert.AdamRefIdeal.main_arg0) = m ((c.tc : Thread Cert.AdamKernelIdeal.nD Cert.AdamKernelIdeal.τ).loc Cert.AdamKernelIdeal.main_arg0)
      ∧ m' ((c.tc : Thread Cert.AdamRefIdeal.nD Cert.AdamRefIdeal.τ).loc Cert.AdamRefIdeal.main_arg1) = m ((c.tc : Thread Cert.AdamKernelIdeal.nD Cert.AdamKernelIdeal.τ).loc Cert.AdamKernelIdeal.main_arg1)
      ∧ m' ((c.tc : Thread Cert.AdamRefIdeal.nD Cert.AdamRefIdeal.τ).loc Cert.AdamRefIdeal.main_arg2) = m ((c.tc : Thread Cert.AdamKernelIdeal.nD Cert.AdamKernelIdeal.τ).loc Cert.AdamKernelIdeal.main_arg2)
      ∧ m' ((c.tc : Thread Cert.AdamRefIdeal.nD Cert.AdamRefIdeal.τ).loc Cert.AdamRefIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v3_1)) (v1 : (c : Dev Cert.AdamKernelIdeal.nD) → Buf (Elt Ideal) ((c.tc : Thread Cert.AdamKernelIdeal.nD Cert.AdamKernelIdeal.τ).loc Cert.AdamKernelIdeal.main_v3_2)) (v2 : (c : Dev Cert.AdamKernelIdeal.nD) → Buf (Elt Ideal) ((c.tc : Thread Cert.AdamKernelIdeal.nD Cert.AdamKernelIdeal.τ).loc Cert.AdamKernelIdeal.main_v3_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v3_1) = v0 c
          ∧ r.2.mem ((c.tc : Thread Cert.AdamKernelIdeal.nD Cert.AdamKernelIdeal.τ).loc Cert.AdamKernelIdeal.main_v3_2) = v1 c
          ∧ r.2.mem ((c.tc : Thread Cert.AdamKernelIdeal.nD Cert.AdamKernelIdeal.τ).loc Cert.AdamKernelIdeal.main_v3_3) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v26) = v0 c
          ∧ r.2.mem ((c.tc : Thread Cert.AdamRefIdeal.nD Cert.AdamRefIdeal.τ).loc Cert.AdamRefIdeal.main_v5) = v1 c
          ∧ r.2.mem ((c.tc : Thread Cert.AdamRefIdeal.nD Cert.AdamRefIdeal.τ).loc Cert.AdamRefIdeal.main_v12) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_DownKernel_DownKernelIdeal : Prop :=
  True

def algebraic_DownKernelIdeal_DownRefIdeal [hDownKernelIdeal : Cert.DownKernelIdeal.Facts] [hDownRefIdeal : Cert.DownRefIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownKernelIdeal m →
    (∀ c : Dev Cert.DownKernelIdeal.nD,
      m' ((c.tc : Thread Cert.DownRefIdeal.nD Cert.DownRefIdeal.τ).loc Cert.DownRefIdeal.main_arg0) = m ((c.tc : Thread Cert.DownKernelIdeal.nD Cert.DownKernelIdeal.τ).loc Cert.DownKernelIdeal.main_arg0)
      ∧ m' ((c.tc : Thread Cert.DownRefIdeal.nD Cert.DownRefIdeal.τ).loc Cert.DownRefIdeal.main_arg1) = m ((c.tc : Thread Cert.DownKernelIdeal.nD Cert.DownKernelIdeal.τ).loc Cert.DownKernelIdeal.main_arg1)
      ∧ m' ((c.tc : Thread Cert.DownRefIdeal.nD Cert.DownRefIdeal.τ).loc Cert.DownRefIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_WdownKernel_WdownKernelIdeal : Prop :=
  True

def algebraic_WdownKernelIdeal_WdownRefIdeal [hWdownKernelIdeal : Cert.WdownKernelIdeal.Facts] [hWdownRefIdeal : Cert.WdownRefIdeal.Facts] : Prop :=
  ∀ (m : (ℓ : Loc Cert.WdownKernelIdeal.nD Cert.WdownKernelIdeal.τ Cert.WdownKernelIdeal.sig) → Buf (Elt Ideal) ℓ) (g : Dev Cert.WdownKernelIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownKernelIdeal m →
    (∀ c : Dev Cert.WdownKernelIdeal.nD,
      m' ((c.tc : Thread Cert.WdownRefIdeal.nD Cert.WdownRefIdeal.τ).loc Cert.WdownRefIdeal.main_arg0) = m ((c.tc : Thread Cert.WdownKernelIdeal.nD Cert.WdownKernelIdeal.τ).loc Cert.WdownKernelIdeal.main_arg0)
      ∧ m' ((c.tc : Thread Cert.WdownRefIdeal.nD Cert.WdownRefIdeal.τ).loc Cert.WdownRefIdeal.main_arg1) = m ((c.tc : Thread Cert.WdownKernelIdeal.nD Cert.WdownKernelIdeal.τ).loc Cert.WdownKernelIdeal.main_arg1)) →
    ∃ (v0 : (c : Dev Cert.WdownKernelIdeal.nD) → Buf (Elt Ideal) ((c.tc : Thread Cert.WdownKernelIdeal.nD Cert.WdownKernelIdeal.τ).loc Cert.WdownKernelIdeal.main_v1)),
      θ_run (Cert.WdownKernelIdeal.defs (F := Ideal)) (onTc (τ := Cert.WdownKernelIdeal.τ) (Cert.WdownKernelIdeal.main (F := Ideal))) ⟨m, fun _ => 0, g⟩ (fun r => ∀ c : Dev Cert.WdownKernelIdeal.nD,
          r.2.mem ((c.tc : Thread Cert.WdownKernelIdeal.nD Cert.WdownKernelIdeal.τ).loc Cert.WdownKernelIdeal.main_v1) = v0 c
          ∧ r.2.mem ((c.tc : Thread Cert.WdownKernelIdeal.nD Cert.WdownKernelIdeal.τ).loc Cert.WdownKernelIdeal.main_arg0) = m ((c.tc : Thread Cert.WdownKernelIdeal.nD Cert.WdownKernelIdeal.τ).loc Cert.WdownKernelIdeal.main_arg0)
          ∧ r.2.mem ((c.tc : Thread Cert.WdownKernelIdeal.nD Cert.WdownKernelIdeal.τ).loc Cert.WdownKernelIdeal.main_arg1) = m ((c.tc : Thread Cert.WdownKernelIdeal.nD Cert.WdownKernelIdeal.τ).loc Cert.WdownKernelIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v10) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_WinKernel_WinKernelIdeal : Prop :=
  True

def algebraic_WinKernelIdeal_WinRefIdeal [hWinKernelIdeal : Cert.WinKernelIdeal.Facts] [hWinRefIdeal : Cert.WinRefIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinKernelIdeal m →
    (∀ c : Dev Cert.WinKernelIdeal.nD,
      m' ((c.tc : Thread Cert.WinRefIdeal.nD Cert.WinRefIdeal.τ).loc Cert.WinRefIdeal.main_arg0) = m ((c.tc : Thread Cert.WinKernelIdeal.nD Cert.WinKernelIdeal.τ).loc Cert.WinKernelIdeal.main_arg0)
      ∧ m' ((c.tc : Thread Cert.WinRefIdeal.nD Cert.WinRefIdeal.τ).loc Cert.WinRefIdeal.main_arg1) = m ((c.tc : Thread Cert.WinKernelIdeal.nD Cert.WinKernelIdeal.τ).loc Cert.WinKernelIdeal.main_arg1)
      ∧ m' ((c.tc : Thread Cert.WinRefIdeal.nD Cert.WinRefIdeal.τ).loc Cert.WinRefIdeal.main_arg2) = m ((c.tc : Thread Cert.WinKernelIdeal.nD Cert.WinKernelIdeal.τ).loc Cert.WinKernelIdeal.main_arg2)
      ∧ m' ((c.tc : Thread Cert.WinRefIdeal.nD Cert.WinRefIdeal.τ).loc Cert.WinRefIdeal.main_arg3) = m ((c.tc : Thread Cert.WinKernelIdeal.nD Cert.WinKernelIdeal.τ).loc Cert.WinKernelIdeal.main_arg3)
      ∧ m' ((c.tc : Thread Cert.WinRefIdeal.nD Cert.WinRefIdeal.τ).loc Cert.WinRefIdeal.main_arg4) = m ((c.tc : Thread Cert.WinKernelIdeal.nD Cert.WinKernelIdeal.τ).loc Cert.WinKernelIdeal.main_arg4)
      ∧ m' ((c.tc : Thread Cert.WinRefIdeal.nD Cert.WinRefIdeal.τ).loc Cert.WinRefIdeal.main_arg5) = m ((c.tc : Thread Cert.WinKernelIdeal.nD Cert.WinKernelIdeal.τ).loc Cert.WinKernelIdeal.main_arg5)) →
    ∃ (v0 : (c : Dev Cert.WinKernelIdeal.nD) → Buf (Elt Ideal) ((c.tc : Thread Cert.WinKernelIdeal.nD Cert.WinKernelIdeal.τ).loc Cert.WinKernelIdeal.main_v5)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v5) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4)
          ∧ r.2.mem ((c.tc : Thread Cert.WinKernelIdeal.nD Cert.WinKernelIdeal.τ).loc Cert.WinKernelIdeal.main_arg5) = m ((c.tc : Thread Cert.WinKernelIdeal.nD Cert.WinKernelIdeal.τ).loc Cert.WinKernelIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v8) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def Claim : Prop :=
  ∃ (hPreKernel : Cert.PreKernel.Facts) (hPreKernelIdeal : Cert.PreKernelIdeal.Facts) (hPreRefIdeal : Cert.PreRefIdeal.Facts) (hPostKernel : Cert.PostKernel.Facts) (hPostKernelIdeal : Cert.PostKernelIdeal.Facts) (hPostRefIdeal : Cert.PostRefIdeal.Facts) (hFfnKernel : Cert.FfnKernel.Facts) (hFfnKernelIdeal : Cert.FfnKernelIdeal.Facts) (hFfnRefIdeal : Cert.FfnRefIdeal.Facts) (hLossKernel : Cert.LossKernel.Facts) (hLossKernelIdeal : Cert.LossKernelIdeal.Facts) (hLossRefIdeal : Cert.LossRefIdeal.Facts) (hRnnKernel : Cert.RnnKernel.Facts) (hRnnKernelIdeal : Cert.RnnKernelIdeal.Facts) (hRnnRefIdeal : Cert.RnnRefIdeal.Facts) (hAttKernel : Cert.AttKernel.Facts) (hAttKernelIdeal : Cert.AttKernelIdeal.Facts) (hAttRefIdeal : Cert.AttRefIdeal.Facts) (hMixInKernel : Cert.MixInKernel.Facts) (hMixInKernelIdeal : Cert.MixInKernelIdeal.Facts) (hMixInRefIdeal : Cert.MixInRefIdeal.Facts) (hMixOutKernel : Cert.MixOutKernel.Facts) (hMixOutKernelIdeal : Cert.MixOutKernelIdeal.Facts) (hMixOutRefIdeal : Cert.MixOutRefIdeal.Facts) (hSbKernel : Cert.SbKernel.Facts) (hSbKernelIdeal : Cert.SbKernelIdeal.Facts) (hSbRefIdeal : Cert.SbRefIdeal.Facts) (hScanKernel : Cert.ScanKernel.Facts) (hScanKernelIdeal : Cert.ScanKernelIdeal.Facts) (hScanRefIdeal : Cert.ScanRefIdeal.Facts) (hAdamKernel : Cert.AdamKernel.Facts) (hAdamKernelIdeal : Cert.AdamKernelIdeal.Facts) (hAdamRefIdeal : Cert.AdamRefIdeal.Facts) (hDownKernel : Cert.DownKernel.Facts) (hDownKernelIdeal : Cert.DownKernelIdeal.Facts) (hDownRefIdeal : Cert.DownRefIdeal.Facts) (hWdownKernel : Cert.WdownKernel.Facts) (hWdownKernelIdeal : Cert.WdownKernelIdeal.Facts) (hWdownRefIdeal : Cert.WdownRefIdeal.Facts) (hWinKernel : Cert.WinKernel.Facts) (hWinKernelIdeal : Cert.WinKernelIdeal.Facts) (hWinRefIdeal : Cert.WinRefIdeal.Facts) (hPre_pre_finite : Cert.Pre_pre_finite.Facts) (hPre_post_finite : Cert.Pre_post_finite.Facts) (hPre_ffn_finite : Cert.Pre_ffn_finite.Facts) (hPre_rnn_finite : Cert.Pre_rnn_finite.Facts) (hPre_sb_finite : Cert.Pre_sb_finite.Facts),
    quiescent_PreKernel (hPreKernel := hPreKernel)
    ∧ quiescent_PreKernelIdeal (hPreKernelIdeal := hPreKernelIdeal)
    ∧ quiescent_PreKernelIdeal_pre_pre_finite (hPreKernelIdeal := hPreKernelIdeal) (hPre_pre_finite := hPre_pre_finite)
    ∧ quiescent_PreRefIdeal (hPreRefIdeal := hPreRefIdeal)
    ∧ quiescent_PreRefIdeal_pre_pre_finite (hPreRefIdeal := hPreRefIdeal) (hPre_pre_finite := hPre_pre_finite)
    ∧ quiescent_PostKernel (hPostKernel := hPostKernel)
    ∧ quiescent_PostKernelIdeal (hPostKernelIdeal := hPostKernelIdeal)
    ∧ quiescent_PostKernelIdeal_pre_post_finite (hPostKernelIdeal := hPostKernelIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_LossKernel (hLossKernel := hLossKernel)
    ∧ quiescent_LossKernelIdeal (hLossKernelIdeal := hLossKernelIdeal)
    ∧ quiescent_LossRefIdeal (hLossRefIdeal := hLossRefIdeal)
    ∧ quiescent_RnnKernel (hRnnKernel := hRnnKernel)
    ∧ quiescent_RnnKernelIdeal (hRnnKernelIdeal := hRnnKernelIdeal)
    ∧ quiescent_RnnKernelIdeal_pre_rnn_finite (hRnnKernelIdeal := hRnnKernelIdeal) (hPre_rnn_finite := hPre_rnn_finite)
    ∧ quiescent_RnnRefIdeal (hRnnRefIdeal := hRnnRefIdeal)
    ∧ quiescent_RnnRefIdeal_pre_rnn_finite (hRnnRefIdeal := hRnnRefIdeal) (hPre_rnn_finite := hPre_rnn_finite)
    ∧ quiescent_AttKernel (hAttKernel := hAttKernel)
    ∧ quiescent_AttKernelIdeal (hAttKernelIdeal := hAttKernelIdeal)
    ∧ quiescent_AttRefIdeal (hAttRefIdeal := hAttRefIdeal)
    ∧ quiescent_MixInKernel (hMixInKernel := hMixInKernel)
    ∧ quiescent_MixInKernelIdeal (hMixInKernelIdeal := hMixInKernelIdeal)
    ∧ quiescent_MixInRefIdeal (hMixInRefIdeal := hMixInRefIdeal)
    ∧ quiescent_MixOutKernel (hMixOutKernel := hMixOutKernel)
    ∧ quiescent_MixOutKernelIdeal (hMixOutKernelIdeal := hMixOutKernelIdeal)
    ∧ quiescent_MixOutRefIdeal (hMixOutRefIdeal := hMixOutRefIdeal)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_ScanKernel (hScanKernel := hScanKernel)
    ∧ quiescent_ScanKernelIdeal (hScanKernelIdeal := hScanKernelIdeal)
    ∧ quiescent_ScanRefIdeal (hScanRefIdeal := hScanRefIdeal)
    ∧ quiescent_AdamKernel (hAdamKernel := hAdamKernel)
    ∧ quiescent_AdamKernelIdeal (hAdamKernelIdeal := hAdamKernelIdeal)
    ∧ quiescent_AdamRefIdeal (hAdamRefIdeal := hAdamRefIdeal)
    ∧ quiescent_DownKernel (hDownKernel := hDownKernel)
    ∧ quiescent_DownKernelIdeal (hDownKernelIdeal := hDownKernelIdeal)
    ∧ quiescent_DownRefIdeal (hDownRefIdeal := hDownRefIdeal)
    ∧ quiescent_WdownKernel (hWdownKernel := hWdownKernel)
    ∧ quiescent_WdownKernelIdeal (hWdownKernelIdeal := hWdownKernelIdeal)
    ∧ quiescent_WdownRefIdeal (hWdownRefIdeal := hWdownRefIdeal)
    ∧ quiescent_WinKernel (hWinKernel := hWinKernel)
    ∧ quiescent_WinKernelIdeal (hWinKernelIdeal := hWinKernelIdeal)
    ∧ quiescent_WinRefIdeal (hWinRefIdeal := hWinRefIdeal)
    ∧ preserves_PreKernel_PreKernelIdeal
    ∧ algebraic_PreKernelIdeal_PreRefIdeal_pre_pre_finite (hPreKernelIdeal := hPreKernelIdeal) (hPreRefIdeal := hPreRefIdeal) (hPre_pre_finite := hPre_pre_finite)
    ∧ preserves_PostKernel_PostKernelIdeal
    ∧ algebraic_PostKernelIdeal_PostRefIdeal_pre_post_finite (hPostKernelIdeal := hPostKernelIdeal) (hPostRefIdeal := hPostRefIdeal) (hPre_post_finite := hPre_post_finite)
    ∧ preserves_FfnKernel_FfnKernelIdeal
    ∧ algebraic_FfnKernelIdeal_FfnRefIdeal_pre_ffn_finite (hFfnKernelIdeal := hFfnKernelIdeal) (hFfnRefIdeal := hFfnRefIdeal) (hPre_ffn_finite := hPre_ffn_finite)
    ∧ preserves_LossKernel_LossKernelIdeal
    ∧ algebraic_LossKernelIdeal_LossRefIdeal (hLossKernelIdeal := hLossKernelIdeal) (hLossRefIdeal := hLossRefIdeal)
    ∧ preserves_RnnKernel_RnnKernelIdeal
    ∧ algebraic_RnnKernelIdeal_RnnRefIdeal_pre_rnn_finite (hRnnKernelIdeal := hRnnKernelIdeal) (hRnnRefIdeal := hRnnRefIdeal) (hPre_rnn_finite := hPre_rnn_finite)
    ∧ preserves_AttKernel_AttKernelIdeal
    ∧ preserves_MixInKernel_MixInKernelIdeal
    ∧ algebraic_MixInKernelIdeal_MixInRefIdeal (hMixInKernelIdeal := hMixInKernelIdeal) (hMixInRefIdeal := hMixInRefIdeal)
    ∧ preserves_MixOutKernel_MixOutKernelIdeal
    ∧ algebraic_MixOutKernelIdeal_MixOutRefIdeal (hMixOutKernelIdeal := hMixOutKernelIdeal) (hMixOutRefIdeal := hMixOutRefIdeal)
    ∧ preserves_SbKernel_SbKernelIdeal
    ∧ algebraic_SbKernelIdeal_SbRefIdeal_pre_sb_finite (hSbKernelIdeal := hSbKernelIdeal) (hSbRefIdeal := hSbRefIdeal) (hPre_sb_finite := hPre_sb_finite)
    ∧ preserves_ScanKernel_ScanKernelIdeal
    ∧ preserves_AdamKernel_AdamKernelIdeal
    ∧ algebraic_AdamKernelIdeal_AdamRefIdeal (hAdamKernelIdeal := hAdamKernelIdeal) (hAdamRefIdeal := hAdamRefIdeal)
    ∧ preserves_DownKernel_DownKernelIdeal
    ∧ algebraic_DownKernelIdeal_DownRefIdeal (hDownKernelIdeal := hDownKernelIdeal) (hDownRefIdeal := hDownRefIdeal)
    ∧ preserves_WdownKernel_WdownKernelIdeal
    ∧ algebraic_WdownKernelIdeal_WdownRefIdeal (hWdownKernelIdeal := hWdownKernelIdeal) (hWdownRefIdeal := hWdownRefIdeal)
    ∧ preserves_WinKernel_WinKernelIdeal
    ∧ algebraic_WinKernelIdeal_WinRefIdeal (hWinKernelIdeal := hWinKernelIdeal) (hWinRefIdeal := hWinRefIdeal)
-- ==== Pre_ffn_finite.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_arg5 : FVec F S4096x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S4096x1024 .f32 := broadcastInDim S4096x1024 ![] bcast_S_S4096x1024 main_cst_13
  let main_v35 : IVec S4096x1024 1 := cmpf .olt main_arg5 main_v34
  let main_cst_14 : FVec F S_ .f32 := constant S_ .f32 0xFF800000#32
  let main_v36 : FVec F S4096x1024 .f32 := broadcastInDim S4096x1024 ![] bcast_S_S4096x1024 main_cst_14
  let main_v37 : IVec S4096x1024 1 := cmpf .ogt main_arg5 main_v36
  let main_v38 : IVec S4096x1024 1 := andi main_v35 main_v37
  let main_c_15 : IVec S_ 1 := constantI S_ 1 1#1
  let main_v39 : IVec S_ 1 := (fun x v => Host.reduce IntOp.andi x v reducesTo_S4096x1024_S_d0_1 h_S_) main_v38 main_c_15
  let main_v40 : IVec S_ 1 := andi main_v33 main_v39
  main_v40

def fn_part1 {F : FTy → Type} [FloatOps F] (main_arg2 : FVec F S1x1024x2816 .f32) (main_arg3 : FVec F S1x1024x2816 .f32) (main_arg4 : FVec F S1x2816x1024 .f32) (main_arg5 : FVec F S4096x1024 .f32) (main_v12 : IVec S_ 1) (main_v14 : IVec S1x1024x2816 1) (main_v15 : FVec F S1x1024x2816 .f32) : IVec S_ 1 :=
  let main_v16 : IVec S1x1024x2816 1 := cmpf .ogt main_arg2 main_v15
  let main_v17 : IVec S1x1024x2816 1 := andi main_v14 main_v16
  let main_c_6 : IVec S_ 1 := constantI S_ 1 1#1
  let main_v18 : IVec S_ 1 := (fun x v => Host.reduce IntOp.andi x v reducesTo_S1x1024x2816_S_d0_1_2 h_S_) main_v17 main_c_6
  let main_v19 : IVec S_ 1 := andi main_v12 main_v18
  let main_cst_7 : FVec F S_ .f32 := constant S_ .f32 0x7F800000#32
  let main_v20 : FVec F S1x1024x2816 .f32 := broadcastInDim S1x1024x2816 ![] bcast_S_S1x1024x2816 main_cst_7
  let main_v21 : IVec S1x1024x2816 1 := cmpf .olt main_arg3 main_v20
  let main_cst_8 : FVec F S_ .f32 := constant S_ .f32 0xFF800000#32
  let main_v22 : FVec F S1x1024x2816 .f32 := broadcastInDim S1x1024x2816 ![] bcast_S_S1x1024x2816 main_cst_8
  let main_v23 : IVec S1x1024x2816 1 := cmpf .ogt main_arg3 main_v22
  let main_v24 : IVec S1x1024x2816 1 := andi main_v21 main_v23
  let main_c_9 : IVec S_ 1 := constantI S_ 1 1#1
  let main_v25 : IVec S_ 1 := (fun x v => Host.reduce IntOp.andi x v reducesTo_S1x1024x2816_S_d0_1_2 h_S_) main_v24 main_c_9
  let main_v26 : IVec S_ 1 := andi main_v19 main_v25
  let main_cst_10 : FVec F S_ .f32 := constant S_ .f32 0x7F800000#32
  let main_v27 : FVec F S1x2816x1024 .f32 := broadcastInDim S1x2816x1024 ![] bcast_S_S1x2816x1024 main_cst_10
  let main_v28 : IVec S1x2816x1024 1 := cmpf .olt main_arg4 main_v27
  let main_cst_11 : FVec F S_ .f32 := constant S_ .f32 0xFF800000#32
  let main_v29 : FVec F S1x2816x1024 .f32 := broadcastInDim S1x2816x1024 ![] bcast_S_S1x2816x1024 main_cst_11
  let main_v30 : IVec S1x2816x1024 1 := cmpf .ogt main_arg4 main_v29
  let main_v31 : IVec S1x2816x1024 1 := andi main_v28 main_v30
  let main_c_12 : IVec S_ 1 := constantI S_ 1 1#1
  let main_v32 : IVec S_ 1 := (fun x v => Host.reduce IntOp.andi x v reducesTo_S1x2816x1024_S_d0_1_2 h_S_) main_v31 main_c_12
  fn_part2 (F := F) main_arg5 main_v26 main_v32

def fn {F : FTy → Type} [FloatOps F] (main_arg0 : FVec F S4096x1024 .f32) (main_arg1 : FVec F S1x1024 .f32) (main_arg2 : FVec F S1x1024x2816 .f32) (main_arg3 : FVec F S1x1024x2816 .f32) (main_arg4 : FVec F S1x2816x1024 .f32) (main_arg5 : FVec F S4096x1024 .f32) : IVec S_ 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_arg1 main_v6
  let main_cst_2 : FVec F S_ .f32 := constant S_ .f32 0xFF800000#32
  let main_v8 : FVec F S1x1024 .f32 := broadcastInDim S1x1024 ![] bcast_S_S1x1024 main_cst_2
  let main_v9 : IVec S1x1024 1 := cmpf .ogt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0x7F800000#32
  let main_v13 : FVec F S1x1024x2816 .f32 := broadcastInDim S1x1024x2816 ![] bcast_S_S1x1024x2816 main_cst_4
  let main_v14 : IVec S1x1024x2816 1 := cmpf .olt main_arg2 main_v13
  let main_cst_5 : FVec F S_ .f32 := constant S_ .f32 0xFF800000#32
  let main_v15 : FVec F S1x1024x2816 .f32 := broadcastInDim S1x1024x2816 ![] bcast_S_S1x1024x2816 main_cst_5
  fn_part1 (F := F) main_arg2 main_arg3 main_arg4 main_arg5 main_v12 main_v14 main_v15
-- ==== Pre_post_finite.lean ====
abbrev S4096x1024 : Shape := ⟨2, ![4096, 1024]⟩
abbrev S4096x512 : Shape := ⟨2, ![4096, 512]⟩
abbrev S1x512 : Shape := ⟨2, ![1, 512]⟩
abbrev S1x1024x1024 : Shape := ⟨3, ![1, 1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg6 : FVec F S4096x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S4096x1024 .f32 := broadcastInDim S4096x1024 ![] bcast_S_S4096x1024 main_cst_13
  let main_v35 : IVec S4096x1024 1 := cmpf .olt main_arg6 main_v34
  let main_cst_14 : FVec F S_ .f32 := constant S_ .f32 0xFF800000#32
  let main_v36 : FVec F S4096x1024 .f32 := broadcastInDim S4096x1024 ![] bcast_S_S4096x1024 main_cst_14
  let main_v37 : IVec S4096x1024 1 := cmpf .ogt main_arg6 main_v36
  let main_v38 : IVec S4096x1024 1 := andi main_v35 main_v37
  let main_c_15 : IVec S_ 1 := constantI S_ 1 1#1
  let main_v39 : IVec S_ 1 := (fun x v => Host.reduce IntOp.andi x v reducesTo_S4096x1024_S_d0_1 h_S_) main_v38 main_c_15
  let main_v40 : IVec S_ 1 := andi main_v33 main_v39
  main_v40

def fn_part1 {F : FTy → Type} [FloatOps F] (main_arg3 : FVec F S1x512 .f32) (main_arg4 : FVec F S1x512 .f32) (main_arg5 : FVec F S1x1024x1024 .f32) (main_arg6 : FVec F S4096x1024 .f32) (main_v12 : IVec S_ 1) (main_v14 : IVec S1x512 1) (main_v15 : FVec F S1x512 .f32) : IVec S_ 1 :=
  let main_v16 : IVec S1x512 1 := cmpf .ogt main_arg3 main_v15
  let main_v17 : IVec S1x512 1 := andi main_v14 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v12 main_v18
  let main_cst_7 : FVec F S_ .f32 := constant S_ .f32 0x7F800000#32
  let main_v20 : FVec F S1x512 .f32 := broadcastInDim S1x512 ![] bcast_S_S1x512 main_cst_7
  let main_v21 : IVec S1x512 1 := cmpf .olt main_arg4 main_v20
  let main_cst_8 : FVec F S_ .f32 := constant S_ .f32 0xFF800000#32
  let main_v22 : FVec F S1x512 .f32 := broadcastInDim S1x512 ![] bcast_S_S1x512 main_cst_8
  let main_v23 : IVec S1x512 1 := cmpf .ogt main_arg4 main_v22
  let main_v24 : IVec S1x512 1 := andi main_v21 main_v23
  let main_c_9 : IVec S_ 1 := constantI S_ 1 1#1
  let main_v25 : IVec S_ 1 := (fun x v => Host.reduce IntOp.andi x v reducesTo_S1x512_S_d0_1 h_S_) main_v24 main_c_9
  let main_v26 : IVec S_ 1 := andi main_v19 main_v25
  let main_cst_10 : FVec F S_ .f32 := constant S_ .f32 0x7F800000#32
  let main_v27 : FVec F S1x1024x1024 .f32 := broadcastInDim S1x1024x1024 ![] bcast_S_S1x1024x1024 main_cst_10
  let main_v28 : IVec S1x1024x1024 1 := cmpf .olt main_arg5 main_v27
  let main_cst_11 : FVec F S_ .f32 := constant S_ .f32 0xFF800000#32
  let main_v29 : FVec F S1x1024x1024 .f32 := broadcastInDim S1x1024x1024 ![] bcast_S_S1x1024x1024 main_cst_11
  let main_v30 : IVec S1x1024x1024 1 := cmpf .ogt main_arg5 main_v29
  let main_v31 : IVec S1x1024x1024 1 := andi main_v28 main_v30
  let main_c_12 : IVec S_ 1 := constantI S_ 1 1#1
  let main_v32 : IVec S_ 1 := (fun x v => Host.reduce IntOp.andi x v reducesTo_S1x1024x1024_S_d0_1_2 h_S_) main_v31 main_c_12
  fn_part2 (F := F) main_arg6 main_v26 main_v32

def fn {F : FTy → Type} [FloatOps F] (main_arg0 : FVec F S4096x1024 .f32) (main_arg1 : FVec F S4096x512 .f32) (main_arg2 : FVec F S4096x512 .f32) (main_arg3 : FVec F S1x512 .f32) (main_arg4 : FVec F S1x512 .f32) (main_arg5 : FVec F S1x1024x1024 .f32) (main_arg6 : FVec F S4096x1024 .f32) : IVec S_ 1 :=
  let main_cst : FVec F S_ .f32 := constant S_ .f32 0x7F800000#32
  let main_v0 : FVec F S4096x512 .f32 := broadcastInDim S4096x512 ![] bcast_S_S4096x512 main_cst
  let main_v1 : IVec S4096x512 1 := cmpf .olt main_arg1 main_v0
  let main_cst_0 : FVec F S_ .f32 := constant S_ .f32 0xFF800000#32
  let main_v2 : FVec F S4096x512 .f32 := broadcastInDim S4096x512 ![] bcast_S_S4096x512 main_cst_0
  let main_v3 : IVec S4096x512 1 := cmpf .ogt main_arg1 main_v2
  let main_v4 : IVec S4096x512 1 := andi main_v1 main_v3
  let main_c : IVec S_ 1 := constantI S_ 1 1#1
  let main_v5 : IVec S_ 1 := (fun x v => Host.reduce IntOp.andi x v reducesTo_S4096x512_S_d0_1 h_S_) main_v4 main_c
  let main_cst_1 : FVec F S_ .f32 := constant S_ .f32 0x7F800000#32
  let main_v6 : FVec F S4096x512 .f32 := broadcastInDim S4096x512 ![] bcast_S_S4096x512 main_cst_1
  let main_v7 : IVec S4096x512 1 := cmpf .olt main_arg2 main_v6
  let main_cst_2 : FVec F S_ .f32 := constant S_ .f32 0xFF800000#32
  let main_v8 : FVec F S4096x512 .f32 := broadcastInDim S4096x512 ![] bcast_S_S4096x512 main_cst_2
  let main_v9 : IVec S4096x512 1 := cmpf .ogt main_arg2 main_v8
  let main_v10 : IVec S4096x512 1 := andi main_v7 main_v9
  let main_c_3 : IVec S_ 1 := constantI S_ 1 1#1
  let main_v11 : IVec S_ 1 := (fun x v => Host.reduce IntOp.andi x v reducesTo_S4096x512_S_d0_1 h_S_) main_v10 main_c_3
  let main_v12 : IVec S_ 1 := andi main_v5 main_v11
  let main_cst_4 : FVec F S_ .f32 := constant S_ .f32 0x7F800000#32
  let main_v13 : FVec F S1x512 .f32 := broadcastInDim S1x512 ![] bcast_S_S1x512 main_cst_4
  let main_v14 : IVec S1x512 1 := cmpf .olt main_arg3 main_v13
  let main_cst_5 : FVec F S_ .f32 := constant S_ .f32 0xFF800000#32
  let main_v15 : FVec F S1x512 .f32 := broadcastInDim S1x512 ![] bcast_S_S1x512 main_cst_5
  fn_part1 (F := F) main_arg3 main_arg4 main_arg5 main_arg6 main_v12 main_v14 main_v15
-- ==== Pre_pre_finite.lean ====
abbrev S4096x1024 : Shape := ⟨2, ![4096, 1024]⟩
abbrev S1x1024 : Shape := ⟨2, ![1, 1024]⟩
abbrev S1x1024x2560 : Shape := ⟨3, ![1, 1024, 2560]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part3 {F : FTy → Type} [FloatOps F] (main_arg8 : FVec F S4096x512 .f32) (main_v47 : IVec S_ 1) (main_v49 : IVec S4096x512 1) : IVec S_ 1 :=
  let main_cst_20 : FVec F S_ .f32 := constant S_ .f32 0xFF800000#32
  let main_v50 : FVec F S4096x512 .f32 := broadcastInDim S4096x512 ![] bcast_S_S4096x512 main_cst_20
  let main_v51 : IVec S4096x512 1 := cmpf .ogt main_arg8 main_v50
  let main_v52 : IVec S4096x512 1 := andi main_v49 main_v51
  let main_c_21 : IVec S_ 1 := constantI S_ 1 1#1
  let main_v53 : IVec S_ 1 := (fun x v => Host.reduce IntOp.andi x v reducesTo_S4096x512_S_d0_1 h_S_) main_v52 main_c_21
  let main_v54 : IVec S_ 1 := andi main_v47 main_v53
  main_v54

def fn_part2 {F : FTy → Type} [FloatOps F] (main_arg6 : FVec F S4096x512 .f32) (main_arg7 : FVec F S4096x512 .f32) (main_arg8 : FVec F S4096x512 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S4096x512 .f32 := broadcastInDim S4096x512 ![] bcast_S_S4096x512 main_cst_13
  let main_v35 : IVec S4096x512 1 := cmpf .olt main_arg6 main_v34
  let main_cst_14 : FVec F S_ .f32 := constant S_ .f32 0xFF800000#32
  let main_v36 : FVec F S4096x512 .f32 := broadcastInDim S4096x512 ![] bcast_S_S4096x512 main_cst_14
  let main_v37 : IVec S4096x512 1 := cmpf .ogt main_arg6 main_v36
  let main_v38 : IVec S4096x512 1 := andi main_v35 main_v37
  let main_c_15 : IVec S_ 1 := constantI S_ 1 1#1
  let main_v39 : IVec S_ 1 := (fun x v => Host.reduce IntOp.andi x v reducesTo_S4096x512_S_d0_1 h_S_) main_v38 main_c_15
  let main_v40 : IVec S_ 1 := andi main_v33 main_v39
  let main_cst_16 : FVec F S_ .f32 := constant S_ .f32 0x7F800000#32
  let main_v41 : FVec F S4096x512 .f32 := broadcastInDim S4096x512 ![] bcast_S_S4096x512 main_cst_16
  let main_v42 : IVec S4096x512 1 := cmpf .olt main_arg7 main_v41
  let main_cst_17 : FVec F S_ .f32 := constant S_ .f32 0xFF800000#32
  let main_v43 : FVec F S4096x512 .f32 := broadcastInDim S4096x512 ![] bcast_S_S4096x512 main_cst_17
  let main_v44 : IVec S4096x512 1 := cmpf .ogt main_arg7 main_v43
  let main_v45 : IVec S4096x512 1 := andi main_v42 main_v44
  let main_c_18 : IVec S_ 1 := constantI S_ 1 1#1
  let main_v46 : IVec S_ 1 := (fun x v => Host.reduce IntOp.andi x v reducesTo_S4096x512_S_d0_1 h_S_) main_v45 main_c_18
  let main_v47 : IVec S_ 1 := andi main_v40 main_v46
  let main_cst_19 : FVec F S_ .f32 := constant S_ .f32 0x7F800000#32
  let main_v48 : FVec F S4096x512 .f32 := broadcastInDim S4096x512 ![] bcast_S_S4096x512 main_cst_19
  let main_v49 : IVec S4096x512 1 := cmpf .olt main_arg8 main_v48
  fn_part3 (F := F) main_arg8 main_v47 main_v49

def fn_part1 {F : FTy → Type} [FloatOps F] (main_arg2 : FVec F S1x1024x2560 .f32) (main_arg4 : FVec F S4096x512 .f32) (main_arg5 : FVec F S4096x512 .f32) (main_arg6 : FVec F S4096x512 .f32) (main_arg7 : FVec F S4096x512 .f32) (main_arg8 : FVec F S4096x512 .f32) (main_v12 : IVec S_ 1) (main_v14 : IVec S1x1024x2560 1) (main_v15 : FVec F S1x1024x2560 .f32) : IVec S_ 1 :=
  let main_v16 : IVec S1x1024x2560 1 := cmpf .ogt main_arg2 main_v15
  let main_v17 : IVec S1x1024x2560 1 := andi main_v14 main_v16
  let main_c_6 : IVec S_ 1 := constantI S_ 1 1#1
  let main_v18 : IVec S_ 1 := (fun x v => Host.reduce IntOp.andi x v reducesTo_S1x1024x2560_S_d0_1_2 h_S_) main_v17 main_c_6
  let main_v19 : IVec S_ 1 := andi main_v12 main_v18
  let main_cst_7 : FVec F S_ .f32 := constant S_ .f32 0x7F800000#32
  let main_v20 : FVec F S4096x512 .f32 := broadcastInDim S4096x512 ![] bcast_S_S4096x512 main_cst_7
  let main_v21 : IVec S4096x512 1 := cmpf .olt main_arg4 main_v20
  let main_cst_8 : FVec F S_ .f32 := constant S_ .f32 0xFF800000#32
  let main_v22 : FVec F S4096x512 .f32 := broadcastInDim S4096x512 ![] bcast_S_S4096x512 main_cst_8
  let main_v23 : IVec S4096x512 1 := cmpf .ogt main_arg4 main_v22
  let main_v24 : IVec S4096x512 1 := andi main_v21 main_v23
  let main_c_9 : IVec S_ 1 := constantI S_ 1 1#1
  let main_v25 : IVec S_ 1 := (fun x v => Host.reduce IntOp.andi x v reducesTo_S4096x512_S_d0_1 h_S_) main_v24 main_c_9
  let main_v26 : IVec S_ 1 := andi main_v19 main_v25
  let main_cst_10 : FVec F S_ .f32 := constant S_ .f32 0x7F800000#32
  let main_v27 : FVec F S4096x512 .f32 := broadcastInDim S4096x512 ![] bcast_S_S4096x512 main_cst_10
  let main_v28 : IVec S4096x512 1 := cmpf .olt main_arg5 main_v27
  let main_cst_11 : FVec F S_ .f32 := constant S_ .f32 0xFF800000#32
  let main_v29 : FVec F S4096x512 .f32 := broadcastInDim S4096x512 ![] bcast_S_S4096x512 main_cst_11
  let main_v30 : IVec S4096x512 1 := cmpf .ogt main_arg5 main_v29
  let main_v31 : IVec S4096x512 1 := andi main_v28 main_v30
  let main_c_12 : IVec S_ 1 := constantI S_ 1 1#1
  let main_v32 : IVec S_ 1 := (fun x v => Host.reduce IntOp.andi x v reducesTo_S4096x512_S_d0_1 h_S_) main_v31 main_c_12
  fn_part2 (F := F) main_arg6 main_arg7 main_arg8 main_v26 main_v32

def fn {F : FTy → Type} [FloatOps F] (main_arg0 : FVec F S4096x1024 .f32) (main_arg1 : FVec F S1x1024 .f32) (main_arg2 : FVec F S1x1024x2560 .f32) (main_arg3 : FVec F S4096x1024 .f32) (main_arg4 : FVec F S4096x512 .f32) (main_arg5 : FVec F S4096x512 .f32) (main_arg6 : FVec F S4096x512 .f32) (main_arg7 : FVec F S4096x512 .f32) (main_arg8 : FVec F S4096x512 .f32) : IVec S_ 1 :=
  let main_cst : FVec F S_ .f32 := constant S_ .f32 0x7F800000#32
  let main_v0 : FVec F S4096x1024 .f32 := broadcastInDim S4096x1024 ![] bcast_S_S4096x1024 main_cst
  let main_v1 : IVec S4096x1024 1 := cmpf .olt main_arg0 main_v0
  let main_cst_0 : FVec F S_ .f32 := constant S_ .f32 0xFF800000#32
  let main_v2 : FVec F S4096x1024 .f32 := broadcastInDim S4096x1024 ![] bcast_S_S4096x1024 main_cst_0
  let main_v3 : IVec S4096x1024 1 := cmpf .ogt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_arg1 main_v6
  let main_cst_2 : FVec F S_ .f32 := constant S_ .f32 0xFF800000#32
  let main_v8 : FVec F S1x1024 .f32 := broadcastInDim S1x1024 ![] bcast_S_S1x1024 main_cst_2
  let main_v9 : IVec S1x1024 1 := cmpf .ogt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0x7F800000#32
  let main_v13 : FVec F S1x1024x2560 .f32 := broadcastInDim S1x1024x2560 ![] bcast_S_S1x1024x2560 main_cst_4
  let main_v14 : IVec S1x1024x2560 1 := cmpf .olt main_arg2 main_v13
  let main_cst_5 : FVec F S_ .f32 := constant S_ .f32 0xFF800000#32
  let main_v15 : FVec F S1x1024x2560 .f32 := broadcastInDim S1x1024x2560 ![] bcast_S_S1x1024x2560 main_cst_5
  fn_part1 (F := F) main_arg2 main_arg4 main_arg5 main_arg6 main_arg7 main_arg8 main_v12 main_v14 main_v15
-- ==== Pre_rnn_finite.lean ====
abbrev S4096x2560 : Shape := ⟨2, ![4096, 2560]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S1x4x512 : S_.BroadcastsInDim S1x4x512 (![] : Fin 0 → Fin S1x4x512.rank)
  reducesTo_S1x4x512_S_d0_1_2 : S1x4x512.ReducesTo [0, 1, 2] S_
  bcast_S_S1x512 : S_.BroadcastsInDim S1x512 (![] : Fin 0 → Fin S1x512.rank)
  reducesTo_S1x512_S_d0_1 : S1x512.ReducesTo [0, 1] S_
  bcast_S_S1x8x64x64 : S_.BroadcastsInDim S1x8x64x64 (![] : Fin 0 → Fin S1x8x64x64.rank)
  reducesTo_S1x8x64x64_S_d0_1_2_3 : S1x8x64x64.ReducesTo [0, 1, 2, 3] S_
  bcast_S_S4096x512 : S_.BroadcastsInDim S4096x512 (![] : Fin 0 → Fin S4096x512.rank)
  reducesTo_S4096x512_S_d0_1 : S4096x512.ReducesTo [0, 1] S_

variable [Facts]

def fn_part3 {F : FTy → Type} [FloatOps F] (main_arg7 : FVec F S1x512 .f32) (main_arg8 : FVec F S4096x512 .f32) (main_v47 : IVec S_ 1) (main_v49 : IVec S1x512 1) : IVec S_ 1 :=
  let main_cst_20 : FVec F S_ .f32 := constant S_ .f32 0xFF800000#32
  let main_v50 : FVec F S1x512 .f32 := broadcastInDim S1x512 ![] bcast_S_S1x512 main_cst_20
  let main_v51 : IVec S1x512 1 := cmpf .ogt main_arg7 main_v50
  let main_v52 : IVec S1x512 1 := andi main_v49 main_v51
  let main_c_21 : IVec S_ 1 := constantI S_ 1 1#1
  let main_v53 : IVec S_ 1 := (fun x v => Host.reduce IntOp.andi x v reducesTo_S1x512_S_d0_1 h_S_) main_v52 main_c_21
  let main_v54 : IVec S_ 1 := andi main_v47 main_v53
  let main_cst_22 : FVec F S_ .f32 := constant S_ .f32 0x7F800000#32
  let main_v55 : FVec F S4096x512 .f32 := broadcastInDim S4096x512 ![] bcast_S_S4096x512 main_cst_22
  let main_v56 : IVec S4096x512 1 := cmpf .olt main_arg8 main_v55
  let main_cst_23 : FVec F S_ .f32 := constant S_ .f32 0xFF800000#32
  let main_v57 : FVec F S4096x512 .f32 := broadcastInDim S4096x512 ![] bcast_S_S4096x512 main_cst_23
  let main_v58 : IVec S4096x512 1 := cmpf .ogt main_arg8 main_v57
  let main_v59 : IVec S4096x512 1 := andi main_v56 main_v58
  let main_c_24 : IVec S_ 1 := constantI S_ 1 1#1
  let main_v60 : IVec S_ 1 := (fun x v => Host.reduce IntOp.andi x v reducesTo_S4096x512_S_d0_1 h_S_) main_v59 main_c_24
  let main_v61 : IVec S_ 1 := andi main_v54 main_v60
  main_v61

def fn_part2 {F : FTy → Type} [FloatOps F] (main_arg5 : FVec F S1x8x64x64 .f32) (main_arg6 : FVec F S1x512 .f32) (main_arg7 : FVec F S1x512 .f32) (main_arg8 : FVec F S4096x512 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S1x8x64x64 .f32 := broadcastInDim S1x8x64x64 ![] bcast_S_S1x8x64x64 main_cst_13
  let main_v35 : IVec S1x8x64x64 1 := cmpf .olt main_arg5 main_v34
  let main_cst_14 : FVec F S_ .f32 := constant S_ .f32 0xFF800000#32
  let main_v36 : FVec F S1x8x64x64 .f32 := broadcastInDim S1x8x64x64 ![] bcast_S_S1x8x64x64 main_cst_14
  let main_v37 : IVec S1x8x64x64 1 := cmpf .ogt main_arg5 main_v36
  let main_v38 : IVec S1x8x64x64 1 := andi main_v35 main_v37
  let main_c_15 : IVec S_ 1 := constantI S_ 1 1#1
  let main_v39 : IVec S_ 1 := (fun x v => Host.reduce IntOp.andi x v reducesTo_S1x8x64x64_S_d0_1_2_3 h_S_) main_v38 main_c_15
  let main_v40 : IVec S_ 1 := andi main_v33 main_v39
  let main_cst_16 : FVec F S_ .f32 := constant S_ .f32 0x7F800000#32
  let main_v41 : FVec F S1x512 .f32 := broadcastInDim S1x512 ![] bcast_S_S1x512 main_cst_16
  let main_v42 : IVec S1x512 1 := cmpf .olt main_arg6 main_v41
  let main_cst_17 : FVec F S_ .f32 := constant S_ .f32 0xFF800000#32
  let main_v43 : FVec F S1x512 .f32 := broadcastInDim S1x512 ![] bcast_S_S1x512 main_cst_17
  let main_v44 : IVec S1x512 1 := cmpf .ogt main_arg6 main_v43
  let main_v45 : IVec S1x512 1 := andi main_v42 main_v44
  let main_c_18 : IVec S_ 1 := constantI S_ 1 1#1
  let main_v46 : IVec S_ 1 := (fun x v => Host.reduce IntOp.andi x v reducesTo_S1x512_S_d0_1 h_S_) main_v45 main_c_18
  let main_v47 : IVec S_ 1 := andi main_v40 main_v46
  let main_cst_19 : FVec F S_ .f32 := constant S_ .f32 0x7F800000#32
  let main_v48 : FVec F S1x512 .f32 := broadcastInDim S1x512 ![] bcast_S_S1x512 main_cst_19
  let main_v49 : IVec S1x512 1 := cmpf .olt main_arg7 main_v48
  fn_part3 (F := F) main_arg7 main_arg8 main_v47 main_v49

def fn_part1 {F : FTy → Type} [FloatOps F] (main_arg2 : FVec F S1x512 .f32) (main_arg3 : FVec F S1x8x64x64 .f32) (main_arg4 : FVec F S1x512 .f32) (main_arg5 : FVec F S1x8x64x64 .f32) (main_arg6 : FVec F S1x512 .f32) (main_arg7 : FVec F S1x512 .f32) (main_arg8 : FVec F S4096x512 .f32) (main_v12 : IVec S_ 1) (main_v14 : IVec S1x512 1) (main_v15 : FVec F S1x512 .f32) : IVec S_ 1 :=
  let main_v16 : IVec S1x512 1 := cmpf .ogt main_arg2 main_v15
  let main_v17 : IVec S1x512 1 := andi main_v14 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v12 main_v18
  let main_cst_7 : FVec F S_ .f32 := constant S_ .f32 0x7F800000#32
  let main_v20 : FVec F S1x8x64x64 .f32 := broadcastInDim S1x8x64x64 ![] bcast_S_S1x8x64x64 main_cst_7
  let main_v21 : IVec S1x8x64x64 1 := cmpf .olt main_arg3 main_v20
  let main_cst_8 : FVec F S_ .f32 := constant S_ .f32 0xFF800000#32
  let main_v22 : FVec F S1x8x64x64 .f32 := broadcastInDim S1x8x64x64 ![] bcast_S_S1x8x64x64 main_cst_8
  let main_v23 : IVec S1x8x64x64 1 := cmpf .ogt main_arg3 main_v22
  let main_v24 : IVec S1x8x64x64 1 := andi main_v21 main_v23
  let main_c_9 : IVec S_ 1 := constantI S_ 1 1#1
  let main_v25 : IVec S_ 1 := (fun x v => Host.reduce IntOp.andi x v reducesTo_S1x8x64x64_S_d0_1_2_3 h_S_) main_v24 main_c_9
  let main_v26 : IVec S_ 1 := andi main_v19 main_v25
  let main_cst_10 : FVec F S_ .f32 := constant S_ .f32 0x7F800000#32
  let main_v27 : FVec F S1x512 .f32 := broadcastInDim S1x512 ![] bcast_S_S1x512 main_cst_10
  let main_v28 : IVec S1x512 1 := cmpf .olt main_arg4 main_v27
  let main_cst_11 : FVec F S_ .f32 := constant S_ .f32 0xFF800000#32
  let main_v29 : FVec F S1x512 .f32 := broadcastInDim S1x512 ![] bcast_S_S1x512 main_cst_11
  let main_v30 : IVec S1x512 1 := cmpf .ogt main_arg4 main_v29
  let main_v31 : IVec S1x512 1 := andi main_v28 main_v30
  let main_c_12 : IVec S_ 1 := constantI S_ 1 1#1
  let main_v32 : IVec S_ 1 := (fun x v => Host.reduce IntOp.andi x v reducesTo_S1x512_S_d0_1 h_S_) main_v31 main_c_12
  fn_part2 (F := F) main_arg5 main_arg6 main_arg7 main_arg8 main_v26 main_v32

def fn {F : FTy → Type} [FloatOps F] (main_arg0 : FVec F S4096x2560 .f32) (main_arg1 : FVec F S1x4x512 .f32) (main_arg2 : FVec F S1x512 .f32) (main_arg3 : FVec F S1x8x64x64 .f32) (main_arg4 : FVec F S1x512 .f32) (main_arg5 : FVec F S1x8x64x64 .f32) (main_arg6 : FVec F S1x512 .f32) (main_arg7 : FVec F S1x512 .f32) (main_arg8 : FVec F S4096x512 .f32) : IVec S_ 1 :=
  let main_cst : FVec F S_ .f32 := constant S_ .f32 0x7F800000#32
  let main_v0 : FVec F S4096x2560 .f32 := broadcastInDim S4096x2560 ![] bcast_S_S4096x2560 main_cst
  let main_v1 : IVec S4096x2560 1 := cmpf .olt main_arg0 main_v0
  let main_cst_0 : FVec F S_ .f32 := constant S_ .f32 0xFF800000#32
  let main_v2 : FVec F S4096x2560 .f32 := broadcastInDim S4096x2560 ![] bcast_S_S4096x2560 main_cst_0
  let main_v3 : IVec S4096x2560 1 := cmpf .ogt main_arg0 main_v2
  let main_v4 : IVec S4096x2560 1 := andi main_v1 main_v3
  let main_c : IVec S_ 1 := constantI S_ 1 1#1
  let main_v5 : IVec S_ 1 := (fun x v => Host.reduce IntOp.andi x v reducesTo_S4096x2560_S_d0_1 h_S_) main_v4 main_c
  let main_cst_1 : FVec F S_ .f32 := constant S_ .f32 0x7F800000#32
  let main_v6 : FVec F S1x4x512 .f32 := broadcastInDim S1x4x512 ![] bcast_S_S1x4x512 main_cst_1
  let main_v7 : IVec S1x4x512 1 := cmpf .olt main_arg1 main_v6
  let main_cst_2 : FVec F S_ .f32 := constant S_ .f32 0xFF800000#32
  let main_v8 : FVec F S1x4x512 .f32 := broadcastInDim S1x4x512 ![] bcast_S_S1x4x512 main_cst_2
  let main_v9 : IVec S1x4x512 1 := cmpf .ogt main_arg1 main_v8
  let main_v10 : IVec S1x4x512 1 := andi main_v7 main_v9
  let main_c_3 : IVec S_ 1 := constantI S_ 1 1#1
  let main_v11 : IVec S_ 1 := (fun x v => Host.reduce IntOp.andi x v reducesTo_S1x4x512_S_d0_1_2 h_S_) main_v10 main_c_3
  let main_v12 : IVec S_ 1 := andi main_v5 main_v11
  let main_cst_4 : FVec F S_ .f32 := constant S_ .f32 0x7F800000#32
  let main_v13 : FVec F S1x512 .f32 := broadcastInDim S1x512 ![] bcast_S_S1x512 main_cst_4
  let main_v14 : IVec S1x512 1 := cmpf .olt main_arg2 main_v13
  let main_cst_5 : FVec F S_ .f32 := constant S_ .f32 0xFF800000#32
  let main_v15 : FVec F S1x512 .f32 := broadcastInDim S1x512 ![] bcast_S_S1x512 main_cst_5
  fn_part1 (F := F) main_arg2 main_arg3 main_arg4 main_arg5 main_arg6 main_arg7 main_arg8 main_v12 main_v14 main_v15
-- ==== Pre_sb_finite.lean ====
abbrev S4096x2560 : Shape := ⟨2, ![4096, 2560]⟩
abbrev S1x64 : Shape := ⟨2, ![1, 64]⟩
abbrev S_ : Shape := ⟨0, ![]⟩

class Facts : Prop where
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg2 : FVec F S1x64 .f32) (main_v12 : IVec S_ 1) (main_v14 : IVec S1x64 1) (main_v15 : FVec F S1x64 .f32) : IVec S_ 1 :=
  let main_v16 : IVec S1x64 1 := cmpf .ogt main_arg2 main_v15
  let main_v17 : IVec S1x64 1 := andi main_v14 main_v16
  let main_c_6 : IVec S_ 1 := constantI S_ 1 1#1
  let main_v18 : IVec S_ 1 := (fun x v => Host.reduce IntOp.andi x v reducesTo_S1x64_S_d0_1 h_S_) main_v17 main_c_6
  let main_v19 : IVec S_ 1 := andi main_v12 main_v18
  main_v19

def fn {F : FTy → Type} [FloatOps F] (main_arg0 : FVec F S4096x2560 .f32) (main_arg1 : FVec F S1x64 .f32) (main_arg2 : FVec F S1x64 .f32) : IVec S_ 1 :=
  let main_cst : FVec F S_ .f32 := constant S_ .f32 0x7F800000#32
  let main_v0 : FVec F S4096x2560 .f32 := broadcastInDim S4096x2560 ![] bcast_S_S4096x2560 main_cst
  let main_v1 : IVec S4096x2560 1 := cmpf .olt main_arg0 main_v0
  let main_cst_0 : FVec F S_ .f32 := constant S_ .f32 0xFF800000#32
  let main_v2 : FVec F S4096x2560 .f32 := broadcastInDim S4096x2560 ![] bcast_S_S4096x2560 main_cst_0
  let main_v3 : IVec S4096x2560 1 := cmpf .ogt main_arg0 main_v2
  let main_v4 : IVec S4096x2560 1 := andi main_v1 main_v3
  let main_c : IVec S_ 1 := constantI S_ 1 1#1
  let main_v5 : IVec S_ 1 := (fun x v => Host.reduce IntOp.andi x v reducesTo_S4096x2560_S_d0_1 h_S_) main_v4 main_c
  let main_cst_1 : FVec F S_ .f32 := constant S_ .f32 0x7F800000#32
  let main_v6 : FVec F S1x64 .f32 := broadcastInDim S1x64 ![] bcast_S_S1x64 main_cst_1
  let main_v7 : IVec S1x64 1 := cmpf .olt main_arg1 main_v6
  let main_cst_2 : FVec F S_ .f32 := constant S_ .f32 0xFF800000#32
  let main_v8 : FVec F S1x64 .f32 := broadcastInDim S1x64 ![] bcast_S_S1x64 main_cst_2
  let main_v9 : IVec S1x64 1 := cmpf .ogt main_arg1 main_v8
  let main_v10 : IVec S1x64 1 := andi main_v7 main_v9
  let main_c_3 : IVec S_ 1 := constantI S_ 1 1#1
  let main_v11 : IVec S_ 1 := (fun x v => Host.reduce IntOp.andi x v reducesTo_S1x64_S_d0_1 h_S_) main_v10 main_c_3
  let main_v12 : IVec S_ 1 := andi main_v5 main_v11
  let main_cst_4 : FVec F S_ .f32 := constant S_ .f32 0x7F800000#32
  let main_v13 : FVec F S1x64 .f32 := broadcastInDim S1x64 ![] bcast_S_S1x64 main_cst_4
  let main_v14 : IVec S1x64 1 := cmpf .olt main_arg2 main_v13
  let main_cst_5 : FVec F S_ .f32 := constant S_ .f32 0xFF800000#32
  let main_v15 : FVec F S1x64 .f32 := broadcastInDim S1x64 ![] bcast_S_S1x64 main_cst_5
  fn_part1 (F := F) main_arg2 main_v12 main_v14 main_v15
-- ==== PreKernel.lean ====
abbrev S4096x1024 : Shape := ⟨2, ![4096, 1024]⟩
abbrev S1x1024 : Shape := ⟨2, ![1, 1024]⟩
abbrev S1x1024x2560 : Shape := ⟨3, ![1, 1024, 2560]⟩
abbrev S4096x512 : Shape := ⟨2, ![4096, 512]⟩
abbrev S1024x2560 : Shape := ⟨2, ![1024, 2560]⟩
abbrev S1024x4x640 : Shape := ⟨3, ![1024, 4, 640]⟩
abbrev S4x1024x640 : Shape := ⟨3, ![4, 1024, 640]⟩
abbrev S512x1024 : Shape := ⟨2, ![512, 1024]⟩
abbrev S512x512 : Shape := ⟨2, ![512, 512]⟩
abbrev S1x1024x640 : Shape := ⟨3, ![1, 1024, 640]⟩
abbrev S1024x640 : Shape := ⟨2, ![1024, 640]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 20
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S1024x2560, .f32⟩
  | .hbm, ⟨10, _⟩ => ⟨S1024x4x640, .f32⟩
  | .hbm, ⟨11, _⟩ => ⟨S4x1024x640, .f32⟩
  | .hbm, ⟨12, _⟩ => ⟨S4x1024x640, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x512, .bf16⟩
  | .hbm, ⟨18, _⟩ => ⟨S4096x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S4x1024x640, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x2560, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PreRefIdeal.lean ====
abbrev S4096x1024 : Shape := ⟨2, ![4096, 1024]⟩
abbrev S1x1024 : Shape := ⟨2, ![1, 1024]⟩
abbrev S1x1024x2560 : Shape := ⟨3, ![1, 1024, 2560]⟩
abbrev S4096x512 : Shape := ⟨2, ![4096, 512]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S4096x2560 : Shape := ⟨2, ![4096, 2560]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1024x2560, .f32⟩
  | .hbm, ⟨31, _⟩ => ⟨S4096x2560, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x2560, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== PostKernel.lean ====
abbrev S4096x1024 : Shape := ⟨2, ![4096, 1024]⟩
abbrev S4096x512 : Shape := ⟨2, ![4096, 512]⟩
abbrev S1x512 : Shape := ⟨2, ![1, 512]⟩
abbrev S1x1024x1024 : Shape := ⟨3, ![1, 1024, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S4096x1024, .f32⟩
  | .hbm, ⟨7, _⟩ => ⟨S1024x1024, .f32⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x1024, .bf16⟩
  | .hbm, ⟨12, _⟩ => ⟨S4096x1024, .bf16⟩
  | .hbm, ⟨13, _⟩ => ⟨S1x512, .f32⟩
  | .hbm, ⟨14, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512, .f32⟩
  | .local _ .vmem, ⟨18, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PostRefIdeal.lean ====
abbrev S4096x1024 : Shape := ⟨2, ![4096, 1024]⟩
abbrev S4096x512 : Shape := ⟨2, ![4096, 512]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S1x512, .f32⟩
  | 4 => ⟨S1x512, .f32⟩
  | 5 => ⟨S1x1024x1024, .f32⟩
  | 6 => ⟨S4096x1024, .f32⟩
  | 7 => ⟨S512, .f32⟩
  | 8 => ⟨S4096x512, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x512, .f32⟩
  | 24 => ⟨S4096x512, .f32⟩
  | 25 => ⟨S1x512, .f32⟩
  | 26 => ⟨S4096x512, .f32⟩
  | 27 => ⟨S4096x512, .f32⟩
  | 28 => ⟨S512, .f32⟩
  | 29 => ⟨S4096x512, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x512, .f32⟩
  | 45 => ⟨S4096x512, .f32⟩
  | 46 => ⟨S1x512, .f32⟩
  | 47 => ⟨S4096x512, .f32⟩
  | 48 => ⟨S4096x512, .f32⟩
  | 49 => ⟨S4096x1024, .f32⟩
  | 50 => ⟨S1024x1024, .f32⟩
  | 51 => ⟨S4096x1024, .f32⟩
  | 52 => ⟨S4096x1024, .f32⟩
  | 53 => ⟨S4096x1024, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S4096x512, .f32⟩
  | 61 => ⟨S4096x512, .f32⟩
  | 62 => ⟨S_, .f32⟩
  | 63 => ⟨S512, .f32⟩
  | 64 => ⟨S4096x512, .f32⟩
  | 65 => ⟨S_, .f32⟩
  | 66 => ⟨S4096, .f32⟩
  | 67 => ⟨S4096x1, .f32⟩
  | 68 => ⟨S4096x512, .f32⟩
  | 69 => ⟨S4096x512, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S1x512, .f32⟩
  | 82 => ⟨S4096x512, .f32⟩
  | 83 => ⟨S_, .f32⟩
  | 84 => ⟨S512, .f32⟩
  | 85 => ⟨S1x512, .f32⟩
  | 86 => ⟨S4096x512, .f32⟩
  | 87 => ⟨S4096x512, .f32⟩
  | 88 => ⟨S_, .f32⟩
  | 89 => ⟨S512, .f32⟩
  | 90 => ⟨S4096x512, .f32⟩
  | 91 => ⟨S_, .f32⟩
  | 92 => ⟨S4096, .f32⟩
  | 93 => ⟨S4096x1, .f32⟩
  | 94 => ⟨S4096x512, .f32⟩
  | 95 => ⟨S4096x512, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S4096x512, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096x1, .f32⟩
  | 118 => ⟨S4096x1, .f32⟩
  | 119 => ⟨S4096x1, .f32⟩
  | 120 => ⟨S4096x512, .f32⟩
  | 121 => ⟨S4096x512, .f32⟩
  | 122 => ⟨S1x512, .f32⟩
  | 123 => ⟨S4096x512, .f32⟩
  | 124 => ⟨S4096x512, .f32⟩
  | 125 => ⟨S512, .f32⟩
  | 126 => ⟨S4096x512, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096x1, .f32⟩
  | 7 => ⟨S4096x1, .f32⟩
  | 8 => ⟨S4096x1, .f32⟩
  | 9 => ⟨S4096x512, .f32⟩
  | 10 => ⟨S4096x512, .f32⟩
  | 11 => ⟨S1x512, .f32⟩
  | 12 => ⟨S4096x512, .f32⟩
  | 13 => ⟨S4096x512, .f32⟩
  | 14 => ⟨S4096x1024, .f32⟩
  | 15 => ⟨S4096x1024, .bf16⟩
  | 16 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_cst_21 : Ref sig .tc := ⟨.hbm, 130, rfl⟩
abbrev main_v101 : Ref sig .tc := ⟨.hbm, 131, rfl⟩
abbrev main_v102 : Ref sig .tc := ⟨.hbm, 132, rfl⟩
abbrev main_cst_22 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]
-- ==== FfnKernel.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1280x1024 : Shape := ⟨2, ![1280, 1024]⟩
abbrev S256x1280 : Shape := ⟨2, ![256, 1280]⟩
abbrev S1536x1024 : Shape := ⟨2, ![1536, 1024]⟩
abbrev S256x1536 : Shape := ⟨2, ![256, 1536]⟩
abbrev S1024 : Shape := ⟨1, ![1024]⟩

abbrev nBuf : Space → Nat
  | .hbm => 23
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S4096x2816, .bf16⟩
  | .hbm, ⟨15, _⟩ => ⟨S4096x2816, .bf16⟩
  | .hbm, ⟨16, _⟩ => ⟨S4096x1024, .bf16⟩
  | .hbm, ⟨17, _⟩ => ⟨S4096x2816, .bf16⟩
  | .hbm, ⟨18, _⟩ => ⟨S4096x1024, .f32⟩
  | .hbm, ⟨19, _⟩ => ⟨S4096x2816, .bf16⟩
  | .hbm, ⟨20, _⟩ => ⟨S4096x2816, .bf16⟩
  | .hbm, ⟨21, _⟩ => ⟨S4096x1024, .bf16⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S2816x1024, .bf16⟩
  | .local _ .vmem, ⟨23, _⟩ => ⟨S2816x1024, .bf16⟩
  | .local _ .vmem, ⟨24, _⟩ => ⟨S2816x1024, .bf16⟩
  | .local _ .vmem, ⟨25, _⟩ => ⟨S256x1024, .f32⟩
  | .local _ .vmem, ⟨26, _⟩ => ⟨S256x1024, .f32⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== FfnRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S4096x2816 : Shape := ⟨2, ![4096, 2816]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S4096x1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S1024x2816, .f32⟩
  | 28 => ⟨S1024x2816, .f32⟩
  | 29 => ⟨S2816x1024, .f32⟩
  | 30 => ⟨S4096x2816, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S4096x2816, .f32⟩
  | 43 => ⟨S4096x2816, .f32⟩
  | 44 => ⟨S4096x2816, .f32⟩
  | 45 => ⟨S4096x2816, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x2816, .f32⟩
  | 56 => ⟨S4096x2816, .f32⟩
  | 57 => ⟨S4096x2816, .f32⟩
  | 58 => ⟨S4096x1024, .f32⟩
  | 59 => ⟨S4096x2816, .f32⟩
  | 60 => ⟨S4096x2816, .f32⟩
  | 61 => ⟨S4096x2816, .f32⟩
  | 62 => ⟨S4096x2816, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S4096x1024, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S4096x1024, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x1024, .f32⟩
  | 105 => ⟨S4096x1024, .f32⟩
  | 106 => ⟨S1x1024, .f32⟩
  | 107 => ⟨S4096x1024, .f32⟩
  | 108 => ⟨S4096x1024, .f32⟩
  | 109 => ⟨S1024x2816, .f32⟩
  | 110 => ⟨S4096x2816, .f32⟩
  | 111 => ⟨S1024x2816, .f32⟩
  | 112 => ⟨S4096x2816, .f32⟩
  | 113 => ⟨S4096x2816, .f32⟩
  | 114 => ⟨S4096x2816, .f32⟩
  | 115 => ⟨S_, .f32⟩
  | 116 => ⟨S4096x2816, .f32⟩
  | 117 => ⟨S4096x2816, .f32⟩
  | 118 => ⟨S_, .f32⟩
  | 119 => ⟨S4096x2816, .f32⟩
  | 120 => ⟨S4096x2816, .f32⟩
  | 121 => ⟨S_, .f32⟩
  | 122 => ⟨S4096x2816, .f32⟩
  | 123 => ⟨S4096x2816, .f32⟩
  | 124 => ⟨S4096x2816, .f32⟩
  | 125 => ⟨S4096x2816, .f32⟩
  | 126 => ⟨S4096x2816, .f32⟩
  | 127 => ⟨S2816x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S_, .f32⟩
  | 5 => ⟨S4096x1024, .f32⟩
  | 6 => ⟨S4096x1024, .f32⟩
  | 7 => ⟨S4096x2816, .f32⟩
  | 8 => ⟨S4096x2816, .f32⟩
  | 9 => ⟨S4096x2816, .f32⟩
  | 10 => ⟨S4096x2816, .f32⟩
  | 11 => ⟨S4096x2816, .f32⟩
  | 12 => ⟨S4096x2816, .f32⟩
  | 13 => ⟨S4096x2816, .f32⟩
  | 14 => ⟨S4096x2816, .f32⟩
  | 15 => ⟨S4096x2816, .f32⟩
  | 16 => ⟨S_, .f32⟩
  | 17 => ⟨S4096x2816, .f32⟩
  | 18 => ⟨S4096x2816, .f32⟩
  | 19 => ⟨S_, .f32⟩
  | 20 => ⟨S4096x2816, .f32⟩
  | 21 => ⟨S4096x2816, .f32⟩
  | 22 => ⟨S4096x2816, .f32⟩
  | 23 => ⟨S4096x2816, .f32⟩
  | 24 => ⟨S4096x2816, .bf16⟩
  | 25 => ⟨S4096x2816, .bf16⟩
  | 26 => ⟨S4096x1024, .bf16⟩
  | 27 => ⟨S4096x2816, .bf16⟩
  | 28 => ⟨S4096x2816, .bf16⟩
  | 29 => ⟨S4096x1024, .bf16⟩
  | 30 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_v78_2 : Ref sig .tc := ⟨.hbm, 120, rfl⟩
abbrev main_call2_cst_1 : Ref sig .tc := ⟨.hbm, 121, rfl⟩
abbrev main_call2_v6 : Ref sig .tc := ⟨.hbm, 122, rfl⟩
abbrev main_call2_v7 : Ref sig .tc := ⟨.hbm, 123, rfl⟩
abbrev main_v78_1 : Ref sig .tc := ⟨.hbm, 124, rfl⟩
abbrev main_v78_0 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_13 : Ref sig .tc := ⟨.hbm, 129, rfl⟩
abbrev main_v82 : Ref sig .tc := ⟨.hbm, 130, rfl⟩
abbrev main_v83 : Ref sig .tc := ⟨.hbm, 131, rfl⟩
abbrev main_cst_14 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v89 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_call4_v5 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩

abbrev nD : Nat := 1
abbrev τ : Topo := Topo.v7x

variable {F : FTy → Type} [FloatOps F]
-- ==== LossKernel.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1280x1024 : Shape := ⟨2, ![1280, 1024]⟩
abbrev S256x1280 : Shape := ⟨2, ![256, 1280]⟩
abbrev S1536x1024 : Shape := ⟨2, ![1536, 1024]⟩
abbrev S256x1536 : Shape := ⟨2, ![256, 1536]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 20
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S4096x1024, .f32⟩
  | .hbm, ⟨15, _⟩ => ⟨S4096x2816, .bf16⟩
  | .hbm, ⟨16, _⟩ => ⟨S4096x2816, .bf16⟩
  | .hbm, ⟨17, _⟩ => ⟨S4096x1024, .bf16⟩
  | .hbm, ⟨18, _⟩ => ⟨S4096x2816, .bf16⟩
  | .hbm, ⟨19, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S1024x2816, .f32⟩
  | .hbm, ⟨26, _⟩ => ⟨S4096x2816, .f32⟩
  | .hbm, ⟨27, _⟩ => ⟨S1024x2816, .f32⟩
  | .hbm, ⟨28, _⟩ => ⟨S1024x2816, .f32⟩
  | .hbm, ⟨29, _⟩ => ⟨S2816x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x2816, .bf16⟩
  | .hbm, ⟨71, _⟩ => ⟨S4096x2816, .bf16⟩
  | .hbm, ⟨72, _⟩ => ⟨S4096x1024, .bf16⟩
  | .hbm, ⟨73, _⟩ => ⟨S4096x2816, .f32⟩
  | .hbm, ⟨74, _⟩ => ⟨S4096x2816, .f32⟩
  | .hbm, ⟨75, _⟩ => ⟨S_, .f32⟩
  | .hbm, ⟨76, _⟩ => ⟨S4096x2816, .f32⟩
  | .hbm, ⟨77, _⟩ => ⟨S4096x2816, .f32⟩
  | .hbm, ⟨78, _⟩ => ⟨S_, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S4096x2816, .bf16⟩
  | .hbm, ⟨84, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩

abbrev nD : Nat := 1
abbrev τ : Topo := Topo.v7x

variable {F : FTy → Type} [FloatOps F]
-- ==== RnnKernel.lean ====
abbrev S4096x2560 : Shape := ⟨2, ![4096, 2560]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S8x64x64 : Shape := ⟨3, ![8, 64, 64]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x512 : Shape := ⟨2, ![4, 512]⟩
abbrev S3x512 : Shape := ⟨2, ![3, 512]⟩
abbrev S4099x512 : Shape := ⟨2, ![4099, 512]⟩
abbrev S512 : Shape := ⟨1, ![512]⟩
abbrev S2048x2x512 : Shape := ⟨3, ![2048, 2, 512]⟩
abbrev S2048x1x512 : Shape := ⟨3, ![2048, 1, 512]⟩
abbrev S2048x512 : Shape := ⟨2, ![2048, 512]⟩
abbrev S1024x2x512 : Shape := ⟨3, ![1024, 2, 512]⟩
abbrev S1024x1x512 : Shape := ⟨3, ![1024, 1, 512]⟩
abbrev S1024x512 : Shape := ⟨2, ![1024, 512]⟩
abbrev S512x2x512 : Shape := ⟨3, ![512, 2, 512]⟩
abbrev S512x1x512 : Shape := ⟨3, ![512, 1, 512]⟩
abbrev S256x2x512 : Shape := ⟨3, ![256, 2, 512]⟩
abbrev S256x1x512 : Shape := ⟨3, ![256, 1, 512]⟩
abbrev S256x512 : Shape := ⟨2, ![256, 512]⟩
abbrev S128x2x512 : Shape := ⟨3, ![128, 2, 512]⟩
abbrev S128x1x512 : Shape := ⟨3, ![128, 1, 512]⟩
abbrev S128x512 : Shape := ⟨2, ![128, 512]⟩
abbrev S64x2x512 : Shape := ⟨3, ![64, 2, 512]⟩
abbrev S64x1x512 : Shape := ⟨3, ![64, 1, 512]⟩
abbrev S64x512 : Shape := ⟨2, ![64, 512]⟩
abbrev S32x2x512 : Shape := ⟨3, ![32, 2, 512]⟩
abbrev S32x1x512 : Shape := ⟨3, ![32, 1, 512]⟩
abbrev S32x512 : Shape := ⟨2, ![32, 512]⟩
abbrev S16x2x512 : Shape := ⟨3, ![16, 2, 512]⟩
abbrev S16x1x512 : Shape := ⟨3, ![16, 1, 512]⟩
abbrev S16x512 : Shape := ⟨2, ![16, 512]⟩
abbrev S8x2x512 : Shape := ⟨3, ![8, 2, 512]⟩
abbrev S8x1x512 : Shape := ⟨3, ![8, 1, 512]⟩
abbrev S8x512 : Shape := ⟨2, ![8, 512]⟩
abbrev S4x2x512 : Shape := ⟨3, ![4, 2, 512]⟩
abbrev S4x1x512 : Shape := ⟨3, ![4, 1, 512]⟩
abbrev S2x2x512 : Shape := ⟨3, ![2, 2, 512]⟩
abbrev S2x1x512 : Shape := ⟨3, ![2, 1, 512]⟩
abbrev S2x512 : Shape := ⟨2, ![2, 512]⟩
abbrev S1x2x512 : Shape := ⟨3, ![1, 2, 512]⟩
abbrev S1x1x512 : Shape := ⟨3, ![1, 1, 512]⟩
abbrev S5x512 : Shape := ⟨2, ![5, 512]⟩
abbrev S9x512 : Shape := ⟨2, ![9, 512]⟩
abbrev S17x512 : Shape := ⟨2, ![17, 512]⟩
abbrev S33x512 : Shape := ⟨2, ![33, 512]⟩
abbrev S65x512 : Shape := ⟨2, ![65, 512]⟩
abbrev S129x512 : Shape := ⟨2, ![129, 512]⟩
abbrev S257x512 : Shape := ⟨2, ![257, 512]⟩
abbrev S513x512 : Shape := ⟨2, ![513, 512]⟩
abbrev S1025x512 : Shape := ⟨2, ![1025, 512]⟩
abbrev S2049x512 : Shape := ⟨2, ![2049, 512]⟩
abbrev S504x512 : Shape := ⟨2, ![504, 512]⟩

abbrev nBuf : Space → Nat
  | .hbm => 486
  | .vmem => 32
  | .smem => 0
  | _ => 0

abbrev hbmTy0_0 (i : Nat) : BufTy := match i % 128 with
  | 0 => ⟨S4096x2560, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S4096x512, .f32⟩
  | 9 => ⟨S8x64x64, .f32⟩
  | 10 => ⟨S8x64x1x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S8x1x8x1, .f32⟩
  | 19 => ⟨S8x64x8x64, .f32⟩
  | 20 => ⟨S8x64x8x64, .f32⟩
  | 21 => ⟨S8x64x8x64, .f32⟩
  | 22 => ⟨S512x512, .f32⟩
  | 23 => ⟨S8x64x64, .f32⟩
  | 24 => ⟨S8x64x1x64, .f32⟩
  | 25 => ⟨S8x8, .i32⟩
  | 26 => ⟨S8x8, .i32⟩
  | 27 => ⟨S_, .i32⟩
  | 28 => ⟨S8x8, .i32⟩
  | 29 => ⟨S8x8, .i32⟩
  | 30 => ⟨S8x8, .i1⟩
  | 31 => ⟨S8x8, .f32⟩
  | 32 => ⟨S8x1x8x1, .f32⟩
  | 33 => ⟨S8x64x8x64, .f32⟩
  | 34 => ⟨S8x64x8x64, .f32⟩
  | 35 => ⟨S8x64x8x64, .f32⟩
  | 36 => ⟨S512x512, .f32⟩
  | 37 => ⟨S4x512, .f32⟩
  | 38 => ⟨S4096x512, .f32⟩
  | 39 => ⟨S_, .f32⟩
  | 40 => ⟨S3x512, .f32⟩
  | 41 => ⟨S4099x512, .f32⟩
  | 42 => ⟨S4096x512, .f32⟩
  | 43 => ⟨S1x512, .f32⟩
  | 44 => ⟨S512, .f32⟩
  | 45 => ⟨S1x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S1x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S1x512, .f32⟩
  | 105 => ⟨S1x512, .i1⟩
  | 106 => ⟨S1x512, .f32⟩
  | 107 => ⟨S1x512, .f32⟩
  | 108 => ⟨S1x512, .f32⟩
  | 109 => ⟨S1x512, .f32⟩
  | 110 => ⟨S1x512, .f32⟩
  | 111 => ⟨S1x512, .f32⟩
  | 112 => ⟨S1x512, .f32⟩
  | 113 => ⟨S1x512, .f32⟩
  | 114 => ⟨S1x512, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S2048x2x512, .f32⟩
  | 127 => ⟨S2048x2x512, .f32⟩
  | _ => ⟨S4096x2560, .f32⟩

abbrev hbmTy0_1 (i : Nat) : BufTy := match i % 128 with
  | 0 => ⟨S2048x1x512, .f32⟩
  | 1 => ⟨S2048x512, .f32⟩
  | 2 => ⟨S2048x1x512, .f32⟩
  | 3 => ⟨S2048x512, .f32⟩
  | 4 => ⟨S2048x512, .f32⟩
  | 5 => ⟨S2048x1x512, .f32⟩
  | 6 => ⟨S2048x512, .f32⟩
  | 7 => ⟨S2048x1x512, .f32⟩
  | 8 => ⟨S2048x512, .f32⟩
  | 9 => ⟨S2048x512, .f32⟩
  | 10 => ⟨S2048x1x512, .f32⟩
  | 11 => ⟨S2048x512, .f32⟩
  | 12 => ⟨S2048x512, .f32⟩
  | 13 => ⟨S1024x2x512, .f32⟩
  | 14 => ⟨S1024x2x512, .f32⟩
  | 15 => ⟨S1024x1x512, .f32⟩
  | 16 => ⟨S1024x512, .f32⟩
  | 17 => ⟨S1024x1x512, .f32⟩
  | 18 => ⟨S1024x512, .f32⟩
  | 19 => ⟨S1024x512, .f32⟩
  | 20 => ⟨S1024x1x512, .f32⟩
  | 21 => ⟨S1024x512, .f32⟩
  | 22 => ⟨S1024x1x512, .f32⟩
  | 23 => ⟨S1024x512, .f32⟩
  | 24 => ⟨S1024x512, .f32⟩
  | 25 => ⟨S1024x1x512, .f32⟩
  | 26 => ⟨S1024x512, .f32⟩
  | 27 => ⟨S1024x512, .f32⟩
  | 28 => ⟨S512x2x512, .f32⟩
  | 29 => ⟨S512x2x512, .f32⟩
  | 30 => ⟨S512x1x512, .f32⟩
  | 31 => ⟨S512x512, .f32⟩
  | 32 => ⟨S512x1x512, .f32⟩
  | 33 => ⟨S512x512, .f32⟩
  | 34 => ⟨S512x512, .f32⟩
  | 35 => ⟨S512x1x512, .f32⟩
  | 36 => ⟨S512x512, .f32⟩
  | 37 => ⟨S512x1x512, .f32⟩
  | 38 => ⟨S512x512, .f32⟩
  | 39 => ⟨S512x512, .f32⟩
  | 40 => ⟨S512x1x512, .f32⟩
  | 41 => ⟨S512x512, .f32⟩
  | 42 => ⟨S512x512, .f32⟩
  | 43 => ⟨S256x2x512, .f32⟩
  | 44 => ⟨S256x2x512, .f32⟩
  | 45 => ⟨S256x1x512, .f32⟩
  | 46 => ⟨S256x512, .f32⟩
  | 47 => ⟨S256x1x512, .f32⟩
  | 48 => ⟨S256x512, .f32⟩
  | 49 => ⟨S256x512, .f32⟩
  | 50 => ⟨S256x1x512, .f32⟩
  | 51 => ⟨S256x512, .f32⟩
  | 52 => ⟨S256x1x512, .f32⟩
  | 53 => ⟨S256x512, .f32⟩
  | 54 => ⟨S256x512, .f32⟩
  | 55 => ⟨S256x1x512, .f32⟩
  | 56 => ⟨S256x512, .f32⟩
  | 57 => ⟨S256x512, .f32⟩
  | 58 => ⟨S128x2x512, .f32⟩
  | 59 => ⟨S128x2x512, .f32⟩
  | 60 => ⟨S128x1x512, .f32⟩
  | 61 => ⟨S128x512, .f32⟩
  | 62 => ⟨S128x1x512, .f32⟩
  | 63 => ⟨S128x512, .f32⟩
  | 64 => ⟨S128x512, .f32⟩
  | 65 => ⟨S128x1x512, .f32⟩
  | 66 => ⟨S128x512, .f32⟩
  | 67 => ⟨S128x1x512, .f32⟩
  | 68 => ⟨S128x512, .f32⟩
  | 69 => ⟨S128x512, .f32⟩
  | 70 => ⟨S128x1x512, .f32⟩
  | 71 => ⟨S128x512, .f32⟩
  | 72 => ⟨S128x512, .f32⟩
  | 73 => ⟨S64x2x512, .f32⟩
  | 74 => ⟨S64x2x512, .f32⟩
  | 75 => ⟨S64x1x512, .f32⟩
  | 76 => ⟨S64x512, .f32⟩
  | 77 => ⟨S64x1x512, .f32⟩
  | 78 => ⟨S64x512, .f32⟩
  | 79 => ⟨S64x512, .f32⟩
  | 80 => ⟨S64x1x512, .f32⟩
  | 81 => ⟨S64x512, .f32⟩
  | 82 => ⟨S64x1x512, .f32⟩
  | 83 => ⟨S64x512, .f32⟩
  | 84 => ⟨S64x512, .f32⟩
  | 85 => ⟨S64x1x512, .f32⟩
  | 86 => ⟨S64x512, .f32⟩
  | 87 => ⟨S64x512, .f32⟩
  | 88 => ⟨S32x2x512, .f32⟩
  | 89 => ⟨S32x2x512, .f32⟩
  | 90 => ⟨S32x1x512, .f32⟩
  | 91 => ⟨S32x512, .f32⟩
  | 92 => ⟨S32x1x512, .f32⟩
  | 93 => ⟨S32x512, .f32⟩
  | 94 => ⟨S32x512, .f32⟩
  | 95 => ⟨S32x1x512, .f32⟩
  | 96 => ⟨S32x512, .f32⟩
  | 97 => ⟨S32x1x512, .f32⟩
  | 98 => ⟨S32x512, .f32⟩
  | 99 => ⟨S32x512, .f32⟩
  | 100 => ⟨S32x1x512, .f32⟩
  | 101 => ⟨S32x512, .f32⟩
  | 102 => ⟨S32x512, .f32⟩
  | 103 => ⟨S16x2x512, .f32⟩
  | 104 => ⟨S16x2x512, .f32⟩
  | 105 => ⟨S16x1x512, .f32⟩
  | 106 => ⟨S16x512, .f32⟩
  | 107 => ⟨S16x1x512, .f32⟩
  | 108 => ⟨S16x512, .f32⟩
  | 109 => ⟨S16x512, .f32⟩
  | 110 => ⟨S16x1x512, .f32⟩
  | 111 => ⟨S16x512, .f32⟩
  | 112 => ⟨S16x1x512, .f32⟩
  | 113 => ⟨S16x512, .f32⟩
  | 114 => ⟨S16x512, .f32⟩
  | 115 => ⟨S16x1x512, .f32⟩
  | 116 => ⟨S16x512, .f32⟩
  | 117 => ⟨S16x512, .f32⟩
  | 118 => ⟨S8x2x512, .f32⟩
  | 119 => ⟨S8x2x512, .f32⟩
  | 120 => ⟨S8x1x512, .f32⟩
  | 121 => ⟨S8x512, .f32⟩
  | 122 => ⟨S8x1x512, .f32⟩
  | 123 => ⟨S8x512, .f32⟩
  | 124 => ⟨S8x512, .f32⟩
  | 125 => ⟨S8x1x512, .f32⟩
  | 126 => ⟨S8x512, .f32⟩
  | 127 => ⟨S8x1x512, .f32⟩
  | _ => ⟨S4096x2560, .f32⟩

abbrev hbmTy0_2 (i : Nat) : BufTy := match i % 128 with
  | 0 => ⟨S8x512, .f32⟩
  | 1 => ⟨S8x512, .f32⟩
  | 2 => ⟨S8x1x512, .f32⟩
  | 3 => ⟨S8x512, .f32⟩
  | 4 => ⟨S8x512, .f32⟩
  | 5 => ⟨S4x2x512, .f32⟩
  | 6 => ⟨S4x2x512, .f32⟩
  | 7 => ⟨S4x1x512, .f32⟩
  | 8 => ⟨S4x512, .f32⟩
  | 9 => ⟨S4x1x512, .f32⟩
  | 10 => ⟨S4x512, .f32⟩
  | 11 => ⟨S4x512, .f32⟩
  | 12 => ⟨S4x1x512, .f32⟩
  | 13 => ⟨S4x512, .f32⟩
  | 14 => ⟨S4x1x512, .f32⟩
  | 15 => ⟨S4x512, .f32⟩
  | 16 => ⟨S4x512, .f32⟩
  | 17 => ⟨S4x1x512, .f32⟩
  | 18 => ⟨S4x512, .f32⟩
  | 19 => ⟨S4x512, .f32⟩
  | 20 => ⟨S2x2x512, .f32⟩
  | 21 => ⟨S2x2x512, .f32⟩
  | 22 => ⟨S2x1x512, .f32⟩
  | 23 => ⟨S2x512, .f32⟩
  | 24 => ⟨S2x1x512, .f32⟩
  | 25 => ⟨S2x512, .f32⟩
  | 26 => ⟨S2x512, .f32⟩
  | 27 => ⟨S2x1x512, .f32⟩
  | 28 => ⟨S2x512, .f32⟩
  | 29 => ⟨S2x1x512, .f32⟩
  | 30 => ⟨S2x512, .f32⟩
  | 31 => ⟨S2x512, .f32⟩
  | 32 => ⟨S2x1x512, .f32⟩
  | 33 => ⟨S2x512, .f32⟩
  | 34 => ⟨S2x512, .f32⟩
  | 35 => ⟨S1x2x512, .f32⟩
  | 36 => ⟨S1x2x512, .f32⟩
  | 37 => ⟨S1x1x512, .f32⟩
  | 38 => ⟨S1x512, .f32⟩
  | 39 => ⟨S1x1x512, .f32⟩
  | 40 => ⟨S1x512, .f32⟩
  | 41 => ⟨S1x512, .f32⟩
  | 42 => ⟨S1x1x512, .f32⟩
  | 43 => ⟨S1x512, .f32⟩
  | 44 => ⟨S1x1x512, .f32⟩
  | 45 => ⟨S1x512, .f32⟩
  | 46 => ⟨S1x512, .f32⟩
  | 47 => ⟨S1x1x512, .f32⟩
  | 48 => ⟨S1x512, .f32⟩
  | 49 => ⟨S1x512, .f32⟩
  | 50 => ⟨S_, .f32⟩
  | 51 => ⟨S1x512, .f32⟩
  | 52 => ⟨S2x512, .f32⟩
  | 53 => ⟨S1x512, .f32⟩
  | 54 => ⟨S1x1x512, .f32⟩
  | 55 => ⟨S1x512, .f32⟩
  | 56 => ⟨S1x512, .f32⟩
  | 57 => ⟨S1x1x512, .f32⟩
  | 58 => ⟨S1x512, .f32⟩
  | 59 => ⟨S1x512, .f32⟩
  | 60 => ⟨S1x1x512, .f32⟩
  | 61 => ⟨S1x1x512, .f32⟩
  | 62 => ⟨S1x2x512, .f32⟩
  | 63 => ⟨S2x512, .f32⟩
  | 64 => ⟨S_, .f32⟩
  | 65 => ⟨S1x512, .f32⟩
  | 66 => ⟨S3x512, .f32⟩
  | 67 => ⟨S2x512, .f32⟩
  | 68 => ⟨S2x1x512, .f32⟩
  | 69 => ⟨S2x512, .f32⟩
  | 70 => ⟨S2x512, .f32⟩
  | 71 => ⟨S2x1x512, .f32⟩
  | 72 => ⟨S2x512, .f32⟩
  | 73 => ⟨S2x512, .f32⟩
  | 74 => ⟨S2x1x512, .f32⟩
  | 75 => ⟨S2x1x512, .f32⟩
  | 76 => ⟨S2x2x512, .f32⟩
  | 77 => ⟨S4x512, .f32⟩
  | 78 => ⟨S_, .f32⟩
  | 79 => ⟨S1x512, .f32⟩
  | 80 => ⟨S5x512, .f32⟩
  | 81 => ⟨S4x512, .f32⟩
  | 82 => ⟨S4x1x512, .f32⟩
  | 83 => ⟨S4x512, .f32⟩
  | 84 => ⟨S4x512, .f32⟩
  | 85 => ⟨S4x1x512, .f32⟩
  | 86 => ⟨S4x512, .f32⟩
  | 87 => ⟨S4x512, .f32⟩
  | 88 => ⟨S4x1x512, .f32⟩
  | 89 => ⟨S4x1x512, .f32⟩
  | 90 => ⟨S4x2x512, .f32⟩
  | 91 => ⟨S8x512, .f32⟩
  | 92 => ⟨S_, .f32⟩
  | 93 => ⟨S1x512, .f32⟩
  | 94 => ⟨S9x512, .f32⟩
  | 95 => ⟨S8x512, .f32⟩
  | 96 => ⟨S8x1x512, .f32⟩
  | 97 => ⟨S8x512, .f32⟩
  | 98 => ⟨S8x512, .f32⟩
  | 99 => ⟨S8x1x512, .f32⟩
  | 100 => ⟨S8x512, .f32⟩
  | 101 => ⟨S8x512, .f32⟩
  | 102 => ⟨S8x1x512, .f32⟩
  | 103 => ⟨S8x1x512, .f32⟩
  | 104 => ⟨S8x2x512, .f32⟩
  | 105 => ⟨S16x512, .f32⟩
  | 106 => ⟨S_, .f32⟩
  | 107 => ⟨S1x512, .f32⟩
  | 108 => ⟨S17x512, .f32⟩
  | 109 => ⟨S16x512, .f32⟩
  | 110 => ⟨S16x1x512, .f32⟩
  | 111 => ⟨S16x512, .f32⟩
  | 112 => ⟨S16x512, .f32⟩
  | 113 => ⟨S16x1x512, .f32⟩
  | 114 => ⟨S16x512, .f32⟩
  | 115 => ⟨S16x512, .f32⟩
  | 116 => ⟨S16x1x512, .f32⟩
  | 117 => ⟨S16x1x512, .f32⟩
  | 118 => ⟨S16x2x512, .f32⟩
  | 119 => ⟨S32x512, .f32⟩
  | 120 => ⟨S_, .f32⟩
  | 121 => ⟨S1x512, .f32⟩
  | 122 => ⟨S33x512, .f32⟩
  | 123 => ⟨S32x512, .f32⟩
  | 124 => ⟨S32x1x512, .f32⟩
  | 125 => ⟨S32x512, .f32⟩
  | 126 => ⟨S32x512, .f32⟩
  | 127 => ⟨S32x1x512, .f32⟩
  | _ => ⟨S4096x2560, .f32⟩

abbrev hbmTy0_3 (i : Nat) : BufTy := match i % 128 with
  | 0 => ⟨S32x512, .f32⟩
  | 1 => ⟨S32x512, .f32⟩
  | 2 => ⟨S32x1x512, .f32⟩
  | 3 => ⟨S32x1x512, .f32⟩
  | 4 => ⟨S32x2x512, .f32⟩
  | 5 => ⟨S64x512, .f32⟩
  | 6 => ⟨S_, .f32⟩
  | 7 => ⟨S1x512, .f32⟩
  | 8 => ⟨S65x512, .f32⟩
  | 9 => ⟨S64x512, .f32⟩
  | 10 => ⟨S64x1x512, .f32⟩
  | 11 => ⟨S64x512, .f32⟩
  | 12 => ⟨S64x512, .f32⟩
  | 13 => ⟨S64x1x512, .f32⟩
  | 14 => ⟨S64x512, .f32⟩
  | 15 => ⟨S64x512, .f32⟩
  | 16 => ⟨S64x1x512, .f32⟩
  | 17 => ⟨S64x1x512, .f32⟩
  | 18 => ⟨S64x2x512, .f32⟩
  | 19 => ⟨S128x512, .f32⟩
  | 20 => ⟨S_, .f32⟩
  | 21 => ⟨S1x512, .f32⟩
  | 22 => ⟨S129x512, .f32⟩
  | 23 => ⟨S128x512, .f32⟩
  | 24 => ⟨S128x1x512, .f32⟩
  | 25 => ⟨S128x512, .f32⟩
  | 26 => ⟨S128x512, .f32⟩
  | 27 => ⟨S128x1x512, .f32⟩
  | 28 => ⟨S128x512, .f32⟩
  | 29 => ⟨S128x512, .f32⟩
  | 30 => ⟨S128x1x512, .f32⟩
  | 31 => ⟨S128x1x512, .f32⟩
  | 32 => ⟨S128x2x512, .f32⟩
  | 33 => ⟨S256x512, .f32⟩
  | 34 => ⟨S_, .f32⟩
  | 35 => ⟨S1x512, .f32⟩
  | 36 => ⟨S257x512, .f32⟩
  | 37 => ⟨S256x512, .f32⟩
  | 38 => ⟨S256x1x512, .f32⟩
  | 39 => ⟨S256x512, .f32⟩
  | 40 => ⟨S256x512, .f32⟩
  | 41 => ⟨S256x1x512, .f32⟩
  | 42 => ⟨S256x512, .f32⟩
  | 43 => ⟨S256x512, .f32⟩
  | 44 => ⟨S256x1x512, .f32⟩
  | 45 => ⟨S256x1x512, .f32⟩
  | 46 => ⟨S256x2x512, .f32⟩
  | 47 => ⟨S512x512, .f32⟩
  | 48 => ⟨S_, .f32⟩
  | 49 => ⟨S1x512, .f32⟩
  | 50 => ⟨S513x512, .f32⟩
  | 51 => ⟨S512x512, .f32⟩
  | 52 => ⟨S512x1x512, .f32⟩
  | 53 => ⟨S512x512, .f32⟩
  | 54 => ⟨S512x512, .f32⟩
  | 55 => ⟨S512x1x512, .f32⟩
  | 56 => ⟨S512x512, .f32⟩
  | 57 => ⟨S512x512, .f32⟩
  | 58 => ⟨S512x1x512, .f32⟩
  | 59 => ⟨S512x1x512, .f32⟩
  | 60 => ⟨S512x2x512, .f32⟩
  | 61 => ⟨S1024x512, .f32⟩
  | 62 => ⟨S_, .f32⟩
  | 63 => ⟨S1x512, .f32⟩
  | 64 => ⟨S1025x512, .f32⟩
  | 65 => ⟨S1024x512, .f32⟩
  | 66 => ⟨S1024x1x512, .f32⟩
  | 67 => ⟨S1024x512, .f32⟩
  | 68 => ⟨S1024x512, .f32⟩
  | 69 => ⟨S1024x1x512, .f32⟩
  | 70 => ⟨S1024x512, .f32⟩
  | 71 => ⟨S1024x512, .f32⟩
  | 72 => ⟨S1024x1x512, .f32⟩
  | 73 => ⟨S1024x1x512, .f32⟩
  | 74 => ⟨S1024x2x512, .f32⟩
  | 75 => ⟨S2048x512, .f32⟩
  | 76 => ⟨S_, .f32⟩
  | 77 => ⟨S1x512, .f32⟩
  | 78 => ⟨S2049x512, .f32⟩
  | 79 => ⟨S2048x512, .f32⟩
  | 80 => ⟨S2048x1x512, .f32⟩
  | 81 => ⟨S2048x512, .f32⟩
  | 82 => ⟨S2048x512, .f32⟩
  | 83 => ⟨S2048x1x512, .f32⟩
  | 84 => ⟨S2048x512, .f32⟩
  | 85 => ⟨S2048x512, .f32⟩
  | 86 => ⟨S2048x1x512, .f32⟩
  | 87 => ⟨S2048x1x512, .f32⟩
  | 88 => ⟨S2048x2x512, .f32⟩
  | 89 => ⟨S4096x512, .f32⟩
  | 90 => ⟨S4x512, .f32⟩
  | 91 => ⟨S512x512, .bf16⟩
  | 92 => ⟨S512x512, .bf16⟩
  | 93 => ⟨S4096x512, .bf16⟩
  | 94 => ⟨S4096x512, .bf16⟩
  | 95 => ⟨S4x512, .f32⟩
  | 96 => ⟨S1x512, .f32⟩
  | 97 => ⟨S512x512, .f32⟩
  | 98 => ⟨S1x512, .f32⟩
  | 99 => ⟨S512x512, .f32⟩
  | 100 => ⟨S1x512, .f32⟩
  | 101 => ⟨S1x512, .f32⟩
  | _ => ⟨S4096x2560, .f32⟩

abbrev hbmTy (i : Nat) : BufTy := match i / 128 with
  | 0 => hbmTy0_0 i
  | 1 => hbmTy0_1 i
  | 2 => hbmTy0_2 i
  | 3 => hbmTy0_3 i
  | _ => ⟨S4096x2560, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | .local _ .vmem, ⟨12, _⟩ => ⟨S4x512, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S4x512, .f32⟩
  | .local _ .vmem, ⟨24, _⟩ => ⟨S1x512, .f32⟩
  | .local _ .vmem, ⟨25, _⟩ => ⟨S512x512, .f32⟩
  | .local _ .vmem, ⟨26, _⟩ => ⟨S1x512, .f32⟩
  | .local _ .vmem, ⟨27, _⟩ => ⟨S512x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S8x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_4 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_cst_6 : Ref sig .tc := ⟨.hbm, 96, rfl⟩
abbrev main_v79 : Ref sig .tc := ⟨.hbm, 97, rfl⟩
abbrev main_v80 : Ref sig .tc := ⟨.hbm, 98, rfl⟩
abbrev main_call0_v0 : Ref sig .tc := ⟨.hbm, 99, rfl⟩
abbrev main_call0_call0_cst : Ref sig .tc := ⟨.hbm, 100, rfl⟩
abbrev main_call0_call0_v0 : Ref sig .tc := ⟨.hbm, 101, rfl⟩
abbrev main_call0_call0_v1 : Ref sig .tc := ⟨.hbm, 102, rfl⟩
abbrev main_call0_call0_v2 : Ref sig .tc := ⟨.hbm, 103, rfl⟩
abbrev main_call0_call0_v3 : Ref sig .tc := ⟨.hbm, 104, rfl⟩
abbrev main_call0_call0_v4 : Ref sig .tc := ⟨.hbm, 105, rfl⟩
abbrev main_call0_call0_v5 : Ref sig .tc := ⟨.hbm, 106, rfl⟩
abbrev main_call0_call0_v6 : Ref sig .tc := ⟨.hbm, 107, rfl⟩
abbrev main_call0_call0_v7 : Ref sig .tc := ⟨.hbm, 108, rfl⟩
abbrev main_call0_call0_v8 : Ref sig .tc := ⟨.hbm, 109, rfl⟩
abbrev main_call0_call0_v9 : Ref sig .tc := ⟨.hbm, 110, rfl⟩
abbrev main_call0_call0_v10 : Ref sig .tc := ⟨.hbm, 111, rfl⟩
abbrev main_call0_call0_v11 : Ref sig .tc := ⟨.hbm, 112, rfl⟩
abbrev main_call0_v1 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_7 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_cst_8 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_v275 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_cst_9 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_cst_10 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_cst_11 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_cst_12 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_cst_13 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_cst_14 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_v353 : Ref sig .tc := ⟨.hbm, 394, rfl⟩
abbrev main_v354 : Ref sig .tc := ⟨.hbm, 395, rfl⟩
abbrev main_v355 : Ref sig .tc := ⟨.hbm, 396, rfl⟩
abbrev main_v356 : Ref sig .tc := ⟨.hbm, 397, rfl⟩
abbrev main_v357 : Ref sig .tc := ⟨.hbm, 398, rfl⟩
abbrev main_v358 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_cst_15 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_cst_16 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_v379 : Ref sig .tc := ⟨.hbm, 422, rfl⟩
abbrev main_v380 : Ref sig .tc := ⟨.hbm, 423, rfl⟩
abbrev main_v381 : Ref sig .tc := ⟨.hbm, 424, rfl⟩
abbrev main_v382 : Ref sig .tc := ⟨.hbm, 425, rfl⟩
abbrev main_v383 : Ref sig .tc := ⟨.hbm, 426, rfl⟩
abbrev main_v384 : Ref sig .tc := ⟨.hbm, 427, rfl⟩
abbrev main_v385 : Ref sig .tc := ⟨.hbm, 428, rfl⟩
abbrev main_v386 : Ref sig .tc := ⟨.hbm, 429, rfl⟩
abbrev main_v387 : Ref sig .tc := ⟨.hbm, 430, rfl⟩
abbrev main_v388 : Ref sig .tc := ⟨.hbm, 431, rfl⟩
abbrev main_cst_17 : Ref sig .tc := ⟨.hbm, 432, rfl⟩
abbrev main_v389 : Ref sig .tc := ⟨.hbm, 433, rfl⟩
abbrev main_v390 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_v395 : Ref sig .tc := ⟨.hbm, 439, rfl⟩
abbrev main_v396 : Ref sig .tc := ⟨.hbm, 440, rfl⟩
abbrev main_v397 : Ref sig .tc := ⟨.hbm, 441, rfl⟩
abbrev main_v398 : Ref sig .tc := ⟨.hbm, 442, rfl⟩
abbrev main_v399 : Ref sig .tc := ⟨.hbm, 443, rfl⟩
abbrev main_v400 : Ref sig .tc := ⟨.hbm, 444, rfl⟩
abbrev main_v401 : Ref sig .tc := ⟨.hbm, 445, rfl⟩
abbrev main_cst_18 : Ref sig .tc := ⟨.hbm, 446, rfl⟩
abbrev main_v402 : Ref sig .tc := ⟨.hbm, 447, rfl⟩
abbrev main_v403 : Ref sig .tc := ⟨.hbm, 448, rfl⟩
abbrev main_v404 : Ref sig .tc := ⟨.hbm, 449, rfl⟩
abbrev main_v405 : Ref sig .tc := ⟨.hbm, 450, rfl⟩
abbrev main_v406 : Ref sig .tc := ⟨.hbm, 451, rfl⟩
abbrev main_v407 : Ref sig .tc := ⟨.hbm, 452, rfl⟩
abbrev main_v408 : Ref sig .tc := ⟨.hbm, 453, rfl⟩
abbrev main_v409 : Ref sig .tc := ⟨.hbm, 454, rfl⟩
abbrev main_v410 : Ref sig .tc := ⟨.hbm, 455, rfl⟩
abbrev main_v411 : Ref sig .tc := ⟨.hbm, 456, rfl⟩
abbrev main_v412 : Ref sig .tc := ⟨.hbm, 457, rfl⟩
abbrev main_v413 : Ref sig .tc := ⟨.hbm, 458, rfl⟩
abbrev main_v414 : Ref sig .tc := ⟨.hbm, 459, rfl⟩
abbrev main_cst_19 : Ref sig .tc := ⟨.hbm, 460, rfl⟩
abbrev main_v415 : Ref sig .tc := ⟨.hbm, 461, rfl⟩
abbrev main_v416 : Ref sig .tc := ⟨.hbm, 462, rfl⟩
abbrev main_v417 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_v421 : Ref sig .tc := ⟨.hbm, 467, rfl⟩
abbrev main_v422 : Ref sig .tc := ⟨.hbm, 468, rfl⟩
abbrev main_v423 : Ref sig .tc := ⟨.hbm, 469, rfl⟩
abbrev main_v424 : Ref sig .tc := ⟨.hbm, 470, rfl⟩
abbrev main_v425 : Ref sig .tc := ⟨.hbm, 471, rfl⟩
abbrev main_v426 : Ref sig .tc := ⟨.hbm, 472, rfl⟩
abbrev main_v427 : Ref sig .tc := ⟨.hbm, 473, rfl⟩
abbrev main_v428 : Ref sig .tc := ⟨.hbm, 474, rfl⟩
abbrev main_v429 : Ref sig .tc := ⟨.hbm, 475, rfl⟩
abbrev main_v430 : Ref sig .tc := ⟨.hbm, 476, rfl⟩
abbrev main_v431_0 : Ref sig .tc := ⟨.hbm, 477, rfl⟩
abbrev main_v431_1 : Ref sig .tc := ⟨.hbm, 478, rfl⟩
abbrev main_v431_2 : Ref sig .tc := ⟨.hbm, 479, rfl⟩
abbrev main_v431_3 : Ref sig .tc := ⟨.hbm, 480, rfl⟩
abbrev main_v431_4 : Ref sig .tc := ⟨.hbm, 481, rfl⟩
abbrev main_v431_5 : Ref sig .tc := ⟨.hbm, 482, rfl⟩
abbrev main_v431_6 : Ref sig .tc := ⟨.hbm, 483, rfl⟩
abbrev main_v431_7 : Ref sig .tc := ⟨.hbm, 484, rfl⟩
abbrev main_v431_8 : Ref sig .tc := ⟨.hbm, 485, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== RnnKernelIdeal.lean ====
variable {F : FTy → Type} [FloatOps F] [Named F]
def κ : String → Option EReal := fun
  | "k1" => some ((8943 / 200000 : ℝ) : EReal)
  | "k1_thrice" => some ((26829 / 200000 : ℝ) : EReal)
  | _ => none
-- ==== RnnRefIdeal.lean ====
abbrev S4096x2560 : Shape := ⟨2, ![4096, 2560]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x1x512 : Shape := ⟨3, ![1, 1, 512]⟩
abbrev S512 : Shape := ⟨1, ![512]⟩
abbrev S8x64x64 : Shape := ⟨3, ![8, 64, 64]⟩
abbrev S8x64 : Shape := ⟨2, ![8, 64]⟩
abbrev S512x64 : Shape := ⟨2, ![512, 64]⟩
abbrev S1x512x1x64 : Shape := ⟨4, ![1, 512, 1, 64]⟩
abbrev S1x512x8x64 : Shape := ⟨4, ![1, 512, 8, 64]⟩
abbrev S512x512 : Shape := ⟨2, ![512, 512]⟩
abbrev S512x1 : Shape := ⟨2, ![512, 1]⟩
abbrev S2048x2x512 : Shape := ⟨3, ![2048, 2, 512]⟩
abbrev S2048x1x512 : Shape := ⟨3, ![2048, 1, 512]⟩
abbrev S2048x512 : Shape := ⟨2, ![2048, 512]⟩
abbrev S1024x2x512 : Shape := ⟨3, ![1024, 2, 512]⟩
abbrev S1024x1x512 : Shape := ⟨3, ![1024, 1, 512]⟩
abbrev S1024x512 : Shape := ⟨2, ![1024, 512]⟩
abbrev S512x2x512 : Shape := ⟨3, ![512, 2, 512]⟩
abbrev S512x1x512 : Shape := ⟨3, ![512, 1, 512]⟩
abbrev S256x2x512 : Shape := ⟨3, ![256, 2, 512]⟩
abbrev S256x1x512 : Shape := ⟨3, ![256, 1, 512]⟩
abbrev S256x512 : Shape := ⟨2, ![256, 512]⟩
abbrev S128x2x512 : Shape := ⟨3, ![128, 2, 512]⟩
abbrev S128x1x512 : Shape := ⟨3, ![128, 1, 512]⟩
abbrev S128x512 : Shape := ⟨2, ![128, 512]⟩
abbrev S64x2x512 : Shape := ⟨3, ![64, 2, 512]⟩
abbrev S64x1x512 : Shape := ⟨3, ![64, 1, 512]⟩
abbrev S64x512 : Shape := ⟨2, ![64, 512]⟩
abbrev S32x2x512 : Shape := ⟨3, ![32, 2, 512]⟩
abbrev S32x1x512 : Shape := ⟨3, ![32, 1, 512]⟩
abbrev S32x512 : Shape := ⟨2, ![32, 512]⟩
abbrev S16x2x512 : Shape := ⟨3, ![16, 2, 512]⟩
abbrev S16x1x512 : Shape := ⟨3, ![16, 1, 512]⟩
abbrev S16x512 : Shape := ⟨2, ![16, 512]⟩
abbrev S8x2x512 : Shape := ⟨3, ![8, 2, 512]⟩
abbrev S8x1x512 : Shape := ⟨3, ![8, 1, 512]⟩
abbrev S8x512 : Shape := ⟨2, ![8, 512]⟩
abbrev S4x2x512 : Shape := ⟨3, ![4, 2, 512]⟩
abbrev S4x1x512 : Shape := ⟨3, ![4, 1, 512]⟩
abbrev S4x512 : Shape := ⟨2, ![4, 512]⟩
abbrev S2x2x512 : Shape := ⟨3, ![2, 2, 512]⟩
abbrev S2x1x512 : Shape := ⟨3, ![2, 1, 512]⟩
abbrev S2x512 : Shape := ⟨2, ![2, 512]⟩
abbrev S1x2x512 : Shape := ⟨3, ![1, 2, 512]⟩
abbrev S5x512 : Shape := ⟨2, ![5, 512]⟩
abbrev S9x512 : Shape := ⟨2, ![9, 512]⟩
abbrev S17x512 : Shape := ⟨2, ![17, 512]⟩
abbrev S33x512 : Shape := ⟨2, ![33, 512]⟩
abbrev S65x512 : Shape := ⟨2, ![65, 512]⟩
abbrev S129x512 : Shape := ⟨2, ![129, 512]⟩
abbrev S257x512 : Shape := ⟨2, ![257, 512]⟩
abbrev S513x512 : Shape := ⟨2, ![513, 512]⟩
abbrev S1025x512 : Shape := ⟨2, ![1025, 512]⟩
abbrev S2049x512 : Shape := ⟨2, ![2049, 512]⟩

abbrev nBuf : Space → Nat
  | .hbm => 538
  | .vmem => 0
  | .smem => 0
  | _ => 0

abbrev hbmTy0_0 (i : Nat) : BufTy := match i % 128 with
  | 0 => ⟨S4096x2560, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S4096x512, .f32⟩
  | 9 => ⟨S4096x512, .f32⟩
  | 10 => ⟨S4096x512, .f32⟩
  | 11 => ⟨S_, .f32⟩
  | 12 => ⟨S3x512, .f32⟩
  | 13 => ⟨S4099x512, .f32⟩
  | 14 => ⟨S4096x512, .f32⟩
  | 15 => ⟨S1x1x512, .f32⟩
  | 16 => ⟨S512, .f32⟩
  | 17 => ⟨S1x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S1x1x512, .f32⟩
  | 25 => ⟨S512, .f32⟩
  | 26 => ⟨S1x512, .f32⟩
  | 27 => ⟨S4096x512, .f32⟩
  | 28 => ⟨S4096x512, .f32⟩
  | 29 => ⟨S4096x512, .f32⟩
  | 30 => ⟨S4096x512, .f32⟩
  | 31 => ⟨S1x1x512, .f32⟩
  | 32 => ⟨S512, .f32⟩
  | 33 => ⟨S1x512, .f32⟩
  | 34 => ⟨S4096x512, .f32⟩
  | 35 => ⟨S4096x512, .f32⟩
  | 36 => ⟨S4096x512, .f32⟩
  | 37 => ⟨S4096x512, .f32⟩
  | 38 => ⟨S1x1x512, .f32⟩
  | 39 => ⟨S512, .f32⟩
  | 40 => ⟨S1x512, .f32⟩
  | 41 => ⟨S4096x512, .f32⟩
  | 42 => ⟨S4096x512, .f32⟩
  | 43 => ⟨S4096x512, .f32⟩
  | 44 => ⟨S512, .f32⟩
  | 45 => ⟨S1x512, .f32⟩
  | 46 => ⟨S4096x512, .f32⟩
  | 47 => ⟨S4096x512, .f32⟩
  | 48 => ⟨S8x64x64, .f32⟩
  | 49 => ⟨S8x64, .i32⟩
  | 50 => ⟨S512, .i32⟩
  | 51 => ⟨S512x64, .f32⟩
  | 52 => ⟨S1x512x1x64, .f32⟩
  | 53 => ⟨S1x512x8x64, .f32⟩
  | 54 => ⟨S512x512, .f32⟩
  | 55 => ⟨S512x1, .i32⟩
  | 56 => ⟨S1x512, .i32⟩
  | 57 => ⟨S512x512, .i32⟩
  | 58 => ⟨S512x512, .i32⟩
  | 59 => ⟨S512x512, .i1⟩
  | 60 => ⟨S_, .f32⟩
  | 61 => ⟨S_, .f32⟩
  | 62 => ⟨S512x512, .f32⟩
  | 63 => ⟨S512x512, .f32⟩
  | 64 => ⟨S4096x512, .f32⟩
  | 65 => ⟨S512, .f32⟩
  | 66 => ⟨S1x512, .f32⟩
  | 67 => ⟨S4096x512, .f32⟩
  | 68 => ⟨S4096x512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S_, .f32⟩
  | 75 => ⟨S4096x512, .f32⟩
  | 76 => ⟨S4096x512, .f32⟩
  | 77 => ⟨S8x64x64, .f32⟩
  | 78 => ⟨S8x64, .i32⟩
  | 79 => ⟨S512, .i32⟩
  | 80 => ⟨S512x64, .f32⟩
  | 81 => ⟨S1x512x1x64, .f32⟩
  | 82 => ⟨S1x512x8x64, .f32⟩
  | 83 => ⟨S512x512, .f32⟩
  | 84 => ⟨S512x1, .i32⟩
  | 85 => ⟨S1x512, .i32⟩
  | 86 => ⟨S512x512, .i32⟩
  | 87 => ⟨S512x512, .i32⟩
  | 88 => ⟨S512x512, .i1⟩
  | 89 => ⟨S_, .f32⟩
  | 90 => ⟨S_, .f32⟩
  | 91 => ⟨S512x512, .f32⟩
  | 92 => ⟨S512x512, .f32⟩
  | 93 => ⟨S4096x512, .f32⟩
  | 94 => ⟨S512, .f32⟩
  | 95 => ⟨S1x512, .f32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S512, .f32⟩
  | 110 => ⟨S512, .f32⟩
  | 111 => ⟨S_, .f32⟩
  | 112 => ⟨S512, .f32⟩
  | 113 => ⟨S512, .f32⟩
  | 114 => ⟨S512, .f32⟩
  | 115 => ⟨S512, .f32⟩
  | 116 => ⟨S512, .i1⟩
  | 117 => ⟨S512, .f32⟩
  | 118 => ⟨S512, .f32⟩
  | 119 => ⟨S512, .f32⟩
  | 120 => ⟨S512, .f32⟩
  | 121 => ⟨S512, .f32⟩
  | 122 => ⟨S512, .f32⟩
  | 123 => ⟨S512, .f32⟩
  | 124 => ⟨S512, .f32⟩
  | 125 => ⟨S512, .f32⟩
  | 126 => ⟨S1x512, .f32⟩
  | 127 => ⟨S4096x512, .f32⟩
  | _ => ⟨S4096x2560, .f32⟩

abbrev hbmTy0_1 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S2048x2x512, .f32⟩
  | 23 => ⟨S2048x2x512, .f32⟩
  | 24 => ⟨S2048x1x512, .f32⟩
  | 25 => ⟨S2048x512, .f32⟩
  | 26 => ⟨S2048x1x512, .f32⟩
  | 27 => ⟨S2048x512, .f32⟩
  | 28 => ⟨S2048x512, .f32⟩
  | 29 => ⟨S2048x1x512, .f32⟩
  | 30 => ⟨S2048x512, .f32⟩
  | 31 => ⟨S2048x1x512, .f32⟩
  | 32 => ⟨S2048x512, .f32⟩
  | 33 => ⟨S2048x512, .f32⟩
  | 34 => ⟨S2048x1x512, .f32⟩
  | 35 => ⟨S2048x512, .f32⟩
  | 36 => ⟨S2048x512, .f32⟩
  | 37 => ⟨S1024x2x512, .f32⟩
  | 38 => ⟨S1024x2x512, .f32⟩
  | 39 => ⟨S1024x1x512, .f32⟩
  | 40 => ⟨S1024x512, .f32⟩
  | 41 => ⟨S1024x1x512, .f32⟩
  | 42 => ⟨S1024x512, .f32⟩
  | 43 => ⟨S1024x512, .f32⟩
  | 44 => ⟨S1024x1x512, .f32⟩
  | 45 => ⟨S1024x512, .f32⟩
  | 46 => ⟨S1024x1x512, .f32⟩
  | 47 => ⟨S1024x512, .f32⟩
  | 48 => ⟨S1024x512, .f32⟩
  | 49 => ⟨S1024x1x512, .f32⟩
  | 50 => ⟨S1024x512, .f32⟩
  | 51 => ⟨S1024x512, .f32⟩
  | 52 => ⟨S512x2x512, .f32⟩
  | 53 => ⟨S512x2x512, .f32⟩
  | 54 => ⟨S512x1x512, .f32⟩
  | 55 => ⟨S512x512, .f32⟩
  | 56 => ⟨S512x1x512, .f32⟩
  | 57 => ⟨S512x512, .f32⟩
  | 58 => ⟨S512x512, .f32⟩
  | 59 => ⟨S512x1x512, .f32⟩
  | 60 => ⟨S512x512, .f32⟩
  | 61 => ⟨S512x1x512, .f32⟩
  | 62 => ⟨S512x512, .f32⟩
  | 63 => ⟨S512x512, .f32⟩
  | 64 => ⟨S512x1x512, .f32⟩
  | 65 => ⟨S512x512, .f32⟩
  | 66 => ⟨S512x512, .f32⟩
  | 67 => ⟨S256x2x512, .f32⟩
  | 68 => ⟨S256x2x512, .f32⟩
  | 69 => ⟨S256x1x512, .f32⟩
  | 70 => ⟨S256x512, .f32⟩
  | 71 => ⟨S256x1x512, .f32⟩
  | 72 => ⟨S256x512, .f32⟩
  | 73 => ⟨S256x512, .f32⟩
  | 74 => ⟨S256x1x512, .f32⟩
  | 75 => ⟨S256x512, .f32⟩
  | 76 => ⟨S256x1x512, .f32⟩
  | 77 => ⟨S256x512, .f32⟩
  | 78 => ⟨S256x512, .f32⟩
  | 79 => ⟨S256x1x512, .f32⟩
  | 80 => ⟨S256x512, .f32⟩
  | 81 => ⟨S256x512, .f32⟩
  | 82 => ⟨S128x2x512, .f32⟩
  | 83 => ⟨S128x2x512, .f32⟩
  | 84 => ⟨S128x1x512, .f32⟩
  | 85 => ⟨S128x512, .f32⟩
  | 86 => ⟨S128x1x512, .f32⟩
  | 87 => ⟨S128x512, .f32⟩
  | 88 => ⟨S128x512, .f32⟩
  | 89 => ⟨S128x1x512, .f32⟩
  | 90 => ⟨S128x512, .f32⟩
  | 91 => ⟨S128x1x512, .f32⟩
  | 92 => ⟨S128x512, .f32⟩
  | 93 => ⟨S128x512, .f32⟩
  | 94 => ⟨S128x1x512, .f32⟩
  | 95 => ⟨S128x512, .f32⟩
  | 96 => ⟨S128x512, .f32⟩
  | 97 => ⟨S64x2x512, .f32⟩
  | 98 => ⟨S64x2x512, .f32⟩
  | 99 => ⟨S64x1x512, .f32⟩
  | 100 => ⟨S64x512, .f32⟩
  | 101 => ⟨S64x1x512, .f32⟩
  | 102 => ⟨S64x512, .f32⟩
  | 103 => ⟨S64x512, .f32⟩
  | 104 => ⟨S64x1x512, .f32⟩
  | 105 => ⟨S64x512, .f32⟩
  | 106 => ⟨S64x1x512, .f32⟩
  | 107 => ⟨S64x512, .f32⟩
  | 108 => ⟨S64x512, .f32⟩
  | 109 => ⟨S64x1x512, .f32⟩
  | 110 => ⟨S64x512, .f32⟩
  | 111 => ⟨S64x512, .f32⟩
  | 112 => ⟨S32x2x512, .f32⟩
  | 113 => ⟨S32x2x512, .f32⟩
  | 114 => ⟨S32x1x512, .f32⟩
  | 115 => ⟨S32x512, .f32⟩
  | 116 => ⟨S32x1x512, .f32⟩
  | 117 => ⟨S32x512, .f32⟩
  | 118 => ⟨S32x512, .f32⟩
  | 119 => ⟨S32x1x512, .f32⟩
  | 120 => ⟨S32x512, .f32⟩
  | 121 => ⟨S32x1x512, .f32⟩
  | 122 => ⟨S32x512, .f32⟩
  | 123 => ⟨S32x512, .f32⟩
  | 124 => ⟨S32x1x512, .f32⟩
  | 125 => ⟨S32x512, .f32⟩
  | 126 => ⟨S32x512, .f32⟩
  | 127 => ⟨S16x2x512, .f32⟩
  | _ => ⟨S4096x2560, .f32⟩

abbrev hbmTy0_2 (i : Nat) : BufTy := match i % 128 with
  | 0 => ⟨S16x2x512, .f32⟩
  | 1 => ⟨S16x1x512, .f32⟩
  | 2 => ⟨S16x512, .f32⟩
  | 3 => ⟨S16x1x512, .f32⟩
  | 4 => ⟨S16x512, .f32⟩
  | 5 => ⟨S16x512, .f32⟩
  | 6 => ⟨S16x1x512, .f32⟩
  | 7 => ⟨S16x512, .f32⟩
  | 8 => ⟨S16x1x512, .f32⟩
  | 9 => ⟨S16x512, .f32⟩
  | 10 => ⟨S16x512, .f32⟩
  | 11 => ⟨S16x1x512, .f32⟩
  | 12 => ⟨S16x512, .f32⟩
  | 13 => ⟨S16x512, .f32⟩
  | 14 => ⟨S8x2x512, .f32⟩
  | 15 => ⟨S8x2x512, .f32⟩
  | 16 => ⟨S8x1x512, .f32⟩
  | 17 => ⟨S8x512, .f32⟩
  | 18 => ⟨S8x1x512, .f32⟩
  | 19 => ⟨S8x512, .f32⟩
  | 20 => ⟨S8x512, .f32⟩
  | 21 => ⟨S8x1x512, .f32⟩
  | 22 => ⟨S8x512, .f32⟩
  | 23 => ⟨S8x1x512, .f32⟩
  | 24 => ⟨S8x512, .f32⟩
  | 25 => ⟨S8x512, .f32⟩
  | 26 => ⟨S8x1x512, .f32⟩
  | 27 => ⟨S8x512, .f32⟩
  | 28 => ⟨S8x512, .f32⟩
  | 29 => ⟨S4x2x512, .f32⟩
  | 30 => ⟨S4x2x512, .f32⟩
  | 31 => ⟨S4x1x512, .f32⟩
  | 32 => ⟨S4x512, .f32⟩
  | 33 => ⟨S4x1x512, .f32⟩
  | 34 => ⟨S4x512, .f32⟩
  | 35 => ⟨S4x512, .f32⟩
  | 36 => ⟨S4x1x512, .f32⟩
  | 37 => ⟨S4x512, .f32⟩
  | 38 => ⟨S4x1x512, .f32⟩
  | 39 => ⟨S4x512, .f32⟩
  | 40 => ⟨S4x512, .f32⟩
  | 41 => ⟨S4x1x512, .f32⟩
  | 42 => ⟨S4x512, .f32⟩
  | 43 => ⟨S4x512, .f32⟩
  | 44 => ⟨S2x2x512, .f32⟩
  | 45 => ⟨S2x2x512, .f32⟩
  | 46 => ⟨S2x1x512, .f32⟩
  | 47 => ⟨S2x512, .f32⟩
  | 48 => ⟨S2x1x512, .f32⟩
  | 49 => ⟨S2x512, .f32⟩
  | 50 => ⟨S2x512, .f32⟩
  | 51 => ⟨S2x1x512, .f32⟩
  | 52 => ⟨S2x512, .f32⟩
  | 53 => ⟨S2x1x512, .f32⟩
  | 54 => ⟨S2x512, .f32⟩
  | 55 => ⟨S2x512, .f32⟩
  | 56 => ⟨S2x1x512, .f32⟩
  | 57 => ⟨S2x512, .f32⟩
  | 58 => ⟨S2x512, .f32⟩
  | 59 => ⟨S1x2x512, .f32⟩
  | 60 => ⟨S1x2x512, .f32⟩
  | 61 => ⟨S1x1x512, .f32⟩
  | 62 => ⟨S1x512, .f32⟩
  | 63 => ⟨S1x1x512, .f32⟩
  | 64 => ⟨S1x512, .f32⟩
  | 65 => ⟨S1x512, .f32⟩
  | 66 => ⟨S1x1x512, .f32⟩
  | 67 => ⟨S1x512, .f32⟩
  | 68 => ⟨S1x1x512, .f32⟩
  | 69 => ⟨S1x512, .f32⟩
  | 70 => ⟨S1x512, .f32⟩
  | 71 => ⟨S1x1x512, .f32⟩
  | 72 => ⟨S1x512, .f32⟩
  | 73 => ⟨S1x512, .f32⟩
  | 74 => ⟨S_, .f32⟩
  | 75 => ⟨S1x512, .f32⟩
  | 76 => ⟨S2x512, .f32⟩
  | 77 => ⟨S1x512, .f32⟩
  | 78 => ⟨S1x1x512, .f32⟩
  | 79 => ⟨S1x512, .f32⟩
  | 80 => ⟨S1x512, .f32⟩
  | 81 => ⟨S1x1x512, .f32⟩
  | 82 => ⟨S1x512, .f32⟩
  | 83 => ⟨S1x512, .f32⟩
  | 84 => ⟨S1x1x512, .f32⟩
  | 85 => ⟨S1x1x512, .f32⟩
  | 86 => ⟨S1x2x512, .f32⟩
  | 87 => ⟨S2x512, .f32⟩
  | 88 => ⟨S_, .f32⟩
  | 89 => ⟨S1x512, .f32⟩
  | 90 => ⟨S3x512, .f32⟩
  | 91 => ⟨S2x512, .f32⟩
  | 92 => ⟨S2x1x512, .f32⟩
  | 93 => ⟨S2x512, .f32⟩
  | 94 => ⟨S2x512, .f32⟩
  | 95 => ⟨S2x1x512, .f32⟩
  | 96 => ⟨S2x512, .f32⟩
  | 97 => ⟨S2x512, .f32⟩
  | 98 => ⟨S2x1x512, .f32⟩
  | 99 => ⟨S2x1x512, .f32⟩
  | 100 => ⟨S2x2x512, .f32⟩
  | 101 => ⟨S4x512, .f32⟩
  | 102 => ⟨S_, .f32⟩
  | 103 => ⟨S1x512, .f32⟩
  | 104 => ⟨S5x512, .f32⟩
  | 105 => ⟨S4x512, .f32⟩
  | 106 => ⟨S4x1x512, .f32⟩
  | 107 => ⟨S4x512, .f32⟩
  | 108 => ⟨S4x512, .f32⟩
  | 109 => ⟨S4x1x512, .f32⟩
  | 110 => ⟨S4x512, .f32⟩
  | 111 => ⟨S4x512, .f32⟩
  | 112 => ⟨S4x1x512, .f32⟩
  | 113 => ⟨S4x1x512, .f32⟩
  | 114 => ⟨S4x2x512, .f32⟩
  | 115 => ⟨S8x512, .f32⟩
  | 116 => ⟨S_, .f32⟩
  | 117 => ⟨S1x512, .f32⟩
  | 118 => ⟨S9x512, .f32⟩
  | 119 => ⟨S8x512, .f32⟩
  | 120 => ⟨S8x1x512, .f32⟩
  | 121 => ⟨S8x512, .f32⟩
  | 122 => ⟨S8x512, .f32⟩
  | 123 => ⟨S8x1x512, .f32⟩
  | 124 => ⟨S8x512, .f32⟩
  | 125 => ⟨S8x512, .f32⟩
  | 126 => ⟨S8x1x512, .f32⟩
  | 127 => ⟨S8x1x512, .f32⟩
  | _ => ⟨S4096x2560, .f32⟩

abbrev hbmTy0_3 (i : Nat) : BufTy := match i % 128 with
  | 0 => ⟨S8x2x512, .f32⟩
  | 1 => ⟨S16x512, .f32⟩
  | 2 => ⟨S_, .f32⟩
  | 3 => ⟨S1x512, .f32⟩
  | 4 => ⟨S17x512, .f32⟩
  | 5 => ⟨S16x512, .f32⟩
  | 6 => ⟨S16x1x512, .f32⟩
  | 7 => ⟨S16x512, .f32⟩
  | 8 => ⟨S16x512, .f32⟩
  | 9 => ⟨S16x1x512, .f32⟩
  | 10 => ⟨S16x512, .f32⟩
  | 11 => ⟨S16x512, .f32⟩
  | 12 => ⟨S16x1x512, .f32⟩
  | 13 => ⟨S16x1x512, .f32⟩
  | 14 => ⟨S16x2x512, .f32⟩
  | 15 => ⟨S32x512, .f32⟩
  | 16 => ⟨S_, .f32⟩
  | 17 => ⟨S1x512, .f32⟩
  | 18 => ⟨S33x512, .f32⟩
  | 19 => ⟨S32x512, .f32⟩
  | 20 => ⟨S32x1x512, .f32⟩
  | 21 => ⟨S32x512, .f32⟩
  | 22 => ⟨S32x512, .f32⟩
  | 23 => ⟨S32x1x512, .f32⟩
  | 24 => ⟨S32x512, .f32⟩
  | 25 => ⟨S32x512, .f32⟩
  | 26 => ⟨S32x1x512, .f32⟩
  | 27 => ⟨S32x1x512, .f32⟩
  | 28 => ⟨S32x2x512, .f32⟩
  | 29 => ⟨S64x512, .f32⟩
  | 30 => ⟨S_, .f32⟩
  | 31 => ⟨S1x512, .f32⟩
  | 32 => ⟨S65x512, .f32⟩
  | 33 => ⟨S64x512, .f32⟩
  | 34 => ⟨S64x1x512, .f32⟩
  | 35 => ⟨S64x512, .f32⟩
  | 36 => ⟨S64x512, .f32⟩
  | 37 => ⟨S64x1x512, .f32⟩
  | 38 => ⟨S64x512, .f32⟩
  | 39 => ⟨S64x512, .f32⟩
  | 40 => ⟨S64x1x512, .f32⟩
  | 41 => ⟨S64x1x512, .f32⟩
  | 42 => ⟨S64x2x512, .f32⟩
  | 43 => ⟨S128x512, .f32⟩
  | 44 => ⟨S_, .f32⟩
  | 45 => ⟨S1x512, .f32⟩
  | 46 => ⟨S129x512, .f32⟩
  | 47 => ⟨S128x512, .f32⟩
  | 48 => ⟨S128x1x512, .f32⟩
  | 49 => ⟨S128x512, .f32⟩
  | 50 => ⟨S128x512, .f32⟩
  | 51 => ⟨S128x1x512, .f32⟩
  | 52 => ⟨S128x512, .f32⟩
  | 53 => ⟨S128x512, .f32⟩
  | 54 => ⟨S128x1x512, .f32⟩
  | 55 => ⟨S128x1x512, .f32⟩
  | 56 => ⟨S128x2x512, .f32⟩
  | 57 => ⟨S256x512, .f32⟩
  | 58 => ⟨S_, .f32⟩
  | 59 => ⟨S1x512, .f32⟩
  | 60 => ⟨S257x512, .f32⟩
  | 61 => ⟨S256x512, .f32⟩
  | 62 => ⟨S256x1x512, .f32⟩
  | 63 => ⟨S256x512, .f32⟩
  | 64 => ⟨S256x512, .f32⟩
  | 65 => ⟨S256x1x512, .f32⟩
  | 66 => ⟨S256x512, .f32⟩
  | 67 => ⟨S256x512, .f32⟩
  | 68 => ⟨S256x1x512, .f32⟩
  | 69 => ⟨S256x1x512, .f32⟩
  | 70 => ⟨S256x2x512, .f32⟩
  | 71 => ⟨S512x512, .f32⟩
  | 72 => ⟨S_, .f32⟩
  | 73 => ⟨S1x512, .f32⟩
  | 74 => ⟨S513x512, .f32⟩
  | 75 => ⟨S512x512, .f32⟩
  | 76 => ⟨S512x1x512, .f32⟩
  | 77 => ⟨S512x512, .f32⟩
  | 78 => ⟨S512x512, .f32⟩
  | 79 => ⟨S512x1x512, .f32⟩
  | 80 => ⟨S512x512, .f32⟩
  | 81 => ⟨S512x512, .f32⟩
  | 82 => ⟨S512x1x512, .f32⟩
  | 83 => ⟨S512x1x512, .f32⟩
  | 84 => ⟨S512x2x512, .f32⟩
  | 85 => ⟨S1024x512, .f32⟩
  | 86 => ⟨S_, .f32⟩
  | 87 => ⟨S1x512, .f32⟩
  | 88 => ⟨S1025x512, .f32⟩
  | 89 => ⟨S1024x512, .f32⟩
  | 90 => ⟨S1024x1x512, .f32⟩
  | 91 => ⟨S1024x512, .f32⟩
  | 92 => ⟨S1024x512, .f32⟩
  | 93 => ⟨S1024x1x512, .f32⟩
  | 94 => ⟨S1024x512, .f32⟩
  | 95 => ⟨S1024x512, .f32⟩
  | 96 => ⟨S1024x1x512, .f32⟩
  | 97 => ⟨S1024x1x512, .f32⟩
  | 98 => ⟨S1024x2x512, .f32⟩
  | 99 => ⟨S2048x512, .f32⟩
  | 100 => ⟨S_, .f32⟩
  | 101 => ⟨S1x512, .f32⟩
  | 102 => ⟨S2049x512, .f32⟩
  | 103 => ⟨S2048x512, .f32⟩
  | 104 => ⟨S2048x1x512, .f32⟩
  | 105 => ⟨S2048x512, .f32⟩
  | 106 => ⟨S2048x512, .f32⟩
  | 107 => ⟨S2048x1x512, .f32⟩
  | 108 => ⟨S2048x512, .f32⟩
  | 109 => ⟨S2048x512, .f32⟩
  | 110 => ⟨S2048x1x512, .f32⟩
  | 111 => ⟨S2048x1x512, .f32⟩
  | 112 => ⟨S2048x2x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S_, .f32⟩
  | 120 => ⟨S4096x512, .f32⟩
  | 121 => ⟨S4096x512, .f32⟩
  | 122 => ⟨S_, .f32⟩
  | 123 => ⟨S4096x512, .f32⟩
  | 124 => ⟨S4096x512, .f32⟩
  | 125 => ⟨S4096x512, .f32⟩
  | 126 => ⟨S_, .f32⟩
  | 127 => ⟨S4096x512, .f32⟩
  | _ => ⟨S4096x2560, .f32⟩

abbrev hbmTy0_4 (i : Nat) : BufTy := match i % 128 with
  | 0 => ⟨S4096x512, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S4096x512, .bf16⟩
  | _ => ⟨S4096x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_call0_v0 : Ref sig .tc := ⟨.hbm, 61, rfl⟩
abbrev main_call0_v1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_call1_v0 : Ref sig .tc := ⟨.hbm, 90, rfl⟩
abbrev main_call1_v1 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_5 : Ref sig .tc := ⟨.hbm, 100, rfl⟩
abbrev main_v81 : Ref sig .tc := ⟨.hbm, 101, rfl⟩
abbrev main_v82 : Ref sig .tc := ⟨.hbm, 102, rfl⟩
abbrev main_cst_6 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_call2_v0 : Ref sig .tc := ⟨.hbm, 110, rfl⟩
abbrev main_call2_call0_cst : Ref sig .tc := ⟨.hbm, 111, rfl⟩
abbrev main_call2_call0_v0 : Ref sig .tc := ⟨.hbm, 112, rfl⟩
abbrev main_call2_call0_v1 : Ref sig .tc := ⟨.hbm, 113, rfl⟩
abbrev main_call2_call0_v2 : Ref sig .tc := ⟨.hbm, 114, rfl⟩
abbrev main_call2_call0_v3 : Ref sig .tc := ⟨.hbm, 115, rfl⟩
abbrev main_call2_call0_v4 : Ref sig .tc := ⟨.hbm, 116, rfl⟩
abbrev main_call2_call0_v5 : Ref sig .tc := ⟨.hbm, 117, rfl⟩
abbrev main_call2_call0_v6 : Ref sig .tc := ⟨.hbm, 118, rfl⟩
abbrev main_call2_call0_v7 : Ref sig .tc := ⟨.hbm, 119, rfl⟩
abbrev main_call2_call0_v8 : Ref sig .tc := ⟨.hbm, 120, rfl⟩
abbrev main_call2_call0_v9 : Ref sig .tc := ⟨.hbm, 121, rfl⟩
abbrev main_call2_call0_v10 : Ref sig .tc := ⟨.hbm, 122, rfl⟩
abbrev main_call2_call0_v11 : Ref sig .tc := ⟨.hbm, 123, rfl⟩
abbrev main_call2_v1 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_8 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_9 : Ref sig .tc := ⟨.hbm, 141, rfl⟩
abbrev main_v103 : Ref sig .tc := ⟨.hbm, 142, rfl⟩
abbrev main_v104 : Ref sig .tc := ⟨.hbm, 143, rfl⟩
abbrev main_cst_10 : Ref sig .tc := ⟨.hbm, 144, rfl⟩
abbrev main_v105 : Ref sig .tc := ⟨.hbm, 145, rfl⟩
abbrev main_v106 : Ref sig .tc := ⟨.hbm, 146, rfl⟩
abbrev main_cst_11 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_cst_12 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_cst_13 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_cst_14 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_cst_15 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_cst_16 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_cst_17 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_cst_18 : Ref sig .tc := ⟨.hbm, 414, rfl⟩
abbrev main_v367 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_cst_19 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_cst_20 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_cst_21 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_v417 : Ref sig .tc := ⟨.hbm, 468, rfl⟩
abbrev main_v418 : Ref sig .tc := ⟨.hbm, 469, rfl⟩
abbrev main_cst_22 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_cst_23 : Ref sig .tc := ⟨.hbm, 484, rfl⟩
abbrev main_v432 : Ref sig .tc := ⟨.hbm, 485, rfl⟩
abbrev main_v433 : Ref sig .tc := ⟨.hbm, 486, rfl⟩
abbrev main_v434 : Ref sig .tc := ⟨.hbm, 487, rfl⟩
abbrev main_v435 : Ref sig .tc := ⟨.hbm, 488, rfl⟩
abbrev main_v436 : Ref sig .tc := ⟨.hbm, 489, rfl⟩
abbrev main_v437 : Ref sig .tc := ⟨.hbm, 490, rfl⟩
abbrev main_v438 : Ref sig .tc := ⟨.hbm, 491, rfl⟩
abbrev main_v439 : Ref sig .tc := ⟨.hbm, 492, rfl⟩
abbrev main_v440 : Ref sig .tc := ⟨.hbm, 493, rfl⟩
abbrev main_v441 : Ref sig .tc := ⟨.hbm, 494, rfl⟩
abbrev main_v442 : Ref sig .tc := ⟨.hbm, 495, rfl⟩
abbrev main_v443 : Ref sig .tc := ⟨.hbm, 496, rfl⟩
abbrev main_v444 : Ref sig .tc := ⟨.hbm, 497, rfl⟩
abbrev main_v445 : Ref sig .tc := ⟨.hbm, 498, rfl⟩
abbrev main_cst_24 : Ref sig .tc := ⟨.hbm, 499, rfl⟩
abbrev main_v446 : Ref sig .tc := ⟨.hbm, 500, rfl⟩
abbrev main_v447 : Ref sig .tc := ⟨.hbm, 501, rfl⟩
abbrev main_v448 : Ref sig .tc := ⟨.hbm, 502, rfl⟩
abbrev main_cst_25 : Ref sig .tc := ⟨.hbm, 503, rfl⟩
abbrev main_v449 : Ref sig .tc := ⟨.hbm, 504, rfl⟩
abbrev main_v450 : Ref sig .tc := ⟨.hbm, 505, rfl⟩
abbrev main_cst_26 : Ref sig .tc := ⟨.hbm, 506, rfl⟩
abbrev main_v451 : Ref sig .tc := ⟨.hbm, 507, rfl⟩
abbrev main_v452 : Ref sig .tc := ⟨.hbm, 508, rfl⟩
abbrev main_v453 : Ref sig .tc := ⟨.hbm, 509, rfl⟩
abbrev main_cst_27 : Ref sig .tc := ⟨.hbm, 510, rfl⟩
abbrev main_v454 : Ref sig .tc := ⟨.hbm, 511, rfl⟩
abbrev main_v455 : Ref sig .tc := ⟨.hbm, 512, rfl⟩
abbrev main_cst_28 : Ref sig .tc := ⟨.hbm, 513, rfl⟩
abbrev main_v456 : Ref sig .tc := ⟨.hbm, 514, rfl⟩
abbrev main_v457 : Ref sig .tc := ⟨.hbm, 515, rfl⟩
abbrev main_v458 : Ref sig .tc := ⟨.hbm, 516, rfl⟩
abbrev main_v459 : Ref sig .tc := ⟨.hbm, 517, rfl⟩
abbrev main_v460 : Ref sig .tc := ⟨.hbm, 518, rfl⟩
abbrev main_v461 : Ref sig .tc := ⟨.hbm, 519, rfl⟩
abbrev main_v462 : Ref sig .tc := ⟨.hbm, 520, rfl⟩
abbrev main_cst_29 : Ref sig .tc := ⟨.hbm, 521, rfl⟩
abbrev main_v463 : Ref sig .tc := ⟨.hbm, 522, rfl⟩
abbrev main_v464 : Ref sig .tc := ⟨.hbm, 523, rfl⟩
abbrev main_v465 : Ref sig .tc := ⟨.hbm, 524, rfl⟩
abbrev main_cst_30 : Ref sig .tc := ⟨.hbm, 525, rfl⟩
abbrev main_v466 : Ref sig .tc := ⟨.hbm, 526, rfl⟩
abbrev main_v467 : Ref sig .tc := ⟨.hbm, 527, rfl⟩
abbrev main_v468 : Ref sig .tc := ⟨.hbm, 528, rfl⟩
abbrev main_cst_31 : Ref sig .tc := ⟨.hbm, 529, rfl⟩
abbrev main_v469 : Ref sig .tc := ⟨.hbm, 530, rfl⟩
abbrev main_v470 : Ref sig .tc := ⟨.hbm, 531, rfl⟩
abbrev main_cst_32 : Ref sig .tc := ⟨.hbm, 532, rfl⟩
abbrev main_v471 : Ref sig .tc := ⟨.hbm, 533, rfl⟩
abbrev main_v472 : Ref sig .tc := ⟨.hbm, 534, rfl⟩
abbrev main_v473 : Ref sig .tc := ⟨.hbm, 535, rfl⟩
abbrev main_v474 : Ref sig .tc := ⟨.hbm, 536, rfl⟩
abbrev main_v475 : Ref sig .tc := ⟨.hbm, 537, rfl⟩

abbrev nD : Nat := 1
abbrev τ : Topo := Topo.v7x

variable {F : FTy → Type} [FloatOps F]
-- ==== AttKernel.lean ====
abbrev S4096x2560 : Shape := ⟨2, ![4096, 2560]⟩
abbrev S1x64 : Shape := ⟨2, ![1, 64]⟩
abbrev S4096x512 : Shape := ⟨2, ![4096, 512]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x128 : Shape := ⟨2, ![4096, 128]⟩
abbrev S4x12x128x1 : Shape := ⟨4, ![4, 12, 128, 1]⟩
abbrev S128x384 : Shape := ⟨2, ![128, 384]⟩
abbrev S256x256 : Shape := ⟨2, ![256, 256]⟩
abbrev S128x128 : Shape := ⟨2, ![128, 128]⟩
abbrev S384x128 : Shape := ⟨2, ![384, 128]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S1x1x128x1 : Shape := ⟨4, ![1, 1, 128, 1]⟩
abbrev S128x256 : Shape := ⟨2, ![128, 256]⟩

abbrev nBuf : Space → Nat
  | .hbm => 15
  | .vmem => 26
  | .smem => 0
  | _ => 0

abbrev bufTy : (tb : Table) → Fin (tcTables nBuf tb) → BufTy
  | .hbm, ⟨0, _⟩ => ⟨S4096x2560, .f32⟩
  | .hbm, ⟨1, _⟩ => ⟨S1x64, .f32⟩
  | .hbm, ⟨2, _⟩ => ⟨S1x64, .f32⟩
  | .hbm, ⟨3, _⟩ => ⟨S4096x512, .f32⟩
  | .hbm, ⟨4, _⟩ => ⟨S1x1x1x64, .f32⟩
  | .hbm, ⟨5, _⟩ => ⟨S1x1x2x64, .f32⟩
  | .hbm, ⟨6, _⟩ => ⟨S1x128, .f32⟩
  | .hbm, ⟨7, _⟩ => ⟨S1x1x1x64, .f32⟩
  | .hbm, ⟨8, _⟩ => ⟨S1x1x2x64, .f32⟩
  | .hbm, ⟨9, _⟩ => ⟨S1x128, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S1x64, .f32⟩
  | .hbm, ⟨14, _⟩ => ⟨S1x64, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1x64, .f32⟩
  | .local _ .vmem, ⟨17, _⟩ => ⟨S1x64, .f32⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4x12x128x1, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_72 : BitVec 32 := 0#32
  let c16_i32 : BitVec 32 := 16#32
  let v205 : BitVec 32 := Scalar.addi c0_i32_72 c16_i32
  let c1_i32_73 : BitVec 32 := 1#32
  ⟨c0_i32_72, v205, c1_i32_73⟩
def k0_mult1 (k0_t1 : Fin k0_t1_loop.trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c128_i32 : BitVec 32 := 128#32
  let v309 : BitVec 32 := Scalar.muli v306 c128_i32
  v309
def k0_mult2 (k0_t1 : Fin k0_t1_loop.trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c128_i32_120 : BitVec 32 := 128#32
  let v311 : BitVec 32 := Scalar.muli v308 c128_i32_120
  v311
def k0_off1 (k0_t1 : Fin k0_t1_loop.trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c128_i32 : BitVec 32 := 128#32
  let v309 : BitVec 32 := Scalar.muli v306 c128_i32
  let v310 : BitVec 32 := v309
  let v313 : Index := Scalar.indexCast v310
  let c0_121 : Index := 0#32
  ![v313.toNat, 0]
def k0_mult3 (k0_t1 : Fin k0_t1_loop.trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_137 : BitVec 32 := 1#32
  let v361 : BitVec 32 := Scalar.addi v306 c1_i32_137
  let c128_i32_138 : BitVec 32 := 128#32
  let v362 : BitVec 32 := Scalar.muli v361 c128_i32_138
  let c0_i32_139 : BitVec 32 := 0#32
  let v363 : BitVec 32 := Scalar.subi v362 c0_i32_139
  let c384_i32 : BitVec 32 := 384#32
  let v364 : BitVec 32 := Scalar.subi v363 c384_i32
  let c0_i32_140 : BitVec 32 := 0#32
  let v365 : BitVec 32 := Scalar.maxsi v364 c0_i32_140
  v365
def k0_mult4 (k0_t1 : Fin k0_t1_loop.trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_142 : BitVec 32 := 1#32
  let v375 : BitVec 32 := Scalar.addi v308 c1_i32_142
  let c128_i32_143 : BitVec 32 := 128#32
  let v376 : BitVec 32 := Scalar.muli v375 c128_i32_143
  let c0_i32_144 : BitVec 32 := 0#32
  let v377 : BitVec 32 := Scalar.subi v376 c0_i32_144
  let c384_i32_145 : BitVec 32 := 384#32
  let v378 : BitVec 32 := Scalar.subi v377 c384_i32_145
  let c0_i32_146 : BitVec 32 := 0#32
  let v379 : BitVec 32 := Scalar.maxsi v378 c0_i32_146
  v379
def k0_off2 (k0_t1 : Fin k0_t1_loop.trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c1_i32_137 : BitVec 32 := 1#32
  let v361 : BitVec 32 := Scalar.addi v306 c1_i32_137
  let c128_i32_138 : BitVec 32 := 128#32
  let v362 : BitVec 32 := Scalar.muli v361 c128_i32_138
  let c0_i32_139 : BitVec 32 := 0#32
  let v363 : BitVec 32 := Scalar.subi v362 c0_i32_139
  let c384_i32 : BitVec 32 := 384#32
  let v364 : BitVec 32 := Scalar.subi v363 c384_i32
  let c0_i32_140 : BitVec 32 := 0#32
  let v365 : BitVec 32 := Scalar.maxsi v364 c0_i32_140
  let v366 : BitVec 32 := v365
  let v389 : Index := Scalar.indexCast v366
  let c0_148 : Index := 0#32
  ![v389.toNat, 0]
def k0_off3 (arg21 : BitVec 32) : Fin 4 → Nat :=
  let c0_204 : Index := 0#32
  let v517 : Index := Scalar.indexCast arg21
  let c0_205 : Index := 0#32
  let c0_206 : Index := 0#32
  ![0, v517.toNat, 0, 0]

def k0_off4 (arg21 : BitVec 32) : Fin 4 → Nat :=
  let c1_207 : Index := 1#32
  let v521 : Index := Scalar.indexCast arg21
  let c0_208 : Index := 0#32
  let c0_209 : Index := 0#32
  ![1, v521.toNat, 0, 0]
def k0_off5 (arg21 : BitVec 32) : Fin 4 → Nat :=
  let c2_210 : Index := 2#32
  let v525 : Index := Scalar.indexCast arg21
  let c0_211 : Index := 0#32
  let c0_212 : Index := 0#32
  ![2, v525.toNat, 0, 0]
def k0_off6 (arg21 : BitVec 32) : Fin 4 → Nat :=
  let c3_213 : Index := 3#32
  let v529 : Index := Scalar.indexCast arg21
  let c0_214 : Index := 0#32
  let c0_215 : Index := 0#32
  ![3, v529.toNat, 0, 0]
def k0_mult5 (k0_t1 : Fin k0_t1_loop.trips) (arg21 : BitVec 32) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_216 : BitVec 32 := 1#32
  let v533 : BitVec 32 := Scalar.addi v306 c1_i32_216
  let c128_i32_217 : BitVec 32 := 128#32
  let v534 : BitVec 32 := Scalar.muli v533 c128_i32_217
  let c384_i32_218 : BitVec 32 := 384#32
  let v535 : BitVec 32 := Scalar.muli arg21 c384_i32_218
  let v536 : BitVec 32 := Scalar.subi v534 v535
  let c384_i32_219 : BitVec 32 := 384#32
  let v537 : BitVec 32 := Scalar.subi v536 c384_i32_219
  let c0_i32_220 : BitVec 32 := 0#32
  let v538 : BitVec 32 := Scalar.maxsi v537 c0_i32_220
  v538
def k0_mult6 (k0_t1 : Fin k0_t1_loop.trips) (arg21 : BitVec 32) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_222 : BitVec 32 := 1#32
  let v548 : BitVec 32 := Scalar.addi v308 c1_i32_222
  let c128_i32_223 : BitVec 32 := 128#32
  let v549 : BitVec 32 := Scalar.muli v548 c128_i32_223
  let c384_i32_224 : BitVec 32 := 384#32
  let v550 : BitVec 32 := Scalar.muli arg21 c384_i32_224
  let v551 : BitVec 32 := Scalar.subi v549 v550
  let c384_i32_225 : BitVec 32 := 384#32
  let v552 : BitVec 32 := Scalar.subi v551 c384_i32_225
  let c0_i32_226 : BitVec 32 := 0#32
  let v553 : BitVec 32 := Scalar.maxsi v552 c0_i32_226
  v553
def k0_off7 (k0_t1 : Fin k0_t1_loop.trips) (arg21 : BitVec 32) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c1_i32_216 : BitVec 32 := 1#32
  let v533 : BitVec 32 := Scalar.addi v306 c1_i32_216
  let c128_i32_217 : BitVec 32 := 128#32
  let v534 : BitVec 32 := Scalar.muli v533 c128_i32_217
  let c384_i32_218 : BitVec 32 := 384#32
  let v535 : BitVec 32 := Scalar.muli arg21 c384_i32_218
  let v536 : BitVec 32 := Scalar.subi v534 v535
  let c384_i32_219 : BitVec 32 := 384#32
  let v537 : BitVec 32 := Scalar.subi v536 c384_i32_219
  let c0_i32_220 : BitVec 32 := 0#32
  let v538 : BitVec 32 := Scalar.maxsi v537 c0_i32_220
  let v539 : BitVec 32 := v538
  let v563 : Index := Scalar.indexCast v539
  let c0_228 : Index := 0#32
  ![v563.toNat, 0]

def k0_chk1 (k0_t1 : Fin k0_t1_loop.trips) (arg21 : BitVec 32) : Prop :=
  (∀ a, (k0_off3 arg21) a + S1x1x128x1.size a ≤ S4x12x128x1.size a) ∧
  (∀ a, (k0_off4 arg21) a + S1x1x128x1.size a ≤ S4x12x128x1.size a) ∧
  (∀ a, (k0_off5 arg21) a + S1x1x128x1.size a ≤ S4x12x128x1.size a) ∧
  (∀ a, (k0_off6 arg21) a + S1x1x128x1.size a ≤ S4x12x128x1.size a) ∧
  (128 ∣ (k0_mult5 k0_t1 arg21).toNat) ∧
  (128 ∣ (k0_mult6 k0_t1 arg21).toNat) ∧
  (∀ (r : Fin 2), ∀ a, (k0_off7 k0_t1 arg21 (BitVec.ofNat 32 r.val)) a + S384x128.size a ≤ S4096x128.size a)
theorem k0_off3_inb : ∀ (k0_t1 : Fin k0_t1_loop.trips) (arg21 : BitVec 32) (k0_hw1 : k0_chk1 k0_t1 arg21), ∀ a, (k0_off3 arg21) a + S1x1x128x1.size a ≤ S4x12x128x1.size a := fun k0_t1 arg21 k0_hw1 => k0_hw1.1
theorem k0_off4_inb : ∀ (k0_t1 : Fin k0_t1_loop.trips) (arg21 : BitVec 32) (k0_hw1 : k0_chk1 k0_t1 arg21), ∀ a, (k0_off4 arg21) a + S1x1x128x1.size a ≤ S4x12x128x1.size a := fun k0_t1 arg21 k0_hw1 => k0_hw1.2.1
theorem k0_off5_inb : ∀ (k0_t1 : Fin k0_t1_loop.trips) (arg21 : BitVec 32) (k0_hw1 : k0_chk1 k0_t1 arg21), ∀ a, (k0_off5 arg21) a + S1x1x128x1.size a ≤ S4x12x128x1.size a := fun k0_t1 arg21 k0_hw1 => k0_hw1.2.2.1
theorem k0_off6_inb : ∀ (k0_t1 : Fin k0_t1_loop.trips) (arg21 : BitVec 32) (k0_hw1 : k0_chk1 k0_t1 arg21), ∀ a, (k0_off6 arg21) a + S1x1x128x1.size a ≤ S4x12x128x1.size a := fun k0_t1 arg21 k0_hw1 => k0_hw1.2.2.2.1
theorem k0_mult5_dvd : ∀ (k0_t1 : Fin k0_t1_loop.trips) (arg21 : BitVec 32) (k0_hw1 : k0_chk1 k0_t1 arg21), 128 ∣ (k0_mult5 k0_t1 arg21).toNat := fun k0_t1 arg21 k0_hw1 => k0_hw1.2.2.2.2.1
theorem k0_mult6_dvd : ∀ (k0_t1 : Fin k0_t1_loop.trips) (arg21 : BitVec 32) (k0_hw1 : k0_chk1 k0_t1 arg21), 128 ∣ (k0_mult6 k0_t1 arg21).toNat := fun k0_t1 arg21 k0_hw1 => k0_hw1.2.2.2.2.2.1
theorem k0_off7_inb : ∀ (k0_t1 : Fin k0_t1_loop.trips) (arg21 : BitVec 32) (k0_hw1 : k0_chk1 k0_t1 arg21), ∀ (r : Fin 2), ∀ a, (k0_off7 k0_t1 arg21 (BitVec.ofNat 32 r.val)) a + S384x128.size a ≤ S4096x128.size a := fun k0_t1 arg21 k0_hw1 r => k0_hw1.2.2.2.2.2.2 r

@[reducible] def k0_t2_loop (v499_0 : BitVec 32) : Scf.Loop 32 :=
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_214 : BitVec 32 := 1#32
  ⟨c0_i32_212, v529, c1_i32_214⟩
def k0_cond2 (k0_t1 : Fin k0_t1_loop.trips) (v480 : BitVec 1) : BitVec 1 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_174 : BitVec 32 := 1#32
  let v457 : BitVec 32 := Scalar.addi v308 c1_i32_174
  let c128_i32_175 : BitVec 32 := 128#32
  let v458 : BitVec 32 := Scalar.muli v457 c128_i32_175
  let c384_i32_176 : BitVec 32 := 384#32
  let v459 : BitVec 32 := Scalar.subi v458 c384_i32_176
  let c0_i32_177 : BitVec 32 := 0#32
  let v460 : BitVec 1 := Scalar.cmpi .sgt v459 c0_i32_177
  let v481 : BitVec 1 := Scalar.andi v460 v480
  let v500 : BitVec 32 := Scalar.extui v481
  let c0_i32_201 : BitVec 32 := 0#32
  let v501 : BitVec 1 := Scalar.cmpi .ne v500 c0_i32_201
  v501

def k0_mult7 (k0_t1 : Fin k0_t1_loop.trips) (v499_0 : BitVec 32) (k0_t2 : Fin (k0_t2_loop v499_0).trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_217 : BitVec 32 := 1#32
  let v534 : BitVec 32 := Scalar.addi v306 c1_i32_217
  let c128_i32_218 : BitVec 32 := 128#32
  let v535 : BitVec 32 := Scalar.muli v534 c128_i32_218
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let c384_i32_219 : BitVec 32 := 384#32
  let v536 : BitVec 32 := Scalar.muli v533 c384_i32_219
  let v537 : BitVec 32 := Scalar.subi v535 v536
  let c384_i32_220 : BitVec 32 := 384#32
  let v538 : BitVec 32 := Scalar.subi v537 c384_i32_220
  let c0_i32_221 : BitVec 32 := 0#32
  let v539 : BitVec 32 := Scalar.maxsi v538 c0_i32_221
  v539
def k0_mult8 (k0_t1 : Fin k0_t1_loop.trips) (v499_0 : BitVec 32) (k0_t2 : Fin (k0_t2_loop v499_0).trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_223 : BitVec 32 := 1#32
  let v549 : BitVec 32 := Scalar.addi v308 c1_i32_223
  let c128_i32_224 : BitVec 32 := 128#32
  let v550 : BitVec 32 := Scalar.muli v549 c128_i32_224
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let c384_i32_225 : BitVec 32 := 384#32
  let v551 : BitVec 32 := Scalar.muli v533 c384_i32_225
  let v552 : BitVec 32 := Scalar.subi v550 v551
  let c384_i32_226 : BitVec 32 := 384#32
  let v553 : BitVec 32 := Scalar.subi v552 c384_i32_226
  let c0_i32_227 : BitVec 32 := 0#32
  let v554 : BitVec 32 := Scalar.maxsi v553 c0_i32_227
  v554
def k0_off8 (k0_t1 : Fin k0_t1_loop.trips) (v499_0 : BitVec 32) (k0_t2 : Fin (k0_t2_loop v499_0).trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c1_i32_217 : BitVec 32 := 1#32
  let v534 : BitVec 32 := Scalar.addi v306 c1_i32_217
  let c128_i32_218 : BitVec 32 := 128#32
  let v535 : BitVec 32 := Scalar.muli v534 c128_i32_218
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let c384_i32_219 : BitVec 32 := 384#32
  let v536 : BitVec 32 := Scalar.muli v533 c384_i32_219
  let v537 : BitVec 32 := Scalar.subi v535 v536
  let c384_i32_220 : BitVec 32 := 384#32
  let v538 : BitVec 32 := Scalar.subi v537 c384_i32_220
  let c0_i32_221 : BitVec 32 := 0#32
  let v539 : BitVec 32 := Scalar.maxsi v538 c0_i32_221
  let v540 : BitVec 32 := v539
  let v564 : Index := Scalar.indexCast v540
  let c0_229 : Index := 0#32
  ![v564.toNat, 0]
def k0_off9 (v499_0 : BitVec 32) (k0_t2 : Fin (k0_t2_loop v499_0).trips) : Fin 4 → Nat :=
  let c0_251 : Index := 0#32
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let v624 : Index := Scalar.indexCast v533
  let c0_252 : Index := 0#32
  let c0_253 : Index := 0#32
  ![0, v624.toNat, 0, 0]
def k0_off10 (v499_0 : BitVec 32) (k0_t2 : Fin (k0_t2_loop v499_0).trips) : Fin 4 → Nat :=
  let c1_254 : Index := 1#32
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let v627 : Index := Scalar.indexCast v533
  let c0_255 : Index := 0#32
  let c0_256 : Index := 0#32
  ![1, v627.toNat, 0, 0]
def k0_off11 (v499_0 : BitVec 32) (k0_t2 : Fin (k0_t2_loop v499_0).trips) : Fin 4 → Nat :=
  let c2_257 : Index := 2#32
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let v630 : Index := Scalar.indexCast v533
  let c0_258 : Index := 0#32
  let c0_259 : Index := 0#32
  ![2, v630.toNat, 0, 0]
def k0_off12 (v499_0 : BitVec 32) (k0_t2 : Fin (k0_t2_loop v499_0).trips) : Fin 4 → Nat :=
  let c3_260 : Index := 3#32
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let v633 : Index := Scalar.indexCast v533
  let c0_261 : Index := 0#32
  let c0_262 : Index := 0#32
  ![3, v633.toNat, 0, 0]
def k0_mult9 (k0_t1 : Fin k0_t1_loop.trips) (v499_0 : BitVec 32) (k0_t2 : Fin (k0_t2_loop v499_0).trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_263 : BitVec 32 := 1#32
  let v636 : BitVec 32 := Scalar.addi v306 c1_i32_263
  let c128_i32_264 : BitVec 32 := 128#32
  let v637 : BitVec 32 := Scalar.muli v636 c128_i32_264
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let c384_i32_265 : BitVec 32 := 384#32
  let v638 : BitVec 32 := Scalar.muli v533 c384_i32_265
  let v639 : BitVec 32 := Scalar.subi v637 v638
  let c384_i32_266 : BitVec 32 := 384#32
  let v640 : BitVec 32 := Scalar.subi v639 c384_i32_266
  let c0_i32_267 : BitVec 32 := 0#32
  let v641 : BitVec 32 := Scalar.maxsi v640 c0_i32_267
  v641
def k0_mult10 (k0_t1 : Fin k0_t1_loop.trips) (v499_0 : BitVec 32) (k0_t2 : Fin (k0_t2_loop v499_0).trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_269 : BitVec 32 := 1#32
  let v651 : BitVec 32 := Scalar.addi v308 c1_i32_269
  let c128_i32_270 : BitVec 32 := 128#32
  let v652 : BitVec 32 := Scalar.muli v651 c128_i32_270
  let c1_i32_216 : BitVec 32 := 1#32
  let v532 : BitVec 32 := Scalar.subi v499_0 c1_i32_216
  let c0_i32_212 : BitVec 32 := 0#32
  let c1_i32_214 : BitVec 32 := 1#32
  let arg21 : BitVec 32 := Scf.iv c0_i32_212 c1_i32_214 k0_t2
  let v533 : BitVec 32 := Scalar.subi v532 arg21
  let c384_i32_271 : BitVec 32 := 384#32
  let v653 : BitVec 32 := Scalar.muli v533 c384_i32_271
  let v654 : BitVec 32 := Scalar.subi v652 v653
  let c384_i32_272 : BitVec 32 := 384#32
  let v655 : BitVec 32 := Scalar.subi v654 c384_i32_272
  let c0_i32_273 : BitVec 32 := 0#32
  let v656 : BitVec 32 := Scalar.maxsi v655 c0_i32_273
  v656
@[reducible] def k0_t3_loop (v499_0 : BitVec 32) : Scf.Loop 32 :=
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let v526 : BitVec 32 := Scalar.addi c0_i32_212 v525
  let c1_i32_215 : BitVec 32 := 1#32
  ⟨v529, v526, c1_i32_215⟩
def k0_mult11 (k0_t1 : Fin k0_t1_loop.trips) (v499_0 : BitVec 32) (k0_t3 : Fin (k0_t3_loop v499_0).trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_217 : BitVec 32 := 1#32
  let v534 : BitVec 32 := Scalar.addi v306 c1_i32_217
  let c128_i32_218 : BitVec 32 := 128#32
  let v535 : BitVec 32 := Scalar.muli v534 c128_i32_218
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let c384_i32_219 : BitVec 32 := 384#32
  let v536 : BitVec 32 := Scalar.muli v533 c384_i32_219
  let v537 : BitVec 32 := Scalar.subi v535 v536
  let c384_i32_220 : BitVec 32 := 384#32
  let v538 : BitVec 32 := Scalar.subi v537 c384_i32_220
  let c0_i32_221 : BitVec 32 := 0#32
  let v539 : BitVec 32 := Scalar.maxsi v538 c0_i32_221
  v539
def k0_mult12 (k0_t1 : Fin k0_t1_loop.trips) (v499_0 : BitVec 32) (k0_t3 : Fin (k0_t3_loop v499_0).trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_223 : BitVec 32 := 1#32
  let v549 : BitVec 32 := Scalar.addi v308 c1_i32_223
  let c128_i32_224 : BitVec 32 := 128#32
  let v550 : BitVec 32 := Scalar.muli v549 c128_i32_224
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let c384_i32_225 : BitVec 32 := 384#32
  let v551 : BitVec 32 := Scalar.muli v533 c384_i32_225
  let v552 : BitVec 32 := Scalar.subi v550 v551
  let c384_i32_226 : BitVec 32 := 384#32
  let v553 : BitVec 32 := Scalar.subi v552 c384_i32_226
  let c0_i32_227 : BitVec 32 := 0#32
  let v554 : BitVec 32 := Scalar.maxsi v553 c0_i32_227
  v554
def k0_off13 (k0_t1 : Fin k0_t1_loop.trips) (v499_0 : BitVec 32) (k0_t3 : Fin (k0_t3_loop v499_0).trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c1_i32_217 : BitVec 32 := 1#32
  let v534 : BitVec 32 := Scalar.addi v306 c1_i32_217
  let c128_i32_218 : BitVec 32 := 128#32
  let v535 : BitVec 32 := Scalar.muli v534 c128_i32_218
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let c384_i32_219 : BitVec 32 := 384#32
  let v536 : BitVec 32 := Scalar.muli v533 c384_i32_219
  let v537 : BitVec 32 := Scalar.subi v535 v536
  let c384_i32_220 : BitVec 32 := 384#32
  let v538 : BitVec 32 := Scalar.subi v537 c384_i32_220
  let c0_i32_221 : BitVec 32 := 0#32
  let v539 : BitVec 32 := Scalar.maxsi v538 c0_i32_221
  let v540 : BitVec 32 := v539
  let v564 : Index := Scalar.indexCast v540
  let c0_229 : Index := 0#32
  ![v564.toNat, 0]
def k0_off14 (v499_0 : BitVec 32) (k0_t3 : Fin (k0_t3_loop v499_0).trips) : Fin 4 → Nat :=
  let c0_251 : Index := 0#32
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let v624 : Index := Scalar.indexCast v533
  let c0_252 : Index := 0#32
  let c0_253 : Index := 0#32
  ![0, v624.toNat, 0, 0]
def k0_off15 (v499_0 : BitVec 32) (k0_t3 : Fin (k0_t3_loop v499_0).trips) : Fin 4 → Nat :=
  let c1_254 : Index := 1#32
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let v627 : Index := Scalar.indexCast v533
  let c0_255 : Index := 0#32
  let c0_256 : Index := 0#32
  ![1, v627.toNat, 0, 0]
def k0_off16 (v499_0 : BitVec 32) (k0_t3 : Fin (k0_t3_loop v499_0).trips) : Fin 4 → Nat :=
  let c2_257 : Index := 2#32
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let v630 : Index := Scalar.indexCast v533
  let c0_258 : Index := 0#32
  let c0_259 : Index := 0#32
  ![2, v630.toNat, 0, 0]
def k0_off17 (v499_0 : BitVec 32) (k0_t3 : Fin (k0_t3_loop v499_0).trips) : Fin 4 → Nat :=
  let c3_260 : Index := 3#32
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let v633 : Index := Scalar.indexCast v533
  let c0_261 : Index := 0#32
  let c0_262 : Index := 0#32
  ![3, v633.toNat, 0, 0]
def k0_mult13 (k0_t1 : Fin k0_t1_loop.trips) (v499_0 : BitVec 32) (k0_t3 : Fin (k0_t3_loop v499_0).trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_263 : BitVec 32 := 1#32
  let v636 : BitVec 32 := Scalar.addi v306 c1_i32_263
  let c128_i32_264 : BitVec 32 := 128#32
  let v637 : BitVec 32 := Scalar.muli v636 c128_i32_264
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let c384_i32_265 : BitVec 32 := 384#32
  let v638 : BitVec 32 := Scalar.muli v533 c384_i32_265
  let v639 : BitVec 32 := Scalar.subi v637 v638
  let c384_i32_266 : BitVec 32 := 384#32
  let v640 : BitVec 32 := Scalar.subi v639 c384_i32_266
  let c0_i32_267 : BitVec 32 := 0#32
  let v641 : BitVec 32 := Scalar.maxsi v640 c0_i32_267
  v641
def k0_mult14 (k0_t1 : Fin k0_t1_loop.trips) (v499_0 : BitVec 32) (k0_t3 : Fin (k0_t3_loop v499_0).trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_269 : BitVec 32 := 1#32
  let v651 : BitVec 32 := Scalar.addi v308 c1_i32_269
  let c128_i32_270 : BitVec 32 := 128#32
  let v652 : BitVec 32 := Scalar.muli v651 c128_i32_270
  let c1_i32_216 : BitVec 32 := 1#32
  let v532 : BitVec 32 := Scalar.subi v499_0 c1_i32_216
  let c0_i32_212 : BitVec 32 := 0#32
  let v525 : BitVec 32 := Scalar.subi v499_0 c0_i32_212
  let c1_i32_213 : BitVec 32 := 1#32
  let v527 : BitVec 32 := Scalar.divsi v525 c1_i32_213
  let v528 : BitVec 32 := Scalar.muli v527 c1_i32_213
  let v529 : BitVec 32 := Scalar.addi c0_i32_212 v528
  let c1_i32_215 : BitVec 32 := 1#32
  let arg21 : BitVec 32 := Scf.iv v529 c1_i32_215 k0_t3
  let v533 : BitVec 32 := Scalar.subi v532 arg21
  let c384_i32_271 : BitVec 32 := 384#32
  let v653 : BitVec 32 := Scalar.muli v533 c384_i32_271
  let v654 : BitVec 32 := Scalar.subi v652 v653
  let c384_i32_272 : BitVec 32 := 384#32
  let v655 : BitVec 32 := Scalar.subi v654 c384_i32_272
  let c0_i32_273 : BitVec 32 := 0#32
  let v656 : BitVec 32 := Scalar.maxsi v655 c0_i32_273
  v656

def k0_chk2 (k0_t1 : Fin k0_t1_loop.trips) (v480 : BitVec 1) (v499_0 : BitVec 32) : Prop :=
  (∀ (k0_h2 : k0_cond2 k0_t1 v480 = 1#1), (k0_t2_loop v499_0).OK) ∧
  (∀ k0_t2 : Fin (k0_t2_loop v499_0).trips, ∀ (k0_h2 : k0_cond2 k0_t1 v480 = 1#1), 128 ∣ (k0_mult7 k0_t1 v499_0 k0_t2).toNat) ∧
  (∀ k0_t2 : Fin (k0_t2_loop v499_0).trips, ∀ (k0_h2 : k0_cond2 k0_t1 v480 = 1#1), 128 ∣ (k0_mult8 k0_t1 v499_0 k0_t2).toNat) ∧
  (∀ k0_t2 : Fin (k0_t2_loop v499_0).trips, ∀ (k0_h2 : k0_cond2 k0_t1 v480 = 1#1), ∀ (r : Fin 2), ∀ a, (k0_off8 k0_t1 v499_0 k0_t2 (BitVec.ofNat 32 r.val)) a + S384x128.size a ≤ S4096x128.size a) ∧
  (∀ k0_t2 : Fin (k0_t2_loop v499_0).trips, ∀ (k0_h2 : k0_cond2 k0_t1 v480 = 1#1), ∀ a, (k0_off9 v499_0 k0_t2) a + S1x1x128x1.size a ≤ S4x12x128x1.size a) ∧
  (∀ k0_t2 : Fin (k0_t2_loop v499_0).trips, ∀ (k0_h2 : k0_cond2 k0_t1 v480 = 1#1), ∀ a, (k0_off10 v499_0 k0_t2) a + S1x1x128x1.size a ≤ S4x12x128x1.size a) ∧
  (∀ k0_t2 : Fin (k0_t2_loop v499_0).trips, ∀ (k0_h2 : k0_cond2 k0_t1 v480 = 1#1), ∀ a, (k0_off11 v499_0 k0_t2) a + S1x1x128x1.size a ≤ S4x12x128x1.size a) ∧
  (∀ k0_t2 : Fin (k0_t2_loop v499_0).trips, ∀ (k0_h2 : k0_cond2 k0_t1 v480 = 1#1), ∀ a, (k0_off12 v499_0 k0_t2) a + S1x1x128x1.size a ≤ S4x12x128x1.size a) ∧
  (∀ k0_t2 : Fin (k0_t2_loop v499_0).trips, ∀ (k0_h2 : k0_cond2 k0_t1 v480 = 1#1), 128 ∣ (k0_mult9 k0_t1 v499_0 k0_t2).toNat) ∧
  (∀ k0_t2 : Fin (k0_t2_loop v499_0).trips, ∀ (k0_h2 : k0_cond2 k0_t1 v480 = 1#1), 128 ∣ (k0_mult10 k0_t1 v499_0 k0_t2).toNat) ∧
  (∀ (k0_h2 : k0_cond2 k0_t1 v480 = 1#1), (k0_t3_loop v499_0).OK) ∧
  (∀ k0_t3 : Fin (k0_t3_loop v499_0).trips, ∀ (k0_h2 : k0_cond2 k0_t1 v480 = 1#1), 128 ∣ (k0_mult11 k0_t1 v499_0 k0_t3).toNat) ∧
  (∀ k0_t3 : Fin (k0_t3_loop v499_0).trips, ∀ (k0_h2 : k0_cond2 k0_t1 v480 = 1#1), 128 ∣ (k0_mult12 k0_t1 v499_0 k0_t3).toNat) ∧
  (∀ k0_t3 : Fin (k0_t3_loop v499_0).trips, ∀ (k0_h2 : k0_cond2 k0_t1 v480 = 1#1), ∀ (r : Fin 2), ∀ a, (k0_off13 k0_t1 v499_0 k0_t3 (BitVec.ofNat 32 r.val)) a + S384x128.size a ≤ S4096x128.size a) ∧
  (∀ k0_t3 : Fin (k0_t3_loop v499_0).trips, ∀ (k0_h2 : k0_cond2 k0_t1 v480 = 1#1), ∀ a, (k0_off14 v499_0 k0_t3) a + S1x1x128x1.size a ≤ S4x12x128x1.size a) ∧
  (∀ k0_t3 : Fin (k0_t3_loop v499_0).trips, ∀ (k0_h2 : k0_cond2 k0_t1 v480 = 1#1), ∀ a, (k0_off15 v499_0 k0_t3) a + S1x1x128x1.size a ≤ S4x12x128x1.size a) ∧
  (∀ k0_t3 : Fin (k0_t3_loop v499_0).trips, ∀ (k0_h2 : k0_cond2 k0_t1 v480 = 1#1), ∀ a, (k0_off16 v499_0 k0_t3) a + S1x1x128x1.size a ≤ S4x12x128x1.size a) ∧
  (∀ k0_t3 : Fin (k0_t3_loop v499_0).trips, ∀ (k0_h2 : k0_cond2 k0_t1 v480 = 1#1), ∀ a, (k0_off17 v499_0 k0_t3) a + S1x1x128x1.size a ≤ S4x12x128x1.size a) ∧
  (∀ k0_t3 : Fin (k0_t3_loop v499_0).trips, ∀ (k0_h2 : k0_cond2 k0_t1 v480 = 1#1), 128 ∣ (k0_mult13 k0_t1 v499_0 k0_t3).toNat) ∧
  (∀ k0_t3 : Fin (k0_t3_loop v499_0).trips, ∀ (k0_h2 : k0_cond2 k0_t1 v480 = 1#1), 128 ∣ (k0_mult14 k0_t1 v499_0 k0_t3).toNat)
theorem k0_t2_ok : ∀ (k0_t1 : Fin k0_t1_loop.trips) (v480 : BitVec 1) (v499_0 : BitVec 32) (k0_hw2 : k0_chk2 k0_t1 v480 v499_0), ∀ (k0_h2 : k0_cond2 k0_t1 v480 = 1#1), (k0_t2_loop v499_0).OK := fun k0_t1 v480 v499_0 k0_hw2 k0_h2 => k0_hw2.1 k0_h2
theorem k0_mult7_dvd : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), 128 ∣ (k0_mult7 k0_t1 v499_0 k0_t2).toNat := fun k0_t1 v480 v499_0 k0_hw2 k0_t2 k0_h2 => k0_hw2.2.1 k0_t2 k0_h2
theorem k0_mult8_dvd : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), 128 ∣ (k0_mult8 k0_t1 v499_0 k0_t2).toNat := fun k0_t1 v480 v499_0 k0_hw2 k0_t2 k0_h2 => k0_hw2.2.2.1 k0_t2 k0_h2
theorem k0_off8_inb : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), ∀ (r : Fin 2), ∀ a, (k0_off8 k0_t1 v499_0 k0_t2 (BitVec.ofNat 32 r.val)) a + S384x128.size a ≤ S4096x128.size a := fun k0_t1 v480 v499_0 k0_hw2 k0_t2 k0_h2 r => k0_hw2.2.2.2.1 k0_t2 k0_h2 r
theorem k0_off9_inb : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), ∀ a, (k0_off9 v499_0 k0_t2) a + S1x1x128x1.size a ≤ S4x12x128x1.size a := fun k0_t1 v480 v499_0 k0_hw2 k0_t2 k0_h2 => k0_hw2.2.2.2.2.1 k0_t2 k0_h2
theorem k0_off10_inb : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), ∀ a, (k0_off10 v499_0 k0_t2) a + S1x1x128x1.size a ≤ S4x12x128x1.size a := fun k0_t1 v480 v499_0 k0_hw2 k0_t2 k0_h2 => k0_hw2.2.2.2.2.2.1 k0_t2 k0_h2
theorem k0_off11_inb : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), ∀ a, (k0_off11 v499_0 k0_t2) a + S1x1x128x1.size a ≤ S4x12x128x1.size a := fun k0_t1 v480 v499_0 k0_hw2 k0_t2 k0_h2 => k0_hw2.2.2.2.2.2.2.1 k0_t2 k0_h2
theorem k0_off12_inb : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), ∀ a, (k0_off12 v499_0 k0_t2) a + S1x1x128x1.size a ≤ S4x12x128x1.size a := fun k0_t1 v480 v499_0 k0_hw2 k0_t2 k0_h2 => k0_hw2.2.2.2.2.2.2.2.1 k0_t2 k0_h2
theorem k0_mult9_dvd : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), 128 ∣ (k0_mult9 k0_t1 v499_0 k0_t2).toNat := fun k0_t1 v480 v499_0 k0_hw2 k0_t2 k0_h2 => k0_hw2.2.2.2.2.2.2.2.2.1 k0_t2 k0_h2
theorem k0_mult10_dvd : ∀ (k0_t1 : Fin k0_t1_loop.trips) (v480 : BitVec 1) (v499_0 : BitVec 32) (k0_hw2 : k0_chk2 k0_t1 v480 v499_0) (k0_t2 : Fin (k0_t2_loop v499_0).trips), ∀ (k0_h2 : k0_cond2 k0_t1 v480 = 1#1), 128 ∣ (k0_mult10 k0_t1 v499_0 k0_t2).toNat := fun k0_t1 v480 v499_0 k0_hw2 k0_t2 k0_h2 => k0_hw2.2.2.2.2.2.2.2.2.2.1 k0_t2 k0_h2
theorem k0_t3_ok : ∀ (k0_t1 : Fin k0_t1_loop.trips) (v480 : BitVec 1) (v499_0 : BitVec 32) (k0_hw2 : k0_chk2 k0_t1 v480 v499_0), ∀ (k0_h2 : k0_cond2 k0_t1 v480 = 1#1), (k0_t3_loop v499_0).OK := fun k0_t1 v480 v499_0 k0_hw2 k0_h2 => k0_hw2.2.2.2.2.2.2.2.2.2.2.1 k0_h2
theorem k0_mult11_dvd : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), 128 ∣ (k0_mult11 k0_t1 v499_0 k0_t3).toNat := fun k0_t1 v480 v499_0 k0_hw2 k0_t3 k0_h2 => k0_hw2.2.2.2.2.2.2.2.2.2.2.2.1 k0_t3 k0_h2
theorem k0_mult12_dvd : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), 128 ∣ (k0_mult12 k0_t1 v499_0 k0_t3).toNat := fun k0_t1 v480 v499_0 k0_hw2 k0_t3 k0_h2 => k0_hw2.2.2.2.2.2.2.2.2.2.2.2.2.1 k0_t3 k0_h2
theorem k0_off13_inb : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), ∀ (r : Fin 2), ∀ a, (k0_off13 k0_t1 v499_0 k0_t3 (BitVec.ofNat 32 r.val)) a + S384x128.size a ≤ S4096x128.size a := fun k0_t1 v480 v499_0 k0_hw2 k0_t3 k0_h2 r => k0_hw2.2.2.2.2.2.2.2.2.2.2.2.2.2.1 k0_t3 k0_h2 r
theorem k0_off14_inb : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), ∀ a, (k0_off14 v499_0 k0_t3) a + S1x1x128x1.size a ≤ S4x12x128x1.size a := fun k0_t1 v480 v499_0 k0_hw2 k0_t3 k0_h2 => k0_hw2.2.2.2.2.2.2.2.2.2.2.2.2.2.2.1 k0_t3 k0_h2
theorem k0_off15_inb : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), ∀ a, (k0_off15 v499_0 k0_t3) a + S1x1x128x1.size a ≤ S4x12x128x1.size a := fun k0_t1 v480 v499_0 k0_hw2 k0_t3 k0_h2 => k0_hw2.2.2.2.2.2.2.2.2.2.2.2.2.2.2.2.1 k0_t3 k0_h2
theorem k0_off16_inb : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), ∀ a, (k0_off16 v499_0 k0_t3) a + S1x1x128x1.size a ≤ S4x12x128x1.size a := fun k0_t1 v480 v499_0 k0_hw2 k0_t3 k0_h2 => k0_hw2.2.2.2.2.2.2.2.2.2.2.2.2.2.2.2.2.1 k0_t3 k0_h2
theorem k0_off17_inb : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), ∀ a, (k0_off17 v499_0 k0_t3) a + S1x1x128x1.size a ≤ S4x12x128x1.size a := fun k0_t1 v480 v499_0 k0_hw2 k0_t3 k0_h2 => k0_hw2.2.2.2.2.2.2.2.2.2.2.2.2.2.2.2.2.2.1 k0_t3 k0_h2
theorem k0_mult13_dvd : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), 128 ∣ (k0_mult13 k0_t1 v499_0 k0_t3).toNat := fun k0_t1 v480 v499_0 k0_hw2 k0_t3 k0_h2 => k0_hw2.2.2.2.2.2.2.2.2.2.2.2.2.2.2.2.2.2.2.1 k0_t3 k0_h2
theorem k0_mult14_dvd : ∀ (k0_t1 : Fin k0_t1_loop.trips) (v480 : BitVec 1) (v499_0 : BitVec 32) (k0_hw2 : k0_chk2 k0_t1 v480 v499_0) (k0_t3 : Fin (k0_t3_loop v499_0).trips), ∀ (k0_h2 : k0_cond2 k0_t1 v480 = 1#1), 128 ∣ (k0_mult14 k0_t1 v499_0 k0_t3).toNat := fun k0_t1 v480 v499_0 k0_hw2 k0_t3 k0_h2 => k0_hw2.2.2.2.2.2.2.2.2.2.2.2.2.2.2.2.2.2.2.2 k0_t3 k0_h2

def k0_mult15 (k0_t1 : Fin k0_t1_loop.trips) : BitVec 32 :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let c0_i32_117 : BitVec 32 := 0#32
  let v306 : BitVec 32 := Scalar.addi v305 c0_i32_117
  let c1_i32_212 : BitVec 32 := 1#32
  let v525 : BitVec 32 := Scalar.addi v306 c1_i32_212
  let c128_i32_213 : BitVec 32 := 128#32
  let v526 : BitVec 32 := Scalar.muli v525 c128_i32_213
  let c0_i32_214 : BitVec 32 := 0#32
  let v527 : BitVec 32 := Scalar.subi v526 c0_i32_214
  let c384_i32_215 : BitVec 32 := 384#32
  let v528 : BitVec 32 := Scalar.subi v527 c384_i32_215
  let c0_i32_216 : BitVec 32 := 0#32
  let v529 : BitVec 32 := Scalar.maxsi v528 c0_i32_216
  v529
def k0_mult16 (k0_t1 : Fin k0_t1_loop.trips) : BitVec 32 :=
  let c2_i32_118 : BitVec 32 := 2#32
  let c0_i32_72 : BitVec 32 := 0#32
  let c1_i32_73 : BitVec 32 := 1#32
  let arg20 : BitVec 32 := Scf.iv c0_i32_72 c1_i32_73 k0_t1
  let v307 : BitVec 32 := Scalar.muli c2_i32_118 arg20
  let c1_i32_119 : BitVec 32 := 1#32
  let v308 : BitVec 32 := Scalar.addi v307 c1_i32_119
  let c1_i32_218 : BitVec 32 := 1#32
  let v539 : BitVec 32 := Scalar.addi v308 c1_i32_218
  let c128_i32_219 : BitVec 32 := 128#32
  let v540 : BitVec 32 := Scalar.muli v539 c128_i32_219
  let c0_i32_220 : BitVec 32 := 0#32
  let v541 : BitVec 32 := Scalar.subi v540 c0_i32_220
  let c384_i32_221 : BitVec 32 := 384#32
  let v542 : BitVec 32 := Scalar.subi v541 c384_i32_221
  let c0_i32_222 : BitVec 32 := 0#32
  let v543 : BitVec 32 := Scalar.maxsi v542 c0_i32_222
  v543
def k0_off18 (k0_t1 : Fin k0_t1_loop.trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c1_i32_212 : BitVec 32 := 1#32
  let v525 : BitVec 32 := Scalar.addi v306 c1_i32_212
  let c128_i32_213 : BitVec 32 := 128#32
  let v526 : BitVec 32 := Scalar.muli v525 c128_i32_213
  let c0_i32_214 : BitVec 32 := 0#32
  let v527 : BitVec 32 := Scalar.subi v526 c0_i32_214
  let c384_i32_215 : BitVec 32 := 384#32
  let v528 : BitVec 32 := Scalar.subi v527 c384_i32_215
  let c0_i32_216 : BitVec 32 := 0#32
  let v529 : BitVec 32 := Scalar.maxsi v528 c0_i32_216
  let v530 : BitVec 32 := v529
  let v553 : Index := Scalar.indexCast v530
  let c0_224 : Index := 0#32
  ![v553.toNat, 0]
def k0_off19 (k0_t1 : Fin k0_t1_loop.trips) (c0_i32_117 : BitVec 32) : Fin 2 → Nat :=
  let c2_i32 : BitVec 32 := 2#32
  let c0_i32_72 : BitVec 32 := 0#32
  let c1_i32_73 : BitVec 32 := 1#32
  let arg20 : BitVec 32 := Scf.iv c0_i32_72 c1_i32_73 k0_t1
  let v305 : BitVec 32 := Scalar.muli c2_i32 arg20
  let v306 : BitVec 32 := Scalar.addi v305 c0_i32_117
  let c128_i32 : BitVec 32 := 128#32
  let v309 : BitVec 32 := Scalar.muli v306 c128_i32
  let v310 : BitVec 32 := v309
  let v506 : Index := Scalar.indexCast v310
  let c0_202 : Index := 0#32
  ![v506.toNat, 0]
def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttKernelIdeal.lean ====
variable {F : FTy → Type} [FloatOps F] [Named F]
def κ : String → Option EReal := fun
  | "exit" => some ⊥
  | _ => none
-- ==== AttRefIdeal.lean ====
abbrev S4096x2560 : Shape := ⟨2, ![4096, 2560]⟩
abbrev S1x64 : Shape := ⟨2, ![1, 64]⟩
abbrev S4096x512 : Shape := ⟨2, ![4096, 512]⟩
abbrev S4096x1536 : Shape := ⟨2, ![4096, 1536]⟩
abbrev S4096x8x64 : Shape := ⟨3, ![4096, 8, 64]⟩
abbrev S8x4096x64 : Shape := ⟨3, ![8, 4096, 64]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 277
  | .vmem => 0
  | .smem => 0
  | _ => 0

abbrev hbmTy0_0 (i : Nat) : BufTy := match i % 128 with
  | 0 => ⟨S4096x2560, .f32⟩
  | 1 => ⟨S1x64, .f32⟩
  | 2 => ⟨S1x64, .f32⟩
  | 3 => ⟨S4096x512, .f32⟩
  | 4 => ⟨S4096x1536, .f32⟩
  | 5 => ⟨S4096x512, .f32⟩
  | 6 => ⟨S4096x512, .f32⟩
  | 7 => ⟨S4096x512, .f32⟩
  | 8 => ⟨S4096x8x64, .f32⟩
  | 9 => ⟨S8x4096x64, .f32⟩
  | 10 => ⟨S64, .f32⟩
  | 11 => ⟨S8x4096x64, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x64, .f32⟩
  | 27 => ⟨S8x4096x64, .f32⟩
  | 28 => ⟨S1x1x64, .f32⟩
  | 29 => ⟨S8x4096x64, .f32⟩
  | 30 => ⟨S8x4096x64, .f32⟩
  | 31 => ⟨S_, .f32⟩
  | 32 => ⟨S8x4096x64, .f32⟩
  | 33 => ⟨S8x4096x64, .f32⟩
  | 34 => ⟨S4096x8x64, .f32⟩
  | 35 => ⟨S8x4096x64, .f32⟩
  | 36 => ⟨S64, .f32⟩
  | 37 => ⟨S8x4096x64, .f32⟩
  | 38 => ⟨S_, .f32⟩
  | 39 => ⟨S8x4096, .f32⟩
  | 40 => ⟨S8x4096x1, .f32⟩
  | 41 => ⟨S_, .f32⟩
  | 42 => ⟨S8x4096x1, .f32⟩
  | 43 => ⟨S8x4096x1, .f32⟩
  | 44 => ⟨S_, .f32⟩
  | 45 => ⟨S8x4096x1, .f32⟩
  | 46 => ⟨S8x4096x1, .f32⟩
  | 47 => ⟨S8x4096x1, .f32⟩
  | 48 => ⟨S8x4096x1, .f32⟩
  | 49 => ⟨S_, .f32⟩
  | 50 => ⟨S8x4096x1, .f32⟩
  | 51 => ⟨S8x4096x1, .f32⟩
  | 52 => ⟨S8x4096x64, .f32⟩
  | 53 => ⟨S8x4096x64, .f32⟩
  | 54 => ⟨S1x1x64, .f32⟩
  | 55 => ⟨S8x4096x64, .f32⟩
  | 56 => ⟨S8x4096x64, .f32⟩
  | 57 => ⟨S8x4096x4096, .f32⟩
  | 58 => ⟨S4096, .i32⟩
  | 59 => ⟨S1x4096, .i32⟩
  | 60 => ⟨S4096x1, .i32⟩
  | 61 => ⟨S4096x4096, .i32⟩
  | 62 => ⟨S4096x4096, .i32⟩
  | 63 => ⟨S4096x4096, .i1⟩
  | 64 => ⟨S8x4096x4096, .f32⟩
  | 65 => ⟨S_, .f32⟩
  | 66 => ⟨S8x4096x4096, .f32⟩
  | 67 => ⟨S8x4096x4096, .f32⟩
  | 68 => ⟨S8x4096x4096, .f32⟩
  | 69 => ⟨S8x4096x4096, .f32⟩
  | 70 => ⟨S8x4096x4096, .i1⟩
  | 71 => ⟨S8x4096x4096, .f32⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .i1⟩
  | 82 => ⟨S_, .f32⟩
  | 83 => ⟨S8x4096x4096, .f32⟩
  | 84 => ⟨S8x4096x4096, .f32⟩
  | 85 => ⟨S_, .f32⟩
  | 86 => ⟨S8x4096x4096, .f32⟩
  | 87 => ⟨S8x4096x4096, .i1⟩
  | 88 => ⟨S_, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S8x4096x4096, .f32⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S8x4096x4096, .f32⟩
  | 114 => ⟨S_, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .i1⟩
  | 120 => ⟨S8x4096x4096, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x2560, .f32⟩

abbrev hbmTy0_1 (i : Nat) : BufTy := match i % 128 with
  | 0 => ⟨S_, .f32⟩
  | 1 => ⟨S8x4096x4096, .f32⟩
  | 2 => ⟨S8x4096x4096, .i1⟩
  | 3 => ⟨S_, .f32⟩
  | 4 => ⟨S8x4096x4096, .f32⟩
  | 5 => ⟨S8x4096x4096, .f32⟩
  | 6 => ⟨S_, .f32⟩
  | 7 => ⟨S8x4096x4096, .f32⟩
  | 8 => ⟨S8x4096x4096, .i1⟩
  | 9 => ⟨S_, .f32⟩
  | 10 => ⟨S8x4096x4096, .f32⟩
  | 11 => ⟨S8x4096x4096, .f32⟩
  | 12 => ⟨S8x4096x4096, .f32⟩
  | 13 => ⟨S8x4096x4096, .f32⟩
  | 14 => ⟨S_, .f32⟩
  | 15 => ⟨S_, .f32⟩
  | 16 => ⟨S_, .i1⟩
  | 17 => ⟨S_, .f32⟩
  | 18 => ⟨S_, .f32⟩
  | 19 => ⟨S_, .f32⟩
  | 20 => ⟨S_, .f32⟩
  | 21 => ⟨S8x4096x4096, .f32⟩
  | 22 => ⟨S8x4096x4096, .i1⟩
  | 23 => ⟨S_, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S_, .f32⟩
  | 30 => ⟨S8x4096x4096, .f32⟩
  | 31 => ⟨S8x4096x4096, .f32⟩
  | 32 => ⟨S8x4096x4096, .f32⟩
  | 33 => ⟨S_, .f32⟩
  | 34 => ⟨S_, .f32⟩
  | 35 => ⟨S8x4096x4096, .i1⟩
  | 36 => ⟨S8x4096x4096, .f32⟩
  | 37 => ⟨S8x4096x4096, .f32⟩
  | 38 => ⟨S_, .f32⟩
  | 39 => ⟨S8x4096x4096, .f32⟩
  | 40 => ⟨S_, .f32⟩
  | 41 => ⟨S_, .f32⟩
  | 42 => ⟨S8x4096x4096, .f32⟩
  | 43 => ⟨S8x4096x4096, .f32⟩
  | 44 => ⟨S8x4096x4096, .f32⟩
  | 45 => ⟨S8x4096x4096, .f32⟩
  | 46 => ⟨S_, .f32⟩
  | 47 => ⟨S_, .f32⟩
  | 48 => ⟨S8x4096x4096, .i1⟩
  | 49 => ⟨S8x4096x4096, .f32⟩
  | 50 => ⟨S8x4096x4096, .f32⟩
  | 51 => ⟨S_, .f32⟩
  | 52 => ⟨S8x4096x4096, .f32⟩
  | 53 => ⟨S4096x8x64, .f32⟩
  | 54 => ⟨S8x4096x64, .f32⟩
  | 55 => ⟨S8x4096x64, .f32⟩
  | 56 => ⟨S4096x8x64, .f32⟩
  | 57 => ⟨S4096x512, .f32⟩
  | 58 => ⟨S4096x8x64, .f32⟩
  | 59 => ⟨S8x4096x64, .f32⟩
  | 60 => ⟨S8x64x4096, .f32⟩
  | 61 => ⟨S8x4096x64, .f32⟩
  | 62 => ⟨S8x4096x4096, .f32⟩
  | 63 => ⟨S4096x8x64, .f32⟩
  | 64 => ⟨S4096x512, .f32⟩
  | 65 => ⟨S_, .f32⟩
  | 66 => ⟨S8x4096x4096, .f32⟩
  | 67 => ⟨S8x4096x4096, .f32⟩
  | 68 => ⟨S8x4096x4096, .f32⟩
  | 69 => ⟨S8x4096x4096, .f32⟩
  | 70 => ⟨S_, .f32⟩
  | 71 => ⟨S_, .f32⟩
  | 72 => ⟨S8x4096x4096, .f32⟩
  | 73 => ⟨S8x4096x4096, .f32⟩
  | 74 => ⟨S_, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x64, .f32⟩
  | 86 => ⟨S8x4096x64, .f32⟩
  | 87 => ⟨S8x4096x64, .f32⟩
  | 88 => ⟨S_, .f32⟩
  | 89 => ⟨S64, .f32⟩
  | 90 => ⟨S1x1x64, .f32⟩
  | 91 => ⟨S8x4096x64, .f32⟩
  | 92 => ⟨S8x4096x64, .f32⟩
  | 93 => ⟨S_, .f32⟩
  | 94 => ⟨S64, .f32⟩
  | 95 => ⟨S8x4096x64, .f32⟩
  | 96 => ⟨S_, .f32⟩
  | 97 => ⟨S8x4096, .f32⟩
  | 98 => ⟨S8x4096x1, .f32⟩
  | 99 => ⟨S8x4096x64, .f32⟩
  | 100 => ⟨S8x4096x64, .f32⟩
  | 101 => ⟨S8x4096x1, .f32⟩
  | 102 => ⟨S_, .f32⟩
  | 103 => ⟨S8x4096x1, .f32⟩
  | 104 => ⟨S8x4096x1, .f32⟩
  | 105 => ⟨S_, .f32⟩
  | 106 => ⟨S8x4096, .f32⟩
  | 107 => ⟨S8x4096x64, .f32⟩
  | 108 => ⟨S8x4096x64, .f32⟩
  | 109 => ⟨S8x4096x64, .f32⟩
  | 110 => ⟨S8x4096x64, .f32⟩
  | 111 => ⟨S8x4096x64, .f32⟩
  | 112 => ⟨S1x64, .f32⟩
  | 113 => ⟨S4096x8x64, .f32⟩
  | 114 => ⟨S4096x512, .f32⟩
  | 115 => ⟨S_, .f32⟩
  | 116 => ⟨S8x4096x64, .f32⟩
  | 117 => ⟨S8x4096x64, .f32⟩
  | 118 => ⟨S8x4096x64, .f32⟩
  | 119 => ⟨S_, .f32⟩
  | 120 => ⟨S64, .f32⟩
  | 121 => ⟨S1x1x64, .f32⟩
  | 122 => ⟨S8x4096x64, .f32⟩
  | 123 => ⟨S8x4096x64, .f32⟩
  | 124 => ⟨S_, .f32⟩
  | 125 => ⟨S64, .f32⟩
  | 126 => ⟨S8x4096x64, .f32⟩
  | 127 => ⟨S_, .f32⟩
  | _ => ⟨S4096x2560, .f32⟩

abbrev hbmTy0_2 (i : Nat) : BufTy := match i % 128 with
  | 0 => ⟨S8x4096, .f32⟩
  | 1 => ⟨S8x4096x1, .f32⟩
  | 2 => ⟨S8x4096x64, .f32⟩
  | 3 => ⟨S8x4096x64, .f32⟩
  | 4 => ⟨S8x4096x1, .f32⟩
  | 5 => ⟨S_, .f32⟩
  | 6 => ⟨S8x4096x1, .f32⟩
  | 7 => ⟨S8x4096x1, .f32⟩
  | 8 => ⟨S_, .f32⟩
  | 9 => ⟨S8x4096, .f32⟩
  | 10 => ⟨S8x4096x64, .f32⟩
  | 11 => ⟨S8x4096x64, .f32⟩
  | 12 => ⟨S8x4096x64, .f32⟩
  | 13 => ⟨S8x4096x64, .f32⟩
  | 14 => ⟨S8x4096x64, .f32⟩
  | 15 => ⟨S1x64, .f32⟩
  | 16 => ⟨S4096x8x64, .f32⟩
  | 17 => ⟨S4096x512, .f32⟩
  | 18 => ⟨S4096x512, .bf16⟩
  | 19 => ⟨S4096x512, .bf16⟩
  | 20 => ⟨S4096x512, .bf16⟩
  | _ => ⟨S4096x2560, .f32⟩

abbrev hbmTy (i : Nat) : BufTy := match i / 128 with
  | 0 => hbmTy0_0 i
  | 1 => hbmTy0_1 i
  | 2 => hbmTy0_2 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call0_v0 : Ref sig .tc := ⟨.hbm, 64, rfl⟩
abbrev main_call0_call0_cst : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_v5 : Ref sig .tc := ⟨.hbm, 71, rfl⟩
abbrev main_call0_call0_v6 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_v11 : Ref sig .tc := ⟨.hbm, 77, rfl⟩
abbrev main_call0_v1_0 : Ref sig .tc := ⟨.hbm, 78, rfl⟩
abbrev main_call0_call0_cst_0 : Ref sig .tc := ⟨.hbm, 79, rfl⟩
abbrev main_call0_call0_v13 : Ref sig .tc := ⟨.hbm, 80, rfl⟩
abbrev main_call0_call0_v14 : Ref sig .tc := ⟨.hbm, 81, rfl⟩
abbrev main_call0_call0_cst_1 : Ref sig .tc := ⟨.hbm, 82, rfl⟩
abbrev main_call0_call0_v15 : Ref sig .tc := ⟨.hbm, 83, rfl⟩
abbrev main_call0_call0_v16 : Ref sig .tc := ⟨.hbm, 84, rfl⟩
abbrev main_call0_call0_cst_2 : Ref sig .tc := ⟨.hbm, 85, rfl⟩
abbrev main_call0_call0_v17 : Ref sig .tc := ⟨.hbm, 86, rfl⟩
abbrev main_call0_call0_v18 : Ref sig .tc := ⟨.hbm, 87, rfl⟩
abbrev main_call0_call0_cst_3 : Ref sig .tc := ⟨.hbm, 88, rfl⟩
abbrev main_call0_call0_v19 : Ref sig .tc := ⟨.hbm, 89, rfl⟩
abbrev main_call0_call0_v20 : Ref sig .tc := ⟨.hbm, 90, rfl⟩
abbrev main_call0_call0_v21 : Ref sig .tc := ⟨.hbm, 91, rfl⟩
abbrev main_v51_1 : Ref sig .tc := ⟨.hbm, 92, rfl⟩
abbrev main_call0_call0_cst_4 : Ref sig .tc := ⟨.hbm, 93, rfl⟩
abbrev main_call0_call0_cst_5 : Ref sig .tc := ⟨.hbm, 94, rfl⟩
abbrev main_call0_call0_v23 : Ref sig .tc := ⟨.hbm, 95, rfl⟩
abbrev main_call0_call0_cst_6 : Ref sig .tc := ⟨.hbm, 96, rfl⟩
abbrev main_call0_call0_cst_7 : Ref sig .tc := ⟨.hbm, 97, rfl⟩
abbrev main_call0_call0_v24 : Ref sig .tc := ⟨.hbm, 98, rfl⟩
abbrev main_call0_call0_cst_8 : Ref sig .tc := ⟨.hbm, 99, rfl⟩
abbrev main_call0_call0_v25 : Ref sig .tc := ⟨.hbm, 100, rfl⟩
abbrev main_call0_call0_v26 : Ref sig .tc := ⟨.hbm, 101, rfl⟩
abbrev main_call0_call0_cst_9 : Ref sig .tc := ⟨.hbm, 102, rfl⟩
abbrev main_call0_call0_v27 : Ref sig .tc := ⟨.hbm, 103, rfl⟩
abbrev main_call0_call0_v28 : Ref sig .tc := ⟨.hbm, 104, rfl⟩
abbrev main_call0_call0_v29 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_cst_10 : Ref sig .tc := ⟨.hbm, 108, rfl⟩
abbrev main_call0_call0_v32 : Ref sig .tc := ⟨.hbm, 109, rfl⟩
abbrev main_v51_2 : Ref sig .tc := ⟨.hbm, 110, rfl⟩
abbrev main_v51_0 : Ref sig .tc := ⟨.hbm, 111, rfl⟩
abbrev main_v52 : Ref sig .tc := ⟨.hbm, 112, rfl⟩
abbrev main_call1_v0 : Ref sig .tc := ⟨.hbm, 113, rfl⟩
abbrev main_call1_call0_cst : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_call0_v2 : Ref sig .tc := ⟨.hbm, 117, rfl⟩
abbrev main_call1_call0_v3 : Ref sig .tc := ⟨.hbm, 118, rfl⟩
abbrev main_call1_call0_v4 : Ref sig .tc := ⟨.hbm, 119, rfl⟩
abbrev main_call1_call0_v5 : Ref sig .tc := ⟨.hbm, 120, rfl⟩
abbrev main_call1_call0_v6 : Ref sig .tc := ⟨.hbm, 121, rfl⟩
abbrev main_call1_call0_v7 : Ref sig .tc := ⟨.hbm, 122, rfl⟩
abbrev main_call1_call0_v8 : Ref sig .tc := ⟨.hbm, 123, rfl⟩
abbrev main_call1_call0_v9 : Ref sig .tc := ⟨.hbm, 124, rfl⟩
abbrev main_call1_call0_v10 : Ref sig .tc := ⟨.hbm, 125, rfl⟩
abbrev main_call1_call0_v11 : Ref sig .tc := ⟨.hbm, 126, rfl⟩
abbrev main_call1_v1_0 : Ref sig .tc := ⟨.hbm, 127, rfl⟩
abbrev main_call1_call0_cst_0 : Ref sig .tc := ⟨.hbm, 128, rfl⟩
abbrev main_call1_call0_v13 : Ref sig .tc := ⟨.hbm, 129, rfl⟩
abbrev main_call1_call0_v14 : Ref sig .tc := ⟨.hbm, 130, rfl⟩
abbrev main_call1_call0_cst_1 : Ref sig .tc := ⟨.hbm, 131, rfl⟩
abbrev main_call1_call0_v15 : Ref sig .tc := ⟨.hbm, 132, rfl⟩
abbrev main_call1_call0_v16 : Ref sig .tc := ⟨.hbm, 133, rfl⟩
abbrev main_call1_call0_cst_2 : Ref sig .tc := ⟨.hbm, 134, rfl⟩
abbrev main_call1_call0_v17 : Ref sig .tc := ⟨.hbm, 135, rfl⟩
abbrev main_call1_call0_v18 : Ref sig .tc := ⟨.hbm, 136, rfl⟩
abbrev main_call1_call0_cst_3 : Ref sig .tc := ⟨.hbm, 137, rfl⟩
abbrev main_call1_call0_v19 : Ref sig .tc := ⟨.hbm, 138, rfl⟩
abbrev main_call1_call0_v20 : Ref sig .tc := ⟨.hbm, 139, rfl⟩
abbrev main_call1_call0_v21 : Ref sig .tc := ⟨.hbm, 140, rfl⟩
abbrev main_v53_1 : Ref sig .tc := ⟨.hbm, 141, rfl⟩
abbrev main_call1_call0_cst_4 : Ref sig .tc := ⟨.hbm, 142, rfl⟩
abbrev main_call1_call0_cst_5 : Ref sig .tc := ⟨.hbm, 143, rfl⟩
abbrev main_call1_call0_v23 : Ref sig .tc := ⟨.hbm, 144, rfl⟩
abbrev main_call1_call0_cst_6 : Ref sig .tc := ⟨.hbm, 145, rfl⟩
abbrev main_call1_call0_cst_7 : Ref sig .tc := ⟨.hbm, 146, rfl⟩
abbrev main_call1_call0_v24 : Ref sig .tc := ⟨.hbm, 147, rfl⟩
abbrev main_call1_call0_cst_8 : Ref sig .tc := ⟨.hbm, 148, rfl⟩
abbrev main_call1_call0_v25 : Ref sig .tc := ⟨.hbm, 149, rfl⟩
abbrev main_call1_call0_v26 : Ref sig .tc := ⟨.hbm, 150, rfl⟩
abbrev main_call1_call0_cst_9 : Ref sig .tc := ⟨.hbm, 151, rfl⟩
abbrev main_call1_call0_v27 : Ref sig .tc := ⟨.hbm, 152, rfl⟩
abbrev main_call1_call0_v28 : Ref sig .tc := ⟨.hbm, 153, rfl⟩
abbrev main_call1_call0_v29 : Ref sig .tc := ⟨.hbm, 154, rfl⟩
abbrev main_call1_call0_v30 : Ref sig .tc := ⟨.hbm, 155, rfl⟩
abbrev main_call1_call0_v31 : Ref sig .tc := ⟨.hbm, 156, rfl⟩
abbrev main_call1_call0_cst_10 : Ref sig .tc := ⟨.hbm, 157, rfl⟩
abbrev main_call1_call0_v32 : Ref sig .tc := ⟨.hbm, 158, rfl⟩
abbrev main_v53_2 : Ref sig .tc := ⟨.hbm, 159, rfl⟩
abbrev main_v53_0 : Ref sig .tc := ⟨.hbm, 160, rfl⟩
abbrev main_cst_8 : Ref sig .tc := ⟨.hbm, 161, rfl⟩
abbrev main_call2_v0 : Ref sig .tc := ⟨.hbm, 162, rfl⟩
abbrev main_v54_1 : Ref sig .tc := ⟨.hbm, 163, rfl⟩
abbrev main_call2_v2 : Ref sig .tc := ⟨.hbm, 164, rfl⟩
abbrev main_v54_0 : Ref sig .tc := ⟨.hbm, 165, rfl⟩
abbrev main_call2_cst : Ref sig .tc := ⟨.hbm, 166, rfl⟩
abbrev main_v54_2 : Ref sig .tc := ⟨.hbm, 167, rfl⟩
abbrev main_call3_cst : Ref sig .tc := ⟨.hbm, 168, rfl⟩
abbrev main_call3_v0 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_cst_9 : Ref sig .tc := ⟨.hbm, 174, rfl⟩
abbrev main_call4_v0 : Ref sig .tc := ⟨.hbm, 175, rfl⟩
abbrev main_v59_1 : Ref sig .tc := ⟨.hbm, 176, rfl⟩
abbrev main_call4_v2 : Ref sig .tc := ⟨.hbm, 177, rfl⟩
abbrev main_v59_0 : Ref sig .tc := ⟨.hbm, 178, rfl⟩
abbrev main_call4_cst : Ref sig .tc := ⟨.hbm, 179, rfl⟩
abbrev main_v59_2 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_call5_cst : Ref sig .tc := ⟨.hbm, 193, rfl⟩
abbrev main_call5_v0 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_call6_cst : Ref sig .tc := ⟨.hbm, 198, rfl⟩
abbrev main_call6_v0 : Ref sig .tc := ⟨.hbm, 199, rfl⟩
abbrev main_v75 : Ref sig .tc := ⟨.hbm, 200, rfl⟩
abbrev main_v76 : Ref sig .tc := ⟨.hbm, 201, rfl⟩
abbrev main_call7_cst : Ref sig .tc := ⟨.hbm, 202, rfl⟩
abbrev main_call7_v0 : Ref sig .tc := ⟨.hbm, 203, rfl⟩
abbrev main_v77 : Ref sig .tc := ⟨.hbm, 204, rfl⟩
abbrev main_call8_v0 : Ref sig .tc := ⟨.hbm, 205, rfl⟩
abbrev main_call8_v1 : Ref sig .tc := ⟨.hbm, 206, rfl⟩
abbrev main_v78 : Ref sig .tc := ⟨.hbm, 207, rfl⟩
abbrev main_v79 : Ref sig .tc := ⟨.hbm, 208, rfl⟩
abbrev main_call9_v0 : Ref sig .tc := ⟨.hbm, 209, rfl⟩
abbrev main_call9_v1 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_cst_10 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_cst_11 : Ref sig .tc := ⟨.hbm, 221, rfl⟩
abbrev main_v89 : Ref sig .tc := ⟨.hbm, 222, rfl⟩
abbrev main_v90 : Ref sig .tc := ⟨.hbm, 223, rfl⟩
abbrev main_cst_12 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_cst_13 : Ref sig .tc := ⟨.hbm, 230, rfl⟩
abbrev main_v96 : Ref sig .tc := ⟨.hbm, 231, rfl⟩
abbrev main_v97 : Ref sig .tc := ⟨.hbm, 232, rfl⟩
abbrev main_cst_14 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_cst_15 : Ref sig .tc := ⟨.hbm, 243, rfl⟩
abbrev main_v107 : Ref sig .tc := ⟨.hbm, 244, rfl⟩
abbrev main_v108 : Ref sig .tc := ⟨.hbm, 245, rfl⟩
abbrev main_v109 : Ref sig .tc := ⟨.hbm, 246, rfl⟩
abbrev main_cst_16 : Ref sig .tc := ⟨.hbm, 247, rfl⟩
abbrev main_v110 : Ref sig .tc := ⟨.hbm, 248, rfl⟩
abbrev main_v111 : Ref sig .tc := ⟨.hbm, 249, rfl⟩
abbrev main_v112 : Ref sig .tc := ⟨.hbm, 250, rfl⟩
abbrev main_v113 : Ref sig .tc := ⟨.hbm, 251, rfl⟩
abbrev main_cst_17 : Ref sig .tc := ⟨.hbm, 252, rfl⟩
abbrev main_v114 : Ref sig .tc := ⟨.hbm, 253, rfl⟩
abbrev main_v115 : Ref sig .tc := ⟨.hbm, 254, rfl⟩
abbrev main_cst_18 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_cst_19 : Ref sig .tc := ⟨.hbm, 261, rfl⟩
abbrev main_v121 : Ref sig .tc := ⟨.hbm, 262, rfl⟩
abbrev main_v122 : Ref sig .tc := ⟨.hbm, 263, rfl⟩
abbrev main_cst_20 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩

abbrev nD : Nat := 1
abbrev τ : Topo := Topo.v7x

variable {F : FTy → Type} [FloatOps F]
-- ==== MixInKernel.lean ====
abbrev S4096x1024 : Shape := ⟨2, ![4096, 1024]⟩
abbrev S1x1024 : Shape := ⟨2, ![1, 1024]⟩
abbrev S1x1024x2560 : Shape := ⟨3, ![1, 1024, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S4096x2560 : Shape := ⟨2, ![4096, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024x2560, .f32⟩
  | .hbm, ⟨4, _⟩ => ⟨S1024x4x640, .f32⟩
  | .hbm, ⟨5, _⟩ => ⟨S4x1024x640, .f32⟩
  | .hbm, ⟨6, _⟩ => ⟨S4x1024x640, .bf16⟩
  | .hbm, ⟨7, _⟩ => ⟨S4096x2560, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x2560, .f32⟩
  | .local _ .vmem, ⟨5, _⟩ => ⟨S512x2560, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInRefIdeal.lean ====
abbrev S4096x1024 : Shape := ⟨2, ![4096, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S4096x2560 : Shape := ⟨2, ![4096, 2560]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x2560, .f32⟩
  | .hbm, ⟨21, _⟩ => ⟨S4096x2560, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MixOutKernel.lean ====
abbrev S4096x1024 : Shape := ⟨2, ![4096, 1024]⟩
abbrev S4096x512 : Shape := ⟨2, ![4096, 512]⟩
abbrev S1x512 : Shape := ⟨2, ![1, 512]⟩
abbrev S1x1024x1024 : Shape := ⟨3, ![1, 1024, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S4096x1024 : Shape := ⟨2, ![4096, 1024]⟩
abbrev S4096x512 : Shape := ⟨2, ![4096, 512]⟩
abbrev S1x512 : Shape := ⟨2, ![1, 512]⟩
abbrev S1x1024x1024 : Shape := ⟨3, ![1, 1024, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S512, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S512, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== SbKernel.lean ====
abbrev S4096x2560 : Shape := ⟨2, ![4096, 2560]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x512 : Shape := ⟨2, ![4096, 512]⟩
abbrev S4096x128 : Shape := ⟨2, ![4096, 128]⟩
abbrev S128x384 : Shape := ⟨2, ![128, 384]⟩
abbrev S256x256 : Shape := ⟨2, ![256, 256]⟩
abbrev S128x128 : Shape := ⟨2, ![128, 128]⟩
abbrev S128x1 : Shape := ⟨2, ![128, 1]⟩
abbrev S384x128 : Shape := ⟨2, ![384, 128]⟩
abbrev S128x256 : Shape := ⟨2, ![128, 256]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x2560, .f32⟩
  | .hbm, ⟨1, _⟩ => ⟨S1x64, .f32⟩
  | .hbm, ⟨2, _⟩ => ⟨S1x64, .f32⟩
  | .hbm, ⟨3, _⟩ => ⟨S1x1x1x64, .f32⟩
  | .hbm, ⟨4, _⟩ => ⟨S1x1x2x64, .f32⟩
  | .hbm, ⟨5, _⟩ => ⟨S1x128, .f32⟩
  | .hbm, ⟨6, _⟩ => ⟨S1x1x1x64, .f32⟩
  | .hbm, ⟨7, _⟩ => ⟨S1x1x2x64, .f32⟩
  | .hbm, ⟨8, _⟩ => ⟨S1x128, .f32⟩
  | .hbm, ⟨9, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_56 : BitVec 32 := 0#32
  let c16_i32 : BitVec 32 := 16#32
  let v175 : BitVec 32 := Scalar.addi c0_i32_56 c16_i32
  let c1_i32_57 : BitVec 32 := 1#32
  ⟨c0_i32_56, v175, c1_i32_57⟩
def k0_mult1 (k0_t1 : Fin k0_t1_loop.trips) : BitVec 32 :=
  let c2_i32 : BitVec 32 := 2#32
  let c0_i32_56 : BitVec 32 := 0#32
  let c1_i32_57 : BitVec 32 := 1#32
  let arg10 : BitVec 32 := Scf.iv c0_i32_56 c1_i32_57 k0_t1
  let v176 : BitVec 32 := Scalar.muli c2_i32 arg10
  let c0_i32_59 : BitVec 32 := 0#32
  let v177 : BitVec 32 := Scalar.addi v176 c0_i32_59
  let c128_i32 : BitVec 32 := 128#32
  let v180 : BitVec 32 := Scalar.muli v177 c128_i32
  v180
def k0_mult2 (k0_t1 : Fin k0_t1_loop.trips) : BitVec 32 :=
  let c2_i32_60 : BitVec 32 := 2#32
  let c0_i32_56 : BitVec 32 := 0#32
  let c1_i32_57 : BitVec 32 := 1#32
  let arg10 : BitVec 32 := Scf.iv c0_i32_56 c1_i32_57 k0_t1
  let v178 : BitVec 32 := Scalar.muli c2_i32_60 arg10
  let c1_i32_61 : BitVec 32 := 1#32
  let v179 : BitVec 32 := Scalar.addi v178 c1_i32_61
  let c128_i32_62 : BitVec 32 := 128#32
  let v182 : BitVec 32 := Scalar.muli v179 c128_i32_62
  v182
def k0_off1 (k0_t1 : Fin k0_t1_loop.trips) (c0_i32_59 : BitVec 32) : Fin 2 → Nat :=
  let c2_i32 : BitVec 32 := 2#32
  let c0_i32_56 : BitVec 32 := 0#32
  let c1_i32_57 : BitVec 32 := 1#32
  let arg10 : BitVec 32 := Scf.iv c0_i32_56 c1_i32_57 k0_t1
  let v176 : BitVec 32 := Scalar.muli c2_i32 arg10
  let v177 : BitVec 32 := Scalar.addi v176 c0_i32_59
  let c128_i32 : BitVec 32 := 128#32
  let v180 : BitVec 32 := Scalar.muli v177 c128_i32
  let v181 : BitVec 32 := v180
  let v184 : Index := Scalar.indexCast v181
  let c0_63 : Index := 0#32
  ![v184.toNat, 0]
def k0_mult3 (k0_t1 : Fin k0_t1_loop.trips) (arg11 : BitVec 32) : BitVec 32 :=
  let c2_i32 : BitVec 32 := 2#32
  let c0_i32_56 : BitVec 32 := 0#32
  let c1_i32_57 : BitVec 32 := 1#32
  let arg10 : BitVec 32 := Scf.iv c0_i32_56 c1_i32_57 k0_t1
  let v176 : BitVec 32 := Scalar.muli c2_i32 arg10
  let c0_i32_59 : BitVec 32 := 0#32
  let v177 : BitVec 32 := Scalar.addi v176 c0_i32_59
  let c1_i32_81 : BitVec 32 := 1#32
  let v223 : BitVec 32 := Scalar.addi v177 c1_i32_81
  let c128_i32_82 : BitVec 32 := 128#32
  let v224 : BitVec 32 := Scalar.muli v223 c128_i32_82
  let c384_i32 : BitVec 32 := 384#32
  let v225 : BitVec 32 := Scalar.muli arg11 c384_i32
  let v226 : BitVec 32 := Scalar.subi v224 v225
  let c384_i32_83 : BitVec 32 := 384#32
  let v227 : BitVec 32 := Scalar.subi v226 c384_i32_83
  let c0_i32_84 : BitVec 32 := 0#32
  let v228 : BitVec 32 := Scalar.maxsi v227 c0_i32_84
  v228

def k0_mult4 (k0_t1 : Fin k0_t1_loop.trips) (arg11 : BitVec 32) : BitVec 32 :=
  let c2_i32_60 : BitVec 32 := 2#32
  let c0_i32_56 : BitVec 32 := 0#32
  let c1_i32_57 : BitVec 32 := 1#32
  let arg10 : BitVec 32 := Scf.iv c0_i32_56 c1_i32_57 k0_t1
  let v178 : BitVec 32 := Scalar.muli c2_i32_60 arg10
  let c1_i32_61 : BitVec 32 := 1#32
  let v179 : BitVec 32 := Scalar.addi v178 c1_i32_61
  let c1_i32_86 : BitVec 32 := 1#32
  let v238 : BitVec 32 := Scalar.addi v179 c1_i32_86
  let c128_i32_87 : BitVec 32 := 128#32
  let v239 : BitVec 32 := Scalar.muli v238 c128_i32_87
  let c384_i32_88 : BitVec 32 := 384#32
  let v240 : BitVec 32 := Scalar.muli arg11 c384_i32_88
  let v241 : BitVec 32 := Scalar.subi v239 v240
  let c384_i32_89 : BitVec 32 := 384#32
  let v242 : BitVec 32 := Scalar.subi v241 c384_i32_89
  let c0_i32_90 : BitVec 32 := 0#32
  let v243 : BitVec 32 := Scalar.maxsi v242 c0_i32_90
  v243
def k0_off2 (k0_t1 : Fin k0_t1_loop.trips) (arg11 : BitVec 32) (c0_i32_59 : BitVec 32) : Fin 2 → Nat :=
  let c2_i32 : BitVec 32 := 2#32
  let c0_i32_56 : BitVec 32 := 0#32
  let c1_i32_57 : BitVec 32 := 1#32
  let arg10 : BitVec 32 := Scf.iv c0_i32_56 c1_i32_57 k0_t1
  let v176 : BitVec 32 := Scalar.muli c2_i32 arg10
  let v177 : BitVec 32 := Scalar.addi v176 c0_i32_59
  let c1_i32_81 : BitVec 32 := 1#32
  let v223 : BitVec 32 := Scalar.addi v177 c1_i32_81
  let c128_i32_82 : BitVec 32 := 128#32
  let v224 : BitVec 32 := Scalar.muli v223 c128_i32_82
  let c384_i32 : BitVec 32 := 384#32
  let v225 : BitVec 32 := Scalar.muli arg11 c384_i32
  let v226 : BitVec 32 := Scalar.subi v224 v225
  let c384_i32_83 : BitVec 32 := 384#32
  let v227 : BitVec 32 := Scalar.subi v226 c384_i32_83
  let c0_i32_84 : BitVec 32 := 0#32
  let v228 : BitVec 32 := Scalar.maxsi v227 c0_i32_84
  let v229 : BitVec 32 := v228
  let v253 : Index := Scalar.indexCast v229
  let c0_92 : Index := 0#32
  ![v253.toNat, 0]

def k0_chk1 (k0_t1 : Fin k0_t1_loop.trips) (arg11 : BitVec 32) : Prop :=
  (128 ∣ (k0_mult3 k0_t1 arg11).toNat) ∧
  (128 ∣ (k0_mult4 k0_t1 arg11).toNat) ∧
  (∀ (r : Fin 2), ∀ a, (k0_off2 k0_t1 arg11 (BitVec.ofNat 32 r.val)) a + S384x128.size a ≤ S4096x128.size a)
theorem k0_mult3_dvd : ∀ (k0_t1 : Fin k0_t1_loop.trips) (arg11 : BitVec 32) (k0_hw1 : k0_chk1 k0_t1 arg11), 128 ∣ (k0_mult3 k0_t1 arg11).toNat := fun k0_t1 arg11 k0_hw1 => k0_hw1.1
theorem k0_mult4_dvd : ∀ (k0_t1 : Fin k0_t1_loop.trips) (arg11 : BitVec 32) (k0_hw1 : k0_chk1 k0_t1 arg11), 128 ∣ (k0_mult4 k0_t1 arg11).toNat := fun k0_t1 arg11 k0_hw1 => k0_hw1.2.1
theorem k0_off2_inb : ∀ (k0_t1 : Fin k0_t1_loop.trips) (arg11 : BitVec 32) (k0_hw1 : k0_chk1 k0_t1 arg11), ∀ (r : Fin 2), ∀ a, (k0_off2 k0_t1 arg11 (BitVec.ofNat 32 r.val)) a + S384x128.size a ≤ S4096x128.size a := fun k0_t1 arg11 k0_hw1 r => k0_hw1.2.2 r

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SbKernelIdeal.lean ====
variable {F : FTy → Type} [FloatOps F] [Named F]
def κ : String → Option EReal := fun
  | "exit" => some ⊥
  | _ => none
-- ==== SbRefIdeal.lean ====
abbrev S4096x2560 : Shape := ⟨2, ![4096, 2560]⟩
abbrev S1x64 : Shape := ⟨2, ![1, 64]⟩
abbrev S4096x1536 : Shape := ⟨2, ![4096, 1536]⟩
abbrev S4096x512 : Shape := ⟨2, ![4096, 512]⟩
abbrev S4096x8x64 : Shape := ⟨3, ![4096, 8, 64]⟩
abbrev S8x4096x64 : Shape := ⟨3, ![8, 4096, 64]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x64 : Shape := ⟨3, ![1, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 109
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S1x64, .f32⟩
  | .hbm, ⟨2, _⟩ => ⟨S1x64, .f32⟩
  | .hbm, ⟨3, _⟩ => ⟨S4096x1536, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S64, .f32⟩
  | .hbm, ⟨10, _⟩ => ⟨S8x4096x64, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x64, .f32⟩
  | .hbm, ⟨22, _⟩ => ⟨S8x4096x64, .f32⟩
  | .hbm, ⟨23, _⟩ => ⟨S1x1x64, .f32⟩
  | .hbm, ⟨24, _⟩ => ⟨S8x4096x64, .f32⟩
  | .hbm, ⟨25, _⟩ => ⟨S8x4096x64, .f32⟩
  | .hbm, ⟨26, _⟩ => ⟨S_, .f32⟩
  | .hbm, ⟨27, _⟩ => ⟨S8x4096x64, .f32⟩
  | .hbm, ⟨28, _⟩ => ⟨S8x4096x64, .f32⟩
  | .hbm, ⟨29, _⟩ => ⟨S4096x8x64, .f32⟩
  | .hbm, ⟨30, _⟩ => ⟨S8x4096x64, .f32⟩
  | .hbm, ⟨31, _⟩ => ⟨S64, .f32⟩
  | .hbm, ⟨32, _⟩ => ⟨S8x4096x64, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x64, .f32⟩
  | .hbm, ⟨44, _⟩ => ⟨S8x4096x64, .f32⟩
  | .hbm, ⟨45, _⟩ => ⟨S1x1x64, .f32⟩
  | .hbm, ⟨46, _⟩ => ⟨S8x4096x64, .f32⟩
  | .hbm, ⟨47, _⟩ => ⟨S8x4096x64, .f32⟩
  | .hbm, ⟨48, _⟩ => ⟨S8x4096x4096, .f32⟩
  | .hbm, ⟨49, _⟩ => ⟨S4096, .i32⟩
  | .hbm, ⟨50, _⟩ => ⟨S1x4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S8x4096x4096, .f32⟩
  | .hbm, ⟨56, _⟩ => ⟨S_, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .i1⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S8x4096x4096, .i1⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S_, .f32⟩
  | .hbm, ⟨90, _⟩ => ⟨S8x4096x4096, .i1⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S8x4096x4096, .f32⟩
  | .hbm, ⟨99, _⟩ => ⟨S_, .f32⟩
  | .hbm, ⟨100, _⟩ => ⟨S_, .f32⟩
  | .hbm, ⟨101, _⟩ => ⟨S8x4096x4096, .i1⟩
  | .hbm, ⟨102, _⟩ => ⟨S8x4096x4096, .f32⟩
  | .hbm, ⟨103, _⟩ => ⟨S8x4096x4096, .f32⟩
  | .hbm, ⟨104, _⟩ => ⟨S4096x8x64, .f32⟩
  | .hbm, ⟨105, _⟩ => ⟨S8x4096x64, .f32⟩
  | .hbm, ⟨106, _⟩ => ⟨S8x4096x64, .f32⟩
  | .hbm, ⟨107, _⟩ => ⟨S4096x8x64, .f32⟩
  | .hbm, ⟨108, _⟩ => ⟨S4096x512, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v45 : Ref sig .tc := ⟨.hbm, 70, rfl⟩
abbrev main_v46 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1 : Ref sig .tc := ⟨.hbm, 86, rfl⟩
abbrev main_v47 : Ref sig .tc := ⟨.hbm, 87, rfl⟩
abbrev main_cst_6 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v48 : Ref sig .tc := ⟨.hbm, 92, rfl⟩
abbrev main_call3_cst : Ref sig .tc := ⟨.hbm, 93, rfl⟩
abbrev main_call3_v0 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_7 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩

abbrev nD : Nat := 1
abbrev τ : Topo := Topo.v7x

variable {F : FTy → Type} [FloatOps F]
-- ==== ScanKernel.lean ====
abbrev S4096x2560 : Shape := ⟨2, ![4096, 2560]⟩
abbrev S1x4x512 : Shape := ⟨3, ![1, 4, 512]⟩
abbrev S1x512 : Shape := ⟨2, ![1, 512]⟩
abbrev S1x8x64x64 : Shape := ⟨4, ![1, 8, 64, 64]⟩
abbrev S8x64x64 : Shape := ⟨3, ![8, 64, 64]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x512 : Shape := ⟨2, ![4, 512]⟩
abbrev S4096x512 : Shape := ⟨2, ![4096, 512]⟩
abbrev S8x512 : Shape := ⟨2, ![8, 512]⟩
abbrev S504x512 : Shape := ⟨2, ![504, 512]⟩

abbrev nBuf : Space → Nat
  | .hbm => 41
  | .vmem => 17
  | .smem => 0
  | _ => 0

abbrev bufTy : (tb : Table) → Fin (tcTables nBuf tb) → BufTy
  | .hbm, ⟨0, _⟩ => ⟨S4096x2560, .f32⟩
  | .hbm, ⟨1, _⟩ => ⟨S1x4x512, .f32⟩
  | .hbm, ⟨2, _⟩ => ⟨S1x512, .f32⟩
  | .hbm, ⟨3, _⟩ => ⟨S1x8x64x64, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x512, .f32⟩
  | .hbm, ⟨8, _⟩ => ⟨S8x64x64, .f32⟩
  | .hbm, ⟨9, _⟩ => ⟨S8x64x1x64, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S8x64x64, .f32⟩
  | .hbm, ⟨23, _⟩ => ⟨S8x64x1x64, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S8x1x8x1, .f32⟩
  | .hbm, ⟨32, _⟩ => ⟨S8x64x8x64, .f32⟩
  | .hbm, ⟨33, _⟩ => ⟨S8x64x8x64, .f32⟩
  | .hbm, ⟨34, _⟩ => ⟨S8x64x8x64, .f32⟩
  | .hbm, ⟨35, _⟩ => ⟨S512x512, .f32⟩
  | .hbm, ⟨36, _⟩ => ⟨S4x512, .f32⟩
  | .hbm, ⟨37, _⟩ => ⟨S512x512, .bf16⟩
  | .hbm, ⟨38, _⟩ => ⟨S512x512, .bf16⟩
  | .hbm, ⟨39, _⟩ => ⟨S4096x512, .f32⟩
  | .hbm, ⟨40, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S8x512, .f32⟩
  | .local _ .vmem, ⟨16, _⟩ => ⟨S1x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ScanKernelIdeal.lean ====
variable {F : FTy → Type} [FloatOps F] [Named F]
def κ : String → Option EReal := fun
  | "k1" => some ((8943 / 200000 : ℝ) : EReal)
  | _ => none
-- ==== ScanRefIdeal.lean ====
abbrev S4096x2560 : Shape := ⟨2, ![4096, 2560]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x1x512 : Shape := ⟨3, ![1, 1, 512]⟩
abbrev S512 : Shape := ⟨1, ![512]⟩
abbrev S8x64x64 : Shape := ⟨3, ![8, 64, 64]⟩
abbrev S8x64 : Shape := ⟨2, ![8, 64]⟩
abbrev S512x64 : Shape := ⟨2, ![512, 64]⟩
abbrev S1x512x1x64 : Shape := ⟨4, ![1, 512, 1, 64]⟩
abbrev S1x512x8x64 : Shape := ⟨4, ![1, 512, 8, 64]⟩
abbrev S512x512 : Shape := ⟨2, ![512, 512]⟩
abbrev S512x1 : Shape := ⟨2, ![512, 1]⟩
abbrev S2048x2x512 : Shape := ⟨3, ![2048, 2, 512]⟩
abbrev S2048x1x512 : Shape := ⟨3, ![2048, 1, 512]⟩
abbrev S2048x512 : Shape := ⟨2, ![2048, 512]⟩
abbrev S1024x2x512 : Shape := ⟨3, ![1024, 2, 512]⟩
abbrev S1024x1x512 : Shape := ⟨3, ![1024, 1, 512]⟩
abbrev S1024x512 : Shape := ⟨2, ![1024, 512]⟩
abbrev S512x2x512 : Shape := ⟨3, ![512, 2, 512]⟩
abbrev S512x1x512 : Shape := ⟨3, ![512, 1, 512]⟩
abbrev S256x2x512 : Shape := ⟨3, ![256, 2, 512]⟩
abbrev S256x1x512 : Shape := ⟨3, ![256, 1, 512]⟩
abbrev S256x512 : Shape := ⟨2, ![256, 512]⟩
abbrev S128x2x512 : Shape := ⟨3, ![128, 2, 512]⟩
abbrev S128x1x512 : Shape := ⟨3, ![128, 1, 512]⟩
abbrev S128x512 : Shape := ⟨2, ![128, 512]⟩
abbrev S64x2x512 : Shape := ⟨3, ![64, 2, 512]⟩
abbrev S64x1x512 : Shape := ⟨3, ![64, 1, 512]⟩
abbrev S64x512 : Shape := ⟨2, ![64, 512]⟩
abbrev S32x2x512 : Shape := ⟨3, ![32, 2, 512]⟩
abbrev S32x1x512 : Shape := ⟨3, ![32, 1, 512]⟩
abbrev S32x512 : Shape := ⟨2, ![32, 512]⟩
abbrev S16x2x512 : Shape := ⟨3, ![16, 2, 512]⟩
abbrev S16x1x512 : Shape := ⟨3, ![16, 1, 512]⟩
abbrev S16x512 : Shape := ⟨2, ![16, 512]⟩
abbrev S8x2x512 : Shape := ⟨3, ![8, 2, 512]⟩
abbrev S8x1x512 : Shape := ⟨3, ![8, 1, 512]⟩
abbrev S8x512 : Shape := ⟨2, ![8, 512]⟩
abbrev S4x2x512 : Shape := ⟨3, ![4, 2, 512]⟩
abbrev S4x1x512 : Shape := ⟨3, ![4, 1, 512]⟩
abbrev S4x512 : Shape := ⟨2, ![4, 512]⟩
abbrev S2x2x512 : Shape := ⟨3, ![2, 2, 512]⟩
abbrev S2x1x512 : Shape := ⟨3, ![2, 1, 512]⟩
abbrev S2x512 : Shape := ⟨2, ![2, 512]⟩
abbrev S1x2x512 : Shape := ⟨3, ![1, 2, 512]⟩
abbrev S5x512 : Shape := ⟨2, ![5, 512]⟩
abbrev S9x512 : Shape := ⟨2, ![9, 512]⟩
abbrev S17x512 : Shape := ⟨2, ![17, 512]⟩
abbrev S33x512 : Shape := ⟨2, ![33, 512]⟩
abbrev S65x512 : Shape := ⟨2, ![65, 512]⟩
abbrev S129x512 : Shape := ⟨2, ![129, 512]⟩
abbrev S257x512 : Shape := ⟨2, ![257, 512]⟩
abbrev S513x512 : Shape := ⟨2, ![513, 512]⟩
abbrev S1025x512 : Shape := ⟨2, ![1025, 512]⟩
abbrev S2049x512 : Shape := ⟨2, ![2049, 512]⟩

abbrev nBuf : Space → Nat
  | .hbm => 506
  | .vmem => 0
  | .smem => 0
  | _ => 0

abbrev hbmTy0_0 (i : Nat) : BufTy := match i % 128 with
  | 0 => ⟨S4096x2560, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S4096x512, .f32⟩
  | 9 => ⟨S4096x512, .f32⟩
  | 10 => ⟨S_, .f32⟩
  | 11 => ⟨S3x512, .f32⟩
  | 12 => ⟨S4099x512, .f32⟩
  | 13 => ⟨S4096x512, .f32⟩
  | 14 => ⟨S1x1x512, .f32⟩
  | 15 => ⟨S512, .f32⟩
  | 16 => ⟨S1x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S1x1x512, .f32⟩
  | 24 => ⟨S512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S1x1x512, .f32⟩
  | 31 => ⟨S512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S1x1x512, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S512, .f32⟩
  | 44 => ⟨S1x512, .f32⟩
  | 45 => ⟨S4096x512, .f32⟩
  | 46 => ⟨S4096x512, .f32⟩
  | 47 => ⟨S8x64x64, .f32⟩
  | 48 => ⟨S8x64, .i32⟩
  | 49 => ⟨S512, .i32⟩
  | 50 => ⟨S512x64, .f32⟩
  | 51 => ⟨S1x512x1x64, .f32⟩
  | 52 => ⟨S1x512x8x64, .f32⟩
  | 53 => ⟨S512x512, .f32⟩
  | 54 => ⟨S512x1, .i32⟩
  | 55 => ⟨S1x512, .i32⟩
  | 56 => ⟨S512x512, .i32⟩
  | 57 => ⟨S512x512, .i32⟩
  | 58 => ⟨S512x512, .i1⟩
  | 59 => ⟨S_, .f32⟩
  | 60 => ⟨S_, .f32⟩
  | 61 => ⟨S512x512, .f32⟩
  | 62 => ⟨S512x512, .f32⟩
  | 63 => ⟨S4096x512, .f32⟩
  | 64 => ⟨S512, .f32⟩
  | 65 => ⟨S1x512, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S8x64x64, .f32⟩
  | 77 => ⟨S8x64, .i32⟩
  | 78 => ⟨S512, .i32⟩
  | 79 => ⟨S512x64, .f32⟩
  | 80 => ⟨S1x512x1x64, .f32⟩
  | 81 => ⟨S1x512x8x64, .f32⟩
  | 82 => ⟨S512x512, .f32⟩
  | 83 => ⟨S512x1, .i32⟩
  | 84 => ⟨S1x512, .i32⟩
  | 85 => ⟨S512x512, .i32⟩
  | 86 => ⟨S512x512, .i32⟩
  | 87 => ⟨S512x512, .i1⟩
  | 88 => ⟨S_, .f32⟩
  | 89 => ⟨S_, .f32⟩
  | 90 => ⟨S512x512, .f32⟩
  | 91 => ⟨S512x512, .f32⟩
  | 92 => ⟨S4096x512, .f32⟩
  | 93 => ⟨S512, .f32⟩
  | 94 => ⟨S1x512, .f32⟩
  | 95 => ⟨S4096x512, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S512, .f32⟩
  | 109 => ⟨S512, .f32⟩
  | 110 => ⟨S_, .f32⟩
  | 111 => ⟨S512, .f32⟩
  | 112 => ⟨S512, .f32⟩
  | 113 => ⟨S512, .f32⟩
  | 114 => ⟨S512, .f32⟩
  | 115 => ⟨S512, .i1⟩
  | 116 => ⟨S512, .f32⟩
  | 117 => ⟨S512, .f32⟩
  | 118 => ⟨S512, .f32⟩
  | 119 => ⟨S512, .f32⟩
  | 120 => ⟨S512, .f32⟩
  | 121 => ⟨S512, .f32⟩
  | 122 => ⟨S512, .f32⟩
  | 123 => ⟨S512, .f32⟩
  | 124 => ⟨S512, .f32⟩
  | 125 => ⟨S1x512, .f32⟩
  | 126 => ⟨S4096x512, .f32⟩
  | 127 => ⟨S4096x512, .f32⟩
  | _ => ⟨S4096x2560, .f32⟩

abbrev hbmTy0_1 (i : Nat) : BufTy := match i % 128 with
  | 0 => ⟨S4096x512, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S2048x2x512, .f32⟩
  | 10 => ⟨S2048x2x512, .f32⟩
  | 11 => ⟨S2048x1x512, .f32⟩
  | 12 => ⟨S2048x512, .f32⟩
  | 13 => ⟨S2048x1x512, .f32⟩
  | 14 => ⟨S2048x512, .f32⟩
  | 15 => ⟨S2048x512, .f32⟩
  | 16 => ⟨S2048x1x512, .f32⟩
  | 17 => ⟨S2048x512, .f32⟩
  | 18 => ⟨S2048x1x512, .f32⟩
  | 19 => ⟨S2048x512, .f32⟩
  | 20 => ⟨S2048x512, .f32⟩
  | 21 => ⟨S2048x1x512, .f32⟩
  | 22 => ⟨S2048x512, .f32⟩
  | 23 => ⟨S2048x512, .f32⟩
  | 24 => ⟨S1024x2x512, .f32⟩
  | 25 => ⟨S1024x2x512, .f32⟩
  | 26 => ⟨S1024x1x512, .f32⟩
  | 27 => ⟨S1024x512, .f32⟩
  | 28 => ⟨S1024x1x512, .f32⟩
  | 29 => ⟨S1024x512, .f32⟩
  | 30 => ⟨S1024x512, .f32⟩
  | 31 => ⟨S1024x1x512, .f32⟩
  | 32 => ⟨S1024x512, .f32⟩
  | 33 => ⟨S1024x1x512, .f32⟩
  | 34 => ⟨S1024x512, .f32⟩
  | 35 => ⟨S1024x512, .f32⟩
  | 36 => ⟨S1024x1x512, .f32⟩
  | 37 => ⟨S1024x512, .f32⟩
  | 38 => ⟨S1024x512, .f32⟩
  | 39 => ⟨S512x2x512, .f32⟩
  | 40 => ⟨S512x2x512, .f32⟩
  | 41 => ⟨S512x1x512, .f32⟩
  | 42 => ⟨S512x512, .f32⟩
  | 43 => ⟨S512x1x512, .f32⟩
  | 44 => ⟨S512x512, .f32⟩
  | 45 => ⟨S512x512, .f32⟩
  | 46 => ⟨S512x1x512, .f32⟩
  | 47 => ⟨S512x512, .f32⟩
  | 48 => ⟨S512x1x512, .f32⟩
  | 49 => ⟨S512x512, .f32⟩
  | 50 => ⟨S512x512, .f32⟩
  | 51 => ⟨S512x1x512, .f32⟩
  | 52 => ⟨S512x512, .f32⟩
  | 53 => ⟨S512x512, .f32⟩
  | 54 => ⟨S256x2x512, .f32⟩
  | 55 => ⟨S256x2x512, .f32⟩
  | 56 => ⟨S256x1x512, .f32⟩
  | 57 => ⟨S256x512, .f32⟩
  | 58 => ⟨S256x1x512, .f32⟩
  | 59 => ⟨S256x512, .f32⟩
  | 60 => ⟨S256x512, .f32⟩
  | 61 => ⟨S256x1x512, .f32⟩
  | 62 => ⟨S256x512, .f32⟩
  | 63 => ⟨S256x1x512, .f32⟩
  | 64 => ⟨S256x512, .f32⟩
  | 65 => ⟨S256x512, .f32⟩
  | 66 => ⟨S256x1x512, .f32⟩
  | 67 => ⟨S256x512, .f32⟩
  | 68 => ⟨S256x512, .f32⟩
  | 69 => ⟨S128x2x512, .f32⟩
  | 70 => ⟨S128x2x512, .f32⟩
  | 71 => ⟨S128x1x512, .f32⟩
  | 72 => ⟨S128x512, .f32⟩
  | 73 => ⟨S128x1x512, .f32⟩
  | 74 => ⟨S128x512, .f32⟩
  | 75 => ⟨S128x512, .f32⟩
  | 76 => ⟨S128x1x512, .f32⟩
  | 77 => ⟨S128x512, .f32⟩
  | 78 => ⟨S128x1x512, .f32⟩
  | 79 => ⟨S128x512, .f32⟩
  | 80 => ⟨S128x512, .f32⟩
  | 81 => ⟨S128x1x512, .f32⟩
  | 82 => ⟨S128x512, .f32⟩
  | 83 => ⟨S128x512, .f32⟩
  | 84 => ⟨S64x2x512, .f32⟩
  | 85 => ⟨S64x2x512, .f32⟩
  | 86 => ⟨S64x1x512, .f32⟩
  | 87 => ⟨S64x512, .f32⟩
  | 88 => ⟨S64x1x512, .f32⟩
  | 89 => ⟨S64x512, .f32⟩
  | 90 => ⟨S64x512, .f32⟩
  | 91 => ⟨S64x1x512, .f32⟩
  | 92 => ⟨S64x512, .f32⟩
  | 93 => ⟨S64x1x512, .f32⟩
  | 94 => ⟨S64x512, .f32⟩
  | 95 => ⟨S64x512, .f32⟩
  | 96 => ⟨S64x1x512, .f32⟩
  | 97 => ⟨S64x512, .f32⟩
  | 98 => ⟨S64x512, .f32⟩
  | 99 => ⟨S32x2x512, .f32⟩
  | 100 => ⟨S32x2x512, .f32⟩
  | 101 => ⟨S32x1x512, .f32⟩
  | 102 => ⟨S32x512, .f32⟩
  | 103 => ⟨S32x1x512, .f32⟩
  | 104 => ⟨S32x512, .f32⟩
  | 105 => ⟨S32x512, .f32⟩
  | 106 => ⟨S32x1x512, .f32⟩
  | 107 => ⟨S32x512, .f32⟩
  | 108 => ⟨S32x1x512, .f32⟩
  | 109 => ⟨S32x512, .f32⟩
  | 110 => ⟨S32x512, .f32⟩
  | 111 => ⟨S32x1x512, .f32⟩
  | 112 => ⟨S32x512, .f32⟩
  | 113 => ⟨S32x512, .f32⟩
  | 114 => ⟨S16x2x512, .f32⟩
  | 115 => ⟨S16x2x512, .f32⟩
  | 116 => ⟨S16x1x512, .f32⟩
  | 117 => ⟨S16x512, .f32⟩
  | 118 => ⟨S16x1x512, .f32⟩
  | 119 => ⟨S16x512, .f32⟩
  | 120 => ⟨S16x512, .f32⟩
  | 121 => ⟨S16x1x512, .f32⟩
  | 122 => ⟨S16x512, .f32⟩
  | 123 => ⟨S16x1x512, .f32⟩
  | 124 => ⟨S16x512, .f32⟩
  | 125 => ⟨S16x512, .f32⟩
  | 126 => ⟨S16x1x512, .f32⟩
  | 127 => ⟨S16x512, .f32⟩
  | _ => ⟨S4096x2560, .f32⟩

abbrev hbmTy0_2 (i : Nat) : BufTy := match i % 128 with
  | 0 => ⟨S16x512, .f32⟩
  | 1 => ⟨S8x2x512, .f32⟩
  | 2 => ⟨S8x2x512, .f32⟩
  | 3 => ⟨S8x1x512, .f32⟩
  | 4 => ⟨S8x512, .f32⟩
  | 5 => ⟨S8x1x512, .f32⟩
  | 6 => ⟨S8x512, .f32⟩
  | 7 => ⟨S8x512, .f32⟩
  | 8 => ⟨S8x1x512, .f32⟩
  | 9 => ⟨S8x512, .f32⟩
  | 10 => ⟨S8x1x512, .f32⟩
  | 11 => ⟨S8x512, .f32⟩
  | 12 => ⟨S8x512, .f32⟩
  | 13 => ⟨S8x1x512, .f32⟩
  | 14 => ⟨S8x512, .f32⟩
  | 15 => ⟨S8x512, .f32⟩
  | 16 => ⟨S4x2x512, .f32⟩
  | 17 => ⟨S4x2x512, .f32⟩
  | 18 => ⟨S4x1x512, .f32⟩
  | 19 => ⟨S4x512, .f32⟩
  | 20 => ⟨S4x1x512, .f32⟩
  | 21 => ⟨S4x512, .f32⟩
  | 22 => ⟨S4x512, .f32⟩
  | 23 => ⟨S4x1x512, .f32⟩
  | 24 => ⟨S4x512, .f32⟩
  | 25 => ⟨S4x1x512, .f32⟩
  | 26 => ⟨S4x512, .f32⟩
  | 27 => ⟨S4x512, .f32⟩
  | 28 => ⟨S4x1x512, .f32⟩
  | 29 => ⟨S4x512, .f32⟩
  | 30 => ⟨S4x512, .f32⟩
  | 31 => ⟨S2x2x512, .f32⟩
  | 32 => ⟨S2x2x512, .f32⟩
  | 33 => ⟨S2x1x512, .f32⟩
  | 34 => ⟨S2x512, .f32⟩
  | 35 => ⟨S2x1x512, .f32⟩
  | 36 => ⟨S2x512, .f32⟩
  | 37 => ⟨S2x512, .f32⟩
  | 38 => ⟨S2x1x512, .f32⟩
  | 39 => ⟨S2x512, .f32⟩
  | 40 => ⟨S2x1x512, .f32⟩
  | 41 => ⟨S2x512, .f32⟩
  | 42 => ⟨S2x512, .f32⟩
  | 43 => ⟨S2x1x512, .f32⟩
  | 44 => ⟨S2x512, .f32⟩
  | 45 => ⟨S2x512, .f32⟩
  | 46 => ⟨S1x2x512, .f32⟩
  | 47 => ⟨S1x2x512, .f32⟩
  | 48 => ⟨S1x1x512, .f32⟩
  | 49 => ⟨S1x512, .f32⟩
  | 50 => ⟨S1x1x512, .f32⟩
  | 51 => ⟨S1x512, .f32⟩
  | 52 => ⟨S1x512, .f32⟩
  | 53 => ⟨S1x1x512, .f32⟩
  | 54 => ⟨S1x512, .f32⟩
  | 55 => ⟨S1x1x512, .f32⟩
  | 56 => ⟨S1x512, .f32⟩
  | 57 => ⟨S1x512, .f32⟩
  | 58 => ⟨S1x1x512, .f32⟩
  | 59 => ⟨S1x512, .f32⟩
  | 60 => ⟨S1x512, .f32⟩
  | 61 => ⟨S_, .f32⟩
  | 62 => ⟨S1x512, .f32⟩
  | 63 => ⟨S2x512, .f32⟩
  | 64 => ⟨S1x512, .f32⟩
  | 65 => ⟨S1x1x512, .f32⟩
  | 66 => ⟨S1x512, .f32⟩
  | 67 => ⟨S1x512, .f32⟩
  | 68 => ⟨S1x1x512, .f32⟩
  | 69 => ⟨S1x512, .f32⟩
  | 70 => ⟨S1x512, .f32⟩
  | 71 => ⟨S1x1x512, .f32⟩
  | 72 => ⟨S1x1x512, .f32⟩
  | 73 => ⟨S1x2x512, .f32⟩
  | 74 => ⟨S2x512, .f32⟩
  | 75 => ⟨S_, .f32⟩
  | 76 => ⟨S1x512, .f32⟩
  | 77 => ⟨S3x512, .f32⟩
  | 78 => ⟨S2x512, .f32⟩
  | 79 => ⟨S2x1x512, .f32⟩
  | 80 => ⟨S2x512, .f32⟩
  | 81 => ⟨S2x512, .f32⟩
  | 82 => ⟨S2x1x512, .f32⟩
  | 83 => ⟨S2x512, .f32⟩
  | 84 => ⟨S2x512, .f32⟩
  | 85 => ⟨S2x1x512, .f32⟩
  | 86 => ⟨S2x1x512, .f32⟩
  | 87 => ⟨S2x2x512, .f32⟩
  | 88 => ⟨S4x512, .f32⟩
  | 89 => ⟨S_, .f32⟩
  | 90 => ⟨S1x512, .f32⟩
  | 91 => ⟨S5x512, .f32⟩
  | 92 => ⟨S4x512, .f32⟩
  | 93 => ⟨S4x1x512, .f32⟩
  | 94 => ⟨S4x512, .f32⟩
  | 95 => ⟨S4x512, .f32⟩
  | 96 => ⟨S4x1x512, .f32⟩
  | 97 => ⟨S4x512, .f32⟩
  | 98 => ⟨S4x512, .f32⟩
  | 99 => ⟨S4x1x512, .f32⟩
  | 100 => ⟨S4x1x512, .f32⟩
  | 101 => ⟨S4x2x512, .f32⟩
  | 102 => ⟨S8x512, .f32⟩
  | 103 => ⟨S_, .f32⟩
  | 104 => ⟨S1x512, .f32⟩
  | 105 => ⟨S9x512, .f32⟩
  | 106 => ⟨S8x512, .f32⟩
  | 107 => ⟨S8x1x512, .f32⟩
  | 108 => ⟨S8x512, .f32⟩
  | 109 => ⟨S8x512, .f32⟩
  | 110 => ⟨S8x1x512, .f32⟩
  | 111 => ⟨S8x512, .f32⟩
  | 112 => ⟨S8x512, .f32⟩
  | 113 => ⟨S8x1x512, .f32⟩
  | 114 => ⟨S8x1x512, .f32⟩
  | 115 => ⟨S8x2x512, .f32⟩
  | 116 => ⟨S16x512, .f32⟩
  | 117 => ⟨S_, .f32⟩
  | 118 => ⟨S1x512, .f32⟩
  | 119 => ⟨S17x512, .f32⟩
  | 120 => ⟨S16x512, .f32⟩
  | 121 => ⟨S16x1x512, .f32⟩
  | 122 => ⟨S16x512, .f32⟩
  | 123 => ⟨S16x512, .f32⟩
  | 124 => ⟨S16x1x512, .f32⟩
  | 125 => ⟨S16x512, .f32⟩
  | 126 => ⟨S16x512, .f32⟩
  | 127 => ⟨S16x1x512, .f32⟩
  | _ => ⟨S4096x2560, .f32⟩

abbrev hbmTy0_3 (i : Nat) : BufTy := match i % 128 with
  | 0 => ⟨S16x1x512, .f32⟩
  | 1 => ⟨S16x2x512, .f32⟩
  | 2 => ⟨S32x512, .f32⟩
  | 3 => ⟨S_, .f32⟩
  | 4 => ⟨S1x512, .f32⟩
  | 5 => ⟨S33x512, .f32⟩
  | 6 => ⟨S32x512, .f32⟩
  | 7 => ⟨S32x1x512, .f32⟩
  | 8 => ⟨S32x512, .f32⟩
  | 9 => ⟨S32x512, .f32⟩
  | 10 => ⟨S32x1x512, .f32⟩
  | 11 => ⟨S32x512, .f32⟩
  | 12 => ⟨S32x512, .f32⟩
  | 13 => ⟨S32x1x512, .f32⟩
  | 14 => ⟨S32x1x512, .f32⟩
  | 15 => ⟨S32x2x512, .f32⟩
  | 16 => ⟨S64x512, .f32⟩
  | 17 => ⟨S_, .f32⟩
  | 18 => ⟨S1x512, .f32⟩
  | 19 => ⟨S65x512, .f32⟩
  | 20 => ⟨S64x512, .f32⟩
  | 21 => ⟨S64x1x512, .f32⟩
  | 22 => ⟨S64x512, .f32⟩
  | 23 => ⟨S64x512, .f32⟩
  | 24 => ⟨S64x1x512, .f32⟩
  | 25 => ⟨S64x512, .f32⟩
  | 26 => ⟨S64x512, .f32⟩
  | 27 => ⟨S64x1x512, .f32⟩
  | 28 => ⟨S64x1x512, .f32⟩
  | 29 => ⟨S64x2x512, .f32⟩
  | 30 => ⟨S128x512, .f32⟩
  | 31 => ⟨S_, .f32⟩
  | 32 => ⟨S1x512, .f32⟩
  | 33 => ⟨S129x512, .f32⟩
  | 34 => ⟨S128x512, .f32⟩
  | 35 => ⟨S128x1x512, .f32⟩
  | 36 => ⟨S128x512, .f32⟩
  | 37 => ⟨S128x512, .f32⟩
  | 38 => ⟨S128x1x512, .f32⟩
  | 39 => ⟨S128x512, .f32⟩
  | 40 => ⟨S128x512, .f32⟩
  | 41 => ⟨S128x1x512, .f32⟩
  | 42 => ⟨S128x1x512, .f32⟩
  | 43 => ⟨S128x2x512, .f32⟩
  | 44 => ⟨S256x512, .f32⟩
  | 45 => ⟨S_, .f32⟩
  | 46 => ⟨S1x512, .f32⟩
  | 47 => ⟨S257x512, .f32⟩
  | 48 => ⟨S256x512, .f32⟩
  | 49 => ⟨S256x1x512, .f32⟩
  | 50 => ⟨S256x512, .f32⟩
  | 51 => ⟨S256x512, .f32⟩
  | 52 => ⟨S256x1x512, .f32⟩
  | 53 => ⟨S256x512, .f32⟩
  | 54 => ⟨S256x512, .f32⟩
  | 55 => ⟨S256x1x512, .f32⟩
  | 56 => ⟨S256x1x512, .f32⟩
  | 57 => ⟨S256x2x512, .f32⟩
  | 58 => ⟨S512x512, .f32⟩
  | 59 => ⟨S_, .f32⟩
  | 60 => ⟨S1x512, .f32⟩
  | 61 => ⟨S513x512, .f32⟩
  | 62 => ⟨S512x512, .f32⟩
  | 63 => ⟨S512x1x512, .f32⟩
  | 64 => ⟨S512x512, .f32⟩
  | 65 => ⟨S512x512, .f32⟩
  | 66 => ⟨S512x1x512, .f32⟩
  | 67 => ⟨S512x512, .f32⟩
  | 68 => ⟨S512x512, .f32⟩
  | 69 => ⟨S512x1x512, .f32⟩
  | 70 => ⟨S512x1x512, .f32⟩
  | 71 => ⟨S512x2x512, .f32⟩
  | 72 => ⟨S1024x512, .f32⟩
  | 73 => ⟨S_, .f32⟩
  | 74 => ⟨S1x512, .f32⟩
  | 75 => ⟨S1025x512, .f32⟩
  | 76 => ⟨S1024x512, .f32⟩
  | 77 => ⟨S1024x1x512, .f32⟩
  | 78 => ⟨S1024x512, .f32⟩
  | 79 => ⟨S1024x512, .f32⟩
  | 80 => ⟨S1024x1x512, .f32⟩
  | 81 => ⟨S1024x512, .f32⟩
  | 82 => ⟨S1024x512, .f32⟩
  | 83 => ⟨S1024x1x512, .f32⟩
  | 84 => ⟨S1024x1x512, .f32⟩
  | 85 => ⟨S1024x2x512, .f32⟩
  | 86 => ⟨S2048x512, .f32⟩
  | 87 => ⟨S_, .f32⟩
  | 88 => ⟨S1x512, .f32⟩
  | 89 => ⟨S2049x512, .f32⟩
  | 90 => ⟨S2048x512, .f32⟩
  | 91 => ⟨S2048x1x512, .f32⟩
  | 92 => ⟨S2048x512, .f32⟩
  | 93 => ⟨S2048x512, .f32⟩
  | 94 => ⟨S2048x1x512, .f32⟩
  | 95 => ⟨S2048x512, .f32⟩
  | 96 => ⟨S2048x512, .f32⟩
  | 97 => ⟨S2048x1x512, .f32⟩
  | 98 => ⟨S2048x1x512, .f32⟩
  | 99 => ⟨S2048x2x512, .f32⟩
  | 100 => ⟨S4096x512, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S4096x512, .f32⟩
  | 110 => ⟨S_, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S4096x512, .f32⟩
  | _ => ⟨S4096x2560, .f32⟩

abbrev hbmTy (i : Nat) : BufTy := match i / 128 with
  | 0 => hbmTy0_0 i
  | 1 => hbmTy0_1 i
  | 2 => hbmTy0_2 i
  | 3 => hbmTy0_3 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_1 : Ref sig .tc := ⟨.hbm, 59, rfl⟩
abbrev main_call0_v0 : Ref sig .tc := ⟨.hbm, 60, rfl⟩
abbrev main_call0_v1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_4 : Ref sig .tc := ⟨.hbm, 88, rfl⟩
abbrev main_call1_v0 : Ref sig .tc := ⟨.hbm, 89, rfl⟩
abbrev main_call1_v1 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_cst_6 : Ref sig .tc := ⟨.hbm, 102, rfl⟩
abbrev main_v83 : Ref sig .tc := ⟨.hbm, 103, rfl⟩
abbrev main_v84 : Ref sig .tc := ⟨.hbm, 104, rfl⟩
abbrev main_cst_7 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_call2_v0 : Ref sig .tc := ⟨.hbm, 109, rfl⟩
abbrev main_call2_call0_cst : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_call0_v2 : Ref sig .tc := ⟨.hbm, 113, rfl⟩
abbrev main_call2_call0_v3 : Ref sig .tc := ⟨.hbm, 114, rfl⟩
abbrev main_call2_call0_v4 : Ref sig .tc := ⟨.hbm, 115, rfl⟩
abbrev main_call2_call0_v5 : Ref sig .tc := ⟨.hbm, 116, rfl⟩
abbrev main_call2_call0_v6 : Ref sig .tc := ⟨.hbm, 117, rfl⟩
abbrev main_call2_call0_v7 : Ref sig .tc := ⟨.hbm, 118, rfl⟩
abbrev main_call2_call0_v8 : Ref sig .tc := ⟨.hbm, 119, rfl⟩
abbrev main_call2_call0_v9 : Ref sig .tc := ⟨.hbm, 120, rfl⟩
abbrev main_call2_call0_v10 : Ref sig .tc := ⟨.hbm, 121, rfl⟩
abbrev main_call2_call0_v11 : Ref sig .tc := ⟨.hbm, 122, rfl⟩
abbrev main_call2_v1 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_8 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_cst_9 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_cst_10 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_cst_11 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_12 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_cst_13 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_cst_14 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_cst_15 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_v367 : Ref sig .tc := ⟨.hbm, 411, rfl⟩
abbrev main_v368 : Ref sig .tc := ⟨.hbm, 412, rfl⟩
abbrev main_v369 : Ref sig .tc := ⟨.hbm, 413, rfl⟩
abbrev main_v370 : Ref sig .tc := ⟨.hbm, 414, rfl⟩
abbrev main_cst_16 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_cst_17 : Ref sig .tc := ⟨.hbm, 429, rfl⟩
abbrev main_v384 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_v393 : Ref sig .tc := ⟨.hbm, 439, rfl⟩
abbrev main_v394 : Ref sig .tc := ⟨.hbm, 440, rfl⟩
abbrev main_v395 : Ref sig .tc := ⟨.hbm, 441, rfl⟩
abbrev main_v396 : Ref sig .tc := ⟨.hbm, 442, rfl⟩
abbrev main_cst_18 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_cst_19 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_cst_20 : Ref sig .tc := ⟨.hbm, 471, rfl⟩
abbrev main_v423 : Ref sig .tc := ⟨.hbm, 472, rfl⟩
abbrev main_v424 : Ref sig .tc := ⟨.hbm, 473, rfl⟩
abbrev main_v425 : Ref sig .tc := ⟨.hbm, 474, rfl⟩
abbrev main_v426 : Ref sig .tc := ⟨.hbm, 475, rfl⟩
abbrev main_v427 : Ref sig .tc := ⟨.hbm, 476, rfl⟩
abbrev main_v428 : Ref sig .tc := ⟨.hbm, 477, rfl⟩
abbrev main_v429 : Ref sig .tc := ⟨.hbm, 478, rfl⟩
abbrev main_v430 : Ref sig .tc := ⟨.hbm, 479, rfl⟩
abbrev main_v431 : Ref sig .tc := ⟨.hbm, 480, rfl⟩
abbrev main_v432 : Ref sig .tc := ⟨.hbm, 481, rfl⟩
abbrev main_v433 : Ref sig .tc := ⟨.hbm, 482, rfl⟩
abbrev main_v434 : Ref sig .tc := ⟨.hbm, 483, rfl⟩
abbrev main_v435 : Ref sig .tc := ⟨.hbm, 484, rfl⟩
abbrev main_v436 : Ref sig .tc := ⟨.hbm, 485, rfl⟩
abbrev main_v437 : Ref sig .tc := ⟨.hbm, 486, rfl⟩
abbrev main_cst_21 : Ref sig .tc := ⟨.hbm, 487, rfl⟩
abbrev main_v438 : Ref sig .tc := ⟨.hbm, 488, rfl⟩
abbrev main_v439 : Ref sig .tc := ⟨.hbm, 489, rfl⟩
abbrev main_cst_22 : Ref sig .tc := ⟨.hbm, 490, rfl⟩
abbrev main_v440 : Ref sig .tc := ⟨.hbm, 491, rfl⟩
abbrev main_v441 : Ref sig .tc := ⟨.hbm, 492, rfl⟩
abbrev main_v442 : Ref sig .tc := ⟨.hbm, 493, rfl⟩
abbrev main_cst_23 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_cst_24 : Ref sig .tc := ⟨.hbm, 498, rfl⟩
abbrev main_v446 : Ref sig .tc := ⟨.hbm, 499, rfl⟩
abbrev main_v447 : Ref sig .tc := ⟨.hbm, 500, rfl⟩
abbrev main_cst_25 : Ref sig .tc := ⟨.hbm, 501, rfl⟩
abbrev main_v448 : Ref sig .tc := ⟨.hbm, 502, rfl⟩
abbrev main_v449 : Ref sig .tc := ⟨.hbm, 503, rfl⟩
abbrev main_v450 : Ref sig .tc := ⟨.hbm, 504, rfl⟩
abbrev main_v451 : Ref sig .tc := ⟨.hbm, 505, rfl⟩

abbrev nD : Nat := 1
abbrev τ : Topo := Topo.v7x

variable {F : FTy → Type} [FloatOps F]
-- ==== AdamKernel.lean ====
abbrev S1x1024x640 : Shape := ⟨3, ![1, 1024, 640]⟩
abbrev S1024x640 : Shape := ⟨2, ![1024, 640]⟩
abbrev S128x640 : Shape := ⟨2, ![128, 640]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x640, .f32⟩
  | .hbm, ⟨1, _⟩ => ⟨S1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .hbm, ⟨10, _⟩ => ⟨S1024x640, .f32⟩
  | .local _ .vmem, ⟨0, _⟩ => ⟨S128x640, .f32⟩
  | .local _ .vmem, ⟨1, _⟩ => ⟨S128x640, .f32⟩
  | .local _ .vmem, ⟨2, _⟩ => ⟨S128x640, .f32⟩
  | .local _ .vmem, ⟨3, _⟩ => ⟨S128x640, .f32⟩
  | .local _ .vmem, ⟨4, _⟩ => ⟨S128x640, .f32⟩
  | .local _ .vmem, ⟨5, _⟩ => ⟨S128x640, .f32⟩
  | .local _ .vmem, ⟨6, _⟩ => ⟨S128x640, .f32⟩
  | .local _ .vmem, ⟨7, _⟩ => ⟨S128x640, .f32⟩
  | .local _ .vmem, ⟨8, _⟩ => ⟨S128x640, .f32⟩
  | .local _ .vmem, ⟨9, _⟩ => ⟨S128x640, .f32⟩
  | .local _ .vmem, ⟨10, _⟩ => ⟨S128x640, .f32⟩
  | .local _ .vmem, ⟨11, _⟩ => ⟨S128x640, .f32⟩
  | .local _ .vmem, ⟨12, _⟩ => ⟨S128x640, .f32⟩
  | .local _ .vmem, ⟨13, _⟩ => ⟨S128x640, .f32⟩
  | .local _ .vmem, ⟨14, _⟩ => ⟨S128x640, .f32⟩
  | .local _ .vmem, ⟨15, _⟩ => ⟨S128x640, .f32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1x1024x640 : Shape := ⟨3, ![1, 1024, 640]⟩
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x640, .f32⟩
  | .hbm, ⟨1, _⟩ => ⟨S1024x640, .f32⟩
  | .hbm, ⟨2, _⟩ => ⟨S1x1024x640, .f32⟩
  | .hbm, ⟨3, _⟩ => ⟨S1x1024x640, .f32⟩
  | .hbm, ⟨4, _⟩ => ⟨S1024x640, .f32⟩
  | .hbm, ⟨5, _⟩ => ⟨S_, .f32⟩
  | .hbm, ⟨6, _⟩ => ⟨S1024x640, .f32⟩
  | .hbm, ⟨7, _⟩ => ⟨S1024x640, .f32⟩
  | .hbm, ⟨8, _⟩ => ⟨S_, .f32⟩
  | .hbm, ⟨9, _⟩ => ⟨S1024x640, .f32⟩
  | .hbm, ⟨10, _⟩ => ⟨S1024x640, .f32⟩
  | .hbm, ⟨11, _⟩ => ⟨S1024x640, .f32⟩
  | .hbm, ⟨12, _⟩ => ⟨S1024x640, .f32⟩
  | .hbm, ⟨13, _⟩ => ⟨S_, .f32⟩
  | .hbm, ⟨14, _⟩ => ⟨S1024x640, .f32⟩
  | .hbm, ⟨15, _⟩ => ⟨S1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S1024x640, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S1x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DownKernel.lean ====
abbrev S4096x1024 : Shape := ⟨2, ![4096, 1024]⟩
abbrev S4096x2816 : Shape := ⟨2, ![4096, 2816]⟩
abbrev S1x2816x1024 : Shape := ⟨3, ![1, 2816, 1024]⟩
abbrev S2816x1024 : Shape := ⟨2, ![2816, 1024]⟩
abbrev S512x1024 : Shape := ⟨2, ![512, 1024]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .f32⟩
  | .hbm, ⟨3, _⟩ => ⟨S2816x1024, .f32⟩
  | .hbm, ⟨4, _⟩ => ⟨S2816x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4096x1024 : Shape := ⟨2, ![4096, 1024]⟩
abbrev S4096x2816 : Shape := ⟨2, ![4096, 2816]⟩
abbrev S1x2816x1024 : Shape := ⟨3, ![1, 2816, 1024]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S1x2816x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== WdownKernel.lean ====
abbrev S4096x2816 : Shape := ⟨2, ![4096, 2816]⟩
abbrev S4096x1024 : Shape := ⟨2, ![4096, 1024]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x1024, .bf16⟩
  | .hbm, ⟨3, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WdownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S4x704x1024, .f32⟩
  | .hbm, ⟨15, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== WinKernel.lean ====
abbrev S4096x1024 : Shape := ⟨2, ![4096, 1024]⟩
abbrev S4096x512 : Shape := ⟨2, ![4096, 512]⟩
abbrev S4x1024x640 : Shape := ⟨3, ![4, 1024, 640]⟩
abbrev S1024x1024 : Shape := ⟨2, ![1024, 1024]⟩
abbrev S1024x512 : Shape := ⟨2, ![1024, 512]⟩
abbrev S1024x2560 : Shape := ⟨2, ![1024, 2560]⟩
abbrev S1024x640 : Shape := ⟨2, ![1024, 640]⟩
abbrev S1x1024x640 : Shape := ⟨3, ![1, 1024, 640]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4x1024x640, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S4x1024x640, .bf16⟩
  | .local _ .vmem, ⟨13, _⟩ => ⟨S1024x2560, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== WinRefIdeal.lean ====
abbrev S4096x1024 : Shape := ⟨2, ![4096, 1024]⟩
abbrev S4096x512 : Shape := ⟨2, ![4096, 512]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x2560, .f32⟩
  | .hbm, ⟨7, _⟩ => ⟨S_, .f32⟩
  | .hbm, ⟨8, _⟩ => ⟨S1024x2560, .f32⟩
  | .hbm, ⟨9, _⟩ => ⟨S4096x1024, .f32⟩
  | .hbm, ⟨10, _⟩ => ⟨S4096x2560, .f32⟩
  | .hbm, ⟨11, _⟩ => ⟨S2560x1024, .f32⟩
  | .hbm, ⟨12, _⟩ => ⟨S1024x2560, .f32⟩
  | .hbm, ⟨13, _⟩ => ⟨S1024x4x640, .f32⟩
  | .hbm, ⟨14, _⟩ => ⟨S4x1024x640, .f32⟩
  | .hbm, ⟨15, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Num.lean ====
module

public import Idealize.ShloMosaic.Lib.Pointwise
public import Idealize.ShloMosaic.Lib.ValueIdx
public import Idealize.ShloMosaic.Lib.ReduceAll
public import Idealize.ShloMosaic.PureOps.Ideal.Laws

@[expose] public section

noncomputable section

/-! Arrays whose entries are all real numbers, and the root mean square of a row. -/

namespace Cert.Num

open Idealize.ShloMosaic

/-- `x`'s entries are the real numbers `X`. -/
abbrev Reals {ι : Type} (x : ι → EReal) (X : ι → ℝ) : Prop := ∀ i, x i = ((X i : ℝ) : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An array with no infinite entry holds real numbers. -/
theorem reals_of {ι : Type} {x : ι → EReal} (h : ∀ i, x i < ⊤ ∧ ⊥ < x i) : Reals x fun i => (x i).toReal := fun i =>
  (EReal.coe_toReal (h i).1.ne (h i).2.ne').symm

theorem lit_top : Ideal.ofBits .f32 0x7F800000#32 = ⊤ := by simp [Ideal.ofBits, Ideal.ieee]
theorem lit_bot : Ideal.ofBits .f32 0xFF800000#32 = ⊥ := by simp [Ideal.ofBits, Ideal.ieee]
theorem lit_1024 : Ideal.ofBits .f32 0x44800000#32 = ((1024 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num
theorem lit_inv_2048 : Ideal.ofBits .f32 0x3A000000#32 = ((1 / 2048 : ℝ) : EReal) := by
  simp [Ideal.ofBits, Ideal.ieee, -EReal.coe_mul]; norm_num
theorem lit_one : Ideal.ofBits .f32 0x3F800000#32 = (1 : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

/-- The logistic function. -/
def sg (g : ℝ) : ℝ := 1 / (1 + Real.exp (-g))

theorem one_add (r : ℝ) : (1 : EReal) + r = ((1 + r : ℝ) : EReal) := by rw [EReal.coe_add]; rfl
theorem one_sub (r : ℝ) : (1 : EReal) - r = ((1 - r : ℝ) : EReal) := by rw [EReal.coe_sub]; rfl

theorem div_sg (g : ℝ) : Ideal.div 1 (1 + (Real.exp (-g) : EReal)) = ((sg g : ℝ) : EReal) := by
  rw [one_add, Ideal.div_coe (by positivity), one_mul]
  rfl

/-- The constant the norm adds to the mean square. -/
def eps : ℝ := (Ideal.ofBits .f32 0x358637BD#32 : EReal).toReal

theorem lit_eps' : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem eps_pos : 0 < eps := by
  obtain ⟨e, he, h⟩ := lit_eps'
  unfold eps
  rw [h]
  exact he

theorem lit_eps : Ideal.ofBits .f32 0x358637BD#32 = ((eps : ℝ) : EReal) := by
  obtain ⟨e, he, h⟩ := lit_eps'
  unfold eps
  rw [h]
  rfl

/-- The test "every entry is a number", passed, bounds every entry. -/
theorem finite_of {s t : Shape} [Subsingleton t.Idx] {axes : List (Fin s.rank)} (x : FVec Ideal s .f32) (hb hb') (hr : s.ReducesTo axes t)
    (hu) (j : t.Idx) (init)
    (h : Host.reduce IntOp.andi (andi (cmpf .olt x (broadcastInDim (s := ⟨0, ![]⟩) s ![] hb (constant ⟨0, ![]⟩ .f32 0x7F800000#32)))
      (cmpf .ogt x (broadcastInDim (s := ⟨0, ![]⟩) s ![] hb' (constant ⟨0, ![]⟩ .f32 0xFF800000#32)))) (init : t.Idx → BitVec 1) hr hu j = 1#1) :
    ∀ i, x i < (⊤ : EReal) ∧ (⊥ : EReal) < x i := fun i => by
  have h1 := Host.reduce_andi_all _ _ hr hu j h i
  obtain ⟨ha, hb⟩ := IntOp.andi_eq_one.1 h1
  have ha' : Ideal.cmp .olt (x i) (Ideal.ofBits .f32 0x7F800000#32) = 1#1 := ha
  have hb' : Ideal.cmp .ogt (x i) (Ideal.ofBits .f32 0xFF800000#32) = 1#1 := hb
  rw [lit_top] at ha'
  rw [lit_bot] at hb'
  unfold Ideal.cmp at ha' hb'
  constructor
  · by_contra hn
    simp [hn] at ha'
  · by_contra hn
    simp [hn] at hb'

/-! ### The root mean square -/

variable {n : ℕ}

/-- The mean square of a row, and the constant. -/
def msq (X : Fin n → ℝ) : ℝ := (∑ k, X k * X k) / (n : ℝ) + eps

/-- One over the root mean square. -/
def rinv (X : Fin n → ℝ) : ℝ := (√(msq X))⁻¹

theorem msq_pos (X : Fin n → ℝ) : 0 < msq X :=
  add_pos_of_nonneg_of_pos (div_nonneg (Finset.sum_nonneg fun k _ => mul_self_nonneg _) (by positivity)) eps_pos

theorem rinv_cube (X : Fin n → ℝ) : rinv X * (1 / msq X) = rinv X * rinv X * rinv X := by
  have h := msq_pos X
  have hs : √(msq X) * √(msq X) = msq X := Real.mul_self_sqrt h.le
  have : rinv X * rinv X = 1 / msq X := by
    unfold rinv
    rw [← mul_inv, hs, one_div]
  rw [← this, mul_assoc]

theorem div_1024 (a : ℝ) : Ideal.div (a : EReal) (Ideal.ofBits .f32 0x44800000#32) = ((a / 1024 : ℝ) : EReal) := by
  rw [lit_1024, Ideal.div_coe (by norm_num), ← EReal.coe_mul]
  congr 1
  ring

theorem div_512 (a : ℝ) : Ideal.div (a : EReal) (Ideal.ofBits .f32 0x44000000#32) = ((a / 512 : ℝ) : EReal) := by
  rw [lit_512, Ideal.div_coe (by norm_num), ← EReal.coe_mul]
  congr 1
  ring

theorem rsqrt_msq (X : Fin n → ℝ) : Ideal.rsqrt ((msq X : ℝ) : EReal) = ((rinv X : ℝ) : EReal) := by
  have h := msq_pos X
  rw [Ideal.rsqrt_coe, if_neg h.not_gt, if_neg h.ne']
  rfl

theorem div_msq (a : ℝ) (X : Fin n → ℝ) : Ideal.div (a : EReal) ((msq X : ℝ) : EReal) = ((a * (1 / msq X) : ℝ) : EReal) := by
  rw [Ideal.div_coe (msq_pos X).ne', ← EReal.coe_mul]

theorem msq_1024 (X : Fin 1024 → ℝ) : (∑ k, X k * X k) / 1024 + eps = msq X := by norm_num [msq]
theorem msq_512 (X : Fin 512 → ℝ) : (∑ k, X k * X k) / 512 + eps = msq X := by norm_num [msq]

/-- The norm's backward row: the two ways its input gradient is written are one real number. -/
theorem dx_real (X N H : Fin n → ℝ) (d x h w : ℝ) :
    rinv X * (h * w) - x * (rinv X * rinv X * rinv X * ((∑ k, H k * N k * X k) / d))
      = h * w * rinv X + (x * ((∑ k, X k * (H k * N k)) * (-(1 / 2) * (rinv X * (1 / msq X))) / d)
        + (∑ k, X k * (H k * N k)) * (-(1 / 2) * (rinv X * (1 / msq X))) / d * x) := by
  have hS : ∑ k, X k * (H k * N k) = ∑ k, H k * N k * X k := Finset.sum_congr rfl fun k _ => by ring
  rw [rinv_cube, hS]
  ring

/-! ### Sums tile by tile -/

/-- A function of the rows, zero past the last. -/
def tot {N : ℕ} (f : Fin N → EReal) (i : ℕ) : EReal := if h : i < N then f ⟨i, h⟩ else 0

theorem tot_of {N : ℕ} (f : Fin N → EReal) (i : Fin N) (k : ℕ) (h : k = i.val) : tot f k = f i := by
  subst h
  exact dif_pos i.isLt

theorem sum_tiles_range (k : ℕ) (g : ℕ → EReal) : ∀ T : ℕ,
    ∑ s ∈ Finset.range T, ∑ r : Fin k, g (k * s + r.val) = ∑ i ∈ Finset.range (k * T), g i
  | 0 => by simp
  | T + 1 => by
    rw [Finset.sum_range_succ, sum_tiles_range k g T, Nat.mul_succ, Finset.sum_range_add,
      Finset.sum_range (fun x => g (k * T + x))]

/-- A sum over the rows is the sum of the tiles' sums. -/
theorem sum_tiles {N : ℕ} (T k : ℕ) (f : Fin N → EReal) (hN : k * T = N) :
    ∑ s ∈ Finset.range T, ∑ r : Fin k, tot f (k * s + r.val) = ∑ i, f i := by
  rw [sum_tiles_range, hN, Finset.sum_range]
  exact Finset.sum_congr rfl fun i _ => tot_of f i _ rfl

/-! ### Real entries of sums and products -/

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem real_sum {ι : Type} (s : Finset ι) {f : ι → EReal} (h : ∀ i, ∃ r : ℝ, f i = r) : ∃ r : ℝ, ∑ i ∈ s, f i = r := by
  choose g hg using h
  exact ⟨∑ i ∈ s, g i, by rw [← coe_sum]; exact Finset.sum_congr rfl fun i _ => hg i⟩

end Cert.Num
-- ==== Proof.Tiles.lean ====
module

public import proofs.«01_k».proof.Proof.Num

@[expose] public section

/-! Where a tile's entry lies in its array. -/

namespace Cert.Num

open Idealize.ShloMosaic Idealize.ShloMosaic.Tactic

/-- Of an array cut into tiles of `s` rows: entry `(r, l)` of the tile with block index `e`. -/
theorem at_tile {A B s w q x : Nat} {p : (⟨2, ![A, B]⟩ : Shape).Idx} {e : Fin 2 → Nat} {i : Fin A} {l : Fin B}
    (h : e (0 : Fin 2) = q ∧ e (1 : Fin 2) = 0) (h0 : (p (0 : Fin 2)).val = e (0 : Fin 2) * s + 1 * x)
    (h1 : (p (1 : Fin 2)).val = e (1 : Fin 2) * w + 1 * l.val) (hi : i.val = s * q + x) : p = ix2 i l := by
  obtain ⟨e0, e1⟩ := h
  rw [e0, Nat.mul_comm, Nat.one_mul, ← hi] at h0
  rw [e1, Nat.zero_mul, Nat.one_mul, Nat.zero_add] at h1
  funext a
  apply Fin.ext
  match a with
  | ⟨0, _⟩ => exact h0
  | ⟨1, _⟩ => exact h1

end Cert.Num
-- ==== Proof.Reads.lean ====
module

public import Idealize.ShloMosaic.Lib.Pipeline.ValueKit.Tiles

@[expose] public section

noncomputable section

/-! Reading a buffer back after its own writes. -/

namespace Idealize.ShloMosaic.View

variable {sig : RefSig} {κ : Kind} {sp : Space} {s : Shape} {e : EltTy} {Val : EltTy → Type}

/-- A load through a rectangle after a list of writes reads what the writes left. -/
theorem readCov_ld [∀ e, Nonempty (Val e)] (v : View sig κ sp s e) (L : List (Piece Val s e)) (r : Rect s) :
    v.readCov L r.toLoadRect = ld (canon L) r := by
  rw [readCov_eq_canon']

end Idealize.ShloMosaic.View
-- ==== Proof.PreStep.lean ====
module

public import proofs.«01_k».proof.Proof.Gen.PreKernelIdeal.Value
public import Idealize.ShloMosaic.Lib.Pointwise
public import Idealize.ShloMosaic.Lib.ValueIdx
public import proofs.«01_k».proof.Proof.Reads

@[expose] public section

set_option maxRecDepth 16384

noncomputable section

/-! What one grid point of the norm-and-projection backward call leaves in its buffers. -/

namespace Cert.PreKernelIdeal.Step

open Cert.PreKernelIdeal Cert.PreKernelIdeal.Gen Cert.PreKernelIdeal.Value
open Idealize.ShloMosaic Idealize.ShloMosaic.TcCoe Idealize.ShloMosaic.Tactic

variable {F : FTy → Type} [FloatOps F]
variable (m : (ℓ : Loc nD τ sig) → Buf (Elt F) ℓ)

theorem hz : (![0, 0] : Fin 2 → Nat) = fun _ => 0 := funext fun a => by fin_cases a <;> rfl

/-- The four column blocks of the projection's weight side by side. -/
def wall (w : Vec F S4x1024x640 .bf16) : Vec F S1024x2560 .bf16 := fun j =>
  w (fun a => match a with
    | ⟨0, _⟩ => ⟨(j 1).val / 640, by have := (j 1).isLt; show _ < 4; have h : S1024x2560.size 1 = 2560 := rfl; omega⟩
    | ⟨1, _⟩ => ⟨(j 0).val, (j 0).isLt⟩
    | ⟨2, _⟩ => ⟨(j 1).val % 640, Nat.mod_lt _ (by norm_num)⟩)

theorem wall_at (w : Vec F S4x1024x640 .bf16) (k : Fin 4) (y : S1024x2560.Idx) (r : Fin 1024) (l : Fin 640)
    (h0 : (y 0).val = 0 + r.val) (h1 : (y 1).val = 640 * k.val + l.val) : w (ix3 k r l) = wall w y := by
  have := l.isLt
  unfold wall
  congr 1
  funext a
  apply Fin.ext
  match a with
  | ⟨0, _⟩ => show k.val = (y 1).val / 640; omega
  | ⟨1, _⟩ => show r.val = (y 0).val; omega
  | ⟨2, _⟩ => show l.val = (y 1).val % 640; omega

/-- The rows of `dx` one tile writes, from its blocks and the weight. -/
def tileDx (x0 : Vec F S512x1024 .f32) (x1 : Vec F S1x1024 .f32) (x2 : Vec F S512x1024 .f32)
    (x3 x4 x5 x6 x7 : Vec F S512x512 .bf16) (w : Vec F S1024x2560 .bf16) : Vec F S512x1024 .f32 :=
  k0_pay1 x0 (k0_pay11 x3 x4 x5 x6 x7 w x0 x1) (k0_pay12 x0) (k0_pay13 x3 x4 x5 x6 x7 w x0 x1) x2

/-- The running sum of the norm weight's gradient after one more tile. -/
def tileDn (x0 : Vec F S512x1024 .f32) (x3 x4 x5 x6 x7 : Vec F S512x512 .bf16) (w : Vec F S1024x2560 .bf16)
    (old : Vec F S1x1024 .f32) : Vec F S1x1024 .f32 :=
  k0_pay2 (k0_pay8 x3 x4 x5 x6 x7 w) x0 (k0_pay9 x0) old

theorem B_9 (c : Dev nD) (t : Fin cfg0.N) (h0 : ¬ t.val % 8 = 0) (acc) :
    (stAt0 m c t.val t.isLt acc).1 = tileDx (iblk m c 0 t) (iblk m c 1 t) (iblk m c 2 t) (iblk m c 3 t) (iblk m c 4 t)
      (iblk m c 5 t) (iblk m c 6 t) (iblk m c 7 t) acc.2.2 := by
  rw [stAt0_B m c t acc h0]
  dsimp only
  unfold out0_B_9
  rw [View.read_writes_junk_eq_canon]
  unfold kernelRun0_B
  dsimp only
  sl_unfold_words
  rw [View.canon_cons_unit_zero (S := S512x1024) hz]
  have hs : View.read (Elt F) (View.whole cc0_scratch0) ((Memref.isWhole_whole cc0_scratch0).unread acc.2.2) = acc.2.2 :=
    (Memref.isWhole_whole cc0_scratch0).read_unread _
  simp only [View.readAt_eq_ld, Memref.IsWhole.read_unread, hs, View.ld_unit_zero (S := S512x1024) hz,
    View.ld_unit_zero (S := S512x512) hz, View.ld_unit_zero (S := S1x1024) hz, View.ld_unit_zero (S := S1024x2560) hz]
  rfl

theorem A_s (c : Dev nD) (t : Fin cfg0.N) (h0 : t.val % 8 = 0) (acc) :
    (stAt0 m c t.val t.isLt acc).2.2 = wall (iblk m c 8 t) := by
  rw [stAt0_A m c t acc h0]
  dsimp only
  unfold sout0_A_0
  rw [View.read_writes_junk_eq_canon]
  unfold kernelRun0_A
  dsimp only
  sl_unfold_words
  simp only [View.readAt_eq_ld, Memref.IsWhole.read_unread, View.ld_unit]
  funext y
  refine View.canon_eq_of_allAt _ y _ (View.cover_of_tiledL _ ![1024, 640] (by sl_kernel_rfl) y) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · unfold k0_pay7
    rw [shapeCast_self]
    pointwise
    exact wall_at _ 3 y (x 0) (x 1) (hx 0) (hx 1)
  · unfold k0_pay6
    rw [shapeCast_self]
    pointwise
    exact wall_at _ 2 y (x 0) (x 1) (hx 0) (hx 1)
  · unfold k0_pay5
    rw [shapeCast_self]
    pointwise
    exact wall_at _ 1 y (x 0) (x 1) (hx 0) (hx 1)
  · unfold k0_pay4
    rw [shapeCast_self]
    pointwise
    exact wall_at _ 0 y (x 0) (x 1) (hx 0) (hx 1)

theorem A_9 (c : Dev nD) (t : Fin cfg0.N) (h0 : t.val % 8 = 0) (acc) :
    (stAt0 m c t.val t.isLt acc).1 = tileDx (iblk m c 0 t) (iblk m c 1 t) (iblk m c 2 t) (iblk m c 3 t) (iblk m c 4 t)
      (iblk m c 5 t) (iblk m c 6 t) (iblk m c 7 t) (wall (iblk m c 8 t)) := by
  rw [← A_s m c t h0 acc, stAt0_A m c t acc h0]
  dsimp only
  unfold out0_A_9 sout0_A_0
  rw [View.read_writes_junk_eq_canon, View.read_writes_junk_eq_canon]
  unfold kernelRun0_A
  dsimp only
  sl_unfold_words
  rw [View.canon_cons_unit_zero (S := S512x1024) hz]
  simp only [View.readCov_ld, View.canon_cons_unit_zero (S := S1x1024) hz, View.readAt_eq_ld, Memref.IsWhole.read_unread, View.ld_unit_zero (S := S512x1024) hz,
    View.ld_unit_zero (S := S512x512) hz, View.ld_unit_zero (S := S1x1024) hz, View.ld_unit_zero (S := S1024x2560) hz]

  rfl

theorem A_10 (c : Dev nD) (t : Fin cfg0.N) (h0 : t.val % 8 = 0) (acc) :
    (stAt0 m c t.val t.isLt acc).2.1 = tileDn (iblk m c 0 t) (iblk m c 3 t) (iblk m c 4 t)
      (iblk m c 5 t) (iblk m c 6 t) (iblk m c 7 t) (wall (iblk m c 8 t)) k0_pay3 := by
  rw [← A_s m c t h0 acc, stAt0_A m c t acc h0]
  dsimp only
  unfold out0_A_10 sout0_A_0
  rw [View.read_writes_junk_eq_canon, View.read_writes_junk_eq_canon]
  unfold kernelRun0_A
  dsimp only
  sl_unfold_words
  rw [View.canon_cons_unit_zero (S := S1x1024) hz]
  simp only [View.readCov_ld, View.canon_cons_unit_zero (S := S1x1024) hz, View.readAt_eq_ld, Memref.IsWhole.read_unread, View.ld_unit_zero (S := S512x1024) hz,
    View.ld_unit_zero (S := S512x512) hz, View.ld_unit_zero (S := S1x1024) hz, View.ld_unit_zero (S := S1024x2560) hz]

  rfl

theorem B_10 (c : Dev nD) (t : Fin cfg0.N) (h0 : ¬ t.val % 8 = 0) (acc) :
    (stAt0 m c t.val t.isLt acc).2.1 = tileDn (iblk m c 0 t) (iblk m c 3 t) (iblk m c 4 t)
      (iblk m c 5 t) (iblk m c 6 t) (iblk m c 7 t) acc.2.2 acc.2.1 := by
  rw [stAt0_B m c t acc h0]
  dsimp only
  unfold out0_B_10
  rw [View.read_writes_junk_eq_canon]
  unfold kernelRun0_B
  dsimp only
  sl_unfold_words
  rw [View.canon_cons_unit_zero (S := S1x1024) hz]
  have hs : View.read (Elt F) (View.whole cc0_scratch0) ((Memref.isWhole_whole cc0_scratch0).unread acc.2.2) = acc.2.2 :=
    (Memref.isWhole_whole cc0_scratch0).read_unread _
  simp only [View.readAt_eq_ld, Memref.IsWhole.read_unread, hs, View.ld_unit_zero (S := S512x1024) hz,
    View.ld_unit_zero (S := S512x512) hz, View.ld_unit_zero (S := S1x1024) hz, View.ld_unit_zero (S := S1024x2560) hz]
  rfl

theorem B_s (c : Dev nD) (t : Fin cfg0.N) (h0 : ¬ t.val % 8 = 0) (acc) :
    (stAt0 m c t.val t.isLt acc).2.2 = acc.2.2 := by
  rw [stAt0_B m c t acc h0]
  rfl

end Cert.PreKernelIdeal.Step
-- ==== Proof.PreRef.lean ====
module

public import proofs.«01_k».proof.Proof.Num
public import proofs.«01_k».proof.Proof.Gen.PreRefIdeal.Run

@[expose] public section

set_option maxRecDepth 16384

noncomputable section

/-! The norm-and-projection backward reference, read at an index as one formula of real numbers. -/

namespace Cert.PreRefIdeal.Step

open Cert.PreRefIdeal Cert.PreRefIdeal.Gen Cert.PreRefIdeal.Value Cert.Num
open Idealize.ShloMosaic Idealize.ShloMosaic.TcCoe Idealize.ShloMosaic.Tactic

/-- The gradient of the normed row, from the five column blocks and the projection's weight. -/
def dh (d0 d1 d2 d3 d4 : FVec Ideal S4096x512 .f32) (w : FVec Ideal S1x1024x2560 .f32) (i : Fin 4096) (l : Fin 1024) : EReal :=
  ∑ x : Fin 2560,
      (if h : x.val < 512 then d0 (ix2 i ⟨x.val, h⟩)
        else
          if h : x.val - 512 < 512 then d1 (ix2 i ⟨x.val - 512, h⟩)
          else
            if h : x.val - 512 - 512 < 512 then d2 (ix2 i ⟨x.val - 512 - 512, h⟩)
            else
              if h : x.val - 512 - 512 - 512 < 512 then d3 (ix2 i ⟨x.val - 512 - 512 - 512, h⟩)
              else d4 (ix2 i ⟨x.val - 512 - 512 - 512 - 512, by have := x.isLt; omega⟩)) * w (ix3 0 l x)

/-- The host's product is that gradient. -/
theorem dot_eq (d0 d1 d2 d3 d4 : FVec Ideal S4096x512 .f32) (w : FVec Ideal S1x1024x2560 .f32) (i : Fin 4096) (l : Fin 1024) :
    (Host.dotGeneral (φ₁ := .f32) (φ₂ := .f32) dot_S4096x2560_S1024x2560_S4096x1024_1_1_0_0_n_n none
      (concatenate (α := EReal) S4096x2560 1 [⟨S4096x512, d0⟩, ⟨S4096x512, d1⟩, ⟨S4096x512, d2⟩, ⟨S4096x512, d3⟩, ⟨S4096x512, d4⟩]
        concatenates_S4096x512_S4096x512_S4096x512_S4096x512_S4096x512_S4096x2560_d1 : FVec Ideal S4096x2560 .f32)
      (shapeCast _ w shapeCasts_S1x1024x2560_S1024x2560 : FVec Ideal S1024x2560 .f32) : FVec Ideal S4096x1024 .f32) (ix2 i l)
      = dh d0 d1 d2 d3 d4 w i l := by
  pointwise
  rfl

/-- A product of real entries is real. -/
theorem dh_real (d0 d1 d2 d3 d4 : FVec Ideal S4096x512 .f32) (w : FVec Ideal S1x1024x2560 .f32) {D0 D1 D2 D3 D4 W}
    (h0 : Reals d0 D0) (h1 : Reals d1 D1) (h2 : Reals d2 D2) (h3 : Reals d3 D3) (h4 : Reals d4 D4) (hw : Reals w W) :
    ∃ H : Fin 4096 → Fin 1024 → ℝ, ∀ i l, dh d0 d1 d2 d3 d4 w i l = ((H i l : ℝ) : EReal) := by
  have : ∀ i l, ∃ r : ℝ, dh d0 d1 d2 d3 d4 w i l = r := fun i l => by
    unfold dh
    refine real_sum _ fun x => real_mul ?_ ⟨_, hw _⟩
    split
    · exact ⟨_, h0 _⟩
    split
    · exact ⟨_, h1 _⟩
    split
    · exact ⟨_, h2 _⟩
    split
    · exact ⟨_, h3 _⟩
    · exact ⟨_, h4 _⟩
  choose H hH using this
  exact ⟨H, hH⟩

variable (m : (ℓ : Loc nD τ sig) → Buf (Elt Ideal) ℓ) (c : Dev nD)

/-- The row `i` of an array. -/
abbrev rowOf {n k : ℕ} (X : (⟨2, ![n, k]⟩ : Shape).Idx → ℝ) (i : Fin n) : Fin k → ℝ := fun l => X (ix2 i l)

/-- The input gradient's real part at row `i`, column `l`: what is added to the residual's gradient. -/
def dxR (X : S4096x1024.Idx → ℝ) (N : S1x1024.Idx → ℝ) (H : Fin 4096 → Fin 1024 → ℝ) (i : Fin 4096) (l : Fin 1024) : ℝ :=
  rinv (rowOf X i) * (H i l * N (ix2 0 l)) - X (ix2 i l) * (rinv (rowOf X i) * rinv (rowOf X i) * rinv (rowOf X i)
    * ((∑ k, H i k * N (ix2 0 k) * X (ix2 i k)) / 1024))

/-- The norm weight's gradient. -/
def dnR (X : S4096x1024.Idx → ℝ) (H : Fin 4096 → Fin 1024 → ℝ) (l : Fin 1024) : ℝ :=
  ∑ i, H i l * X (ix2 i l) * rinv (rowOf X i)

/-- The input gradient at an index. -/
theorem dx_at {X : S4096x1024.Idx → ℝ} {N : S1x1024.Idx → ℝ} {H : Fin 4096 → Fin 1024 → ℝ}
    (hx : Reals (ι := S4096x1024.Idx) (m ((c.tc : Thread nD τ).loc main_arg0)) X)
    (hn : Reals (ι := S1x1024.Idx) (m ((c.tc : Thread nD τ).loc main_arg1)) N)
    (hh : ∀ i l, dh (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg2)) i l = ((H i l : ℝ) : EReal))
    (dres : S4096x1024.Idx → EReal) (hr : m ((c.tc : Thread nD τ).loc main_arg3) = dres)
    (i : Fin 4096) (l : Fin 1024) : res_main_v46 m c (ix2 i l) = dres (ix2 i l) + ((dxR X N H i l : ℝ) : EReal) := by
  unfold res_main_v46
  have hd := dot_eq (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg2))
  simp only [hh] at hd
  generalize Host.dotGeneral (F := Ideal) dot_S4096x2560_S1024x2560_S4096x1024_1_1_0_0_n_n none _ _ = G at hd ⊢
  generalize m ((c.tc : Thread nD τ).loc main_arg0) = x at hx ⊢
  generalize m ((c.tc : Thread nD τ).loc main_arg1) = nw at hn ⊢
  rw [hr]
  pointwise
  rw [dxR, dx_real (rowOf X i) (fun k => N (ix2 0 k)) (H i) 1024]
  have hM : (∑ k, X (ix2 i k) * X (ix2 i k)) / 1024 + eps = msq (rowOf X i) := msq_1024 (rowOf X i)
  simp only [hx _, hn _, hd, lit_eps, lit_neg_half, ← EReal.coe_mul, coe_sum, div_1024, ← EReal.coe_add, hM, rsqrt_msq, div_msq,
    Finset.univ_unique, Finset.sum_singleton]
  rw [add_assoc, ← EReal.coe_add, add_assoc, ← EReal.coe_add]

/-- The norm weight's gradient as @main returns it. -/
def dn (x : FVec Ideal S4096x1024 .f32) (G : FVec Ideal S4096x1024 .f32) : FVec Ideal S1x1024 .f32 :=
  broadcastInDim S1x1024 ![1] bcast_S1024_S1x1024_1 (Host.reduceAdd (shapeCast S1x1024 (Host.reduceAdd (mulf (mulf x
    (broadcastInDim S4096x1024 ![0, 1] bcast_S4096x1_S4096x1024_0_1 (Host.rsqrt (addf (Host.divf (broadcastInDim S4096x1 ![0]
      bcast_S4096_S4096x1_0 (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32)))))) G) (constant S_ .f32 0x00000000#32)
      reducesTo_S4096x1024_S1024_d0 h_S_) shapeCasts_S1024_S1x1024) (constant S_ .f32 0x00000000#32) reducesTo_S1x1024_S1024_d0 h_S_)

theorem dn_at {x : FVec Ideal S4096x1024 .f32} {G : FVec Ideal S4096x1024 .f32} {X : S4096x1024.Idx → ℝ} {H : Fin 4096 → Fin 1024 → ℝ}
    (hx : Reals (ι := S4096x1024.Idx) x X) (hd : ∀ i l, G (ix2 i l) = ((H i l : ℝ) : EReal)) (l : Fin 1024) :
    dn x G (ix2 0 l) = ((dnR X H l : ℝ) : EReal) := by
  unfold dn
  pointwise
  have hM : ∀ i, (∑ k, X (ix2 i k) * X (ix2 i k)) / 1024 + eps = msq (rowOf X i) := fun i => msq_1024 (rowOf X i)
  simp only [hx _, hd, lit_eps, ← EReal.coe_mul, coe_sum, div_1024, ← EReal.coe_add, hM, rsqrt_msq,
    Finset.univ_unique, Finset.sum_singleton]
  congr 1
  exact Finset.sum_congr rfl fun i _ => by ring

end Cert.PreRefIdeal.Step
-- ==== Proof.PreKer.lean ====
module

public import proofs.«01_k».proof.Proof.Tiles
public import proofs.«01_k».proof.Proof.PreStep
public import proofs.«01_k».proof.Proof.PreRef

@[expose] public section

set_option maxRecDepth 16384

noncomputable section

/-! The norm-and-projection backward kernel: its two results at an index as formulas of real numbers. -/

namespace Cert.PreKernelIdeal.Step

open Cert.PreKernelIdeal Cert.PreKernelIdeal.Gen Cert.PreKernelIdeal.Value Cert.Num
open Cert.PreRefIdeal.Step (dh dxR dnR rowOf)
open Idealize.ShloMosaic Idealize.ShloMosaic.TcCoe Idealize.ShloMosaic.Tactic

/-! ### One tile -/

section Tile

variable (x0 : Vec Ideal S512x1024 .f32) (x1 : Vec Ideal S1x1024 .f32) (x2 : Vec Ideal S512x1024 .f32)
  (x3 x4 x5 x6 x7 : Vec Ideal S512x512 .bf16) (w : Vec Ideal S1024x2560 .bf16)

/-- The tile's product, read off the arrays its blocks are rows of. -/
theorem dot_at (d0 d1 d2 d3 d4 : FVec Ideal ⟨2, ![4096, 512]⟩ .f32) (W : FVec Ideal ⟨3, ![1, 1024, 2560]⟩ .f32) (i : Fin 4096) (r : Fin 512)
    (h3 : ∀ l, x3 (ix2 r l) = d0 (ix2 i l)) (h4 : ∀ l, x4 (ix2 r l) = d1 (ix2 i l)) (h5 : ∀ l, x5 (ix2 r l) = d2 (ix2 i l))
    (h6 : ∀ l, x6 (ix2 r l) = d3 (ix2 i l)) (h7 : ∀ l, x7 (ix2 r l) = d4 (ix2 i l)) (hw : ∀ a b, w (ix2 a b) = W (ix3 0 a b))
    (l : Fin 1024) : k0_pay8 x3 x4 x5 x6 x7 w (ix2 r l) = dh d0 d1 d2 d3 d4 W i l := by
  pointwise [k0_pay8]
  simp only [h3, h4, h5, h6, h7, hw]
  rfl

variable {X N H : Fin 1024 → ℝ} {r : Fin 512}

theorem tileDx_at (hx : ∀ l, x0 (ix2 r l) = ((X l : ℝ) : EReal)) (hn : ∀ l, x1 (ix2 0 l) = ((N l : ℝ) : EReal))
    (hh : ∀ l, k0_pay8 x3 x4 x5 x6 x7 w (ix2 r l) = ((H l : ℝ) : EReal)) (dr : EReal) (l : Fin 1024) (hr : x2 (ix2 r l) = dr) :
    tileDx x0 x1 x2 x3 x4 x5 x6 x7 w (ix2 r l) = dr + ((rinv X * (H l * N l) - X l * (rinv X * rinv X * rinv X
      * ((∑ k, H k * N k * X k) / 1024)) : ℝ) : EReal) := by
  unfold tileDx k0_pay1 k0_pay11 k0_pay12 k0_pay13 k0_pay10 k0_pay9
  generalize k0_pay8 x3 x4 x5 x6 x7 w = G at hh ⊢
  pointwise
  simp only [hx, hn, hh, lit_eps, ← EReal.coe_mul, coe_sum, div_1024, ← EReal.coe_add, ← EReal.coe_sub, msq_1024, rsqrt_msq, hr]

theorem tileDn_at {X H : Fin 512 → Fin 1024 → ℝ} (hx : ∀ r l, x0 (ix2 r l) = ((X r l : ℝ) : EReal))
    (hh : ∀ r l, k0_pay8 x3 x4 x5 x6 x7 w (ix2 r l) = ((H r l : ℝ) : EReal)) (l : Fin 1024) (old : S1x1024.Idx → EReal) :
    tileDn x0 x3 x4 x5 x6 x7 w old (ix2 0 l) = old (ix2 0 l) + ∑ r, ((H r l * X r l * rinv (X r) : ℝ) : EReal) := by
  unfold tileDn k0_pay2 k0_pay9
  generalize k0_pay8 x3 x4 x5 x6 x7 w = G at hh ⊢
  pointwise
  simp only [hx, hh, lit_eps, ← EReal.coe_mul, coe_sum, div_1024, ← EReal.coe_add, msq_1024, rsqrt_msq]

end Tile

/-! ### The blocks of the argument arrays -/

variable (m : (ℓ : Loc nD τ sig) → Buf (Elt Ideal) ℓ) (c : Dev nD)

theorem V_0 : V m c main_arg0 = m ((c : Thread nD τ).loc main_arg0) := by
  unfold V
  after_results_simp
theorem V_1 : V m c main_arg1 = m ((c : Thread nD τ).loc main_arg1) := by
  unfold V
  after_results_simp
theorem V_2 : V m c main_arg3 = m ((c : Thread nD τ).loc main_arg3) := by
  unfold V
  after_results_simp
theorem V_3 : V m c main_v4 = m ((c : Thread nD τ).loc main_arg4) := by
  unfold V
  after_results_simp
  rfl
theorem V_4 : V m c main_v5 = m ((c : Thread nD τ).loc main_arg5) := by
  unfold V
  after_results_simp
  rfl
theorem V_5 : V m c main_v6 = m ((c : Thread nD τ).loc main_arg6) := by
  unfold V
  after_results_simp
  rfl
theorem V_6 : V m c main_v7 = m ((c : Thread nD τ).loc main_arg7) := by
  unfold V
  after_results_simp
  rfl
theorem V_7 : V m c main_v8 = m ((c : Thread nD τ).loc main_arg8) := by
  unfold V
  after_results_simp
  rfl

theorem V_8 (k : Fin 4) (r : Fin 1024) (l : Fin 640) : V m c main_v3 (ix3 k r l)
    = m ((c : Thread nD τ).loc main_arg2) (ix3 0 r ⟨k.val * 640 + l.val, by have := k.isLt; have := l.isLt; omega⟩) := by
  unfold V
  after_results_simp
  pointwise

/-- Row `r` of tile `t`. -/
def row (t : Fin cfg0.N) (r : Fin 512) : Fin 4096 := ⟨512 * t.val + r.val, by
  have := t.isLt
  have hN : cfg0.N = 8 := N_0
  have := r.isLt
  omega⟩

theorem idx : ∀ t : Fin cfg0.N, (win0_0.index t (0 : Fin 2) = t.val ∧ win0_0.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_1.index t (0 : Fin 2) = 0 ∧ win0_1.index t (1 : Fin 2) = 0) :=
  (by decide +kernel : ∀ t : Fin grid0.N, _)

theorem blk_0 (t : Fin cfg0.N) (r : Fin 512) (l : Fin 1024) :
    iblk m c 0 t (ix2 r l) = m ((c : Thread nD τ).loc main_arg0) (ix2 (row t r) l) := by
  show V m c (Pipeline.arrRef spec0 0) (((cfg0.win 0).blk t).view.emb (ix2 r l)) = _
  refine (congrFun (V_0 m c) _).trans ?_
  exact congrArg _ (at_tile (idx t).1 rfl rfl rfl)

theorem blk_2 (t : Fin cfg0.N) (r : Fin 512) (l : Fin 1024) :
    iblk m c 2 t (ix2 r l) = m ((c : Thread nD τ).loc main_arg3) (ix2 (row t r) l) := by
  show V m c (Pipeline.arrRef spec0 2) (((cfg0.win 2).blk t).view.emb (ix2 r l)) = _
  refine (congrFun (V_2 m c) _).trans ?_
  exact congrArg _ (at_tile (idx t).2.1 rfl rfl rfl)

theorem blk_3 (t : Fin cfg0.N) (r : Fin 512) (l : Fin 512) :
    iblk m c 3 t (ix2 r l) = m ((c : Thread nD τ).loc main_arg4) (ix2 (row t r) l) := by
  show V m c (Pipeline.arrRef spec0 3) (((cfg0.win 3).blk t).view.emb (ix2 r l)) = _
  refine (congrFun (V_3 m c) _).trans ?_
  exact congrArg _ (at_tile (idx t).2.2.1 rfl rfl rfl)

theorem blk_4 (t : Fin cfg0.N) (r : Fin 512) (l : Fin 512) :
    iblk m c 4 t (ix2 r l) = m ((c : Thread nD τ).loc main_arg5) (ix2 (row t r) l) := by
  show V m c (Pipeline.arrRef spec0 4) (((cfg0.win 4).blk t).view.emb (ix2 r l)) = _
  refine (congrFun (V_4 m c) _).trans ?_
  exact congrArg _ (at_tile (idx t).2.2.2.1 rfl rfl rfl)

theorem blk_5 (t : Fin cfg0.N) (r : Fin 512) (l : Fin 512) :
    iblk m c 5 t (ix2 r l) = m ((c : Thread nD τ).loc main_arg6) (ix2 (row t r) l) := by
  show V m c (Pipeline.arrRef spec0 5) (((cfg0.win 5).blk t).view.emb (ix2 r l)) = _
  refine (congrFun (V_5 m c) _).trans ?_
  exact congrArg _ (at_tile (idx t).2.2.2.2.1 rfl rfl rfl)

theorem blk_6 (t : Fin cfg0.N) (r : Fin 512) (l : Fin 512) :
    iblk m c 6 t (ix2 r l) = m ((c : Thread nD τ).loc main_arg7) (ix2 (row t r) l) := by
  show V m c (Pipeline.arrRef spec0 6) (((cfg0.win 6).blk t).view.emb (ix2 r l)) = _
  refine (congrFun (V_6 m c) _).trans ?_
  exact congrArg _ (at_tile (idx t).2.2.2.2.2.1 rfl rfl rfl)

theorem blk_7 (t : Fin cfg0.N) (r : Fin 512) (l : Fin 512) :
    iblk m c 7 t (ix2 r l) = m ((c : Thread nD τ).loc main_arg8) (ix2 (row t r) l) := by
  show V m c (Pipeline.arrRef spec0 7) (((cfg0.win 7).blk t).view.emb (ix2 r l)) = _
  refine (congrFun (V_7 m c) _).trans ?_
  exact congrArg _ (at_tile (idx t).2.2.2.2.2.2.1 rfl rfl rfl)

theorem blk_1 (t : Fin cfg0.N) (l : Fin 1024) : iblk m c 1 t (ix2 0 l) = m ((c : Thread nD τ).loc main_arg1) (ix2 0 l) := by
  show V m c (Pipeline.arrRef spec0 1) (((cfg0.win 1).blk t).view.emb (ix2 0 l)) = _
  refine (congrFun (V_1 m c) _).trans ?_
  exact congrArg _ (at_tile (idx t).2.2.2.2.2.2.2 rfl rfl (Nat.zero_add _).symm)

theorem idx_8 : ∀ t : Fin cfg0.N, win0_8.index t (0 : Fin 3) = 0 ∧ win0_8.index t (1 : Fin 3) = 0 ∧ win0_8.index t (2 : Fin 3) = 0 :=
  (by decide +kernel : ∀ t : Fin grid0.N, _)

theorem wall_blk (t : Fin cfg0.N) (r : Fin 1024) (l : Fin 2560) :
    wall (iblk m c 8 t) (ix2 r l) = m ((c : Thread nD τ).loc main_arg2) (ix3 0 r l) := by
  obtain ⟨e0, e1, e2⟩ := idx_8 t
  rw [← wall_at (iblk m c 8 t) ⟨l.val / 640, by have := l.isLt; omega⟩ (ix2 r l) r ⟨l.val % 640, Nat.mod_lt _ (by norm_num)⟩
    (by show r.val = 0 + r.val; omega) (by show l.val = 640 * (l.val / 640) + l.val % 640; omega)]
  show V m c main_v3 (((cfg0.win 8).blk t).view.emb _) = _
  have e : ((cfg0.win 8).blk t).view.emb (ix3 (⟨l.val / 640, by have := l.isLt; omega⟩ : Fin 4) r (⟨l.val % 640, Nat.mod_lt _ (by norm_num)⟩ : Fin 640))
      = (ix3 (⟨l.val / 640, by have := l.isLt; omega⟩ : Fin 4) r (⟨l.val % 640, Nat.mod_lt _ (by norm_num)⟩ : Fin 640) : S4x1024x640.Idx) := by
    funext a
    apply Fin.ext
    match a with
    | ⟨0, _⟩ => show win0_8.index t (0 : Fin 3) * 4 + 1 * (l.val / 640) = l.val / 640; omega
    | ⟨1, _⟩ => show win0_8.index t (1 : Fin 3) * 1024 + 1 * r.val = r.val; omega
    | ⟨2, _⟩ => show win0_8.index t (2 : Fin 3) * 640 + 1 * (l.val % 640) = l.val % 640; omega
  rw [e]
  refine (V_8 m c _ _ _).trans ?_
  congr 2
  apply Fin.ext
  show l.val / 640 * 640 + l.val % 640 = l.val
  omega

/-! ### The carried state -/

/-- What the buffers hold after point `n`. -/
abbrev st (n : ℕ) (h : 0 + n < cfg0.N) := Pipeline.accAt (fun n h => stAt0 m c n h junk0) (stAt0 m c) 0 n h

theorem st_w : ∀ (n : ℕ) (h : 0 + n < cfg0.N) (r : Fin 1024) (l : Fin 2560), (st m c n h).2.2 (ix2 r l)
    = m ((c : Thread nD τ).loc main_arg2) (ix3 0 r l)
  | 0, h, r, l => by
    unfold st
    rw [Pipeline.accAt_zero, A_s m c ⟨0, h⟩ rfl]
    exact wall_blk m c _ r l
  | n + 1, h, r, l => by
    unfold st
    have hN : cfg0.N = 8 := N_0
    rw [Pipeline.accAt_succ, B_s m c ⟨0 + (n + 1), h⟩ (by show ¬(0 + (n + 1)) % 8 = 0; omega)]
    exact st_w n _ r l

section Values

variable {X : (⟨2, ![4096, 1024]⟩ : Shape).Idx → ℝ} {N : (⟨2, ![1, 1024]⟩ : Shape).Idx → ℝ} {H : Fin 4096 → Fin 1024 → ℝ}
  (hx : Reals (ι := (⟨2, ![4096, 1024]⟩ : Shape).Idx) (m ((c : Thread nD τ).loc main_arg0)) X)
  (hn : Reals (ι := (⟨2, ![1, 1024]⟩ : Shape).Idx) (m ((c : Thread nD τ).loc main_arg1)) N)
  (hh : ∀ i l, dh (m ((c : Thread nD τ).loc main_arg4)) (m ((c : Thread nD τ).loc main_arg5))
      (m ((c : Thread nD τ).loc main_arg6)) (m ((c : Thread nD τ).loc main_arg7))
      (m ((c : Thread nD τ).loc main_arg8)) (m ((c : Thread nD τ).loc main_arg2)) i l = ((H i l : ℝ) : EReal))

include hh in
theorem dot_blk (t : Fin cfg0.N) (w : Vec Ideal S1024x2560 .bf16) (hw : ∀ a b, w (ix2 a b) = m ((c : Thread nD τ).loc main_arg2) (ix3 0 a b))
    (r : Fin 512) (l : Fin 1024) : k0_pay8 (iblk m c 3 t) (iblk m c 4 t) (iblk m c 5 t) (iblk m c 6 t) (iblk m c 7 t) w (ix2 r l)
      = ((H (row t r) l : ℝ) : EReal) := by
  rw [← hh]
  exact dot_at _ _ _ _ _ _ _ _ _ _ _ _ (row t r) r (fun l => blk_3 m c t r l) (fun l => blk_4 m c t r l) (fun l => blk_5 m c t r l)
    (fun l => blk_6 m c t r l) (fun l => blk_7 m c t r l) hw l

include hx hn hh in
/-- One tile's rows of the input gradient. -/
theorem dx_tile (t : Fin cfg0.N) (w : Vec Ideal S1024x2560 .bf16) (hw : ∀ a b, w (ix2 a b) = m ((c : Thread nD τ).loc main_arg2) (ix3 0 a b))
    (dres : (⟨2, ![4096, 1024]⟩ : Shape).Idx → EReal) (hr : m ((c : Thread nD τ).loc main_arg3) = dres) (r : Fin 512) (l : Fin 1024) :
    tileDx (iblk m c 0 t) (iblk m c 1 t) (iblk m c 2 t) (iblk m c 3 t) (iblk m c 4 t) (iblk m c 5 t) (iblk m c 6 t) (iblk m c 7 t) w (ix2 r l)
      = dres (ix2 (row t r) l) + ((dxR X N H (row t r) l : ℝ) : EReal) :=
  tileDx_at _ _ _ _ _ _ _ _ _ (X := rowOf X (row t r)) (N := fun l => N (ix2 0 l)) (H := H (row t r))
    (fun l => (blk_0 m c t r l).trans (hx _)) (fun l => (blk_1 m c t l).trans (hn _)) (fun l => dot_blk m c hh t w hw r l) _ l
    ((blk_2 m c t r l).trans (congrFun hr _))

include hx hn hh in
theorem st_dx (dres : (⟨2, ![4096, 1024]⟩ : Shape).Idx → EReal) (hr : m ((c : Thread nD τ).loc main_arg3) = dres) :
    ∀ (n : ℕ) (h : 0 + n < cfg0.N) (r : Fin 512) (l : Fin 1024), (st m c n h).1 (ix2 r l)
      = dres (ix2 (row ⟨0 + n, h⟩ r) l) + ((dxR X N H (row ⟨0 + n, h⟩ r) l : ℝ) : EReal)
  | 0, h, r, l => by
    unfold st
    rw [Pipeline.accAt_zero, A_9 m c ⟨0, h⟩ rfl]
    exact dx_tile m c hx hn hh _ _ (wall_blk m c _) dres hr r l
  | n + 1, h, r, l => by
    unfold st
    have hN : cfg0.N = 8 := N_0
    rw [Pipeline.accAt_succ, B_9 m c ⟨0 + (n + 1), h⟩ (by show ¬(0 + (n + 1)) % 8 = 0; omega)]
    exact dx_tile m c hx hn hh _ _ (st_w m c n _) dres hr r l

/-- One row's share of the norm weight's gradient. -/
def dnRow (X : (⟨2, ![4096, 1024]⟩ : Shape).Idx → ℝ) (H : Fin 4096 → Fin 1024 → ℝ) (l : Fin 1024) (i : Fin 4096) : EReal :=
  ((H i l * X (ix2 i l) * rinv (rowOf X i) : ℝ) : EReal)

include hx hh in
theorem dn_tile (t : Fin cfg0.N) (w : Vec Ideal S1024x2560 .bf16) (hw : ∀ a b, w (ix2 a b) = m ((c : Thread nD τ).loc main_arg2) (ix3 0 a b))
    (l : Fin 1024) (old : S1x1024.Idx → EReal) :
    tileDn (iblk m c 0 t) (iblk m c 3 t) (iblk m c 4 t) (iblk m c 5 t) (iblk m c 6 t) (iblk m c 7 t) w old (ix2 0 l)
      = old (ix2 0 l) + ∑ r : Fin 512, tot (dnRow X H l) (512 * t.val + r.val) := by
  rw [tileDn_at _ _ _ _ _ _ _ (X := fun r => rowOf X (row t r)) (H := fun r => H (row t r))
    (fun r l => (blk_0 m c t r l).trans (hx _)) (fun r l => dot_blk m c hh t w hw r l) l old]
  congr 1
  exact Finset.sum_congr rfl fun r _ => (tot_of (dnRow X H l) (row t r) _ rfl).symm

include hx hh in
theorem st_dn (l : Fin 1024) : ∀ (n : ℕ) (h : 0 + n < cfg0.N), (st m c n h).2.1 (ix2 0 l)
      = ∑ s ∈ Finset.range (n + 1), ∑ r : Fin 512, tot (dnRow X H l) (512 * s + r.val)
  | 0, h => by
    unfold st
    rw [Pipeline.accAt_zero, A_10 m c ⟨0, h⟩ rfl]
    refine (dn_tile m c hx hh _ _ (wall_blk m c _) l _).trans ?_
    rw [Finset.sum_range_one]
    unfold k0_pay3
    pointwise
  | n + 1, h => by
    unfold st
    have hN : cfg0.N = 8 := N_0
    rw [Pipeline.accAt_succ, B_10 m c ⟨0 + (n + 1), h⟩ (by show ¬(0 + (n + 1)) % 8 = 0; omega), Finset.sum_range_succ]
    refine (dn_tile m c hx hh _ _ (st_w m c n _) l _).trans ?_
    rw [show (Pipeline.accAt (fun n h => stAt0 m c n h junk0) (stAt0 m c) 0 n _).2.1 (ix2 0 l) = _ from st_dn l n (Nat.lt_of_succ_lt h)]
    show _ + ∑ r : Fin 512, tot (dnRow X H l) (512 * (0 + (n + 1)) + r.val) = _
    rw [Nat.zero_add]

/-! ### The results -/

include hx hn hh in
theorem G9_at (dres : (⟨2, ![4096, 1024]⟩ : Shape).Idx → EReal) (hr : m ((c : Thread nD τ).loc main_arg3) = dres)
    (i : Fin 4096) (l : Fin 1024) : G9 m c (ix2 i l) = dres (ix2 i l) + ((dxR X N H i l : ℝ) : EReal) := by
  have hN : cfg0.N = 8 := N_0
  have hi := i.isLt
  have hl := l.isLt
  have hp : pt9Of (ix2 i l) = i.val / 512 := by
    show 1 * (i.val / 512 - 0) + 1 * (l.val / 1024 - 0) = _
    omega
  unfold G9
  rw [dif_pos (by rw [hp]; omega)]
  have hloc : loc9Of (ix2 i l) = ix2 (⟨i.val % 512, Nat.mod_lt _ (by norm_num)⟩ : Fin 512) l := by
    funext a
    apply Fin.ext
    match a with
    | ⟨0, _⟩ => rfl
    | ⟨1, _⟩ => show l.val % 1024 = l.val; omega
  rw [hloc]
  refine (st_dx m c hx hn hh dres hr _ (by rw [hp]; omega) _ l).trans ?_
  rw [show row ⟨0 + pt9Of (ix2 i l), by rw [hp]; omega⟩ (⟨i.val % 512, Nat.mod_lt _ (by norm_num)⟩ : Fin 512) = i from
    Fin.ext (by show 512 * (0 + pt9Of (ix2 i l)) + i.val % 512 = i.val; rw [hp]; omega)]

include hx hh in
theorem G10_at (l : Fin 1024) : G10 m c (ix2 0 l) = ((dnR X H l : ℝ) : EReal) := by
  rw [G10_last]
  refine (st_dn m c hx hh l 7 _).trans ?_
  rw [sum_tiles 8 512 (dnRow X H l) rfl]
  exact coe_sum _ _

end Values

end Cert.PreKernelIdeal.Step
-- ==== Proof.PreClaim.lean ====
module

public import proofs.«01_k».proof.Defs
public import proofs.«01_k».proof.Proof.Gen.PreKernel.Frame
public import proofs.«01_k».proof.Proof.Gen.Pre_pre_finite
public import proofs.«01_k».proof.Proof.PreKer

@[expose] public section

noncomputable section

/-! The claims about the input side of a mixing block's backward pass. -/

namespace Cert.Proof

open Idealize.ShloMosaic Idealize.SL.Sem Cert.Num

/-- The precondition, array by array. -/
theorem pre_bounds {x0 x1 x2 x3 x4 x5 x6 x7 x8} (h : Cert.Pre_pre_finite.fn (F := Ideal) x0 x1 x2 x3 x4 x5 x6 x7 x8 = fun _ => 1#1) :
    (∀ i, x0 i < (⊤ : EReal) ∧ (⊥ : EReal) < x0 i) ∧ (∀ i, x1 i < (⊤ : EReal) ∧ (⊥ : EReal) < x1 i)
    ∧ (∀ i, x2 i < (⊤ : EReal) ∧ (⊥ : EReal) < x2 i) ∧ (∀ i, x4 i < (⊤ : EReal) ∧ (⊥ : EReal) < x4 i)
    ∧ (∀ i, x5 i < (⊤ : EReal) ∧ (⊥ : EReal) < x5 i) ∧ (∀ i, x6 i < (⊤ : EReal) ∧ (⊥ : EReal) < x6 i)
    ∧ (∀ i, x7 i < (⊤ : EReal) ∧ (⊥ : EReal) < x7 i) ∧ (∀ i, x8 i < (⊤ : EReal) ∧ (⊥ : EReal) < x8 i) := by
  have h := congrFun h (fun a => a.elim0)
  unfold Cert.Pre_pre_finite.fn Cert.Pre_pre_finite.fn_part1 Cert.Pre_pre_finite.fn_part2 Cert.Pre_pre_finite.fn_part3 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  exact ⟨finite_of _ _ _ _ _ _ _ h0, finite_of _ _ _ _ _ _ _ h1, finite_of _ _ _ _ _ _ _ h2, finite_of _ _ _ _ _ _ _ h4,
    finite_of _ _ _ _ _ _ _ h5, finite_of _ _ _ _ _ _ _ h6, finite_of _ _ _ _ _ _ _ h7, finite_of _ _ _ _ _ _ _ h8⟩

theorem pre_frame : Cert.quiescent_PreRefIdeal := fun m ρ _ =>
  (θ_run Cert.PreRefIdeal.defs _ _).mono (fun r h => ⟨fun c => (h c).2.2, Idealize.ShloMosaic.sem_eq_zero_of_no_sems (by decide) r.2⟩)
    (Cert.PreRefIdeal.Value.run (F := Ideal) m ρ)

theorem pre_algebraic : Cert.algebraic_PreKernelIdeal_PreRefIdeal_pre_pre_finite := by
  intro m g m' g' hpre harg
  refine ⟨fun c => Cert.PreKernelIdeal.Value.G9 m c, fun c => Cert.PreKernelIdeal.Value.G10 m c,
    Cert.PreKernelIdeal.Value.run m g, ?_⟩
  refine (θ_run Cert.PreRefIdeal.defs _ _).mono (fun r h c => ?_) (Cert.PreRefIdeal.Value.run (F := Ideal) m' g')
  obtain ⟨e0, e1, e2, e3, e4, e5, e6, e7, e8⟩ := harg c
  obtain ⟨b0, b1, b2, b4, b5, b6, b7, b8⟩ := pre_bounds (hpre c)
  obtain ⟨H, hh⟩ := Cert.PreRefIdeal.Step.dh_real _ _ _ _ _ _ (reals_of b4) (reals_of b5) (reals_of b6) (reals_of b7) (reals_of b8) (reals_of b2)
  have hh' : ∀ i l, _ = _ := hh
  rw [← e4, ← e5, ← e6, ← e7, ← e8, ← e2] at hh'
  have r0 : Reals (ι := Cert.PreRefIdeal.S4096x1024.Idx) (m' ((c.tc : Thread Cert.PreRefIdeal.nD Cert.PreRefIdeal.τ).loc Cert.PreRefIdeal.main_arg0))
      (fun i => (m ((c.tc : Thread Cert.PreKernelIdeal.nD Cert.PreKernelIdeal.τ).loc Cert.PreKernelIdeal.main_arg0) i).toReal) := by
    rw [e0]; exact reals_of b0
  have r1 : Reals (ι := Cert.PreRefIdeal.S1x1024.Idx) (m' ((c.tc : Thread Cert.PreRefIdeal.nD Cert.PreRefIdeal.τ).loc Cert.PreRefIdeal.main_arg1))
      (fun i => (m ((c.tc : Thread Cert.PreKernelIdeal.nD Cert.PreKernelIdeal.τ).loc Cert.PreKernelIdeal.main_arg1) i).toReal) := by
    rw [e1]; exact reals_of b1
  obtain ⟨h46, h47, hrest⟩ := h c
  refine ⟨h46.trans ?_, h47.trans ?_, hrest⟩
  · funext j
    obtain ⟨i, l, rfl⟩ : ∃ (i : Fin 4096) (l : Fin 1024), j = ix2 i l := ⟨j 0, j 1, by funext a; match a with | ⟨0, _⟩ => rfl | ⟨1, _⟩ => rfl⟩
    refine (Cert.PreRefIdeal.Step.dx_at m' c r0 r1 hh' _ e3 i l).trans ?_
    exact (Cert.PreKernelIdeal.Step.G9_at m c (reals_of b0) (reals_of b1) hh _ rfl i l).symm
  · funext j
    obtain ⟨l, rfl⟩ : ∃ (l : Fin 1024), j = ix2 0 l := ⟨j 1, by
      funext a; match a with | ⟨0, _⟩ => exact Subsingleton.elim (α := Fin 1) _ _ | ⟨1, _⟩ => rfl⟩
    refine Eq.trans ?_ (Cert.PreKernelIdeal.Step.G10_at m c (reals_of b0) hh l).symm
    refine Eq.trans ?_ (Cert.PreRefIdeal.Step.dn_at (x := m' ((c.tc : Thread Cert.PreRefIdeal.nD Cert.PreRefIdeal.τ).loc Cert.PreRefIdeal.main_arg0))
      r0 (fun i l => (Cert.PreRefIdeal.Step.dot_eq _ _ _ _ _ _ i l).trans (hh' i l)) l)
    rfl

end Cert.Proof

end
-- ==== Proof.PostStep.lean ====
module

public import proofs.«01_k».proof.Proof.Reads
public import Idealize.ShloMosaic.Lib.Pointwise
public import Idealize.ShloMosaic.Lib.ValueIdx
public import proofs.«01_k».proof.Proof.Gen.PostKernelIdeal.Value

@[expose] public section

set_option maxRecDepth 16384

noncomputable section

/-! What one grid point of the backward call over the two norms leaves in its buffers. -/

namespace Cert.PostKernelIdeal.Step

open Cert.PostKernelIdeal Cert.PostKernelIdeal.Gen Cert.PostKernelIdeal.Value
open Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- The joined normed rows: the first norm's columns, then the second's. -/
def both (a b : Vec F S512x512 .bf16) : Vec F S512x1024 .bf16 := fun j =>
  if h : (j 1).val < 512 then a (ix2 (⟨(j 0).val, (j 0).isLt⟩ : Fin 512) (⟨(j 1).val, h⟩ : Fin 512))
  else b (ix2 (⟨(j 0).val, (j 0).isLt⟩ : Fin 512) (⟨(j 1).val - 512, by
    have : (j 1).val < 1024 := (j 1).isLt
    omega⟩ : Fin 512))

/-- Two stores side by side fill the block. -/
theorem canon_both (a b : Vec F S512x512 .bf16) (h0 h1) :
    View.canon (Val := Elt F) (e := .bf16) [⟨Rect.unit (s := S512x1024) ![0, 512] S512x512.size h0, b⟩,
      ⟨Rect.unit (s := S512x1024) ![0, 0] S512x512.size h1, a⟩] = both a b := by
  funext y
  refine View.canon_eq_of_allAt _ y _ (View.cover_of_tiledL _ ![512, 512] (by sl_kernel_rfl) y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 512 + (x 1).val := hx 1
    unfold both
    rw [dif_neg (by omega)]
    congr 1
    funext k
    apply Fin.ext
    match k with
    | ⟨0, _⟩ => show (x 0).val = (y 0).val; omega
    | ⟨1, _⟩ => show (x 1).val = (y 1).val - 512; omega
  · have e0 : (y 0).val = 0 + (x 0).val := hx 0
    have e1 : (y 1).val = 0 + (x 1).val := hx 1
    have : (x 1).val < 512 := (x 1).isLt
    unfold both
    rw [dif_pos (by omega)]
    congr 1
    funext k
    apply Fin.ext
    match k with
    | ⟨0, _⟩ => show (x 0).val = (y 0).val; omega
    | ⟨1, _⟩ => show (x 1).val = (y 1).val; omega

/-- Everything one tile leaves: four blocks of rows, and the two running sums over what they held. -/
def tile (x0 : Vec F S512x1024 .f32) (x1 x2 : Vec F S512x512 .f32) (x3 x4 : Vec F S1x512 .f32) (x5 : Vec F S1024x1024 .bf16)
    (a b : Vec F S1x512 .f32) : Vec F S512x512 .f32 × Vec F S512x512 .f32 × Vec F S512x1024 .bf16 × Vec F S512x1024 .bf16
      × Vec F S1x512 .f32 × Vec F S1x512 .f32 :=
  ⟨k0_pay13 (k0_pay6 x0 x5) x1 (k0_pay7 x1) x3, k0_pay16 (k0_pay6 x0 x5) x2 (k0_pay8 x2) x4,
    both (k0_pay9 x1 x3) (k0_pay11 (k0_pay10 x2) x4), k0_pay5 x0,
    k0_pay3 (k0_pay14 (k0_pay6 x0 x5) x1 (k0_pay7 x1)) a, k0_pay4 (k0_pay17 (k0_pay6 x0 x5) x2 (k0_pay8 x2)) b⟩

variable (m : (ℓ : Loc nD τ sig) → Buf (Elt F) ℓ)

/-- One tile of the argument arrays. -/
def tileOf (c : Dev nD) (t : Fin cfg0.N) (a b : Vec F S1x512 .f32) :=
  tile (iblk m c 0 t) (iblk m c 1 t) (iblk m c 2 t) (iblk m c 3 t) (iblk m c 4 t) (iblk m c 5 t) a b

theorem later (c : Dev nD) (t : Fin cfg0.N) (h0 : ¬ t.val % 8 = 0) (p) (hp : outsAt0 m c (t.val - 1) (Nat.lt_of_le_of_lt (Nat.sub_le _ _) t.isLt) = p) :
    outsAt0 m c t.val t.isLt = tileOf m c t p.2.2.2.2.1 p.2.2.2.2.2 := by
  rw [outsAt0_B m c t h0, hp]
  unfold out0_B_6 out0_B_7 out0_B_8 out0_B_9 out0_B_10 out0_B_11
  simp only [View.read_writes_junk_eq_canon]
  unfold kernelRun0_B
  dsimp only
  sl_unfold_words
  rw [canon_both, View.canon_cons_unit_zero (S := S512x512) hz, View.canon_cons_unit_zero (S := S512x512) hz,
    View.canon_cons_unit_zero (S := S512x1024) hz, View.canon_cons_unit_zero (S := S1x512) hz, View.canon_cons_unit_zero (S := S1x512) hz]
  simp only [View.readAt_eq_ld, Memref.IsWhole.read_unread, View.ld_unit_zero (S := S512x1024) hz,
    View.ld_unit_zero (S := S512x512) hz, View.ld_unit_zero (S := S1x512) hz, View.ld_unit_zero (S := S1024x1024) hz]
  rfl

theorem first (c : Dev nD) (t : Fin cfg0.N) (h0 : t.val % 8 = 0) : outsAt0 m c t.val t.isLt = tileOf m c t k0_pay1 k0_pay2 := by
  rw [outsAt0_A m c t h0]
  unfold out0_A_6 out0_A_7 out0_A_8 out0_A_9 out0_A_10 out0_A_11
  simp only [View.read_writes_junk_eq_canon]
  unfold kernelRun0_A
  dsimp only
  sl_unfold_words
  rw [canon_both, View.canon_cons_unit_zero (S := S512x512) hz, View.canon_cons_unit_zero (S := S512x512) hz,
    View.canon_cons_unit_zero (S := S512x1024) hz, View.canon_cons_unit_zero (S := S1x512) hz, View.canon_cons_unit_zero (S := S1x512) hz]
  simp only [View.readCov_ld, View.canon_cons_unit_zero (S := S1x512) hz, View.readAt_eq_ld, Memref.IsWhole.read_unread, View.ld_unit_zero (S := S512x1024) hz,
    View.ld_unit_zero (S := S512x512) hz, View.ld_unit_zero (S := S1x512) hz, View.ld_unit_zero (S := S1024x1024) hz]
  rfl

end Cert.PostKernelIdeal.Step
-- ==== Proof.PostRef.lean ====
module

public import proofs.«01_k».proof.Proof.Num
public import proofs.«01_k».proof.Proof.Gen.PostRefIdeal.Run

@[expose] public section

set_option maxRecDepth 16384

noncomputable section

/-! The reference of the backward call over the two norms and the output projection, read at an index. -/

namespace Cert.PostRefIdeal.Step

open Cert.PostRefIdeal Cert.PostRefIdeal.Gen Cert.PostRefIdeal.Value Cert.Num
open Idealize.ShloMosaic Idealize.ShloMosaic.TcCoe Idealize.ShloMosaic.Tactic

/-- An array of half the columns, and a weight of that many entries. -/
abbrev Half := FVec Ideal S4096x512 .f32
abbrev Scale := FVec Ideal S1x512 .f32

/-! ### The formulas -/

/-- The gradient of the joined normed rows: the result's gradient times the projection. -/
def dyc (dx : FVec Ideal S4096x1024 .f32) (w : FVec Ideal S1x1024x1024 .f32) (i : Fin 4096) (l : Fin 1024) : EReal :=
  ∑ x : Fin 1024, dx (ix2 i x) * w (ix3 0 l x)

theorem dyc_real {dx : FVec Ideal S4096x1024 .f32} {w : FVec Ideal S1x1024x1024 .f32} {D W} (hd : Reals dx D) (hw : Reals w W) :
    ∃ H : Fin 4096 → Fin 1024 → ℝ, ∀ i l, dyc dx w i l = ((H i l : ℝ) : EReal) :=
  ⟨fun i l => ∑ x : Fin 1024, D (ix2 i x) * W (ix3 0 l x), fun i l => by
    unfold dyc
    rw [← coe_sum]
    exact Finset.sum_congr rfl fun x _ => by rw [hd, hw, EReal.coe_mul]⟩

/-- The row `i` of an array. -/
abbrev rowOf {n k : ℕ} (X : (⟨2, ![n, k]⟩ : Shape).Idx → ℝ) (i : Fin n) : Fin k → ℝ := fun l => X (ix2 i l)

/-- A norm's input gradient at row `i`, column `l`. -/
def dyR (Y : S4096x512.Idx → ℝ) (N : S1x512.Idx → ℝ) (H : Fin 4096 → Fin 512 → ℝ) (i : Fin 4096) (l : Fin 512) : ℝ :=
  rinv (rowOf Y i) * (H i l * N (ix2 0 l)) - Y (ix2 i l) * (rinv (rowOf Y i) * rinv (rowOf Y i) * rinv (rowOf Y i)
    * ((∑ k, H i k * N (ix2 0 k) * Y (ix2 i k)) / 512))

/-- A norm's weight gradient. -/
def dnR (Y : S4096x512.Idx → ℝ) (H : Fin 4096 → Fin 512 → ℝ) (l : Fin 512) : ℝ :=
  ∑ i, H i l * Y (ix2 i l) * rinv (rowOf Y i)

/-- A normed row's entry. -/
def nyR (Y : S4096x512.Idx → ℝ) (N : S1x512.Idx → ℝ) (i : Fin 4096) (l : Fin 512) : ℝ :=
  Y (ix2 i l) * rinv (rowOf Y i) * N (ix2 0 l)

/-! ### The host's terms -/

/-- The mean square of each row, plus the constant. -/
def ms (y : Half) : FVec Ideal S4096x1 .f32 :=
  addf (Host.divf (broadcastInDim S4096x1 ![0] bcast_S4096_S4096x1_0
      (Host.reduceAdd (mulf y y) (constant S_ .f32 0x00000000#32) reducesTo_S4096x512_S4096_d1 h_S_))
    (broadcastInDim S4096x1 ![] bcast_S_S4096x1 (constant S_ .f32 0x44000000#32)))
    (broadcastInDim S4096x1 ![] bcast_S_S4096x1 (constant S_ .f32 0x358637BD#32))

/-- The weight, once for every row. -/
def wide (n : Scale) : Half :=
  broadcastInDim S4096x512 ![0, 1] bcast_S1x512_S4096x512_0_1 (broadcastInDim S1x512 ![1] bcast_S512_S1x512_1
    (shapeCast _ n shapeCasts_S1x512_S512))

/-- What the mean square's gradient puts on each entry of a row, before the entry itself. -/
def red (y g : Half) : Half :=
  broadcastInDim S4096x512 ![0] bcast_S4096_S4096x512_0 (Host.reduceAdd (Host.divf
    (mulf (shapeCast _ (Host.reduceAdd (mulf y g) (constant S_ .f32 0x00000000#32) reducesTo_S4096x512_S4096_d1 h_S_) shapeCasts_S4096_S4096x1)
      (mulf (broadcastInDim S4096x1 ![] bcast_S_S4096x1 (constant S_ .f32 0xBF000000#32)) (Host.divf (Host.rsqrt (ms y)) (ms y))))
    (broadcastInDim S4096x1 ![] bcast_S_S4096x1 (constant S_ .f32 0x44000000#32)))
    (constant S_ .f32 0x00000000#32) reducesTo_S4096x1_S4096_d1 h_S_)

/-- Each row times one over its root mean square. -/
def unit (y : Half) : Half := mulf y (broadcastInDim S4096x512 ![0, 1] bcast_S4096x1_S4096x512_0_1 (Host.rsqrt (ms y)))

def dy (y : Half) (n : Scale) (G : Half) : Half :=
  addf (addf (mulf (mulf G (wide n)) (broadcastInDim S4096x512 ![0, 1] bcast_S4096x1_S4096x512_0_1 (Host.rsqrt (ms y))))
    (mulf y (red y (mulf G (wide n))))) (mulf (red y (mulf G (wide n))) y)

def dn (y : Half) (G : Half) : Scale :=
  broadcastInDim S1x512 ![1] bcast_S512_S1x512_1 (Host.reduceAdd (shapeCast S1x512 (Host.reduceAdd (mulf (unit y) G)
    (constant S_ .f32 0x00000000#32) reducesTo_S4096x512_S512_d0 h_S_) shapeCasts_S512_S1x512) (constant S_ .f32 0x00000000#32)
    reducesTo_S1x512_S512_d0 h_S_)

def joined (y z : Half) (n k : Scale) : FVec Ideal S4096x1024 .f32 :=
  concatenate S4096x1024 1 [⟨S4096x512, mulf (unit y) (wide n)⟩, ⟨S4096x512, mulf (unit z) (wide k)⟩]
    concatenates_S4096x512_S4096x512_S4096x1024_d1

section Host

variable {y G : Half} {n : Scale} {Y : S4096x512.Idx → ℝ} {N : S1x512.Idx → ℝ} {H : Fin 4096 → Fin 512 → ℝ}

theorem ms_at (hy : Reals (ι := S4096x512.Idx) y Y) (i : Fin 4096) (l : Fin 1) : ms y (ix2 i l) = ((msq (rowOf Y i) : ℝ) : EReal) := by
  unfold ms
  pointwise
  simp only [hy _, lit_eps, ← EReal.coe_mul, coe_sum, div_512, ← EReal.coe_add]
  rw [msq_512 (rowOf Y i)]

theorem dy_at (hy : Reals (ι := S4096x512.Idx) y Y) (hn : Reals (ι := S1x512.Idx) n N)
    (hG : ∀ i l, G (ix2 i l) = ((H i l : ℝ) : EReal)) (i : Fin 4096) (l : Fin 512) : dy y n G (ix2 i l) = ((dyR Y N H i l : ℝ) : EReal) := by
  have hm := ms_at hy
  unfold dy red wide
  generalize ms y = M at hm ⊢
  pointwise
  rw [dyR, dx_real (rowOf Y i) (fun k => N (ix2 0 k)) (H i) 512]
  simp only [hy _, hn _, hG, hm, lit_neg_half, ← EReal.coe_mul, coe_sum, div_512, ← EReal.coe_add, rsqrt_msq, div_msq,
    Finset.univ_unique, Finset.sum_singleton]
  rw [add_assoc]

theorem dn_at (hy : Reals (ι := S4096x512.Idx) y Y) (hG : ∀ i l, G (ix2 i l) = ((H i l : ℝ) : EReal)) (l : Fin 512) :
    dn y G (ix2 0 l) = ((dnR Y H l : ℝ) : EReal) := by
  have hm := ms_at hy
  unfold dn unit
  generalize ms y = M at hm ⊢
  pointwise
  simp only [hy _, hG, hm, ← EReal.coe_mul, coe_sum, rsqrt_msq, Finset.univ_unique, Finset.sum_singleton]
  congr 1
  exact Finset.sum_congr rfl fun i _ => by ring

theorem ny_at (hy : Reals (ι := S4096x512.Idx) y Y) (hn : Reals (ι := S1x512.Idx) n N) (i : Fin 4096) (l : Fin 512) :
    (mulf (unit y) (wide n)) (ix2 i l) = ((nyR Y N i l : ℝ) : EReal) := by
  have hm := ms_at hy
  unfold unit wide
  generalize ms y = M at hm ⊢
  pointwise
  simp only [hy _, hn _, hm, ← EReal.coe_mul, rsqrt_msq]
  rfl

theorem joined_at (y z : Half) (n k : Scale) (i : Fin 4096) (l : Fin 1024) : joined y z n k (ix2 i l)
    = if h : l.val < 512 then (mulf (unit y) (wide n)) (ix2 i ⟨l.val, h⟩) else (mulf (unit z) (wide k)) (ix2 i ⟨l.val - 512, by have := l.isLt; omega⟩) := by
  unfold joined
  generalize mulf (unit y) (wide n) = A
  generalize mulf (unit z) (wide k) = B
  pointwise

end Host

/-- The product, and its halves. -/
def dots (dx : FVec Ideal S4096x1024 .f32) (w : FVec Ideal S1x1024x1024 .f32) : FVec Ideal S4096x1024 .f32 :=
  Host.dotGeneral (φ₁ := .f32) (φ₂ := .f32) dot_S4096x1024_S1024x1024_S4096x1024_1_1_0_0_n_n none dx
    (shapeCast _ w shapeCasts_S1x1024x1024_S1024x1024 : FVec Ideal S1024x1024 .f32)

theorem dots_at (dx : FVec Ideal S4096x1024 .f32) (w : FVec Ideal S1x1024x1024 .f32) (i : Fin 4096) (l : Fin 1024) :
    dots dx w (ix2 i l) = dyc dx w i l := by
  unfold dots
  pointwise
  rfl

def lo (G : FVec Ideal S4096x1024 .f32) : Half := extractStridedSlice S4096x512 ![0, 0] G slices_S4096x1024_S4096x512_0_0
def hi (G : FVec Ideal S4096x1024 .f32) : Half := extractStridedSlice S4096x512 ![0, 512] G slices_S4096x1024_S4096x512_0_512

theorem lo_at (G : FVec Ideal S4096x1024 .f32) (i : Fin 4096) (l : Fin 512) :
    lo G (ix2 i l) = G (ix2 i ⟨l.val, by have := l.isLt; omega⟩) := by
  unfold lo
  pointwise

theorem hi_at (G : FVec Ideal S4096x1024 .f32) (i : Fin 4096) (l : Fin 512) :
    hi G (ix2 i l) = G (ix2 i ⟨512 + l.val, by have := l.isLt; omega⟩) := by
  unfold hi
  pointwise

variable (m : (ℓ : Loc nD τ sig) → Buf (Elt Ideal) ℓ) (c : Dev nD)

theorem out0_eq : res_out0 m c = dy (m ((c.tc : Thread nD τ).loc main_arg1)) (m ((c.tc : Thread nD τ).loc main_arg3)) (lo (dots (m ((c.tc : Thread nD τ).loc main_arg6)) (m ((c.tc : Thread nD τ).loc main_arg5)))) := rfl

theorem out1_eq : res_out1 m c = dy (m ((c.tc : Thread nD τ).loc main_arg2)) (m ((c.tc : Thread nD τ).loc main_arg4)) (hi (dots (m ((c.tc : Thread nD τ).loc main_arg6)) (m ((c.tc : Thread nD τ).loc main_arg5)))) := rfl

end Cert.PostRefIdeal.Step
-- ==== Proof.PostKer.lean ====
module

public import proofs.«01_k».proof.Proof.Tiles
public import proofs.«01_k».proof.Proof.PostStep
public import proofs.«01_k».proof.Proof.PostRef

@[expose] public section

set_option maxRecDepth 16384

noncomputable section

/-! The backward kernel over the two norms: its six results at an index. -/

namespace Cert.PostKernelIdeal.Step

open Cert.PostKernelIdeal Cert.PostKernelIdeal.Gen Cert.PostKernelIdeal.Value Cert.Num
open Cert.PostRefIdeal.Step (dyc dyR dnR nyR rowOf)
open Idealize.ShloMosaic Idealize.ShloMosaic.TcCoe Idealize.ShloMosaic.Tactic

/-! ### One tile -/

section Tile

variable (x0 : Vec Ideal S512x1024 .f32) (y : Vec Ideal S512x512 .f32) (n : Vec Ideal S1x512 .f32) (w : Vec Ideal S1024x1024 .bf16)
  (G : FVec Ideal S512x1024 .f32) {Y H : Fin 512 → Fin 512 → ℝ} {N : Fin 512 → ℝ}

theorem dot_at (dx : FVec Ideal ⟨2, ![4096, 1024]⟩ .f32) (W : FVec Ideal ⟨3, ![1, 1024, 1024]⟩ .f32) (i : Fin 4096) (r : Fin 512)
    (hx : ∀ l, x0 (ix2 r l) = dx (ix2 i l)) (hw : ∀ a b, w (ix2 a b) = W (ix3 0 a b)) (l : Fin 1024) :
    k0_pay6 x0 w (ix2 r l) = dyc dx W i l := by
  pointwise [k0_pay6, k0_pay5]
  simp only [hx, hw]
  rfl

theorem r_at (hy : ∀ r l, y (ix2 r l) = ((Y r l : ℝ) : EReal)) (r : Fin 512) (l : Fin 1) : k0_pay7 y (ix2 r l) = ((rinv (Y r) : ℝ) : EReal) := by
  pointwise [k0_pay7]
  simp only [hy, lit_eps, ← EReal.coe_mul, coe_sum, div_512, ← EReal.coe_add, msq_512, rsqrt_msq]

/-- The second norm's factor is computed as the first's. -/
theorem pay8_eq : k0_pay8 y = k0_pay7 y := rfl

/-- One row's gradient from a norm, both ways of naming its half of the product. -/
def dyRow (Y N H : Fin 512 → ℝ) (l : Fin 512) : ℝ :=
  rinv Y * (H l * N l) - Y l * (rinv Y * rinv Y * rinv Y * ((∑ k, H k * N k * Y k) / 512))

theorem dy_lo (hy : ∀ r l, y (ix2 r l) = ((Y r l : ℝ) : EReal)) (hn : ∀ l, n (ix2 0 l) = ((N l : ℝ) : EReal))
    (hG : ∀ r (l : Fin 512), G (ix2 r ⟨l.val, by have := l.isLt; omega⟩) = ((H r l : ℝ) : EReal)) (r l : Fin 512) :
    k0_pay13 G y (k0_pay7 y) n (ix2 r l) = ((dyRow (Y r) N (H r) l : ℝ) : EReal) := by
  have hr := r_at y hy
  generalize k0_pay7 y = R at hr ⊢
  pointwise [k0_pay13, k0_pay12]
  simp only [hy, hn, hG, hr, ← EReal.coe_mul, coe_sum, div_512, ← EReal.coe_sub, dyRow]

theorem dy_hi (hy : ∀ r l, y (ix2 r l) = ((Y r l : ℝ) : EReal)) (hn : ∀ l, n (ix2 0 l) = ((N l : ℝ) : EReal))
    (hG : ∀ r (l : Fin 512), G (ix2 r ⟨512 + l.val, by have := l.isLt; omega⟩) = ((H r l : ℝ) : EReal)) (r l : Fin 512) :
    k0_pay16 G y (k0_pay8 y) n (ix2 r l) = ((dyRow (Y r) N (H r) l : ℝ) : EReal) := by
  have hr := r_at y hy
  rw [pay8_eq]
  generalize k0_pay7 y = R at hr ⊢
  pointwise [k0_pay16, k0_pay15]
  simp only [hy, hn, hG, hr, ← EReal.coe_mul, coe_sum, div_512, ← EReal.coe_sub, dyRow]

theorem dn_lo (hy : ∀ r l, y (ix2 r l) = ((Y r l : ℝ) : EReal)) (old : S1x512.Idx → EReal)
    (hG : ∀ r (l : Fin 512), G (ix2 r ⟨l.val, by have := l.isLt; omega⟩) = ((H r l : ℝ) : EReal)) (l : Fin 512) :
    k0_pay3 (k0_pay14 G y (k0_pay7 y)) old (ix2 0 l) = old (ix2 0 l) + ∑ r, ((H r l * Y r l * rinv (Y r) : ℝ) : EReal) := by
  have hr := r_at y hy
  generalize k0_pay7 y = R at hr ⊢
  pointwise [k0_pay3, k0_pay14, k0_pay12]
  simp only [hy, hG, hr, ← EReal.coe_mul]

theorem dn_hi (hy : ∀ r l, y (ix2 r l) = ((Y r l : ℝ) : EReal)) (old : S1x512.Idx → EReal)
    (hG : ∀ r (l : Fin 512), G (ix2 r ⟨512 + l.val, by have := l.isLt; omega⟩) = ((H r l : ℝ) : EReal)) (l : Fin 512) :
    k0_pay4 (k0_pay17 G y (k0_pay8 y)) old (ix2 0 l) = old (ix2 0 l) + ∑ r, ((H r l * Y r l * rinv (Y r) : ℝ) : EReal) := by
  have hr := r_at y hy
  rw [pay8_eq]
  generalize k0_pay7 y = R at hr ⊢
  pointwise [k0_pay4, k0_pay17, k0_pay15]
  simp only [hy, hG, hr, ← EReal.coe_mul]

theorem ny_lo (hy : ∀ r l, y (ix2 r l) = ((Y r l : ℝ) : EReal)) (hn : ∀ l, n (ix2 0 l) = ((N l : ℝ) : EReal)) (r l : Fin 512) :
    k0_pay9 y n (ix2 r l) = ((Y r l * rinv (Y r) * N l : ℝ) : EReal) := by
  have hr := r_at y hy
  unfold k0_pay9
  generalize k0_pay7 y = R at hr ⊢
  pointwise
  simp only [hy, hn, hr, ← EReal.coe_mul]

theorem ny_hi (hy : ∀ r l, y (ix2 r l) = ((Y r l : ℝ) : EReal)) (hn : ∀ l, n (ix2 0 l) = ((N l : ℝ) : EReal)) (r l : Fin 512) :
    k0_pay11 (k0_pay10 y) n (ix2 r l) = ((Y r l * rinv (Y r) * N l : ℝ) : EReal) := by
  have hr := r_at y hy
  unfold k0_pay11 k0_pay10
  rw [pay8_eq]
  generalize k0_pay7 y = R at hr ⊢
  pointwise
  simp only [hy, hn, hr, ← EReal.coe_mul]

end Tile

/-! ### The blocks of the argument arrays -/

variable (m : (ℓ : Loc nD τ sig) → Buf (Elt Ideal) ℓ) (c : Dev nD)

theorem V_w (a b : Fin 1024) : V m c main_v1 (ix2 a b) = m ((c : Thread nD τ).loc main_arg5) (ix3 0 a b) := by
  unfold V
  after_results_simp
  pointwise

/-- Row `r` of tile `t`. -/
def row (t : Fin cfg0.N) (r : Fin 512) : Fin 4096 := ⟨512 * t.val + r.val, by
  have := t.isLt
  have hN : cfg0.N = 8 := N_0
  have := r.isLt
  omega⟩

theorem V_0 : V m c main_arg6 = m ((c : Thread nD τ).loc main_arg6) := by
  unfold V
  after_results_simp

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem blk_0 (t : Fin cfg0.N) (r : Fin 512) (l : Fin 1024) :
    iblk m c 0 t (ix2 r l) = m ((c : Thread nD τ).loc main_arg6) (ix2 (row t r) l) := by
  show V m c (Pipeline.arrRef spec0 0) (((cfg0.win 0).blk t).view.emb (ix2 r l)) = _
  refine (congrFun (V_0 m c) _).trans ?_
  exact congrArg _ (at_tile (idx t).1 rfl rfl rfl)

theorem V_1 : V m c main_arg1 = m ((c : Thread nD τ).loc main_arg1) := by
  unfold V
  after_results_simp

theorem blk_1 (t : Fin cfg0.N) (r : Fin 512) (l : Fin 512) :
    iblk m c 1 t (ix2 r l) = m ((c : Thread nD τ).loc main_arg1) (ix2 (row t r) l) := by
  show V m c (Pipeline.arrRef spec0 1) (((cfg0.win 1).blk t).view.emb (ix2 r l)) = _
  refine (congrFun (V_1 m c) _).trans ?_
  exact congrArg _ (at_tile (idx t).2.1 rfl rfl rfl)

theorem V_2 : V m c main_arg2 = m ((c : Thread nD τ).loc main_arg2) := by
  unfold V
  after_results_simp

theorem blk_2 (t : Fin cfg0.N) (r : Fin 512) (l : Fin 512) :
    iblk m c 2 t (ix2 r l) = m ((c : Thread nD τ).loc main_arg2) (ix2 (row t r) l) := by
  show V m c (Pipeline.arrRef spec0 2) (((cfg0.win 2).blk t).view.emb (ix2 r l)) = _
  refine (congrFun (V_2 m c) _).trans ?_
  exact congrArg _ (at_tile (idx t).2.2.1 rfl rfl rfl)

theorem V_3 : V m c main_arg3 = m ((c : Thread nD τ).loc main_arg3) := by
  unfold V
  after_results_simp

theorem blk_3 (t : Fin cfg0.N) (l : Fin 512) :
    iblk m c 3 t (ix2 0 l) = m ((c : Thread nD τ).loc main_arg3) (ix2 0 l) := by
  show V m c (Pipeline.arrRef spec0 3) (((cfg0.win 3).blk t).view.emb (ix2 0 l)) = _
  refine (congrFun (V_3 m c) _).trans ?_
  exact congrArg _ (at_tile (idx t).2.2.2.1 rfl rfl (Nat.zero_add _).symm)

theorem V_4 : V m c main_arg4 = m ((c : Thread nD τ).loc main_arg4) := by
  unfold V
  after_results_simp

theorem blk_4 (t : Fin cfg0.N) (l : Fin 512) :
    iblk m c 4 t (ix2 0 l) = m ((c : Thread nD τ).loc main_arg4) (ix2 0 l) := by
  show V m c (Pipeline.arrRef spec0 4) (((cfg0.win 4).blk t).view.emb (ix2 0 l)) = _
  refine (congrFun (V_4 m c) _).trans ?_
  exact congrArg _ (at_tile (idx t).2.2.2.2.1 rfl rfl (Nat.zero_add _).symm)

theorem blk_5 (t : Fin cfg0.N) (a b : Fin 1024) : iblk m c 5 t (ix2 a b) = m ((c : Thread nD τ).loc main_arg5) (ix3 0 a b) := by
  show V m c (Pipeline.arrRef spec0 5) (((cfg0.win 5).blk t).view.emb (ix2 a b)) = _
  refine Eq.trans ?_ (V_w m c a b)
  exact congrArg _ (at_tile (idx t).2.2.2.2.2 rfl rfl (Nat.zero_add _).symm)

/-! ### What the points leave -/

/-- What the buffers hold after point `t`. -/
abbrev at_ (t : Fin cfg0.N) := outsAt0 m c t.val t.isLt

/-- Every point's rows are the tile's, whatever the running sums held. -/
theorem at_tile (t : Fin cfg0.N) : ∃ a b, at_ m c t = tileOf m c t a b := by
  by_cases h : t.val % 8 = 0
  · exact ⟨_, _, first m c t h⟩
  · exact ⟨_, _, later m c t h _ rfl⟩

/-- The tile and the place in it of an index of the rows. -/
theorem split (i : Fin 4096) : ∃ (t : Fin cfg0.N) (r : Fin 512), row t r = i :=
  have hN : cfg0.N = 8 := N_0
  ⟨⟨i.val / 512, by have := i.isLt; omega⟩, ⟨i.val % 512, Nat.mod_lt _ (by norm_num)⟩, Fin.ext (Nat.div_add_mod i.val 512)⟩

theorem oidx : ∀ t : Fin cfg0.N, (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem arr_6 (t : Fin cfg0.N) (r : Fin 512) (l : Fin 512) :
    (dats m 0 c).arrAt 6 cfg0.N (ix2 (row t r) l) = (at_ m c t).1 (ix2 r l) := by
  refine Eq.trans ?_ (congrFun ((blocks6 m c t (flush0_6 t)).trans (flushed6 m c t)) (ix2 r l))
  show _ = (dats m 0 c).arrAt 6 cfg0.N (((cfg0.win 6).blk t).view.emb (ix2 r l))
  exact congrArg _ (Cert.Num.at_tile (oidx t).1 rfl rfl rfl).symm

theorem arr_7 (t : Fin cfg0.N) (r : Fin 512) (l : Fin 512) :
    (dats m 0 c).arrAt 7 cfg0.N (ix2 (row t r) l) = (at_ m c t).2.1 (ix2 r l) := by
  refine Eq.trans ?_ (congrFun ((blocks7 m c t (flush0_7 t)).trans (flushed7 m c t)) (ix2 r l))
  show _ = (dats m 0 c).arrAt 7 cfg0.N (((cfg0.win 7).blk t).view.emb (ix2 r l))
  exact congrArg _ (Cert.Num.at_tile (oidx t).2.1 rfl rfl rfl).symm

theorem arr_8 (t : Fin cfg0.N) (r : Fin 512) (l : Fin 1024) :
    (dats m 0 c).arrAt 8 cfg0.N (ix2 (row t r) l) = (at_ m c t).2.2.1 (ix2 r l) := by
  refine Eq.trans ?_ (congrFun ((blocks8 m c t (flush0_8 t)).trans (flushed8 m c t)) (ix2 r l))
  show _ = (dats m 0 c).arrAt 8 cfg0.N (((cfg0.win 8).blk t).view.emb (ix2 r l))
  exact congrArg _ (Cert.Num.at_tile (oidx t).2.2.1 rfl rfl rfl).symm

theorem arr_9 (t : Fin cfg0.N) (r : Fin 512) (l : Fin 1024) :
    (dats m 0 c).arrAt 9 cfg0.N (ix2 (row t r) l) = (at_ m c t).2.2.2.1 (ix2 r l) := by
  refine Eq.trans ?_ (congrFun ((blocks9 m c t (flush0_9 t)).trans (flushed9 m c t)) (ix2 r l))
  show _ = (dats m 0 c).arrAt 9 cfg0.N (((cfg0.win 9).blk t).view.emb (ix2 r l))
  exact congrArg _ (Cert.Num.at_tile (oidx t).2.2.2.1 rfl rfl rfl).symm

/-- The last point, which alone writes the sums back. -/
def last : Fin cfg0.N := ⟨7, lt_of_lt_of_eq (by decide) N_0.symm⟩

theorem arr_10 : (dats m 0 c).arrAt 10 cfg0.N = (at_ m c last).2.2.2.2.1 := by
  have hN : cfg0.N = 8 := N_0
  have emb : ∀ (t : Fin cfg0.N) (y : S1x512.Idx), ((cfg0.win 10).blk t).view.emb y = y := fun t y => by
    obtain ⟨e0, e1⟩ := (oidx t).2.2.2.2.1
    funext a
    apply Fin.ext
    match a with
    | ⟨0, _⟩ => show win0_10.index t (0 : Fin 2) * 1 + 1 * (y 0).val = (y 0).val; omega
    | ⟨1, _⟩ => show win0_10.index t (1 : Fin 2) * 512 + 1 * (y 1).val = (y 1).val; omega
  refine (dats m 0 c).arrAt_eq_of_cover 10 _ (fun t hf => ?_) fun i => ⟨last, (flush0_10 last).mpr rfl, ?_⟩
  · have e : t = last := Fin.ext (by have h7 := (flush0_10 t).mp hf; have := t.isLt; show t.val = 7; omega)
    subst e
    rw [flushed10 m c last]
    funext y
    show (at_ m c last).2.2.2.2.1 y = (at_ m c last).2.2.2.2.1 (((cfg0.win 10).blk last).view.emb y)
    rw [emb]
  · have h := ((cfg0.win 10).blk last).view.emb_mem_set i
    rwa [emb] at h

theorem arr_11 : (dats m 0 c).arrAt 11 cfg0.N = (at_ m c last).2.2.2.2.2 := by
  have hN : cfg0.N = 8 := N_0
  have emb : ∀ (t : Fin cfg0.N) (y : S1x512.Idx), ((cfg0.win 11).blk t).view.emb y = y := fun t y => by
    obtain ⟨e0, e1⟩ := (oidx t).2.2.2.2.2
    funext a
    apply Fin.ext
    match a with
    | ⟨0, _⟩ => show win0_11.index t (0 : Fin 2) * 1 + 1 * (y 0).val = (y 0).val; omega
    | ⟨1, _⟩ => show win0_11.index t (1 : Fin 2) * 512 + 1 * (y 1).val = (y 1).val; omega
  refine (dats m 0 c).arrAt_eq_of_cover 11 _ (fun t hf => ?_) fun i => ⟨last, (flush0_11 last).mpr rfl, ?_⟩
  · have e : t = last := Fin.ext (by have h7 := (flush0_11 t).mp hf; have := t.isLt; show t.val = 7; omega)
    subst e
    rw [flushed11 m c last]
    funext y
    show (at_ m c last).2.2.2.2.2 y = (at_ m c last).2.2.2.2.2 (((cfg0.win 11).blk last).view.emb y)
    rw [emb]
  · have h := ((cfg0.win 11).blk last).view.emb_mem_set i
    rwa [emb] at h

/-! ### The results -/

section Values

variable {Y Z : (⟨2, ![4096, 512]⟩ : Shape).Idx → ℝ} {N K : (⟨2, ![1, 512]⟩ : Shape).Idx → ℝ} {H : Fin 4096 → Fin 1024 → ℝ}
  (hy : Reals (ι := (⟨2, ![4096, 512]⟩ : Shape).Idx) (m ((c : Thread nD τ).loc main_arg1)) Y)
  (hz : Reals (ι := (⟨2, ![4096, 512]⟩ : Shape).Idx) (m ((c : Thread nD τ).loc main_arg2)) Z)
  (hn : Reals (ι := (⟨2, ![1, 512]⟩ : Shape).Idx) (m ((c : Thread nD τ).loc main_arg3)) N)
  (hk : Reals (ι := (⟨2, ![1, 512]⟩ : Shape).Idx) (m ((c : Thread nD τ).loc main_arg4)) K)
  (hh : ∀ i l, dyc (m ((c : Thread nD τ).loc main_arg6)) (m ((c : Thread nD τ).loc main_arg5)) i l = ((H i l : ℝ) : EReal))

/-- The first norm's columns of the product, and the second's. -/
abbrev Hlo (H : Fin 4096 → Fin 1024 → ℝ) (i : Fin 4096) (l : Fin 512) : ℝ := H i ⟨l.val, by have := l.isLt; omega⟩
abbrev Hhi (H : Fin 4096 → Fin 1024 → ℝ) (i : Fin 4096) (l : Fin 512) : ℝ := H i ⟨512 + l.val, by have := l.isLt; omega⟩

include hh in
theorem dot_blk (t : Fin cfg0.N) (r : Fin 512) (l : Fin 1024) : k0_pay6 (iblk m c 0 t) (iblk m c 5 t) (ix2 r l) = ((H (row t r) l : ℝ) : EReal) := by
  rw [← hh]
  exact dot_at _ _ _ _ (row t r) r (fun l => blk_0 m c t r l) (fun a b => blk_5 m c t a b) l

include hy hn hh in
theorem G6_at (i : Fin 4096) (l : Fin 512) : (dats m 0 c).arrAt 6 cfg0.N (ix2 i l) = ((dyR Y N (Hlo H) i l : ℝ) : EReal) := by
  obtain ⟨t, r, rfl⟩ := split i
  obtain ⟨a, b, e⟩ := at_tile m c t
  rw [arr_6, e]
  exact dy_lo _ _ _ (Y := fun r => rowOf Y (row t r)) (N := fun l => N (ix2 0 l)) (H := fun r => Hlo H (row t r))
    (fun r l => (blk_1 m c t r l).trans (hy _)) (fun l => (blk_3 m c t l).trans (hn _)) (fun r l => dot_blk m c hh t r _) r l

include hz hk hh in
theorem G7_at (i : Fin 4096) (l : Fin 512) : (dats m 0 c).arrAt 7 cfg0.N (ix2 i l) = ((dyR Z K (Hhi H) i l : ℝ) : EReal) := by
  obtain ⟨t, r, rfl⟩ := split i
  obtain ⟨a, b, e⟩ := at_tile m c t
  rw [arr_7, e]
  exact dy_hi _ _ _ (Y := fun r => rowOf Z (row t r)) (N := fun l => K (ix2 0 l)) (H := fun r => Hhi H (row t r))
    (fun r l => (blk_2 m c t r l).trans (hz _)) (fun l => (blk_4 m c t l).trans (hk _)) (fun r l => dot_blk m c hh t r _) r l

include hy hz hn hk in
theorem G8_at (i : Fin 4096) (l : Fin 1024) : (dats m 0 c).arrAt 8 cfg0.N (ix2 i l)
    = if h : l.val < 512 then ((nyR Y N i ⟨l.val, h⟩ : ℝ) : EReal) else ((nyR Z K i ⟨l.val - 512, by have := l.isLt; omega⟩ : ℝ) : EReal) := by
  obtain ⟨t, r, rfl⟩ := split i
  obtain ⟨a, b, e⟩ := at_tile m c t
  rw [arr_8, e]
  show both (k0_pay9 (iblk m c 1 t) (iblk m c 3 t)) (k0_pay11 (k0_pay10 (iblk m c 2 t)) (iblk m c 4 t)) (ix2 r l) = _
  by_cases h : l.val < 512
  · rw [dif_pos h]
    refine (dif_pos h).trans ?_
    exact ny_lo _ _ (Y := fun r => rowOf Y (row t r)) (N := fun l => N (ix2 0 l))
      (fun r l => (blk_1 m c t r l).trans (hy _)) (fun l => (blk_3 m c t l).trans (hn _)) r _
  · rw [dif_neg h]
    refine (dif_neg h).trans ?_
    exact ny_hi _ _ (Y := fun r => rowOf Z (row t r)) (N := fun l => K (ix2 0 l))
      (fun r l => (blk_2 m c t r l).trans (hz _)) (fun l => (blk_4 m c t l).trans (hk _)) r _

theorem G9_at (i : Fin 4096) (l : Fin 1024) : (dats m 0 c).arrAt 9 cfg0.N (ix2 i l) = m ((c : Thread nD τ).loc main_arg6) (ix2 i l) := by
  obtain ⟨t, r, rfl⟩ := split i
  obtain ⟨a, b, e⟩ := at_tile m c t
  rw [arr_9, e]
  exact blk_0 m c t r l

/-- One row's share of a norm weight's gradient. -/
def dnRow (Y : (⟨2, ![4096, 512]⟩ : Shape).Idx → ℝ) (H : Fin 4096 → Fin 512 → ℝ) (l : Fin 512) (i : Fin 4096) : EReal :=
  ((H i l * Y (ix2 i l) * rinv (rowOf Y i) : ℝ) : EReal)

include hy hz hh in
/-- One more tile's rows on both sums. -/
theorem sums_tile (t : Fin cfg0.N) (a b : S1x512.Idx → EReal) (l : Fin 512) :
    (tileOf m c t a b).2.2.2.2.1 (ix2 0 l) = a (ix2 0 l) + ∑ r : Fin 512, tot (dnRow Y (Hlo H) l) (512 * t.val + r.val)
    ∧ (tileOf m c t a b).2.2.2.2.2 (ix2 0 l) = b (ix2 0 l) + ∑ r : Fin 512, tot (dnRow Z (Hhi H) l) (512 * t.val + r.val) := by
  have e : ∀ (Y : (⟨2, ![4096, 512]⟩ : Shape).Idx → ℝ) H, ∑ r : Fin 512, tot (dnRow Y H l) (512 * t.val + r.val)
      = ∑ r : Fin 512, dnRow Y H l (row t r) := fun Y H => Finset.sum_congr rfl fun r _ => tot_of (dnRow Y H l) (row t r) _ rfl
  rw [e, e]
  exact ⟨dn_lo _ _ (Y := fun r => rowOf Y (row t r)) (H := fun r => Hlo H (row t r)) (fun r l => (blk_1 m c t r l).trans (hy _)) a
      (fun r l => dot_blk m c hh t r _) l,
    dn_hi _ _ (Y := fun r => rowOf Z (row t r)) (H := fun r => Hhi H (row t r)) (fun r l => (blk_2 m c t r l).trans (hz _)) b
      (fun r l => dot_blk m c hh t r _) l⟩

include hy hz hh in
theorem sums (l : Fin 512) : ∀ (n : ℕ) (h : n < cfg0.N),
    (at_ m c ⟨n, h⟩).2.2.2.2.1 (ix2 0 l) = ∑ s ∈ Finset.range (n + 1), ∑ r : Fin 512, tot (dnRow Y (Hlo H) l) (512 * s + r.val)
    ∧ (at_ m c ⟨n, h⟩).2.2.2.2.2 (ix2 0 l) = ∑ s ∈ Finset.range (n + 1), ∑ r : Fin 512, tot (dnRow Z (Hhi H) l) (512 * s + r.val)
  | 0, h => by
    have e := sums_tile m c hy hz hh ⟨0, h⟩ (k0_pay1 (F := Ideal)) (k0_pay2 (F := Ideal)) l
    rw [at_, first m c ⟨0, h⟩ rfl, e.1, e.2, Finset.sum_range_one, Finset.sum_range_one]
    have z1 : (k0_pay1 : FVec Ideal S1x512 .f32) (ix2 0 l) = 0 := by pointwise [k0_pay1]
    have z2 : (k0_pay2 : FVec Ideal S1x512 .f32) (ix2 0 l) = 0 := by pointwise [k0_pay2]
    rw [z1, z2, zero_add, zero_add]
    exact ⟨rfl, rfl⟩
  | n + 1, h => by
    have hN : cfg0.N = 8 := N_0
    have e := sums_tile m c hy hz hh ⟨n + 1, h⟩ (at_ m c ⟨n, Nat.lt_of_succ_lt h⟩).2.2.2.2.1 (at_ m c ⟨n, Nat.lt_of_succ_lt h⟩).2.2.2.2.2 l
    have p := sums l n (Nat.lt_of_succ_lt h)
    rw [at_, later m c ⟨n + 1, h⟩ (by show ¬ (n + 1) % 8 = 0; omega) (at_ m c ⟨n, Nat.lt_of_succ_lt h⟩) rfl, e.1, e.2, p.1, p.2,
      ← Finset.sum_range_succ, ← Finset.sum_range_succ]
    exact ⟨rfl, rfl⟩

include hy hz hh in
theorem G10_at (l : Fin 512) : (dats m 0 c).arrAt 10 cfg0.N (ix2 0 l) = ((dnR Y (Hlo H) l : ℝ) : EReal)
    ∧ (dats m 0 c).arrAt 11 cfg0.N (ix2 0 l) = ((dnR Z (Hhi H) l : ℝ) : EReal) := by
  have e := sums m c hy hz hh l 7 last.isLt
  rw [arr_10, arr_11]
  refine ⟨e.1.trans ?_, e.2.trans ?_⟩
  · rw [sum_tiles 8 512 _ rfl]
    exact coe_sum _ _
  · rw [sum_tiles 8 512 _ rfl]
    exact coe_sum _ _

end Values

end Cert.PostKernelIdeal.Step
-- ==== Proof.PostClaim.lean ====
module

public import proofs.«01_k».proof.Defs
public import proofs.«01_k».proof.Proof.Gen.PostKernel.Frame
public import proofs.«01_k».proof.Proof.Gen.Pre_post_finite
public import proofs.«01_k».proof.Proof.PostKer

@[expose] public section

noncomputable section

/-! The claims about the output side of a mixing block's backward pass. -/

namespace Cert.Proof

open Idealize.ShloMosaic Idealize.SL.Sem Cert.Num

/-- The precondition, array by array. -/
theorem post_bounds {x0 x1 x2 x3 x4 x5 x6} (h : Cert.Pre_post_finite.fn (F := Ideal) x0 x1 x2 x3 x4 x5 x6 = fun _ => 1#1) :
    (∀ i, x1 i < (⊤ : EReal) ∧ (⊥ : EReal) < x1 i) ∧ (∀ i, x2 i < (⊤ : EReal) ∧ (⊥ : EReal) < x2 i)
    ∧ (∀ i, x3 i < (⊤ : EReal) ∧ (⊥ : EReal) < x3 i) ∧ (∀ i, x4 i < (⊤ : EReal) ∧ (⊥ : EReal) < x4 i)
    ∧ (∀ i, x5 i < (⊤ : EReal) ∧ (⊥ : EReal) < x5 i) ∧ (∀ i, x6 i < (⊤ : EReal) ∧ (⊥ : EReal) < x6 i) := by
  have h := congrFun h (fun a => a.elim0)
  unfold Cert.Pre_post_finite.fn Cert.Pre_post_finite.fn_part1 Cert.Pre_post_finite.fn_part2 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨finite_of _ _ _ _ _ _ _ h1, finite_of _ _ _ _ _ _ _ h2, finite_of _ _ _ _ _ _ _ h3, finite_of _ _ _ _ _ _ _ h4,
    finite_of _ _ _ _ _ _ _ h5, finite_of _ _ _ _ _ _ _ h6⟩

theorem post_frame : Cert.quiescent_PostRefIdeal := fun m ρ _ =>
  (θ_run Cert.PostRefIdeal.defs _ _).mono (fun r h => ⟨fun c => (h c).2.2.2.2.2.2, Idealize.ShloMosaic.sem_eq_zero_of_no_sems (by decide) r.2⟩)
    (Cert.PostRefIdeal.Value.run (F := Ideal) m ρ)

/-- An index of the rows' arrays, by its coordinates. -/
theorem ix2_of {a b : ℕ} (j : (⟨2, ![a, b]⟩ : Shape).Idx) : ∃ (i : Fin a) (l : Fin b), j = ix2 i l :=
  ⟨j 0, j 1, by funext k; match k with | ⟨0, _⟩ => rfl | ⟨1, _⟩ => rfl⟩

theorem post_algebraic : Cert.algebraic_PostKernelIdeal_PostRefIdeal_pre_post_finite := by
  intro m g m' g' hpre harg
  refine ⟨fun c => (Cert.PostKernelIdeal.Gen.dats m 0 c).arrAt 6 _, fun c => (Cert.PostKernelIdeal.Gen.dats m 0 c).arrAt 7 _,
    fun c => (Cert.PostKernelIdeal.Gen.dats m 0 c).arrAt 8 _, fun c => (Cert.PostKernelIdeal.Gen.dats m 0 c).arrAt 9 _,
    fun c => (Cert.PostKernelIdeal.Gen.dats m 0 c).arrAt 10 _, fun c => (Cert.PostKernelIdeal.Gen.dats m 0 c).arrAt 11 _,
    Cert.PostKernelIdeal.Value.run_blocks m g, ?_⟩
  refine (θ_run Cert.PostRefIdeal.defs _ _).mono (fun r h c => ?_) (Cert.PostRefIdeal.Value.run (F := Ideal) m' g')
  obtain ⟨-, e1, e2, e3, e4, e5, e6⟩ := harg c
  obtain ⟨b1, b2, b3, b4, b5, b6⟩ := post_bounds (hpre c)
  obtain ⟨H, hh⟩ := Cert.PostRefIdeal.Step.dyc_real (reals_of b6) (reals_of b5)
  have hh' : ∀ i l, Cert.PostRefIdeal.Step.dots _ _ (ix2 i l) = _ := fun i l => (Cert.PostRefIdeal.Step.dots_at _ _ i l).trans (hh i l)
  rw [← e6, ← e5] at hh'
  have lo : ∀ i l, _ = _ := fun i l => (Cert.PostRefIdeal.Step.lo_at _ i l).trans (hh' i _)
  have hi : ∀ i l, _ = _ := fun i l => (Cert.PostRefIdeal.Step.hi_at _ i l).trans (hh' i _)
  have ry : Reals (ι := Cert.PostRefIdeal.S4096x512.Idx) (m' ((c.tc : Thread Cert.PostRefIdeal.nD Cert.PostRefIdeal.τ).loc Cert.PostRefIdeal.main_arg1))
      (fun i => (m ((c.tc : Thread Cert.PostKernelIdeal.nD Cert.PostKernelIdeal.τ).loc Cert.PostKernelIdeal.main_arg1) i).toReal) := by
    rw [e1]; exact reals_of b1
  have rz : Reals (ι := Cert.PostRefIdeal.S4096x512.Idx) (m' ((c.tc : Thread Cert.PostRefIdeal.nD Cert.PostRefIdeal.τ).loc Cert.PostRefIdeal.main_arg2))
      (fun i => (m ((c.tc : Thread Cert.PostKernelIdeal.nD Cert.PostKernelIdeal.τ).loc Cert.PostKernelIdeal.main_arg2) i).toReal) := by
    rw [e2]; exact reals_of b2
  have rn : Reals (ι := Cert.PostRefIdeal.S1x512.Idx) (m' ((c.tc : Thread Cert.PostRefIdeal.nD Cert.PostRefIdeal.τ).loc Cert.PostRefIdeal.main_arg3))
      (fun i => (m ((c.tc : Thread Cert.PostKernelIdeal.nD Cert.PostKernelIdeal.τ).loc Cert.PostKernelIdeal.main_arg3) i).toReal) := by
    rw [e3]; exact reals_of b3
  have rk : Reals (ι := Cert.PostRefIdeal.S1x512.Idx) (m' ((c.tc : Thread Cert.PostRefIdeal.nD Cert.PostRefIdeal.τ).loc Cert.PostRefIdeal.main_arg4))
      (fun i => (m ((c.tc : Thread Cert.PostKernelIdeal.nD Cert.PostKernelIdeal.τ).loc Cert.PostKernelIdeal.main_arg4) i).toReal) := by
    rw [e4]; exact reals_of b4
  obtain ⟨h0, h1, h2, h3, h4, h5, hrest⟩ := h c
  refine ⟨h0.trans ?_, h1.trans ?_, h2.trans ?_, h3.trans ?_, h4.trans ?_, h5.trans ?_, hrest⟩
  · funext j
    obtain ⟨i, l, rfl⟩ := ix2_of (a := 4096) (b := 512) j
    refine Eq.trans ?_ (Cert.PostKernelIdeal.Step.G6_at m c (reals_of b1) (reals_of b3) hh i l).symm
    exact (congrFun (Cert.PostRefIdeal.Step.out0_eq m' c) _).trans (Cert.PostRefIdeal.Step.dy_at ry rn lo i l)
  · funext j
    obtain ⟨i, l, rfl⟩ := ix2_of (a := 4096) (b := 512) j
    refine Eq.trans ?_ (Cert.PostKernelIdeal.Step.G7_at m c (reals_of b2) (reals_of b4) hh i l).symm
    exact (congrFun (Cert.PostRefIdeal.Step.out1_eq m' c) _).trans (Cert.PostRefIdeal.Step.dy_at rz rk hi i l)
  · funext j
    obtain ⟨i, l, rfl⟩ := ix2_of (a := 4096) (b := 1024) j
    refine Eq.trans ?_ (Cert.PostKernelIdeal.Step.G8_at m c (reals_of b1) (reals_of b2) (reals_of b3) (reals_of b4) i l).symm
    refine Eq.trans ?_ ((Cert.PostRefIdeal.Step.joined_at _ _ _ _ i l).trans (dite_congr rfl
      (fun _ => Cert.PostRefIdeal.Step.ny_at ry rn i _) (fun _ => Cert.PostRefIdeal.Step.ny_at rz rk i _)))
    rfl
  · funext j
    obtain ⟨i, l, rfl⟩ := ix2_of (a := 4096) (b := 1024) j
    exact (congrFun e6 _).trans (Cert.PostKernelIdeal.Step.G9_at m c i l).symm
  · funext j
    obtain ⟨i, l, rfl⟩ := ix2_of (a := 1) (b := 512) j
    obtain rfl : i = 0 := Subsingleton.elim _ _
    refine Eq.trans ?_ (Cert.PostKernelIdeal.Step.G10_at m c (reals_of b1) (reals_of b2) hh l).1.symm
    refine Eq.trans ?_ (Cert.PostRefIdeal.Step.dn_at ry lo l)
    rfl
  · funext j
    obtain ⟨i, l, rfl⟩ := ix2_of (a := 1) (b := 512) j
    obtain rfl : i = 0 := Subsingleton.elim _ _
    refine Eq.trans ?_ (Cert.PostKernelIdeal.Step.G10_at m c (reals_of b1) (reals_of b2) hh l).2.symm
    refine Eq.trans ?_ (Cert.PostRefIdeal.Step.dn_at rz hi l)
    rfl

end Cert.Proof

end
-- ==== Proof.FfnStep.lean ====
module

public import proofs.«01_k».proof.Proof.Reads
public import Idealize.ShloMosaic.Lib.Pointwise
public import Idealize.ShloMosaic.Lib.ValueIdx
public import proofs.«01_k».proof.Proof.Gen.FfnKernelIdeal.Frame

@[expose] public section

set_option maxRecDepth 16384

noncomputable section

/-! What one grid point of the feed-forward's two calls leaves in its buffers. -/

namespace Cert.FfnKernelIdeal.Step

open Cert.FfnKernelIdeal Cert.FfnKernelIdeal.Gen
open Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- The hidden columns go in two pieces, the first 1280 and the other 1536: a weight's piece, and a gate's. -/
def wlo (w : Vec F S2816x1024 .bf16) : Vec F S1280x1024 .bf16 := View.ld w (Rect.unit (s := S2816x1024) ![0, 0] S1280x1024.size inb_S2816x1024_S1280x1024_0_0)
def whi (w : Vec F S2816x1024 .bf16) : Vec F S1536x1024 .bf16 := View.ld w (Rect.unit (s := S2816x1024) ![1280, 0] S1536x1024.size inb_S2816x1024_S1536x1024_1280_0)
def glo (g : Vec F S256x2816 .bf16) : Vec F S256x1280 .bf16 := View.ld g (Rect.unit (s := S256x2816) ![0, 0] S256x1280.size inb_S256x2816_S256x1280_0_0)
def ghi (g : Vec F S256x2816 .bf16) : Vec F S256x1536 .bf16 := View.ld g (Rect.unit (s := S256x2816) ![0, 1280] S256x1536.size inb_S256x2816_S256x1536_0_1280)

/-- The two pieces put together. -/
def both (a : Vec F S256x1280 .bf16) (b : Vec F S256x1536 .bf16) : Vec F S256x2816 .bf16 := fun j =>
  if h : (j 1).val < 1280 then a (ix2 (⟨(j 0).val, (j 0).isLt⟩ : Fin 256) (⟨(j 1).val, h⟩ : Fin 1280))
  else b (ix2 (⟨(j 0).val, (j 0).isLt⟩ : Fin 256) (⟨(j 1).val - 1280, by
    have : (j 1).val < 2816 := (j 1).isLt
    omega⟩ : Fin 1536))

/-- Two stores side by side fill the block. -/
theorem canon_both (a : Vec F S256x1280 .bf16) (b : Vec F S256x1536 .bf16) (h0 h1) :
    View.canon (Val := Elt F) (e := .bf16) [⟨Rect.unit (s := S256x2816) ![0, 1280] S256x1536.size h0, b⟩,
      ⟨Rect.unit (s := S256x2816) ![0, 0] S256x1280.size h1, a⟩] = both a b := by
  funext y
  refine View.canon_eq_of_allAt _ y _ (View.cover_of_tiledBy _ ![256, 256] (by sl_kernel_rfl) y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 1280 + (x 1).val := hx 1
    unfold both
    rw [dif_neg (by omega)]
    congr 1
    funext k
    apply Fin.ext
    match k with
    | ⟨0, _⟩ => show (x 0).val = (y 0).val; omega
    | ⟨1, _⟩ => show (x 1).val = (y 1).val - 1280; omega
  · have e0 : (y 0).val = 0 + (x 0).val := hx 0
    have e1 : (y 1).val = 0 + (x 1).val := hx 1
    have : (x 1).val < 1280 := (x 1).isLt
    unfold both
    rw [dif_pos (by omega)]
    congr 1
    funext k
    apply Fin.ext
    match k with
    | ⟨0, _⟩ => show (x 0).val = (y 0).val; omega
    | ⟨1, _⟩ => show (x 1).val = (y 1).val; omega

/-- A tile of the forward call: the gate, the factor, the normed rows, the gated product. -/
def upTile (x : Vec F S256x1024 .f32) (n : Vec F S1x1024 .f32) (wg wu : Vec F S2816x1024 .bf16) :
    Vec F S256x2816 .bf16 × Vec F S256x2816 .bf16 × Vec F S256x1024 .bf16 × Vec F S256x2816 .bf16 :=
  ⟨both (k0_pay10 x n (wlo wg)) (k0_pay4 (k0_pay7 x n) (whi wg)), both (k0_pay11 x n (wlo wu)) (k0_pay5 (k0_pay7 x n) (whi wu)), k0_pay7 x n,
    both (k0_pay1 (k0_pay9 x n (wlo wu)) (k0_pay12 x n (wlo wg))) (k0_pay6 (k0_pay7 x n) (whi wg) (whi wu))⟩

/-- The first piece's share of the normed rows' gradient. -/
def dhLo (d : Vec F S256x1024 .f32) (g u : Vec F S256x2816 .bf16) (wg wu wd : Vec F S2816x1024 .bf16) : FVec F S256x1024 .f32 :=
  k1_pay11 k1_pay5 (k1_pay9 d (wlo wd) (glo g)) (k1_pay10 d (wlo wd) (glo g) (glo u)) (wlo wg) (wlo wu)

/-- The second piece's gradients. -/
def duHi (d : Vec F S256x1024 .f32) (g : Vec F S256x2816 .bf16) (wd : Vec F S2816x1024 .bf16) : FVec F S256x1536 .bf16 :=
  k1_pay15 (k1_pay4 d) (whi wd) (ghi g)
def dgHi (d : Vec F S256x1024 .f32) (g u : Vec F S256x2816 .bf16) (wd : Vec F S2816x1024 .bf16) : FVec F S256x1536 .bf16 :=
  k1_pay16 (k1_pay4 d) (whi wd) (ghi g) (ghi u)

/-- A tile of the backward call: the rows' gradient, the gate's, the factor's, the cotangent cast, the running sum. -/
def backTile (x : Vec F S256x1024 .f32) (n : Vec F S1x1024 .f32) (d : Vec F S256x1024 .f32) (g u : Vec F S256x2816 .bf16)
    (wg wu wd : Vec F S2816x1024 .bf16) (old : Vec F S1x1024 .f32) :
    Vec F S256x1024 .f32 × Vec F S256x2816 .bf16 × Vec F S256x2816 .bf16 × Vec F S256x1024 .bf16 × Vec F S1x1024 .f32 :=
  ⟨k1_pay1 d (k1_pay19 (dhLo d g u wg wu wd) (duHi d g wd) (dgHi d g u wd) (whi wg) (whi wu) x n),
    both (k1_pay10 d (wlo wd) (glo g) (glo u)) (dgHi d g u wd), both (k1_pay9 d (wlo wd) (glo g)) (duHi d g wd), k1_pay4 d,
    k1_pay3 (k1_pay20 (dhLo d g u wg wu wd) (duHi d g wd) (dgHi d g u wd) (whi wg) (whi wu) x) old⟩

variable (V : (c : Dev nD) → (b : Ref sig .tc) → Buf (Elt F) ((c : Thread nD τ).loc b))

theorem forward (c : Dev nD) (t : Fin cfg0.N) :
    outsAt0 V c t = upTile (iblk0 V c 0 t) (iblk0 V c 1 t) (iblk0 V c 2 t) (iblk0 V c 3 t) := by
  unfold outsAt0 out0_A_4 out0_A_5 out0_A_6 out0_A_7
  simp only [View.read_writes_junk_eq_canon]
  unfold kernelRun0_A
  dsimp only
  sl_unfold_words
  rw [canon_both, canon_both, canon_both, View.canon_cons_unit_zero (S := S256x1024) hz]
  simp only [View.readAt_eq_ld, Memref.IsWhole.read_unread, View.ld_unit_zero (S := S256x1024) hz, View.ld_unit_zero (S := S1x1024) hz]
  rfl

/-- One tile of the arrays the backward call finds. -/
def backOf (c : Dev nD) (t : Fin cfg1.N) (old : Vec F S1x1024 .f32) :=
  backTile (iblk1 V c 0 t) (iblk1 V c 1 t) (iblk1 V c 2 t) (iblk1 V c 3 t) (iblk1 V c 4 t) (iblk1 V c 5 t) (iblk1 V c 6 t) (iblk1 V c 7 t) old

theorem later (c : Dev nD) (t : Fin cfg1.N) (h0 : ¬ t.val % 16 = 0) (p) (hp : outsAt1 V c (t.val - 1) (Nat.lt_of_le_of_lt (Nat.sub_le _ _) t.isLt) = p) :
    outsAt1 V c t.val t.isLt = backOf V c t p.2.2.2.2 := by
  rw [outsAt1_B V c t h0, hp]
  unfold out1_B_8 out1_B_9 out1_B_10 out1_B_11 out1_B_12
  simp only [View.read_writes_junk_eq_canon]
  unfold kernelRun1_B
  dsimp only
  sl_unfold_words
  rw [canon_both, canon_both, View.canon_cons_unit_zero (S := S256x1024) hz, View.canon_cons_unit_zero (S := S256x1024) hz,
    View.canon_cons_unit_zero (S := S1x1024) hz]
  simp only [View.readAt_eq_ld, Memref.IsWhole.read_unread, View.ld_unit_zero (S := S256x1024) hz, View.ld_unit_zero (S := S1x1024) hz]
  rfl

theorem first (c : Dev nD) (t : Fin cfg1.N) (h0 : t.val % 16 = 0) : outsAt1 V c t.val t.isLt = backOf V c t k1_pay2 := by
  rw [outsAt1_A V c t h0]
  unfold out1_A_8 out1_A_9 out1_A_10 out1_A_11 out1_A_12
  simp only [View.read_writes_junk_eq_canon]
  unfold kernelRun1_A
  dsimp only
  sl_unfold_words
  rw [canon_both, canon_both, View.canon_cons_unit_zero (S := S256x1024) hz, View.canon_cons_unit_zero (S := S256x1024) hz,
    View.canon_cons_unit_zero (S := S1x1024) hz]
  simp only [View.readCov_ld, View.canon_cons_unit_zero (S := S1x1024) hz, View.readAt_eq_ld, Memref.IsWhole.read_unread,
    View.ld_unit_zero (S := S256x1024) hz, View.ld_unit_zero (S := S1x1024) hz]
  rfl

end Cert.FfnKernelIdeal.Step
-- ==== Proof.FfnRef.lean ====
module

public import proofs.«01_k».proof.Proof.Gen.FfnRefIdeal.Run
public import proofs.«01_k».proof.Proof.PreRef

@[expose] public section

set_option maxRecDepth 16384

noncomputable section

/-! The gradient of a gated feed-forward block, the norm before it included: what the reference computes at an index. -/

namespace Cert.FfnRefIdeal.Step

open Cert.FfnRefIdeal Cert.FfnRefIdeal.Gen Cert.FfnRefIdeal.Value Cert.Num
open Cert.PreRefIdeal.Step (rowOf dxR dnR)
open Idealize.ShloMosaic Idealize.ShloMosaic.TcCoe Idealize.ShloMosaic.Tactic

/-- The token rows, the norm's weight, and an array of the gates. -/
abbrev Rows := FVec Ideal S4096x1024 .f32
abbrev Scale := FVec Ideal S1x1024 .f32
abbrev Hid := FVec Ideal S4096x2816 .f32
abbrev Win := FVec Ideal S1x1024x2816 .f32
abbrev Wout := FVec Ideal S1x2816x1024 .f32

/-! ### The formulas -/

/-- The normed row. -/
def hR (X : S4096x1024.Idx → ℝ) (N : S1x1024.Idx → ℝ) (i : Fin 4096) (l : Fin 1024) : ℝ := X (ix2 i l) * rinv (rowOf X i) * N (ix2 0 l)

/-- A gate's (or the plain factor's) column of a row. -/
def upR (X : S4096x1024.Idx → ℝ) (N : S1x1024.Idx → ℝ) (W : S1x1024x2816.Idx → ℝ) (i : Fin 4096) (f : Fin 2816) : ℝ :=
  ∑ k : Fin 1024, hR X N i k * W (ix3 0 k f)

/-- The gradient of the gated product, with the block's half. -/
def daR (D : S4096x1024.Idx → ℝ) (W : S1x2816x1024.Idx → ℝ) (i : Fin 4096) (f : Fin 2816) : ℝ :=
  1 / 2 * ∑ k : Fin 1024, D (ix2 i k) * W (ix3 0 f k)

/-- The gates' gradients, from a gate, a factor and the product's gradient. -/
def gateR (g u a : ℝ) : ℝ := a * u * (sg g * (1 + g * (1 - sg g)))
def factR (g a : ℝ) : ℝ := a * (g * sg g)

/-- The normed row's gradient. -/
def dhR (Wg Wu : S1x1024x2816.Idx → ℝ) (G U A : Fin 4096 → Fin 2816 → ℝ) (i : Fin 4096) (l : Fin 1024) : ℝ :=
  ∑ f : Fin 2816, gateR (G i f) (U i f) (A i f) * Wg (ix3 0 l f) + ∑ f : Fin 2816, factR (G i f) (A i f) * Wu (ix3 0 l f)

/-! ### The host's terms -/

/-- The mean square of each row, plus the constant. -/
def ms (x : Rows) : FVec Ideal S4096x1 .f32 :=
  addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

/-- A column, and a weight, once for every entry of a row. -/
def across (r : FVec Ideal S4096x1 .f32) : Rows := broadcastInDim S4096x1024 ![0, 1] bcast_S4096x1_S4096x1024_0_1 r
def wide (n : Scale) : Rows :=
  broadcastInDim S4096x1024 ![0, 1] bcast_S1x1024_S4096x1024_0_1 (broadcastInDim S1x1024 ![1] bcast_S1024_S1x1024_1
    (shapeCast _ n shapeCasts_S1x1024_S1024))

/-- The normed rows. -/
def normed (x : Rows) (n : Scale) : Rows := mulf (mulf x (across (Host.rsqrt (ms x)))) (wide n)

def up (h : Rows) (w : Win) : Hid :=
  Host.dotGeneral dot_S4096x1024_S1024x2816_S4096x2816_1_0_0_1_n_n none h (shapeCast _ w shapeCasts_S1x1024x2816_S1024x2816)

def ones : Hid := broadcastInDim S4096x2816 ![] bcast_S_S4096x2816 (constant S_ .f32 0x3F800000#32)
def gate (g : Hid) : Hid := Host.divf ones (addf ones (Host.exp (Host.negf g)))

/-- The gated product's gradient. -/
def da (d : Rows) (w : Wout) : Hid :=
  Host.dotGeneral dot_S4096x1024_S2816x1024_S4096x2816_1_1_0_0_n_n none
    (mulf (broadcastInDim S4096x1024 ![] bcast_S_S4096x1024 (constant S_ .f32 0x3F000000#32)) d)
    (shapeCast _ w shapeCasts_S1x2816x1024_S2816x1024)

def dgate (g u a : Hid) : Hid := addf (mulf (mulf a u) (gate g)) (mulf (mulf g (mulf a u)) (mulf (gate g) (subf ones (gate g))))
def dfact (g a : Hid) : Hid := mulf (mulf g (gate g)) a

def down (d : Hid) (w : Win) : Rows :=
  Host.dotGeneral dot_S4096x2816_S1024x2816_S4096x1024_1_1_0_0_n_n none d (shapeCast _ w shapeCasts_S1x1024x2816_S1024x2816)

def dh (g u a : Hid) (wg wu : Win) : Rows := addf (down (dfact g a) wu) (down (dgate g u a) wg)

/-- What the mean square's gradient puts on each entry of a row, before the entry itself. -/
def red (x g : Rows) : Rows :=
  broadcastInDim S4096x1024 ![0] bcast_S4096_S4096x1024_0 (Host.reduceAdd (Host.divf
    (mulf (shapeCast _ (Host.reduceAdd (mulf x g) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (ms x)) (ms x))))
    (broadcastInDim S4096x1 ![] bcast_S_S4096x1 (constant S_ .f32 0x44800000#32)))
    (constant S_ .f32 0x00000000#32) reducesTo_S4096x1_S4096_d1 h_S_)

def dx (d x : Rows) (n : Scale) (G : Rows) : Rows :=
  addf (addf (addf d (mulf (mulf G (wide n)) (across (Host.rsqrt (ms x))))) (mulf x (red x (mulf G (wide n)))))
    (mulf (red x (mulf G (wide n))) x)

section Host

variable {x d G : Rows} {n : Scale} {wg wu : Win} {wd : Wout} {g u a : Hid} {X D : S4096x1024.Idx → ℝ} {N : S1x1024.Idx → ℝ}
  {Wg Wu : S1x1024x2816.Idx → ℝ} {Wd : S1x2816x1024.Idx → ℝ} {H : Fin 4096 → Fin 1024 → ℝ} {Gt U A : Fin 4096 → Fin 2816 → ℝ}

theorem ms_at (hx : Reals (ι := S4096x1024.Idx) x X) (i : Fin 4096) (l : Fin 1) : ms x (ix2 i l) = ((msq (rowOf X i) : ℝ) : EReal) := by
  unfold ms
  pointwise
  simp only [hx _, lit_eps, ← EReal.coe_mul, coe_sum, div_1024, ← EReal.coe_add]
  rw [msq_1024 (rowOf X i)]

theorem normed_at (hx : Reals (ι := S4096x1024.Idx) x X) (hn : Reals (ι := S1x1024.Idx) n N) (i : Fin 4096) (l : Fin 1024) :
    normed x n (ix2 i l) = ((hR X N i l : ℝ) : EReal) := by
  have hm := ms_at hx
  unfold normed across wide
  generalize ms x = M at hm ⊢
  pointwise
  simp only [hx _, hn _, hm, rsqrt_msq, ← EReal.coe_mul]
  rfl

theorem up_at (hh : ∀ i l, G (ix2 i l) = ((H i l : ℝ) : EReal)) (hw : Reals (ι := S1x1024x2816.Idx) wg Wg) (i : Fin 4096) (f : Fin 2816) :
    up G wg (ix2 i f) = ((∑ k : Fin 1024, H i k * Wg (ix3 0 k f) : ℝ) : EReal) := by
  unfold up
  pointwise
  simp only [hh, hw _, ← EReal.coe_mul, coe_sum]

theorem sig_at (hg : ∀ i f, g (ix2 i f) = ((Gt i f : ℝ) : EReal)) (i : Fin 4096) (f : Fin 2816) :
    gate g (ix2 i f) = ((sg (Gt i f) : ℝ) : EReal) := by
  unfold gate ones
  pointwise
  simp only [hg, lit_one, ← EReal.coe_neg, Ideal.exp_coe, ← EReal.coe_add, div_sg]

theorem da_at (hd : Reals (ι := S4096x1024.Idx) d D) (hw : Reals (ι := S1x2816x1024.Idx) wd Wd) (i : Fin 4096) (f : Fin 2816) :
    da d wd (ix2 i f) = ((daR D Wd i f : ℝ) : EReal) := by
  unfold da
  pointwise
  simp only [hd _, hw _, lit_half, ← EReal.coe_mul, coe_sum]
  rw [daR, Finset.mul_sum]
  simp only [mul_assoc]

theorem dgate_at (hg : ∀ i f, g (ix2 i f) = ((Gt i f : ℝ) : EReal)) (hu : ∀ i f, u (ix2 i f) = ((U i f : ℝ) : EReal))
    (ha : ∀ i f, a (ix2 i f) = ((A i f : ℝ) : EReal)) (i : Fin 4096) (f : Fin 2816) :
    dgate g u a (ix2 i f) = ((gateR (Gt i f) (U i f) (A i f) : ℝ) : EReal) := by
  have hs := sig_at hg
  unfold dgate ones
  generalize gate g = S at hs ⊢
  pointwise
  simp only [hg, hu, ha, hs, lit_one, ← EReal.coe_mul, ← EReal.coe_sub, ← EReal.coe_add]
  simp only [one_sub, ← EReal.coe_mul, ← EReal.coe_add]
  congr 1
  unfold gateR
  ring

theorem dfact_at (hg : ∀ i f, g (ix2 i f) = ((Gt i f : ℝ) : EReal)) (ha : ∀ i f, a (ix2 i f) = ((A i f : ℝ) : EReal))
    (i : Fin 4096) (f : Fin 2816) : dfact g a (ix2 i f) = ((factR (Gt i f) (A i f) : ℝ) : EReal) := by
  have hs := sig_at hg
  unfold dfact
  generalize gate g = S at hs ⊢
  pointwise
  simp only [hg, ha, hs, ← EReal.coe_mul]
  congr 1
  unfold factR
  ring

theorem act_at (hg : ∀ i f, g (ix2 i f) = ((Gt i f : ℝ) : EReal)) (hu : ∀ i f, u (ix2 i f) = ((U i f : ℝ) : EReal))
    (i : Fin 4096) (f : Fin 2816) : (mulf (mulf g (gate g)) u) (ix2 i f) = ((Gt i f * sg (Gt i f) * U i f : ℝ) : EReal) := by
  have hs := sig_at hg
  generalize gate g = S at hs ⊢
  pointwise
  simp only [hg, hu, hs, ← EReal.coe_mul]

theorem down_at (hg : ∀ i f, g (ix2 i f) = ((Gt i f : ℝ) : EReal)) (hw : Reals (ι := S1x1024x2816.Idx) wg Wg) (i : Fin 4096) (l : Fin 1024) :
    down g wg (ix2 i l) = ((∑ f : Fin 2816, Gt i f * Wg (ix3 0 l f) : ℝ) : EReal) := by
  unfold down
  pointwise
  simp only [hg, hw _, ← EReal.coe_mul, coe_sum]

theorem dh_at (hg : ∀ i f, g (ix2 i f) = ((Gt i f : ℝ) : EReal)) (hu : ∀ i f, u (ix2 i f) = ((U i f : ℝ) : EReal))
    (ha : ∀ i f, a (ix2 i f) = ((A i f : ℝ) : EReal)) (hwg : Reals (ι := S1x1024x2816.Idx) wg Wg) (hwu : Reals (ι := S1x1024x2816.Idx) wu Wu)
    (i : Fin 4096) (l : Fin 1024) : dh g u a wg wu (ix2 i l) = ((dhR Wg Wu Gt U A i l : ℝ) : EReal) := by
  have h1 := down_at (dgate_at hg hu ha) hwg
  have h2 := down_at (dfact_at hg ha) hwu
  unfold dh
  generalize down (dgate g u a) wg = P at h1 ⊢
  generalize down (dfact g a) wu = Q at h2 ⊢
  pointwise
  rw [h1, h2, ← EReal.coe_add, add_comm]
  rfl

theorem dx_at (hd : Reals (ι := S4096x1024.Idx) d D) (hx : Reals (ι := S4096x1024.Idx) x X) (hn : Reals (ι := S1x1024.Idx) n N)
    (hG : ∀ i l, G (ix2 i l) = ((H i l : ℝ) : EReal)) (i : Fin 4096) (l : Fin 1024) :
    dx d x n G (ix2 i l) = ((D (ix2 i l) + dxR X N H i l : ℝ) : EReal) := by
  have hm := ms_at hx
  unfold dx red wide across
  generalize ms x = M at hm ⊢
  pointwise
  rw [dxR, dx_real (rowOf X i) (fun k => N (ix2 0 k)) (H i) 1024]
  simp only [hd _, hx _, hn _, hG, hm, lit_neg_half, ← EReal.coe_mul, coe_sum, div_1024, ← EReal.coe_add, rsqrt_msq, div_msq,
    Finset.univ_unique, Finset.sum_singleton]
  congr 1
  ring

end Host

variable (m : (ℓ : Loc nD τ sig) → Buf (Elt Ideal) ℓ) (c : Dev nD)

/-- The arguments by their names. -/
abbrev aX : Rows := m ((c.tc : Thread nD τ).loc main_arg0)
abbrev aN : Scale := m ((c.tc : Thread nD τ).loc main_arg1)
abbrev aWg : Win := m ((c.tc : Thread nD τ).loc main_arg2)
abbrev aWu : Win := m ((c.tc : Thread nD τ).loc main_arg3)
abbrev aWd : Wout := m ((c.tc : Thread nD τ).loc main_arg4)
abbrev aD : Rows := m ((c.tc : Thread nD τ).loc main_arg5)
abbrev gG : Hid := up (normed (aX m c) (aN m c)) (aWg m c)
abbrev gU : Hid := up (normed (aX m c) (aN m c)) (aWu m c)

/-- The cotangent, cast to its own shape: itself. -/
theorem same (d : Rows) : shapeCast S4096x1024 d shapeCasts_S4096x1024_S4096x1024 = d := by
  funext j
  obtain ⟨i, l, rfl⟩ : ∃ (i : Fin 4096) (l : Fin 1024), j = ix2 i l := ⟨j 0, j 1, by funext a; match a with | ⟨0, _⟩ => rfl | ⟨1, _⟩ => rfl⟩
  pointwise

theorem out1_eq : res_out1 m c = dgate (gG m c) (gU m c) (da (aD m c) (aWd m c)) := rfl

theorem out0_eq : res_out0 m c = dx (aD m c) (aX m c) (aN m c) (dh (gG m c) (gU m c)
    (da (shapeCast S4096x1024 (aD m c) shapeCasts_S4096x1024_S4096x1024) (aWd m c)) (aWg m c) (aWu m c)) := rfl

theorem out4_eq : res_out4 m c = Cert.PreRefIdeal.Step.dn (aX m c) (dh (gG m c) (gU m c)
    (da (shapeCast S4096x1024 (aD m c) shapeCasts_S4096x1024_S4096x1024) (aWd m c)) (aWg m c) (aWu m c)) := rfl

end Cert.FfnRefIdeal.Step
-- ==== Proof.FfnUp.lean ====
module

public import proofs.«01_k».proof.Proof.Tiles
public import proofs.«01_k».proof.Proof.FfnStep
public import proofs.«01_k».proof.Proof.FfnRef

@[expose] public section

set_option maxRecDepth 16384

noncomputable section

/-! The feed-forward's forward call: its four results at an index. -/

namespace Cert.FfnKernelIdeal.Step

open Cert.FfnKernelIdeal Cert.FfnKernelIdeal.Gen Cert.Num
open Cert.FfnRefIdeal.Step (hR upR)
open Cert.PreRefIdeal.Step (rowOf)
open Idealize.ShloMosaic Idealize.ShloMosaic.TcCoe Idealize.ShloMosaic.Tactic

/-! ### The pieces of the hidden columns -/

/-- A column of the first piece and of the second, among all of them. -/
abbrev fLo (f : Fin 1280) : Fin 2816 := ⟨f.val, by have := f.isLt; omega⟩
abbrev fHi (f : Fin 1536) : Fin 2816 := ⟨1280 + f.val, by have := f.isLt; omega⟩

section Pieces

variable (w : Vec Ideal S2816x1024 .bf16) (g : Vec Ideal S256x2816 .bf16)

theorem wlo_at (f : Fin 1280) (k : Fin 1024) : wlo w (ix2 f k) = w (ix2 (fLo f) k) := by
  unfold wlo
  rw [View.ld_apply]
  congr 1
  funext a
  apply Fin.ext
  match a with
  | ⟨0, _⟩ => show 0 + 1 * f.val = f.val; omega
  | ⟨1, _⟩ => show 0 + 1 * k.val = k.val; omega

theorem whi_at (f : Fin 1536) (k : Fin 1024) : whi w (ix2 f k) = w (ix2 (fHi f) k) := by
  unfold whi
  rw [View.ld_apply]
  congr 1
  funext a
  apply Fin.ext
  match a with
  | ⟨0, _⟩ => show 1280 + 1 * f.val = 1280 + f.val; omega
  | ⟨1, _⟩ => show 0 + 1 * k.val = k.val; omega

theorem glo_at (r : Fin 256) (f : Fin 1280) : glo g (ix2 r f) = g (ix2 r (fLo f)) := by
  unfold glo
  rw [View.ld_apply]
  congr 1
  funext a
  apply Fin.ext
  match a with
  | ⟨0, _⟩ => show 0 + 1 * r.val = r.val; omega
  | ⟨1, _⟩ => show 0 + 1 * f.val = f.val; omega

theorem ghi_at (r : Fin 256) (f : Fin 1536) : ghi g (ix2 r f) = g (ix2 r (fHi f)) := by
  unfold ghi
  rw [View.ld_apply]
  congr 1
  funext a
  apply Fin.ext
  match a with
  | ⟨0, _⟩ => show 0 + 1 * r.val = r.val; omega
  | ⟨1, _⟩ => show 1280 + 1 * f.val = 1280 + f.val; omega

theorem both_at {a : Vec Ideal S256x1280 .bf16} {b : Vec Ideal S256x1536 .bf16} {P : Fin 256 → Fin 2816 → EReal}
    (ha : ∀ r f, a (ix2 r f) = P r (fLo f)) (hb : ∀ r f, b (ix2 r f) = P r (fHi f)) (r : Fin 256) (f : Fin 2816) :
    both a b (ix2 r f) = P r f := by
  by_cases h : f.val < 1280
  · exact (dif_pos h).trans (ha r ⟨f.val, h⟩)
  · refine (dif_neg h).trans ((hb r ⟨f.val - 1280, by have := f.isLt; omega⟩).trans ?_)
    congr 1
    exact Fin.ext (Nat.add_sub_cancel' (Nat.le_of_not_lt h))

/-- A sum over the hidden columns, piece by piece. -/
theorem sum_pieces (P : Fin 2816 → ℝ) : ∑ f, P f = ∑ f, P (fLo f) + ∑ f, P (fHi f) :=
  Fin.sum_univ_add (a := 1280) (b := 1536) P

end Pieces

/-! ### One tile -/

section Tile

variable {x : Vec Ideal S256x1024 .f32} {n : Vec Ideal S1x1024 .f32} {wg wu : Vec Ideal S2816x1024 .bf16} {h : FVec Ideal S256x1024 .bf16}
  {X H : Fin 256 → Fin 1024 → ℝ} {N : Fin 1024 → ℝ} {Wg Wu : Fin 2816 → Fin 1024 → ℝ}

theorem h_at (hx : ∀ r l, x (ix2 r l) = ((X r l : ℝ) : EReal)) (hn : ∀ l, n (ix2 0 l) = ((N l : ℝ) : EReal)) (r : Fin 256) (l : Fin 1024) :
    k0_pay7 x n (ix2 r l) = ((X r l * rinv (X r) * N l : ℝ) : EReal) := by
  pointwise [k0_pay7]
  simp only [hx, hn, lit_eps, ← EReal.coe_mul, coe_sum, div_1024, ← EReal.coe_add, msq_1024, rsqrt_msq]

theorem lo_at {w : Vec Ideal S1280x1024 .bf16} {W : Fin 1280 → Fin 1024 → ℝ} (hh : ∀ r l, k0_pay7 x n (ix2 r l) = ((H r l : ℝ) : EReal))
    (hw : ∀ f k, w (ix2 f k) = ((W f k : ℝ) : EReal)) (r : Fin 256) (f : Fin 1280) :
    k0_pay8 x n w (ix2 r f) = ((∑ k, H r k * W f k : ℝ) : EReal) := by
  unfold k0_pay8
  generalize k0_pay7 x n = G at hh ⊢
  pointwise
  simp only [hh, hw, ← EReal.coe_mul, coe_sum]

/-- The factor's columns are computed as the gate's. -/
theorem lo_eq (w : Vec Ideal S1280x1024 .bf16) : k0_pay9 x n w = k0_pay8 x n w := rfl

theorem hi_at {w : Vec Ideal S1536x1024 .bf16} {W : Fin 1536 → Fin 1024 → ℝ} (hh : ∀ r l, h (ix2 r l) = ((H r l : ℝ) : EReal))
    (hw : ∀ f k, w (ix2 f k) = ((W f k : ℝ) : EReal)) (r : Fin 256) (f : Fin 1536) :
    k0_pay2 h w (ix2 r f) = ((∑ k, H r k * W f k : ℝ) : EReal) := by
  unfold k0_pay2
  pointwise
  simp only [hh, hw, ← EReal.coe_mul, coe_sum]

theorem hi_eq (w : Vec Ideal S1536x1024 .bf16) : k0_pay3 h w = k0_pay2 h w := rfl

theorem act_lo {a b : Vec Ideal S1280x1024 .bf16} {G U : Fin 256 → Fin 1280 → ℝ} (hg : ∀ r f, k0_pay8 x n a (ix2 r f) = ((G r f : ℝ) : EReal))
    (hu : ∀ r f, k0_pay8 x n b (ix2 r f) = ((U r f : ℝ) : EReal)) (r : Fin 256) (f : Fin 1280) :
    k0_pay1 (k0_pay9 x n b) (k0_pay12 x n a) (ix2 r f) = ((G r f * sg (G r f) * U r f : ℝ) : EReal) := by
  rw [lo_eq]
  unfold k0_pay1 k0_pay12
  generalize k0_pay8 x n a = P at hg ⊢
  generalize k0_pay8 x n b = Q at hu ⊢
  pointwise
  simp only [hg, hu, lit_one, zero_sub, ← EReal.coe_neg, Ideal.exp_coe, div_sg, ← EReal.coe_mul]

theorem act_hi {a b : Vec Ideal S1536x1024 .bf16} {G U : Fin 256 → Fin 1536 → ℝ} (hg : ∀ r f, k0_pay2 h a (ix2 r f) = ((G r f : ℝ) : EReal))
    (hu : ∀ r f, k0_pay2 h b (ix2 r f) = ((U r f : ℝ) : EReal)) (r : Fin 256) (f : Fin 1536) :
    k0_pay6 h a b (ix2 r f) = ((G r f * sg (G r f) * U r f : ℝ) : EReal) := by
  unfold k0_pay6
  rw [hi_eq]
  generalize k0_pay2 h a = P at hg ⊢
  generalize k0_pay2 h b = Q at hu ⊢
  pointwise
  simp only [hg, hu, lit_one, zero_sub, ← EReal.coe_neg, Ideal.exp_coe, div_sg, ← EReal.coe_mul]

/-- The tile's four blocks. -/
theorem up_at (hx : ∀ r l, x (ix2 r l) = ((X r l : ℝ) : EReal)) (hn : ∀ l, n (ix2 0 l) = ((N l : ℝ) : EReal))
    (hg : ∀ f k, wg (ix2 f k) = ((Wg f k : ℝ) : EReal)) (hu : ∀ f k, wu (ix2 f k) = ((Wu f k : ℝ) : EReal))
    (G U : Fin 256 → Fin 2816 → ℝ) (hG : ∀ r f, G r f = ∑ k, X r k * rinv (X r) * N k * Wg f k)
    (hU : ∀ r f, U r f = ∑ k, X r k * rinv (X r) * N k * Wu f k) (r : Fin 256) (f : Fin 2816) :
    (upTile x n wg wu).1 (ix2 r f) = ((G r f : ℝ) : EReal) ∧ (upTile x n wg wu).2.1 (ix2 r f) = ((U r f : ℝ) : EReal)
    ∧ (upTile x n wg wu).2.2.2 (ix2 r f) = ((G r f * sg (G r f) * U r f : ℝ) : EReal) := by
  have hh := h_at hx hn
  have gl : ∀ r f, k0_pay8 x n (wlo wg) (ix2 r f) = ((G r (fLo f) : ℝ) : EReal) := fun r f => by
    rw [hG]; exact lo_at hh (W := fun f => Wg (fLo f)) (fun f k => (wlo_at wg f k).trans (hg _ _)) r f
  have ul : ∀ r f, k0_pay8 x n (wlo wu) (ix2 r f) = ((U r (fLo f) : ℝ) : EReal) := fun r f => by
    rw [hU]; exact lo_at hh (W := fun f => Wu (fLo f)) (fun f k => (wlo_at wu f k).trans (hu _ _)) r f
  have gh : ∀ r f, k0_pay2 (k0_pay7 x n) (whi wg) (ix2 r f) = ((G r (fHi f) : ℝ) : EReal) := fun r f => by
    rw [hG]; exact hi_at hh (W := fun f => Wg (fHi f)) (fun f k => (whi_at wg f k).trans (hg _ _)) r f
  have uh : ∀ r f, k0_pay2 (k0_pay7 x n) (whi wu) (ix2 r f) = ((U r (fHi f) : ℝ) : EReal) := fun r f => by
    rw [hU]; exact hi_at hh (W := fun f => Wu (fHi f)) (fun f k => (whi_at wu f k).trans (hu _ _)) r f
  exact ⟨both_at (P := fun r f => ((G r f : ℝ) : EReal)) gl gh r f, both_at (P := fun r f => ((U r f : ℝ) : EReal)) ul uh r f,
    both_at (P := fun r f => ((G r f * sg (G r f) * U r f : ℝ) : EReal)) (act_lo gl ul) (act_hi gh uh) r f⟩

end Tile

/-! ### The blocks -/

section Blocks

variable (V : (c : Dev nD) → (b : Ref sig .tc) → Buf (Elt Ideal) ((c : Thread nD τ).loc b)) (c : Dev nD)

/-- Row `r` of tile `t`, and the tile and the place in it of a row. -/
def row0 (t : Fin cfg0.N) (r : Fin 256) : Fin 4096 := ⟨256 * t.val + r.val, by
  have := t.isLt
  have hN : cfg0.N = 16 := N_0
  have := r.isLt
  omega⟩

theorem split0 (i : Fin 4096) : ∃ (t : Fin cfg0.N) (r : Fin 256), row0 t r = i :=
  have hN : cfg0.N = 16 := N_0
  ⟨⟨i.val / 256, by have := i.isLt; omega⟩, ⟨i.val % 256, Nat.mod_lt _ (by norm_num)⟩, Fin.ext (Nat.div_add_mod i.val 256)⟩

theorem idx0_0 : ∀ t : Fin cfg0.N, win0_0.index t (0 : Fin 2) = t.val ∧ win0_0.index t (1 : Fin 2) = 0 :=
  (by decide +kernel : ∀ t : Fin grid0.N, _)

theorem blk0_0 (t : Fin cfg0.N) (r : Fin 256) (l : Fin 1024) : iblk0 V c 0 t (ix2 r l) = V c main_arg0 (ix2 (row0 t r) l) := by
  show V c (Pipeline.arrRef spec0 0) (((cfg0.win 0).blk t).view.emb (ix2 r l)) = _
  exact congrArg _ (at_tile (idx0_0 t) rfl rfl rfl)

theorem idx0_1 : ∀ t : Fin cfg0.N, win0_1.index t (0 : Fin 2) = 0 ∧ win0_1.index t (1 : Fin 2) = 0 :=
  (by decide +kernel : ∀ t : Fin grid0.N, _)

theorem blk0_1 (t : Fin cfg0.N) (l : Fin 1024) : iblk0 V c 1 t (ix2 0 l) = V c main_arg1 (ix2 0 l) := by
  show V c (Pipeline.arrRef spec0 1) (((cfg0.win 1).blk t).view.emb (ix2 0 l)) = _
  exact congrArg _ (at_tile (idx0_1 t) rfl rfl (Nat.zero_add _).symm)

theorem idx0_2 : ∀ t : Fin cfg0.N, win0_2.index t (0 : Fin 2) = 0 ∧ win0_2.index t (1 : Fin 2) = 0 :=
  (by decide +kernel : ∀ t : Fin grid0.N, _)

theorem blk0_2 (t : Fin cfg0.N) (a : Fin 2816) (b : Fin 1024) : iblk0 V c 2 t (ix2 a b) = V c main_v2 (ix2 a b) := by
  show V c (Pipeline.arrRef spec0 2) (((cfg0.win 2).blk t).view.emb (ix2 a b)) = _
  exact congrArg _ (at_tile (idx0_2 t) rfl rfl (Nat.zero_add _).symm)

theorem idx0_3 : ∀ t : Fin cfg0.N, win0_3.index t (0 : Fin 2) = 0 ∧ win0_3.index t (1 : Fin 2) = 0 :=
  (by decide +kernel : ∀ t : Fin grid0.N, _)

theorem blk0_3 (t : Fin cfg0.N) (a : Fin 2816) (b : Fin 1024) : iblk0 V c 3 t (ix2 a b) = V c main_v5 (ix2 a b) := by
  show V c (Pipeline.arrRef spec0 3) (((cfg0.win 3).blk t).view.emb (ix2 a b)) = _
  exact congrArg _ (at_tile (idx0_3 t) rfl rfl (Nat.zero_add _).symm)

theorem idx0_4 : ∀ t : Fin cfg0.N, win0_4.index t (0 : Fin 2) = t.val ∧ win0_4.index t (1 : Fin 2) = 0 :=
  (by decide +kernel : ∀ t : Fin grid0.N, _)

theorem arr0_4 (t : Fin cfg0.N) (r : Fin 256) (l : Fin 2816) :
    (dat0 V c).arrAt 4 cfg0.N (ix2 (row0 t r) l) = (outsAt0 V c t).1 (ix2 r l) := by
  have h := (dat0 V c).read_blk_arrAt_eq_flushed 4 (fun t t' _ _ hne => (cfg0.win 4).disjoint_blk fun h => hne
    (Fin.ext ((idx0_4 t).1.symm.trans ((congrFun h (0 : Fin 2)).trans (idx0_4 t').1)))) cfg0.N t t.isLt (flush0_4 t)
  refine Eq.trans ?_ ((congrFun h (ix2 r l)).trans ?_)
  · exact congrArg _ (Cert.Num.at_tile (idx0_4 t) rfl rfl rfl).symm
  · show (dat0 V c).after 4 t (ix2 r l) = _
    rw [after0_4]

theorem idx0_5 : ∀ t : Fin cfg0.N, win0_5.index t (0 : Fin 2) = t.val ∧ win0_5.index t (1 : Fin 2) = 0 :=
  (by decide +kernel : ∀ t : Fin grid0.N, _)

theorem arr0_5 (t : Fin cfg0.N) (r : Fin 256) (l : Fin 2816) :
    (dat0 V c).arrAt 5 cfg0.N (ix2 (row0 t r) l) = (outsAt0 V c t).2.1 (ix2 r l) := by
  have h := (dat0 V c).read_blk_arrAt_eq_flushed 5 (fun t t' _ _ hne => (cfg0.win 5).disjoint_blk fun h => hne
    (Fin.ext ((idx0_5 t).1.symm.trans ((congrFun h (0 : Fin 2)).trans (idx0_5 t').1)))) cfg0.N t t.isLt (flush0_5 t)
  refine Eq.trans ?_ ((congrFun h (ix2 r l)).trans ?_)
  · exact congrArg _ (Cert.Num.at_tile (idx0_5 t) rfl rfl rfl).symm
  · show (dat0 V c).after 5 t (ix2 r l) = _
    rw [after0_5]

theorem idx0_6 : ∀ t : Fin cfg0.N, win0_6.index t (0 : Fin 2) = t.val ∧ win0_6.index t (1 : Fin 2) = 0 :=
  (by decide +kernel : ∀ t : Fin grid0.N, _)

theorem arr0_6 (t : Fin cfg0.N) (r : Fin 256) (l : Fin 1024) :
    (dat0 V c).arrAt 6 cfg0.N (ix2 (row0 t r) l) = (outsAt0 V c t).2.2.1 (ix2 r l) := by
  have h := (dat0 V c).read_blk_arrAt_eq_flushed 6 (fun t t' _ _ hne => (cfg0.win 6).disjoint_blk fun h => hne
    (Fin.ext ((idx0_6 t).1.symm.trans ((congrFun h (0 : Fin 2)).trans (idx0_6 t').1)))) cfg0.N t t.isLt (flush0_6 t)
  refine Eq.trans ?_ ((congrFun h (ix2 r l)).trans ?_)
  · exact congrArg _ (Cert.Num.at_tile (idx0_6 t) rfl rfl rfl).symm
  · show (dat0 V c).after 6 t (ix2 r l) = _
    rw [after0_6]

theorem idx0_7 : ∀ t : Fin cfg0.N, win0_7.index t (0 : Fin 2) = t.val ∧ win0_7.index t (1 : Fin 2) = 0 :=
  (by decide +kernel : ∀ t : Fin grid0.N, _)

theorem arr0_7 (t : Fin cfg0.N) (r : Fin 256) (l : Fin 2816) :
    (dat0 V c).arrAt 7 cfg0.N (ix2 (row0 t r) l) = (outsAt0 V c t).2.2.2 (ix2 r l) := by
  have h := (dat0 V c).read_blk_arrAt_eq_flushed 7 (fun t t' _ _ hne => (cfg0.win 7).disjoint_blk fun h => hne
    (Fin.ext ((idx0_7 t).1.symm.trans ((congrFun h (0 : Fin 2)).trans (idx0_7 t').1)))) cfg0.N t t.isLt (flush0_7 t)
  refine Eq.trans ?_ ((congrFun h (ix2 r l)).trans ?_)
  · exact congrArg _ (Cert.Num.at_tile (idx0_7 t) rfl rfl rfl).symm
  · show (dat0 V c).after 7 t (ix2 r l) = _
    rw [after0_7]

end Blocks

/-! ### The results -/

variable (m : (ℓ : Loc nD τ sig) → Buf (Elt Ideal) ℓ) (ρ : Dev nD → PrngReg) (c : Dev nD)

theorem v2_at (f : Fin 2816) (k : Fin 1024) : V1 m ρ c main_v2 (ix2 f k) = m ((c : Thread nD τ).loc main_arg2) (ix3 0 k f) := by
  show StableHlo.after hostOps0 (W0 m ρ c) (Proc.devRef .tc main_v2) (ix2 f k) = _
  after_results_simp
  pointwise

theorem v5_at (f : Fin 2816) (k : Fin 1024) : V1 m ρ c main_v5 (ix2 f k) = m ((c : Thread nD τ).loc main_arg3) (ix3 0 k f) := by
  show StableHlo.after hostOps0 (W0 m ρ c) (Proc.devRef .tc main_v5) (ix2 f k) = _
  after_results_simp
  pointwise

theorem v7_at (f : Fin 2816) (k : Fin 1024) : V1 m ρ c main_v7 (ix2 f k) = m ((c : Thread nD τ).loc main_arg4) (ix3 0 f k) := by
  show StableHlo.after hostOps0 (W0 m ρ c) (Proc.devRef .tc main_v7) (ix2 f k) = _
  after_results_simp
  pointwise

section Values

variable {X : (⟨2, ![4096, 1024]⟩ : Shape).Idx → ℝ} {N : (⟨2, ![1, 1024]⟩ : Shape).Idx → ℝ} {Wg Wu : (⟨3, ![1, 1024, 2816]⟩ : Shape).Idx → ℝ}
  (hx : Reals (ι := (⟨2, ![4096, 1024]⟩ : Shape).Idx) (m ((c : Thread nD τ).loc main_arg0)) X)
  (hn : Reals (ι := (⟨2, ![1, 1024]⟩ : Shape).Idx) (m ((c : Thread nD τ).loc main_arg1)) N)
  (hg : Reals (ι := (⟨3, ![1, 1024, 2816]⟩ : Shape).Idx) (m ((c : Thread nD τ).loc main_arg2)) Wg)
  (hu : Reals (ι := (⟨3, ![1, 1024, 2816]⟩ : Shape).Idx) (m ((c : Thread nD τ).loc main_arg3)) Wu)

include hx hn in
theorem H_at (i : Fin 4096) (l : Fin 1024) : (dat0 (V1 m ρ) c).arrAt 6 cfg0.N (ix2 i l) = ((hR X N i l : ℝ) : EReal) := by
  obtain ⟨t, r, rfl⟩ := split0 i
  rw [arr0_6, forward]
  exact h_at (X := fun r => rowOf X (row0 t r)) (N := fun l => N (ix2 0 l))
    (fun r l => (blk0_0 _ c t r l).trans ((congrFun (W1_args m ρ c main_arg0 (by decide)) _).trans (hx _)))
    (fun l => (blk0_1 _ c t l).trans ((congrFun (W1_args m ρ c main_arg1 (by decide)) _).trans (hn _))) r l

include hx hn hg hu in
theorem gates_at (i : Fin 4096) (f : Fin 2816) :
    (dat0 (V1 m ρ) c).arrAt 4 cfg0.N (ix2 i f) = ((upR X N Wg i f : ℝ) : EReal)
    ∧ (dat0 (V1 m ρ) c).arrAt 5 cfg0.N (ix2 i f) = ((upR X N Wu i f : ℝ) : EReal)
    ∧ (dat0 (V1 m ρ) c).arrAt 7 cfg0.N (ix2 i f) = ((upR X N Wg i f * sg (upR X N Wg i f) * upR X N Wu i f : ℝ) : EReal) := by
  obtain ⟨t, r, rfl⟩ := split0 i
  rw [arr0_4, arr0_5, arr0_7, forward]
  exact up_at (X := fun r => rowOf X (row0 t r)) (N := fun l => N (ix2 0 l)) (Wg := fun f k => Wg (ix3 0 k f)) (Wu := fun f k => Wu (ix3 0 k f))
    (fun r l => (blk0_0 _ c t r l).trans ((congrFun (W1_args m ρ c main_arg0 (by decide)) _).trans (hx _)))
    (fun l => (blk0_1 _ c t l).trans ((congrFun (W1_args m ρ c main_arg1 (by decide)) _).trans (hn _)))
    (fun f k => (blk0_2 _ c t f k).trans ((v2_at m ρ c f k).trans (hg _)))
    (fun f k => (blk0_3 _ c t f k).trans ((v5_at m ρ c f k).trans (hu _)))
    (fun r f => upR X N Wg (row0 t r) f) (fun r f => upR X N Wu (row0 t r) f) (fun _ _ => rfl) (fun _ _ => rfl) r f

end Values

end Cert.FfnKernelIdeal.Step
-- ==== Proof.FfnKer.lean ====
module

public import proofs.«01_k».proof.Proof.Tiles
public import proofs.«01_k».proof.Proof.FfnUp

@[expose] public section

set_option maxRecDepth 16384

noncomputable section

/-! The feed-forward's backward call: its five results at an index. -/

namespace Cert.FfnKernelIdeal.Step

open Cert.FfnKernelIdeal Cert.FfnKernelIdeal.Gen Cert.Num
open Cert.FfnRefIdeal.Step (hR upR daR gateR factR dhR)
open Cert.PreRefIdeal.Step (rowOf dxR dnR)
open Idealize.ShloMosaic Idealize.ShloMosaic.TcCoe Idealize.ShloMosaic.Tactic

/-! ### One tile -/

section Tile

variable {x d : Vec Ideal S256x1024 .f32} {n : Vec Ideal S1x1024 .f32} {g u : Vec Ideal S256x2816 .bf16} {wg wu wd : Vec Ideal S2816x1024 .bf16}
  {X D H : Fin 256 → Fin 1024 → ℝ} {N : Fin 1024 → ℝ} {G U A : Fin 256 → Fin 2816 → ℝ} {Wg Wu Wd : Fin 2816 → Fin 1024 → ℝ}

theorem da_lo {w : Vec Ideal S1280x1024 .bf16} {W : Fin 1280 → Fin 1024 → ℝ} (hd : ∀ r l, d (ix2 r l) = ((D r l : ℝ) : EReal))
    (hw : ∀ f k, w (ix2 f k) = ((W f k : ℝ) : EReal)) (r : Fin 256) (f : Fin 1280) :
    k1_pay6 d w (ix2 r f) = ((1 / 2 * ∑ k, D r k * W f k : ℝ) : EReal) := by
  pointwise [k1_pay6, k1_pay4]
  simp only [hd, hw, lit_half, ← EReal.coe_mul, coe_sum]

theorem da_hi {w : Vec Ideal S1536x1024 .bf16} {W : Fin 1536 → Fin 1024 → ℝ} (hd : ∀ r l, d (ix2 r l) = ((D r l : ℝ) : EReal))
    (hw : ∀ f k, w (ix2 f k) = ((W f k : ℝ) : EReal)) (r : Fin 256) (f : Fin 1536) :
    k1_pay12 (k1_pay4 d) w (ix2 r f) = ((1 / 2 * ∑ k, D r k * W f k : ℝ) : EReal) := by
  pointwise [k1_pay12, k1_pay4]
  simp only [hd, hw, lit_half, ← EReal.coe_mul, coe_sum]

section Lo

variable {w : Vec Ideal S1280x1024 .bf16} {a b : Vec Ideal S256x1280 .bf16} {A P Q : Fin 256 → Fin 1280 → ℝ}
  (hA : ∀ r f, k1_pay6 d w (ix2 r f) = ((A r f : ℝ) : EReal)) (hg : ∀ r f, a (ix2 r f) = ((P r f : ℝ) : EReal))
  (hu : ∀ r f, b (ix2 r f) = ((Q r f : ℝ) : EReal))

include hg in
theorem s_lo (r : Fin 256) (f : Fin 1280) : k1_pay8 a (ix2 r f) = ((sg (P r f) : ℝ) : EReal) := by
  pointwise [k1_pay8, k1_pay7]
  simp only [hg, lit_one, zero_sub, ← EReal.coe_neg, Ideal.exp_coe, div_sg]

include hA hg in
theorem du_lo (r : Fin 256) (f : Fin 1280) : k1_pay9 d w a (ix2 r f) = ((factR (P r f) (A r f) : ℝ) : EReal) := by
  have hs := s_lo hg
  unfold k1_pay9 k1_pay7
  generalize k1_pay6 d w = R at hA ⊢
  generalize k1_pay8 a = S at hs ⊢
  pointwise
  simp only [hg, hA, hs, ← EReal.coe_mul, factR]

include hA hg hu in
theorem dg_lo (r : Fin 256) (f : Fin 1280) : k1_pay10 d w a b (ix2 r f) = ((gateR (P r f) (Q r f) (A r f) : ℝ) : EReal) := by
  have hs := s_lo hg
  unfold k1_pay10 k1_pay7
  generalize k1_pay6 d w = R at hA ⊢
  generalize k1_pay8 a = S at hs ⊢
  pointwise
  simp only [hg, hu, hA, hs, lit_one, one_sub, one_add, ← EReal.coe_mul, gateR]

end Lo

section Hi

variable {e : FVec Ideal S256x1024 .bf16} {w : Vec Ideal S1536x1024 .bf16} {a b : Vec Ideal S256x1536 .bf16} {A P Q : Fin 256 → Fin 1536 → ℝ}
  (hA : ∀ r f, k1_pay12 e w (ix2 r f) = ((A r f : ℝ) : EReal)) (hg : ∀ r f, a (ix2 r f) = ((P r f : ℝ) : EReal))
  (hu : ∀ r f, b (ix2 r f) = ((Q r f : ℝ) : EReal))

include hg in
theorem s_hi (r : Fin 256) (f : Fin 1536) : k1_pay14 a (ix2 r f) = ((sg (P r f) : ℝ) : EReal) := by
  pointwise [k1_pay14, k1_pay13]
  simp only [hg, lit_one, zero_sub, ← EReal.coe_neg, Ideal.exp_coe, div_sg]

include hA hg in
theorem du_hi (r : Fin 256) (f : Fin 1536) : k1_pay15 e w a (ix2 r f) = ((factR (P r f) (A r f) : ℝ) : EReal) := by
  have hs := s_hi hg
  unfold k1_pay15 k1_pay13
  generalize k1_pay12 e w = R at hA ⊢
  generalize k1_pay14 a = S at hs ⊢
  pointwise
  simp only [hg, hA, hs, ← EReal.coe_mul, factR]

include hA hg hu in
theorem dg_hi (r : Fin 256) (f : Fin 1536) : k1_pay16 e w a b (ix2 r f) = ((gateR (P r f) (Q r f) (A r f) : ℝ) : EReal) := by
  have hs := s_hi hg
  unfold k1_pay16 k1_pay13
  generalize k1_pay12 e w = R at hA ⊢
  generalize k1_pay14 a = S at hs ⊢
  pointwise
  simp only [hg, hu, hA, hs, lit_one, one_sub, one_add, ← EReal.coe_mul, gateR]

end Hi

/-- The normed rows' gradient of a tile. -/
def dhT (Wg Wu : Fin 2816 → Fin 1024 → ℝ) (G U A : Fin 256 → Fin 2816 → ℝ) (r : Fin 256) (l : Fin 1024) : ℝ :=
  ∑ f, gateR (G r f) (U r f) (A r f) * Wg f l + ∑ f, factR (G r f) (A r f) * Wu f l

section Whole

variable (hx : ∀ r l, x (ix2 r l) = ((X r l : ℝ) : EReal)) (hn : ∀ l, n (ix2 0 l) = ((N l : ℝ) : EReal))
  (hd : ∀ r l, d (ix2 r l) = ((D r l : ℝ) : EReal))
  (hg : ∀ r f, g (ix2 r f) = ((G r f : ℝ) : EReal)) (hu : ∀ r f, u (ix2 r f) = ((U r f : ℝ) : EReal))
  (hwg : ∀ f k, wg (ix2 f k) = ((Wg f k : ℝ) : EReal)) (hwu : ∀ f k, wu (ix2 f k) = ((Wu f k : ℝ) : EReal))
  (hwd : ∀ f k, wd (ix2 f k) = ((Wd f k : ℝ) : EReal)) (hA : ∀ r f, A r f = 1 / 2 * ∑ k, D r k * Wd f k)

include hd hwd hA in
theorem a_lo (r : Fin 256) (f : Fin 1280) : k1_pay6 d (wlo wd) (ix2 r f) = ((A r (fLo f) : ℝ) : EReal) := by
  rw [hA]; exact da_lo hd (W := fun f => Wd (fLo f)) (fun f k => (wlo_at wd f k).trans (hwd _ _)) r f
include hd hwd hA in
theorem a_hi (r : Fin 256) (f : Fin 1536) : k1_pay12 (k1_pay4 d) (whi wd) (ix2 r f) = ((A r (fHi f) : ℝ) : EReal) := by
  rw [hA]; exact da_hi hd (W := fun f => Wd (fHi f)) (fun f k => (whi_at wd f k).trans (hwd _ _)) r f

include hd hg hu hwd hA in
theorem dg_at (r : Fin 256) (f : Fin 2816) :
    both (k1_pay10 d (wlo wd) (glo g) (glo u)) (dgHi d g u wd) (ix2 r f) = ((gateR (G r f) (U r f) (A r f) : ℝ) : EReal) :=
  both_at (P := fun r f => ((gateR (G r f) (U r f) (A r f) : ℝ) : EReal))
    (dg_lo (a_lo hd hwd hA) (fun r f => (glo_at g r f).trans (hg _ _)) (fun r f => (glo_at u r f).trans (hu _ _)))
    (dg_hi (a_hi hd hwd hA) (fun r f => (ghi_at g r f).trans (hg _ _)) (fun r f => (ghi_at u r f).trans (hu _ _))) r f

include hd hg hwd hA in
theorem du_at (r : Fin 256) (f : Fin 2816) :
    both (k1_pay9 d (wlo wd) (glo g)) (duHi d g wd) (ix2 r f) = ((factR (G r f) (A r f) : ℝ) : EReal) :=
  both_at (P := fun r f => ((factR (G r f) (A r f) : ℝ) : EReal))
    (du_lo (a_lo hd hwd hA) (fun r f => (glo_at g r f).trans (hg _ _)))
    (du_hi (a_hi hd hwd hA) (fun r f => (ghi_at g r f).trans (hg _ _))) r f

include hd hg hu hwg hwu hwd hA in
theorem dh_at (r : Fin 256) (l : Fin 1024) :
    k1_pay17 (dhLo d g u wg wu wd) (duHi d g wd) (dgHi d g u wd) (whi wg) (whi wu) (ix2 r l) = ((dhT Wg Wu G U A r l : ℝ) : EReal) := by
  have h1 := dg_lo (a_lo hd hwd hA) (fun r f => (glo_at g r f).trans (hg _ _)) (fun r f => (glo_at u r f).trans (hu _ _))
  have h2 := dg_hi (a_hi hd hwd hA) (fun r f => (ghi_at g r f).trans (hg _ _)) (fun r f => (ghi_at u r f).trans (hu _ _))
  have h3 := du_lo (a_lo hd hwd hA) (fun r f => (glo_at g r f).trans (hg _ _))
  have h4 := du_hi (a_hi hd hwd hA) (fun r f => (ghi_at g r f).trans (hg _ _))
  have w1 : ∀ f k, _ = _ := fun f k => (wlo_at wg f k).trans (hwg _ _)
  have w2 : ∀ f k, _ = _ := fun f k => (whi_at wg f k).trans (hwg _ _)
  have w3 : ∀ f k, _ = _ := fun f k => (wlo_at wu f k).trans (hwu _ _)
  have w4 : ∀ f k, _ = _ := fun f k => (whi_at wu f k).trans (hwu _ _)
  unfold dhLo duHi dgHi dhT
  generalize k1_pay10 d (wlo wd) (glo g) (glo u) = D1 at h1 ⊢
  generalize k1_pay16 (k1_pay4 d) (whi wd) (ghi g) (ghi u) = D2 at h2 ⊢
  generalize k1_pay9 d (wlo wd) (glo g) = D3 at h3 ⊢
  generalize k1_pay15 (k1_pay4 d) (whi wd) (ghi g) = D4 at h4 ⊢
  generalize wlo wg = A1 at w1 ⊢
  generalize whi wg = A2 at w2 ⊢
  generalize wlo wu = A3 at w3 ⊢
  generalize whi wu = A4 at w4 ⊢
  pointwise [k1_pay17, k1_pay11, k1_pay5]
  simp only [h1, h2, h3, h4, w1, w2, w3, w4, ← EReal.coe_mul, coe_sum, ← EReal.coe_add]
  rw [sum_pieces, sum_pieces (fun f => factR (G r f) (A r f) * Wu f l)]
  congr 1
  ring

include hx in
theorem r_at (r : Fin 256) (l : Fin 1) : k1_pay18 x (ix2 r l) = ((rinv (X r) : ℝ) : EReal) := by
  pointwise [k1_pay18]
  simp only [hx, lit_eps, ← EReal.coe_mul, coe_sum, div_1024, ← EReal.coe_add, msq_1024, rsqrt_msq]

include hx hn hd in
theorem dx_at {v43 : FVec Ideal S256x1024 .f32} {v61 v73 : FVec Ideal S256x1536 .bf16} {v76 v80 : Vec Ideal S1536x1024 .bf16}
    (hH : ∀ r l, k1_pay17 v43 v61 v73 v76 v80 (ix2 r l) = ((H r l : ℝ) : EReal)) (r : Fin 256) (l : Fin 1024) :
    k1_pay1 d (k1_pay19 v43 v61 v73 v76 v80 x n) (ix2 r l) = ((D r l + (rinv (X r) * (H r l * N l)
      - X r l * (rinv (X r) * rinv (X r) * rinv (X r) * ((∑ k, H r k * N k * X r k) / 1024))) : ℝ) : EReal) := by
  have hr := r_at hx
  unfold k1_pay1 k1_pay19
  generalize k1_pay17 v43 v61 v73 v76 v80 = T at hH ⊢
  generalize k1_pay18 x = R at hr ⊢
  pointwise
  simp only [hx, hn, hd, hH, hr, ← EReal.coe_mul, coe_sum, div_1024, ← EReal.coe_sub, ← EReal.coe_add]

include hx in
theorem dn_at {v43 : FVec Ideal S256x1024 .f32} {v61 v73 : FVec Ideal S256x1536 .bf16} {v76 v80 : Vec Ideal S1536x1024 .bf16}
    (hH : ∀ r l, k1_pay17 v43 v61 v73 v76 v80 (ix2 r l) = ((H r l : ℝ) : EReal)) (old : S1x1024.Idx → EReal) (l : Fin 1024) :
    k1_pay3 (k1_pay20 v43 v61 v73 v76 v80 x) old (ix2 0 l) = old (ix2 0 l) + ∑ r, ((H r l * X r l * rinv (X r) : ℝ) : EReal) := by
  have hr := r_at hx
  unfold k1_pay3 k1_pay20
  generalize k1_pay17 v43 v61 v73 v76 v80 = T at hH ⊢
  generalize k1_pay18 x = R at hr ⊢
  pointwise
  simp only [hx, hH, hr, ← EReal.coe_mul]

end Whole

end Tile

/-! ### The blocks -/

section Blocks

variable (V : (c : Dev nD) → (b : Ref sig .tc) → Buf (Elt Ideal) ((c : Thread nD τ).loc b)) (c : Dev nD)

/-- Row `r` of tile `t`, and the tile and the place in it of a row. -/
def row1 (t : Fin cfg1.N) (r : Fin 256) : Fin 4096 := ⟨256 * t.val + r.val, by
  have := t.isLt
  have hN : cfg1.N = 16 := N_1
  have := r.isLt
  omega⟩

theorem split1 (i : Fin 4096) : ∃ (t : Fin cfg1.N) (r : Fin 256), row1 t r = i :=
  have hN : cfg1.N = 16 := N_1
  ⟨⟨i.val / 256, by have := i.isLt; omega⟩, ⟨i.val % 256, Nat.mod_lt _ (by norm_num)⟩, Fin.ext (Nat.div_add_mod i.val 256)⟩

theorem idx1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0)
    ∧ (win1_12.index t (0 : Fin 2) = 0 ∧ win1_12.index t (1 : Fin 2) = 0) :=
  (by decide +kernel : ∀ t : Fin grid1.N, _)

theorem blk1_0 (t : Fin cfg1.N) (r : Fin 256) (l : Fin 1024) : iblk1 V c 0 t (ix2 r l) = V c main_arg0 (ix2 (row1 t r) l) := by
  show V c (Pipeline.arrRef spec1 0) (((cfg1.win 0).blk t).view.emb (ix2 r l)) = _
  exact congrArg _ (at_tile (idx1 t).1 rfl rfl rfl)

theorem blk1_1 (t : Fin cfg1.N) (l : Fin 1024) : iblk1 V c 1 t (ix2 0 l) = V c main_arg1 (ix2 0 l) := by
  show V c (Pipeline.arrRef spec1 1) (((cfg1.win 1).blk t).view.emb (ix2 0 l)) = _
  exact congrArg _ (at_tile (idx1 t).2.1 rfl rfl (Nat.zero_add _).symm)

theorem blk1_2 (t : Fin cfg1.N) (r : Fin 256) (l : Fin 1024) : iblk1 V c 2 t (ix2 r l) = V c main_arg5 (ix2 (row1 t r) l) := by
  show V c (Pipeline.arrRef spec1 2) (((cfg1.win 2).blk t).view.emb (ix2 r l)) = _
  exact congrArg _ (at_tile (idx1 t).2.2.1 rfl rfl rfl)

theorem blk1_3 (t : Fin cfg1.N) (r : Fin 256) (l : Fin 2816) : iblk1 V c 3 t (ix2 r l) = V c main_v8_0 (ix2 (row1 t r) l) := by
  show V c (Pipeline.arrRef spec1 3) (((cfg1.win 3).blk t).view.emb (ix2 r l)) = _
  exact congrArg _ (at_tile (idx1 t).2.2.2.1 rfl rfl rfl)

theorem blk1_4 (t : Fin cfg1.N) (r : Fin 256) (l : Fin 2816) : iblk1 V c 4 t (ix2 r l) = V c main_v8_1 (ix2 (row1 t r) l) := by
  show V c (Pipeline.arrRef spec1 4) (((cfg1.win 4).blk t).view.emb (ix2 r l)) = _
  exact congrArg _ (at_tile (idx1 t).2.2.2.2.1 rfl rfl rfl)

theorem blk1_5 (t : Fin cfg1.N) (a : Fin 2816) (b : Fin 1024) : iblk1 V c 5 t (ix2 a b) = V c main_v2 (ix2 a b) := by
  show V c (Pipeline.arrRef spec1 5) (((cfg1.win 5).blk t).view.emb (ix2 a b)) = _
  exact congrArg _ (at_tile (idx1 t).2.2.2.2.2.1 rfl rfl (Nat.zero_add _).symm)

theorem blk1_6 (t : Fin cfg1.N) (a : Fin 2816) (b : Fin 1024) : iblk1 V c 6 t (ix2 a b) = V c main_v5 (ix2 a b) := by
  show V c (Pipeline.arrRef spec1 6) (((cfg1.win 6).blk t).view.emb (ix2 a b)) = _
  exact congrArg _ (at_tile (idx1 t).2.2.2.2.2.2.1 rfl rfl (Nat.zero_add _).symm)

theorem blk1_7 (t : Fin cfg1.N) (a : Fin 2816) (b : Fin 1024) : iblk1 V c 7 t (ix2 a b) = V c main_v7 (ix2 a b) := by
  show V c (Pipeline.arrRef spec1 7) (((cfg1.win 7).blk t).view.emb (ix2 a b)) = _
  exact congrArg _ (at_tile (idx1 t).2.2.2.2.2.2.2.1 rfl rfl (Nat.zero_add _).symm)

theorem arr1_8 (t : Fin cfg1.N) (r : Fin 256) (l : Fin 1024) :
    (dat1 V c).arrAt 8 cfg1.N (ix2 (row1 t r) l) = (outsAt1 V c t.val t.isLt).1 (ix2 r l) := by
  have h := (dat1 V c).read_blk_arrAt_eq_flushed 8 (fun t t' _ _ hne => (cfg1.win 8).disjoint_blk fun h => hne
    (Fin.ext ((idx1 t).2.2.2.2.2.2.2.2.1.1.symm.trans ((congrFun h (0 : Fin 2)).trans (idx1 t').2.2.2.2.2.2.2.2.1.1)))) cfg1.N t t.isLt (flush1_8 t)
  refine Eq.trans ?_ ((congrFun h (ix2 r l)).trans ?_)
  · show _ = (dat1 V c).arrAt 8 cfg1.N (((cfg1.win 8).blk t).view.emb (ix2 r l))
    exact congrArg _ (at_tile (idx1 t).2.2.2.2.2.2.2.2.1 rfl rfl rfl).symm
  · show (dat1 V c).after 8 t (ix2 r l) = _
    rw [after1_8]

theorem arr1_9 (t : Fin cfg1.N) (r : Fin 256) (l : Fin 2816) :
    (dat1 V c).arrAt 9 cfg1.N (ix2 (row1 t r) l) = (outsAt1 V c t.val t.isLt).2.1 (ix2 r l) := by
  have h := (dat1 V c).read_blk_arrAt_eq_flushed 9 (fun t t' _ _ hne => (cfg1.win 9).disjoint_blk fun h => hne
    (Fin.ext ((idx1 t).2.2.2.2.2.2.2.2.2.1.1.symm.trans ((congrFun h (0 : Fin 2)).trans (idx1 t').2.2.2.2.2.2.2.2.2.1.1)))) cfg1.N t t.isLt (flush1_9 t)
  refine Eq.trans ?_ ((congrFun h (ix2 r l)).trans ?_)
  · show _ = (dat1 V c).arrAt 9 cfg1.N (((cfg1.win 9).blk t).view.emb (ix2 r l))
    exact congrArg _ (at_tile (idx1 t).2.2.2.2.2.2.2.2.2.1 rfl rfl rfl).symm
  · show (dat1 V c).after 9 t (ix2 r l) = _
    rw [after1_9]

theorem arr1_10 (t : Fin cfg1.N) (r : Fin 256) (l : Fin 2816) :
    (dat1 V c).arrAt 10 cfg1.N (ix2 (row1 t r) l) = (outsAt1 V c t.val t.isLt).2.2.1 (ix2 r l) := by
  have h := (dat1 V c).read_blk_arrAt_eq_flushed 10 (fun t t' _ _ hne => (cfg1.win 10).disjoint_blk fun h => hne
    (Fin.ext ((idx1 t).2.2.2.2.2.2.2.2.2.2.1.1.symm.trans ((congrFun h (0 : Fin 2)).trans (idx1 t').2.2.2.2.2.2.2.2.2.2.1.1)))) cfg1.N t t.isLt (flush1_10 t)
  refine Eq.trans ?_ ((congrFun h (ix2 r l)).trans ?_)
  · show _ = (dat1 V c).arrAt 10 cfg1.N (((cfg1.win 10).blk t).view.emb (ix2 r l))
    exact congrArg _ (at_tile (idx1 t).2.2.2.2.2.2.2.2.2.2.1 rfl rfl rfl).symm
  · show (dat1 V c).after 10 t (ix2 r l) = _
    rw [after1_10]

theorem arr1_11 (t : Fin cfg1.N) (r : Fin 256) (l : Fin 1024) :
    (dat1 V c).arrAt 11 cfg1.N (ix2 (row1 t r) l) = (outsAt1 V c t.val t.isLt).2.2.2.1 (ix2 r l) := by
  have h := (dat1 V c).read_blk_arrAt_eq_flushed 11 (fun t t' _ _ hne => (cfg1.win 11).disjoint_blk fun h => hne
    (Fin.ext ((idx1 t).2.2.2.2.2.2.2.2.2.2.2.1.1.symm.trans ((congrFun h (0 : Fin 2)).trans (idx1 t').2.2.2.2.2.2.2.2.2.2.2.1.1)))) cfg1.N t t.isLt (flush1_11 t)
  refine Eq.trans ?_ ((congrFun h (ix2 r l)).trans ?_)
  · show _ = (dat1 V c).arrAt 11 cfg1.N (((cfg1.win 11).blk t).view.emb (ix2 r l))
    exact congrArg _ (at_tile (idx1 t).2.2.2.2.2.2.2.2.2.2.2.1 rfl rfl rfl).symm
  · show (dat1 V c).after 11 t (ix2 r l) = _
    rw [after1_11]

/-- The last point, which alone writes the sum back. -/
def last : Fin cfg1.N := ⟨15, lt_of_lt_of_eq (by decide) N_1.symm⟩

theorem arr1_12 : (dat1 V c).arrAt 12 cfg1.N = (outsAt1 V c last.val last.isLt).2.2.2.2 := by
  have hN : cfg1.N = 16 := N_1
  have emb : ∀ (t : Fin cfg1.N) (y : S1x1024.Idx), ((cfg1.win 12).blk t).view.emb y = y := fun t y => by
    obtain ⟨e0, e1⟩ := (idx1 t).2.2.2.2.2.2.2.2.2.2.2.2
    funext a
    apply Fin.ext
    match a with
    | ⟨0, _⟩ => show win1_12.index t (0 : Fin 2) * 1 + 1 * (y 0).val = (y 0).val; omega
    | ⟨1, _⟩ => show win1_12.index t (1 : Fin 2) * 1024 + 1 * (y 1).val = (y 1).val; omega
  refine (dat1 V c).arrAt_eq_of_cover 12 _ (fun t hf => ?_) fun i => ⟨last, (flush1_12 last).mpr rfl, ?_⟩
  · have e : t = last := Fin.ext (by have h7 := (flush1_12 t).mp hf; have := t.isLt; show t.val = 15; omega)
    subst e
    funext y
    show (dat1 V c).after 12 last y = (outsAt1 V c last.val last.isLt).2.2.2.2 (((cfg1.win 12).blk last).view.emb y)
    rw [emb, after1_12]
  · have h := ((cfg1.win 12).blk last).view.emb_mem_set i
    rwa [emb] at h

/-- Every point's rows are the tile's, whatever the running sum held. -/
theorem at_tile (t : Fin cfg1.N) : ∃ a, outsAt1 V c t.val t.isLt = backOf V c t a := by
  by_cases h : t.val % 16 = 0
  · exact ⟨_, first V c t h⟩
  · exact ⟨_, later V c t h _ rfl⟩

end Blocks

/-! ### The results -/

variable (m : (ℓ : Loc nD τ sig) → Buf (Elt Ideal) ℓ) (ρ : Dev nD → PrngReg) (c : Dev nD)

/-- What the backward call finds: the arguments, the weights as the forward call found them, and what that call left. -/
theorem e_0 : V2 m ρ c main_arg0 = m ((c : Thread nD τ).loc main_arg0) := W2_args m ρ c main_arg0 (by decide)
theorem e_1 : V2 m ρ c main_arg1 = m ((c : Thread nD τ).loc main_arg1) := W2_args m ρ c main_arg1 (by decide)
theorem e_5 : V2 m ρ c main_arg5 = m ((c : Thread nD τ).loc main_arg5) := W2_args m ρ c main_arg5 (by decide)
theorem e_v2 : V2 m ρ c main_v2 = V1 m ρ c main_v2 := W2_of m ρ c main_v2 (by decide)
theorem e_v5 : V2 m ρ c main_v5 = V1 m ρ c main_v5 := W2_of m ρ c main_v5 (by decide)
theorem e_v7 : V2 m ρ c main_v7 = V1 m ρ c main_v7 := W2_of m ρ c main_v7 (by decide)
theorem e_g : V2 m ρ c main_v8_0 = (dat0 (V1 m ρ) c).arrAt 4 cfg0.N := W2_arr m ρ c 4
theorem e_u : V2 m ρ c main_v8_1 = (dat0 (V1 m ρ) c).arrAt 5 cfg0.N := W2_arr m ρ c 5

section Values

variable {X D : (⟨2, ![4096, 1024]⟩ : Shape).Idx → ℝ} {N : (⟨2, ![1, 1024]⟩ : Shape).Idx → ℝ} {Wg Wu : (⟨3, ![1, 1024, 2816]⟩ : Shape).Idx → ℝ}
  {Wd : (⟨3, ![1, 2816, 1024]⟩ : Shape).Idx → ℝ}
  (hx : Reals (ι := (⟨2, ![4096, 1024]⟩ : Shape).Idx) (m ((c : Thread nD τ).loc main_arg0)) X)
  (hn : Reals (ι := (⟨2, ![1, 1024]⟩ : Shape).Idx) (m ((c : Thread nD τ).loc main_arg1)) N)
  (hg : Reals (ι := (⟨3, ![1, 1024, 2816]⟩ : Shape).Idx) (m ((c : Thread nD τ).loc main_arg2)) Wg)
  (hu : Reals (ι := (⟨3, ![1, 1024, 2816]⟩ : Shape).Idx) (m ((c : Thread nD τ).loc main_arg3)) Wu)
  (hw : Reals (ι := (⟨3, ![1, 2816, 1024]⟩ : Shape).Idx) (m ((c : Thread nD τ).loc main_arg4)) Wd)
  (hd : Reals (ι := (⟨2, ![4096, 1024]⟩ : Shape).Idx) (m ((c : Thread nD τ).loc main_arg5)) D)

include hx in
theorem b_x (t : Fin cfg1.N) (r : Fin 256) (l : Fin 1024) : iblk1 (V2 m ρ) c 0 t (ix2 r l) = ((rowOf X (row1 t r) l : ℝ) : EReal) :=
  (blk1_0 _ c t r l).trans ((congrFun (e_0 m ρ c) _).trans (hx _))
include hn in
theorem b_n (t : Fin cfg1.N) (l : Fin 1024) : iblk1 (V2 m ρ) c 1 t (ix2 0 l) = ((N (ix2 0 l) : ℝ) : EReal) :=
  (blk1_1 _ c t l).trans ((congrFun (e_1 m ρ c) _).trans (hn _))
include hd in
theorem b_d (t : Fin cfg1.N) (r : Fin 256) (l : Fin 1024) : iblk1 (V2 m ρ) c 2 t (ix2 r l) = ((D (ix2 (row1 t r) l) : ℝ) : EReal) :=
  (blk1_2 _ c t r l).trans ((congrFun (e_5 m ρ c) _).trans (hd _))
include hx hn hg hu in
theorem b_g (t : Fin cfg1.N) (r : Fin 256) (f : Fin 2816) : iblk1 (V2 m ρ) c 3 t (ix2 r f) = ((upR X N Wg (row1 t r) f : ℝ) : EReal) :=
  (blk1_3 _ c t r f).trans ((congrFun (e_g m ρ c) _).trans (gates_at m ρ c hx hn hg hu _ f).1)
include hx hn hg hu in
theorem b_u (t : Fin cfg1.N) (r : Fin 256) (f : Fin 2816) : iblk1 (V2 m ρ) c 4 t (ix2 r f) = ((upR X N Wu (row1 t r) f : ℝ) : EReal) :=
  (blk1_4 _ c t r f).trans ((congrFun (e_u m ρ c) _).trans (gates_at m ρ c hx hn hg hu _ f).2.1)
include hg in
theorem b_wg (t : Fin cfg1.N) (f : Fin 2816) (k : Fin 1024) : iblk1 (V2 m ρ) c 5 t (ix2 f k) = ((Wg (ix3 0 k f) : ℝ) : EReal) :=
  (blk1_5 _ c t f k).trans ((congrFun (e_v2 m ρ c) _).trans ((v2_at m ρ c f k).trans (hg _)))
include hu in
theorem b_wu (t : Fin cfg1.N) (f : Fin 2816) (k : Fin 1024) : iblk1 (V2 m ρ) c 6 t (ix2 f k) = ((Wu (ix3 0 k f) : ℝ) : EReal) :=
  (blk1_6 _ c t f k).trans ((congrFun (e_v5 m ρ c) _).trans ((v5_at m ρ c f k).trans (hu _)))
include hw in
theorem b_wd (t : Fin cfg1.N) (f : Fin 2816) (k : Fin 1024) : iblk1 (V2 m ρ) c 7 t (ix2 f k) = ((Wd (ix3 0 f k) : ℝ) : EReal) :=
  (blk1_7 _ c t f k).trans ((congrFun (e_v7 m ρ c) _).trans ((v7_at m ρ c f k).trans (hw _)))

include hx hn hg hu hw hd in
theorem dg_res (i : Fin 4096) (f : Fin 2816) : (dat1 (V2 m ρ) c).arrAt 9 cfg1.N (ix2 i f)
    = ((gateR (upR X N Wg i f) (upR X N Wu i f) (daR D Wd i f) : ℝ) : EReal) := by
  obtain ⟨t, r, rfl⟩ := split1 i
  obtain ⟨a, e⟩ := at_tile (V2 m ρ) c t
  rw [arr1_9, e]
  exact dg_at (D := fun r l => D (ix2 (row1 t r) l)) (G := fun r => upR X N Wg (row1 t r)) (U := fun r => upR X N Wu (row1 t r))
    (A := fun r => daR D Wd (row1 t r)) (Wd := fun f k => Wd (ix3 0 f k)) (b_d m ρ c hd t) (b_g m ρ c hx hn hg hu t)
    (b_u m ρ c hx hn hg hu t) (b_wd m ρ c hw t) (fun _ _ => rfl) r f

include hx hn hg hu hw hd in
theorem du_res (i : Fin 4096) (f : Fin 2816) : (dat1 (V2 m ρ) c).arrAt 10 cfg1.N (ix2 i f)
    = ((factR (upR X N Wg i f) (daR D Wd i f) : ℝ) : EReal) := by
  obtain ⟨t, r, rfl⟩ := split1 i
  obtain ⟨a, e⟩ := at_tile (V2 m ρ) c t
  rw [arr1_10, e]
  exact du_at (D := fun r l => D (ix2 (row1 t r) l)) (G := fun r => upR X N Wg (row1 t r))
    (A := fun r => daR D Wd (row1 t r)) (Wd := fun f k => Wd (ix3 0 f k)) (b_d m ρ c hd t) (b_g m ρ c hx hn hg hu t)
    (b_wd m ρ c hw t) (fun _ _ => rfl) r f

theorem dy_res (i : Fin 4096) (l : Fin 1024) : (dat1 (V2 m ρ) c).arrAt 11 cfg1.N (ix2 i l) = m ((c : Thread nD τ).loc main_arg5) (ix2 i l) := by
  obtain ⟨t, r, rfl⟩ := split1 i
  obtain ⟨a, e⟩ := at_tile (V2 m ρ) c t
  rw [arr1_11, e]
  exact (blk1_2 _ c t r l).trans (congrFun (e_5 m ρ c) _)

/-- The normed rows' gradient. -/
abbrev dH (X D : (⟨2, ![4096, 1024]⟩ : Shape).Idx → ℝ) (N : (⟨2, ![1, 1024]⟩ : Shape).Idx → ℝ) (Wg Wu : (⟨3, ![1, 1024, 2816]⟩ : Shape).Idx → ℝ)
    (Wd : (⟨3, ![1, 2816, 1024]⟩ : Shape).Idx → ℝ) : Fin 4096 → Fin 1024 → ℝ :=
  dhR Wg Wu (upR X N Wg) (upR X N Wu) (daR D Wd)

include hx hn hg hu hw hd in
theorem b_dh (t : Fin cfg1.N) (r : Fin 256) (l : Fin 1024) :
    k1_pay17 (dhLo (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t))
      (duHi (iblk1 (V2 m ρ) c 2 t) (iblk1 (V2 m ρ) c 3 t) (iblk1 (V2 m ρ) c 7 t))
      (dgHi (iblk1 (V2 m ρ) c 2 t) (iblk1 (V2 m ρ) c 3 t) (iblk1 (V2 m ρ) c 4 t) (iblk1 (V2 m ρ) c 7 t)) (whi (iblk1 (V2 m ρ) c 5 t)) (whi (iblk1 (V2 m ρ) c 6 t))
      (ix2 r l) = ((dH X D N Wg Wu Wd (row1 t r) l : ℝ) : EReal) :=
  dh_at (D := fun r l => D (ix2 (row1 t r) l)) (G := fun r => upR X N Wg (row1 t r)) (U := fun r => upR X N Wu (row1 t r))
    (A := fun r => daR D Wd (row1 t r)) (Wg := fun f k => Wg (ix3 0 k f)) (Wu := fun f k => Wu (ix3 0 k f)) (Wd := fun f k => Wd (ix3 0 f k))
    (b_d m ρ c hd t) (b_g m ρ c hx hn hg hu t) (b_u m ρ c hx hn hg hu t) (b_wg m ρ c hg t) (b_wu m ρ c hu t) (b_wd m ρ c hw t) (fun _ _ => rfl) r l

include hx hn hg hu hw hd in
theorem dx_res (i : Fin 4096) (l : Fin 1024) : (dat1 (V2 m ρ) c).arrAt 8 cfg1.N (ix2 i l)
    = ((D (ix2 i l) + dxR X N (dH X D N Wg Wu Wd) i l : ℝ) : EReal) := by
  obtain ⟨t, r, rfl⟩ := split1 i
  obtain ⟨a, e⟩ := at_tile (V2 m ρ) c t
  rw [arr1_8, e]
  exact dx_at (X := fun r => rowOf X (row1 t r)) (N := fun l => N (ix2 0 l)) (D := fun r l => D (ix2 (row1 t r) l))
    (H := fun r => dH X D N Wg Wu Wd (row1 t r)) (b_x m ρ c hx t) (b_n m ρ c hn t) (b_d m ρ c hd t) (b_dh m ρ c hx hn hg hu hw hd t) r l

/-- One row's share of the norm weight's gradient. -/
def dnRow (X : (⟨2, ![4096, 1024]⟩ : Shape).Idx → ℝ) (H : Fin 4096 → Fin 1024 → ℝ) (l : Fin 1024) (i : Fin 4096) : EReal :=
  ((H i l * X (ix2 i l) * rinv (rowOf X i) : ℝ) : EReal)

include hx hn hg hu hw hd in
theorem sum_tile (t : Fin cfg1.N) (old : S1x1024.Idx → EReal) (l : Fin 1024) : (backOf (V2 m ρ) c t old).2.2.2.2 (ix2 0 l)
    = old (ix2 0 l) + ∑ r : Fin 256, tot (dnRow X (dH X D N Wg Wu Wd) l) (256 * t.val + r.val) := by
  rw [show ∑ r : Fin 256, tot (dnRow X (dH X D N Wg Wu Wd) l) (256 * t.val + r.val) = ∑ r : Fin 256, dnRow X (dH X D N Wg Wu Wd) l (row1 t r) from
    Finset.sum_congr rfl fun r _ => tot_of (dnRow X (dH X D N Wg Wu Wd) l) (row1 t r) _ rfl]
  exact dn_at (X := fun r => rowOf X (row1 t r)) (H := fun r => dH X D N Wg Wu Wd (row1 t r)) (b_x m ρ c hx t)
    (b_dh m ρ c hx hn hg hu hw hd t) old l

include hx hn hg hu hw hd in
theorem sums (l : Fin 1024) : ∀ (n : ℕ) (h : n < cfg1.N), (outsAt1 (V2 m ρ) c n h).2.2.2.2 (ix2 0 l)
    = ∑ s ∈ Finset.range (n + 1), ∑ r : Fin 256, tot (dnRow X (dH X D N Wg Wu Wd) l) (256 * s + r.val)
  | 0, h => by
    rw [first (V2 m ρ) c ⟨0, h⟩ rfl, sum_tile m ρ c hx hn hg hu hw hd ⟨0, h⟩ (k1_pay2 (F := Ideal)) l, Finset.sum_range_one]
    have z : (k1_pay2 : FVec Ideal S1x1024 .f32) (ix2 0 l) = 0 := by pointwise [k1_pay2]
    rw [z, zero_add]
  | n + 1, h => by
    have hN : cfg1.N = 16 := N_1
    rw [later (V2 m ρ) c ⟨n + 1, h⟩ (by show ¬ (n + 1) % 16 = 0; omega) (outsAt1 (V2 m ρ) c n (Nat.lt_of_succ_lt h)) rfl,
      sum_tile m ρ c hx hn hg hu hw hd ⟨n + 1, h⟩ _ l, sums l n (Nat.lt_of_succ_lt h), ← Finset.sum_range_succ]

include hx hn hg hu hw hd in
theorem dn_res (l : Fin 1024) : (dat1 (V2 m ρ) c).arrAt 12 cfg1.N (ix2 0 l) = ((dnR X (dH X D N Wg Wu Wd) l : ℝ) : EReal) := by
  rw [arr1_12]
  refine (sums m ρ c hx hn hg hu hw hd l 15 last.isLt).trans ?_
  rw [sum_tiles 16 256 _ rfl]
  exact coe_sum _ _

end Values

end Cert.FfnKernelIdeal.Step
-- ==== Proof.FfnClaim.lean ====
module

public import proofs.«01_k».proof.Defs
public import proofs.«01_k».proof.Proof.Gen.FfnKernel.Frame
public import proofs.«01_k».proof.Proof.Gen.Pre_ffn_finite
public import proofs.«01_k».proof.Proof.FfnKer
public import proofs.«01_k».proof.Proof.PostClaim

@[expose] public section

noncomputable section

/-! The claims about the feed-forward block's two calls. -/

namespace Cert.FfnKernelIdeal.Step

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- The two calls run, and every buffer that outlives them ends as the second boundary says. -/
theorem run : θ_run defs (onTc (τ := τ) (main (F := F))) ⟨m, fun _ => 0, ρ⟩ (fun r => ∀ c : Dev nD, ∀ b ∈ Pipeline.ucRefs τ sig,
    r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact H
      iapply (show (BI.emp : sProp (MT nD τ sig Unit (Elt F) ℕ (UR sig nD τ) ℕ)) ⊢ bigSep Finset.univ (fun _ : Dev nD => BI.emp)
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, HO, -, Hp, -⟩, -⟩
      imodintro
      isplitl [Hb]; · iexact Hb
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hb, -⟩, HS⟩
      unfold StableHlo.held
      imodintro
      iapply (pointsTo_read_all (Pipeline.ucRefs τ sig) (fun b => (((c : Thread nD τ)).1, b)) (W3 m ρ c) s')
      isplitl [Hb] <;> iassumption)
    (hQ := fun _ h _ => h)

end Cert.FfnKernelIdeal.Step

namespace Cert.Proof

open Idealize.ShloMosaic Idealize.SL.Sem Cert.Num

/-- The precondition, array by array. -/
theorem ffn_bounds {x0 x1 x2 x3 x4 x5} (h : Cert.Pre_ffn_finite.fn (F := Ideal) x0 x1 x2 x3 x4 x5 = fun _ => 1#1) :
    (∀ i, x0 i < (⊤ : EReal) ∧ (⊥ : EReal) < x0 i) ∧ (∀ i, x1 i < (⊤ : EReal) ∧ (⊥ : EReal) < x1 i)
    ∧ (∀ i, x2 i < (⊤ : EReal) ∧ (⊥ : EReal) < x2 i) ∧ (∀ i, x3 i < (⊤ : EReal) ∧ (⊥ : EReal) < x3 i)
    ∧ (∀ i, x4 i < (⊤ : EReal) ∧ (⊥ : EReal) < x4 i) ∧ (∀ i, x5 i < (⊤ : EReal) ∧ (⊥ : EReal) < x5 i) := by
  have h := congrFun h (fun a => a.elim0)
  unfold Cert.Pre_ffn_finite.fn Cert.Pre_ffn_finite.fn_part1 Cert.Pre_ffn_finite.fn_part2 at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨finite_of _ _ _ _ _ _ _ h0, finite_of _ _ _ _ _ _ _ h1, finite_of _ _ _ _ _ _ _ h2, finite_of _ _ _ _ _ _ _ h3,
    finite_of _ _ _ _ _ _ _ h4, finite_of _ _ _ _ _ _ _ h5⟩

theorem ffn_frame : Cert.quiescent_FfnRefIdeal := fun m ρ _ =>
  (θ_run Cert.FfnRefIdeal.defs _ _).mono (fun r h => ⟨fun c => (h c).2.2.2.2.2.2.2.2.2, Idealize.ShloMosaic.sem_eq_zero_of_no_sems (by decide) r.2⟩)
    (Cert.FfnRefIdeal.Value.run (F := Ideal) m ρ)

set_option maxHeartbeats 2000000 in
open Cert.FfnKernelIdeal.Gen in
theorem ffn_algebraic : Cert.algebraic_FfnKernelIdeal_FfnRefIdeal_pre_ffn_finite := by
  intro m g m' g' hpre harg
  refine ⟨fun c => (dat1 (V2 m g) c).arrAt 8 Cert.FfnKernelIdeal.cfg1.N, fun c => (dat1 (V2 m g) c).arrAt 9 Cert.FfnKernelIdeal.cfg1.N, fun c => (dat1 (V2 m g) c).arrAt 10 Cert.FfnKernelIdeal.cfg1.N,
    fun c => (dat1 (V2 m g) c).arrAt 11 Cert.FfnKernelIdeal.cfg1.N, fun c => (dat1 (V2 m g) c).arrAt 12 Cert.FfnKernelIdeal.cfg1.N, fun c => (dat0 (V1 m g) c).arrAt 4 Cert.FfnKernelIdeal.cfg0.N,
    fun c => (dat0 (V1 m g) c).arrAt 5 Cert.FfnKernelIdeal.cfg0.N, fun c => (dat0 (V1 m g) c).arrAt 6 Cert.FfnKernelIdeal.cfg0.N, fun c => (dat0 (V1 m g) c).arrAt 7 Cert.FfnKernelIdeal.cfg0.N, ?_, ?_⟩
  · refine (θ_run Cert.FfnKernelIdeal.defs _ _).mono (fun r h c => ?_) (Cert.FfnKernelIdeal.Step.run m g)
    have k (b) (hb) := h c _ (mem_uc b hb)
    exact ⟨(k _ (by decide)).trans (W3_arr m g c 8), (k _ (by decide)).trans (W3_arr m g c 9), (k _ (by decide)).trans (W3_arr m g c 10),
      (k _ (by decide)).trans (W3_arr m g c 11), (k _ (by decide)).trans (W3_arr m g c 12),
      (k _ (by decide)).trans ((W3_of m g c _ (by decide)).trans (W2_arr m g c 4)),
      (k _ (by decide)).trans ((W3_of m g c _ (by decide)).trans (W2_arr m g c 5)),
      (k _ (by decide)).trans ((W3_of m g c _ (by decide)).trans (W2_arr m g c 6)),
      (k _ (by decide)).trans ((W3_of m g c _ (by decide)).trans (W2_arr m g c 7)),
      (k _ (by decide)).trans (W3_main_arg0 m g c), (k _ (by decide)).trans (W3_main_arg1 m g c), (k _ (by decide)).trans (W3_main_arg2 m g c),
      (k _ (by decide)).trans (W3_main_arg3 m g c), (k _ (by decide)).trans (W3_main_arg4 m g c), (k _ (by decide)).trans (W3_main_arg5 m g c)⟩
  refine (θ_run Cert.FfnRefIdeal.defs _ _).mono (fun r h c => ?_) (Cert.FfnRefIdeal.Value.run (F := Ideal) m' g')
  obtain ⟨e0, e1, e2, e3, e4, e5⟩ := harg c
  obtain ⟨b0, b1, b2, b3, b4, b5⟩ := ffn_bounds (hpre c)
  obtain ⟨X0, r0⟩ := Exists.intro (p := fun X => Reals _ X) _ (reals_of b0)
  obtain ⟨X1, r1⟩ := Exists.intro (p := fun X => Reals _ X) _ (reals_of b1)
  obtain ⟨X2, r2⟩ := Exists.intro (p := fun X => Reals _ X) _ (reals_of b2)
  obtain ⟨X3, r3⟩ := Exists.intro (p := fun X => Reals _ X) _ (reals_of b3)
  obtain ⟨X4, r4⟩ := Exists.intro (p := fun X => Reals _ X) _ (reals_of b4)
  obtain ⟨X5, r5⟩ := Exists.intro (p := fun X => Reals _ X) _ (reals_of b5)
  have s0 := r0
  have s1 := r1
  have s2 := r2
  have s3 := r3
  have s4 := r4
  have s5 := r5
  rw [← e0] at s0
  rw [← e1] at s1
  rw [← e2] at s2
  rw [← e3] at s3
  rw [← e4] at s4
  rw [← e5] at s5
  have hh := Cert.FfnRefIdeal.Step.normed_at s0 s1
  have hG := Cert.FfnRefIdeal.Step.up_at hh s2
  have hU := Cert.FfnRefIdeal.Step.up_at hh s3
  have hA := Cert.FfnRefIdeal.Step.da_at s5 s4
  have hH := Cert.FfnRefIdeal.Step.dh_at hG hU hA s2 s3
  obtain ⟨h0, h1, h2, h3, h4, h5, h6, h7, h8, hrest⟩ := h c
  refine ⟨h0.trans ?_, h1.trans ?_, h2.trans ?_, h3.trans ?_, h4.trans ?_, h5.trans ?_, h6.trans ?_, h7.trans ?_, h8.trans ?_, hrest⟩
  · funext j
    obtain ⟨i, l, rfl⟩ := ix2_of (a := 4096) (b := 1024) j
    refine Eq.trans ?_ (Cert.FfnKernelIdeal.Step.dx_res m g c r0 r1 r2 r3 r4 r5 i l).symm
    refine (congrFun (Cert.FfnRefIdeal.Step.out0_eq m' c) _).trans ?_
    rw [Cert.FfnRefIdeal.Step.same]
    exact Cert.FfnRefIdeal.Step.dx_at s5 s0 s1 hH i l
  · funext j
    obtain ⟨i, f, rfl⟩ := ix2_of (a := 4096) (b := 2816) j
    refine Eq.trans ?_ (Cert.FfnKernelIdeal.Step.dg_res m g c r0 r1 r2 r3 r4 r5 i f).symm
    refine (congrFun (Cert.FfnRefIdeal.Step.out1_eq m' c) _).trans ?_
    exact Cert.FfnRefIdeal.Step.dgate_at hG hU hA i f
  · funext j
    obtain ⟨i, f, rfl⟩ := ix2_of (a := 4096) (b := 2816) j
    refine Eq.trans ?_ (Cert.FfnKernelIdeal.Step.du_res m g c r0 r1 r2 r3 r4 r5 i f).symm
    exact Cert.FfnRefIdeal.Step.dfact_at hG hA i f
  · funext j
    obtain ⟨i, l, rfl⟩ := ix2_of (a := 4096) (b := 1024) j
    exact (congrFun e5 _).trans (Cert.FfnKernelIdeal.Step.dy_res m g c i l).symm
  · funext j
    obtain ⟨i, l, rfl⟩ := ix2_of (a := 1) (b := 1024) j
    obtain rfl : i = 0 := Subsingleton.elim _ _
    refine Eq.trans ?_ (Cert.FfnKernelIdeal.Step.dn_res m g c r0 r1 r2 r3 r4 r5 l).symm
    refine (congrFun (Cert.FfnRefIdeal.Step.out4_eq m' c) _).trans ?_
    rw [Cert.FfnRefIdeal.Step.same]
    exact Cert.PreRefIdeal.Step.dn_at s0 hH l
  · funext j
    obtain ⟨i, f, rfl⟩ := ix2_of (a := 4096) (b := 2816) j
    exact (hG i f).trans (Cert.FfnKernelIdeal.Step.gates_at m g c r0 r1 r2 r3 i f).1.symm
  · funext j
    obtain ⟨i, f, rfl⟩ := ix2_of (a := 4096) (b := 2816) j
    exact (hU i f).trans (Cert.FfnKernelIdeal.Step.gates_at m g c r0 r1 r2 r3 i f).2.1.symm
  · funext j
    obtain ⟨i, l, rfl⟩ := ix2_of (a := 4096) (b := 1024) j
    exact (hh i l).trans (Cert.FfnKernelIdeal.Step.H_at m g c r0 r1 i l).symm
  · funext j
    obtain ⟨i, f, rfl⟩ := ix2_of (a := 4096) (b := 2816) j
    exact (Cert.FfnRefIdeal.Step.act_at hG hU i f).trans (Cert.FfnKernelIdeal.Step.gates_at m g c r0 r1 r2 r3 i f).2.2.symm

end Cert.Proof
-- ==== Proof.LossStep.lean ====
module

public import proofs.«01_k».proof.Proof.FfnStep
public import proofs.«01_k».proof.Proof.Gen.LossKernelIdeal.Value

@[expose] public section

set_option maxRecDepth 16384

noncomputable section

/-! What one grid point of the feed-forward with the loss leaves in its buffers. -/

namespace Cert.LossKernelIdeal.Step

open Cert.LossKernelIdeal Cert.LossKernelIdeal.Gen
open Cert.FfnKernelIdeal.Step (both wlo whi hz)
open Idealize.ShloMosaic Idealize.ShloMosaic.TcCoe Idealize.ShloMosaic.Tactic

variable {F : FTy → Type} [FloatOps F]

theorem canon_both (a : Vec F S256x1280 .bf16) (b : Vec F S256x1536 .bf16) (h0 h1) :
    View.canon (Val := Elt F) (e := .bf16) [⟨Rect.unit (s := S256x2816) ![0, 1280] S256x1536.size h0, b⟩,
      ⟨Rect.unit (s := S256x2816) ![0, 0] S256x1280.size h1, a⟩] = both a b := Cert.FfnKernelIdeal.Step.canon_both a b h0 h1

section Tile

variable (x : Vec F S256x1024 .f32) (n : Vec F S1x1024 .f32) (wg wu wd : Vec F S2816x1024 .bf16) (tgt : Vec F S256x1024 .f32) (old : Vec F S1x128 .f32)

/-- The two pieces' shares of the block's output. -/
def yLo : FVec F S256x1024 .f32 :=
  k0_pay14 k0_pay6 (k0_pay7 x n (wlo wg)) (k0_pay8 x n (wlo wu)) (k0_pay11 x n (wlo wg)) k0_pay12 (wlo wd)
def yHi : FVec F S256x1024 .f32 := k0_pay20 (k0_pay5 x n) (whi wg) (whi wu) (whi wd)

/-- A tile: the cotangent, the gate, the factor, the normed rows, the gated product, the running loss. -/
def tile : Vec F S256x1024 .f32 × Vec F S256x2816 .bf16 × Vec F S256x2816 .bf16 × Vec F S256x1024 .bf16 × Vec F S256x2816 .bf16 × Vec F S1x128 .f32 :=
  ⟨k0_pay2 x (yLo x n wg wu wd) (yHi x n wg wu wd) tgt, both (k0_pay9 x n (wlo wg)) (k0_pay17 (k0_pay5 x n) (whi wg)),
    both (k0_pay10 x n (wlo wu)) (k0_pay18 (k0_pay5 x n) (whi wu)), k0_pay5 x n,
    both (k0_pay13 (k0_pay7 x n (wlo wg)) (k0_pay8 x n (wlo wu)) (k0_pay11 x n (wlo wg)) k0_pay12) (k0_pay19 (k0_pay5 x n) (whi wg) (whi wu)),
    k0_pay4 x (yLo x n wg wu wd) (yHi x n wg wu wd) tgt old⟩

end Tile

variable (m : (ℓ : Loc nD τ sig) → Buf (Elt F) ℓ) (c : Dev nD) (t : Fin cfg0.N)

/-- The tile of the arrays the call finds. -/
def tileOf (old : Vec F S1x128 .f32) :=
  tile (iblk m c 0 t) (iblk m c 1 t) (iblk m c 2 t) (iblk m c 3 t) (iblk m c 4 t) (iblk m c 5 t) old

theorem later (h0 : ¬ t.val % 16 = 0) (p) (hp : outsAt0 m c (t.val - 1) (Nat.lt_of_le_of_lt (Nat.sub_le _ _) t.isLt) = p) :
    outsAt0 m c t.val t.isLt = tileOf m c t p.2.2.2.2.2 := by
  rw [outsAt0_B m c t h0, hp]
  unfold out0_B_6 out0_B_7 out0_B_8 out0_B_9 out0_B_10 out0_B_11
  simp only [View.read_writes_junk_eq_canon]
  unfold kernelRun0_B
  dsimp only
  sl_unfold_words
  rw [canon_both, canon_both, canon_both, View.canon_cons_unit_zero (S := S256x1024) hz, View.canon_cons_unit_zero (S := S256x1024) hz,
    View.canon_cons_unit_zero (S := S1x128) hz]
  simp only [View.readAt_eq_ld, Memref.IsWhole.read_unread, View.ld_unit_zero (S := S256x1024) hz, View.ld_unit_zero (S := S1x1024) hz,
    View.ld_unit_zero (S := S1x128) hz]
  rfl

theorem first (h0 : t.val % 16 = 0) : outsAt0 m c t.val t.isLt = tileOf m c t k0_pay3 := by
  rw [outsAt0_A m c t h0]
  unfold out0_A_6 out0_A_7 out0_A_8 out0_A_9 out0_A_10 out0_A_11
  simp only [View.read_writes_junk_eq_canon]
  unfold kernelRun0_A
  dsimp only
  sl_unfold_words
  rw [canon_both, canon_both, canon_both, View.canon_cons_unit_zero (S := S256x1024) hz, View.canon_cons_unit_zero (S := S256x1024) hz,
    View.canon_cons_unit_zero (S := S1x128) hz]
  simp only [View.readCov_ld, View.canon_cons_unit_zero (S := S1x128) hz, View.readAt_eq_ld, Memref.IsWhole.read_unread,
    View.ld_unit_zero (S := S256x1024) hz, View.ld_unit_zero (S := S1x1024) hz, View.ld_unit_zero (S := S1x128) hz]
  rfl

end Cert.LossKernelIdeal.Step
-- ==== Proof.LossRef.lean ====
module

public import proofs.«01_k».proof.Proof.Gen.LossRefIdeal.Run
public import proofs.«01_k».proof.Proof.FfnRef

@[expose] public section

set_option maxRecDepth 16384

noncomputable section

/-! The feed-forward block with the squared error at its end: what the reference computes at an index. Nothing here needs
a finite argument: both programs add and multiply the same numbers, and the sums of squares are split by nonnegative
terms only. -/

namespace Cert.LossRefIdeal.Step

open Cert.LossRefIdeal Cert.LossRefIdeal.Gen Cert.LossRefIdeal.Value Cert.Num
open Cert.FfnRefIdeal.Step (Rows Scale Hid Win Wout ms across wide normed up ones gate)
open Idealize.ShloMosaic Idealize.ShloMosaic.TcCoe Idealize.ShloMosaic.Tactic

/-! ### The formulas, over the extended reals -/

/-- An entry of a normed row. -/
def hE (X N : Fin 1024 → EReal) (l : Fin 1024) : EReal :=
  X l * Ideal.rsqrt (Ideal.div (∑ k, X k * X k) (Ideal.ofBits .f32 0x44800000#32) + Ideal.ofBits .f32 0x358637BD#32) * N l

/-- The gated product of a gate and a factor. -/
def actE (g u : EReal) : EReal := g * Ideal.div 1 (1 + Ideal.exp (-g)) * u

/-- A row's distance from its target, with the block's half. -/
def diffE (x y t : EReal) : EReal := x + ((1 / 2 : ℝ) : EReal) * y - t

/-- A gate's (or the plain factor's) column, the block's output, and its distance from the target, of a row. -/
def upE (X N : Fin 1024 → EReal) (W : Fin 2816 → Fin 1024 → EReal) (f : Fin 2816) : EReal := ∑ k, hE X N k * W f k
def outE (X N : Fin 1024 → EReal) (Wg Wu Wd : Fin 2816 → Fin 1024 → EReal) (l : Fin 1024) : EReal :=
  ∑ f, actE (upE X N Wg f) (upE X N Wu f) * Wd f l
def rowE (X N : Fin 1024 → EReal) (Wg Wu Wd : Fin 2816 → Fin 1024 → EReal) (T : Fin 1024 → EReal) (l : Fin 1024) : EReal :=
  diffE (X l) (outE X N Wg Wu Wd l) (T l)

/-! ### The host's terms -/

def act (g u : Hid) : Hid := mulf (mulf g (gate g)) u

def out (a : Hid) (w : Wout) : Rows :=
  Host.dotGeneral dot_S4096x2816_S2816x1024_S4096x1024_1_0_0_1_n_n none a (shapeCast _ w shapeCasts_S1x2816x1024_S2816x1024)

def diff (x y t : Rows) : Rows :=
  subf (addf x (mulf (broadcastInDim S4096x1024 ![] bcast_S_S4096x1024 (constant S_ .f32 0x3F000000#32)) y)) t

def grad (d : Rows) : Rows :=
  mulf (broadcastInDim S4096x1024 ![0] bcast_S4096_S4096x1024_0 (Host.divf (broadcastInDim S4096 ![] bcast_S_S4096
      (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) d)

theorem normed_at (x : Rows) (n : Scale) (i : Fin 4096) (l : Fin 1024) :
    normed x n (ix2 i l) = hE (fun k => x (ix2 i k)) (fun k => n (ix2 0 k)) l := by
  unfold normed across wide ms
  pointwise
  rfl

theorem up_at (h : Rows) (w : Win) (i : Fin 4096) (f : Fin 2816) : up h w (ix2 i f) = ∑ k, h (ix2 i k) * w (ix3 0 k f) := by
  unfold up
  pointwise

theorem act_at (g u : Hid) (i : Fin 4096) (f : Fin 2816) : act g u (ix2 i f) = actE (g (ix2 i f)) (u (ix2 i f)) := by
  unfold act gate ones
  pointwise
  rfl

theorem out_at (a : Hid) (w : Wout) (i : Fin 4096) (l : Fin 1024) : out a w (ix2 i l) = ∑ f, a (ix2 i f) * w (ix3 0 f l) := by
  unfold out
  pointwise

theorem diff_at (x y t : Rows) (i : Fin 4096) (l : Fin 1024) : diff x y t (ix2 i l) = diffE (x (ix2 i l)) (y (ix2 i l)) (t (ix2 i l)) := by
  unfold diff
  pointwise
  simp only [lit_half]
  rfl

theorem grad_at (d : Rows) (i : Fin 4096) (l : Fin 1024) : grad d (ix2 i l) = d (ix2 i l) * ((1 / 1024 : ℝ) : EReal) := by
  unfold grad
  pointwise
  rw [lit_half, lit_1024, Ideal.div_coe (by norm_num), lit_two, ← EReal.coe_mul, ← mul_assoc, ← EReal.coe_mul, mul_comm]
  norm_num

/-- A finite factor goes past a sum, whatever the sum holds. -/
theorem sum_mul_coe {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- The loss, in every lane. -/
def total (d : Rows) : FVec Ideal S1x128 .f32 :=
  broadcastInDim S1x128 ![] bcast_S_S1x128 (mulf (constant S_ .f32 0x3F000000#32) (Host.reduceAdd (Host.divf
      (Host.reduceAdd (mulf d d) (constant S_ .f32 0x00000000#32) reducesTo_S4096x1024_S4096_d1 h_S_)
      (broadcastInDim S4096 ![] bcast_S_S4096 (constant S_ .f32 0x44800000#32)))
    (constant S_ .f32 0x00000000#32) reducesTo_S4096_S_d0 h_S_))

theorem total_at (d : Rows) (k : Fin 128) :
    total d (ix2 0 k) = (∑ i : Fin 4096, ∑ l : Fin 1024, d (ix2 i l) * d (ix2 i l)) * ((1 / 2048 : ℝ) : EReal) := by
  unfold total
  pointwise
  simp only [lit_half, lit_1024, Ideal.div_coe (show (1024 : ℝ) ≠ 0 by norm_num)]
  rw [sum_mul_coe _ _ (by norm_num), mul_left_comm, ← EReal.coe_mul]
  norm_num

section Run

variable (m : (ℓ : Loc nD τ sig) → Buf (Elt Ideal) ℓ) (c : Dev nD)

abbrev aX : Rows := m ((c.tc : Thread nD τ).loc main_arg0)
abbrev aN : Scale := m ((c.tc : Thread nD τ).loc main_arg1)
abbrev aWg : Win := m ((c.tc : Thread nD τ).loc main_arg2)
abbrev aWu : Win := m ((c.tc : Thread nD τ).loc main_arg3)
abbrev aWd : Wout := m ((c.tc : Thread nD τ).loc main_arg4)
abbrev aT : Rows := m ((c.tc : Thread nD τ).loc main_arg5)

abbrev gG : Hid := up (normed (aX m c) (aN m c)) (aWg m c)
abbrev gU : Hid := up (normed (aX m c) (aN m c)) (aWu m c)
abbrev gD : Rows := diff (aX m c) (out (act (gG m c) (gU m c)) (aWd m c)) (aT m c)

theorem total_eq : res_main_v50 (F := Ideal) m c = total (gD m c) := rfl

end Run

end Cert.LossRefIdeal.Step
-- ==== Proof.LossKer.lean ====
module

public import proofs.«01_k».proof.Proof.Tiles
public import proofs.«01_k».proof.Proof.FfnUp
public import proofs.«01_k».proof.Proof.LossStep
public import proofs.«01_k».proof.Proof.LossRef

@[expose] public section

set_option maxRecDepth 16384

noncomputable section

/-! The feed-forward with the loss: the kernel's six results at an index. -/

namespace Cert.LossKernelIdeal.Step

open Cert.LossKernelIdeal Cert.LossKernelIdeal.Gen Cert.LossKernelIdeal.Value Cert.Num
open Cert.LossRefIdeal.Step (hE actE diffE upE outE rowE)
open Cert.FfnKernelIdeal.Step (both both_at wlo wlo_at whi whi_at fLo fHi)
open Idealize.ShloMosaic Idealize.ShloMosaic.TcCoe Idealize.ShloMosaic.Tactic

theorem ix2_ext {n k : ℕ} {a b : (⟨2, ![n, k]⟩ : Shape).Idx} (h0 : (a 0).val = (b 0).val) (h1 : (a 1).val = (b 1).val) : a = b := by
  funext i
  apply Fin.ext
  match i with
  | ⟨0, _⟩ => exact h0
  | ⟨1, _⟩ => exact h1

/-! ### One tile -/

section Tile

variable (x : Vec Ideal S256x1024 .f32) (n : Vec Ideal S1x1024 .f32) (h : FVec Ideal S256x1024 .bf16)

theorem h_at (r : Fin 256) (l : Fin 1024) : k0_pay5 x n (ix2 r l) = hE (fun k => x (ix2 r k)) (fun k => n (ix2 0 k)) l := by
  pointwise [k0_pay5]
  rfl

theorem lo_at (w : Vec Ideal S1280x1024 .bf16) (r : Fin 256) (f : Fin 1280) :
    k0_pay7 x n w (ix2 r f) = ∑ k : Fin 1024, k0_pay5 x n (ix2 r k) * w (ix2 f k) := by
  unfold k0_pay7
  generalize k0_pay5 x n = G
  pointwise

theorem lo_eq (w : Vec Ideal S1280x1024 .bf16) : k0_pay8 x n w = k0_pay7 x n w := rfl

theorem hi_at (w : Vec Ideal S1536x1024 .bf16) (r : Fin 256) (f : Fin 1536) :
    k0_pay15 h w (ix2 r f) = ∑ k : Fin 1024, h (ix2 r k) * w (ix2 f k) := by
  unfold k0_pay15
  pointwise

theorem hi_eq (w : Vec Ideal S1536x1024 .bf16) : k0_pay16 h w = k0_pay15 h w := rfl

theorem act_lo (a b : Vec Ideal S1280x1024 .bf16) (r : Fin 256) (f : Fin 1280) :
    k0_pay13 (k0_pay7 x n a) (k0_pay7 x n b) (k0_pay11 x n a) k0_pay12 (ix2 r f) = actE (k0_pay7 x n a (ix2 r f)) (k0_pay7 x n b (ix2 r f)) := by
  unfold k0_pay11
  generalize k0_pay7 x n a = P
  generalize k0_pay7 x n b = Q
  pointwise [k0_pay13, k0_pay12]
  simp only [lit_one, zero_sub]
  rfl

theorem act_hi (a b : Vec Ideal S1536x1024 .bf16) (r : Fin 256) (f : Fin 1536) :
    k0_pay19 h a b (ix2 r f) = actE (k0_pay15 h a (ix2 r f)) (k0_pay15 h b (ix2 r f)) := by
  unfold k0_pay19
  rw [hi_eq]
  generalize k0_pay15 h a = P
  generalize k0_pay15 h b = Q
  pointwise
  simp only [lit_one, zero_sub]
  rfl

theorem y_lo (a b : FVec Ideal S256x1280 .f32) (e o : FVec Ideal S256x1280 .f32) (w : Vec Ideal S1280x1024 .bf16) (r : Fin 256) (l : Fin 1024) :
    k0_pay14 k0_pay6 a b e o w (ix2 r l) = ∑ f : Fin 1280, k0_pay13 a b e o (ix2 r f) * w (ix2 f l) := by
  unfold k0_pay14
  generalize k0_pay13 a b e o = P
  pointwise [k0_pay6]

theorem y_hi (a b : Vec Ideal S1536x1024 .bf16) (w : Vec Ideal S1536x1024 .bf16) (r : Fin 256) (l : Fin 1024) :
    k0_pay20 h a b w (ix2 r l) = ∑ f : Fin 1536, k0_pay19 h a b (ix2 r f) * w (ix2 f l) := by
  unfold k0_pay20
  generalize k0_pay19 h a b = P
  pointwise

theorem diff_at (p q : FVec Ideal S256x1024 .f32) (t : Vec Ideal S256x1024 .f32) (r : Fin 256) (l : Fin 1024) :
    k0_pay1 x p q t (ix2 r l) = diffE (x (ix2 r l)) (p (ix2 r l) + q (ix2 r l)) (t (ix2 r l)) := by
  pointwise [k0_pay1]
  rw [lit_half]
  rfl

theorem grad_at (p q : FVec Ideal S256x1024 .f32) (t : Vec Ideal S256x1024 .f32) (r : Fin 256) (l : Fin 1024) :
    k0_pay2 x p q t (ix2 r l) = k0_pay1 x p q t (ix2 r l) * ((1 / 1024 : ℝ) : EReal) := by
  unfold k0_pay2
  generalize k0_pay1 x p q t = P
  pointwise
  rw [lit_inv_1024]

theorem loss_at (p q : FVec Ideal S256x1024 .f32) (t : Vec Ideal S256x1024 .f32) (old : Vec Ideal S1x128 .f32) (j : Fin 128) :
    k0_pay4 x p q t old (ix2 0 j) = old (ix2 0 j)
      + (∑ r : Fin 256, ∑ l : Fin 1024, k0_pay1 x p q t (ix2 r l) * k0_pay1 x p q t (ix2 r l)) * ((1 / 2048 : ℝ) : EReal) := by
  unfold k0_pay4
  generalize k0_pay1 x p q t = P
  pointwise
  rw [lit_inv_2048]

variable (wg wu wd : Vec Ideal S2816x1024 .bf16) (tgt : Vec Ideal S256x1024 .f32) (old : Vec Ideal S1x128 .f32)

/-- A row of the tile, and the weights' columns, as functions. -/
abbrev rX (r : Fin 256) : Fin 1024 → EReal := fun k => x (ix2 r k)
abbrev rN : Fin 1024 → EReal := fun k => n (ix2 0 k)
abbrev cW (w : Vec Ideal S2816x1024 .bf16) : Fin 2816 → Fin 1024 → EReal := fun f k => w (ix2 f k)

theorem g_lo (w : Vec Ideal S2816x1024 .bf16) (r : Fin 256) (f : Fin 1280) :
    k0_pay7 x n (wlo w) (ix2 r f) = upE (rX x r) (rN n) (cW w) (fLo f) := by
  rw [lo_at]
  exact Finset.sum_congr rfl fun k _ => congrArg₂ (· * ·) (h_at x n r k) (wlo_at w f k)

theorem g_hi (w : Vec Ideal S2816x1024 .bf16) (r : Fin 256) (f : Fin 1536) :
    k0_pay15 (k0_pay5 x n) (whi w) (ix2 r f) = upE (rX x r) (rN n) (cW w) (fHi f) := by
  rw [hi_at]
  exact Finset.sum_congr rfl fun k _ => congrArg₂ (· * ·) (h_at x n r k) (whi_at w f k)

theorem a_lo (r : Fin 256) (f : Fin 1280) :
    k0_pay13 (k0_pay7 x n (wlo wg)) (k0_pay8 x n (wlo wu)) (k0_pay11 x n (wlo wg)) k0_pay12 (ix2 r f)
      = actE (upE (rX x r) (rN n) (cW wg) (fLo f)) (upE (rX x r) (rN n) (cW wu) (fLo f)) := by
  rw [lo_eq, act_lo, g_lo, g_lo]

theorem a_hi (r : Fin 256) (f : Fin 1536) : k0_pay19 (k0_pay5 x n) (whi wg) (whi wu) (ix2 r f)
      = actE (upE (rX x r) (rN n) (cW wg) (fHi f)) (upE (rX x r) (rN n) (cW wu) (fHi f)) := by
  rw [act_hi, g_hi, g_hi]

/-- Both pieces' shares make the whole output. -/
theorem y_at (r : Fin 256) (l : Fin 1024) :
    yLo x n wg wu wd (ix2 r l) + yHi x n wg wu wd (ix2 r l) = outE (rX x r) (rN n) (cW wg) (cW wu) (cW wd) l := by
  unfold yLo yHi outE
  rw [y_lo, y_hi]
  refine Eq.trans ?_ (Fin.sum_univ_add (a := 1280) (b := 1536) (fun f : Fin 2816 =>
    actE (upE (rX x r) (rN n) (cW wg) f) (upE (rX x r) (rN n) (cW wu) f) * cW wd f l)).symm
  exact congrArg₂ (· + ·) (Finset.sum_congr rfl fun f _ => congrArg₂ (· * ·) (a_lo x n wg wu r f) (wlo_at wd f l))
    (Finset.sum_congr rfl fun f _ => congrArg₂ (· * ·) (a_hi x n wg wu r f) (whi_at wd f l))

theorem row_at (r : Fin 256) (l : Fin 1024) : k0_pay1 x (yLo x n wg wu wd) (yHi x n wg wu wd) tgt (ix2 r l)
    = rowE (rX x r) (rN n) (cW wg) (cW wu) (cW wd) (rX tgt r) l := by
  rw [diff_at, y_at]
  rfl

/-- The tile's blocks. -/
theorem tile_grad (r : Fin 256) (l : Fin 1024) : (tile x n wg wu wd tgt old).1 (ix2 r l)
    = rowE (rX x r) (rN n) (cW wg) (cW wu) (cW wd) (rX tgt r) l * ((1 / 1024 : ℝ) : EReal) := by
  refine (grad_at x _ _ tgt r l).trans ?_
  rw [row_at]

theorem tile_up (r : Fin 256) (f : Fin 2816) :
    (tile x n wg wu wd tgt old).2.1 (ix2 r f) = upE (rX x r) (rN n) (cW wg) f
    ∧ (tile x n wg wu wd tgt old).2.2.1 (ix2 r f) = upE (rX x r) (rN n) (cW wu) f
    ∧ (tile x n wg wu wd tgt old).2.2.2.2.1 (ix2 r f) = actE (upE (rX x r) (rN n) (cW wg) f) (upE (rX x r) (rN n) (cW wu) f) :=
  ⟨both_at (P := fun r f => upE (rX x r) (rN n) (cW wg) f) (g_lo x n wg) (g_hi x n wg) r f,
    both_at (P := fun r f => upE (rX x r) (rN n) (cW wu) f) (g_lo x n wu) (g_hi x n wu) r f,
    both_at (P := fun r f => actE (upE (rX x r) (rN n) (cW wg) f) (upE (rX x r) (rN n) (cW wu) f)) (a_lo x n wg wu) (a_hi x n wg wu) r f⟩

theorem tile_loss (j : Fin 128) : (tile x n wg wu wd tgt old).2.2.2.2.2 (ix2 0 j) = old (ix2 0 j)
    + (∑ r : Fin 256, ∑ l : Fin 1024, rowE (rX x r) (rN n) (cW wg) (cW wu) (cW wd) (rX tgt r) l
        * rowE (rX x r) (rN n) (cW wg) (cW wu) (cW wd) (rX tgt r) l) * ((1 / 2048 : ℝ) : EReal) := by
  refine (loss_at x _ _ tgt old j).trans ?_
  simp only [row_at]

end Tile

/-! ### The blocks -/

section Blocks

variable (m : (ℓ : Loc nD τ sig) → Buf (Elt Ideal) ℓ) (c : Dev nD) (t : Fin cfg0.N)

/-- Row `r` of tile `t`, and the tile and the place in it of a row. -/
def row (r : Fin 256) : Fin 4096 := ⟨256 * t.val + r.val, by
  have := t.isLt
  have hN : cfg0.N = 16 := N_0
  have := r.isLt
  omega⟩

theorem split (i : Fin 4096) : ∃ (t : Fin cfg0.N) (r : Fin 256), row t r = i :=
  have hN : cfg0.N = 16 := N_0
  ⟨⟨i.val / 256, by have := i.isLt; omega⟩, ⟨i.val % 256, Nat.mod_lt _ (by norm_num)⟩, Fin.ext (Nat.div_add_mod i.val 256)⟩

theorem blk_0 (r : Fin 256) (l : Fin 1024) : iblk m c 0 t (ix2 r l) = m ((c : Thread nD τ).loc main_arg0) (ix2 (row t r) l) := by
  rw [← V_main_arg0 m c]
  exact congrArg (V m c main_arg0)
    (at_tile ((by decide +kernel : ∀ t : Fin grid0.N, win0_0.index t (0 : Fin 2) = t.val ∧ win0_0.index t (1 : Fin 2) = 0) t) rfl rfl rfl)

theorem blk_5 (r : Fin 256) (l : Fin 1024) : iblk m c 5 t (ix2 r l) = m ((c : Thread nD τ).loc main_arg5) (ix2 (row t r) l) := by
  rw [← V_main_arg5 m c]
  exact congrArg (V m c main_arg5)
    (at_tile ((by decide +kernel : ∀ t : Fin grid0.N, win0_5.index t (0 : Fin 2) = t.val ∧ win0_5.index t (1 : Fin 2) = 0) t) rfl rfl rfl)

theorem blk_1 (l : Fin 1024) : iblk m c 1 t (ix2 0 l) = m ((c : Thread nD τ).loc main_arg1) (ix2 0 l) := by
  rw [← V_main_arg1 m c]
  exact congrArg (V m c main_arg1)
    (at_tile ((by decide +kernel : ∀ t : Fin grid0.N, win0_1.index t (0 : Fin 2) = 0 ∧ win0_1.index t (1 : Fin 2) = 0) t) rfl rfl (Nat.zero_add _).symm)

theorem blk_2 (f : Fin 2816) (k : Fin 1024) : iblk m c 2 t (ix2 f k) = m ((c : Thread nD τ).loc main_arg2) (ix3 0 k f) := by
  refine (congrArg (V m c main_v2) (at_tile (i := f) (l := k)
    ((by decide +kernel : ∀ t : Fin grid0.N, win0_2.index t (0 : Fin 2) = 0 ∧ win0_2.index t (1 : Fin 2) = 0) t) rfl rfl (Nat.zero_add _).symm)).trans ?_
  unfold V
  after_results_simp
  pointwise

theorem blk_3 (f : Fin 2816) (k : Fin 1024) : iblk m c 3 t (ix2 f k) = m ((c : Thread nD τ).loc main_arg3) (ix3 0 k f) := by
  refine (congrArg (V m c main_v5) (at_tile (i := f) (l := k)
    ((by decide +kernel : ∀ t : Fin grid0.N, win0_3.index t (0 : Fin 2) = 0 ∧ win0_3.index t (1 : Fin 2) = 0) t) rfl rfl (Nat.zero_add _).symm)).trans ?_
  unfold V
  after_results_simp
  pointwise

theorem blk_4 (f : Fin 2816) (k : Fin 1024) : iblk m c 4 t (ix2 f k) = m ((c : Thread nD τ).loc main_arg4) (ix3 0 f k) := by
  refine (congrArg (V m c main_v7) (at_tile (i := f) (l := k)
    ((by decide +kernel : ∀ t : Fin grid0.N, win0_4.index t (0 : Fin 2) = 0 ∧ win0_4.index t (1 : Fin 2) = 0) t) rfl rfl (Nat.zero_add _).symm)).trans ?_
  unfold V
  after_results_simp
  pointwise

theorem arr_6 (r : Fin 256) (l : Fin 1024) : (dats m 0 c).arrAt 6 cfg0.N (ix2 (row t r) l) = (outsAt0 m c t.val t.isLt).1 (ix2 r l) := by
  refine Eq.trans (congrArg ((dats m 0 c).arrAt 6 cfg0.N) (at_tile (p := ((cfg0.win 6).blk t).view.emb (ix2 r l))
    ((by decide +kernel : ∀ t : Fin grid0.N, win0_6.index t (0 : Fin 2) = t.val ∧ win0_6.index t (1 : Fin 2) = 0) t) rfl rfl rfl).symm) ?_
  refine (congrFun (blocks6 m c t (flush0_6 t)) (ix2 r l)).trans ?_
  show (dats m 0 c).after 6 t (ix2 r l) = _
  rw [after0_6]

theorem arr_7 (r : Fin 256) (l : Fin 2816) : (dats m 0 c).arrAt 7 cfg0.N (ix2 (row t r) l) = (outsAt0 m c t.val t.isLt).2.1 (ix2 r l) := by
  refine Eq.trans (congrArg ((dats m 0 c).arrAt 7 cfg0.N) (at_tile (p := ((cfg0.win 7).blk t).view.emb (ix2 r l))
    ((by decide +kernel : ∀ t : Fin grid0.N, win0_7.index t (0 : Fin 2) = t.val ∧ win0_7.index t (1 : Fin 2) = 0) t) rfl rfl rfl).symm) ?_
  refine (congrFun (blocks7 m c t (flush0_7 t)) (ix2 r l)).trans ?_
  show (dats m 0 c).after 7 t (ix2 r l) = _
  rw [after0_7]

theorem arr_8 (r : Fin 256) (l : Fin 2816) : (dats m 0 c).arrAt 8 cfg0.N (ix2 (row t r) l) = (outsAt0 m c t.val t.isLt).2.2.1 (ix2 r l) := by
  refine Eq.trans (congrArg ((dats m 0 c).arrAt 8 cfg0.N) (at_tile (p := ((cfg0.win 8).blk t).view.emb (ix2 r l))
    ((by decide +kernel : ∀ t : Fin grid0.N, win0_8.index t (0 : Fin 2) = t.val ∧ win0_8.index t (1 : Fin 2) = 0) t) rfl rfl rfl).symm) ?_
  refine (congrFun (blocks8 m c t (flush0_8 t)) (ix2 r l)).trans ?_
  show (dats m 0 c).after 8 t (ix2 r l) = _
  rw [after0_8]

theorem arr_9 (r : Fin 256) (l : Fin 1024) : (dats m 0 c).arrAt 9 cfg0.N (ix2 (row t r) l) = (outsAt0 m c t.val t.isLt).2.2.2.1 (ix2 r l) := by
  refine Eq.trans (congrArg ((dats m 0 c).arrAt 9 cfg0.N) (at_tile (p := ((cfg0.win 9).blk t).view.emb (ix2 r l))
    ((by decide +kernel : ∀ t : Fin grid0.N, win0_9.index t (0 : Fin 2) = t.val ∧ win0_9.index t (1 : Fin 2) = 0) t) rfl rfl rfl).symm) ?_
  refine (congrFun (blocks9 m c t (flush0_9 t)) (ix2 r l)).trans ?_
  show (dats m 0 c).after 9 t (ix2 r l) = _
  rw [after0_9]

theorem arr_10 (r : Fin 256) (l : Fin 2816) : (dats m 0 c).arrAt 10 cfg0.N (ix2 (row t r) l) = (outsAt0 m c t.val t.isLt).2.2.2.2.1 (ix2 r l) := by
  refine Eq.trans (congrArg ((dats m 0 c).arrAt 10 cfg0.N) (at_tile (p := ((cfg0.win 10).blk t).view.emb (ix2 r l))
    ((by decide +kernel : ∀ t : Fin grid0.N, win0_10.index t (0 : Fin 2) = t.val ∧ win0_10.index t (1 : Fin 2) = 0) t) rfl rfl rfl).symm) ?_
  refine (congrFun (blocks10 m c t (flush0_10 t)) (ix2 r l)).trans ?_
  show (dats m 0 c).after 10 t (ix2 r l) = _
  rw [after0_10]

/-- The last point, which alone writes the loss back. -/
def last : Fin cfg0.N := ⟨15, lt_of_lt_of_eq (by decide) N_0.symm⟩

theorem arr_11 : (dats m 0 c).arrAt 11 cfg0.N = (outsAt0 m c last.val last.isLt).2.2.2.2.2 := by
  have hN : cfg0.N = 16 := N_0
  have emb : ∀ (t : Fin cfg0.N) (y : S1x128.Idx), ((cfg0.win 11).blk t).view.emb y = y := fun t y => by
    obtain ⟨e0, e1⟩ := (by decide +kernel : ∀ t : Fin grid0.N, win0_11.index t (0 : Fin 2) = 0 ∧ win0_11.index t (1 : Fin 2) = 0) t
    exact ix2_ext (by show win0_11.index t (0 : Fin 2) * 1 + 1 * (y 0).val = (y 0).val; omega)
      (by show win0_11.index t (1 : Fin 2) * 128 + 1 * (y 1).val = (y 1).val; omega)
  refine (dats m 0 c).arrAt_eq_of_cover 11 _ (fun t hf => ?_) fun i => ⟨last, (flush0_11 last).mpr rfl, ?_⟩
  · obtain rfl : t = last := Fin.ext (by have h := (flush0_11 t).mp hf; have := t.isLt; show t.val = 15; omega)
    funext y
    show (dats m 0 c).after 11 last y = (outsAt0 m c last.val last.isLt).2.2.2.2.2 (((cfg0.win 11).blk last).view.emb y)
    rw [emb, after0_11]
  · have h := ((cfg0.win 11).blk last).view.emb_mem_set i
    rwa [emb] at h

/-- Every point's rows are the tile's, whatever the running loss held. -/
theorem at_tile : ∃ a, outsAt0 m c t.val t.isLt = tileOf m c t a := by
  by_cases h : t.val % 16 = 0
  · exact ⟨_, first m c t h⟩
  · exact ⟨_, later m c t h _ rfl⟩

end Blocks

/-! ### The results -/

section Values

variable (m : (ℓ : Loc nD τ sig) → Buf (Elt Ideal) ℓ) (c : Dev nD)

/-- The arguments' rows and columns. -/
abbrev aX (i : Fin 4096) (k : Fin 1024) : EReal := m ((c : Thread nD τ).loc main_arg0) (ix2 i k)
abbrev aN (k : Fin 1024) : EReal := m ((c : Thread nD τ).loc main_arg1) (ix2 0 k)
abbrev aWg (f : Fin 2816) (k : Fin 1024) : EReal := m ((c : Thread nD τ).loc main_arg2) (ix3 0 k f)
abbrev aWu (f : Fin 2816) (k : Fin 1024) : EReal := m ((c : Thread nD τ).loc main_arg3) (ix3 0 k f)
abbrev aWd (f : Fin 2816) (k : Fin 1024) : EReal := m ((c : Thread nD τ).loc main_arg4) (ix3 0 f k)
abbrev aT (i : Fin 4096) (k : Fin 1024) : EReal := m ((c : Thread nD τ).loc main_arg5) (ix2 i k)
abbrev aRow (i : Fin 4096) : Fin 1024 → EReal := rowE (aX m c i) (aN m c) (aWg m c) (aWu m c) (aWd m c) (aT m c i)

section Point

variable (t : Fin cfg0.N) (r : Fin 256)

theorem e_x : rX (iblk m c 0 t) r = aX m c (row t r) := funext fun l => blk_0 m c t r l
theorem e_n : rN (iblk m c 1 t) = aN m c := funext fun l => blk_1 m c t l
theorem e_g : cW (iblk m c 2 t) = aWg m c := funext fun f => funext fun k => blk_2 m c t f k
theorem e_u : cW (iblk m c 3 t) = aWu m c := funext fun f => funext fun k => blk_3 m c t f k
theorem e_d : cW (iblk m c 4 t) = aWd m c := funext fun f => funext fun k => blk_4 m c t f k
theorem e_t : rX (iblk m c 5 t) r = aT m c (row t r) := funext fun l => blk_5 m c t r l

end Point

theorem grad_res (i : Fin 4096) (l : Fin 1024) : (dats m 0 c).arrAt 6 cfg0.N (ix2 i l) = aRow m c i l * ((1 / 1024 : ℝ) : EReal) := by
  obtain ⟨t, r, rfl⟩ := split i
  obtain ⟨a, e⟩ := at_tile m c t
  rw [arr_6, e]
  unfold tileOf
  rw [tile_grad, e_x, e_n, e_g, e_u, e_d, e_t]

theorem up_res (i : Fin 4096) (f : Fin 2816) : (dats m 0 c).arrAt 7 cfg0.N (ix2 i f) = upE (aX m c i) (aN m c) (aWg m c) f
    ∧ (dats m 0 c).arrAt 8 cfg0.N (ix2 i f) = upE (aX m c i) (aN m c) (aWu m c) f
    ∧ (dats m 0 c).arrAt 10 cfg0.N (ix2 i f) = actE (upE (aX m c i) (aN m c) (aWg m c) f) (upE (aX m c i) (aN m c) (aWu m c) f) := by
  obtain ⟨t, r, rfl⟩ := split i
  obtain ⟨a, e⟩ := at_tile m c t
  rw [arr_7, arr_8, arr_10, e]
  unfold tileOf
  have h := tile_up (iblk m c 0 t) (iblk m c 1 t) (iblk m c 2 t) (iblk m c 3 t) (iblk m c 4 t) (iblk m c 5 t) a r f
  rwa [e_x, e_n, e_g, e_u] at h

theorem h_res (i : Fin 4096) (l : Fin 1024) : (dats m 0 c).arrAt 9 cfg0.N (ix2 i l) = hE (aX m c i) (aN m c) l := by
  obtain ⟨t, r, rfl⟩ := split i
  obtain ⟨a, e⟩ := at_tile m c t
  rw [arr_9, e]
  refine (h_at (iblk m c 0 t) (iblk m c 1 t) r l).trans ?_
  rw [← e_x, ← e_n m c t]

/-- One row's share of the loss. -/
def lossRow (i : Fin 4096) : EReal := ∑ l, aRow m c i l * aRow m c i l

theorem loss_step (t : Fin cfg0.N) (old : Vec Ideal S1x128 .f32) (j : Fin 128) : (tileOf m c t old).2.2.2.2.2 (ix2 0 j)
    = old (ix2 0 j) + (∑ r : Fin 256, tot (lossRow m c) (256 * t.val + r.val)) * ((1 / 2048 : ℝ) : EReal) := by
  unfold tileOf
  rw [tile_loss, show ∑ r : Fin 256, tot (lossRow m c) (256 * t.val + r.val) = ∑ r : Fin 256, lossRow m c (row t r) from
    Finset.sum_congr rfl fun r _ => tot_of (lossRow m c) (row t r) _ rfl]
  simp only [e_x, e_n, e_g, e_u, e_d, e_t]
  rfl

theorem sums (j : Fin 128) : ∀ (n : ℕ) (h : n < cfg0.N), (outsAt0 m c n h).2.2.2.2.2 (ix2 0 j)
    = ∑ s ∈ Finset.range (n + 1), (∑ r : Fin 256, tot (lossRow m c) (256 * s + r.val)) * ((1 / 2048 : ℝ) : EReal)
  | 0, h => by
    rw [first m c ⟨0, h⟩ rfl, loss_step m c ⟨0, h⟩ (k0_pay3 (F := Ideal)) j, Finset.sum_range_one]
    have z : (k0_pay3 : FVec Ideal S1x128 .f32) (ix2 0 j) = 0 := by pointwise [k0_pay3]
    rw [z, zero_add]
  | n + 1, h => by
    have hN : cfg0.N = 16 := N_0
    rw [later m c ⟨n + 1, h⟩ (by show ¬ (n + 1) % 16 = 0; omega) (outsAt0 m c n (Nat.lt_of_succ_lt h)) rfl,
      loss_step m c ⟨n + 1, h⟩ _ j, sums j n (Nat.lt_of_succ_lt h), ← Finset.sum_range_succ]

theorem loss_res (j : Fin 128) : (dats m 0 c).arrAt 11 cfg0.N (ix2 0 j)
    = (∑ i, ∑ l, aRow m c i l * aRow m c i l) * ((1 / 2048 : ℝ) : EReal) := by
  rw [arr_11]
  refine (sums m c j 15 last.isLt).trans ?_
  rw [Cert.LossRefIdeal.Step.sum_mul_coe _ _ (by norm_num), sum_tiles 16 256 _ rfl]
  rfl

end Values

end Cert.LossKernelIdeal.Step
-- ==== Proof.LossClaim.lean ====
module

public import proofs.«01_k».proof.Defs
public import proofs.«01_k».proof.Proof.Gen.LossKernel.Frame
public import proofs.«01_k».proof.Proof.LossKer
public import proofs.«01_k».proof.Proof.PostClaim

@[expose] public section

noncomputable section

/-! The claims about the feed-forward call that ends in the loss. -/

namespace Cert.Proof

open Idealize.ShloMosaic Idealize.SL.Sem Cert.Num

theorem loss_frame : Cert.quiescent_LossRefIdeal := fun m ρ _ =>
  (θ_run Cert.LossRefIdeal.defs _ _).mono (fun r h => ⟨fun c => (h c).2.2.2.2.2.2, Idealize.ShloMosaic.sem_eq_zero_of_no_sems (by decide) r.2⟩)
    (Cert.LossRefIdeal.Value.run (F := Ideal) m ρ)

open Cert.LossRefIdeal.Step in
theorem loss_algebraic : Cert.algebraic_LossKernelIdeal_LossRefIdeal := by
  intro m g m' g' _ harg
  refine ⟨_, _, _, _, _, _, Cert.LossKernelIdeal.Value.run_blocks m g, ?_⟩
  refine (θ_run Cert.LossRefIdeal.defs _ _).mono (fun r h c => ?_) (Cert.LossRefIdeal.Value.run (F := Ideal) m' g')
  obtain ⟨e0, e1, e2, e3, e4, e5⟩ := harg c
  obtain ⟨h0, h1, h2, h3, h4, h5, hrest⟩ := h c
  have hh (i l) : Cert.FfnRefIdeal.Step.normed (aX m' c) (aN m' c) (ix2 i l) = hE (Cert.LossKernelIdeal.Step.aX m c i) (Cert.LossKernelIdeal.Step.aN m c) l := by
    rw [normed_at]
    unfold aX aN
    rw [e0, e1]
  have hG (i f) : gG m' c (ix2 i f)
      = upE (Cert.LossKernelIdeal.Step.aX m c i) (Cert.LossKernelIdeal.Step.aN m c) (Cert.LossKernelIdeal.Step.aWg m c) f := by
    unfold gG
    rw [up_at]
    refine Finset.sum_congr rfl fun k _ => congrArg₂ (· * ·) (hh i k) ?_
    exact congrFun e2 _
  have hU (i f) : gU m' c (ix2 i f)
      = upE (Cert.LossKernelIdeal.Step.aX m c i) (Cert.LossKernelIdeal.Step.aN m c) (Cert.LossKernelIdeal.Step.aWu m c) f := by
    unfold gU
    rw [up_at]
    refine Finset.sum_congr rfl fun k _ => congrArg₂ (· * ·) (hh i k) ?_
    exact congrFun e3 _
  have hA (i f) := (act_at (gG m' c) (gU m' c) i f).trans (congrArg₂ actE (hG i f) (hU i f))
  have hD (i l) : gD m' c (ix2 i l) = Cert.LossKernelIdeal.Step.aRow m c i l := by
    unfold gD
    rw [diff_at, out_at]
    refine congr (congrArg₂ diffE (congrFun e0 _) ?_) (congrFun e5 _)
    exact Finset.sum_congr rfl fun f _ => congrArg₂ (· * ·) (hA i f) (congrFun e4 _)
  refine ⟨h0.trans ?_, h1.trans ?_, h2.trans ?_, h3.trans ?_, h4.trans ?_, h5.trans ?_, hrest⟩
  · funext j
    obtain ⟨i, l, rfl⟩ := ix2_of (a := 4096) (b := 1024) j
    refine (grad_at (gD m' c) i l).trans ?_
    rw [hD]
    exact (Cert.LossKernelIdeal.Step.grad_res m c i l).symm
  · funext j
    obtain ⟨i, f, rfl⟩ := ix2_of (a := 4096) (b := 2816) j
    exact (hG i f).trans (Cert.LossKernelIdeal.Step.up_res m c i f).1.symm
  · funext j
    obtain ⟨i, f, rfl⟩ := ix2_of (a := 4096) (b := 2816) j
    exact (hU i f).trans (Cert.LossKernelIdeal.Step.up_res m c i f).2.1.symm
  · funext j
    obtain ⟨i, l, rfl⟩ := ix2_of (a := 4096) (b := 1024) j
    exact (hh i l).trans (Cert.LossKernelIdeal.Step.h_res m c i l).symm
  · funext j
    obtain ⟨i, f, rfl⟩ := ix2_of (a := 4096) (b := 2816) j
    exact (hA i f).trans (Cert.LossKernelIdeal.Step.up_res m c i f).2.2.symm
  · rw [total_eq]
    funext j
    obtain ⟨i, k, rfl⟩ := ix2_of (a := 1) (b := 128) j
    obtain rfl : i = 0 := Subsingleton.elim _ _
    refine (total_at (gD m' c) k).trans ?_
    simp only [hD]
    exact (Cert.LossKernelIdeal.Step.loss_res m c k).symm

end Cert.Proof
-- ==== Proof.RnnIdealFrame.lean ====
module

public import proofs.«01_k».proof.Proof.Gen.RnnKernelIdeal.Frame.RunA
public import proofs.«01_k».proof.Proof.Gen.RnnKernelIdeal.Frame.RunB
public import proofs.«01_k».proof.Proof.Gen.RnnKernelIdeal.Frame.RunC
public import Idealize.ShloMosaic.Lib.Claim

/-! The recurrence's backward call visits the tiles of the sequence last to first. Between two tiles it keeps seven
running sums and two rows of scratch. Here one record holds everything a tile leaves behind, one function takes the
record from a tile to the next, and the call is shown to terminate with its arguments untouched. -/

@[expose] public section

set_option maxRecDepth 16384

noncomputable section

namespace Cert.RnnKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RnnKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a tile leaves: its blocks of the two sequence gradients, the running sums of the seven parameter gradients,
the row handed to the tile before it, and the first eight rows of the convolution's gradient. -/
structure Left (F : FTy → Type) [FloatOps F] where
  dxr : Vec F S512x512 .bf16
  dgate : Vec F S512x512 .bf16
  dcw : Vec F S4x512 .f32
  dcb : Vec F S1x512 .f32
  dwa : Vec F S512x512 .f32
  dba : Vec F S1x512 .f32
  dwx : Vec F S512x512 .f32
  dbx : Vec F S1x512 .f32
  dlam : Vec F S1x512 .f32
  carry : Vec F S1x512 .f32
  ahead : Vec F S8x512 .f32

/-- The contents a list of stores leaves, where the stores cover the whole block. -/
def told {s : Shape} {e : EltTy} (v : View sig .tc .vmem s e) (L : List (View.Piece (Elt F) s e)) : Vec F s e :=
  v.read (Elt F) (v.writes (Elt F) v.junk L)

/-- A buffer whose stores cover it holds what the stores tell, whatever it held before. -/
theorem wrote {s : Shape} {e : EltTy} (c : Dev nD) (b : Memref sig .tc .vmem s e) (v : View sig .tc .vmem s e)
    (L : List (View.Piece (Elt F) s e)) (h : ∀ y, ∃ q ∈ L, y ∈ q.1.set) :
    (iprop(∃ f, b.view.loc (c : Thread nD τ) ↦[b.view.set]{fullShare} b.view.writes (Elt F) f L) : sProp 𝕄)
      ⊢ owns (c : Thread nD τ) b fullShare (told v L) := by
  iintro ⟨%f, H⟩
  unfold owns told
  iexists _
  isplitr
  swap
  · iexact H
  ipureintro
  exact View.read_writes_of_cover _ _ _ _ _ h

/-- The thirteen input blocks of a tile, and something more. -/
def ins (c : Dev nD) (t : Fin cfg0.N) (R : sProp 𝕄) : sProp 𝕄 :=
  iprop(owns (c : Thread nD τ) (ms0_0 t) fullShare (iblk m c 0 t) ∗ owns (c : Thread nD τ) (ms0_1 t) fullShare (iblk m c 1 t) ∗
    owns (c : Thread nD τ) (ms0_2 t) fullShare (iblk m c 2 t) ∗ owns (c : Thread nD τ) (ms0_3 t) fullShare (iblk m c 3 t) ∗
    owns (c : Thread nD τ) (ms0_4 t) fullShare (iblk m c 4 t) ∗ owns (c : Thread nD τ) (ms0_5 t) fullShare (iblk m c 5 t) ∗
    owns (c : Thread nD τ) (ms0_6 t) fullShare (iblk m c 6 t) ∗ owns (c : Thread nD τ) (ms0_7 t) fullShare (iblk m c 7 t) ∗
    owns (c : Thread nD τ) (ms0_8 t) fullShare (iblk m c 8 t) ∗ owns (c : Thread nD τ) (ms0_9 t) fullShare (iblk m c 9 t) ∗
    owns (c : Thread nD τ) (ms0_10 t) fullShare (iblk m c 10 t) ∗ owns (c : Thread nD τ) (ms0_11 t) fullShare (iblk m c 11 t) ∗
    owns (c : Thread nD τ) (ms0_12 t) fullShare (iblk m c 12 t) ∗ R)

theorem ins_mono (c : Dev nD) (t : Fin cfg0.N) {R R' : sProp 𝕄} (h : R ⊢ R') : ins m c t R ⊢ ins m c t R' := by
  unfold ins
  iterate 13 refine sep_mono_right ?_
  exact h

/-- The nine results' buffers and the scratch at a record's contents. -/
def outs (c : Dev nD) (t : Fin cfg0.N) (l : Left F) : sProp 𝕄 :=
  iprop(owns (c : Thread nD τ) (ms0_13 t) fullShare l.dxr ∗ owns (c : Thread nD τ) (ms0_14 t) fullShare l.dgate ∗
    owns (c : Thread nD τ) (ms0_15 t) fullShare l.dcw ∗ owns (c : Thread nD τ) (ms0_16 t) fullShare l.dcb ∗
    owns (c : Thread nD τ) (ms0_17 t) fullShare l.dwa ∗ owns (c : Thread nD τ) (ms0_18 t) fullShare l.dba ∗
    owns (c : Thread nD τ) (ms0_19 t) fullShare l.dwx ∗ owns (c : Thread nD τ) (ms0_20 t) fullShare l.dbx ∗
    owns (c : Thread nD τ) (ms0_21 t) fullShare l.dlam ∗ owns (c : Thread nD τ) scM0_0 fullShare l.carry ∗
    owns (c : Thread nD τ) scM0_1 fullShare l.ahead)

/-- The same, and something more. -/
def outsAnd (c : Dev nD) (t : Fin cfg0.N) (l : Left F) (R : sProp 𝕄) : sProp 𝕄 :=
  iprop(owns (c : Thread nD τ) (ms0_13 t) fullShare l.dxr ∗ owns (c : Thread nD τ) (ms0_14 t) fullShare l.dgate ∗
    owns (c : Thread nD τ) (ms0_15 t) fullShare l.dcw ∗ owns (c : Thread nD τ) (ms0_16 t) fullShare l.dcb ∗
    owns (c : Thread nD τ) (ms0_17 t) fullShare l.dwa ∗ owns (c : Thread nD τ) (ms0_18 t) fullShare l.dba ∗
    owns (c : Thread nD τ) (ms0_19 t) fullShare l.dwx ∗ owns (c : Thread nD τ) (ms0_20 t) fullShare l.dbx ∗
    owns (c : Thread nD τ) (ms0_21 t) fullShare l.dlam ∗ owns (c : Thread nD τ) scM0_0 fullShare l.carry ∗
    owns (c : Thread nD τ) scM0_1 fullShare l.ahead ∗ R)

/-- The stores of the last tile of the sequence, which starts the sums. -/
def firstRun (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

@[irreducible] def firstLeft (c : Dev nD) (t : Fin cfg0.N) (h0 : t.val % 8 = 0) (h1 : ¬t.val % 8 = 7) : Left F :=
  ⟨told VO0_13 (firstRun m c t h0 h1).1, told VO0_14 (firstRun m c t h0 h1).2.1,
   told VO0_15 (firstRun m c t h0 h1).2.2.1, told VO0_16 (firstRun m c t h0 h1).2.2.2.1,
   told VO0_17 (firstRun m c t h0 h1).2.2.2.2.1, told VO0_18 (firstRun m c t h0 h1).2.2.2.2.2.1,
   told VO0_19 (firstRun m c t h0 h1).2.2.2.2.2.2.1, told VO0_20 (firstRun m c t h0 h1).2.2.2.2.2.2.2.1,
   told VO0_21 (firstRun m c t h0 h1).2.2.2.2.2.2.2.2.1, told scM0_0.view (firstRun m c t h0 h1).2.2.2.2.2.2.2.2.2.1,
   told scM0_1.view (firstRun m c t h0 h1).2.2.2.2.2.2.2.2.2.2.1⟩

theorem first_run (c : Dev nD) (t : Fin cfg0.N) (h0 : t.val % 8 = 0) (h1 : ¬t.val % 8 = 7) (p : Left F) (K : PUnit → sProp 𝕄) :
    ins m c t (outsAnd c t p iprop(ins m c t (outs c t (firstLeft m c t h0 h1)) -∗ K ⟨⟩))
      ⊢ wp frame (wpE (defs₀ (F := F)) Variants.none c none) Set.univ (bodyAt0 t) K := by
  refine (ins_mono m c t ?_).trans ((firstRun m c t h0 h1).2.2.2.2.2.2.2.2.2.2.2 Set.univ K)
  unfold outsAnd
  iterate 11 refine sep_mono (exists_intro _) ?_
  refine wand_mono_left (ins_mono m c t ?_)
  unfold outs firstLeft
  dsimp only
  refine BIClass.sep_mono (wrote c _ _ _ ?_) ?_
  · exact View.cover_of_tiledL _ ![512, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledBy _ ![1, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![1, 512] (by sl_kernel_rfl)
  refine BIClass.sep_mono (wrote c scM0_0 scM0_0.view _ ?_) ?_
  · exact View.cover_of_tiledL _ ![1, 512] (by sl_kernel_rfl)
  refine wrote c scM0_1 scM0_1.view _ ?_
  · exact View.cover_of_tiledL _ ![8, 512] (by sl_kernel_rfl)

/-- The stores of a tile between the two ends. -/
def innerRun (c : Dev nD) (t : Fin cfg0.N) (h0 : ¬t.val % 8 = 0) (h1 : ¬t.val % 8 = 7) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.dcw p.dcb p.dwa p.dba p.dwx p.dbx p.dlam p.carry p.ahead

@[irreducible] def innerLeft (c : Dev nD) (t : Fin cfg0.N) (h0 : ¬t.val % 8 = 0) (h1 : ¬t.val % 8 = 7) (p : Left F) : Left F :=
  ⟨told VO0_13 (innerRun m c t h0 h1 p).1, told VO0_14 (innerRun m c t h0 h1 p).2.1,
   told VO0_15 (innerRun m c t h0 h1 p).2.2.1, told VO0_16 (innerRun m c t h0 h1 p).2.2.2.1,
   told VO0_17 (innerRun m c t h0 h1 p).2.2.2.2.1, told VO0_18 (innerRun m c t h0 h1 p).2.2.2.2.2.1,
   told VO0_19 (innerRun m c t h0 h1 p).2.2.2.2.2.2.1, told VO0_20 (innerRun m c t h0 h1 p).2.2.2.2.2.2.2.1,
   told VO0_21 (innerRun m c t h0 h1 p).2.2.2.2.2.2.2.2.1, told scM0_0.view (innerRun m c t h0 h1 p).2.2.2.2.2.2.2.2.2.1,
   told scM0_1.view (innerRun m c t h0 h1 p).2.2.2.2.2.2.2.2.2.2.1⟩

theorem inner_run (c : Dev nD) (t : Fin cfg0.N) (h0 : ¬t.val % 8 = 0) (h1 : ¬t.val % 8 = 7) (p : Left F) (K : PUnit → sProp 𝕄) :
    ins m c t (outsAnd c t p iprop(ins m c t (outs c t (innerLeft m c t h0 h1 p)) -∗ K ⟨⟩))
      ⊢ wp frame (wpE (defs₀ (F := F)) Variants.none c none) Set.univ (bodyAt0 t) K := by
  refine (ins_mono m c t ?_).trans ((innerRun m c t h0 h1 p).2.2.2.2.2.2.2.2.2.2.2 Set.univ K)
  unfold outsAnd
  iterate 2 refine sep_mono (exists_intro _) ?_
  iterate 9 refine sep_mono_right ?_
  refine wand_mono_left (ins_mono m c t ?_)
  unfold outs innerLeft
  dsimp only
  refine BIClass.sep_mono (wrote c _ _ _ ?_) ?_
  · exact View.cover_of_tiledL _ ![512, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledBy _ ![1, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![1, 512] (by sl_kernel_rfl)
  refine BIClass.sep_mono (wrote c scM0_0 scM0_0.view _ ?_) ?_
  · exact View.cover_of_tiledL _ ![1, 512] (by sl_kernel_rfl)
  refine wrote c scM0_1 scM0_1.view _ ?_
  · exact View.cover_of_tiledL _ ![8, 512] (by sl_kernel_rfl)

/-- The stores of the first tile of the sequence, which finishes the sums. -/
def finalRun (c : Dev nD) (t : Fin cfg0.N) (h0 : ¬t.val % 8 = 0) (h1 : t.val % 8 = 7) (p : Left F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.dcw p.dcb p.dwa p.dba p.dwx p.dbx p.dlam p.carry p.ahead

@[irreducible] def finalLeft (c : Dev nD) (t : Fin cfg0.N) (h0 : ¬t.val % 8 = 0) (h1 : t.val % 8 = 7) (p : Left F) : Left F :=
  ⟨told VO0_13 (finalRun m c t h0 h1 p).1, told VO0_14 (finalRun m c t h0 h1 p).2.1,
   told VO0_15 (finalRun m c t h0 h1 p).2.2.1, told VO0_16 (finalRun m c t h0 h1 p).2.2.2.1,
   told VO0_17 (finalRun m c t h0 h1 p).2.2.2.2.1, told VO0_18 (finalRun m c t h0 h1 p).2.2.2.2.2.1,
   told VO0_19 (finalRun m c t h0 h1 p).2.2.2.2.2.2.1, told VO0_20 (finalRun m c t h0 h1 p).2.2.2.2.2.2.2.1,
   told VO0_21 (finalRun m c t h0 h1 p).2.2.2.2.2.2.2.2.1, told scM0_0.view (finalRun m c t h0 h1 p).2.2.2.2.2.2.2.2.2.1,
   told scM0_1.view (finalRun m c t h0 h1 p).2.2.2.2.2.2.2.2.2.2.1⟩

theorem final_run (c : Dev nD) (t : Fin cfg0.N) (h0 : ¬t.val % 8 = 0) (h1 : t.val % 8 = 7) (p : Left F) (K : PUnit → sProp 𝕄) :
    ins m c t (outsAnd c t p iprop(ins m c t (outs c t (finalLeft m c t h0 h1 p)) -∗ K ⟨⟩))
      ⊢ wp frame (wpE (defs₀ (F := F)) Variants.none c none) Set.univ (bodyAt0 t) K := by
  refine (ins_mono m c t ?_).trans ((finalRun m c t h0 h1 p).2.2.2.2.2.2.2.2.2.2.2 Set.univ K)
  unfold outsAnd
  iterate 2 refine sep_mono (exists_intro _) ?_
  iterate 9 refine sep_mono_right ?_
  refine wand_mono_left (ins_mono m c t ?_)
  unfold outs finalLeft
  dsimp only
  refine BIClass.sep_mono (wrote c _ _ _ ?_) ?_
  · exact View.cover_of_tiledL _ ![512, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledBy _ ![1, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![512, 512] (by sl_kernel_rfl)
  refine BIClass.sep_mono (wrote c _ _ _ ?_) ?_
  · exact View.cover_of_tiledL _ ![1, 512] (by sl_kernel_rfl)
  refine BIClass.sep_mono (wrote c _ _ _ ?_) ?_
  · exact View.cover_of_tiledL _ ![1, 512] (by sl_kernel_rfl)
  refine BIClass.sep_mono (wrote c scM0_0 scM0_0.view _ ?_) ?_
  · exact View.cover_of_tiledL _ ![1, 512] (by sl_kernel_rfl)
  refine wrote c scM0_1 scM0_1.view _ ?_
  · exact View.cover_of_tiledL _ ![8, 512] (by sl_kernel_rfl)

/-- One tile: from what the tile after it left to what it leaves. -/
def step (c : Dev nD) (t : Fin cfg0.N) (p : Left F) : Left F :=
  if h0 : t.val % 8 = 0 then (if h1 : t.val % 8 = 7 then p else firstLeft m c t h0 h1)
  else if h1 : t.val % 8 = 7 then finalLeft m c t h0 h1 p else innerLeft m c t h0 h1 p

theorem step_run (c : Dev nD) (t : Fin cfg0.N) (p : Left F) (K : PUnit → sProp 𝕄) :
    ins m c t (outsAnd c t p iprop(ins m c t (outs c t (step m c t p)) -∗ K ⟨⟩))
      ⊢ wp frame (wpE (defs₀ (F := F)) Variants.none c none) Set.univ (bodyAt0 t) K := by
  by_cases h0 : t.val % 8 = 0
  · have h1 : ¬t.val % 8 = 7 := by omega
    rw [show step m c t p = firstLeft m c t h0 h1 from (dif_pos h0).trans (dif_neg h1)]
    exact first_run m c t h0 h1 p K
  · by_cases h1 : t.val % 8 = 7
    · rw [show step m c t p = finalLeft m c t h0 h1 p from (dif_neg h0).trans (dif_pos h1)]
      exact final_run m c t h0 h1 p K
    · rw [show step m c t p = innerLeft m c t h0 h1 p from (dif_neg h0).trans (dif_neg h1)]
      exact inner_run m c t h0 h1 p K

/-- What the first `n` tiles visited leave. -/
def left (c : Dev nD) : ℕ → Left F
  | 0 => ⟨told VO0_13 [], told VO0_14 [], told VO0_15 [], told VO0_16 [],
      told VO0_17 [], told VO0_18 [], told VO0_19 [], told VO0_20 [],
      told VO0_21 [], told scM0_0.view [], told scM0_1.view []⟩
  | n + 1 => if h : n < cfg0.N then step m c ⟨n, h⟩ (left c n) else left c n

theorem left_succ (c : Dev nD) (t : Fin cfg0.N) : left m c (t.val + 1) = step m c t (left m c t.val) := by
  rw [left, dif_pos t.isLt]

/-- A tile reads nothing of the two sequence gradients' blocks, and the last tile of the sequence nothing at all. -/
theorem step_eq (c : Dev nD) (t : Fin cfg0.N) (p : Left F)
    (hp : t.val ≠ 0 → p = { left m c t.val with dxr := p.dxr, dgate := p.dgate }) :
    step m c t p = left m c (t.val + 1) := by
  rw [left_succ]
  have hN : t.val < 8 := lt_of_lt_of_eq t.isLt (show cfg0.N = 8 from N_0)
  by_cases hz : t.val = 0
  · have h0 : t.val % 8 = 0 := by omega
    have h1 : ¬t.val % 8 = 7 := by omega
    exact ((dif_pos h0).trans (dif_neg h1)).trans ((dif_pos h0).trans (dif_neg h1)).symm
  · have h0 : ¬t.val % 8 = 0 := by omega
    rw [hp hz]
    by_cases h1 : t.val % 8 = 7
    · refine ((dif_neg h0).trans (dif_pos h1)).trans (.trans ?_ ((dif_neg h0).trans (dif_pos h1)).symm)
      unfold finalLeft finalRun
      rfl
    · refine ((dif_neg h0).trans (dif_neg h1)).trans (.trans ?_ ((dif_neg h0).trans (dif_neg h1)).symm)
      unfold innerLeft innerRun
      rfl

/-- What is kept between two tiles: before the first one the scratch holds anything, later what was left in it. -/
def Kept (c : Dev nD) (n : ℕ) : sProp 𝕄 :=
  if n = 0 then Pipeline.ΦA spec0 c
  else iprop(iprop(owns (c : Thread nD τ) scM0_0 fullShare (left m c n).carry
    ∗ owns (c : Thread nD τ) scM0_1 fullShare (left m c n).ahead) ∗ (∃ r, prngReg c r))

theorem kept_open (c : Dev nD) (n : ℕ) : Kept m c n ⊢ iprop(∃ a, ∃ b,
    ⌜n ≠ 0 → a = (left m c n).carry ∧ b = (left m c n).ahead⌝ ∗ owns (c : Thread nD τ) scM0_0 fullShare a
      ∗ owns (c : Thread nD τ) scM0_1 fullShare b ∗ (∃ r, prngReg c r)) := by
  unfold Kept
  by_cases hz : n = 0
  · rw [if_pos hz, PhiA0_eq]
    iintro ⟨⟨⟨%a, HA⟩, ⟨%b, HB⟩⟩, Hg⟩
    iexists a
    iexists b
    isplitr
    · ipureintro
      exact fun h => absurd hz h
    isplitl [HA]
    · iexact HA
    isplitl [HB]
    · iexact HB
    iexact Hg
  · rw [if_neg hz]
    iintro ⟨⟨HA, HB⟩, Hg⟩
    iexists _
    iexists _
    isplitr
    swap
    · isplitl [HA]
      · iexact HA
      isplitl [HB]
      · iexact HB
      iexact Hg
    ipureintro
    exact fun _ => ⟨rfl, rfl⟩

/-- The pipeline's data: inputs stay at their blocks, results are at what the tiles so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c (t.val + 1)).dxr
    | ⟨14, _⟩ => (left m c (t.val + 1)).dgate
    | ⟨15, _⟩ => (left m c (t.val + 1)).dcw
    | ⟨16, _⟩ => (left m c (t.val + 1)).dcb
    | ⟨17, _⟩ => (left m c (t.val + 1)).dwa
    | ⟨18, _⟩ => (left m c (t.val + 1)).dba
    | ⟨19, _⟩ => (left m c (t.val + 1)).dwx
    | ⟨20, _⟩ => (left m c (t.val + 1)).dbx
    | ⟨21, _⟩ => (left m c (t.val + 1)).dlam
    | ⟨_ + 22, h⟩ => absurd h (Nat.not_lt.2 (Nat.le_add_left _ _))
  Φ t := Kept m c t.val
  q w := Pipeline.shareOf spec0 w
  owed _ := 0

theorem A_eq (c : Dev nD) (w : Fin cfg0.W) : (dats m 0 c).A w = V m c (Pipeline.arrRef spec0 w) := by
  dsimp only [dats]

theorem had_dcw (c : Dev nD) (t : Fin cfg0.N) (hz : t.val ≠ 0) (d) :
    (dats m 0 c).before 15 t d = (left m c t.val).dcw := by
  have hN : t.val < 8 := lt_of_lt_of_eq t.isLt (show cfg0.N = 8 from N_0)
  rw [Dat.before_out_kept _ 15 rfl t hz
    (Bool.eq_false_iff.mpr fun h => by have := (flush0_15 _).mp h; dsimp only at this; omega)
    (fun _ => rfl) (fun _ _ => rfl)]
  dsimp only [dats]
  rw [Nat.sub_add_cancel (Nat.pos_of_ne_zero hz)]

theorem had_dcb (c : Dev nD) (t : Fin cfg0.N) (hz : t.val ≠ 0) (d) :
    (dats m 0 c).before 16 t d = (left m c t.val).dcb := by
  have hN : t.val < 8 := lt_of_lt_of_eq t.isLt (show cfg0.N = 8 from N_0)
  rw [Dat.before_out_kept _ 16 rfl t hz
    (Bool.eq_false_iff.mpr fun h => by have := (flush0_16 _).mp h; dsimp only at this; omega)
    (fun _ => rfl) (fun _ _ => rfl)]
  dsimp only [dats]
  rw [Nat.sub_add_cancel (Nat.pos_of_ne_zero hz)]

theorem had_dwa (c : Dev nD) (t : Fin cfg0.N) (hz : t.val ≠ 0) (d) :
    (dats m 0 c).before 17 t d = (left m c t.val).dwa := by
  have hN : t.val < 8 := lt_of_lt_of_eq t.isLt (show cfg0.N = 8 from N_0)
  rw [Dat.before_out_kept _ 17 rfl t hz
    (Bool.eq_false_iff.mpr fun h => by have := (flush0_17 _).mp h; dsimp only at this; omega)
    (fun _ => rfl) (fun _ _ => rfl)]
  dsimp only [dats]
  rw [Nat.sub_add_cancel (Nat.pos_of_ne_zero hz)]

theorem had_dba (c : Dev nD) (t : Fin cfg0.N) (hz : t.val ≠ 0) (d) :
    (dats m 0 c).before 18 t d = (left m c t.val).dba := by
  have hN : t.val < 8 := lt_of_lt_of_eq t.isLt (show cfg0.N = 8 from N_0)
  rw [Dat.before_out_kept _ 18 rfl t hz
    (Bool.eq_false_iff.mpr fun h => by have := (flush0_18 _).mp h; dsimp only at this; omega)
    (fun _ => rfl) (fun _ _ => rfl)]
  dsimp only [dats]
  rw [Nat.sub_add_cancel (Nat.pos_of_ne_zero hz)]

theorem had_dwx (c : Dev nD) (t : Fin cfg0.N) (hz : t.val ≠ 0) (d) :
    (dats m 0 c).before 19 t d = (left m c t.val).dwx := by
  have hN : t.val < 8 := lt_of_lt_of_eq t.isLt (show cfg0.N = 8 from N_0)
  rw [Dat.before_out_kept _ 19 rfl t hz
    (Bool.eq_false_iff.mpr fun h => by have := (flush0_19 _).mp h; dsimp only at this; omega)
    (fun _ => rfl) (fun _ _ => rfl)]
  dsimp only [dats]
  rw [Nat.sub_add_cancel (Nat.pos_of_ne_zero hz)]

theorem had_dbx (c : Dev nD) (t : Fin cfg0.N) (hz : t.val ≠ 0) (d) :
    (dats m 0 c).before 20 t d = (left m c t.val).dbx := by
  have hN : t.val < 8 := lt_of_lt_of_eq t.isLt (show cfg0.N = 8 from N_0)
  rw [Dat.before_out_kept _ 20 rfl t hz
    (Bool.eq_false_iff.mpr fun h => by have := (flush0_20 _).mp h; dsimp only at this; omega)
    (fun _ => rfl) (fun _ _ => rfl)]
  dsimp only [dats]
  rw [Nat.sub_add_cancel (Nat.pos_of_ne_zero hz)]

theorem had_dlam (c : Dev nD) (t : Fin cfg0.N) (hz : t.val ≠ 0) (d) :
    (dats m 0 c).before 21 t d = (left m c t.val).dlam := by
  have hN : t.val < 8 := lt_of_lt_of_eq t.isLt (show cfg0.N = 8 from N_0)
  rw [Dat.before_out_kept _ 21 rfl t hz
    (Bool.eq_false_iff.mpr fun h => by have := (flush0_21 _).mp h; dsimp only at this; omega)
    (fun _ => rfl) (fun _ _ => rfl)]
  dsimp only [dats]
  rw [Nat.sub_add_cancel (Nat.pos_of_ne_zero hz)]

/-- A tile's obligation, before. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- And after. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats])]
  rw [show (dats m 0 c).owesAt () t.succ = (dats m 0 c).owesAt () t.castSucc from rfl,
    show (dats m 0 c).Φ t.succ = Kept m c (t.val + 1) from rfl, show (dats m 0 c).Φ t.castSucc = Kept m c t.val from rfl]
  refine (sep_mono_left (kept_open m c t.val)).trans ?_
  iintro ⟨⟨%a, %b, %hab, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  have hl := step_eq m c t ⟨(dats m 0 c).before 13 t d13, (dats m 0 c).before 14 t d14, (dats m 0 c).before 15 t d15, (dats m 0 c).before 16 t d16, (dats m 0 c).before 17 t d17, (dats m 0 c).before 18 t d18, (dats m 0 c).before 19 t d19, (dats m 0 c).before 20 t d20, (dats m 0 c).before 21 t d21, a, b⟩ (fun hz => by
    rw [(hab hz).1, (hab hz).2, had_dcw m c t hz, had_dcb m c t hz, had_dwa m c t hz, had_dba m c t hz, had_dwx m c t hz, had_dbx m c t hz, had_dlam m c t hz])
  iapply (step_run m c t ⟨(dats m 0 c).before 13 t d13, (dats m 0 c).before 14 t d14, (dats m 0 c).before 15 t d15, (dats m 0 c).before 16 t d16, (dats m 0 c).before 17 t d17, (dats m 0 c).before 18 t d18, (dats m 0 c).before 19 t d19, (dats m 0 c).before 20 t d20, (dats m 0 c).before 21 t d21, a, b⟩ _)
  rw [hl]
  unfold ins outsAnd outs
  dsimp only
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [HA]
  · iexact HA
  isplitl [HB]
  · iexact HB
  iintro ⟨H0, H1, H2, H3, H4, H5, H6, H7, H8, H9, H10, H11, H12, H13, H14, H15, H16, H17, H18, H19, H20, H21, HA, HB⟩
  isplitl [HA HB Hg]
  · unfold Kept
    rw [if_neg (Nat.succ_ne_zero _)]
    isplitl [HA HB]
    · isplitl [HA]
      · iexact HA
      iexact HB
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  iexact H21

theorem body_obligation (c : Dev nD) :
    BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (sound m c t) rfl .rfl fun _ => .rfl

theorem hin (c : Dev nD) : Pipeline.ΦA spec0 c ⊢ (dats m 0 c).Φ 0 := by
  rw [show (dats m 0 c).Φ 0 = Kept m c 0 from rfl, Kept, if_pos rfl]

theorem hout (c : Dev nD) : (dats m 0 c).Φ (Fin.last cfg0.N) ⊢ Pipeline.ΦA spec0 c := by
  rw [show (dats m 0 c).Φ (Fin.last cfg0.N) = Kept m c cfg0.N from rfl, PhiA0_eq]
  refine (kept_open m c _).trans ?_
  iintro ⟨%a, %b, -, HA, HB, Hg⟩
  isplitl [HA HB]
  · isplitl [HA]
    · iexists a
      iexact HA
    iexists b
    iexact HB
  iexact Hg

set_option backward.isDefEq.respectTransparency.types false in
/-- The call ends with every array at what the tiles left, and every counter at zero. -/
theorem run_counters : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_counters m ρ)

/-- The call terminates and leaves its nine arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_counters m ρ))

end Cert.RnnKernelIdeal.Carry

end
-- ==== Proof.RnnScan.lean ====
module

public import proofs.«01_k».proof.Proof.Num

@[expose] public section

set_option maxRecDepth 16384

noncomputable section

/-! The recurrence `h t = a t * h (t-1) + b t` solved by halving: two neighbouring steps are one step of a recurrence of
half the length, which gives the states at the odd places, and one more step gives those at the even places. -/

namespace Cert.Recur

open Idealize.ShloMosaic

variable {F : FTy → Type} [FloatOps F]

/-- `n` rows, `n` pairs of rows, and one row of each of `n` pairs. -/
abbrev Rows (n : ℕ) : Shape := ⟨2, ![n, 512]⟩
abbrev Pairs (n : ℕ) : Shape := ⟨3, ![n, 2, 512]⟩
abbrev Picks (n : ℕ) : Shape := ⟨3, ![n, 1, 512]⟩
abbrev Point : Shape := ⟨0, ![]⟩

/-- The shape conditions of one halving. -/
structure Fits (n : ℕ) : Prop where
  fst : (Pairs n).Slices ![0, 0, 0] (Picks n)
  snd : (Pairs n).Slices ![0, 1, 0] (Picks n)
  flat : (Picks n).ShapeCasts (Rows n)
  pair : (Rows (n * 2)).ShapeCasts (Pairs n)
  line : (Pairs n).ShapeCasts (Rows (n * 2))
  zero : Point.BroadcastsInDim (Rows 1) ![]
  lead : Shape.Concatenates [Rows 1, Rows n] (Rows (n + 1)) 0
  drop : (Rows (n + 1)).Slices ![0, 0] (Rows n)
  lift : (Rows n).BroadcastsInDim (Picks n) ![0, 2]
  zip : Shape.Concatenates [Picks n, Picks n] (Pairs n) 1

theorem fits (n : ℕ) : Fits n where
  fst := ⟨rfl, fun a => by fin_cases a <;> simp [Fin.cast]⟩
  snd := ⟨rfl, fun a => by fin_cases a <;> simp [Fin.cast]⟩
  flat := by
    show ∏ a : Fin 2, ![n, 512] a = ∏ a : Fin 3, ![n, 1, 512] a
    simp [Fin.prod_univ_two, Fin.prod_univ_three]
  pair := by
    show ∏ a : Fin 3, ![n, 2, 512] a = ∏ a : Fin 2, ![n * 2, 512] a
    simp [Fin.prod_univ_two, Fin.prod_univ_three]
  line := by
    show ∏ a : Fin 2, ![n * 2, 512] a = ∏ a : Fin 3, ![n, 2, 512] a
    simp [Fin.prod_univ_two, Fin.prod_univ_three]
  zero := by decide
  lead := ⟨by simp, fun s hs => by
    simp only [List.mem_cons, List.not_mem_nil, or_false] at hs
    rcases hs with rfl | rfl <;> exact ⟨rfl, fun b hb => by fin_cases b <;> first | exact absurd rfl hb | rfl⟩, by
    simp; omega⟩
  drop := ⟨rfl, fun a => by fin_cases a <;> simp [Fin.cast]⟩
  lift := ⟨by show Function.Injective (![0, 2] : Fin 2 → Fin 3); decide, fun a => by fin_cases a <;> exact Or.inr rfl⟩
  zip := ⟨by simp, fun s hs => by
    simp only [List.mem_cons, List.not_mem_nil, or_false] at hs
    rcases hs with rfl | rfl <;> exact ⟨rfl, fun b hb => by fin_cases b <;> first | exact absurd rfl hb | rfl⟩, by
    simp⟩

/-- The rows at the even places, and those at the odd places. -/
def evens (n : ℕ) (A : (Pairs n).Idx → F .f32) : (Rows n).Idx → F .f32 :=
  shapeCast (Rows n) (extractStridedSlice (Picks n) ![0, 0, 0] A (fits n).fst) (fits n).flat
def odds (n : ℕ) (A : (Pairs n).Idx → F .f32) : (Rows n).Idx → F .f32 :=
  shapeCast (Rows n) (extractStridedSlice (Picks n) ![0, 1, 0] A (fits n).snd) (fits n).flat

/-- Two neighbouring rows together. -/
def paired (n : ℕ) (X : (Rows (n * 2)).Idx → F .f32) : (Pairs n).Idx → F .f32 := shapeCast (Pairs n) X (fits n).pair

/-- The two coefficients of two steps taken as one. -/
def gain (n : ℕ) (A : (Pairs n).Idx → F .f32) : (Rows n).Idx → F .f32 := mulf (odds n A) (evens n A)
def drive (n : ℕ) (A B : (Pairs n).Idx → F .f32) : (Rows n).Idx → F .f32 :=
  addf (mulf (odds n A) (evens n B)) (odds n B)

/-- The rows moved down by one, with zeros in front. -/
def late (n : ℕ) (X : (Rows n).Idx → F .f32) : (Rows n).Idx → F .f32 :=
  extractStridedSlice (Rows n) ![0, 0] (concatenate (Rows (n + 1)) 0
    [⟨Rows 1, broadcastInDim (Rows 1) ![] (fits n).zero (constant Point .f32 0x00000000#32)⟩, ⟨Rows n, X⟩] (fits n).lead)
    (fits n).drop

/-- The states of two neighbouring steps from those at the odd places. -/
def filled (n : ℕ) (A B : (Pairs n).Idx → F .f32) (X : (Rows n).Idx → F .f32) : (Rows (n * 2)).Idx → F .f32 :=
  shapeCast (Rows (n * 2)) (concatenate (Pairs n) 1
    [⟨Picks n, broadcastInDim (Picks n) ![0, 2] (fits n).lift (addf (mulf (evens n A) (late n X)) (evens n B))⟩,
      ⟨Picks n, broadcastInDim (Picks n) ![0, 2] (fits n).lift X⟩] (fits n).zip) (fits n).line

/-- The states of `2 ^ k` steps. -/
def states : (k : ℕ) → (A B : (Rows (2 ^ k)).Idx → F .f32) → (Rows (2 ^ k)).Idx → F .f32
  | 0, _, B => B
  | k + 1, A, B => filled (2 ^ k) (paired (2 ^ k) A) (paired (2 ^ k) B)
      (states k (gain (2 ^ k) (paired (2 ^ k) A)) (drive (2 ^ k) (paired (2 ^ k) A) (paired (2 ^ k) B)))

/-- One halving, told of four arrays by what they hold. -/
theorem step (k : ℕ) {A B Y : (Rows (2 ^ (k + 1))).Idx → F .f32} {A' B' : (Pairs (2 ^ k)).Idx → F .f32}
    {X : (Rows (2 ^ k)).Idx → F .f32} (h : A' = paired (2 ^ k) A ∧ B' = paired (2 ^ k) B) (hY : Y = filled (2 ^ k) A' B' X)
    (hX : X = states k (gain (2 ^ k) A') (drive (2 ^ k) A' B')) : Y = states (k + 1) A B := by
  rw [hY, hX, h.1, h.2]
  rfl

/-- An array of real numbers. -/
def Finite {s : Shape} (X : s.Idx → Ideal .f32) : Prop := ∀ i, ∃ r : ℝ, X i = (r : EReal)

theorem Finite.cast {s t : Shape} {X : s.Idx → Ideal .f32} (h : Finite X) (e : s.ShapeCasts t) : Finite (shapeCast t X e) :=
  fun _ => h _

theorem Finite.part {s t : Shape} {X : s.Idx → Ideal .f32} (h : Finite X) (off : Fin s.rank → ℕ) (e : s.Slices off t) :
    Finite (extractStridedSlice t off X e) := fun _ => h _

theorem Finite.spread {s t : Shape} {X : s.Idx → Ideal .f32} (h : Finite X) (dims : Fin s.rank → Fin t.rank)
    (e : s.BroadcastsInDim t dims) : Finite (broadcastInDim t dims e X) := fun _ => h _

theorem Finite.mul {s : Shape} {X Y : s.Idx → Ideal .f32} (hX : Finite X) (hY : Finite Y) : Finite (mulf X Y) := fun i => by
  obtain ⟨a, ha⟩ := hX i
  obtain ⟨b, hb⟩ := hY i
  exact ⟨a * b, by show X i * Y i = _; rw [ha, hb, EReal.coe_mul]⟩

theorem Finite.add {s : Shape} {X Y : s.Idx → Ideal .f32} (hX : Finite X) (hY : Finite Y) : Finite (addf X Y) := fun i => by
  obtain ⟨a, ha⟩ := hX i
  obtain ⟨b, hb⟩ := hY i
  exact ⟨a + b, by show X i + Y i = _; rw [ha, hb, EReal.coe_add]⟩

theorem Finite.pair {s₁ s₂ t : Shape} {X : s₁.Idx → Ideal .f32} {Y : s₂.Idx → Ideal .f32} (hX : Finite X) (hY : Finite Y)
    (a : Fin t.rank) (h : Shape.Concatenates [s₁, s₂] t a) : Finite (concatenate t a [⟨s₁, X⟩, ⟨s₂, Y⟩] h) := fun j => by
  rw [concatenate_pair_apply]
  split
  · exact hX _
  · exact hY _

theorem Finite.zeros {s t : Shape} (dims : Fin s.rank → Fin t.rank) (h : s.BroadcastsInDim t dims) :
    Finite (broadcastInDim t dims h (constant (F := Ideal) s .f32 0x00000000#32)) := fun j =>
  ⟨0, Cert.Num.lit_zero⟩

theorem states_finite (k : ℕ) : ∀ (A B : (Rows (2 ^ k)).Idx → Ideal .f32), Finite A → Finite B → Finite (states k A B) := by
  induction k with
  | zero => exact fun A B _ hB => hB
  | succ k ih =>
    intro A B hA hB
    have he : ∀ {X : (Pairs (2 ^ k)).Idx → Ideal .f32}, Finite X → Finite (evens _ X) := fun h => (h.part _ _).cast _
    have ho : ∀ {X : (Pairs (2 ^ k)).Idx → Ideal .f32}, Finite X → Finite (odds _ X) := fun h => (h.part _ _).cast _
    have hA' : Finite (paired (2 ^ k) A) := hA.cast _
    have hB' : Finite (paired (2 ^ k) B) := hB.cast _
    have hs : Finite (states k (gain _ (paired (2 ^ k) A)) (drive _ (paired (2 ^ k) A) (paired (2 ^ k) B))) :=
      ih _ _ ((ho hA').mul (he hA')) (((ho hA').mul (he hB')).add (ho hB'))
    have hl : Finite (late (2 ^ k) (states k (gain _ (paired (2 ^ k) A)) (drive _ (paired (2 ^ k) A) (paired (2 ^ k) B)))) :=
      ((Finite.zeros _ (fits (2 ^ k)).zero).pair hs 0 (fits _).lead).part _ _
    exact (((((he hA').mul hl).add (he hB')).spread _ (fits (2 ^ k)).lift).pair (hs.spread _ (fits (2 ^ k)).lift) 1
      (fits (2 ^ k)).zip).cast (fits (2 ^ k)).line

end Cert.Recur

end
-- ==== Proof.RnnHost.lean ====
module

public import proofs.«01_k».proof.Proof.Gen.RnnKernelIdeal.Frame.Runs
public import Idealize.ShloMosaic.Lib.StableHlo.RunRead
public import proofs.«01_k».proof.Proof.RnnScan

@[expose] public section

set_option maxRecDepth 16384

noncomputable section

/-! The states the kernel is handed: the host's lines before the call, read halving by halving. -/

namespace Cert.RnnKernelIdeal.Host

open Idealize.ShloMosaic Idealize.ShloMosaic.StableHlo Cert.RnnKernelIdeal.Gen Cert.Recur

variable (m : (ℓ : Loc nD τ sig) → Buf (Elt Ideal) ℓ)

/-- The host's lines before the call. -/
abbrev line : List (HloOp τ sig (Elt Ideal)) := List.flatten [hostOps0, hostOps0_1, hostOps0_2]

/-- A buffer before the call holds what the lines from the `n`-th on leave there. -/
theorem at_cut (c : Dev nD) (n : ℕ) (r : Ref sig .tc) :
    V m c r = after (line.drop n) (upto line (fun b => m (c, b)) n) (Proc.devRef .tc r) := by
  show after line _ _ = _
  conv_lhs => rw [← List.take_append_drop n line]
  rw [after_append]
  rfl

theorem down_2048 (c : Dev nD) : V m c main_v92 = paired (F := Ideal) 2048 (V m c main_v84)
    ∧ V m c main_v93 = paired (F := Ideal) 2048 (V m c main_v91) := by
  rw [at_cut m c 117 main_v92, at_cut m c 117 main_v93, at_cut m c 117 main_v84, at_cut m c 117 main_v91]
  generalize upto line _ 117 = U
  after_reads_simp
  exact ⟨rfl, rfl⟩

theorem down_1024 (c : Dev nD) : V m c main_v107 = paired (F := Ideal) 1024 (gain 2048 (V m c main_v92))
    ∧ V m c main_v108 = paired (F := Ideal) 1024 (drive 2048 (V m c main_v92) (V m c main_v93)) := by
  rw [at_cut m c 119 main_v107, at_cut m c 119 main_v108, at_cut m c 119 main_v92, at_cut m c 119 main_v93]
  generalize upto line _ 119 = U
  after_reads_simp
  exact ⟨rfl, rfl⟩

theorem down_512 (c : Dev nD) : V m c main_v122 = paired (F := Ideal) 512 (gain 1024 (V m c main_v107))
    ∧ V m c main_v123 = paired (F := Ideal) 512 (drive 1024 (V m c main_v107) (V m c main_v108)) := by
  rw [at_cut m c 134 main_v122, at_cut m c 134 main_v123, at_cut m c 134 main_v107, at_cut m c 134 main_v108]
  generalize upto line _ 134 = U
  after_reads_simp
  exact ⟨rfl, rfl⟩

theorem down_256 (c : Dev nD) : V m c main_v137 = paired (F := Ideal) 256 (gain 512 (V m c main_v122))
    ∧ V m c main_v138 = paired (F := Ideal) 256 (drive 512 (V m c main_v122) (V m c main_v123)) := by
  rw [at_cut m c 149 main_v137, at_cut m c 149 main_v138, at_cut m c 149 main_v122, at_cut m c 149 main_v123]
  generalize upto line _ 149 = U
  after_reads_simp
  exact ⟨rfl, rfl⟩

theorem down_128 (c : Dev nD) : V m c main_v152 = paired (F := Ideal) 128 (gain 256 (V m c main_v137))
    ∧ V m c main_v153 = paired (F := Ideal) 128 (drive 256 (V m c main_v137) (V m c main_v138)) := by
  rw [at_cut m c 164 main_v152, at_cut m c 164 main_v153, at_cut m c 164 main_v137, at_cut m c 164 main_v138]
  generalize upto line _ 164 = U
  after_reads_simp
  exact ⟨rfl, rfl⟩

theorem down_64 (c : Dev nD) : V m c main_v167 = paired (F := Ideal) 64 (gain 128 (V m c main_v152))
    ∧ V m c main_v168 = paired (F := Ideal) 64 (drive 128 (V m c main_v152) (V m c main_v153)) := by
  rw [at_cut m c 179 main_v167, at_cut m c 179 main_v168, at_cut m c 179 main_v152, at_cut m c 179 main_v153]
  generalize upto line _ 179 = U
  after_reads_simp
  exact ⟨rfl, rfl⟩

theorem down_32 (c : Dev nD) : V m c main_v182 = paired (F := Ideal) 32 (gain 64 (V m c main_v167))
    ∧ V m c main_v183 = paired (F := Ideal) 32 (drive 64 (V m c main_v167) (V m c main_v168)) := by
  rw [at_cut m c 194 main_v182, at_cut m c 194 main_v183, at_cut m c 194 main_v167, at_cut m c 194 main_v168]
  generalize upto line _ 194 = U
  after_reads_simp
  exact ⟨rfl, rfl⟩

theorem down_16 (c : Dev nD) : V m c main_v197 = paired (F := Ideal) 16 (gain 32 (V m c main_v182))
    ∧ V m c main_v198 = paired (F := Ideal) 16 (drive 32 (V m c main_v182) (V m c main_v183)) := by
  rw [at_cut m c 209 main_v197, at_cut m c 209 main_v198, at_cut m c 209 main_v182, at_cut m c 209 main_v183]
  generalize upto line _ 209 = U
  after_reads_simp
  exact ⟨rfl, rfl⟩

theorem down_8 (c : Dev nD) : V m c main_v212 = paired (F := Ideal) 8 (gain 16 (V m c main_v197))
    ∧ V m c main_v213 = paired (F := Ideal) 8 (drive 16 (V m c main_v197) (V m c main_v198)) := by
  rw [at_cut m c 224 main_v212, at_cut m c 224 main_v213, at_cut m c 224 main_v197, at_cut m c 224 main_v198]
  generalize upto line _ 224 = U
  after_reads_simp
  exact ⟨rfl, rfl⟩

theorem down_4 (c : Dev nD) : V m c main_v227 = paired (F := Ideal) 4 (gain 8 (V m c main_v212))
    ∧ V m c main_v228 = paired (F := Ideal) 4 (drive 8 (V m c main_v212) (V m c main_v213)) := by
  rw [at_cut m c 239 main_v227, at_cut m c 239 main_v228, at_cut m c 239 main_v212, at_cut m c 239 main_v213]
  generalize upto line _ 239 = U
  after_reads_simp
  exact ⟨rfl, rfl⟩

theorem down_2 (c : Dev nD) : V m c main_v242 = paired (F := Ideal) 2 (gain 4 (V m c main_v227))
    ∧ V m c main_v243 = paired (F := Ideal) 2 (drive 4 (V m c main_v227) (V m c main_v228)) := by
  rw [at_cut m c 254 main_v242, at_cut m c 254 main_v243, at_cut m c 254 main_v227, at_cut m c 254 main_v228]
  generalize upto line _ 254 = U
  after_reads_simp
  exact ⟨rfl, rfl⟩

theorem down_1 (c : Dev nD) : V m c main_v257 = paired (F := Ideal) 1 (gain 2 (V m c main_v242))
    ∧ V m c main_v258 = paired (F := Ideal) 1 (drive 2 (V m c main_v242) (V m c main_v243)) := by
  rw [at_cut m c 269 main_v257, at_cut m c 269 main_v258, at_cut m c 269 main_v242, at_cut m c 269 main_v243]
  generalize upto line _ 269 = U
  after_reads_simp
  exact ⟨rfl, rfl⟩

theorem last (c : Dev nD) : V m c main_v271 = drive (F := Ideal) 1 (V m c main_v257) (V m c main_v258) := by
  rw [at_cut m c 284 main_v271, at_cut m c 284 main_v257, at_cut m c 284 main_v258]
  generalize upto line _ 284 = U
  after_reads_simp
  rfl

theorem up_1 (c : Dev nD) : V m c main_v284 = filled (F := Ideal) 1 (V m c main_v257) (V m c main_v258) (V m c main_v271) := by
  rw [at_cut m c 297 main_v284, at_cut m c 297 main_v257, at_cut m c 297 main_v258, at_cut m c 297 main_v271]
  generalize upto line _ 297 = U
  after_reads_simp
  rfl

theorem up_2 (c : Dev nD) : V m c main_v297 = filled (F := Ideal) 2 (V m c main_v242) (V m c main_v243) (V m c main_v284) := by
  rw [at_cut m c 311 main_v297, at_cut m c 311 main_v242, at_cut m c 311 main_v243, at_cut m c 311 main_v284]
  generalize upto line _ 311 = U
  after_reads_simp
  rfl

theorem up_4 (c : Dev nD) : V m c main_v310 = filled (F := Ideal) 4 (V m c main_v227) (V m c main_v228) (V m c main_v297) := by
  rw [at_cut m c 325 main_v310, at_cut m c 325 main_v227, at_cut m c 325 main_v228, at_cut m c 325 main_v297]
  generalize upto line _ 325 = U
  after_reads_simp
  rfl

theorem up_8 (c : Dev nD) : V m c main_v323 = filled (F := Ideal) 8 (V m c main_v212) (V m c main_v213) (V m c main_v310) := by
  rw [at_cut m c 339 main_v323, at_cut m c 339 main_v212, at_cut m c 339 main_v213, at_cut m c 339 main_v310]
  generalize upto line _ 339 = U
  after_reads_simp
  rfl

theorem up_16 (c : Dev nD) : V m c main_v336 = filled (F := Ideal) 16 (V m c main_v197) (V m c main_v198) (V m c main_v323) := by
  rw [at_cut m c 353 main_v336, at_cut m c 353 main_v197, at_cut m c 353 main_v198, at_cut m c 353 main_v323]
  generalize upto line _ 353 = U
  after_reads_simp
  rfl

theorem up_32 (c : Dev nD) : V m c main_v349 = filled (F := Ideal) 32 (V m c main_v182) (V m c main_v183) (V m c main_v336) := by
  rw [at_cut m c 367 main_v349, at_cut m c 367 main_v182, at_cut m c 367 main_v183, at_cut m c 367 main_v336]
  generalize upto line _ 367 = U
  after_reads_simp
  rfl

theorem up_64 (c : Dev nD) : V m c main_v362 = filled (F := Ideal) 64 (V m c main_v167) (V m c main_v168) (V m c main_v349) := by
  rw [at_cut m c 381 main_v362, at_cut m c 381 main_v167, at_cut m c 381 main_v168, at_cut m c 381 main_v349]
  generalize upto line _ 381 = U
  after_reads_simp
  rfl

theorem up_128 (c : Dev nD) : V m c main_v375 = filled (F := Ideal) 128 (V m c main_v152) (V m c main_v153) (V m c main_v362) := by
  rw [at_cut m c 395 main_v375, at_cut m c 395 main_v152, at_cut m c 395 main_v153, at_cut m c 395 main_v362]
  generalize upto line _ 395 = U
  after_reads_simp
  rfl

theorem up_256 (c : Dev nD) : V m c main_v388 = filled (F := Ideal) 256 (V m c main_v137) (V m c main_v138) (V m c main_v375) := by
  rw [at_cut m c 409 main_v388, at_cut m c 409 main_v137, at_cut m c 409 main_v138, at_cut m c 409 main_v375]
  generalize upto line _ 409 = U
  after_reads_simp
  rfl

theorem up_512 (c : Dev nD) : V m c main_v401 = filled (F := Ideal) 512 (V m c main_v122) (V m c main_v123) (V m c main_v388) := by
  rw [at_cut m c 423 main_v401, at_cut m c 423 main_v122, at_cut m c 423 main_v123, at_cut m c 423 main_v388]
  generalize upto line _ 423 = U
  after_reads_simp
  rfl

theorem up_1024 (c : Dev nD) : V m c main_v414 = filled (F := Ideal) 1024 (V m c main_v107) (V m c main_v108) (V m c main_v401) := by
  rw [at_cut m c 437 main_v414, at_cut m c 437 main_v107, at_cut m c 437 main_v108, at_cut m c 437 main_v401]
  generalize upto line _ 437 = U
  after_reads_simp
  rfl

theorem up_2048 (c : Dev nD) : V m c main_v427 = filled (F := Ideal) 2048 (V m c main_v92) (V m c main_v93) (V m c main_v414) := by
  rw [at_cut m c 451 main_v427, at_cut m c 451 main_v92, at_cut m c 451 main_v93, at_cut m c 451 main_v414]
  generalize upto line _ 451 = U
  after_reads_simp
  rfl

/-- The twelve halvings as one recurrence, of any arrays that halve so. -/
theorem chain {A B y12 : (Rows 4096).Idx → Ideal .f32}
    {p0 q0 : (Pairs 2048).Idx → Ideal .f32} {y11 : (Rows 2048).Idx → Ideal .f32}
    {p1 q1 : (Pairs 1024).Idx → Ideal .f32} {y10 : (Rows 1024).Idx → Ideal .f32}
    {p2 q2 : (Pairs 512).Idx → Ideal .f32} {y9 : (Rows 512).Idx → Ideal .f32}
    {p3 q3 : (Pairs 256).Idx → Ideal .f32} {y8 : (Rows 256).Idx → Ideal .f32}
    {p4 q4 : (Pairs 128).Idx → Ideal .f32} {y7 : (Rows 128).Idx → Ideal .f32}
    {p5 q5 : (Pairs 64).Idx → Ideal .f32} {y6 : (Rows 64).Idx → Ideal .f32}
    {p6 q6 : (Pairs 32).Idx → Ideal .f32} {y5 : (Rows 32).Idx → Ideal .f32}
    {p7 q7 : (Pairs 16).Idx → Ideal .f32} {y4 : (Rows 16).Idx → Ideal .f32}
    {p8 q8 : (Pairs 8).Idx → Ideal .f32} {y3 : (Rows 8).Idx → Ideal .f32}
    {p9 q9 : (Pairs 4).Idx → Ideal .f32} {y2 : (Rows 4).Idx → Ideal .f32}
    {p10 q10 : (Pairs 2).Idx → Ideal .f32} {y1 : (Rows 2).Idx → Ideal .f32}
    {p11 q11 : (Pairs 1).Idx → Ideal .f32} {y0 : (Rows 1).Idx → Ideal .f32}
    (d0 : p0 = paired 2048 A ∧ q0 = paired 2048 B)
    (u0 : y12 = filled 2048 p0 q0 y11)
    (d1 : p1 = paired 1024 (gain 2048 p0) ∧ q1 = paired 1024 (drive 2048 p0 q0))
    (u1 : y11 = filled 1024 p1 q1 y10)
    (d2 : p2 = paired 512 (gain 1024 p1) ∧ q2 = paired 512 (drive 1024 p1 q1))
    (u2 : y10 = filled 512 p2 q2 y9)
    (d3 : p3 = paired 256 (gain 512 p2) ∧ q3 = paired 256 (drive 512 p2 q2))
    (u3 : y9 = filled 256 p3 q3 y8)
    (d4 : p4 = paired 128 (gain 256 p3) ∧ q4 = paired 128 (drive 256 p3 q3))
    (u4 : y8 = filled 128 p4 q4 y7)
    (d5 : p5 = paired 64 (gain 128 p4) ∧ q5 = paired 64 (drive 128 p4 q4))
    (u5 : y7 = filled 64 p5 q5 y6)
    (d6 : p6 = paired 32 (gain 64 p5) ∧ q6 = paired 32 (drive 64 p5 q5))
    (u6 : y6 = filled 32 p6 q6 y5)
    (d7 : p7 = paired 16 (gain 32 p6) ∧ q7 = paired 16 (drive 32 p6 q6))
    (u7 : y5 = filled 16 p7 q7 y4)
    (d8 : p8 = paired 8 (gain 16 p7) ∧ q8 = paired 8 (drive 16 p7 q7))
    (u8 : y4 = filled 8 p8 q8 y3)
    (d9 : p9 = paired 4 (gain 8 p8) ∧ q9 = paired 4 (drive 8 p8 q8))
    (u9 : y3 = filled 4 p9 q9 y2)
    (d10 : p10 = paired 2 (gain 4 p9) ∧ q10 = paired 2 (drive 4 p9 q9))
    (u10 : y2 = filled 2 p10 q10 y1)
    (d11 : p11 = paired 1 (gain 2 p10) ∧ q11 = paired 1 (drive 2 p10 q10))
    (u11 : y1 = filled 1 p11 q11 y0)
    (l : y0 = drive 1 p11 q11) : y12 = states 12 A B :=
  step 11 d0 u0 (step 10 d1 u1 (step 9 d2 u2 (step 8 d3 u3 (step 7 d4 u4 (step 6 d5 u5
    (step 5 d6 u6 (step 4 d7 u7 (step 3 d8 u8 (step 2 d9 u9 (step 1 d10 u10 (step 0 d11 u11 (l))))))))))))

/-- The states handed to the kernel are those of the recurrence the lines before set up. -/
theorem saved (c : Dev nD) : V m c main_v427 = states (F := Ideal) 12 (V m c main_v84) (V m c main_v91) :=
  chain (down_2048 m c) (up_2048 m c) (down_1024 m c) (up_1024 m c) (down_512 m c) (up_512 m c) (down_256 m c) (up_256 m c) (down_128 m c) (up_128 m c) (down_64 m c) (up_64 m c) (down_32 m c) (up_32 m c) (down_16 m c) (up_16 m c) (down_8 m c) (up_8 m c) (down_4 m c) (up_4 m c) (down_2 m c) (up_2 m c) (down_1 m c) (up_1 m c) (last m c)

end Cert.RnnKernelIdeal.Host

end
-- ==== Proof.RnnRef.lean ====
module

public import proofs.«01_k».proof.Proof.Gen.RnnRefIdeal.Run
public import proofs.«01_k».proof.Proof.RnnScan
public import Idealize.ShloMosaic.Lib.Pointwise

@[expose] public section

set_option maxRecDepth 16384

noncomputable section

/-! The recurrence's reference: the parts of its forward pass as arrays, and that each is finite when the arguments
are. -/

namespace Cert.RnnRefIdeal.Step

open Idealize.ShloMosaic Cert.RnnRefIdeal Cert.RnnRefIdeal.Gen Cert.RnnRefIdeal.Value Cert.Recur Cert.Num
open Idealize.ShloMosaic.StableHlo

abbrev Seq : Type := FVec Ideal S4096x512 .f32
abbrev Lane : Type := FVec Ideal S512 .f32

/-- A number at every place, and a row at every step. -/
def level (w : BitVec 32) : Seq := broadcastInDim S4096x512 ![] bcast_S_S4096x512 (constant S_ .f32 w)
def every (v : Lane) : Seq :=
  broadcastInDim S4096x512 ![0, 1] bcast_S1x512_S4096x512_0_1 (broadcastInDim S1x512 ![1] bcast_S512_S1x512_1 v)

/-- A gate's blocks as one square matrix. -/
def dense (w : FVec Ideal S1x8x64x64 .f32) : FVec Ideal S512x512 .f32 :=
  select (cmpi .eq
      (broadcastInDim S512x512 ![0, 1] bcast_S512x1_S512x512_0_1 (broadcastInDim S512x1 ![0] bcast_S512_S512x1_0
        (shapeCast S512 (iotaInDim S8x64 32 0) shapeCasts_S8x64_S512)))
      (broadcastInDim S512x512 ![0, 1] bcast_S1x512_S512x512_0_1 (broadcastInDim S1x512 ![1] bcast_S512_S1x512_1
        (shapeCast S512 (iotaInDim S8x64 32 0) shapeCasts_S8x64_S512))))
    (shapeCast S512x512 (broadcastInDim S1x512x8x64 ![0, 1, 2, 3] bcast_S1x512x1x64_S1x512x8x64_0_1_2_3
      (shapeCast S1x512x1x64 (shapeCast S512x64 (shapeCast S8x64x64 w shapeCasts_S1x8x64x64_S8x64x64)
        shapeCasts_S8x64x64_S512x64) shapeCasts_S512x64_S1x512x1x64)) shapeCasts_S1x512x8x64_S512x512)
    (broadcastInDim S512x512 ![] bcast_S_S512x512 (id (constant S_ .f32 0x00000000#32)))

/-- The four taps of the convolution, and the convolution. -/
def fed (x : FVec Ideal S4096x2560 .f32) : FVec Ideal S4099x512 .f32 :=
  concatenate S4099x512 0 [⟨S3x512, broadcastInDim S3x512 ![] bcast_S_S3x512 (constant S_ .f32 0x00000000#32)⟩,
    ⟨S4096x512, extractStridedSlice S4096x512 ![0, 0] x slices_S4096x2560_S4096x512_0_0⟩]
    concatenates_S3x512_S4096x512_S4099x512_d0
def tap0 (w : FVec Ideal S1x4x512 .f32) : Lane :=
  shapeCast S512 (extractStridedSlice S1x1x512 ![0, 0, 0] w slices_S1x4x512_S1x1x512_0_0_0) shapeCasts_S1x1x512_S512
def tap1 (w : FVec Ideal S1x4x512 .f32) : Lane :=
  shapeCast S512 (extractStridedSlice S1x1x512 ![0, 1, 0] w slices_S1x4x512_S1x1x512_0_1_0) shapeCasts_S1x1x512_S512
def tap2 (w : FVec Ideal S1x4x512 .f32) : Lane :=
  shapeCast S512 (extractStridedSlice S1x1x512 ![0, 2, 0] w slices_S1x4x512_S1x1x512_0_2_0) shapeCasts_S1x1x512_S512
def tap3 (w : FVec Ideal S1x4x512 .f32) : Lane :=
  shapeCast S512 (extractStridedSlice S1x1x512 ![0, 3, 0] w slices_S1x4x512_S1x1x512_0_3_0) shapeCasts_S1x1x512_S512
def conv (x : FVec Ideal S4096x2560 .f32) (w : FVec Ideal S1x4x512 .f32) (b : FVec Ideal S1x512 .f32) : Seq :=
  addf (addf (addf (addf (addf (level 0x00000000#32)
    (mulf (extractStridedSlice S4096x512 ![0, 0] (fed x) slices_S4099x512_S4096x512_0_0) (every (tap0 w))))
    (mulf (extractStridedSlice S4096x512 ![1, 0] (fed x) slices_S4099x512_S4096x512_1_0) (every (tap1 w))))
    (mulf (extractStridedSlice S4096x512 ![2, 0] (fed x) slices_S4099x512_S4096x512_2_0) (every (tap2 w))))
    (mulf (extractStridedSlice S4096x512 ![3, 0] (fed x) slices_S4099x512_S4096x512_3_0) (every (tap3 w))))
    (every (shapeCast S512 b shapeCasts_S1x512_S512))

/-- A gate. -/
def sigm (x : Seq) : Seq := Host.divf (level 0x3F800000#32) (addf (level 0x3F800000#32) (Host.exp (Host.negf x)))
def gate (xc : Seq) (w : FVec Ideal S1x8x64x64 .f32) (b : FVec Ideal S1x512 .f32) : Seq :=
  sigm (addf (Host.dotGeneral dot_S4096x512_S512x512_S4096x512_1_0_0_1_n_n none xc (dense w))
    (every (shapeCast S512 b shapeCasts_S1x512_S512)))

/-- The decay's logarithm: of a step at rate one, and of each step. -/
def rate (v : FVec Ideal S1x512 .f32) : Lane :=
  Host.negf (select
    (cmpf .une (subf (Host.negf (shapeCast S512 v shapeCasts_S1x512_S512)) (broadcastInDim S512 ![] bcast_S_S512 (constant S_ .f32 0x00000000#32)))
      (subf (Host.negf (shapeCast S512 v shapeCasts_S1x512_S512)) (broadcastInDim S512 ![] bcast_S_S512 (constant S_ .f32 0x00000000#32))))
    (addf (Host.negf (shapeCast S512 v shapeCasts_S1x512_S512)) (broadcastInDim S512 ![] bcast_S_S512 (constant S_ .f32 0x00000000#32)))
    (addf (maximumf (Host.negf (shapeCast S512 v shapeCasts_S1x512_S512)) (broadcastInDim S512 ![] bcast_S_S512 (constant S_ .f32 0x00000000#32)))
      (Host.log1p (Host.exp (Host.negf (Host.absf (subf (Host.negf (shapeCast S512 v shapeCasts_S1x512_S512))
        (broadcastInDim S512 ![] bcast_S_S512 (constant S_ .f32 0x00000000#32)))))))))
def decay (r : Seq) (v : FVec Ideal S1x512 .f32) : Seq := mulf (mulf (level 0x41000000#32) r) (every (rate v))

/-- What a step adds to the state. -/
def push (la i xc : Seq) : Seq :=
  mulf (Host.sqrt (Host.negf (Host.expm1 (mulf (level 0x40000000#32) la)))) (mulf i xc)

/-! ### The run's arrays are these -/

variable (V0 : Valuation τ sig (Elt Ideal))

theorem v36_eq : res_main_v36 V0
    = conv (V0 (Proc.devRef .tc main_arg0)) (V0 (Proc.devRef .tc main_arg1)) (V0 (Proc.devRef .tc main_arg2)) := rfl

theorem v91_eq : res_main_v91 V0
    = decay (gate (res_main_v36 V0) (V0 (Proc.devRef .tc main_arg3)) (V0 (Proc.devRef .tc main_arg4)))
      (V0 (Proc.devRef .tc main_arg7)) := rfl

theorem states_eq : res_main_v444 V0 = states (F := Ideal) 12 (Host.exp (res_main_v91 V0))
    (push (res_main_v91 V0) (gate (res_main_v36 V0) (V0 (Proc.devRef .tc main_arg5)) (V0 (Proc.devRef .tc main_arg6)))
      (res_main_v36 V0)) := by
  have s0 : res_main_v288 V0 = states (F := Ideal) 0 (gain 1 (res_main_v274 V0)) (drive 1 (res_main_v274 V0) (res_main_v275 V0)) := rfl
  have s1 : res_main_v301 V0 = states (F := Ideal) 1 (gain 2 (res_main_v259 V0))
      (drive 2 (res_main_v259 V0) (res_main_v260 V0)) :=
    step 0 (A' := (res_main_v274 V0)) (B' := (res_main_v275 V0)) ⟨rfl, rfl⟩ rfl s0
  have s2 : res_main_v314 V0 = states (F := Ideal) 2 (gain 4 (res_main_v244 V0))
      (drive 4 (res_main_v244 V0) (res_main_v245 V0)) :=
    step 1 (A' := (res_main_v259 V0)) (B' := (res_main_v260 V0)) ⟨rfl, rfl⟩ rfl s1
  have s3 : res_main_v327 V0 = states (F := Ideal) 3 (gain 8 (res_main_v229 V0))
      (drive 8 (res_main_v229 V0) (res_main_v230 V0)) :=
    step 2 (A' := (res_main_v244 V0)) (B' := (res_main_v245 V0)) ⟨rfl, rfl⟩ rfl s2
  have s4 : res_main_v340 V0 = states (F := Ideal) 4 (gain 16 (res_main_v214 V0))
      (drive 16 (res_main_v214 V0) (res_main_v215 V0)) :=
    step 3 (A' := (res_main_v229 V0)) (B' := (res_main_v230 V0)) ⟨rfl, rfl⟩ rfl s3
  have s5 : res_main_v353 V0 = states (F := Ideal) 5 (gain 32 (res_main_v199 V0))
      (drive 32 (res_main_v199 V0) (res_main_v200 V0)) :=
    step 4 (A' := (res_main_v214 V0)) (B' := (res_main_v215 V0)) ⟨rfl, rfl⟩ rfl s4
  have s6 : res_main_v366 V0 = states (F := Ideal) 6 (gain 64 (res_main_v184 V0))
      (drive 64 (res_main_v184 V0) (res_main_v185 V0)) :=
    step 5 (A' := (res_main_v199 V0)) (B' := (res_main_v200 V0)) ⟨rfl, rfl⟩ rfl s5
  have s7 : res_main_v379 V0 = states (F := Ideal) 7 (gain 128 (res_main_v169 V0))
      (drive 128 (res_main_v169 V0) (res_main_v170 V0)) :=
    step 6 (A' := (res_main_v184 V0)) (B' := (res_main_v185 V0)) ⟨rfl, rfl⟩ rfl s6
  have s8 : res_main_v392 V0 = states (F := Ideal) 8 (gain 256 (res_main_v154 V0))
      (drive 256 (res_main_v154 V0) (res_main_v155 V0)) :=
    step 7 (A' := (res_main_v169 V0)) (B' := (res_main_v170 V0)) ⟨rfl, rfl⟩ rfl s7
  have s9 : res_main_v405 V0 = states (F := Ideal) 9 (gain 512 (res_main_v139 V0))
      (drive 512 (res_main_v139 V0) (res_main_v140 V0)) :=
    step 8 (A' := (res_main_v154 V0)) (B' := (res_main_v155 V0)) ⟨rfl, rfl⟩ rfl s8
  have s10 : res_main_v418 V0 = states (F := Ideal) 10 (gain 1024 (res_main_v124 V0))
      (drive 1024 (res_main_v124 V0) (res_main_v125 V0)) :=
    step 9 (A' := (res_main_v139 V0)) (B' := (res_main_v140 V0)) ⟨rfl, rfl⟩ rfl s9
  have s11 : res_main_v431 V0 = states (F := Ideal) 11 (gain 2048 (res_main_v109 V0))
      (drive 2048 (res_main_v109 V0) (res_main_v110 V0)) :=
    step 10 (A' := (res_main_v124 V0)) (B' := (res_main_v125 V0)) ⟨rfl, rfl⟩ rfl s10
  exact step 11 (A' := (res_main_v109 V0)) (B' := (res_main_v110 V0)) ⟨rfl, rfl⟩ rfl s11

/-! ### Finite arrays -/

theorem level_finite {w : BitVec 32} {r : ℝ} (h : Ideal.ofBits .f32 w = (r : EReal)) : Finite (level w) := fun _ => ⟨r, h⟩

theorem every_finite {v : Lane} (h : Finite v) : Finite (every v) := fun _ => h _

theorem fed_finite {x : FVec Ideal S4096x2560 .f32} (h : Finite x) : Finite (fed x) :=
  Finite.pair (Finite.zeros _ _) (Finite.part h _ _) _ _

theorem conv_finite {x : FVec Ideal S4096x2560 .f32} {w : FVec Ideal S1x4x512 .f32} {b : FVec Ideal S1x512 .f32}
    (hx : Finite x) (hw : Finite w) (hb : Finite b) : Finite (conv x w b) :=
  have f := fed_finite hx
  Finite.add (Finite.add (Finite.add (Finite.add (Finite.add (level_finite lit_zero)
    (Finite.mul (Finite.part f _ _) (every_finite fun _ => hw _)))
    (Finite.mul (Finite.part f _ _) (every_finite fun _ => hw _)))
    (Finite.mul (Finite.part f _ _) (every_finite fun _ => hw _)))
    (Finite.mul (Finite.part f _ _) (every_finite fun _ => hw _))) (every_finite fun _ => hb _)

theorem dense_at (w : FVec Ideal S1x8x64x64 .f32) (p q : Fin 512) : dense w (ix2 p q)
    = if p.val / 64 = q.val / 64 then w (ix4 0 ⟨p.val / 64, by omega⟩ ⟨p.val % 64, by omega⟩ ⟨q.val % 64, by omega⟩) else 0 := by
  pointwise [dense]
  have e : (BitVec.ofNat 32 (p.val / 64) = BitVec.ofNat 32 (q.val / 64)) ↔ p.val / 64 = q.val / 64 := by
    rw [← BitVec.toNat_inj, BitVec.toNat_ofNat, BitVec.toNat_ofNat, Nat.mod_eq_of_lt (by omega), Nat.mod_eq_of_lt (by omega)]
  have hb : (BitVec.ofNat 32 (p.val / 64) == BitVec.ofNat 32 (q.val / 64)) = decide (p.val / 64 = q.val / 64) := by
    rw [Bool.eq_iff_iff]
    simpa using e
  by_cases h : p.val / 64 = q.val / 64
  · simp [Scalar.select, IntOp.cmpi, h]
  · simp [Scalar.select, IntOp.cmpi, hb, h]
    exact Ideal.ofBits_zero_f32

theorem dense_finite {w : FVec Ideal S1x8x64x64 .f32} (h : Finite w) : Finite (dense w) := fun i => by
  obtain ⟨p, q, rfl⟩ : ∃ p q : Fin 512, i = ix2 p q := ⟨i 0, i 1, by funext a; fin_cases a <;> rfl⟩
  rw [dense_at]
  split
  · exact h _
  · exact ⟨0, rfl⟩

theorem dot_finite {x : Seq} {w : FVec Ideal S512x512 .f32} (hx : Finite x) (hw : Finite w) :
    Finite (Host.dotGeneral dot_S4096x512_S512x512_S4096x512_1_0_0_1_n_n none x w : Seq) := fun i => by
  choose f hf using hx
  choose g hg using hw
  refine ⟨∑ k : Fin 512, f (ix2 (i 0) k) * g (ix2 k (i 1)), ?_⟩
  pointwise
  simp only [hf, hg, ← EReal.coe_mul]
  exact coe_sum _ _

theorem sigm_at {x : Seq} {i : S4096x512.Idx} {r : ℝ} (h : x i = (r : EReal)) : sigm x i = ((1 / (1 + Real.exp (-r)) : ℝ) : EReal) := by
  pointwise [sigm, level]
  rw [h]
  rw [← EReal.coe_neg, Ideal.exp_coe, ← EReal.coe_one, ← EReal.coe_add, Ideal.div_coe (by positivity), ← EReal.coe_mul, one_mul]

theorem lit_eight : Ideal.ofBits .f32 0x41000000#32 = ((8 : ℝ) : EReal) := by
  simp [Ideal.ofBits, Ideal.ieee, -EReal.coe_mul]; norm_num

theorem rate_at {v : FVec Ideal S1x512 .f32} (h : Finite v) : ∀ i, ∃ r : ℝ, r ≤ 0 ∧ rate v i = (r : EReal) := fun i => by
  pointwise [rate]
  obtain ⟨a, ha⟩ := h (ix2 0 (i 0))
  have hp : 0 < 1 + Real.exp (-max (-a) (- -a)) := by positivity
  refine ⟨-(max (-a) 0 + Real.log (1 + Real.exp (-max (-a) (- -a)))), ?_, ?_⟩
  · have := Real.log_nonneg (x := 1 + Real.exp (-max (-a) (- -a))) (by linarith [Real.exp_pos (-max (-a) (- -a))])
    linarith [le_max_right (-a) 0]
  · have mc : ∀ x y : ℝ, max (x : EReal) y = ((max x y : ℝ) : EReal) := fun x y => EReal.coe_strictMono.monotone.map_max.symm
    rw [ha, if_neg (by simp)]
    show -(max (-(a : EReal)) 0 + Ideal.log1p (Ideal.exp (-(max (-(a : EReal)) (- -(a : EReal)))))) = _
    rw [← EReal.coe_neg, ← EReal.coe_neg, ← EReal.coe_zero, mc, mc, ← EReal.coe_neg, Ideal.exp_coe,
      Ideal.log1p, ← EReal.coe_one, ← EReal.coe_add, Ideal.log_coe, if_neg (not_le.2 hp), ← EReal.coe_add, ← EReal.coe_neg]

theorem gate_at {xc : Seq} {w : FVec Ideal S1x8x64x64 .f32} {b : FVec Ideal S1x512 .f32} (hx : Finite xc) (hw : Finite w)
    (hb : Finite b) (i : S4096x512.Idx) : ∃ r : ℝ, 0 ≤ r ∧ gate xc w b i = (r : EReal) := by
  obtain ⟨r, hr⟩ := Finite.add (dot_finite hx (dense_finite hw)) (every_finite (v := shapeCast S512 b shapeCasts_S1x512_S512) fun _ => hb _) i
  exact ⟨_, by positivity, sigm_at hr⟩

theorem decay_at {r : Seq} {v : FVec Ideal S1x512 .f32} (hr : ∀ i, ∃ y : ℝ, 0 ≤ y ∧ r i = (y : EReal)) (hv : Finite v)
    (i : S4096x512.Idx) : ∃ y : ℝ, y ≤ 0 ∧ decay r v i = (y : EReal) := by
  obtain ⟨a, ha, ea⟩ := hr i
  obtain ⟨b, hb, eb⟩ := rate_at hv (ix1 (i 1))
  refine ⟨8 * a * b, mul_nonpos_of_nonneg_of_nonpos (by positivity) hb, ?_⟩
  pointwise [decay, level, every]
  rw [ea, eb, EReal.coe_mul, EReal.coe_mul]
  congr 2
  exact lit_eight

theorem push_finite {la i xc : Seq} (hl : ∀ j, ∃ y : ℝ, y ≤ 0 ∧ la j = (y : EReal)) (hi : Finite i) (hx : Finite xc) :
    Finite (push la i xc) := fun j => by
  obtain ⟨y, hy, ey⟩ := hl j
  obtain ⟨a, ha⟩ := hi j
  obtain ⟨b, hb⟩ := hx j
  refine ⟨√(-(Real.exp (2 * y) - 1)) * (a * b), ?_⟩
  have hs : ¬ -(Real.exp (2 * y) - 1) < 0 := by
    have := Real.exp_le_one_iff.2 (show 2 * y ≤ 0 by linarith)
    linarith
  pointwise [push, level]
  rw [ey, ha, hb, lit_two, ← EReal.coe_mul, Ideal.exp_coe, ← EReal.coe_one, ← EReal.coe_sub, ← EReal.coe_neg, Ideal.sqrt_coe,
    if_neg hs, ← EReal.coe_mul, ← EReal.coe_mul]

theorem finite (h0 : Finite (V0 (Proc.devRef .tc main_arg0) : FVec Ideal S4096x2560 .f32))
    (h1 : Finite (V0 (Proc.devRef .tc main_arg1) : FVec Ideal S1x4x512 .f32))
    (h2 : Finite (V0 (Proc.devRef .tc main_arg2) : FVec Ideal S1x512 .f32))
    (h3 : Finite (V0 (Proc.devRef .tc main_arg3) : FVec Ideal S1x8x64x64 .f32))
    (h4 : Finite (V0 (Proc.devRef .tc main_arg4) : FVec Ideal S1x512 .f32))
    (h5 : Finite (V0 (Proc.devRef .tc main_arg5) : FVec Ideal S1x8x64x64 .f32))
    (h6 : Finite (V0 (Proc.devRef .tc main_arg6) : FVec Ideal S1x512 .f32))
    (h7 : Finite (V0 (Proc.devRef .tc main_arg7) : FVec Ideal S1x512 .f32)) : Finite (res_main_v444 V0 : Seq) := by
  have hc : Finite (res_main_v36 V0 : Seq) := by
    rw [v36_eq]
    exact conv_finite h0 h1 h2
  have hl := decay_at (gate_at hc h3 h4) h7
  rw [← v91_eq] at hl
  rw [states_eq]
  refine states_finite 12 _ _ (fun i => ?_) (push_finite hl (fun i => ?_) hc)
  · obtain ⟨y, -, hy⟩ := hl i
    exact ⟨Real.exp y, by show Ideal.exp _ = _; rw [hy, Ideal.exp_coe]⟩
  · obtain ⟨y, -, hy⟩ := gate_at hc h5 h6 i
    exact ⟨y, hy⟩

end Cert.RnnRefIdeal.Step

end
-- ==== Proof.RnnGates.lean ====
module

public import proofs.«01_k».proof.Proof.RnnHost
public import proofs.«01_k».proof.Proof.RnnRef

@[expose] public section

set_option maxRecDepth 16384

noncomputable section

/-! The lines before the call compute the reference's states: the same arrays, laid out with an axis more or less. -/

namespace Cert.RnnKernelIdeal.Host

open Idealize.ShloMosaic Idealize.ShloMosaic.StableHlo Cert.RnnKernelIdeal Cert.RnnKernelIdeal.Gen Cert.Recur
open Cert.RnnRefIdeal.Step

theorem row_eq (v : FVec Ideal S1x512 .f32) : broadcastInDim S4096x512 ![0, 1] bcast_S1x512_S4096x512_0_1 v
    = every (shapeCast S512 v RnnRefIdeal.Gen.shapeCasts_S1x512_S512) := by
  funext i
  pointwise [every]

theorem tap_eq (v : FVec Ideal S1x4x512 .f32) :
    shapeCast S512 (extractStridedSlice S1x512 ![0, 0] (shapeCast S4x512 v shapeCasts_S1x4x512_S4x512) slices_S4x512_S1x512_0_0)
        shapeCasts_S1x512_S512 = tap0 v
    ∧ shapeCast S512 (extractStridedSlice S1x512 ![1, 0] (shapeCast S4x512 v shapeCasts_S1x4x512_S4x512) slices_S4x512_S1x512_1_0)
        shapeCasts_S1x512_S512 = tap1 v
    ∧ shapeCast S512 (extractStridedSlice S1x512 ![2, 0] (shapeCast S4x512 v shapeCasts_S1x4x512_S4x512) slices_S4x512_S1x512_2_0)
        shapeCasts_S1x512_S512 = tap2 v
    ∧ shapeCast S512 (extractStridedSlice S1x512 ![3, 0] (shapeCast S4x512 v shapeCasts_S1x4x512_S4x512) slices_S4x512_S1x512_3_0)
        shapeCasts_S1x512_S512 = tap3 v := by
  refine ⟨?_, ?_, ?_, ?_⟩ <;> funext i <;> pointwise [tap0, tap1, tap2, tap3]

theorem dense_eq (w : FVec Ideal S1x8x64x64 .f32) : shapeCast S512x512
    (mulf (F := Ideal) (φ := .f32) (broadcastInDim S8x64x8x64 ![0, 1, 2, 3] bcast_S8x64x1x64_S8x64x8x64_0_1_2_3
      (broadcastInDim S8x64x1x64 ![0, 1, 3] bcast_S8x64x64_S8x64x1x64_0_1_3 (shapeCast S8x64x64 w shapeCasts_S1x8x64x64_S8x64x64)))
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32)))
        (iotaInDim S8x8 32 1)))))) shapeCasts_S8x64x8x64_S512x512 = dense w := by
  funext i
  obtain ⟨p, q, rfl⟩ : ∃ p q : Fin 512, i = ix2 p q := ⟨i 0, i 1, by funext a; fin_cases a <;> rfl⟩
  rw [dense_at]
  pointwise
  have e : (BitVec.ofNat 32 (p.val / 64) = BitVec.ofNat 32 (q.val / 64)) ↔ p.val / 64 = q.val / 64 := by
    rw [← BitVec.toNat_inj, BitVec.toNat_ofNat, BitVec.toNat_ofNat, Nat.mod_eq_of_lt (by omega), Nat.mod_eq_of_lt (by omega)]
  have hb : (BitVec.ofNat 32 (p.val / 64) == BitVec.ofNat 32 (q.val / 64)) = decide (p.val / 64 = q.val / 64) := by
    rw [Bool.eq_iff_iff]
    simpa using e
  show _ * (((IntOp.cmpi CmpIPredicate.eq (IntOp.addi (BitVec.ofNat 32 (p.val / 64)) 0#32) (BitVec.ofNat 32 (q.val / 64))).toNat : ℝ) : EReal) = _
  by_cases h : p.val / 64 = q.val / 64 <;> simp [IntOp.cmpi, IntOp.addi, hb, h]

theorem conv_form (x : FVec Ideal S4096x2560 .f32) (w : FVec Ideal S1x4x512 .f32) (b : FVec Ideal S1x512 .f32) : conv x w b
    = addf (addf (addf (addf (addf (level 0x00000000#32)
      (mulf (extractStridedSlice S4096x512 ![0, 0] (fed x) slices_S4099x512_S4096x512_0_0) (every (shapeCast S512 (extractStridedSlice S1x512 ![0, 0] (shapeCast S4x512 w shapeCasts_S1x4x512_S4x512) slices_S4x512_S1x512_0_0)
        shapeCasts_S1x512_S512))))
      (mulf (extractStridedSlice S4096x512 ![1, 0] (fed x) slices_S4099x512_S4096x512_1_0) (every (shapeCast S512 (extractStridedSlice S1x512 ![1, 0] (shapeCast S4x512 w shapeCasts_S1x4x512_S4x512) slices_S4x512_S1x512_1_0)
        shapeCasts_S1x512_S512))))
      (mulf (extractStridedSlice S4096x512 ![2, 0] (fed x) slices_S4099x512_S4096x512_2_0) (every (shapeCast S512 (extractStridedSlice S1x512 ![2, 0] (shapeCast S4x512 w shapeCasts_S1x4x512_S4x512) slices_S4x512_S1x512_2_0)
        shapeCasts_S1x512_S512))))
      (mulf (extractStridedSlice S4096x512 ![3, 0] (fed x) slices_S4099x512_S4096x512_3_0) (every (shapeCast S512 (extractStridedSlice S1x512 ![3, 0] (shapeCast S4x512 w shapeCasts_S1x4x512_S4x512) slices_S4x512_S1x512_3_0)
        shapeCasts_S1x512_S512)))) (broadcastInDim S4096x512 ![0, 1] bcast_S1x512_S4096x512_0_1 b) := by
  obtain ⟨t0, t1, t2, t3⟩ := tap_eq w
  rw [conv, ← t0, ← t1, ← t2, ← t3, row_eq b]

theorem rate_form (v : FVec Ideal S1x512 .f32) : broadcastInDim S4096x512 ![0, 1] bcast_S1x512_S4096x512_0_1
    (Host.negf (F := Ideal) (φ := .f32) (select
      (cmpf .une (subf (Host.negf v) (broadcastInDim S1x512 ![] bcast_S_S1x512 (constant S_ .f32 0x00000000#32)))
        (subf (Host.negf v) (broadcastInDim S1x512 ![] bcast_S_S1x512 (constant S_ .f32 0x00000000#32))))
      (addf (Host.negf v) (broadcastInDim S1x512 ![] bcast_S_S1x512 (constant S_ .f32 0x00000000#32)))
      (addf (maximumf (Host.negf v) (broadcastInDim S1x512 ![] bcast_S_S1x512 (constant S_ .f32 0x00000000#32)))
        (Host.log1p (Host.exp (Host.negf (Host.absf (subf (Host.negf v)
          (broadcastInDim S1x512 ![] bcast_S_S1x512 (constant S_ .f32 0x00000000#32)))))))))) = every (rate v) := by
  funext i
  pointwise [rate, every]

variable (m : (ℓ : Loc nD τ sig) → Buf (Elt Ideal) ℓ)

theorem dense_wa (c : Dev nD) : V m c main_v12 = dense (V m c main_arg3) ∧ V m c main_v25 = dense (V m c main_arg5) := by
  rw [at_cut m c 0 main_v12, at_cut m c 0 main_v25, at_cut m c 0 main_arg3, at_cut m c 0 main_arg5]
  generalize upto line _ 0 = U
  after_reads_simp
  exact ⟨dense_eq _, dense_eq _⟩

theorem fed_eq (c : Dev nD) : V m c main_v29 = fed (V m c main_arg0)
    ∧ V m c main_v26 = shapeCast S4x512 (V m c main_arg1) shapeCasts_S1x4x512_S4x512 := by
  have h : V m c main_v29 = concatenate S4099x512 0 [⟨S3x512, V m c main_v28⟩, ⟨S4096x512, V m c main_v27⟩]
      concatenates_S3x512_S4096x512_S4099x512_d0 := by
    rw [at_cut m c 32 main_v29, at_cut m c 32 main_v28, at_cut m c 32 main_v27]
    generalize upto line _ 32 = U
    rw [show after (line.drop 32) U (Proc.devRef .tc main_v28) = U (Proc.devRef .tc main_v28) from by after_reads_simp,
      show after (line.drop 32) U (Proc.devRef .tc main_v27) = U (Proc.devRef .tc main_v27) from by after_reads_simp]
    after_reads_simp
    rfl
  have h' : V m c main_v28 = broadcastInDim S3x512 ![] bcast_S_S3x512 (constant (F := Ideal) S_ .f32 0x00000000#32)
      ∧ V m c main_v27 = extractStridedSlice S4096x512 ![0, 0] (V m c main_arg0) slices_S4096x2560_S4096x512_0_0
      ∧ V m c main_v26 = shapeCast S4x512 (V m c main_arg1) shapeCasts_S1x4x512_S4x512 := by
    rw [at_cut m c 28 main_v28, at_cut m c 28 main_v27, at_cut m c 28 main_v26, at_cut m c 28 main_arg0, at_cut m c 28 main_arg1]
    generalize upto line _ 28 = U
    after_reads_simp
    exact ⟨trivial, trivial, rfl⟩
  rw [h, h'.1, h'.2.1]
  exact ⟨rfl, h'.2.2⟩

theorem conv_eq (c : Dev nD) : V m c main_v60 = conv (V m c main_arg0) (V m c main_arg1) (V m c main_arg2) := by
  rw [conv_form, ← (fed_eq m c).1, ← (fed_eq m c).2]
  rw [at_cut m c 33 main_v60, at_cut m c 33 main_v29, at_cut m c 33 main_v26, at_cut m c 33 main_arg2]
  generalize upto line _ 33 = U
  after_reads_simp
  rfl

theorem gate_eq (c : Dev nD) : V m c main_v69 = gate (V m c main_v60) (V m c main_arg3) (V m c main_arg4)
    ∧ V m c main_v78 = gate (V m c main_v60) (V m c main_arg5) (V m c main_arg6) := by
  rw [gate, gate, ← (dense_wa m c).1, ← (dense_wa m c).2, ← row_eq, ← row_eq]
  rw [at_cut m c 65 main_v69, at_cut m c 65 main_v78, at_cut m c 65 main_v60, at_cut m c 65 main_v12, at_cut m c 65 main_v25,
    at_cut m c 65 main_arg4, at_cut m c 65 main_arg6]
  generalize upto line _ 65 = U
  after_reads_simp
  exact ⟨rfl, rfl⟩

theorem decay_eq (c : Dev nD) : V m c main_v83 = decay (V m c main_v69) (V m c main_arg7) := by
  rw [at_cut m c 87 main_v83, at_cut m c 87 main_v69, at_cut m c 87 main_arg7]
  generalize upto line _ 87 = U
  after_reads_simp
  generalize U (Proc.devRef .tc main_arg7) = v
  rw [decay, ← rate_form v]
  rfl

theorem push_eq (c : Dev nD) : V m c main_v84 = Host.exp (F := Ideal) (φ := .f32) (V m c main_v83) ∧ V m c main_v91 = push (V m c main_v83) (V m c main_v78) (V m c main_v60) := by
  rw [at_cut m c 108 main_v84, at_cut m c 108 main_v91, at_cut m c 108 main_v83, at_cut m c 108 main_v78, at_cut m c 108 main_v60]
  generalize upto line _ 108 = U
  after_reads_simp
  exact ⟨trivial, rfl⟩

/-- The states handed to the kernel are the reference's. -/
theorem held (c : Dev nD) (V0 : Valuation RnnRefIdeal.τ RnnRefIdeal.sig (Elt Ideal))
    (h0 : V m c main_arg0 = V0 (Proc.devRef .tc RnnRefIdeal.main_arg0)) (h1 : V m c main_arg1 = V0 (Proc.devRef .tc RnnRefIdeal.main_arg1))
    (h2 : V m c main_arg2 = V0 (Proc.devRef .tc RnnRefIdeal.main_arg2)) (h3 : V m c main_arg3 = V0 (Proc.devRef .tc RnnRefIdeal.main_arg3))
    (h4 : V m c main_arg4 = V0 (Proc.devRef .tc RnnRefIdeal.main_arg4)) (h5 : V m c main_arg5 = V0 (Proc.devRef .tc RnnRefIdeal.main_arg5))
    (h6 : V m c main_arg6 = V0 (Proc.devRef .tc RnnRefIdeal.main_arg6)) (h7 : V m c main_arg7 = V0 (Proc.devRef .tc RnnRefIdeal.main_arg7)) :
    V m c main_v427 = RnnRefIdeal.Value.res_main_v444 V0 := by
  rw [saved, (push_eq m c).1, (push_eq m c).2, decay_eq, (gate_eq m c).1, (gate_eq m c).2, conv_eq, h0, h1, h2, h3, h4, h5, h6, h7,
    states_eq, v91_eq, v36_eq]

end Cert.RnnKernelIdeal.Host

end
-- ==== Proof.RnnStep.lean ====
module

public import proofs.«01_k».proof.Proof.RnnIdealFrame
public import proofs.«01_k».proof.Proof.RnnGates
public import proofs.«01_k».proof.Proof.Num
public import Idealize.ShloMosaic.Lib.VecWindow

/-! What the recurrence's backward call stores of the gate's gradient: at every tile the same function of the gate's
tile, the states' tile and the incoming gradient's tile, so the whole array is that function row by row. -/

@[expose] public section

set_option maxRecDepth 16384

noncomputable section

namespace Cert.RnnKernelIdeal.Carry
open Idealize.ShloMosaic Idealize.SL.Sem Cert.RnnKernelIdeal Cert.RnnKernelIdeal.Gen Cert.Num

variable (m : (ℓ : Loc nD τ sig) → Buf (Elt Ideal) ℓ)

private theorem at_ext {n k : ℕ} {a b : (⟨2, ![n, k]⟩ : Shape).Idx} (h0 : (a 0).val = (b 0).val) (h1 : (a 1).val = (b 1).val) : a = b :=
  funext fun d => Fin.ext (match d with | ⟨0, _⟩ => h0 | ⟨1, _⟩ => h1)

/-- What a tile stores, from the gate `g`, the states `h` and the incoming gradient `d`. -/
abbrev grad (g h d : Vec Ideal S512x512 .f32) : Vec Ideal S512x512 .bf16 :=
  k0_pay37 g (k0_pay32 h d) (k0_pay34 g) (k0_pay35 g) (k0_pay36 g) (Scalar.ofBits .f32 0x3F800000#32)

/-- The gate's gradient on the tile of point `t`. -/
abbrev tile (c : Dev nD) (t : Fin cfg0.N) : Vec Ideal S512x512 .bf16 :=
  grad (iblk m c 2 t) (iblk m c 3 t) (iblk m c 5 t)

private theorem hz : ![0, 0] = (fun _ => 0 : Fin 2 → ℕ) := by funext a; fin_cases a <;> rfl

theorem first_at (c : Dev nD) (t : Fin cfg0.N) (h0 : t.val % 8 = 0) (h1 : ¬t.val % 8 = 7) :
    told VO0_14 (firstRun m c t h0 h1).2.1 = tile m c t := by
  refine (View.read_writes_full VO0_14 VO0_14.junk (off := ![0, 0]) (by decide) _ []).trans ?_
  unfold kernelRun0_A.sl.r_2 kernelRun0_A.sl.r_5 kernelRun0_A.sl.r_6 kernelRun0_A.sl.r_7 kernelRun0_A.sl.r_8
  simp only [View.readAt_eq_ld, Memref.IsWhole.read_unread, View.ld_unit_zero (S := S512x512) hz]
  rfl

theorem inner_at (c : Dev nD) (t : Fin cfg0.N) (h0 : ¬t.val % 8 = 0) (h1 : ¬t.val % 8 = 7) (p : Left Ideal) :
    told VO0_14 (innerRun m c t h0 h1 p).2.1 = tile m c t := by
  refine (View.read_writes_full VO0_14 VO0_14.junk (off := ![0, 0]) (by decide) _ []).trans ?_
  unfold kernelRun0_B.sl.r_2 kernelRun0_B.sl.r_5 kernelRun0_B.sl.r_6 kernelRun0_B.sl.r_7 kernelRun0_B.sl.r_8
  simp only [View.readAt_eq_ld, Memref.IsWhole.read_unread, View.ld_unit_zero (S := S512x512) hz]
  rfl

theorem final_at (c : Dev nD) (t : Fin cfg0.N) (h0 : ¬t.val % 8 = 0) (h1 : t.val % 8 = 7) (p : Left Ideal) :
    told VO0_14 (finalRun m c t h0 h1 p).2.1 = tile m c t := by
  refine (View.read_writes_full VO0_14 VO0_14.junk (off := ![0, 0]) (by decide) _ []).trans ?_
  unfold kernelRun0_C.sl.r_2 kernelRun0_C.sl.r_5 kernelRun0_C.sl.r_6 kernelRun0_C.sl.r_7 kernelRun0_C.sl.r_8
  simp only [View.readAt_eq_ld, Memref.IsWhole.read_unread, View.ld_unit_zero (S := S512x512) hz]
  rfl

theorem first_dgate (c : Dev nD) (t : Fin cfg0.N) (h0 h1) : (firstLeft m c t h0 h1).dgate = told VO0_14 (firstRun m c t h0 h1).2.1 := by
  unfold firstLeft; dsimp only

theorem inner_dgate (c : Dev nD) (t : Fin cfg0.N) (h0 h1) (p : Left Ideal) :
    (innerLeft m c t h0 h1 p).dgate = told VO0_14 (innerRun m c t h0 h1 p).2.1 := by
  unfold innerLeft; dsimp only

theorem final_dgate (c : Dev nD) (t : Fin cfg0.N) (h0 h1) (p : Left Ideal) :
    (finalLeft m c t h0 h1 p).dgate = told VO0_14 (finalRun m c t h0 h1 p).2.1 := by
  unfold finalLeft; dsimp only

/-- Whichever tile it is, it leaves its gradient. -/
theorem after_tile (c : Dev nD) (t : Fin cfg0.N) : (left m c (t.val + 1)).dgate = tile m c t := by
  refine (congrArg Left.dgate (left_succ m c t)).trans ?_
  by_cases h0 : t.val % 8 = 0
  · have h1 : ¬t.val % 8 = 7 := by omega
    exact (congrArg Left.dgate ((dif_pos h0).trans (dif_neg h1))).trans ((first_dgate m c t h0 h1).trans (first_at m c t h0 h1))
  by_cases h1 : t.val % 8 = 7
  · exact (congrArg Left.dgate ((dif_neg h0).trans (dif_pos h1))).trans ((final_dgate m c t h0 h1 _).trans (final_at m c t h0 h1 _))
  · exact (congrArg Left.dgate ((dif_neg h0).trans (dif_neg h1))).trans ((inner_dgate m c t h0 h1 _).trans (inner_at m c t h0 h1 _))

/-! ### The blocks -/

/-- Row `r` of the tile of point `t`: the tiles come last to first. -/
def row (t : Fin cfg0.N) (r : Fin 512) : Fin 4096 := ⟨(7 - t.val) * 512 + r.val, by have := r.isLt; omega⟩

theorem split (i : Fin 4096) : ∃ (t : Fin cfg0.N) (r : Fin 512), row t r = i :=
  have hN : cfg0.N = 8 := N_0
  ⟨⟨7 - i.val / 512, by have := i.isLt; omega⟩, ⟨i.val % 512, Nat.mod_lt _ (by norm_num)⟩,
    Fin.ext (by show (7 - (7 - i.val / 512)) * 512 + i.val % 512 = i.val; have := i.isLt; omega)⟩

/-- The gate's columns. -/
def col (l : Fin 512) : Fin 2560 := ⟨512 + l.val, by have := l.isLt; omega⟩

theorem places : ∀ t : Fin cfg0.N, (win0_2.index t (0 : Fin 2) = 7 - t.val ∧ win0_2.index t (1 : Fin 2) = 1)
    ∧ (win0_3.index t (0 : Fin 2) = 7 - t.val ∧ win0_3.index t (1 : Fin 2) = 0)
    ∧ (win0_5.index t (0 : Fin 2) = 7 - t.val ∧ win0_5.index t (1 : Fin 2) = 0)
    ∧ (win0_14.index t (0 : Fin 2) = 7 - t.val ∧ win0_14.index t (1 : Fin 2) = 0) :=
  (by decide +kernel : ∀ t : Fin grid0.N, _)

theorem gate_read (X : Vec Ideal S4096x2560 .f32) (t : Fin cfg0.N) (r l : Fin 512) :
    ((cfg0.win 2).blk t).view.read (Elt Ideal) X (ix2 r l) = X (ix2 (row t r) (col l)) := by
  obtain ⟨⟨e0, e1⟩, -⟩ := places t
  exact congrArg X (at_ext
    (by show win0_2.index t (0 : Fin 2) * 512 + 1 * r.val = (7 - t.val) * 512 + r.val; omega)
    (by show win0_2.index t (1 : Fin 2) * 512 + 1 * l.val = 512 + l.val; omega))

theorem state_read (X : Vec Ideal S4096x512 .f32) (t : Fin cfg0.N) (r l : Fin 512) :
    ((cfg0.win 3).blk t).view.read (Elt Ideal) X (ix2 r l) = X (ix2 (row t r) l) := by
  obtain ⟨-, ⟨e0, e1⟩, -⟩ := places t
  exact congrArg X (at_ext
    (by show win0_3.index t (0 : Fin 2) * 512 + 1 * r.val = (7 - t.val) * 512 + r.val; omega)
    (by show win0_3.index t (1 : Fin 2) * 512 + 1 * l.val = l.val; omega))

theorem grad_read (X : Vec Ideal S4096x512 .f32) (t : Fin cfg0.N) (r l : Fin 512) :
    ((cfg0.win 5).blk t).view.read (Elt Ideal) X (ix2 r l) = X (ix2 (row t r) l) := by
  obtain ⟨-, -, ⟨e0, e1⟩, -⟩ := places t
  exact congrArg X (at_ext
    (by show win0_5.index t (0 : Fin 2) * 512 + 1 * r.val = (7 - t.val) * 512 + r.val; omega)
    (by show win0_5.index t (1 : Fin 2) * 512 + 1 * l.val = l.val; omega))

theorem gate_blk (c : Dev nD) (t : Fin cfg0.N) (r l : Fin 512) :
    iblk m c 2 t (ix2 r l) = V m c main_arg0 (ix2 (row t r) (col l)) := by
  unfold iblk
  exact gate_read (V m c main_arg0) t r l

theorem state_blk (c : Dev nD) (t : Fin cfg0.N) (r l : Fin 512) :
    iblk m c 3 t (ix2 r l) = V m c main_v427 (ix2 (row t r) l) := by
  unfold iblk
  exact state_read (V m c main_v427) t r l

theorem grad_blk (c : Dev nD) (t : Fin cfg0.N) (r l : Fin 512) :
    iblk m c 5 t (ix2 r l) = V m c main_arg8 (ix2 (row t r) l) := by
  unfold iblk
  exact grad_read (V m c main_arg8) t r l

/-- No two tiles share a row of the gradient. -/
theorem apart (t t' : Fin cfg0.N) (h : win0_14.index t = win0_14.index t') : t = t' := by
  have a := (places t).2.2.2.1
  have b := (places t').2.2.2.1
  have hN : cfg0.N = 8 := N_0
  have := t.isLt
  have := t'.isLt
  rw [h] at a
  exact Fin.ext (by omega)

theorem dgate_arr (c : Dev nD) (t : Fin cfg0.N) (r l : Fin 512) :
    (dats m 0 c).arrAt 14 cfg0.N (ix2 (row t r) l) = tile m c t (ix2 r l) := by
  obtain ⟨-, -, -, e0, e1⟩ := places t
  refine Eq.trans (congrArg ((dats m 0 c).arrAt 14 cfg0.N) (at_ext (a := ix2 (row t r) l)
    (b := ((cfg0.win 14).blk t).view.emb (ix2 r l))
    (by show (7 - t.val) * 512 + r.val = win0_14.index t (0 : Fin 2) * 512 + 1 * r.val; omega)
    (by show l.val = win0_14.index t (1 : Fin 2) * 512 + 1 * l.val; omega))) ?_
  refine (congrFun ((dats m 0 c).read_blk_arrAt_eq_flushed 14
    (fun t t' _ _ hne => (cfg0.win 14).disjoint_blk fun h => hne (apart t t' h)) cfg0.N t t.isLt (flush0_14 t)) (ix2 r l)).trans ?_
  exact congrFun (after_tile m c t) (ix2 r l)

/-! ### The arithmetic -/

theorem lit_c0 : ∃ k : ℝ, Ideal.ofBits .f32 0x3F4C422A#32 = (k : EReal) := by
  refine ⟨13386282 / 16777216, ?_⟩
  simp [Ideal.ofBits, Ideal.ieee, -EReal.coe_mul]; norm_num

theorem lit_cubic : Ideal.ofBits .f32 0x472EAB00#32 = ((44715 : ℝ) : EReal) := by
  simp [Ideal.ofBits, Ideal.ieee, -EReal.coe_mul]; norm_num

theorem lit_million : Ideal.ofBits .f32 0x49742400#32 = ((1000000 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

/-- The gate's gradient at one place: `k` is the gelu's scale, `g` the gate, `h` the state, `d` what comes in. -/
def slope (k g h d : ℝ) : ℝ :=
  d * h * (1 / 2 * (1 + Real.tanh (k * (g + 8943 / 200000 * g * g * g)))
    + 1 / 2 * g * (1 - Real.tanh (k * (g + 8943 / 200000 * g * g * g)) * Real.tanh (k * (g + 8943 / 200000 * g * g * g)))
      * (k * (1 + 26829 / 200000 * g * g)))

theorem pay_at (g h d : Vec Ideal S512x512 .f32) (r l : Fin 512) {k G H D : ℝ} (hk : Ideal.ofBits .f32 0x3F4C422A#32 = (k : EReal))
    (hG : g (ix2 r l) = (G : EReal)) (hH : h (ix2 r l) = (H : EReal)) (hD : d (ix2 r l) = (D : EReal)) :
    grad g h d (ix2 r l) = (slope k G H D : EReal) := by
  have n1 : (Named.named κ "k1" 0x3D372713#32 : Ideal .f32) = ((8943 / 200000 : ℝ) : EReal) := rfl
  have n3 : (Named.named κ "k1_thrice" 0x3E095D4F#32 : Ideal .f32) = ((26829 / 200000 : ℝ) : EReal) := rfl
  pointwise [grad, k0_pay37, k0_pay32, k0_pay31, k0_pay34, k0_pay35, k0_pay36, k0_pay33]
  rw [hG, hH, hD]
  generalize (Named.named κ "k1" 0x3D372713#32 : Ideal .f32) = a at n1 ⊢
  generalize (Named.named κ "k1_thrice" 0x3E095D4F#32 : Ideal .f32) = b at n3 ⊢
  subst n1 n3
  rw [hk, lit_half, show (1 : EReal) = ((1 : ℝ) : EReal) from EReal.coe_one.symm]
  unfold slope
  simp only [← EReal.coe_mul, ← EReal.coe_add, ← EReal.coe_sub, Ideal.tanh_coe]

end Cert.RnnKernelIdeal.Carry

end
-- ==== Proof.RnnClaim.lean ====
module

public import proofs.«01_k».proof.Defs
public import proofs.«01_k».proof.Proof.Gen.Pre_rnn_finite
public import proofs.«01_k».proof.Proof.RnnStep
public import proofs.«01_k».proof.Proof.RnnRef
public import Idealize.ShloMosaic.Adequacy
public import Idealize.ShloMosaic.Init

/-! The claims about the recurrence's backward call. -/

@[expose] public section

set_option maxRecDepth 16384

noncomputable section

namespace Cert.RnnRefIdeal.Step
open Idealize.ShloMosaic Idealize.SL.Sem Cert.RnnRefIdeal Cert.RnnRefIdeal.Gen Cert.RnnRefIdeal.Value Cert.Num
open Cert.RnnKernelIdeal.Carry (slope col lit_cubic lit_million lit_three)

variable (V0 : Valuation τ sig (Elt Ideal))

/-- The reference's gradient of the gate. -/
abbrev dgate : FVec Ideal S4096x512 .bf16 :=
  truncf .bf16 (addf (addf (mulf (res_main_v460 V0) (res_main_v457 V0)) (res_main_v467 V0))
    (mulf (mulf (broadcastInDim S4096x512 ![] bcast_S_S4096x512 (constant S_ .f32 0x472EAB00#32))
        (Host.divf (res_main_v467 V0) (broadcastInDim S4096x512 ![] bcast_S_S4096x512 (constant S_ .f32 0x49742400#32))))
      (mulf (broadcastInDim S4096x512 ![] bcast_S_S4096x512 (constant S_ .f32 0x40400000#32)) (mulf (res_main_v0 V0) (res_main_v0 V0)))))
    bitsLt_bf16_f32

theorem dgate_at (i : Fin 4096) (l : Fin 512) {k G H D : ℝ} (hk : Ideal.ofBits .f32 0x3F4C422A#32 = (k : EReal))
    (hG : (V0 (Proc.devRef .tc main_arg0) : FVec Ideal S4096x2560 .f32) (ix2 i (col l)) = (G : EReal))
    (hH : (res_main_v444 V0 : FVec Ideal S4096x512 .f32) (ix2 i l) = (H : EReal))
    (hD : (V0 (Proc.devRef .tc main_arg8) : FVec Ideal S4096x512 .f32) (ix2 i l) = (D : EReal)) :
    dgate V0 (ix2 i l) = (slope k G H D : EReal) := by
  unfold dgate res_main_v467 res_main_v457 res_main_v448 res_main_v460 res_main_v0
  generalize (V0 (Proc.devRef .tc main_arg0) : FVec Ideal S4096x2560 .f32) = X at hG ⊢
  generalize (res_main_v444 V0 : FVec Ideal S4096x512 .f32) = Y at hH ⊢
  generalize (V0 (Proc.devRef .tc main_arg8) : FVec Ideal S4096x512 .f32) = Z at hD ⊢
  pointwise
  change X (ix2 i ⟨512 + l.val, _⟩) = _ at hG
  rw [hG, hH, hD, hk, lit_half, lit_cubic, lit_million, lit_three, show (1 : EReal) = ((1 : ℝ) : EReal) from EReal.coe_one.symm]
  have hm : (1000000 : ℝ) ≠ 0 := by norm_num
  simp only [← EReal.coe_mul, ← EReal.coe_add, ← EReal.coe_sub, Ideal.tanh_coe, Ideal.div_coe hm]
  unfold Cert.RnnKernelIdeal.Carry.slope
  rw [show k * (G + 44715 * (G * G * G) * (1 / 1000000)) = k * (G + 8943 / 200000 * G * G * G) by ring]
  generalize Real.tanh (k * (G + 8943 / 200000 * G * G * G)) = u
  congr 1
  ring

end Cert.RnnRefIdeal.Step

namespace Cert.Proof

open Idealize.ShloMosaic Idealize.SL.Sem Cert.Num

/-- The precondition, array by array. -/
theorem rnn_bounds {x0 x1 x2 x3 x4 x5 x6 x7 x8} (h : Cert.Pre_rnn_finite.fn (F := Ideal) x0 x1 x2 x3 x4 x5 x6 x7 x8 = fun _ => 1#1) :
    Reals x0 (fun i => (x0 i).toReal) ∧ Reals x1 (fun i => (x1 i).toReal) ∧ Reals x2 (fun i => (x2 i).toReal)
    ∧ Reals x3 (fun i => (x3 i).toReal) ∧ Reals x4 (fun i => (x4 i).toReal) ∧ Reals x5 (fun i => (x5 i).toReal)
    ∧ Reals x6 (fun i => (x6 i).toReal) ∧ Reals x7 (fun i => (x7 i).toReal) ∧ Reals x8 (fun i => (x8 i).toReal) := by
  have h := congrFun h (fun a => a.elim0)
  unfold Cert.Pre_rnn_finite.fn Cert.Pre_rnn_finite.fn_part1 Cert.Pre_rnn_finite.fn_part2 Cert.Pre_rnn_finite.fn_part3 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨reals_of (finite_of _ _ _ _ _ _ _ h0), reals_of (finite_of _ _ _ _ _ _ _ h1), reals_of (finite_of _ _ _ _ _ _ _ h2),
    reals_of (finite_of _ _ _ _ _ _ _ h3), reals_of (finite_of _ _ _ _ _ _ _ h4), reals_of (finite_of _ _ _ _ _ _ _ h5),
    reals_of (finite_of _ _ _ _ _ _ _ h6), reals_of (finite_of _ _ _ _ _ _ _ h7), reals_of (finite_of _ _ _ _ _ _ _ h8)⟩

theorem rnn_frame : Cert.quiescent_RnnRefIdeal := fun m ρ _ =>
  (θ_run Cert.RnnRefIdeal.defs _ _).mono (fun r h => ⟨fun c => (h c).2, Idealize.ShloMosaic.sem_eq_zero_of_no_sems (by decide) r.2⟩)
    (Cert.RnnRefIdeal.Value.run (F := Ideal) m ρ)

open Cert.RnnKernelIdeal.Gen Cert.RnnKernelIdeal.Carry in
theorem rnn_algebraic : Cert.algebraic_RnnKernelIdeal_RnnRefIdeal_pre_rnn_finite := by
  intro m g m' g' hpre harg
  refine ⟨fun c => (dats m 0 c).arrAt 14 Cert.RnnKernelIdeal.cfg0.N, ?_, ?_⟩
  · have both := θ_run_and (Cert.RnnKernelIdeal.Carry.run m g) (Cert.RnnKernelIdeal.Carry.frame m g)
    exact (θ_run Cert.RnnKernelIdeal.defs _ _).mono (fun r h c => ⟨(h.1 c).1 14, h.2.1 c⟩) both
  refine (θ_run Cert.RnnRefIdeal.defs _ _).mono (fun r h c => ?_) (Cert.RnnRefIdeal.Value.run (F := Ideal) m' g')
  refine ⟨(h c).1.trans ?_, (h c).2⟩
  obtain ⟨e0, e1, e2, e3, e4, e5, e6, e7, e8⟩ := harg c
  obtain ⟨r0, r1, r2, r3, r4, r5, r6, r7, r8⟩ := rnn_bounds (hpre c)
  obtain ⟨k, hk⟩ := lit_c0
  let V0 := StableHlo.launchContents m' c
  have states := Cert.RnnKernelIdeal.Host.held m c V0 ((V_main_arg0 m c).trans e0.symm) ((V_main_arg1 m c).trans e1.symm)
    ((V_main_arg2 m c).trans e2.symm) ((V_main_arg3 m c).trans e3.symm) ((V_main_arg4 m c).trans e4.symm)
    ((V_main_arg5 m c).trans e5.symm) ((V_main_arg6 m c).trans e6.symm) ((V_main_arg7 m c).trans e7.symm)
  have finite : Cert.Recur.Finite (Cert.RnnRefIdeal.Value.res_main_v444 V0 : Cert.RnnRefIdeal.Step.Seq) :=
    Cert.RnnRefIdeal.Step.finite V0 (fun i => ⟨_, (congrFun e0 i).trans (r0 i)⟩) (fun i => ⟨_, (congrFun e1 i).trans (r1 i)⟩)
      (fun i => ⟨_, (congrFun e2 i).trans (r2 i)⟩) (fun i => ⟨_, (congrFun e3 i).trans (r3 i)⟩)
      (fun i => ⟨_, (congrFun e4 i).trans (r4 i)⟩) (fun i => ⟨_, (congrFun e5 i).trans (r5 i)⟩)
      (fun i => ⟨_, (congrFun e6 i).trans (r6 i)⟩) (fun i => ⟨_, (congrFun e7 i).trans (r7 i)⟩)
  funext j
  obtain ⟨i, l, rfl⟩ : ∃ (i : Fin 4096) (l : Fin 512), j = ix2 i l := ⟨j 0, j 1, by funext a; fin_cases a <;> rfl⟩
  obtain ⟨H, hH⟩ := finite (ix2 i l)
  refine (Cert.RnnRefIdeal.Step.dgate_at V0 i l hk ((congrFun e0 _).trans (r0 _)) hH ((congrFun e8 _).trans (r8 _))).trans ?_
  obtain ⟨t, r, rfl⟩ := split i
  refine ((dgate_arr m c t r l).trans (pay_at _ _ _ r l hk ?_ ?_ ?_)).symm
  · exact (gate_blk m c t r l).trans ((congrFun (V_main_arg0 m c) _).trans (r0 _))
  · exact (state_blk m c t r l).trans ((congrFun states _).trans hH)
  · exact (grad_blk m c t r l).trans ((congrFun (V_main_arg8 m c) _).trans (r8 _))

end Cert.Proof

end
-- ==== Proof.AttWords.lean ====
/-
  The attention backward kernel's words: the windows it visits lie inside its buffers.
-/
module

public import proofs.«01_k».proof.AttKernel
public import Idealize.ShloMosaic.Lib.Tactic

@[expose] public section

namespace Cert.AttKernel.Carry

open Cert.AttKernel
open Idealize.ShloMosaic

set_option maxRecDepth 100000

/-- Every window the search for the last one looks at lies inside the buffers. -/
theorem first_ok : ∀ (p : Fin k0_t1_loop.trips) (g : Fin 12), k0_chk1 p (BitVec.ofNat 32 g.val) := by
  decide +kernel

/-- A search that goes on is not at the twelfth window yet. -/
theorem going : ∀ (p : Fin k0_t1_loop.trips) (g : Fin 12),
    Scalar.cmpi .sgt (Scalar.subi (Scalar.muli (Scalar.addi (Scalar.addi (Scalar.muli 2#32 (Scf.iv 0#32 1#32 p)) 1#32) 1#32) 128#32)
      (Scalar.muli (BitVec.ofNat 32 g.val) 384#32)) 0#32 = 1#1 → g.val < 11 := by
  decide +kernel

theorem second_bits : ∀ (p : Fin k0_t1_loop.trips) (b : Fin 2) (g : Fin 12), k0_chk2 p (BitVec.ofNat 1 b.val) (BitVec.ofNat 32 g.val) := by
  decide +kernel

/-- Every window the gradients are taken over lies inside the buffers. -/
theorem second_ok (p : Fin k0_t1_loop.trips) (b : BitVec 1) (g : Fin 12) : k0_chk2 p b (BitVec.ofNat 32 g.val) := by
  have h := second_bits p ⟨b.toNat, b.isLt⟩ g
  simpa using h

end Cert.AttKernel.Carry
-- ==== Proof.AttIdealWords.lean ====
/-
  The attention backward kernel's words: the windows it visits lie inside its buffers.
-/
module

public import proofs.«01_k».proof.AttKernelIdeal
public import Idealize.ShloMosaic.Lib.Tactic

@[expose] public section

namespace Cert.AttKernelIdeal.Carry

open Cert.AttKernelIdeal
open Idealize.ShloMosaic

set_option maxRecDepth 100000

/-- Every window the search for the last one looks at lies inside the buffers. -/
theorem first_ok : ∀ (p : Fin k0_t1_loop.trips) (g : Fin 12), k0_chk1 p (BitVec.ofNat 32 g.val) := by
  decide +kernel

/-- A search that goes on is not at the twelfth window yet. -/
theorem going : ∀ (p : Fin k0_t1_loop.trips) (g : Fin 12),
    Scalar.cmpi .sgt (Scalar.subi (Scalar.muli (Scalar.addi (Scalar.addi (Scalar.muli 2#32 (Scf.iv 0#32 1#32 p)) 1#32) 1#32) 128#32)
      (Scalar.muli (BitVec.ofNat 32 g.val) 384#32)) 0#32 = 1#1 → g.val < 11 := by
  decide +kernel

theorem second_bits : ∀ (p : Fin k0_t1_loop.trips) (b : Fin 2) (g : Fin 12), k0_chk2 p (BitVec.ofNat 1 b.val) (BitVec.ofNat 32 g.val) := by
  decide +kernel

/-- Every window the gradients are taken over lies inside the buffers. -/
theorem second_ok (p : Fin k0_t1_loop.trips) (b : BitVec 1) (g : Fin 12) : k0_chk2 p b (BitVec.ofNat 32 g.val) := by
  have h := second_bits p ⟨b.toNat, b.isLt⟩ g
  simpa using h

end Cert.AttKernelIdeal.Carry
-- ==== Proof.AttIdealSearch.lean ====
module

public import proofs.«01_k».proof.Proof.AttIdealWords
public import proofs.«01_k».proof.Proof.Gen.AttKernelIdeal.Skeleton
public import proofs.«01_k».proof.Proof.Gen.AttKernelIdeal.Loops

/-! The attention's backward call first walks a pair of query tiles back through the windows of keys, until the weights
are spent or the sequence is. The walk ends, and it ends at a window inside the buffers. -/

@[expose] public section

set_option maxRecDepth 16384

noncomputable section

namespace Cert.AttKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKernelIdeal Cert.AttKernelIdeal.Gen

variable {F : FTy → Type} [FloatOps F] [Named F]

local notation "𝕄" => MT nD τ sig Unit (Elt F) ℕ (UR sig nD τ) ℕ

/-- The walk is measured by the windows still in reach. -/
abbrev 𝒱₀ : Variants := Variants.nat

/-- A buffer held whole, whatever it contains. -/
abbrev whole {s : Shape} {e : EltTy} (c : Dev nD) (M : Memref sig .tc .vmem s e) : sProp 𝕄 :=
  iprop(∃ f : BufTy.Contents (Elt F) M.view.ty, M.view.loc (c : Thread nD τ) ↦[M.view.set]{fullShare} f)

theorem left_of_and : ∀ a b : BitVec 1, Scalar.andi a b = 1#1 → a = 1#1 := by decide

theorem word_succ : ∀ g : Fin 12, Scalar.addi (BitVec.ofNat 32 g.val) 1#32 = BitVec.ofNat 32 (g.val + 1) := by decide

section Walk

variable (c : Dev nD) (i : grid0.Coords) (p : Fin k0_t1_loop.trips)
  (runs : Memref sig .tc .vmem S4x12x128x1 .f32) (hruns : runs.IsWhole) (v0 v1 : IVec S128x384 32)
  (keys : Memref sig .tc .vmem S4096x128 .bf16) (hkeys : keys.IsWhole) (qa qb qc qd : Vec F S128x128 .bf16)
  (X : BufTy.Contents (Elt F) keys.view.ty)

/-- What the walk reads and what it writes. -/
def held : sProp 𝕄 :=
  iprop((keys.view.loc (c : Thread nD τ) ↦[keys.view.set]{fullShare} X) ∗ whole (F := F) c runs)

abbrev Out (F : FTy → Type) [FloatOps F] [Named F] := BitVec 32 × BitVec 32 × FVec F S128x1 .f32 × FVec F S128x1 .f32 × FVec F S128x1 .f32 × FVec F S128x1 .f32

/-- The walk returns a window's number, and holds what it held. -/
def spec : sWPT 𝕄 (Out F) := do
  sWPT.consume (held c runs keys X)
  let r ← sWPT.arbitrary
  sWPT.assume (∃ j : Fin 12, r.1 = BitVec.ofNat 32 j.val)
  sWPT.produce (held c runs keys X)
  pure r

theorem spec_apply (K : Out F → sProp 𝕄) :
    spec c runs keys X K
      = iprop(held c runs keys X ∗ ∀ r : Out F, ⌜∃ j : Fin 12, r.1 = BitVec.ofNat 32 j.val⌝ -∗ (held c runs keys X -∗ K r)) := rfl

theorem spec_le (E : Set ℕ) : ∀ (k g : ℕ), g + k = 11 → ∀ (w : BitVec 32) (a b d e : FVec F S128x1 .f32) (K : Out F → sProp 𝕄),
    spec c runs keys X K
      ⊢ wp frame (wpE (defs₀ (F := F)) 𝒱₀ (c : Thread nD τ) (some k)) E
          (defs₀ (F := F) .tc 1 ⟨i, p, runs, hruns, v0, v1, keys, hkeys, qa, qb, qc, qd, BitVec.ofNat 32 g, w, a, b, d, e⟩) K := by
  intro k
  induction k with
  | zero =>
    intro g hg w a b d e K
    rw [spec_apply]
    show _ ⊢ wp frame (wpE (defs₀ (F := F)) 𝒱₀ (c : Thread nD τ) (some 0)) E
      (cc0_while1 i p runs hruns v0 v1 keys hkeys qa qb qc qd (BitVec.ofNat 32 g) w a b d e) K
    simp only [cc0_while1_eq_skeleton]; unfold cc0_while1_skel; dsimp only
    rw [if_neg (fun h => by
      have := going p ⟨g, by omega⟩ (left_of_and _ _ h)
      simp only at this; omega)]
    iintro ⟨H, Hk⟩
    simp only [Prog.pure_eq_ret]
    rw [wp_ret]; imodintro
    iapply Hk
    · ipureintro; exact ⟨⟨g, by omega⟩, rfl⟩
    · iexact H
  | succ k ih =>
    intro g hg w a b d e K
    rw [spec_apply]
    show _ ⊢ wp frame (wpE (defs₀ (F := F)) 𝒱₀ (c : Thread nD τ) (some (k + 1))) E
      (cc0_while1 i p runs hruns v0 v1 keys hkeys qa qb qc qd (BitVec.ofNat 32 g) w a b d e) K
    simp only [cc0_while1_eq_skeleton]; unfold cc0_while1_skel; dsimp only
    split
    · simp only [k0_part40_eq_skeleton, k0_part41_eq_skeleton, k0_part42_eq_skeleton]
      unfold k0_part40_skel
      simp only [Prog.lift, Prog.bind_op, Prog.bind_ret, Prog.pure_eq_ret]
      unfold held
      iintro ⟨⟨Hx, ⟨%f, Hr⟩⟩, Hk⟩
      iapply (wp_assume 𝒱₀ (c : Thread nD τ) (some (k + 1)) E (first_ok p ⟨g, by omega⟩))
      sl_exec
      iapply (wp_call_spec 𝒱₀ (c : Thread nD τ) (some (k + 1)) E (spec c runs keys X) k
        (fun u hu => by cases hu; exact Nat.lt_succ_self k)
        (by
          have h1 : Scalar.addi (BitVec.ofNat 32 g) 1#32 = BitVec.ofNat 32 (g + 1) := word_succ ⟨g, by omega⟩
          intro K'
          have := ih (g + 1) (by omega)
          rw [← h1] at this
          exact this _ _ _ _ _ K'))
      rw [spec_apply]; unfold held
      isplitl [Hx Hr]
      · isplitl [Hx]; · iexact Hx
        iexists _; iexact Hr
      iintro %r %hr H
      rw [wp_ret]; imodintro
      iapply Hk
      · ipureintro; exact hr
      · iexact H
    · iintro ⟨H, Hk⟩
      simp only [Prog.pure_eq_ret]
      rw [wp_ret]; imodintro
      iapply Hk
      · ipureintro; exact ⟨⟨g, by omega⟩, rfl⟩
      · iexact H

end Walk

end Cert.AttKernelIdeal.Carry
-- ==== Proof.AttIdealTrip.lean ====
module

public import proofs.«01_k».proof.Proof.AttIdealSearch

/-! One pair of query tiles of the attention's backward call: the walk back, then the gradients over the windows it
found. -/

@[expose] public section

set_option maxRecDepth 16384
set_option maxHeartbeats 4000000

noncomputable section

namespace Cert.AttKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKernelIdeal Cert.AttKernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4x12x128x1 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (v0 v1 : IVec S128x384 32) (v8 : FVec F S256x256 .bf16) (v15 : FVec F S128x128 .bf16) (v22 : FVec F S256x256 .bf16)
  (v29 : FVec F S128x128 .bf16) (v56 v82 : IVec S1x128 1) (v141 v165 : Vec F S4096x128 .f32) (v177 : FVec F S4096x128 .f32)
  (X12 : BufTy.Contents (Elt F) arg12.view.ty) (X13 : BufTy.Contents (Elt F) arg13.view.ty)
  (X14 : BufTy.Contents (Elt F) arg14.view.ty) (X15 : BufTy.Contents (Elt F) arg15.view.ty)

/-- What a pair of query tiles reads, and what it adds to. -/
abbrev pair : sProp 𝕄 :=
  iprop((arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ whole (F := F) c arg16 ∗ whole (F := F) c arg17 ∗ whole (F := F) c arg18 ∗ whole (F := F) c arg19)

/-- Where the last window of the first and of the second tile of a pair begins. -/
theorem last_first : ∀ p : Fin k0_t1_loop.trips, k0_off18 p 0#32 = ![256 * p.val + 128 - 384, 0] := by decide +kernel
theorem last_second : ∀ p : Fin k0_t1_loop.trips, k0_off18 p 1#32 = ![256 * p.val + 256 - 384, 0] := by decide +kernel

instance (p : Fin k0_t1_loop.trips) : ClosedOff (k0_off18 p 0#32) := ⟨_, last_first p⟩
instance (p : Fin k0_t1_loop.trips) : ClosedOff (k0_off18 p 1#32) := ⟨_, last_second p⟩

theorem trip (p : Fin k0_t1_loop.trips) (u : Unit) :
    pair c arg12 arg13 arg14 arg15 arg16 arg17 arg18 arg19 X12 X13 X14 X15
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v8 v15 v22 v29 v56 v82 v141 v165 v177 p u)
          (fun _ => pair c arg12 arg13 arg14 arg15 arg16 arg17 arg18 arg19 X12 X13 X14 X15) := by
  unfold k0_t1_body
  simp only [k0_part28_eq_skeleton, k0_part29_eq_skeleton, k0_part30_eq_skeleton, k0_part31_eq_skeleton, k0_part32_eq_skeleton]
  iintro ⟨H12, H13, H14, H15, ⟨%f16, H16⟩, ⟨%f17, H17⟩, ⟨%f18, H18⟩, ⟨%f19, H19⟩⟩
  sl_exec
  iapply (wp_call_spec 𝒱₀ (c : Thread nD τ) none Set.univ (spec c arg16 arg13 X13) 10
    (fun u hu => nomatch hu) (spec_le c i p arg16 harg16 v0 v1 arg13 harg13 _ _ _ _ X13 Set.univ 10 1 rfl _ _ _ _ _))
  rw [spec_apply]; unfold held
  isplitl [H13 H16]
  · isplitl [H13]; · iexact H13
    iexists _; iexact H16
  iintro %r %hr ⟨H13, ⟨%g16, H16⟩⟩
  obtain ⟨n, r⟩ := r
  obtain ⟨j, hj⟩ := hr
  simp only at hj
  subst hj
  sl_exec (disch := exact second_ok _ _ _)
  split
  · sl_exec
    sl_step
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    iexists _; iexact H19
  · simp only [k0_part21_eq_skeleton, k0_part22_eq_skeleton, k0_part23_eq_skeleton, k0_part24_eq_skeleton,
      k0_part25_eq_skeleton, k0_part26_eq_skeleton, k0_part27_eq_skeleton]
    sl_exec
    sl_step
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    iexists _; iexact H19

set_option warn.classDefReducibility false in
/-- The loop over the pairs, by what each pair holds. -/
@[sl_loop] def pairs : LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v8 v15 v22 v29 v56 v82 v141 v165 v177 where
  inv := fun _ _ => pair c arg12 arg13 arg14 arg15 arg16 arg17 arg18 arg19 X12 X13 X14 X15
  step p u := trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v8 v15 v22 v29 v56 v82 v141 v165 v177 X12 X13 X14 X15 p u

end Cert.AttKernelIdeal.Carry
-- ==== Proof.AttIdealBody.lean ====
module

public import proofs.«01_k».proof.Proof.AttIdealTrip

/-! The body of the attention's backward call, at one pair of heads: it ends, holding what it was given. -/

@[expose] public section

set_option maxRecDepth 16384
set_option maxHeartbeats 4000000

noncomputable section

namespace Cert.AttKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttKernelIdeal Cert.AttKernelIdeal.Gen

variable {F : FTy → Type} [FloatOps F] [Named F]

local notation "𝕄" => MT nD τ sig Unit (Elt F) ℕ (UR sig nD τ) ℕ

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S4096x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4x12x128x1 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)

/-- The body's buffers: the inputs' at their contents, the others' at any. -/
abbrev bufs : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ whole (F := F) c arg7 ∗ whole (F := F) c arg8 ∗ whole (F := F) c arg9 ∗ whole (F := F) c arg10 ∗ whole (F := F) c arg11 ∗ whole (F := F) c arg12 ∗ whole (F := F) c arg13 ∗ whole (F := F) c arg14 ∗ whole (F := F) c arg15 ∗ whole (F := F) c arg16 ∗ whole (F := F) c arg17 ∗ whole (F := F) c arg18 ∗ whole (F := F) c arg19)

theorem body :
    bufs c arg1 arg2 arg3 arg4 arg5 arg6 arg7 arg8 arg9 arg10 arg11 arg12 arg13 arg14 arg15 arg16 arg17 arg18 arg19 X1 X2 X3 X4 X5 X6
      ⊢ wp frame (wpE (defs₀ (F := F)) 𝒱₀ (c : Thread nD τ) none) Set.univ
          (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => bufs c arg1 arg2 arg3 arg4 arg5 arg6 arg7 arg8 arg9 arg10 arg11 arg12 arg13 arg14 arg15 arg16 arg17 arg18 arg19 X1 X2 X3 X4 X5 X6) := by
  simp only [cc0_attn_bwd_eq_skeleton]; unfold cc0_attn_bwd_skel
  simp only [k0_part33_eq_skeleton, k0_part34_eq_skeleton, k0_part35_eq_skeleton, k0_part36_eq_skeleton, k0_part37_eq_skeleton,
    k0_part38_eq_skeleton, k0_part39_eq_skeleton]
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  split
  · sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.AttKernelIdeal.Carry
-- ==== Proof.AttIdealFrame.lean ====
module

public import proofs.«01_k».proof.Proof.AttIdealBody
public import proofs.«01_k».proof.Proof.Gen.AttKernelIdeal.Launch
public import proofs.«01_k».proof.Proof.Gen.AttKernelIdeal.Points
public import Idealize.ShloMosaic.Lib.Pipeline.FrameBody
public import Idealize.ShloMosaic.Lib.Claim

/-! The attention's backward call ends, its arguments as they were. Nothing is said of what it returns. -/

@[expose] public section

set_option maxRecDepth 16384
set_option maxHeartbeats 4000000

noncomputable section

namespace Cert.AttKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttKernelIdeal Cert.AttKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a core's buffers hold when the call begins: the two scales have been laid out for a pair of heads. -/
abbrev V (c : Dev nD) (b : Ref sig .tc) : Buf (Elt F) ((c : Thread nD τ).loc b) :=
  StableHlo.after (List.flatten [hostOps0]) (fun b => m (c, b)) b

theorem laid_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0] (by simp only [List.Forall]; exact hostOps0_sub)
    (by simp only [List.Forall]; exact laid_fresh) main_chain

/-- A buffer the layout does not write is found as it was. -/
theorem entry_kept (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  entry_kept m c main_arg0 (by decide) (by decide) (by decide) (by decide) (by decide) (by decide)
theorem V_main_arg1 (c : Dev nD) : V m c main_arg1 = m ((c : Thread nD τ).loc main_arg1) :=
  entry_kept m c main_arg1 (by decide) (by decide) (by decide) (by decide) (by decide) (by decide)
theorem V_main_arg2 (c : Dev nD) : V m c main_arg2 = m ((c : Thread nD τ).loc main_arg2) :=
  entry_kept m c main_arg2 (by decide) (by decide) (by decide) (by decide) (by decide) (by decide)
theorem V_main_arg3 (c : Dev nD) : V m c main_arg3 = m ((c : Thread nD τ).loc main_arg3) :=
  entry_kept m c main_arg3 (by decide) (by decide) (by decide) (by decide) (by decide) (by decide)

/-- The block of window `w` at a pair of heads. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Nothing is said of the five results. -/
def unsaid : Fin 11 → Bool := fun w => decide (6 ≤ w.val)

/-- The six inputs stay at their blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, h⟩ => Dat.unnamed (cfg := cfg0 (F := F)) ⟨6, h⟩ t
    | ⟨7, h⟩ => Dat.unnamed (cfg := cfg0 (F := F)) ⟨7, h⟩ t
    | ⟨8, h⟩ => Dat.unnamed (cfg := cfg0 (F := F)) ⟨8, h⟩ t
    | ⟨9, h⟩ => Dat.unnamed (cfg := cfg0 (F := F)) ⟨9, h⟩ t
    | ⟨10, h⟩ => Dat.unnamed (cfg := cfg0 (F := F)) ⟨10, h⟩ t
    | ⟨_ + 11, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem before0 (c : Dev nD) (t : Fin (cfg0 (F := F)).N) (d) : (dats m 0 c).before 0 t d = blockAt m c 0 t :=
  (Dat.before_in_eq_fetched _ 0 rfl (fun _ => rfl) (fun _ _ _ => rfl) (fun _ => rfl) t d).trans rfl
theorem before1 (c : Dev nD) (t : Fin (cfg0 (F := F)).N) (d) : (dats m 0 c).before 1 t d = blockAt m c 1 t :=
  (Dat.before_in_eq_fetched _ 1 rfl (fun _ => rfl) (fun _ _ _ => rfl) (fun _ => rfl) t d).trans rfl
theorem before2 (c : Dev nD) (t : Fin (cfg0 (F := F)).N) (d) : (dats m 0 c).before 2 t d = blockAt m c 2 t :=
  (Dat.before_in_eq_fetched _ 2 rfl (fun _ => rfl) (fun _ _ _ => rfl) (fun _ => rfl) t d).trans rfl
theorem before3 (c : Dev nD) (t : Fin (cfg0 (F := F)).N) (d) : (dats m 0 c).before 3 t d = blockAt m c 3 t :=
  (Dat.before_in_eq_fetched _ 3 rfl (fun _ => rfl) (fun _ _ _ => rfl) (fun _ => rfl) t d).trans rfl
theorem before4 (c : Dev nD) (t : Fin (cfg0 (F := F)).N) (d) : (dats m 0 c).before 4 t d = blockAt m c 4 t :=
  (Dat.before_in_eq_fetched _ 4 rfl (fun _ => rfl) (fun _ _ _ => rfl) (fun _ => rfl) t d).trans rfl
theorem before5 (c : Dev nD) (t : Fin (cfg0 (F := F)).N) (d) : (dats m 0 c).before 5 t d = blockAt m c 5 t :=
  (Dat.before_in_eq_fetched _ 5 rfl (fun _ => rfl) (fun _ _ _ => rfl) (fun _ => rfl) t d).trans rfl

/-- What the core keeps between pairs of heads: its scratch at any contents. -/
theorem kept_eq (c : Dev nD) :
    (Pipeline.ΦA spec0 c : sProp 𝕄)
      = iprop(iprop((∃ d, owns (c : Thread nD τ) (Memref.whole cc0_scratch0 : Memref sig .tc .vmem _ _) fullShare d)
        ∗ (∃ d, owns (c : Thread nD τ) (Memref.whole cc0_scratch1 : Memref sig .tc .vmem _ _) fullShare d)
        ∗ (∃ d, owns (c : Thread nD τ) (Memref.whole cc0_scratch2 : Memref sig .tc .vmem _ _) fullShare d)
        ∗ (∃ d, owns (c : Thread nD τ) (Memref.whole cc0_scratch3 : Memref sig .tc .vmem _ _) fullShare d)
        ∗ (∃ d, owns (c : Thread nD τ) (Memref.whole cc0_scratch4 : Memref sig .tc .vmem _ _) fullShare d)
        ∗ (∃ d, owns (c : Thread nD τ) (Memref.whole cc0_scratch5 : Memref sig .tc .vmem _ _) fullShare d)
        ∗ (∃ d, owns (c : Thread nD τ) (Memref.whole cc0_scratch6 : Memref sig .tc .vmem _ _) fullShare d)
        ∗ (∃ d, owns (c : Thread nD τ) (Memref.whole cc0_scratch7 : Memref sig .tc .vmem _ _) fullShare d)) ∗ (∃ r, prngReg c r)) := by
  unfold Pipeline.ΦA; rw [scopedRest0_eq]; simp only [owns_whole]; try rfl

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

theorem sound (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, kept_eq]
  unfold owns
  iintro ⟨⟨⟨⟨%e0, %g0, -, S0⟩, ⟨%e1, %g1, -, S1⟩, ⟨%e2, %g2, -, S2⟩, ⟨%e3, %g3, -, S3⟩, ⟨%e4, %g4, -, S4⟩, ⟨%e5, %g5, -, S5⟩, ⟨%e6, %g6, -, S6⟩, ⟨%e7, %g7, -, S7⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩, ⟨%d7, %f7, -, H7⟩, ⟨%d8, %f8, -, H8⟩, ⟨%d9, %f9, -, H9⟩, ⟨%d10, %f10, -, H10⟩⟩
  iapply (wp_wand_r frame (wpE (defs₀ (F := F)) 𝒱₀ (c : Thread nD τ) none) Set.univ)
  isplitl [H0 H1 H2 H3 H4 H5 H6 H7 H8 H9 H10 S0 S1 S2 S3 S4 S5 S6 S7]
  · iapply (body c (grid0.coords t) _ _ _ _ _ _ _ _ _ _ _ _ _ _ _ _ _ _ _ _ _ _ _ _ _ _ _ _ _ _ _ _ _ _ _ _ _ _ f0 f1 f2 f3 f4 f5)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  · iintro %_ ⟨H0, H1, H2, H3, H4, H5, ⟨%w6, H6⟩, ⟨%w7, H7⟩, ⟨%w8, H8⟩, ⟨%w9, H9⟩, ⟨%w10, H10⟩, ⟨%x0, S0⟩, ⟨%x1, S1⟩, ⟨%x2, S2⟩, ⟨%x3, S3⟩, ⟨%x4, S4⟩, ⟨%x5, S5⟩, ⟨%x6, S6⟩, ⟨%x7, S7⟩⟩
    isplitl [Hg S0 S1 S2 S3 S4 S5 S6 S7]
    · isplitr [Hg]
      · isplitl [S0]
        · iexists _, x0; isplitr; · ipureintro; rfl
          iexact S0
        isplitl [S1]
        · iexists _, x1; isplitr; · ipureintro; rfl
          iexact S1
        isplitl [S2]
        · iexists _, x2; isplitr; · ipureintro; rfl
          iexact S2
        isplitl [S3]
        · iexists _, x3; isplitr; · ipureintro; rfl
          iexact S3
        isplitl [S4]
        · iexists _, x4; isplitr; · ipureintro; rfl
          iexact S4
        isplitl [S5]
        · iexists _, x5; isplitr; · ipureintro; rfl
          iexact S5
        isplitl [S6]
        · iexists _, x6; isplitr; · ipureintro; rfl
          iexact S6
        iexists _, x7; isplitr; · ipureintro; rfl
        iexact S7
      · iexact Hg
    isplitl [Ho]; · iexact Ho
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _, w6; isplitr; · ipureintro; rfl
      iexact H6
    isplitl [H7]
    · iexists _, w7; isplitr; · ipureintro; rfl
      iexact H7
    isplitl [H8]
    · iexists _, w8; isplitr; · ipureintro; rfl
      iexact H8
    isplitl [H9]
    · iexists _, w9; isplitr; · ipureintro; rfl
      iexact H9
    iexists _, w10; isplitr; · ipureintro; rfl
    iexact H10

theorem body_obligation (c : Dev nD) :
    BodyObligation (dats (F := F) m 0 c) (defs₀ (F := F)) 𝒱₀ () Set.univ unsaid := fun t => by
  rw [bigSep_W0, bigSep_W0,
    show defs₀ (F := F) .tc (cfg0 (F := F)).body ((cfg0 (F := F)).bodyArgs t ((cfg0 (F := F)).slots t)) = bodyAt0 t by unfold defs₀; rw [Defs.onTc_tc]]
  exact triple_restated (sound m c t) rfl .rfl fun _ => .rfl

theorem run : θ_run defs (onTc (τ := τ) (main (F := F))) (s₀ m ρ)
    (fun r => Pipeline.RDat.FramePost ((cfgs (F := F)) 0) (fun c => (dats m 0 c).toRForget unsaid) (V m) r ∧ r.2.sem = fun _ => 0) :=
  Pipeline.θ_run_frame_forget_shared (Q' := _) (cfgs (F := F)) (dats m) (0 : Fin 1) launch₀0 defs₀ 𝒱₀ unsaid m ρ main
    (hbody := fun c => (body_obligation m c).loose) (hq := fun _ _ _ => rfl)
    (howed := fun _ _ => rfl) (V := V m) (hmain := hmain m) (hA := A_eq m) (hΦ := fun _ _ => rfl)

/-- The call terminates and leaves its four arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c =>
    ⟨(Pipeline.RDat.FramePost.arr_in h c 0 rfl).trans ((A_eq m c 0).trans (V_main_arg0 m c)),
      ((h c).2 main_arg1 (Pipeline.mem_restRefs_of main_arg1 (by decide) (show ∀ w : Fin 11, (spec0 w).arr.view.ref ≠ main_arg1 by decide))).trans (V_main_arg1 m c),
      ((h c).2 main_arg2 (Pipeline.mem_restRefs_of main_arg2 (by decide) (show ∀ w : Fin 11, (spec0 w).arr.view.ref ≠ main_arg2 by decide))).trans (V_main_arg2 m c),
      (Pipeline.RDat.FramePost.arr_in h c 3 rfl).trans ((A_eq m c 3).trans (V_main_arg3 m c))⟩, hz⟩) (run m ρ)

end Cert.AttKernelIdeal.Carry
-- ==== Proof.AttClaim.lean ====
module

public import proofs.«01_k».proof.Defs
public import proofs.«01_k».proof.Proof.AttFrame
public import proofs.«01_k».proof.Proof.AttIdealFrame
public import proofs.«01_k».proof.Proof.Gen.AttRefIdeal.Run
public import Idealize.ShloMosaic.Adequacy
public import Idealize.ShloMosaic.Init

/-! The claims about the attention's backward call: the three frames. -/

@[expose] public section

set_option maxRecDepth 16384

noncomputable section

namespace Cert.Proof

open Idealize.ShloMosaic Idealize.SL.Sem

theorem att_kernel_frame : Cert.quiescent_AttKernel := fun m ρ _ => Cert.AttKernel.Carry.frame m ρ

theorem att_ideal_frame : Cert.quiescent_AttKernelIdeal := fun m ρ _ => Cert.AttKernelIdeal.Carry.frame m ρ

theorem att_frame : Cert.quiescent_AttRefIdeal := fun m ρ _ =>
  (θ_run Cert.AttRefIdeal.defs _ _).mono
    (fun r h => ⟨fun c => (h c).2.2.2.2.2, Idealize.ShloMosaic.sem_eq_zero_of_no_sems (by decide) r.2⟩)
    (Cert.AttRefIdeal.Value.run (F := Ideal) m ρ)

end Cert.Proof
-- ==== Proof.MixIn.lean ====
module

public import proofs.«01_k».proof.Proof.Tiles
public import Idealize.ShloMosaic.Lib.Pipeline.ValueKit.Tiles
public import proofs.«01_k».proof.Proof.Gen.MixInKernelIdeal.Value
public import proofs.«01_k».proof.Proof.Gen.MixInRefIdeal.Run

@[expose] public section

set_option maxRecDepth 16384

noncomputable section

/-! The input side of the mixing block, forward: the call's results at an index. -/

namespace Cert.MixInKernelIdeal.Step

open Cert.MixInKernelIdeal Cert.MixInKernelIdeal.Gen Cert.MixInKernelIdeal.Value Cert.Num
open Idealize.ShloMosaic Idealize.ShloMosaic.TcCoe Idealize.ShloMosaic.Tactic

/-- An entry of a row over the row's root mean square, times the norm's weight. -/
def normed (X N : Fin 1024 → EReal) (l : Fin 1024) : EReal :=
  X l * Ideal.rsqrt (Ideal.div (∑ k, X k * X k) (Ideal.ofBits .f32 0x44800000#32) + Ideal.ofBits .f32 0x358637BD#32) * N l

/-- Which of the four parts of the weight a column is in, and where in it. -/
def part (l : Fin 2560) : Fin 4 := ⟨l.val / 640, by omega⟩

def spot (l : Fin 2560) : Fin 640 := ⟨l.val % 640, Nat.mod_lt _ (by norm_num)⟩

theorem hidden_at (x0 : Vec Ideal S512x1024 .f32) (x1 : Vec Ideal S1x1024 .f32) (r : Fin 512) (k : Fin 1024) :
    k0_pay2 x0 x1 (ix2 r k) = normed (fun l => x0 (ix2 r l)) (fun l => x1 (ix2 0 l)) k := by
  pointwise [k0_pay2]
  rfl

/-- A row of the projection, the weight in its four parts. -/
def cast (H : Fin 1024 → EReal) (W : Fin 4 → Fin 1024 → Fin 640 → EReal) (l : Fin 2560) : EReal :=
  ∑ k, H k * W (part l) k (spot l)

theorem product_at (h : Vec Ideal S512x1024 .bf16) (w : Vec Ideal S1x1024x640 .bf16) (r : Fin 512) (b : Fin 640) :
    k0_pay1 h w (ix2 r b) = ∑ k, h (ix2 r k) * w (ix3 0 k b) := by
  pointwise [k0_pay1]

/-- One part's product is the projection's columns in that part. -/
theorem part_at (x0 : Vec Ideal S512x1024 .f32) (x1 : Vec Ideal S1x1024 .f32) (x2 : Vec Ideal S4x1024x640 .bf16) (j : Fin 4)
    (w : Vec Ideal S1x1024x640 .bf16) (hw : ∀ k b, w (ix3 0 k b) = x2 (ix3 j k b)) (x : S512x640.Idx) (y : S512x2560.Idx)
    (h0 : (y 0).val = 0 + (x 0).val) (h1 : (y 1).val = 640 * j.val + (x 1).val) :
    k0_pay1 (k0_pay2 x0 x1) w x = cast (fun k => normed (fun l => x0 (ix2 (y 0) l)) (fun l => x1 (ix2 0 l)) k) (fun a k b => x2 (ix3 a k b)) (y 1) := by
  obtain ⟨r, b, rfl⟩ : ∃ (r : Fin 512) (b : Fin 640), x = ix2 r b := ⟨x 0, x 1, funext fun a => by match a with | ⟨0, _⟩ => rfl | ⟨1, _⟩ => rfl⟩
  have hb : (ix2 r b 1).val = b.val := rfl
  have hr : y 0 = r := Fin.ext (by rw [h0]; exact Nat.zero_add _)
  have hp : part (y 1) = j := Fin.ext (by show (y 1).val / 640 = j.val; omega)
  have hs : spot (y 1) = b := Fin.ext (by show (y 1).val % 640 = b.val; omega)
  rw [product_at]
  unfold cast
  rw [hp, hs, hr]
  exact Finset.sum_congr rfl fun k _ => congrArg₂ (· * ·) (hidden_at x0 x1 r k) (hw k b)

/-- One tile's block of the projection. -/
theorem tile_at (x0 : Vec Ideal S512x1024 .f32) (x1 : Vec Ideal S1x1024 .f32) (x2 : Vec Ideal S4x1024x640 .bf16) (r : Fin 512) (l : Fin 2560) :
    out0_3 x0 x1 x2 (ix2 r l)
      = cast (fun k => normed (fun l => x0 (ix2 r l)) (fun l => x1 (ix2 0 l)) k) (fun a k b => x2 (ix3 a k b)) l := by
  have hz : (![0, 0] : Fin 2 → Nat) = fun _ => 0 := funext fun a => by fin_cases a <;> rfl
  unfold out0_3
  simp only [View.ld_unit_zero (S := S512x1024) hz, View.ld_unit_zero (S := S1x1024) hz]
  refine View.canon_eq_of_allAt _ (ix2 r l) _ (cover0_3 _ _ _ _ _) ?_
  have side (j : Fin 4) (h) (k : Fin 1024) (b : Fin 640) :
      View.ld x2 (Rect.unit (s := S4x1024x640) ![j.val, 0, 0] S1x1024x640.size h) (ix3 0 k b) = x2 (ix3 j k b) := by
    show x2 _ = x2 _
    congr 1
    funext a
    apply Fin.ext
    match a with
    | ⟨0, _⟩ => show j.val + 1 * 0 = j.val; omega
    | ⟨1, _⟩ => show 0 + 1 * k.val = k.val; omega
    | ⟨2, _⟩ => show 0 + 1 * b.val = b.val; omega
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · exact part_at x0 x1 x2 3 _ (side 3 _) x (ix2 r l) (hx 0) (hx 1)
  · exact part_at x0 x1 x2 2 _ (side 2 _) x (ix2 r l) (hx 0) (hx 1)
  · exact part_at x0 x1 x2 1 _ (side 1 _) x (ix2 r l) (hx 0) (hx 1)
  · exact part_at x0 x1 x2 0 _ (side 0 _) x (ix2 r l) (hx 0) (hx 1)

/-- One tile's block of the normed input. -/
theorem tile_hidden (x0 : Vec Ideal S512x1024 .f32) (x1 : Vec Ideal S1x1024 .f32) (x2 : Vec Ideal S4x1024x640 .bf16) (r : Fin 512) (l : Fin 1024) :
    out0_4 x0 x1 x2 (ix2 r l) = normed (fun l => x0 (ix2 r l)) (fun l => x1 (ix2 0 l)) l := by
  have hz : (![0, 0] : Fin 2 → Nat) = fun _ => 0 := funext fun a => by fin_cases a <;> rfl
  unfold out0_4
  rw [View.canon_cons_unit_zero (S := S512x1024) hz]
  simp only [View.ld_unit_zero (S := S512x1024) hz, View.ld_unit_zero (S := S1x1024) hz]
  exact hidden_at x0 x1 r l

variable (m : (ℓ : Loc nD τ sig) → Buf (Elt Ideal) ℓ) (c : Dev nD)

/-- Row `r` of tile `t`, of all the rows. -/
def row (t : Fin cfg0.N) (r : Fin 512) : Fin 4096 := ⟨512 * t.val + r.val, by
  have h : t.val < 8 := lt_of_lt_of_eq t.isLt N_0
  omega⟩

theorem rows (i : Fin 4096) : ∃ t r, row t r = i :=
  ⟨⟨i.val / 512, lt_of_lt_of_eq (by omega : i.val / 512 < 8) N_0.symm⟩, ⟨i.val % 512, Nat.mod_lt _ (by norm_num)⟩,
    Fin.ext (Nat.div_add_mod i.val 512)⟩

/-- The weight in its four parts, as the host lines cut it. -/
theorem weight (j : Fin 4) (k : Fin 1024) (b : Fin 640) :
    V m c main_v3 (ix3 j k b) = m ((c : Thread nD τ).loc main_arg2) (ix3 0 k (⟨640 * j.val + b.val, by omega⟩ : Fin 2560)) := by
  unfold V
  after_results_simp
  pointwise
  refine congrArg (fun q => m ((c : Thread nD τ).loc main_arg2) (ix3 0 k q)) (Fin.ext ?_)
  show j.val * 640 + b.val = 640 * j.val + b.val
  omega

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

theorem blk_0 (t : Fin cfg0.N) (r : Fin 512) (l : Fin 1024) : iblk m c 0 t (ix2 r l) = m ((c : Thread nD τ).loc main_arg0) (ix2 (row t r) l) :=
  (show V m c main_arg0 (((cfg0.win 0).blk t).view.emb (ix2 r l)) = _ from congrArg _ (at_tile (idx t).1 rfl rfl rfl)).trans
    (congrFun (V_main_arg0 m c) _)

theorem blk_1 (t : Fin cfg0.N) (l : Fin 1024) : iblk m c 1 t (ix2 0 l) = m ((c : Thread nD τ).loc main_arg1) (ix2 0 l) :=
  (show V m c main_arg1 (((cfg0.win 1).blk t).view.emb (ix2 0 l)) = _ from congrArg _ (at_tile (idx t).2.1 rfl rfl (Nat.zero_add _).symm)).trans
    (congrFun (V_main_arg1 m c) _)

theorem idx_2 : ∀ t : Fin cfg0.N, win0_2.index t (0 : Fin 3) = 0 ∧ win0_2.index t (1 : Fin 3) = 0 ∧ win0_2.index t (2 : Fin 3) = 0 :=
  (by decide +kernel : ∀ t : Fin grid0.N, _)

theorem blk_2 (t : Fin cfg0.N) (j : Fin 4) (k : Fin 1024) (b : Fin 640) :
    iblk m c 2 t (ix3 j k b) = m ((c : Thread nD τ).loc main_arg2) (ix3 0 k (⟨640 * j.val + b.val, by omega⟩ : Fin 2560)) := by
  obtain ⟨e0, e1, e2⟩ := idx_2 t
  refine Eq.trans ?_ (weight m c j k b)
  show V m c main_v3 (((cfg0.win 2).blk t).view.emb (ix3 j k b)) = _
  congr 1
  funext a
  apply Fin.ext
  match a with
  | ⟨0, _⟩ => show win0_2.index t (0 : Fin 3) * 4 + 1 * j.val = j.val; omega
  | ⟨1, _⟩ => show win0_2.index t (1 : Fin 3) * 1024 + 1 * k.val = k.val; omega
  | ⟨2, _⟩ => show win0_2.index t (2 : Fin 3) * 640 + 1 * b.val = b.val; omega

/-- A row of the projection, from the arguments. -/
def projected (X N : Fin 1024 → EReal) (W : Fin 1024 → Fin 2560 → EReal) (l : Fin 2560) : EReal := ∑ k, normed X N k * W k l

/-- The projection at an index. -/
theorem project_at (i : Fin 4096) (l : Fin 2560) : (dats m 0 c).arrAt 3 cfg0.N (ix2 i l)
    = projected (fun l => m ((c : Thread nD τ).loc main_arg0) (ix2 i l)) (fun l => m ((c : Thread nD τ).loc main_arg1) (ix2 0 l))
        (fun a b => m ((c : Thread nD τ).loc main_arg2) (ix3 0 a b)) l := by
  obtain ⟨t, r, rfl⟩ := rows i
  have place : ((cfg0.win 3).blk t).view.emb (ix2 r l) = (ix2 (row t r) l : S4096x2560.Idx) := by
    exact at_tile ((idx t).2.2.1) rfl rfl rfl
  refine (congrArg _ place.symm).trans ((congrFun ((blocks3 m c t (flush0_3 t)).trans (flushed3 m c t)) (ix2 r l)).trans ?_)
  refine (tile_at _ _ _ r l).trans ?_
  unfold cast projected
  simp only [blk_0, blk_1, blk_2]
  refine Finset.sum_congr rfl fun k _ => congrArg (_ * ·) (congrArg (fun q => m ((c : Thread nD τ).loc main_arg2) (ix3 0 k q)) ?_)
  exact Fin.ext (Nat.div_add_mod l.val 640)

/-- The normed input at an index. -/
theorem normed_at (i : Fin 4096) (l : Fin 1024) : (dats m 0 c).arrAt 4 cfg0.N (ix2 i l)
    = normed (fun l => m ((c : Thread nD τ).loc main_arg0) (ix2 i l)) (fun l => m ((c : Thread nD τ).loc main_arg1) (ix2 0 l)) l := by
  obtain ⟨t, r, rfl⟩ := rows i
  have place : ((cfg0.win 4).blk t).view.emb (ix2 r l) = (ix2 (row t r) l : S4096x1024.Idx) := by
    exact at_tile ((idx t).2.2.2) rfl rfl rfl
  refine (congrArg _ place.symm).trans ((congrFun ((blocks4 m c t (flush0_4 t)).trans (flushed4 m c t)) (ix2 r l)).trans ?_)
  refine (tile_hidden _ _ _ r l).trans ?_
  simp only [blk_0, blk_1]

end Cert.MixInKernelIdeal.Step

namespace Cert.MixInRefIdeal.Step

open Cert.MixInRefIdeal Cert.MixInRefIdeal.Gen Cert.MixInRefIdeal.Value
open Idealize.ShloMosaic Idealize.ShloMosaic.TcCoe Idealize.ShloMosaic.Tactic
open Cert.MixInKernelIdeal.Step (normed projected)

/-- The normed input, as the reference's lines compute it. -/
def hidden (x : FVec Ideal S4096x1024 .f32) (n : FVec Ideal S1x1024 .f32) : FVec Ideal S4096x1024 .f32 :=
  mulf (mulf x (broadcastInDim S4096x1024 ![0, 1] bcast_S4096x1_S4096x1024_0_1 (Host.rsqrt (addf (Host.divf
      (broadcastInDim S4096x1 ![0] bcast_S4096_S4096x1_0
        (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1
      (shapeCast _ n shapeCasts_S1x1024_S1024)))

theorem hidden_at (x : FVec Ideal S4096x1024 .f32) (n : FVec Ideal S1x1024 .f32) (i : Fin 4096) (l : Fin 1024) :
    hidden x n (ix2 i l) = normed (fun l => x (ix2 i l)) (fun l => n (ix2 0 l)) l := by
  pointwise [hidden]
  rfl

/-- Its projection. -/
def project (h : FVec Ideal S4096x1024 .f32) (w : FVec Ideal S1x1024x2560 .f32) : FVec Ideal S4096x2560 .f32 :=
  Host.dotGeneral (φ₁ := .f32) (φ₂ := .f32) dot_S4096x1024_S1024x2560_S4096x2560_1_0_0_1_n_n none h
    (shapeCast _ w shapeCasts_S1x1024x2560_S1024x2560 : FVec Ideal S1024x2560 .f32)

theorem project_at (h : FVec Ideal S4096x1024 .f32) (w : FVec Ideal S1x1024x2560 .f32) (i : Fin 4096) (l : Fin 2560) :
    project h w (ix2 i l) = ∑ k, h (ix2 i k) * w (ix3 0 k l) := by
  pointwise [project]

end Cert.MixInRefIdeal.Step
-- ==== Proof.MixOut.lean ====
module

public import proofs.«01_k».proof.Proof.Tiles
public import proofs.«01_k».proof.Proof.Gen.MixOutKernelIdeal.Value
public import proofs.«01_k».proof.Proof.Gen.MixOutRefIdeal.Run

@[expose] public section

set_option maxRecDepth 16384

noncomputable section

/-! The output side of the mixing block, forward: the call's result at an index. -/

namespace Cert.MixOutKernelIdeal.Step

open Cert.MixOutKernelIdeal Cert.MixOutKernelIdeal.Gen Cert.MixOutKernelIdeal.Value Cert.Num
open Idealize.ShloMosaic Idealize.ShloMosaic.TcCoe Idealize.ShloMosaic.Tactic

/-- An entry of a row over the row's root mean square, times the norm's weight. -/
def normed (X N : Fin 512 → EReal) (l : Fin 512) : EReal :=
  X l * Ideal.rsqrt (Ideal.div (∑ k, X k * X k) (Ideal.ofBits .f32 0x44000000#32) + Ideal.ofBits .f32 0x358637BD#32) * N l

/-- A row of the result: what the block was given, and the projection of both normed branches. -/
def mixed (X : Fin 1024 → EReal) (Y Z N K : Fin 512 → EReal) (W : Fin 1024 → Fin 1024 → EReal) (l : Fin 1024) : EReal :=
  X l + (∑ k : Fin 512, normed Y N k * W ⟨k.val, by omega⟩ l) + ∑ k : Fin 512, normed Z K k * W ⟨512 + k.val, by omega⟩ l

/-- One tile's block. -/
theorem tile_at (x0 : Vec Ideal S512x1024 .f32) (x1 x2 : Vec Ideal S512x512 .f32) (x3 x4 : Vec Ideal S1x512 .f32)
    (x5 : Vec Ideal S1024x1024 .bf16) (r : Fin 512) (l : Fin 1024) :
    out0_6 x0 x1 x2 x3 x4 x5 (ix2 r l) = mixed (fun l => x0 (ix2 r l)) (fun l => x1 (ix2 r l)) (fun l => x2 (ix2 r l))
      (fun l => x3 (ix2 0 l)) (fun l => x4 (ix2 0 l)) (fun a b => x5 (ix2 a b)) l := by
  have hz : (![0, 0] : Fin 2 → Nat) = fun _ => 0 := funext fun a => by fin_cases a <;> rfl
  unfold out0_6
  rw [View.canon_cons_unit_zero (S := S512x1024) hz]
  simp only [View.ld_unit_zero (S := S512x1024) hz, View.ld_unit_zero (S := S512x512) hz, View.ld_unit_zero (S := S1x512) hz]
  pointwise [k0_pay1, k0_pay2, k0_pay3, k0_pay4]
  unfold mixed normed
  rfl

variable (m : (ℓ : Loc nD τ sig) → Buf (Elt Ideal) ℓ) (c : Dev nD)

/-- Row `r` of tile `t`, of all the rows. -/
def row (t : Fin cfg0.N) (r : Fin 512) : Fin 4096 := ⟨512 * t.val + r.val, by
  have h : t.val < 8 := lt_of_lt_of_eq t.isLt N_0
  omega⟩

theorem rows (i : Fin 4096) : ∃ t r, row t r = i :=
  ⟨⟨i.val / 512, lt_of_lt_of_eq (by omega : i.val / 512 < 8) N_0.symm⟩, ⟨i.val % 512, Nat.mod_lt _ (by norm_num)⟩,
    Fin.ext (Nat.div_add_mod i.val 512)⟩

theorem weight (a b : Fin 1024) : V m c main_v1 (ix2 a b) = m ((c : Thread nD τ).loc main_arg5) (ix3 0 a b) := by
  unfold V
  after_results_simp
  pointwise

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem blk_0 (t : Fin cfg0.N) (r : Fin 512) (l : Fin 1024) : iblk m c 0 t (ix2 r l) = m ((c : Thread nD τ).loc main_arg0) (ix2 (row t r) l) :=
  (show V m c main_arg0 (((cfg0.win 0).blk t).view.emb (ix2 r l)) = _ from congrArg _ (at_tile (idx t).1 rfl rfl rfl)).trans
    (congrFun (V_main_arg0 m c) _)

theorem blk_1 (t : Fin cfg0.N) (r : Fin 512) (l : Fin 512) : iblk m c 1 t (ix2 r l) = m ((c : Thread nD τ).loc main_arg1) (ix2 (row t r) l) :=
  (show V m c main_arg1 (((cfg0.win 1).blk t).view.emb (ix2 r l)) = _ from congrArg _ (at_tile (idx t).2.1 rfl rfl rfl)).trans
    (congrFun (V_main_arg1 m c) _)

theorem blk_2 (t : Fin cfg0.N) (r : Fin 512) (l : Fin 512) : iblk m c 2 t (ix2 r l) = m ((c : Thread nD τ).loc main_arg2) (ix2 (row t r) l) :=
  (show V m c main_arg2 (((cfg0.win 2).blk t).view.emb (ix2 r l)) = _ from congrArg _ (at_tile (idx t).2.2.1 rfl rfl rfl)).trans
    (congrFun (V_main_arg2 m c) _)

theorem blk_3 (t : Fin cfg0.N) (l : Fin 512) : iblk m c 3 t (ix2 0 l) = m ((c : Thread nD τ).loc main_arg3) (ix2 0 l) :=
  (show V m c main_arg3 (((cfg0.win 3).blk t).view.emb (ix2 0 l)) = _ from congrArg _ (at_tile (idx t).2.2.2.1 rfl rfl (Nat.zero_add _).symm)).trans
    (congrFun (V_main_arg3 m c) _)

theorem blk_4 (t : Fin cfg0.N) (l : Fin 512) : iblk m c 4 t (ix2 0 l) = m ((c : Thread nD τ).loc main_arg4) (ix2 0 l) :=
  (show V m c main_arg4 (((cfg0.win 4).blk t).view.emb (ix2 0 l)) = _ from congrArg _ (at_tile (idx t).2.2.2.2.1 rfl rfl (Nat.zero_add _).symm)).trans
    (congrFun (V_main_arg4 m c) _)

theorem blk_5 (t : Fin cfg0.N) (a b : Fin 1024) : iblk m c 5 t (ix2 a b) = m ((c : Thread nD τ).loc main_arg5) (ix3 0 a b) :=
  (show V m c main_v1 (((cfg0.win 5).blk t).view.emb (ix2 a b)) = _ from congrArg _ (at_tile (idx t).2.2.2.2.2.1 rfl rfl (Nat.zero_add _).symm)).trans
    (weight m c a b)

/-- The result at an index. -/
theorem result_at (i : Fin 4096) (l : Fin 1024) : (dats m 0 c).arrAt 6 cfg0.N (ix2 i l)
    = mixed (fun l => m ((c : Thread nD τ).loc main_arg0) (ix2 i l)) (fun l => m ((c : Thread nD τ).loc main_arg1) (ix2 i l))
        (fun l => m ((c : Thread nD τ).loc main_arg2) (ix2 i l)) (fun l => m ((c : Thread nD τ).loc main_arg3) (ix2 0 l))
        (fun l => m ((c : Thread nD τ).loc main_arg4) (ix2 0 l)) (fun a b => m ((c : Thread nD τ).loc main_arg5) (ix3 0 a b)) l := by
  obtain ⟨t, r, rfl⟩ := rows i
  have place : ((cfg0.win 6).blk t).view.emb (ix2 r l) = (ix2 (row t r) l : S4096x1024.Idx) := at_tile (idx t).2.2.2.2.2.2 rfl rfl rfl
  refine (congrArg _ place.symm).trans ((congrFun ((blocks6 m c t (flush0_6 t)).trans (flushed6 m c t)) (ix2 r l)).trans ?_)
  refine (tile_at _ _ _ _ _ _ r l).trans ?_
  simp only [blk_0, blk_1, blk_2, blk_3, blk_4, blk_5]

end Cert.MixOutKernelIdeal.Step

namespace Cert.MixOutRefIdeal.Step

open Cert.MixOutRefIdeal Cert.MixOutRefIdeal.Gen Cert.MixOutRefIdeal.Value
open Idealize.ShloMosaic Idealize.ShloMosaic.TcCoe Idealize.ShloMosaic.Tactic
open Cert.MixOutKernelIdeal.Step (normed mixed)

/-- A branch's output, normed, as the reference's lines compute it. -/
def branch (y : FVec Ideal S4096x512 .f32) (n : FVec Ideal S1x512 .f32) : FVec Ideal S4096x512 .f32 :=
  mulf (mulf y (broadcastInDim S4096x512 ![0, 1] bcast_S4096x1_S4096x512_0_1 (Host.rsqrt (addf (Host.divf
      (broadcastInDim S4096x1 ![0] bcast_S4096_S4096x1_0
        (Host.reduceAdd (mulf y y) (constant S_ .f32 0x00000000#32) reducesTo_S4096x512_S4096_d1 h_S_))
      (broadcastInDim S4096x1 ![] bcast_S_S4096x1 (constant S_ .f32 0x44000000#32)))
      (broadcastInDim S4096x1 ![] bcast_S_S4096x1 (constant S_ .f32 0x358637BD#32))))))
    (broadcastInDim S4096x512 ![0, 1] bcast_S1x512_S4096x512_0_1 (broadcastInDim S1x512 ![1] bcast_S512_S1x512_1
      (shapeCast _ n shapeCasts_S1x512_S512)))

theorem branch_at (y : FVec Ideal S4096x512 .f32) (n : FVec Ideal S1x512 .f32) (i : Fin 4096) (l : Fin 512) :
    branch y n (ix2 i l) = normed (fun l => y (ix2 i l)) (fun l => n (ix2 0 l)) l := by
  pointwise [branch]
  rfl

/-- The projection of both branches, on what the block was given. -/
def project (x : FVec Ideal S4096x1024 .f32) (A B : FVec Ideal S4096x512 .f32) (w : FVec Ideal S1x1024x1024 .f32) :
    FVec Ideal S4096x1024 .f32 :=
  addf x (Host.dotGeneral (φ₁ := .f32) (φ₂ := .f32) dot_S4096x1024_S1024x1024_S4096x1024_1_0_0_1_n_n none
    (concatenate S4096x1024 1 [⟨S4096x512, A⟩, ⟨S4096x512, B⟩] concatenates_S4096x512_S4096x512_S4096x1024_d1)
    (shapeCast _ w shapeCasts_S1x1024x1024_S1024x1024 : FVec Ideal S1024x1024 .f32))

theorem project_at (x : FVec Ideal S4096x1024 .f32) (A B : FVec Ideal S4096x512 .f32) (w : FVec Ideal S1x1024x1024 .f32)
    (i : Fin 4096) (l : Fin 1024) : project x A B w (ix2 i l) = x (ix2 i l)
      + (∑ k : Fin 512, A (ix2 i k) * w (ix3 0 (⟨k.val, by omega⟩ : Fin 1024) l))
      + ∑ k : Fin 512, B (ix2 i k) * w (ix3 0 (⟨512 + k.val, by omega⟩ : Fin 1024) l) := by
  pointwise [project]
  rw [add_assoc]

end Cert.MixOutRefIdeal.Step
-- ==== Proof.MixClaim.lean ====
module

public import proofs.«01_k».proof.Proof.MixIn
public import proofs.«01_k».proof.Proof.MixOut
public import proofs.«01_k».proof.Proof.PostClaim

@[expose] public section

noncomputable section

/-! The claims about the two sides of the mixing block, forward. -/

namespace Cert.Proof

open Idealize.ShloMosaic Idealize.SL.Sem Cert.Num

theorem mix_in_frame : Cert.quiescent_MixInRefIdeal := fun m ρ _ =>
  (θ_run Cert.MixInRefIdeal.defs _ _).mono (fun r h => ⟨fun c => (h c).2.2, Idealize.ShloMosaic.sem_eq_zero_of_no_sems (by decide) r.2⟩)
    (Cert.MixInRefIdeal.Value.run (F := Ideal) m ρ)

theorem mix_out_frame : Cert.quiescent_MixOutRefIdeal := fun m ρ _ =>
  (θ_run Cert.MixOutRefIdeal.defs _ _).mono (fun r h => ⟨fun c => (h c).2, Idealize.ShloMosaic.sem_eq_zero_of_no_sems (by decide) r.2⟩)
    (Cert.MixOutRefIdeal.Value.run (F := Ideal) m ρ)

theorem mix_in_algebraic : Cert.algebraic_MixInKernelIdeal_MixInRefIdeal := by
  intro m g m' g' _ harg
  refine ⟨_, _, Cert.MixInKernelIdeal.Value.run_blocks m g, ?_⟩
  refine (θ_run Cert.MixInRefIdeal.defs _ _).mono (fun r h c => ?_) (Cert.MixInRefIdeal.Value.run (F := Ideal) m' g')
  obtain ⟨e0, e1, e2⟩ := harg c
  obtain ⟨h0, h1, hrest⟩ := h c
  refine ⟨h0.trans ?_, h1.trans ?_, hrest⟩
  · rw [e0, e1, e2]
    funext j
    obtain ⟨i, l, rfl⟩ := ix2_of (a := 4096) (b := 2560) j
    refine (Cert.MixInRefIdeal.Step.project_at (Cert.MixInRefIdeal.Step.hidden _ _) _ i l).trans ?_
    simp only [Cert.MixInRefIdeal.Step.hidden_at]
    exact (Cert.MixInKernelIdeal.Step.project_at m c i l).symm
  · rw [e0, e1]
    funext j
    obtain ⟨i, l, rfl⟩ := ix2_of (a := 4096) (b := 1024) j
    exact (Cert.MixInRefIdeal.Step.hidden_at _ _ i l).trans (Cert.MixInKernelIdeal.Step.normed_at m c i l).symm

theorem mix_out_algebraic : Cert.algebraic_MixOutKernelIdeal_MixOutRefIdeal := by
  intro m g m' g' _ harg
  refine ⟨_, Cert.MixOutKernelIdeal.Value.run_blocks m g, ?_⟩
  refine (θ_run Cert.MixOutRefIdeal.defs _ _).mono (fun r h c => ?_) (Cert.MixOutRefIdeal.Value.run (F := Ideal) m' g')
  obtain ⟨e0, e1, e2, e3, e4, e5⟩ := harg c
  obtain ⟨h0, hrest⟩ := h c
  refine ⟨h0.trans ?_, hrest⟩
  rw [e0, e1, e2, e3, e4, e5]
  funext j
  obtain ⟨i, l, rfl⟩ := ix2_of (a := 4096) (b := 1024) j
  refine (Cert.MixOutRefIdeal.Step.project_at _ (Cert.MixOutRefIdeal.Step.branch _ _) (Cert.MixOutRefIdeal.Step.branch _ _) _ i l).trans ?_
  simp only [Cert.MixOutRefIdeal.Step.branch_at]
  exact (Cert.MixOutKernelIdeal.Step.result_at m c i l).symm

end Cert.Proof
-- ==== Proof.SbIdealWords.lean ====
/-
  The attention's forward kernel's words: the windows it visits lie inside its buffers.
-/
module

public import proofs.«01_k».proof.SbKernelIdeal
public import Idealize.ShloMosaic.Lib.Tactic

@[expose] public section

namespace Cert.SbKernelIdeal.Carry

open Cert.SbKernelIdeal
open Idealize.ShloMosaic

set_option maxRecDepth 100000

/-- Every window of keys and values looked at lies inside the buffers. -/
theorem window_ok : ∀ (p : Fin k0_t1_loop.trips) (g : Fin 12), k0_chk1 p (BitVec.ofNat 32 g.val) := by
  decide +kernel

/-- A walk that goes on is not at the twelfth window yet. -/
theorem going : ∀ (p : Fin k0_t1_loop.trips) (g : Fin 12),
    Scalar.cmpi .sgt (Scalar.subi (Scalar.muli (Scalar.addi (Scalar.addi (Scalar.muli 2#32 (Scf.iv 0#32 1#32 p)) 1#32) 1#32) 128#32)
      (Scalar.muli (BitVec.ofNat 32 g.val) 384#32)) 0#32 = 1#1 → g.val < 11 := by
  decide +kernel

theorem left_of_and : ∀ a b : BitVec 1, Scalar.andi a b = 1#1 → a = 1#1 := by decide

theorem word_succ : ∀ g : Fin 12, Scalar.addi (BitVec.ofNat 32 g.val) 1#32 = BitVec.ofNat 32 (g.val + 1) := by decide

end Cert.SbKernelIdeal.Carry
-- ==== Proof.SbIdealWalk.lean ====
module

public import proofs.«01_k».proof.Proof.SbIdealWords
public import proofs.«01_k».proof.Proof.Gen.SbKernelIdeal.Skeleton
public import proofs.«01_k».proof.Proof.Gen.SbKernelIdeal.Loops

/-! The attention's forward call walks a pair of query tiles back through the windows of keys and values. Each window
of a walk adds to four chains, one for each tile and each head; the walk ends, and what it returns is the chains at the window
it stopped at. -/

@[expose] public section

set_option maxRecDepth 16384
set_option maxHeartbeats 4000000

noncomputable section

namespace Cert.SbKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbKernelIdeal Cert.SbKernelIdeal.Gen

variable {F : FTy → Type} [FloatOps F] [Named F]

local notation "𝕄" => MT nD τ sig Unit (Elt F) ℕ (UR sig nD τ) ℕ

/-- The walk is measured by the windows still in reach. -/
abbrev 𝒱₀ : Variants := Variants.nat

/-- A buffer held whole, whatever it contains. -/
abbrev whole {s : Shape} {e : EltTy} (c : Dev nD) (M : Memref sig .tc .vmem s e) : sProp 𝕄 :=
  iprop(∃ f : BufTy.Contents (Elt F) M.view.ty, M.view.loc (c : Thread nD τ) ↦[M.view.set]{fullShare} f)

abbrev Out (F : FTy → Type) [FloatOps F] [Named F] := BitVec 32 × BitVec 32 × FVec F S128x128 .f32 × FVec F S128x128 .f32
  × FVec F S128x128 .f32 × FVec F S128x128 .f32 × FVec F S128x1 .f32 × FVec F S128x1 .f32 × FVec F S128x1 .f32 × FVec F S128x1 .f32

/-- What a chain holds: the sums of values, by row and lane, and the running log of what each row has left. -/
abbrev Chain (F : FTy → Type) [FloatOps F] [Named F] := FVec F S128x128 .f32 × FVec F S128x1 .f32

/-- A window of keys and values added to a chain. -/
def Chain.add (mask : IVec S128x384 1) (v8 : FVec F S256x256 .bf16) (v15 : FVec F S128x128 .bf16) (q : Vec F S128x128 .bf16)
    (k v : Vec F S384x128 .bf16) (s : Chain F) : Chain F :=
  (k0_pay75 s.1 mask (k0_pay41 (k0_pay34 q k)) (k0_pay50 v8 v15 s.2 (k0_pay42 mask (k0_pay34 q k))) v,
   k0_pay78 s.2 (k0_pay51 (k0_pay42 mask (k0_pay34 q k))))

section Walk

variable (p : Fin k0_t1_loop.trips) (v0 v1 : IVec S128x384 32) (v8 : FVec F S256x256 .bf16) (v15 : FVec F S128x128 .bf16)
  (qa qb qc qd : Vec F S128x128 .bf16) (kt vt : Fin 2 → ℕ → Vec F S384x128 .bf16)

/-- Which scores of window `g` count, for the first and for the second tile. -/
def counted : Fin 2 → ℕ → IVec S128x384 1
  | 0, g => k0_pay32 v0 v1 (BitVec.ofNat 32 g) (Scalar.addi (Scalar.muli 2#32 (Scf.iv 0#32 1#32 p)) 0#32)
  | 1, g => k0_pay32 v0 v1 (BitVec.ofNat 32 g) (Scalar.addi (Scalar.muli 2#32 (Scf.iv 0#32 1#32 p)) 1#32)

/-- A chain after `g` windows. -/
def chain (b : Fin 2) (q : Vec F S128x128 .bf16) : ℕ → Chain F
  | 0 => (k0_pay11, k0_pay15)
  | g + 1 => Chain.add (counted p v0 v1 b g) v8 v15 q (kt b g) (vt b g) (chain b q g)

/-- Whether any row of the four chains has weight left, after `g` windows. -/
def live : ℕ → BitVec 32
  | 0 => 1#32
  | g + 1 =>
    let s := chain p v0 v1 v8 v15 kt vt
    Scalar.extui (Scalar.cmpf .ogt (k0_pay6 (s 0 qb g).2 (s 1 qc g).2 (s 1 qd g).2
      (k0_pay51 (k0_pay42 (counted p v0 v1 0 g) (k0_pay34 qb (kt 0 g))))
      (k0_pay51 (k0_pay42 (counted p v0 v1 1 g) (k0_pay34 qc (kt 1 g))))
      (k0_pay51 (k0_pay42 (counted p v0 v1 1 g) (k0_pay34 qd (kt 1 g))))
      (s 0 qa (g + 1)).2) (Named.named κ "exit" 0xC2D20000#32 : F .f32))

/-- The walk's loop-carried values after `g` windows. -/
def state (g : ℕ) : Out F :=
  let s := chain p v0 v1 v8 v15 kt vt
  (BitVec.ofNat 32 g, live p v0 v1 v8 v15 qa qb qc qd kt vt g, (s 0 qa g).1, (s 0 qb g).1, (s 1 qc g).1, (s 1 qd g).1,
    (s 0 qa g).2, (s 0 qb g).2, (s 1 qc g).2, (s 1 qd g).2)

/-- Whether window `g` holds a key before the second tile's end. -/
def reach (g : ℕ) : BitVec 1 :=
  Scalar.cmpi .sgt (Scalar.subi (Scalar.muli (Scalar.addi (Scalar.addi (Scalar.muli 2#32 (Scf.iv 0#32 1#32 p)) 1#32) 1#32) 128#32)
    (Scalar.muli (BitVec.ofNat 32 g) 384#32)) 0#32

/-- Whether the walk goes on after `g` windows. -/
def goes (g : ℕ) : BitVec 1 :=
  Scalar.andi (reach p g) (Scalar.cmpi .sgt (live p v0 v1 v8 v15 qa qb qc qd kt vt g) 0#32)

/-- Where a walk at window `g` stops, at most `k` windows on. -/
def stop : ℕ → ℕ → ℕ
  | 0, g => g
  | k + 1, g => if goes p v0 v1 v8 v15 qa qb qc qd kt vt g = 1#1 then stop k (g + 1) else g

end Walk

section Walk

variable (c : Dev nD) (i : grid0.Coords) (p : Fin k0_t1_loop.trips) (v0 v1 : IVec S128x384 32)
  (keys : Memref sig .tc .vmem S4096x128 .bf16) (hkeys : keys.IsWhole) (qa qb qc qd : Vec F S128x128 .bf16)
  (v8 : FVec F S256x256 .bf16) (v15 : FVec F S128x128 .bf16)
  (vals : Memref sig .tc .vmem S4096x128 .bf16) (hvals : vals.IsWhole) (kt vt : Fin 2 → ℕ → Vec F S384x128 .bf16)
  (X : BufTy.Contents (Elt F) keys.view.ty) (Y : BufTy.Contents (Elt F) vals.view.ty)

/-- A buffer's rows of window `g`, for a tile. -/
def rows (M : Memref sig .tc .vmem S4096x128 .bf16) (Z : BufTy.Contents (Elt F) M.view.ty) (b : Fin 2) (g : Fin 12) : Vec F S384x128 .bf16 :=
  M.view.readAt (Elt F) (Rect.unit (s := S4096x128) (k0_off2 p (BitVec.ofNat 32 g.val) (BitVec.ofNat 32 b.val)) S384x128.size
    (k0_off2_inb p (BitVec.ofNat 32 g.val) (window_ok p g) b)).toLoadRect Z

/-- The keys and the values, which the walk reads. -/
def held : sProp 𝕄 :=
  iprop((keys.view.loc (c : Thread nD τ) ↦[keys.view.set]{fullShare} X) ∗ (vals.view.loc (c : Thread nD τ) ↦[vals.view.set]{fullShare} Y))

/-- The walk returns `s`, and holds what it held. -/
def spec (s : Out F) : sWPT 𝕄 (Out F) := do
  sWPT.consume (held c keys vals X Y)
  let r ← sWPT.arbitrary
  sWPT.assume (r = s)
  sWPT.produce (held c keys vals X Y)
  pure r

theorem spec_apply (s : Out F) (K : Out F → sProp 𝕄) :
    spec c keys vals X Y s K = iprop(held c keys vals X Y ∗ ∀ r : Out F, ⌜r = s⌝ -∗ (held c keys vals X Y -∗ K r)) := rfl

theorem spec_le (hk : ∀ b (g : Fin 12), rows p keys X b g = kt b g) (hv : ∀ b (g : Fin 12), rows p vals Y b g = vt b g)
    (E : Set ℕ) : ∀ (k g : ℕ), g + k = 11 → ∀ (w : BitVec 32) (a0 a1 a2 a3 : FVec F S128x128 .f32)
    (r0 r1 r2 r3 : FVec F S128x1 .f32), (BitVec.ofNat 32 g, w, a0, a1, a2, a3, r0, r1, r2, r3) = state p v0 v1 v8 v15 qa qb qc qd kt vt g →
    ∀ (K : Out F → sProp 𝕄),
    spec c keys vals X Y (state p v0 v1 v8 v15 qa qb qc qd kt vt (stop p v0 v1 v8 v15 qa qb qc qd kt vt k g)) K
      ⊢ wp frame (wpE (defs₀ (F := F)) 𝒱₀ (c : Thread nD τ) (some k)) E
          (defs₀ (F := F) .tc 1 ⟨i, p, v0, v1, keys, hkeys, qa, qb, qc, qd, v8, v15, vals, hvals, BitVec.ofNat 32 g, w, a0, a1, a2, a3, r0, r1, r2, r3⟩) K := by
  intro k
  induction k with
  | zero =>
    intro g hg w a0 a1 a2 a3 r0 r1 r2 r3 hs K
    rw [spec_apply]
    show _ ⊢ wp frame (wpE (defs₀ (F := F)) 𝒱₀ (c : Thread nD τ) (some 0)) E
      (cc0_while1 i p v0 v1 keys hkeys qa qb qc qd v8 v15 vals hvals (BitVec.ofNat 32 g) w a0 a1 a2 a3 r0 r1 r2 r3) K
    simp only [cc0_while1_eq_skeleton]; unfold cc0_while1_skel; dsimp only
    rw [if_neg (fun h => by
      have := going p ⟨g, by omega⟩ (left_of_and _ _ h)
      simp only at this; omega)]
    iintro ⟨H, Hk⟩
    simp only [Prog.pure_eq_ret]
    rw [wp_ret]; imodintro
    iapply Hk
    · ipureintro; exact hs
    · iexact H
  | succ k ih =>
    intro g hg w a0 a1 a2 a3 r0 r1 r2 r3 hs K
    rw [spec_apply]
    show _ ⊢ wp frame (wpE (defs₀ (F := F)) 𝒱₀ (c : Thread nD τ) (some (k + 1))) E
      (cc0_while1 i p v0 v1 keys hkeys qa qb qc qd v8 v15 vals hvals (BitVec.ofNat 32 g) w a0 a1 a2 a3 r0 r1 r2 r3) K
    have hw : w = live p v0 v1 v8 v15 qa qb qc qd kt vt g := congrArg (fun x => x.2.1) hs
    simp only [cc0_while1_eq_skeleton]; unfold cc0_while1_skel; dsimp only
    split
    · next hgo =>
      have hstop : stop p v0 v1 v8 v15 qa qb qc qd kt vt (k + 1) g = stop p v0 v1 v8 v15 qa qb qc qd kt vt k (g + 1) :=
        if_pos (by rw [hw] at hgo; exact hgo)
      rw [hstop]
      simp only [k0_part6_eq_skeleton, k0_part7_eq_skeleton, k0_part8_eq_skeleton, k0_part9_eq_skeleton, k0_part10_eq_skeleton]
      unfold k0_part6_skel
      simp only [Prog.lift, Prog.bind_op, Prog.bind_ret, Prog.pure_eq_ret]
      unfold held
      iintro ⟨⟨Hx, Hr⟩, Hk⟩
      iapply (wp_assume 𝒱₀ (c : Thread nD τ) (some (k + 1)) E (window_ok p ⟨g, by omega⟩))
      sl_exec
      iapply (wp_call_spec 𝒱₀ (c : Thread nD τ) (some (k + 1)) E
        (spec c keys vals X Y (state p v0 v1 v8 v15 qa qb qc qd kt vt (stop p v0 v1 v8 v15 qa qb qc qd kt vt k (g + 1)))) k
        (fun u hu => by cases hu; exact Nat.lt_succ_self k)
        (by
          have h1 : Scalar.addi (BitVec.ofNat 32 g) 1#32 = BitVec.ofNat 32 (g + 1) := word_succ ⟨g, by omega⟩
          intro K'
          have := ih (g + 1) (by omega)
          rw [← h1] at this
          refine this _ _ _ _ _ _ _ _ _ ?_ K'
          simp only [state, Prod.mk.injEq] at hs
          obtain ⟨-, rfl, rfl, rfl, rfl, rfl, rfl, rfl, rfl, rfl⟩ := hs
          have hk0 := hk 0 ⟨g, by omega⟩
          have hk1 := hk 1 ⟨g, by omega⟩
          have hv0 := hv 0 ⟨g, by omega⟩
          have hv1 := hv 1 ⟨g, by omega⟩
          simp only at hk0 hk1 hv0 hv1
          rw [h1]
          simp only [state, live, chain]
          rw [← hk0, ← hk1, ← hv0, ← hv1]
          rfl))
      rw [spec_apply]; unfold held
      isplitl [Hx Hr]
      · isplitl [Hx]
        · iexact Hx
        iexact Hr
      iintro %r %hr H
      rw [wp_ret]; imodintro
      iapply Hk
      · ipureintro; exact hr
      · iexact H
    · next hgo =>
      have hstop : stop p v0 v1 v8 v15 qa qb qc qd kt vt (k + 1) g = g :=
        if_neg (by rw [hw] at hgo; exact hgo)
      rw [hstop]
      iintro ⟨H, Hk⟩
      simp only [Prog.pure_eq_ret]
      rw [wp_ret]; imodintro
      iapply Hk
      · ipureintro; exact hs
      · iexact H

end Walk

end Cert.SbKernelIdeal.Carry
-- ==== Proof.SbIdealTrip.lean ====
module

public import proofs.«01_k».proof.Proof.SbIdealWalk
public import Idealize.ShloMosaic.Lib.WritesUnit
public import Idealize.ShloMosaic.Lib.ValueIdxCore

/-! One pair of query tiles of the attention's forward call, and the loop over the pairs: what the loop leaves in the result's
block, row by row. -/

@[expose] public section

set_option maxRecDepth 16384
set_option maxHeartbeats 4000000

noncomputable section

namespace Cert.SbKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbKernelIdeal Cert.SbKernelIdeal.Gen

variable {F : FTy → Type} [FloatOps F] [Named F]

local notation "𝕄" => MT nD τ sig Unit (Elt F) ℕ (UR sig nD τ) ℕ

open Idealize.ShloMosaic.ValueIdx

/-- Where a pair's first and second tile of queries begin. -/
theorem tile_off : ∀ (p : Fin k0_t1_loop.trips) (b : Fin 2), k0_off1 p (BitVec.ofNat 32 b.val) = ![256 * p.val + 128 * b.val, 0] := by
  decide +kernel

instance (p : Fin k0_t1_loop.trips) : ClosedOff (k0_off1 p 0#32) := ⟨_, tile_off p 0⟩
instance (p : Fin k0_t1_loop.trips) : ClosedOff (k0_off1 p 1#32) := ⟨_, tile_off p 1⟩

section Values

variable (v0 v1 : IVec S128x384 32) (v8 : FVec F S256x256 .bf16) (v15 : FVec F S128x128 .bf16) (v42 v68 : IVec S1x128 1)
  (Q K V : Vec F S4096x128 .bf16) (p : Fin k0_t1_loop.trips)

/-- A tile of queries. -/
def queries (b : Fin 2) : Vec F S128x128 .bf16 := fun x =>
  Q ((Rect.unit (s := S4096x128) (k0_off1 p (BitVec.ofNat 32 b.val)) S128x128.size (k0_off1_inb p b)).toLoadRect.idx x)

/-- The last window a walk may look at. -/
def atMost (g : ℕ) : Fin 12 := ⟨min g 11, by omega⟩

/-- A window of keys, or of values. -/
def cut (T : Vec F S4096x128 .bf16) (b : Fin 2) (g : ℕ) : Vec F S384x128 .bf16 := fun x =>
  T ((Rect.unit (s := S4096x128) (k0_off2 p (BitVec.ofNat 32 (atMost g).val) (BitVec.ofNat 32 b.val)) S384x128.size
    (k0_off2_inb p (BitVec.ofNat 32 (atMost g).val) (window_ok p (atMost g)) b)).toLoadRect.idx x)

/-- How many windows a pair's walk takes in. -/
def taken : ℕ :=
  stop p v0 v1 v8 v15 (k0_pay7 v42 (queries Q p 0)) (k0_pay8 v68 (queries Q p 0)) (k0_pay7 v42 (queries Q p 1)) (k0_pay8 v68 (queries Q p 1))
    (cut p K) (cut p V) 11 0

/-- The rows a pair writes for one of its tiles. -/
def tile (b : Fin 2) : FVec F S128x128 .f32 :=
  k0_pay1 v42 (chain p v0 v1 v8 v15 (cut p K) (cut p V) b (k0_pay7 v42 (queries Q p b)) (taken v0 v1 v8 v15 v42 v68 Q K V p)).1
    (chain p v0 v1 v8 v15 (cut p K) (cut p V) b (k0_pay8 v68 (queries Q p b)) (taken v0 v1 v8 v15 v42 v68 Q K V p)).1

/-- What the pairs before `k` have stored. -/
def pieces : ℕ → List (View.Piece (Elt F) S4096x128 .f32)
  | 0 => []
  | k + 1 => if h : k < k0_t1_loop.trips then
      ⟨Rect.unit (s := S4096x128) (k0_off1 ⟨k, h⟩ 1#32) S128x128.size (k0_off1_inb ⟨k, h⟩ 1), tile v0 v1 v8 v15 v42 v68 Q K V ⟨k, h⟩ 1⟩
      :: ⟨Rect.unit (s := S4096x128) (k0_off1 ⟨k, h⟩ 0#32) S128x128.size (k0_off1_inb ⟨k, h⟩ 0), tile v0 v1 v8 v15 v42 v68 Q K V ⟨k, h⟩ 0⟩
      :: pieces k
    else pieces k

theorem pieces_succ : pieces v0 v1 v8 v15 v42 v68 Q K V (p.val + 1)
    = ⟨Rect.unit (s := S4096x128) (k0_off1 p 1#32) S128x128.size (k0_off1_inb p 1), tile v0 v1 v8 v15 v42 v68 Q K V p 1⟩
      :: ⟨Rect.unit (s := S4096x128) (k0_off1 p 0#32) S128x128.size (k0_off1_inb p 0), tile v0 v1 v8 v15 v42 v68 Q K V p 0⟩
      :: pieces v0 v1 v8 v15 v42 v68 Q K V p.val := dif_pos p.isLt

/-- A row of the result's block is the row of the tile it lies in. -/
def result : Vec F S4096x128 .f32 := fun y =>
  tile v0 v1 v8 v15 v42 v68 Q K V ⟨(y 0).val / 256, by have : (y 0).val < 4096 := (y 0).isLt; show _ < 16; omega⟩
    ⟨(y 0).val / 128 % 2, by omega⟩ (ix2 ⟨(y 0).val % 128, by omega⟩ (y 1))

theorem read_pieces {M : Memref sig .tc .vmem S4096x128 .f32} (f : BufTy.Contents (Elt F) M.view.ty) :
    ∀ k ≤ 16, ∀ y : S4096x128.Idx, (y 0).val < 256 * k →
      M.view.read (Elt F) (M.view.writes (Elt F) f (pieces v0 v1 v8 v15 v42 v68 Q K V k)) y = result v0 v1 v8 v15 v42 v68 Q K V y := by
  intro k
  induction k with
  | zero => intro _ y hy; omega
  | succ k ih =>
    intro hk y hy
    have hy4 : (y 0).val < 4096 := (y 0).isLt
    have hk16 : k < k0_t1_loop.trips := by show k < 16; omega
    have o1 : k0_off1 ⟨k, hk16⟩ 1#32 = ![256 * k + 128, 0] := tile_off ⟨k, hk16⟩ 1
    have o0 : k0_off1 ⟨k, hk16⟩ 0#32 = ![256 * k, 0] := tile_off ⟨k, hk16⟩ 0
    rw [show pieces v0 v1 v8 v15 v42 v68 Q K V (k + 1) = _ from pieces_succ v0 v1 v8 v15 v42 v68 Q K V ⟨k, hk16⟩]
    by_cases h2 : 256 * k + 128 ≤ (y 0).val
    · refine (View.read_writes_cons_rows_of_mem (size := S128x128.size) M.view f _ _ _ y (ix2 ⟨(y 0).val % 128, by omega⟩ (y 1)) o1
        (show (y 0).val = 256 * k + 128 + (y 0).val % 128 by omega) rfl).trans ?_
      exact congrArg₂ (fun P b => tile v0 v1 v8 v15 v42 v68 Q K V P b (ix2 ⟨(y 0).val % 128, by omega⟩ (y 1)))
        (Fin.ext (show k = (y 0).val / 256 by omega)) (Fin.ext (show 1 = (y 0).val / 128 % 2 by omega))
    · refine (View.read_writes_cons_rows_of_not_mem M.view f _ _ _ y o1 (W := 128) rfl
        (Or.inl (show (y 0).val < 256 * k + 128 by omega))).trans ?_
      by_cases h1 : 256 * k ≤ (y 0).val
      · refine (View.read_writes_cons_rows_of_mem (size := S128x128.size) M.view f _ _ _ y (ix2 ⟨(y 0).val % 128, by omega⟩ (y 1)) o0
          (show (y 0).val = 256 * k + (y 0).val % 128 by omega) rfl).trans ?_
        exact congrArg₂ (fun P b => tile v0 v1 v8 v15 v42 v68 Q K V P b (ix2 ⟨(y 0).val % 128, by omega⟩ (y 1)))
          (Fin.ext (show k = (y 0).val / 256 by omega)) (Fin.ext (show 0 = (y 0).val / 128 % 2 by omega))
      · refine (View.read_writes_cons_rows_of_not_mem M.view f _ _ _ y o0 (W := 128) rfl
          (Or.inl (show (y 0).val < 256 * k by omega))).trans ?_
        exact ih (by omega) y (by omega)

end Values

theorem rows_cut (p : Fin k0_t1_loop.trips) (M : Memref sig .tc .vmem S4096x128 .bf16) (Z : BufTy.Contents (Elt F) M.view.ty)
    (b : Fin 2) (g : Fin 12) : rows p M Z b g = cut p (M.view.read (Elt F) Z) b g.val := by
  have e : atMost g.val = g := Fin.ext (by show min g.val 11 = g.val; omega)
  calc rows p M Z b g = rows p M Z b (atMost g.val) := by rw [e]
    _ = cut p (M.view.read (Elt F) Z) b g.val := rfl

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (v0 v1 : IVec S128x384 32) (v8 : FVec F S256x256 .bf16) (v15 : FVec F S128x128 .bf16) (v42 v68 : IVec S1x128 1)
  (X6 : BufTy.Contents (Elt F) arg6.view.ty) (X7 : BufTy.Contents (Elt F) arg7.view.ty)
  (X8 : BufTy.Contents (Elt F) arg8.view.ty) (X9 : BufTy.Contents (Elt F) arg9.view.ty)

/-- What the pairs read, and what those before `k` have written. -/
abbrev pair (k : ℕ) : sProp 𝕄 :=
  iprop((∃ f : BufTy.Contents (Elt F) arg6.view.ty, (arg6.view.loc (c : Thread nD τ) ↦[arg6.view.set]{fullShare} f)
      ∗ ⌜f = arg6.view.writes (Elt F) X6 (pieces v0 v1 v8 v15 v42 v68 (arg7.view.read (Elt F) X7) (arg8.view.read (Elt F) X8) (arg9.view.read (Elt F) X9) k)⌝)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9))

theorem trip (p : Fin k0_t1_loop.trips) (u : Unit) :
    pair c arg6 arg7 arg8 arg9 v0 v1 v8 v15 v42 v68 X6 X7 X8 X9 p.val
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 v0 v1 v8 v15 v42 v68 p u)
          (fun _ => pair c arg6 arg7 arg8 arg9 v0 v1 v8 v15 v42 v68 X6 X7 X8 X9 (p.val + 1)) := by
  unfold k0_t1_body
  simp only [k0_part1_eq_skeleton]
  iintro ⟨⟨%f6, H6, %hf6⟩, H7, H8, H9⟩
  subst hf6
  sl_exec
  iapply (wp_call_spec 𝒱₀ (c : Thread nD τ) none Set.univ
    (spec c arg8 arg9 X8 X9 (state p v0 v1 v8 v15 (k0_pay7 v42 (queries (arg7.view.read (Elt F) X7) p 0)) (k0_pay8 v68 (queries (arg7.view.read (Elt F) X7) p 0))
      (k0_pay7 v42 (queries (arg7.view.read (Elt F) X7) p 1)) (k0_pay8 v68 (queries (arg7.view.read (Elt F) X7) p 1))
      (cut p (arg8.view.read (Elt F) X8)) (cut p (arg9.view.read (Elt F) X9))
      (taken v0 v1 v8 v15 v42 v68 (arg7.view.read (Elt F) X7) (arg8.view.read (Elt F) X8) (arg9.view.read (Elt F) X9) p))) 11
    (fun u hu => nomatch hu)
    (spec_le c i p v0 v1 arg8 harg8 _ _ _ _ v8 v15 arg9 harg9 (cut p (arg8.view.read (Elt F) X8)) (cut p (arg9.view.read (Elt F) X9)) X8 X9
      (rows_cut p arg8 X8) (rows_cut p arg9 X9) Set.univ 11 0 rfl _ _ _ _ _ _ _ _ _ rfl))
  rw [spec_apply]; unfold held
  isplitl [H8 H9]
  · isplitl [H8]
    · iexact H8
    iexact H9
  iintro %r %hr ⟨H8, H9⟩
  subst hr
  sl_exec
  sl_step
  isplitl [H6]
  · iexists _
    isplitl [H6]
    · iexact H6
    ipureintro
    rw [pieces_succ]
    rfl
  isplitl [H7]; · iexact H7
  isplitl [H8]; · iexact H8
  iexact H9

set_option warn.classDefReducibility false in
/-- The loop over the pairs, by what each pair holds. -/
@[sl_loop] def pairs : LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 v0 v1 v8 v15 v42 v68 where
  inv := fun k _ => pair c arg6 arg7 arg8 arg9 v0 v1 v8 v15 v42 v68 X6 X7 X8 X9 k
  step p u := trip c i arg1 harg1 arg2 harg2 arg3 harg3 arg4 harg4 arg5 harg5 arg6 harg6 arg7 harg7 arg8 harg8 arg9 harg9 v0 v1 v8 v15 v42 v68 X6 X7 X8 X9 p u

end Cert.SbKernelIdeal.Carry
-- ==== Proof.SbIdealFrame.lean ====
module

public import proofs.«01_k».proof.Proof.SbIdealTrip
public import proofs.«01_k».proof.Proof.Gen.SbKernelIdeal.Launch
public import proofs.«01_k».proof.Proof.Gen.SbKernelIdeal.Points
public import Idealize.ShloMosaic.Lib.Pipeline.FrameBody
public import Idealize.ShloMosaic.Lib.VecWindow
public import Idealize.ShloMosaic.Lib.Pipeline.ValueKit.Tiles
public import Idealize.ShloMosaic.Lib.Claim

/-! The attention's forward call ends, its arguments as they were. A block of the result is what the walks over
a pair of heads gather from the blocks of the queries, the keys and the values. -/

@[expose] public section

set_option maxRecDepth 16384
set_option maxHeartbeats 4000000

noncomputable section

namespace Cert.SbKernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbKernelIdeal Cert.SbKernelIdeal.Gen

variable {F : FTy → Type} [FloatOps F] [Named F]

local notation "𝕄" => MT nD τ sig Unit (Elt F) ℕ (UR sig nD τ) ℕ

/-- A block of the result from the blocks of queries, keys and values, and the two scales. -/
def attended (q k v : Vec F S4096x128 .f32) (qg kg : Vec F S1x128 .f32) : Vec F S4096x128 .f32 :=
  result (iota .tc S128x384 32 [0] iota_S128x384_d0_w32) (iota .tc S128x384 32 [1] iota_S128x384_d1_w32) k0_pay19 k0_pay20 k0_pay21
    (k0_pay23 (iota .tc S1x128 32 [1] iota_S1x128_d1_w32) 64#32 k0_pay22 0#32)
    (k0_pay29 q (k0_pay28 k0_pay24 k0_pay25 k0_pay26 q) qg) (k0_pay30 (k0_pay27 (F := F) k0_pay24 k0_pay25 k0_pay26) k kg) (k0_pay31 v)

section Body

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)

/-- The body's buffers: the inputs' at their contents, the others' at any. -/
abbrev bufs : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ whole (F := F) c arg6 ∗ whole (F := F) c arg7 ∗ whole (F := F) c arg8 ∗ whole (F := F) c arg9)

/-- The block the body leaves, from its inputs' contents. -/
abbrev left : Vec F S4096x128 .f32 :=
  attended (arg1.view.read (Elt F) X1) (arg2.view.read (Elt F) X2) (arg3.view.read (Elt F) X3) (arg4.view.read (Elt F) X4) (arg5.view.read (Elt F) X5)

/-- What the body leaves: its inputs' contents, the result's block, its scratch at any. -/
abbrev done : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f : BufTy.Contents (Elt F) arg6.view.ty, (arg6.view.loc (c : Thread nD τ) ↦[arg6.view.set]{fullShare} f)
      ∗ ⌜arg6.view.read (Elt F) f = left arg1 arg2 arg3 arg4 arg5 X1 X2 X3 X4 X5⌝)
    ∗ whole (F := F) c arg7 ∗ whole (F := F) c arg8 ∗ whole (F := F) c arg9)

theorem body :
    bufs c arg1 arg2 arg3 arg4 arg5 arg6 arg7 arg8 arg9 X1 X2 X3 X4 X5
      ⊢ wp frame (wpE (defs₀ (F := F)) 𝒱₀ (c : Thread nD τ) none) Set.univ
          (cc0_attn_fwd (F := F) i arg1 harg1 arg2 harg2 arg3 harg3 arg4 harg4 arg5 harg5 arg6 harg6 arg7 harg7 arg8 harg8 arg9 harg9)
          (fun _ => done c arg1 arg2 arg3 arg4 arg5 arg6 arg7 arg8 arg9 X1 X2 X3 X4 X5) := by
  simp only [cc0_attn_fwd_eq_skeleton]; unfold cc0_attn_fwd_skel
  simp only [k0_part2_eq_skeleton, k0_part3_eq_skeleton, k0_part4_eq_skeleton, k0_part5_eq_skeleton]
  iintro ⟨H1, H2, H3, H4, H5, ⟨%f6, H6⟩, ⟨%f7, H7⟩, ⟨%f8, H8⟩, ⟨%f9, H9⟩⟩
  sl_exec
  sl_step
  isplitl [H1]; · iexact H1
  isplitl [H2]; · iexact H2
  isplitl [H3]; · iexact H3
  isplitl [H4]; · iexact H4
  isplitl [H5]; · iexact H5
  isplitl [H6]
  · iexists _
    isplitl [H6]
    · iexact H6
    ipureintro
    funext y
    refine (read_pieces _ _ _ _ _ _ _ _ _ _ 16 le_rfl y (by have : (y 0).val < 4096 := (y 0).isLt; omega)).trans ?_
    refine congrFun (congr (congr (congrArg (result (iota .tc S128x384 32 [0] iota_S128x384_d0_w32) (iota .tc S128x384 32 [1] iota_S128x384_d1_w32)
      k0_pay19 k0_pay20 k0_pay21 (k0_pay23 (iota .tc S1x128 32 [1] iota_S1x128_d1_w32) 64#32 k0_pay22 0#32)) ?_) ?_) ?_) y
    · unfold body.sl.H7_1 body.sl.r_1 body.sl.r_2
      rw [View.read_writes_full]
      have e1 : View.readAt (Elt F) arg1.view (Rect.unit ![0, 0] ![4096, 128] inb_S4096x128_S4096x128_0_0).toLoadRect X1 = View.read (Elt F) arg1.view X1 := View.readAt_full _ _ _
      have e4 : View.readAt (Elt F) arg4.view (Rect.unit ![0, 0] ![1, 128] inb_S1x128_S1x128_0_0).toLoadRect X4 = View.read (Elt F) arg4.view X4 := View.readAt_full _ _ _
      rw [e1, e4]
    · unfold body.sl.H8_1
      rw [View.read_writes_full]
      have e2 : View.readAt (Elt F) arg2.view (Rect.unit ![0, 0] ![4096, 128] inb_S4096x128_S4096x128_0_0).toLoadRect X2 = View.read (Elt F) arg2.view X2 := View.readAt_full _ _ _
      have e5 : View.readAt (Elt F) arg5.view (Rect.unit ![0, 0] ![1, 128] inb_S1x128_S1x128_0_0).toLoadRect X5 = View.read (Elt F) arg5.view X5 := View.readAt_full _ _ _
      rw [e2, e5]
    · unfold body.sl.H9_1
      rw [View.read_writes_full]
      have e3 : View.readAt (Elt F) arg3.view (Rect.unit ![0, 0] ![4096, 128] inb_S4096x128_S4096x128_0_0).toLoadRect X3 = View.read (Elt F) arg3.view X3 := View.readAt_full _ _ _
      rw [e3]
  isplitl [H7]; · iexists _; iexact H7
  isplitl [H8]; · iexists _; iexact H8
  iexists _; iexact H9

end Body

variable (m : (ℓ : Loc nD τ sig) → Buf (Elt F) ℓ) (ρ : Dev nD → PrngReg)

/-- What a core's buffers hold when the call begins: the two scales have been laid out for a pair of heads. -/
abbrev V (c : Dev nD) (b : Ref sig .tc) : Buf (Elt F) ((c : Thread nD τ).loc b) :=
  StableHlo.after (List.flatten [hostOps0]) (fun b => m (c, b)) b

theorem laid_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0] (by simp only [List.Forall]; exact hostOps0_sub)
    (by simp only [List.Forall]; exact laid_fresh) main_chain

/-- A buffer the layout does not write is found as it was. -/
theorem entry_kept (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  entry_kept m c main_arg0 (by decide) (by decide) (by decide) (by decide) (by decide) (by decide)
theorem V_main_arg1 (c : Dev nD) : V m c main_arg1 = m ((c : Thread nD τ).loc main_arg1) :=
  entry_kept m c main_arg1 (by decide) (by decide) (by decide) (by decide) (by decide) (by decide)
theorem V_main_arg2 (c : Dev nD) : V m c main_arg2 = m ((c : Thread nD τ).loc main_arg2) :=
  entry_kept m c main_arg2 (by decide) (by decide) (by decide) (by decide) (by decide) (by decide)

/-- The block of window `w` at a pair of heads. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The block of the result at a pair of heads. -/
def resultAt (c : Dev nD) (t : Fin (cfg0 (F := F)).N) : Vec F S4096x128 .f32 :=
  attended (blockAt m c 0 t) (blockAt m c 1 t) (blockAt m c 2 t) (blockAt m c 3 t) (blockAt m c 4 t)

/-- The five inputs stay at their blocks; the result's block is what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => resultAt m c t
    | ⟨_ + 6, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem before0 (c : Dev nD) (t : Fin (cfg0 (F := F)).N) (d) : (dats m 0 c).before 0 t d = blockAt m c 0 t :=
  (Dat.before_in_eq_fetched _ 0 rfl (fun _ => rfl) (fun _ _ _ => rfl) (fun _ => rfl) t d).trans rfl
theorem before1 (c : Dev nD) (t : Fin (cfg0 (F := F)).N) (d) : (dats m 0 c).before 1 t d = blockAt m c 1 t :=
  (Dat.before_in_eq_fetched _ 1 rfl (fun _ => rfl) (fun _ _ _ => rfl) (fun _ => rfl) t d).trans rfl
theorem before2 (c : Dev nD) (t : Fin (cfg0 (F := F)).N) (d) : (dats m 0 c).before 2 t d = blockAt m c 2 t :=
  (Dat.before_in_eq_fetched _ 2 rfl (fun _ => rfl) (fun _ _ _ => rfl) (fun _ => rfl) t d).trans rfl
theorem before3 (c : Dev nD) (t : Fin (cfg0 (F := F)).N) (d) : (dats m 0 c).before 3 t d = blockAt m c 3 t :=
  (Dat.before_in_eq_fetched _ 3 rfl (fun _ => rfl) (fun _ _ _ => rfl) (fun _ => rfl) t d).trans rfl
theorem before4 (c : Dev nD) (t : Fin (cfg0 (F := F)).N) (d) : (dats m 0 c).before 4 t d = blockAt m c 4 t :=
  (Dat.before_in_eq_fetched _ 4 rfl (fun _ => rfl) (fun _ _ _ => rfl) (fun _ => rfl) t d).trans rfl

/-- What the core keeps between pairs of heads: its scratch at any contents. -/
theorem kept_eq (c : Dev nD) :
    (Pipeline.ΦA spec0 c : sProp 𝕄)
      = iprop(iprop((∃ d, owns (c : Thread nD τ) (Memref.whole cc0_scratch0 : Memref sig .tc .vmem _ _) fullShare d)
        ∗ (∃ d, owns (c : Thread nD τ) (Memref.whole cc0_scratch1 : Memref sig .tc .vmem _ _) fullShare d)
        ∗ (∃ d, owns (c : Thread nD τ) (Memref.whole cc0_scratch2 : Memref sig .tc .vmem _ _) fullShare d)) ∗ (∃ r, prngReg c r)) := by
  unfold Pipeline.ΦA; rw [scopedRest0_eq]; simp only [owns_whole]; try rfl

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, kept_eq]
  unfold owns
  iintro ⟨⟨⟨⟨%e0, %g0, -, S0⟩, ⟨%e1, %g1, -, S1⟩, ⟨%e2, %g2, -, S2⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  iapply (wp_wand_r frame (wpE (defs₀ (F := F)) 𝒱₀ (c : Thread nD τ) none) Set.univ)
  isplitl [H0 H1 H2 H3 H4 H5 S0 S1 S2]
  · iapply (body c (grid0.coords t) _ _ _ _ _ _ _ _ _ _ _ _ _ _ _ _ _ _ f0 f1 f2 f3 f4)
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    iexists _; iexact S2
  · iintro %_ ⟨H0, H1, H2, H3, H4, ⟨%w5, H5, %e5⟩, ⟨%x0, S0⟩, ⟨%x1, S1⟩, ⟨%x2, S2⟩⟩
    isplitl [Hg S0 S1 S2]
    · isplitr [Hg]
      · isplitl [S0]
        · iexists _, x0; isplitr; · ipureintro; rfl
          iexact S0
        isplitl [S1]
        · iexists _, x1; isplitr; · ipureintro; rfl
          iexact S1
        iexists _, x2; isplitr; · ipureintro; rfl
        iexact S2
      · iexact Hg
    isplitl [Ho]; · iexact Ho
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    iexists w5; isplitr
    · ipureintro
      exact e5.trans (congr (congr (congr (congr (congrArg attended h0) h1) h2) h3) h4)
    iexact H5

theorem body_obligation (c : Dev nD) :
    BodyObligation (dats (F := F) m 0 c) (defs₀ (F := F)) 𝒱₀ () Set.univ := fun t => by
  rw [bigSep_W0, bigSep_W0,
    show defs₀ (F := F) .tc (cfg0 (F := F)).body ((cfg0 (F := F)).bodyArgs t ((cfg0 (F := F)).slots t)) = bodyAt0 t by unfold defs₀; rw [Defs.onTc_tc]]
  exact triple_restated (sound m c t) rfl .rfl fun _ => .rfl

theorem run_counters : θ_run defs (onTc (τ := τ) (main (F := F))) (s₀ m ρ)
    (fun r => Pipeline.FramePost (cfgs (F := F)) (dats m) 0 (V m) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The arguments outlast the call. -/
theorem kept (c : Dev nD) {r} (h : Pipeline.FramePost (cfgs (F := F)) (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((h c).1 0).trans ((dats m 0 c).arrAt_in 0 rfl _)).trans ((A_eq m c 0).trans (V_main_arg0 m c)),
      ((h c).2 main_arg1 (Pipeline.mem_restRefs_of main_arg1 (by decide) (show ∀ w : Fin 6, (spec0 w).arr.view.ref ≠ main_arg1 by decide))).trans (V_main_arg1 m c),
      ((h c).2 main_arg2 (Pipeline.mem_restRefs_of main_arg2 (by decide) (show ∀ w : Fin 6, (spec0 w).arr.view.ref ≠ main_arg2 by decide))).trans (V_main_arg2 m c)⟩

/-- The call terminates and leaves its three arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c => kept m c h, hz⟩) (run_counters m ρ)

/-- The call terminates with its result at what the blocks left, and its three arguments as they were. -/
theorem run : θ_run defs (onTc (τ := τ) (main (F := F))) ⟨m, fun _ => 0, ρ⟩ (fun r => ∀ c : Dev nD,
      r.2.mem ((c.tc : Thread nD τ).loc main_v6) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ ⟨h, _⟩ c => ⟨(h c).1 5, kept m c h⟩) (run_counters m ρ)

end Cert.SbKernelIdeal.Carry
-- ==== Proof.SbSums.lean ====
module

public import proofs.«01_k».proof.Proof.Num

@[expose] public section

noncomputable section

/-! The attention of one row, in real numbers: the keys before the row, each weighed by its own share of what the
keys after it left. -/

namespace Cert.Sb

open Finset

/-- The log of the share a score takes. -/
def lb (z : ℝ) : ℝ := min z 0 - Real.log (1 + Real.exp (-|z|))

/-- The log of the share a score leaves. -/
def lm (z : ℝ) : ℝ := lb z - z

theorem lb_neg (z : ℝ) : lb (-z) = lm z := by
  unfold lm lb
  rw [abs_neg]
  rcases le_total z 0 with h | h
  · rw [min_eq_right (by linarith), min_eq_left h]; ring
  · rw [min_eq_left (by linarith), min_eq_right h]; ring

/-- The weight of key `k` for row `R`. -/
def weight (z : ℕ → ℝ) (R k : ℕ) : ℝ := Real.exp (lb (z k) + ∑ j ∈ Ico (k + 1) R, lm (z j))

/-- What the keys from `E` on, before row `R`, leave: its log. -/
def leave (z : ℕ → ℝ) (R E : ℕ) : ℝ := ∑ j ∈ Ico E R, lm (z j)

/-- What the keys from `E` on, before row `R`, gather. -/
def gather (z v : ℕ → ℝ) (R E : ℕ) : ℝ := ∑ k ∈ Ico E R, weight z R k * v k

/-- The row. -/
def row (z v : ℕ → ℝ) (R : ℕ) : ℝ := ∑ k ∈ range R, weight z R k * v k

theorem gather_zero (z v : ℕ → ℝ) (R : ℕ) : gather z v R 0 = row z v R := by
  unfold gather row
  rw [range_eq_Ico]

/-- A sum over a window, of the entries between two bounds. -/
theorem window {n : ℕ} (f : ℕ → ℝ) (s a b : ℕ) (ha : s ≤ a) (hb : b ≤ s + n) :
    (∑ κ : Fin n, if a ≤ s + κ.val ∧ s + κ.val < b then f (s + κ.val) else 0) = ∑ k ∈ Ico a b, f k := by
  rw [Fin.sum_univ_eq_sum_range (fun κ => if a ≤ s + κ ∧ s + κ < b then f (s + κ) else 0) n]
  have h := sum_Ico_eq_sum_range (fun k => if a ≤ k ∧ k < b then f k else 0) s (s + n)
  rw [Nat.add_sub_cancel_left] at h
  rw [← h, ← sum_filter]
  refine sum_congr (ext fun k => ?_) fun _ _ => rfl
  simp only [mem_filter, mem_Ico]
  omega

/-- The keys of a window and those after it. -/
theorem joined (f : ℕ → ℝ) (s E R : ℕ) (h : s ≤ E) :
    (∑ k ∈ Ico s (min R E), f k) + ∑ k ∈ Ico E R, f k = ∑ k ∈ Ico s R, f k := by
  rcases le_total R E with hR | hR
  · rw [min_eq_left hR, Ico_eq_empty_of_le hR, sum_empty, add_zero]
  · rw [min_eq_right hR, sum_Ico_consecutive f h hR]

/-- What a window leaves, added to what the keys after it leave. -/
theorem leave_step (z : ℕ → ℝ) (R s E : ℕ) (h : s ≤ E) (hE : E ≤ s + 384) :
    (∑ κ : Fin 384, if s + κ.val < R ∧ s + κ.val < E then lm (z (s + κ.val)) else 0) + leave z R E = leave z R s := by
  have e := window (n := 384) (fun k => lm (z k)) s s (min R E) le_rfl ((min_le_right _ _).trans hE)
  unfold leave
  rw [← joined _ s E R h, ← e]
  congr 1
  refine sum_congr rfl fun κ _ => if_congr ?_ rfl rfl
  rw [lt_min_iff]
  omega

/-- What the keys after key `s + κ` leave. -/
theorem after_step (z : ℕ → ℝ) (R s E : ℕ) (hE : E ≤ s + 384) (κ : Fin 384) (hκ : s + κ.val < E) :
    (∑ j : Fin 384, if κ < j then (if s + j.val < R ∧ s + j.val < E then lm (z (s + j.val)) else 0) else 0) + leave z R E
      = ∑ j ∈ Ico (s + κ.val + 1) R, lm (z j) := by
  have e := window (n := 384) (fun k => lm (z k)) s (s + κ.val + 1) (min R E) (by omega) ((min_le_right _ _).trans hE)
  unfold leave
  rw [← joined _ (s + κ.val + 1) E R hκ, ← e]
  congr 1
  refine sum_congr rfl fun j _ => ?_
  rw [← ite_and]
  refine if_congr ?_ rfl rfl
  rw [lt_min_iff, Fin.lt_def]
  omega

/-- What a window gathers, added to what the keys after it gather. -/
theorem gather_step (z v : ℕ → ℝ) (R s E : ℕ) (h : s ≤ E) (hE : E ≤ s + 384) :
    gather z v R E + (∑ κ : Fin 384, (if s + κ.val < R ∧ s + κ.val < E then weight z R (s + κ.val) else 0) * v (s + κ.val))
      = gather z v R s := by
  have e := window (n := 384) (fun k => weight z R k * v k) s s (min R E) le_rfl ((min_le_right _ _).trans hE)
  unfold gather
  rw [← joined _ s E R h, ← e, add_comm]
  congr 1
  refine sum_congr rfl fun κ _ => ?_
  rw [ite_mul, zero_mul]
  refine if_congr ?_ rfl rfl
  rw [lt_min_iff]
  omega

/-- The entries after one of a window's 384, a window being summed in two parts. -/
theorem after_low (x : Fin 384 → ℝ) (κ : Fin 256) :
    (∑ j : Fin 256, x ⟨j.val, by omega⟩ * (if κ < j then 1 else 0)) + ∑ j : Fin 128, x ⟨256 + j.val, by omega⟩
      = ∑ j : Fin 384, if (⟨κ.val, by omega⟩ : Fin 384) < j then x j else 0 := by
  rw [Fin.sum_univ_add (a := 256) (b := 128) (fun j : Fin (256 + 128) => if (⟨κ.val, by omega⟩ : Fin 384) < j then x j else 0)]
  congr 1
  · refine sum_congr rfl fun j _ => ?_
    rw [mul_ite, mul_one, mul_zero]
    rfl
  · refine sum_congr rfl fun j _ => ?_
    rw [if_pos (by rw [Fin.lt_def]; show κ.val < 256 + j.val; omega)]
    rfl

theorem after_high (x : Fin 384 → ℝ) (κ : Fin 128) :
    (∑ j : Fin 128, x ⟨256 + j.val, by omega⟩ * (if κ < j then 1 else 0))
      = ∑ j : Fin 384, if (⟨256 + κ.val, by omega⟩ : Fin 384) < j then x j else 0 := by
  rw [Fin.sum_univ_add (a := 256) (b := 128) (fun j : Fin (256 + 128) => if (⟨256 + κ.val, by omega⟩ : Fin 384) < j then x j else 0)]
  rw [sum_eq_zero (fun j _ => if_neg (by rw [Fin.lt_def]; show ¬(256 + κ.val < j.val); omega)), zero_add]
  refine sum_congr rfl fun j _ => ?_
  rw [mul_ite, mul_one, mul_zero]
  refine if_congr ?_ rfl rfl
  rw [Fin.lt_def, Fin.lt_def]
  show κ.val < j.val ↔ 256 + κ.val < 256 + j.val
  omega

theorem both (x : Fin 384 → ℝ) :
    (∑ j : Fin 256, x ⟨j.val, by omega⟩) + ∑ j : Fin 128, x ⟨256 + j.val, by omega⟩ = ∑ j : Fin 384, x j :=
  (Fin.sum_univ_add (a := 256) (b := 128) (fun j : Fin (256 + 128) => x j)).symm

/-- A sequence of 4096 numbers, and nothing after. -/
def along (f : Fin 4096 → ℝ) : ℕ → ℝ := fun k => if h : k < 4096 then f ⟨k, h⟩ else 0

theorem along_of (f : Fin 4096 → ℝ) (k : ℕ) (h : k < 4096) : along f k = f ⟨k, h⟩ := dif_pos h

/-- A head's lanes of one of the three thirds of the columns. -/
def third (A : Fin 4096 → Fin 2560 → ℝ) (o : Fin 3) (h : Fin 8) (i : Fin 4096) (d : Fin 64) : ℝ :=
  A i ⟨1024 + 512 * o.val + 64 * h.val + d.val, by omega⟩

/-- The whole call, head by head: from a head's queries, keys and values and the two norms' gains, row `i`, lane `d`. -/
def unit (x g : Fin 64 → ℝ) (d : Fin 64) : ℝ := x d * Cert.Num.rinv x * g d

def scored (q k : Fin 4096 → Fin 64 → ℝ) (g h : Fin 64 → ℝ) (i : Fin 4096) : ℕ → ℝ :=
  along fun j => ∑ d, unit (q i) g d * (1 / 8) * unit (k j) h d

def attendedTo (q k v : Fin 4096 → Fin 64 → ℝ) (g h : Fin 64 → ℝ) (i : Fin 4096) (d : Fin 64) : ℝ :=
  row (scored q k g h i) (along fun j => v j d) i.val

end Cert.Sb

/-! Words and logarithms both sides of the claim meet. -/

namespace Cert.Sb

open Cert.Num Idealize.ShloMosaic

theorem select_ite {α : Type} (c : BitVec 1) (a b : α) : Scalar.select c a b = if c = 1#1 then a else b := rfl

theorem toInt_small {n : ℕ} (h : n < 8192) : (BitVec.ofNat 32 n).toInt = n := by
  have e : (BitVec.ofNat 32 n).toNat = n := by rw [BitVec.toNat_ofNat]; exact Nat.mod_eq_of_lt (by omega)
  rw [BitVec.toInt_eq_toNat_of_lt (by omega), e]

theorem cmpi_slt (a b : BitVec 32) : IntOp.cmpi .slt a b = 1#1 ↔ a.toInt < b.toInt := by
  show BitVec.ofBool (a.slt b) = 1#1 ↔ _
  rw [← BitVec.slt_iff_toInt_lt]
  cases a.slt b <;> decide

theorem abs_coe (r : ℝ) : max (r : EReal) (-(r : EReal)) = ((|r| : ℝ) : EReal) := by
  rw [← EReal.coe_neg, abs_eq_max_neg]
  exact (EReal.coe_strictMono.monotone.map_max (a := r) (b := -r)).symm

theorem log_taken_real (r : ℝ) : min (r : EReal) 0 - Ideal.log (1 + Ideal.exp (0 - max (r : EReal) (-(r : EReal)))) = ((lb r : ℝ) : EReal) := by
  have h : (0 : ℝ) < 1 + Real.exp (-|r|) := by positivity
  rw [abs_coe, show (0 : EReal) - ((|r| : ℝ) : EReal) = ((-|r| : ℝ) : EReal) by rw [zero_sub, EReal.coe_neg], Ideal.exp_coe, one_add, Ideal.log_coe,
    if_neg h.not_ge]
  unfold lb
  rw [EReal.coe_sub, (EReal.coe_strictMono.monotone.map_min : ((min r 0 : ℝ) : EReal) = min (r : EReal) ((0 : ℝ) : EReal))]
  rfl

theorem lit_eighth : Ideal.ofBits .f32 0x3E000000#32 = ((1 / 8 : ℝ) : EReal) := by
  simp [Ideal.ofBits, Ideal.ieee, -EReal.coe_mul]
  norm_num

end Cert.Sb

end
-- ==== Proof.SbEntries.lean ====
module

public import proofs.«01_k».proof.Proof.SbIdealFrame
public import proofs.«01_k».proof.Proof.SbSums

@[expose] public section

set_option maxRecDepth 16384

noncomputable section

/-! The steps of the attention's walk at an index. -/

namespace Cert.SbKernelIdeal.Carry

open Cert.SbKernelIdeal Cert.SbKernelIdeal.Gen Cert.Num Cert.Sb
open Idealize.ShloMosaic Idealize.ShloMosaic.TcCoe Idealize.ShloMosaic.Tactic

theorem ix_of {a b : ℕ} (y : (⟨2, ![a, b]⟩ : Shape).Idx) : ∃ (i : Fin a) (j : Fin b), y = ix2 i j :=
  ⟨y 0, y 1, by funext k; match k with | ⟨0, _⟩ => rfl | ⟨1, _⟩ => rfl⟩

theorem cmpi_sgt (a b : BitVec 32) : IntOp.cmpi .sgt a b = 1#1 ↔ b.toInt < a.toInt := by
  show BitVec.ofBool (b.slt a) = 1#1 ↔ _
  rw [← BitVec.slt_iff_toInt_lt]
  cases b.slt a <;> decide

/-- A score. -/
theorem score (q : Vec Ideal S128x128 .bf16) (k : Vec Ideal S384x128 .bf16) (i : Fin 128) (κ : Fin 384) :
    k0_pay34 q k (ix2 i κ) = ∑ l : Fin 128, (q (ix2 i l) * k (ix2 κ l) : EReal) := by
  pointwise [k0_pay34]

theorem triangle (i j : Fin 256) : (k0_pay19 (F := Ideal) (ix2 i j) : EReal) = if j < i then 1 else 0 := by
  pointwise [k0_pay19]
  rw [select_ite]
  refine if_congr ?_ rfl rfl
  rw [cmpi_sgt, toInt_small (by omega), toInt_small (by omega), Fin.lt_def, Int.ofNat_lt]

theorem triangle' (i j : Fin 128) : (k0_pay20 (F := Ideal) (ix2 i j) : EReal) = if j < i then 1 else 0 := by
  pointwise [k0_pay20]
  rw [select_ite]
  refine if_congr ?_ rfl rfl
  rw [cmpi_sgt, toInt_small (by omega), toInt_small (by omega), Fin.lt_def, Int.ofNat_lt]

theorem tail_sum (x : FVec Ideal S128x384 .f32) (i : Fin 128) (e : Fin 1) :
    k0_pay49 x (ix2 i e) = (∑ j : Fin 128, x (ix2 i ⟨256 + j.val, by omega⟩) : EReal) := by
  pointwise [k0_pay49]

theorem all_sum (x : FVec Ideal S128x384 .f32) (i : Fin 128) (e : Fin 1) :
    k0_pay51 x (ix2 i e) = ((∑ j : Fin 256, x (ix2 i ⟨j.val, by omega⟩)) + (k0_pay49 x (ix2 i e)) : EReal) := by
  pointwise [k0_pay51]

theorem later_low (v8 v15 r x) (i : Fin 128) (κ : Fin 256) : k0_pay50 (F := Ideal) v8 v15 r x (ix2 i ⟨κ.val, by omega⟩)
    = ((∑ j : Fin 256, x (ix2 i ⟨j.val, by omega⟩) * v8 (ix2 j κ)) + (∑ j : Fin 256, (x (ix2 i ⟨j.val, by omega⟩) - x (ix2 i ⟨j.val, by omega⟩)) * v8 (ix2 j κ))
      + (k0_pay49 x (ix2 i 0) + r (ix2 i 0)) : EReal) := by
  pointwise [k0_pay50]

theorem later_high (v8 v15 r x) (i : Fin 128) (κ : Fin 128) : k0_pay50 (F := Ideal) v8 v15 r x (ix2 i ⟨256 + κ.val, by omega⟩)
    = ((∑ j : Fin 128, x (ix2 i ⟨256 + j.val, by omega⟩) * v15 (ix2 j κ)) + (∑ j : Fin 128, (x (ix2 i ⟨256 + j.val, by omega⟩) - x (ix2 i ⟨256 + j.val, by omega⟩)) * v15 (ix2 j κ))
      + r (ix2 i 0) : EReal) := by
  pointwise [k0_pay50]

theorem gathered (a m l s v) (i : Fin 128) (d : Fin 128) : k0_pay75 (F := Ideal) a m l s v (ix2 i d)
    = (a (ix2 i d) + ∑ κ : Fin 384, (if m (ix2 i κ) = 1#1 then Ideal.exp (l (ix2 i κ) + s (ix2 i κ)) * v (ix2 κ d) else 0) : EReal) := by
  pointwise [k0_pay75]
  rfl

theorem log_taken (z : FVec Ideal S128x384 .f32) (i : Fin 128) (κ : Fin 384) (r : ℝ) (h : z (ix2 i κ) = (r : EReal)) :
    k0_pay41 z (ix2 i κ) = ((lb r : ℝ) : EReal) := by
  pointwise [k0_pay41]
  rw [h]
  exact log_taken_real r

theorem log_left (m : IVec S128x384 1) (z : FVec Ideal S128x384 .f32) (i : Fin 128) (κ : Fin 384) (r : ℝ) (h : z (ix2 i κ) = (r : EReal)) :
    k0_pay42 m z (ix2 i κ) = (((if m (ix2 i κ) = 1#1 then lm r else 0) : ℝ) : EReal) := by
  pointwise [k0_pay42]
  rw [select_ite, log_taken z i κ r h, h]
  split
  · rfl
  · rfl

theorem joint_run (a b : FVec Ideal S128x1 .f32) (i : Fin 128) (e : Fin 1) : k0_pay78 a b (ix2 i e) = (a (ix2 i e) + b (ix2 i e) : EReal) := by
  pointwise [k0_pay78]

theorem first_half : ∀ l : Fin 128, k0_pay21 (ix2 0 l) = if l.val / 64 = 0 then 1#1 else 0#1 := by decide +kernel
theorem second_half : ∀ l : Fin 128, k0_pay23 (iota .tc S1x128 32 [1] iota_S1x128_d1_w32) 64#32 k0_pay22 0#32 (ix2 0 l) = if l.val / 64 = 1 then 1#1 else 0#1 := by decide +kernel

theorem masked (m : IVec S1x128 1) (q : Vec Ideal S128x128 .bf16) (i l : Fin 128) : k0_pay7 m q (ix2 i l) = (if m (ix2 0 l) = 1#1 then q (ix2 i l) else 0 : EReal) := by
  pointwise [k0_pay7]
  rfl
theorem masked' (m : IVec S1x128 1) (q : Vec Ideal S128x128 .bf16) (i l : Fin 128) : k0_pay8 m q (ix2 i l) = (if m (ix2 0 l) = 1#1 then q (ix2 i l) else 0 : EReal) := by
  pointwise [k0_pay8]
  rfl
theorem either (m : IVec S1x128 1) (a b : FVec Ideal S128x128 .f32) (i l : Fin 128) : k0_pay1 m a b (ix2 i l) = (if m (ix2 0 l) = 1#1 then a (ix2 i l) else b (ix2 i l) : EReal) := by
  pointwise [k0_pay1]
  rfl

theorem head_row0 : ∀ i : Fin 128, Scalar.select (k0_pay25 (ix2 i 0)) (IntOp.subi (k0_pay24 (ix2 i 0)) (k0_pay26 (ix2 i 0))) (k0_pay24 (ix2 i 0))
    = BitVec.ofNat 32 (i.val / 64) := by
  decide +kernel

theorem head_row (i j : Fin 128) : Scalar.select (k0_pay25 (ix2 i j)) (IntOp.subi (k0_pay24 (ix2 i j)) (k0_pay26 (ix2 i j))) (k0_pay24 (ix2 i j))
    = BitVec.ofNat 32 (i.val / 64) :=
  (rfl : _ = Scalar.select (k0_pay25 (ix2 i 0)) (IntOp.subi (k0_pay24 (ix2 i 0)) (k0_pay26 (ix2 i 0))) (k0_pay24 (ix2 i 0))).trans (head_row0 i)

theorem head_col : ∀ j : Fin 128, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) = BitVec.ofNat 32 (j.val / 64) := by
  decide +kernel

theorem same_word : ∀ i j : Fin 128, IntOp.cmpi CmpIPredicate.eq (BitVec.ofNat 32 (i.val / 64)) (BitVec.ofNat 32 (j.val / 64)) = 1#1 ↔ i.val / 64 = j.val / 64 := by
  have h : ∀ a b : Fin 2, IntOp.cmpi CmpIPredicate.eq (BitVec.ofNat 32 a.val) (BitVec.ofNat 32 b.val) = 1#1 ↔ a.val = b.val := by decide
  exact fun i j => h ⟨i.val / 64, by omega⟩ ⟨j.val / 64, by omega⟩

theorem same_head (i j : Fin 128) : (k0_pay27 (F := Ideal) k0_pay24 k0_pay25 k0_pay26 (ix2 i j) : EReal) = if i.val / 64 = j.val / 64 then 1 else 0 := by
  pointwise [k0_pay27]
  rw [select_ite]
  refine if_congr ?_ rfl rfl
  rw [head_row i j, head_col j]
  exact same_word i j

theorem lit_inv_64 : Ideal.ofBits .f32 0x3C800000#32 = ((1 / 64 : ℝ) : EReal) := by
  simp [Ideal.ofBits, Ideal.ieee, -EReal.coe_mul]
  norm_num

/-- A head's lanes of a row. -/
def lanes {n : ℕ} (X : Fin n → Fin 128 → ℝ) (i : Fin n) (h : Fin 2) : Fin 64 → ℝ := fun d => X i ⟨64 * h.val + d.val, by omega⟩

/-- The head a lane is of. -/
def headOf (l : Fin 128) : Fin 2 := ⟨l.val / 64, by omega⟩

/-- A sum over the lanes of one head. -/
theorem over_head (f : Fin 128 → ℝ) (h : Fin 2) : (∑ x : Fin 128, if x.val / 64 = h.val then f x else 0) = ∑ d : Fin 64, f ⟨64 * h.val + d.val, by omega⟩ := by
  rw [Fin.sum_univ_add (a := 64) (b := 64) (fun x : Fin (64 + 64) => if x.val / 64 = h.val then f x else 0)]
  match h with
  | 0 =>
    rw [Finset.sum_eq_zero (s := Finset.univ) (f := fun i : Fin 64 => if (Fin.natAdd 64 i).val / 64 = (0 : Fin 2).val then f (Fin.natAdd 64 i) else 0)
      (fun i _ => if_neg (by rw [Fin.val_natAdd]; show ¬(64 + i.val) / 64 = 0; omega)), add_zero]
    refine Finset.sum_congr rfl fun d _ => ?_
    rw [if_pos (by rw [Fin.val_castAdd]; show d.val / 64 = 0; omega)]
    congr 1
    apply Fin.ext
    show d.val = 64 * 0 + d.val
    omega
  | 1 =>
    rw [Finset.sum_eq_zero (s := Finset.univ) (f := fun i : Fin 64 => if (Fin.castAdd 64 i).val / 64 = (1 : Fin 2).val then f (Fin.castAdd 64 i) else 0)
      (fun i _ => if_neg (by rw [Fin.val_castAdd]; show ¬i.val / 64 = 1; omega)), zero_add]
    refine Finset.sum_congr rfl fun d _ => ?_
    rw [if_pos (by rw [Fin.val_natAdd]; show (64 + d.val) / 64 = 1; omega)]
    congr 1

/-- A sum of squares over a lane's head, of real numbers. -/
theorem head_sum (X : Fin 128 → ℝ) (l : Fin 128) (e : Fin 128 → EReal) (he : ∀ x, e x = ((X x : ℝ) : EReal)) :
    (∑ x : Fin 128, e x * e x * (if x.val / 64 = l.val / 64 then 1 else 0)) + (∑ x : Fin 128, (e x * e x - e x * e x) * (if x.val / 64 = l.val / 64 then 1 else 0))
      = ((∑ d : Fin 64, X ⟨64 * (l.val / 64) + d.val, by omega⟩ * X ⟨64 * (l.val / 64) + d.val, by omega⟩ : ℝ) : EReal) := by
  have h2 : (∑ x : Fin 128, (e x * e x - e x * e x) * (if x.val / 64 = l.val / 64 then (1 : EReal) else 0)) = 0 :=
    Finset.sum_eq_zero fun x _ => by rw [he, ← EReal.coe_mul, ← EReal.coe_sub, sub_self, EReal.coe_zero, zero_mul]
  rw [h2, add_zero, ← over_head (fun x => X x * X x) ⟨l.val / 64, by omega⟩, ← coe_sum]
  refine Finset.sum_congr rfl fun x _ => ?_
  rw [he, mul_ite, mul_one, mul_zero, ← EReal.coe_mul]
  show _ = (((if x.val / 64 = l.val / 64 then X x * X x else 0 : ℝ)) : EReal)
  split <;> rfl

theorem msq_64 (X : Fin 64 → ℝ) : (((∑ k, X k * X k : ℝ) : EReal) * Ideal.ofBits .f32 0x3C800000#32 + Ideal.ofBits .f32 0x358637BD#32) = ((msq X : ℝ) : EReal) := by
  rw [lit_inv_64, lit_eps, ← EReal.coe_mul, ← EReal.coe_add]
  congr 1
  unfold msq
  push_cast
  ring

theorem q_hat (q : Vec Ideal S4096x128 .f32) (g : Vec Ideal S1x128 .f32) (X : Fin 4096 → Fin 128 → ℝ) (G : Fin 128 → ℝ)
    (hX : ∀ i l, q (ix2 i l) = ((X i l : ℝ) : EReal)) (hG : ∀ l, g (ix2 0 l) = ((G l : ℝ) : EReal)) (i : Fin 4096) (l : Fin 128) :
    (k0_pay29 q (k0_pay28 k0_pay24 k0_pay25 k0_pay26 q) g (ix2 i l) : EReal) = ((X i l * rinv (lanes X i (headOf l)) * G l * (1 / 8) : ℝ) : EReal) := by
  have h : (k0_pay28 k0_pay24 k0_pay25 k0_pay26 q (ix2 i l) : EReal) = ((msq (lanes X i (headOf l)) : ℝ) : EReal) := by
    pointwise [k0_pay28]
    simp only [same_head]
    rw [head_sum (X i) l (fun x => q (ix2 i x)) (hX i)]
    exact msq_64 (lanes X i (headOf l))
  pointwise [k0_pay29]
  rw [h, rsqrt_msq, hX, hG, lit_eighth, ← EReal.coe_mul, ← EReal.coe_mul, ← EReal.coe_mul]

theorem k_hat (q : Vec Ideal S4096x128 .f32) (g : Vec Ideal S1x128 .f32) (X : Fin 4096 → Fin 128 → ℝ) (G : Fin 128 → ℝ)
    (hX : ∀ i l, q (ix2 i l) = ((X i l : ℝ) : EReal)) (hG : ∀ l, g (ix2 0 l) = ((G l : ℝ) : EReal)) (i : Fin 4096) (l : Fin 128) :
    (k0_pay30 (k0_pay27 (F := Ideal) k0_pay24 k0_pay25 k0_pay26) q g (ix2 i l) : EReal) = ((X i l * rinv (lanes X i (headOf l)) * G l : ℝ) : EReal) := by
  pointwise [k0_pay30]
  simp only [same_head]
  rw [head_sum (X i) l (fun x => q (ix2 i x)) (hX i)]
  rw [show ((∑ d : Fin 64, X i ⟨64 * (l.val / 64) + d.val, by omega⟩ * X i ⟨64 * (l.val / 64) + d.val, by omega⟩ : ℝ) : EReal)
    * Ideal.ofBits .f32 0x3C800000#32 + Ideal.ofBits .f32 0x358637BD#32 = _ from msq_64 (lanes X i (headOf l))]
  rw [rsqrt_msq, hX, hG, ← EReal.coe_mul, ← EReal.coe_mul]

theorem v_hat (v : Vec Ideal S4096x128 .f32) (i : Fin 4096) (l : Fin 128) : (k0_pay31 v (ix2 i l) : EReal) = v (ix2 i l) := by
  pointwise [k0_pay31]

end Cert.SbKernelIdeal.Carry

end
-- ==== Proof.SbChain.lean ====
module

public import proofs.«01_k».proof.Proof.SbEntries

@[expose] public section

set_option maxRecDepth 16384

noncomputable section

/-! What the attention's walk gathers, in real numbers: after some windows, what the keys in them gather and leave. -/

namespace Cert.SbKernelIdeal.Carry

open Cert.SbKernelIdeal Cert.SbKernelIdeal.Gen Cert.Num Cert.Sb
open Idealize.ShloMosaic Idealize.ShloMosaic.TcCoe Idealize.ShloMosaic.Tactic

/-- A running sum over the later keys of a window, of real numbers. -/
theorem later_real (X : FVec Ideal S128x384 .f32) (R : FVec Ideal S128x1 .f32) (r : Fin 128) (x : Fin 384 → ℝ) (ρ : ℝ)
    (hX : ∀ κ, X (ix2 r κ) = ((x κ : ℝ) : EReal)) (hR : R (ix2 r 0) = (ρ : EReal)) (κ : Fin 384) :
    (k0_pay50 k0_pay19 k0_pay20 R X (ix2 r κ) : EReal) = (((∑ j, if κ < j then x j else 0) + ρ : ℝ) : EReal) := by
  have hz : ∀ j, (X (ix2 r j) - X (ix2 r j) : EReal) = 0 := fun j => by rw [hX, ← EReal.coe_sub, sub_self, EReal.coe_zero]
  have low : ∀ a : Fin 256, (k0_pay50 k0_pay19 k0_pay20 R X (ix2 r ⟨a.val, by omega⟩) : EReal)
      = (((∑ j, if (⟨a.val, by omega⟩ : Fin 384) < j then x j else 0) + ρ : ℝ) : EReal) := fun a => by
    rw [later_low, tail_sum, hR]
    simp only [hz, zero_mul, Finset.sum_const_zero, add_zero, triangle]
    rw [← after_low x a, EReal.coe_add, EReal.coe_add, ← coe_sum, ← coe_sum, add_assoc]
    congr 1
    · refine Finset.sum_congr rfl fun j _ => ?_
      rw [hX]
      split <;> simp
    · congr 1
      exact Finset.sum_congr rfl fun j _ => hX _
  have high : ∀ a : Fin 128, (k0_pay50 k0_pay19 k0_pay20 R X (ix2 r ⟨256 + a.val, by omega⟩) : EReal)
      = (((∑ j, if (⟨256 + a.val, by omega⟩ : Fin 384) < j then x j else 0) + ρ : ℝ) : EReal) := fun a => by
    rw [later_high, hR]
    simp only [hz, zero_mul, Finset.sum_const_zero, add_zero, triangle']
    rw [← after_high x a, EReal.coe_add, ← coe_sum]
    congr 1
    refine Finset.sum_congr rfl fun j _ => ?_
    rw [hX]
    split <;> simp
  by_cases h : κ.val < 256
  · exact low ⟨κ.val, h⟩
  · have e : κ = ⟨256 + (κ.val - 256), by omega⟩ := Fin.ext (by show κ.val = 256 + (κ.val - 256); omega)
    rw [e]
    exact high ⟨κ.val - 256, by omega⟩

theorem all_real (X : FVec Ideal S128x384 .f32) (r : Fin 128) (x : Fin 384 → ℝ)
    (hX : ∀ κ, X (ix2 r κ) = ((x κ : ℝ) : EReal)) (e : Fin 1) : (k0_pay51 X (ix2 r e) : EReal) = ((∑ j, x j : ℝ) : EReal) := by
  rw [all_sum, tail_sum, ← both x, EReal.coe_add, ← coe_sum, ← coe_sum]
  congr 1
  · exact Finset.sum_congr rfl fun j _ => hX _
  · exact Finset.sum_congr rfl fun j _ => hX _

section Step

variable (m : IVec S128x384 1) (q : Vec Ideal S128x128 .bf16) (k w : Vec Ideal S384x128 .bf16) (s : Chain Ideal)
  (R : Fin 128 → ℕ) (z v : Fin 128 → ℕ → ℝ) (a E : ℕ)

theorem left_real (hm : ∀ r κ, m (ix2 r κ) = 1#1 ↔ a + κ.val < R r ∧ a + κ.val < E)
    (hz : ∀ r κ, (k0_pay34 q k (ix2 r κ) : EReal) = ((z r (a + κ.val) : ℝ) : EReal)) (r : Fin 128) (κ : Fin 384) :
    k0_pay42 m (k0_pay34 q k) (ix2 r κ) = (((if a + κ.val < R r ∧ a + κ.val < E then lm (z r (a + κ.val)) else 0) : ℝ) : EReal) := by
  rw [log_left m _ r κ _ (hz r κ), if_congr (hm r κ) rfl rfl]

/-- A window's keys join those after it. -/
theorem add_real (ha : a ≤ E) (hE : E ≤ a + 384) (hm : ∀ r κ, m (ix2 r κ) = 1#1 ↔ a + κ.val < R r ∧ a + κ.val < E)
    (hz : ∀ r κ, (k0_pay34 q k (ix2 r κ) : EReal) = ((z r (a + κ.val) : ℝ) : EReal))
    (hv : ∀ κ d, (w (ix2 κ d) : EReal) = ((v d (a + κ.val) : ℝ) : EReal))
    (h1 : ∀ r d, (s.1 (ix2 r d) : EReal) = ((gather (z r) (v d) (R r) E : ℝ) : EReal))
    (h2 : ∀ r e, (s.2 (ix2 r e) : EReal) = ((leave (z r) (R r) E : ℝ) : EReal)) :
    (∀ r d, ((Chain.add m k0_pay19 k0_pay20 q k w s).1 (ix2 r d) : EReal) = ((gather (z r) (v d) (R r) a : ℝ) : EReal))
    ∧ ∀ r e, ((Chain.add m k0_pay19 k0_pay20 q k w s).2 (ix2 r e) : EReal) = ((leave (z r) (R r) a : ℝ) : EReal) := by
  constructor
  · intro r d
    show (k0_pay75 s.1 m (k0_pay41 (k0_pay34 q k)) (k0_pay50 k0_pay19 k0_pay20 s.2 (k0_pay42 m (k0_pay34 q k))) w (ix2 r d) : EReal) = _
    rw [gathered, h1, ← gather_step (z r) (v d) (R r) a E ha hE, EReal.coe_add, ← coe_sum]
    congr 1
    refine Finset.sum_congr rfl fun κ _ => ?_
    rw [if_congr (hm r κ) rfl rfl]
    by_cases h : a + κ.val < R r ∧ a + κ.val < E
    · rw [if_pos h, if_pos h, log_taken _ r κ _ (hz r κ), later_real _ _ r _ _ (left_real m q k R z a E hm hz r) (h2 r 0), hv,
        after_step (z r) (R r) a E hE κ h.2, ← EReal.coe_add, Ideal.exp_coe, ← EReal.coe_mul]
      rfl
    · rw [if_neg h, if_neg h, zero_mul, EReal.coe_zero]
  · intro r e
    show (k0_pay78 s.2 (k0_pay51 (k0_pay42 m (k0_pay34 q k))) (ix2 r e) : EReal) = _
    rw [joint_run, h2, all_real _ r _ (left_real m q k R z a E hm hz r), ← leave_step (z r) (R r) a E ha hE, add_comm, ← EReal.coe_add]

end Step

/-! ### Which windows -/

/-- Where the keys still to come, for tile `b` of pair `p`, end after `g` windows. -/
def edge (p b g : ℕ) : ℕ := 128 * (2 * p + b + 1) - 384 * g

theorem bounds : ∀ (p : Fin k0_t1_loop.trips) (b : Fin 2) (g : Fin 12), 384 * g.val ≤ 128 * (2 * p.val + b.val + 1) →
    (Scalar.subi (Scalar.muli (Scalar.addi (Scalar.muli 2#32 (Scf.iv 0#32 1#32 p)) (BitVec.ofNat 32 b.val)) 128#32)
      (Scalar.maxsi (Scalar.subi (Scalar.subi (Scalar.muli (Scalar.addi (Scalar.addi (Scalar.muli 2#32 (Scf.iv 0#32 1#32 p)) (BitVec.ofNat 32 b.val)) 1#32) 128#32)
        (Scalar.muli (BitVec.ofNat 32 g.val) 384#32)) 384#32) 0#32)).toInt = 128 * (2 * (p.val : ℤ) + b.val) - (edge p.val b.val (g.val + 1) : ℤ)
    ∧ (Scalar.subi (Scalar.subi (Scalar.muli (Scalar.addi (Scalar.addi (Scalar.muli 2#32 (Scf.iv 0#32 1#32 p)) (BitVec.ofNat 32 b.val)) 1#32) 128#32)
        (Scalar.muli (BitVec.ofNat 32 g.val) 384#32))
      (Scalar.maxsi (Scalar.subi (Scalar.subi (Scalar.muli (Scalar.addi (Scalar.addi (Scalar.muli 2#32 (Scf.iv 0#32 1#32 p)) (BitVec.ofNat 32 b.val)) 1#32) 128#32)
        (Scalar.muli (BitVec.ofNat 32 g.val) 384#32)) 384#32) 0#32)).toInt = (edge p.val b.val g.val : ℤ) - (edge p.val b.val (g.val + 1) : ℤ) := by
  decide +kernel

theorem cut_off : ∀ (p : Fin k0_t1_loop.trips) (b : Fin 2) (g : Fin 12),
    k0_off2 p (BitVec.ofNat 32 g.val) (BitVec.ofNat 32 b.val) = ![edge p.val b.val (g.val + 1), 0] := by
  decide +kernel

theorem reaches : ∀ (p : Fin k0_t1_loop.trips) (g : Fin 12), reach p g.val = if 384 * g.val < 128 * (2 * p.val + 2) then 1#1 else 0#1 := by
  decide +kernel

theorem toInt_min (a b : BitVec 32) : (IntOp.minsi a b).toInt = min a.toInt b.toInt := by
  unfold IntOp.minsi
  by_cases h : a.slt b = true
  · rw [if_pos h, min_eq_left (BitVec.slt_iff_toInt_lt.mp h).le]
  · rw [if_neg h, min_eq_right (not_lt.mp fun h' => h (BitVec.slt_iff_toInt_lt.mpr h'))]

theorem mask_iff (g u : BitVec 32) (r : Fin 128) (κ : Fin 384) :
    k0_pay32 (iota .tc S128x384 32 [0] iota_S128x384_d0_w32) (iota .tc S128x384 32 [1] iota_S128x384_d1_w32) g u (ix2 r κ) = 1#1
      ↔ (BitVec.ofNat 32 κ.val).toInt < min (BitVec.ofNat 32 r.val + Scalar.subi (Scalar.muli u 128#32) (Scalar.maxsi (Scalar.subi (Scalar.subi (Scalar.muli (Scalar.addi u 1#32) 128#32)
        (Scalar.muli g 384#32)) 384#32) 0#32)).toInt (Scalar.subi (Scalar.subi (Scalar.muli (Scalar.addi u 1#32) 128#32) (Scalar.muli g 384#32)) (Scalar.maxsi (Scalar.subi (Scalar.subi (Scalar.muli (Scalar.addi u 1#32) 128#32)
        (Scalar.muli g 384#32)) 384#32) 0#32)).toInt := by
  rw [← toInt_min, ← cmpi_slt]
  pointwise [k0_pay32]
  rfl

theorem counted_eq (p : Fin k0_t1_loop.trips) (v0 v1 : IVec S128x384 32) (g : ℕ) : ∀ b : Fin 2, counted p v0 v1 b g
    = k0_pay32 v0 v1 (BitVec.ofNat 32 g) (Scalar.addi (Scalar.muli 2#32 (Scf.iv 0#32 1#32 p)) (BitVec.ofNat 32 b.val))
  | 0 => rfl
  | 1 => rfl

theorem toInt_shift (r : Fin 128) (s : BitVec 32) (h1 : -8192 ≤ s.toInt) (h2 : s.toInt ≤ 8192) :
    (BitVec.ofNat 32 r.val + s).toInt = r.val + s.toInt := by
  rw [BitVec.toInt_add, toInt_small (by omega)]
  exact Int.bmod_eq_of_le (by omega) (by omega)

theorem counted_iff (p : Fin k0_t1_loop.trips) (b : Fin 2) (g : Fin 12) (hg : 384 * g.val ≤ 128 * (2 * p.val + b.val + 1)) (r : Fin 128) (κ : Fin 384) :
    counted p (iota .tc S128x384 32 [0] iota_S128x384_d0_w32) (iota .tc S128x384 32 [1] iota_S128x384_d1_w32) b g.val (ix2 r κ) = 1#1
      ↔ edge p.val b.val (g.val + 1) + κ.val < 128 * (2 * p.val + b.val) + r.val ∧ edge p.val b.val (g.val + 1) + κ.val < edge p.val b.val g.val := by
  obtain ⟨h1, h2⟩ := bounds p b g hg
  have hp : p.val < 16 := p.isLt
  have he : edge p.val b.val (g.val + 1) ≤ 4096 := by unfold edge; omega
  rw [counted_eq, mask_iff, toInt_shift r _ (by rw [h1]; omega) (by rw [h1]; omega), h1, h2, toInt_small (by omega), lt_min_iff]
  omega

/-- A word telling whether a number is above the exit's threshold. -/
theorem going_on (x : EReal) (h : ⊥ < x) : Scalar.extui (Scalar.cmpf (F := Ideal) (φ := .f32) .ogt x (Named.named κ "exit" 0xC2D20000#32 : Ideal .f32)) = 1#32 := by
  have e : (Named.named κ "exit" 0xC2D20000#32 : Ideal .f32) = (⊥ : EReal) := rfl
  rw [e]
  have : Scalar.cmpf (F := Ideal) (φ := .f32) .ogt x (⊥ : EReal) = 1#1 := by
    show Ideal.cmp .ogt x ⊥ = 1#1
    simp [Ideal.cmp, h]
  rw [this]
  rfl

theorem most (g : FVec Ideal S128x1 .f32) (x : ℝ) (h : g (ix2 0 0) = (x : EReal)) (hf ha) (j : S1.Idx) :
    (x : EReal) ≤ multiReduction FKind.maximumf [1, 2] S1 (shapeCast S1x128x1 g shapeCasts_S128x1_S1x128x1) 0xFF800000#32 reduces_S1x128x1_S1 hf ha j := by
  rw [multiReduction_maximumf_eq_fold]
  refine (Finset.le_fold_max (f := shapeCast S1x128x1 g shapeCasts_S128x1_S1x128x1) _).mpr (Or.inr ⟨ix3 0 0 0, ?_, ?_⟩)
  · refine Finset.mem_filter.mpr ⟨Finset.mem_univ _, ?_⟩
    funext k
    apply Fin.ext
    have h1 := (reduces_S1x128x1_S1.drop (ix3 0 0 0) k).isLt
    have h2 := (j k).isLt
    have h3 : S1.size k = 1 := by match k with | ⟨0, _⟩ => rfl
    omega
  · have e : shapeCast S1x128x1 g shapeCasts_S128x1_S1x128x1 (ix3 0 0 0) = g (ix2 0 0) := by
      pointwise
    exact (h.symm.trans e.symm).le

theorem above (a b c d e f g : FVec Ideal S128x1 .f32) (x : ℝ) (h : g (ix2 0 0) = (x : EReal)) : (⊥ : EReal) < k0_pay6 a b c d e f g := by
  have : ((x : ℝ) : EReal) ≤ k0_pay6 a b c d e f g := by
    simp only [k0_pay6]
    refine le_trans ?_ (le_max_left _ _)
    refine le_trans ?_ (le_max_left _ _)
    refine le_trans ?_ (le_max_left _ _)
    exact most g x h (.inl rfl) rfl _
  exact lt_of_lt_of_le (EReal.bot_lt_coe x) this

/-! ### The walk -/

abbrev rowWord : IVec S128x384 32 := iota .tc S128x384 32 [0] iota_S128x384_d0_w32
abbrev colWord : IVec S128x384 32 := iota .tc S128x384 32 [1] iota_S128x384_d1_w32

/-- The row of the sequence a tile's row is. -/
def rowOf (p b : ℕ) (r : Fin 128) : ℕ := 128 * (2 * p + b) + r.val

/-- A tile's scores and values are real numbers, window by window. -/
structure Reals (p : Fin k0_t1_loop.trips) (b : Fin 2) (q : Vec Ideal S128x128 .bf16) (kt vt : Fin 2 → ℕ → Vec Ideal S384x128 .bf16)
    (z v : Fin 128 → ℕ → ℝ) : Prop where
  score : ∀ g : Fin 12, ∀ r κ, (k0_pay34 q (kt b g.val) (ix2 r κ) : EReal) = ((z r (edge p.val b.val (g.val + 1) + κ.val) : ℝ) : EReal)
  value : ∀ g : Fin 12, ∀ κ d, (vt b g.val (ix2 κ d) : EReal) = ((v d (edge p.val b.val (g.val + 1) + κ.val) : ℝ) : EReal)

section Walk

variable (p : Fin k0_t1_loop.trips) (kt vt : Fin 2 → ℕ → Vec Ideal S384x128 .bf16)

theorem chain_real (b : Fin 2) (q : Vec Ideal S128x128 .bf16) (z v : Fin 128 → ℕ → ℝ) (h : Reals p b q kt vt z v) :
    ∀ g : ℕ, g ≤ 12 → 384 * g ≤ 128 * (2 * p.val + b.val + 1) + 384 →
      (∀ r d, ((chain p rowWord colWord k0_pay19 k0_pay20 kt vt b q g).1 (ix2 r d) : EReal)
        = ((gather (z r) (v d) (rowOf p.val b.val r) (edge p.val b.val g) : ℝ) : EReal))
      ∧ ∀ r e, ((chain p rowWord colWord k0_pay19 k0_pay20 kt vt b q g).2 (ix2 r e) : EReal)
        = ((leave (z r) (rowOf p.val b.val r) (edge p.val b.val g) : ℝ) : EReal)
  | 0, _, _ => by
    have e : ∀ r : Fin 128, Finset.Ico (edge p.val b.val 0) (rowOf p.val b.val r) = ∅ := fun r =>
      Finset.Ico_eq_empty_of_le (by unfold edge rowOf; omega)
    refine ⟨fun r d => ?_, fun r d => ?_⟩
    · unfold gather
      rw [e, Finset.sum_empty]
      exact lit_zero
    · unfold leave
      rw [e, Finset.sum_empty]
      exact lit_zero
  | g + 1, hg, hn => by
    obtain ⟨h1, h2⟩ := chain_real b q z v h g (by omega) (by omega)
    exact add_real _ q _ _ _ (rowOf p.val b.val) z v (edge p.val b.val (g + 1)) (edge p.val b.val g) (by unfold edge; omega) (by unfold edge; omega)
      (fun r κ => counted_iff p b ⟨g, by omega⟩ (by show 384 * g ≤ _; omega) r κ) (h.score ⟨g, by omega⟩) (h.value ⟨g, by omega⟩) h1 h2

variable (qa qb qc qd : Vec Ideal S128x128 .bf16)

theorem live_real (z v : Fin 128 → ℕ → ℝ) (h : Reals p 0 qa kt vt z v) :
    ∀ g : ℕ, g ≤ 12 → 384 * g ≤ 128 * (2 * p.val + 1) + 384 → live p rowWord colWord k0_pay19 k0_pay20 qa qb qc qd kt vt g = 1#32
  | 0, _, _ => rfl
  | g + 1, hg, hn => going_on _ (above _ _ _ _ _ _ _ _ ((chain_real p kt vt 0 qa z v h (g + 1) hg hn).2 0 0))

/-- The walk takes in every key before the pair's end, and no window past it. -/
theorem stop_real (z v : Fin 128 → ℕ → ℝ) (h : Reals p 0 qa kt vt z v) : ∀ k g : ℕ, g + k = 11 → 384 * g ≤ 128 * (2 * p.val + 1) + 384 →
    stop p rowWord colWord k0_pay19 k0_pay20 qa qb qc qd kt vt k g ≤ 11
    ∧ 384 * stop p rowWord colWord k0_pay19 k0_pay20 qa qb qc qd kt vt k g ≤ 128 * (2 * p.val + 1) + 384
    ∧ 128 * (2 * p.val + 2) ≤ 384 * stop p rowWord colWord k0_pay19 k0_pay20 qa qb qc qd kt vt k g
  | 0, g, hg, hn => by
    have hp : p.val < 16 := p.isLt
    exact ⟨by show g ≤ 11; omega, hn, by show _ ≤ 384 * g; omega⟩
  | k + 1, g, hg, hn => by
    have hl := live_real p kt vt qa qb qc qd z v h g (by omega) hn
    have hr := reaches p ⟨g, by omega⟩
    unfold stop
    by_cases hw : 384 * g < 128 * (2 * p.val + 2)
    · rw [if_pos (by unfold goes; rw [hl, show reach p g = 1#1 from hr.trans (if_pos hw)]; rfl)]
      exact stop_real z v h k (g + 1) (by omega) (by omega)
    · rw [if_neg (by unfold goes; rw [hl, show reach p g = 0#1 from hr.trans (if_neg hw)]; decide)]
      exact ⟨by omega, hn, by omega⟩

/-- When the walk ends, a tile has gathered its rows. -/
theorem walked (z v : Fin 128 → ℕ → ℝ) (h : Reals p 0 qa kt vt z v) (b : Fin 2) (q : Vec Ideal S128x128 .bf16) (z' v' : Fin 128 → ℕ → ℝ)
    (h' : Reals p b q kt vt z' v') (r d : Fin 128) :
    ((chain p rowWord colWord k0_pay19 k0_pay20 kt vt b q (stop p rowWord colWord k0_pay19 k0_pay20 qa qb qc qd kt vt 11 0)).1 (ix2 r d) : EReal)
      = ((row (z' r) (v' d) (rowOf p.val b.val r) : ℝ) : EReal) := by
  obtain ⟨h1, h2, h3⟩ := stop_real p kt vt qa qb qc qd z v h 11 0 rfl (by omega)
  have hb : b.val < 2 := b.isLt
  rw [(chain_real p kt vt b q z' v' h' _ (by omega) (by omega)).1, show edge p.val b.val _ = 0 by unfold edge; omega, gather_zero]

end Walk

end Cert.SbKernelIdeal.Carry

end
-- ==== Proof.SbKer.lean ====
module

public import proofs.«01_k».proof.Proof.Tiles
public import proofs.«01_k».proof.Proof.SbChain

@[expose] public section

set_option maxRecDepth 16384

noncomputable section

/-! The attention's forward call, in real numbers: a block of its result, and the whole of it. -/

namespace Cert.SbKernelIdeal.Carry

open Cert.SbKernelIdeal Cert.SbKernelIdeal.Gen Cert.Num Cert.Sb
open Idealize.ShloMosaic Idealize.ShloMosaic.TcCoe Idealize.ShloMosaic.Tactic
open Idealize.ShloMosaic.Pipeline (Dat Cfg Window BodyObligation cellOf)

/-- A query against every key, over the lanes of one head. -/
def scores (Q K : Fin 4096 → Fin 128 → ℝ) (h : Fin 2) (i : Fin 4096) : ℕ → ℝ :=
  along fun k => ∑ d : Fin 64, lanes Q i h d * lanes K k h d

section Block

variable (Q K V : Vec Ideal S4096x128 .bf16) (Qr Kr Vr : Fin 4096 → Fin 128 → ℝ)
  (hQ : ∀ i l, (Q (ix2 i l) : EReal) = ((Qr i l : ℝ) : EReal)) (hK : ∀ i l, (K (ix2 i l) : EReal) = ((Kr i l : ℝ) : EReal))
  (hV : ∀ i l, (V (ix2 i l) : EReal) = ((Vr i l : ℝ) : EReal)) (p : Fin k0_t1_loop.trips) (b : Fin 2)

theorem row_lt (r : Fin 128) : rowOf p.val b.val r < 4096 := by
  have hp : p.val < 16 := p.isLt
  unfold rowOf
  omega

theorem edge_lt (g : ℕ) (κ : Fin 384) : edge p.val b.val (g + 1) + κ.val < 4096 := by
  have hp : p.val < 16 := p.isLt
  unfold edge
  omega

theorem queries_at (r l : Fin 128) : queries Q p b (ix2 r l) = Q (ix2 ⟨rowOf p.val b.val r, row_lt p b r⟩ l) := by
  unfold queries
  refine congrArg Q ?_
  funext a
  apply Fin.ext
  have h := congrFun (tile_off p b) a
  match a with
  | ⟨0, _⟩ =>
    show k0_off1 p (BitVec.ofNat 32 b.val) 0 + 1 * r.val = 128 * (2 * p.val + b.val) + r.val
    have h0 : k0_off1 p (BitVec.ofNat 32 b.val) 0 = 256 * p.val + 128 * b.val := h
    omega
  | ⟨1, _⟩ =>
    show k0_off1 p (BitVec.ofNat 32 b.val) 1 + 1 * l.val = l.val
    have h0 : k0_off1 p (BitVec.ofNat 32 b.val) 1 = 0 := h
    omega

theorem cut_at (T : Vec Ideal S4096x128 .bf16) (g : Fin 12) (κ : Fin 384) (l : Fin 128) :
    cut p T b g.val (ix2 κ l) = T (ix2 ⟨edge p.val b.val (g.val + 1) + κ.val, edge_lt p b g.val κ⟩ l) := by
  have e : atMost g.val = g := Fin.ext (by show min g.val 11 = g.val; omega)
  unfold cut
  refine congrArg T ?_
  funext a
  apply Fin.ext
  have h := congrFun (cut_off p b g) a
  match a with
  | ⟨0, _⟩ =>
    show k0_off2 p (BitVec.ofNat 32 (atMost g.val).val) (BitVec.ofNat 32 b.val) 0 + 1 * κ.val = edge p.val b.val (g.val + 1) + κ.val
    have h0 : k0_off2 p (BitVec.ofNat 32 g.val) (BitVec.ofNat 32 b.val) 0 = edge p.val b.val (g.val + 1) := h
    rw [e, h0, one_mul]
  | ⟨1, _⟩ =>
    show k0_off2 p (BitVec.ofNat 32 (atMost g.val).val) (BitVec.ofNat 32 b.val) 1 + 1 * l.val = l.val
    have h0 : k0_off2 p (BitVec.ofNat 32 g.val) (BitVec.ofNat 32 b.val) 1 = 0 := h
    rw [e, h0]
    omega

include hK hV in
/-- A tile whose queries are one head's lanes. -/
theorem reals_of_head (q : Vec Ideal S128x128 .bf16) (h : Fin 2)
    (hq : ∀ r l : Fin 128, (q (ix2 r l) : EReal) = if l.val / 64 = h.val then ((Qr ⟨rowOf p.val b.val r, row_lt p b r⟩ l : ℝ) : EReal) else 0) :
    Reals p b q (cut p K) (cut p V) (fun r => scores Qr Kr h ⟨rowOf p.val b.val r, row_lt p b r⟩) (fun d => along fun k => Vr k d) := by
  refine ⟨fun g r κ => ?_, fun g κ d => ?_⟩
  · rw [score]
    unfold scores
    rw [along_of _ _ (edge_lt p b g.val κ)]
    unfold lanes
    rw [← over_head (fun l => Qr ⟨rowOf p.val b.val r, row_lt p b r⟩ l * Kr ⟨edge p.val b.val (g.val + 1) + κ.val, edge_lt p b g.val κ⟩ l) h, ← coe_sum]
    refine Finset.sum_congr rfl fun l _ => ?_
    rw [hq, cut_at, hK, ite_mul, zero_mul, ← EReal.coe_mul]
    split <;> rfl
  · rw [cut_at, hV, along_of _ _ (edge_lt p b g.val κ)]

abbrev lowWord : IVec S1x128 1 := k0_pay21
abbrev highWord : IVec S1x128 1 := k0_pay23 (iota .tc S1x128 32 [1] iota_S1x128_d1_w32) 64#32 k0_pay22 0#32

theorem low_at (l : Fin 128) : lowWord (ix2 0 l) = if l.val / 64 = 0 then 1#1 else 0#1 := first_half l
theorem high_at (l : Fin 128) : highWord (ix2 0 l) = if l.val / 64 = 1 then 1#1 else 0#1 := second_half l

include hQ hK hV in
/-- A tile's rows. -/
theorem tile_real (r l : Fin 128) :
    (tile rowWord colWord k0_pay19 k0_pay20 lowWord highWord Q K V p b (ix2 r l) : EReal)
      = ((row (scores Qr Kr (headOf l) ⟨rowOf p.val b.val r, row_lt p b r⟩) (along fun k => Vr k l) (rowOf p.val b.val r) : ℝ) : EReal) := by
  have hlow : ∀ b, Reals p b (k0_pay7 lowWord (queries Q p b)) (cut p K) (cut p V) (fun r => scores Qr Kr 0 ⟨rowOf p.val b.val r, row_lt p b r⟩) (fun d => along fun k => Vr k d) :=
    fun b => reals_of_head K V Qr Kr Vr hK hV p b _ 0 fun r l => by
      rw [masked, low_at, queries_at, hQ]
      by_cases h : l.val / 64 = 0
      · rw [if_pos h, if_pos rfl]; exact (if_pos h).symm
      · rw [if_neg h, if_neg (by decide)]; exact (if_neg h).symm
  have hhigh : ∀ b, Reals p b (k0_pay8 highWord (queries Q p b)) (cut p K) (cut p V) (fun r => scores Qr Kr 1 ⟨rowOf p.val b.val r, row_lt p b r⟩) (fun d => along fun k => Vr k d) :=
    fun b => reals_of_head K V Qr Kr Vr hK hV p b _ 1 fun r l => by
      rw [masked', high_at, queries_at, hQ]
      by_cases h : l.val / 64 = 1
      · rw [if_pos h, if_pos rfl]; exact (if_pos h).symm
      · rw [if_neg h, if_neg (by decide)]; exact (if_neg h).symm
  unfold tile taken
  rw [either, low_at]
  by_cases h : l.val / 64 = 0
  · rw [if_pos h, if_pos rfl, walked p _ _ _ _ _ _ _ _ (hlow 0) b _ _ _ (hlow b) r l, show headOf l = 0 from Fin.ext h]
  · rw [if_neg h, if_neg (by decide), walked p _ _ _ _ _ _ _ _ (hlow 0) b _ _ _ (hhigh b) r l,
      show headOf l = 1 from Fin.ext (by show l.val / 64 = 1; omega)]

include hQ hK hV in
theorem result_real (i : Fin 4096) (l : Fin 128) :
    (result rowWord colWord k0_pay19 k0_pay20 lowWord highWord Q K V (ix2 i l) : EReal)
      = ((row (scores Qr Kr (headOf l) i) (along fun k => Vr k l) i.val : ℝ) : EReal) := by
  have e : rowOf (i.val / 256) (i.val / 128 % 2) ⟨i.val % 128, by omega⟩ = i.val := by unfold rowOf; show 128 * (2 * (i.val / 256) + i.val / 128 % 2) + i.val % 128 = i.val; omega
  refine (tile_real Q K V Qr Kr Vr hQ hK hV ⟨i.val / 256, by show _ < 16; omega⟩ ⟨i.val / 128 % 2, by omega⟩ ⟨i.val % 128, by omega⟩ l).trans ?_
  simp only [e]

end Block

/-- The queries and the keys of a block, each over its head's root mean square. -/
def qHat (X : Fin 4096 → Fin 128 → ℝ) (G : Fin 128 → ℝ) : Fin 4096 → Fin 128 → ℝ := fun i l => X i l * rinv (lanes X i (headOf l)) * G l * (1 / 8)
def kHat (X : Fin 4096 → Fin 128 → ℝ) (G : Fin 128 → ℝ) : Fin 4096 → Fin 128 → ℝ := fun i l => X i l * rinv (lanes X i (headOf l)) * G l

theorem attended_real (q k v : Vec Ideal S4096x128 .f32) (qg kg : Vec Ideal S1x128 .f32) (X Y W : Fin 4096 → Fin 128 → ℝ) (G H : Fin 128 → ℝ)
    (hX : ∀ i l, (q (ix2 i l) : EReal) = ((X i l : ℝ) : EReal)) (hY : ∀ i l, (k (ix2 i l) : EReal) = ((Y i l : ℝ) : EReal))
    (hW : ∀ i l, (v (ix2 i l) : EReal) = ((W i l : ℝ) : EReal)) (hG : ∀ l, (qg (ix2 0 l) : EReal) = ((G l : ℝ) : EReal))
    (hH : ∀ l, (kg (ix2 0 l) : EReal) = ((H l : ℝ) : EReal)) (i : Fin 4096) (l : Fin 128) :
    (attended q k v qg kg (ix2 i l) : EReal)
      = ((row (scores (qHat X G) (kHat Y H) (headOf l) i) (along fun k => W k l) i.val : ℝ) : EReal) :=
  result_real _ _ _ (qHat X G) (kHat Y H) W (q_hat q qg X G hX hG) (k_hat k kg Y H hY hH) (fun i l => (v_hat v i l).trans (hW i l)) i l

/-! What the call finds and leaves, from the arguments. -/

section Launch

variable (m : (ℓ : Loc nD τ sig) → Buf (Elt Ideal) ℓ) (c : Dev nD)

/-- A norm's gain, laid out for two heads. -/
theorem V_main_v2 (l : Fin 128) : V m c main_v2 (ix2 0 l) = m ((c : Thread nD τ).loc main_arg1) (ix2 0 ⟨l.val % 64, by omega⟩) := by
  show StableHlo.after hostOps0 (fun b => m (c, b)) (Proc.devRef .tc main_v2) (ix2 0 l) = _
  after_results_simp
  pointwise

theorem V_main_v5 (l : Fin 128) : V m c main_v5 (ix2 0 l) = m ((c : Thread nD τ).loc main_arg2) (ix2 0 ⟨l.val % 64, by omega⟩) := by
  show StableHlo.after hostOps0 (fun b => m (c, b)) (Proc.devRef .tc main_v5) (ix2 0 l) = _
  after_results_simp
  pointwise

theorem idx0 : ∀ t : Fin (cfg0 (F := Ideal)).N, win0_0.index t (0 : Fin 2) = 0 ∧ win0_0.index t (1 : Fin 2) = 8 + t.val :=
  (by decide +kernel : ∀ t : Fin grid0.N, _)
theorem idx1 : ∀ t : Fin (cfg0 (F := Ideal)).N, win0_1.index t (0 : Fin 2) = 0 ∧ win0_1.index t (1 : Fin 2) = 12 + t.val :=
  (by decide +kernel : ∀ t : Fin grid0.N, _)
theorem idx2 : ∀ t : Fin (cfg0 (F := Ideal)).N, win0_2.index t (0 : Fin 2) = 0 ∧ win0_2.index t (1 : Fin 2) = 16 + t.val :=
  (by decide +kernel : ∀ t : Fin grid0.N, _)
theorem idx3 : ∀ t : Fin (cfg0 (F := Ideal)).N, win0_3.index t (0 : Fin 2) = 0 ∧ win0_3.index t (1 : Fin 2) = 0 :=
  (by decide +kernel : ∀ t : Fin grid0.N, _)
theorem idx4 : ∀ t : Fin (cfg0 (F := Ideal)).N, win0_4.index t (0 : Fin 2) = 0 ∧ win0_4.index t (1 : Fin 2) = 0 :=
  (by decide +kernel : ∀ t : Fin grid0.N, _)
theorem idx5 : ∀ t : Fin (cfg0 (F := Ideal)).N, win0_5.index t (0 : Fin 2) = 0 ∧ win0_5.index t (1 : Fin 2) = t.val :=
  (by decide +kernel : ∀ t : Fin grid0.N, _)

theorem points (t : Fin (cfg0 (F := Ideal)).N) : t.val < 4 := t.isLt

theorem block0 (t : Fin (cfg0 (F := Ideal)).N) (i : Fin 4096) (l : Fin 128) :
    blockAt m c 0 t (ix2 i l) = m ((c : Thread nD τ).loc main_arg0) (ix2 i ⟨1024 + 128 * t.val + l.val, by have := points t; omega⟩) := by
  obtain ⟨e0, e1⟩ := idx0 t
  rw [← V_main_arg0 m c]
  show V m c (Pipeline.arrRef spec0 0) ((((cfg0 (F := Ideal)).win 0).blk t).view.emb (ix2 i l)) = _
  congr 1
  funext k
  apply Fin.ext
  match k with
  | ⟨0, _⟩ => show win0_0.index t (0 : Fin 2) * 4096 + 1 * i.val = i.val; omega
  | ⟨1, _⟩ => show win0_0.index t (1 : Fin 2) * 128 + 1 * l.val = 1024 + 128 * t.val + l.val; omega

theorem block1 (t : Fin (cfg0 (F := Ideal)).N) (i : Fin 4096) (l : Fin 128) :
    blockAt m c 1 t (ix2 i l) = m ((c : Thread nD τ).loc main_arg0) (ix2 i ⟨1536 + 128 * t.val + l.val, by have := points t; omega⟩) := by
  obtain ⟨e0, e1⟩ := idx1 t
  rw [← V_main_arg0 m c]
  show V m c (Pipeline.arrRef spec0 1) ((((cfg0 (F := Ideal)).win 1).blk t).view.emb (ix2 i l)) = _
  congr 1
  funext k
  apply Fin.ext
  match k with
  | ⟨0, _⟩ => show win0_1.index t (0 : Fin 2) * 4096 + 1 * i.val = i.val; omega
  | ⟨1, _⟩ => show win0_1.index t (1 : Fin 2) * 128 + 1 * l.val = 1536 + 128 * t.val + l.val; omega

theorem block2 (t : Fin (cfg0 (F := Ideal)).N) (i : Fin 4096) (l : Fin 128) :
    blockAt m c 2 t (ix2 i l) = m ((c : Thread nD τ).loc main_arg0) (ix2 i ⟨2048 + 128 * t.val + l.val, by have := points t; omega⟩) := by
  obtain ⟨e0, e1⟩ := idx2 t
  rw [← V_main_arg0 m c]
  show V m c (Pipeline.arrRef spec0 2) ((((cfg0 (F := Ideal)).win 2).blk t).view.emb (ix2 i l)) = _
  congr 1
  funext k
  apply Fin.ext
  match k with
  | ⟨0, _⟩ => show win0_2.index t (0 : Fin 2) * 4096 + 1 * i.val = i.val; omega
  | ⟨1, _⟩ => show win0_2.index t (1 : Fin 2) * 128 + 1 * l.val = 2048 + 128 * t.val + l.val; omega

theorem block3 (t : Fin (cfg0 (F := Ideal)).N) (l : Fin 128) : blockAt m c 3 t (ix2 0 l) = V m c main_v2 (ix2 0 l) := by
  show V m c (Pipeline.arrRef spec0 3) ((((cfg0 (F := Ideal)).win 3).blk t).view.emb (ix2 0 l)) = _
  exact congrArg _ (at_tile (idx3 t) rfl rfl (Nat.zero_add _).symm)

theorem block4 (t : Fin (cfg0 (F := Ideal)).N) (l : Fin 128) : blockAt m c 4 t (ix2 0 l) = V m c main_v5 (ix2 0 l) := by
  show V m c (Pipeline.arrRef spec0 4) ((((cfg0 (F := Ideal)).win 4).blk t).view.emb (ix2 0 l)) = _
  exact congrArg _ (at_tile (idx4 t) rfl rfl (Nat.zero_add _).symm)

/-- The result's columns, block by block. -/
theorem left_at (t : Fin (cfg0 (F := Ideal)).N) (i : Fin 4096) (l : Fin 128) :
    (dats m 0 c).arrAt 5 (cfg0 (F := Ideal)).N (ix2 i ⟨128 * t.val + l.val, by have := points t; omega⟩) = resultAt m c t (ix2 i l) := by
  obtain ⟨e0, e1⟩ := idx5 t
  have h := (dats m 0 c).read_blk_arrAt_eq_flushed 5 (fun t t' _ _ hne => ((cfg0 (F := Ideal)).win 5).disjoint_blk fun h => hne
    (Fin.ext ((idx5 t).2.symm.trans ((congrFun h (1 : Fin 2)).trans (idx5 t').2)))) (cfg0 (F := Ideal)).N t t.isLt (flush0_5 t)
  refine Eq.trans ?_ ((congrFun h (ix2 i l)).trans ?_)
  · show _ = (dats m 0 c).arrAt 5 (cfg0 (F := Ideal)).N ((((cfg0 (F := Ideal)).win 5).blk t).view.emb (ix2 i l))
    congr 1
    funext a
    apply Fin.ext
    match a with
    | ⟨0, _⟩ => show i.val = win0_5.index t (0 : Fin 2) * 4096 + 1 * i.val; omega
    | ⟨1, _⟩ => show 128 * t.val + l.val = win0_5.index t (1 : Fin 2) * 128 + 1 * l.val; omega
  · rfl

variable (A : Fin 4096 → Fin 2560 → ℝ) (G H : Fin 64 → ℝ)
  (hA : ∀ i l, (m ((c : Thread nD τ).loc main_arg0) (ix2 i l) : EReal) = ((A i l : ℝ) : EReal))
  (hG : ∀ d, (m ((c : Thread nD τ).loc main_arg1) (ix2 0 d) : EReal) = ((G d : ℝ) : EReal))
  (hH : ∀ d, (m ((c : Thread nD τ).loc main_arg2) (ix2 0 d) : EReal) = ((H d : ℝ) : EReal))

theorem lanes_q (X : Fin 4096 → Fin 128 → ℝ) (g : Fin 128 → ℝ) (b : Fin 2) (i : Fin 4096) (x γ : Fin 64 → ℝ) (hx : lanes X i b = x)
    (hg : ∀ e : Fin 64, g ⟨64 * b.val + e.val, by omega⟩ = γ e) (e : Fin 64) : lanes (qHat X g) i b e = unit x γ e * (1 / 8) := by
  have hb : headOf ⟨64 * b.val + e.val, by omega⟩ = b := Fin.ext (by show (64 * b.val + e.val) / 64 = b.val; omega)
  subst hx
  show X i ⟨64 * b.val + e.val, _⟩ * rinv (lanes X i (headOf ⟨64 * b.val + e.val, _⟩)) * g ⟨64 * b.val + e.val, _⟩ * (1 / 8) = _
  rw [hb, hg]
  rfl

theorem lanes_k (X : Fin 4096 → Fin 128 → ℝ) (g : Fin 128 → ℝ) (b : Fin 2) (i : Fin 4096) (x γ : Fin 64 → ℝ) (hx : lanes X i b = x)
    (hg : ∀ e : Fin 64, g ⟨64 * b.val + e.val, by omega⟩ = γ e) (e : Fin 64) : lanes (kHat X g) i b e = unit x γ e := by
  have hb : headOf ⟨64 * b.val + e.val, by omega⟩ = b := Fin.ext (by show (64 * b.val + e.val) / 64 = b.val; omega)
  subst hx
  show X i ⟨64 * b.val + e.val, _⟩ * rinv (lanes X i (headOf ⟨64 * b.val + e.val, _⟩)) * g ⟨64 * b.val + e.val, _⟩ = _
  rw [hb, hg]
  rfl

include hA hG hH in
/-- The result at an index. -/
theorem final_at (h : Fin 8) (i : Fin 4096) (d : Fin 64) (l : Fin 512) (hl : l.val = 64 * h.val + d.val) :
    ((dats m 0 c).arrAt 5 (cfg0 (F := Ideal)).N (ix2 i l) : EReal)
      = ((attendedTo (third A 0 h) (third A 1 h) (third A 2 h) G H i d : ℝ) : EReal) := by
  obtain ⟨t, ht⟩ : ∃ t : Fin (cfg0 (F := Ideal)).N, t.val = h.val / 2 := ⟨⟨h.val / 2, by show _ < 4; omega⟩, rfl⟩
  obtain ⟨k, hk⟩ : ∃ k : Fin 128, k.val = 64 * (h.val % 2) + d.val := ⟨⟨64 * (h.val % 2) + d.val, by omega⟩, rfl⟩
  have tl : t.val < 4 := points t
  have e : l = ⟨128 * t.val + k.val, by omega⟩ := Fin.ext (by show l.val = 128 * t.val + k.val; omega)
  rw [e, left_at]
  have hb : headOf k = ⟨h.val % 2, by omega⟩ := Fin.ext (by show k.val / 64 = h.val % 2; omega)
  unfold resultAt
  refine (attended_real _ _ _ _ _ (fun i l => A i ⟨1024 + 128 * t.val + l.val, by omega⟩) (fun i l => A i ⟨1536 + 128 * t.val + l.val, by omega⟩)
    (fun i l => A i ⟨2048 + 128 * t.val + l.val, by omega⟩) (fun l => G ⟨l.val % 64, by omega⟩) (fun l => H ⟨l.val % 64, by omega⟩)
    (fun i l => by rw [block0, hA]) (fun i l => by rw [block1, hA]) (fun i l => by rw [block2, hA])
    (fun l => by rw [block3, V_main_v2, hG]) (fun l => by rw [block4, V_main_v5, hH]) i k).trans ?_
  rw [hb]
  have same (γ : Fin 64 → ℝ) (e : Fin 64) : γ ⟨(64 * (h.val % 2) + e.val) % 64, by omega⟩ = γ e :=
    congrArg γ (Fin.ext (by show (64 * (h.val % 2) + e.val) % 64 = e.val; omega))
  unfold attendedTo scored scores
  congr 2
  · congr 1
    funext j
    refine Finset.sum_congr rfl fun e _ => congrArg₂ (· * ·) (lanes_q _ _ _ _ _ _ ?_ (same G) e) (lanes_k _ _ _ _ _ _ ?_ (same H) e)
    · funext e
      refine congrArg (A i) (Fin.ext ?_)
      show 1024 + 128 * t.val + (64 * (h.val % 2) + e.val) = 1024 + 512 * 0 + 64 * h.val + e.val
      omega
    · funext e
      refine congrArg (A j) (Fin.ext ?_)
      show 1536 + 128 * t.val + (64 * (h.val % 2) + e.val) = 1024 + 512 * 1 + 64 * h.val + e.val
      omega
  · congr 1
    funext j
    refine congrArg (A j) (Fin.ext ?_)
    show 2048 + 128 * t.val + k.val = 1024 + 512 * 2 + 64 * h.val + d.val
    omega

end Launch

end Cert.SbKernelIdeal.Carry

end
-- ==== Proof.SbRef.lean ====
module

public import proofs.«01_k».proof.Proof.SbSums
public import proofs.«01_k».proof.Proof.Gen.SbRefIdeal.Run

@[expose] public section

set_option maxRecDepth 16384

noncomputable section

/-! The attention's forward reference, read at an index as one formula of real numbers. -/

namespace Cert.SbRefIdeal.Step

open Cert.SbRefIdeal Cert.SbRefIdeal.Gen Cert.SbRefIdeal.Value Cert.Num Cert.Sb
open Idealize.ShloMosaic Idealize.ShloMosaic.TcCoe Idealize.ShloMosaic.Tactic

/-- An array's columns from 1024 on, a third of them, head by head. -/
def heads (o : ℕ) (h : S4096x1536.Slices ![0, o] S4096x512) (a : FVec Ideal S4096x2560 .f32) : FVec Ideal S8x4096x64 .f32 :=
  transpose S8x4096x64 [1, 0, 2] (shapeCast S4096x8x64 (extractStridedSlice S4096x512 ![0, o] (extractStridedSlice S4096x1536 ![0, 1024] a
    slices_S4096x2560_S4096x1536_0_1024) h) shapeCasts_S4096x512_S4096x8x64) transposes_S4096x8x64_S8x4096x64_1_0_2

def normed (x : FVec Ideal S8x4096x64 .f32) (g : FVec Ideal S1x64 .f32) : FVec Ideal S8x4096x64 .f32 :=
  mulf (mulf x (broadcastInDim S8x4096x64 ![0, 1, 2] bcast_S8x4096x1_S8x4096x64_0_1_2 (Host.rsqrt (addf (Host.divf (broadcastInDim S8x4096x1 ![0, 1]
    bcast_S8x4096_S8x4096x1_0_1 (Host.reduceAdd (mulf x x) (constant S_ .f32 0x00000000#32) reducesTo_S8x4096x64_S8x4096_d2 h_S_))
    (broadcastInDim S8x4096x1 ![] bcast_S_S8x4096x1 (constant S_ .f32 0x42800000#32)))
    (broadcastInDim S8x4096x1 ![] bcast_S_S8x4096x1 (constant S_ .f32 0x358637BD#32))))))
    (broadcastInDim S8x4096x64 ![0, 1, 2] bcast_S1x1x64_S8x4096x64_0_1_2 (broadcastInDim S1x1x64 ![2] bcast_S64_S1x1x64_2
      (shapeCast S64 g shapeCasts_S1x64_S64)))

theorem normed_at (x : FVec Ideal S8x4096x64 .f32) (g : FVec Ideal S1x64 .f32) (X : Fin 8 → Fin 4096 → Fin 64 → ℝ) (G : Fin 64 → ℝ)
    (hx : ∀ h i d, (x (ix3 h i d) : EReal) = ((X h i d : ℝ) : EReal)) (hg : ∀ d, (g (ix2 0 d) : EReal) = ((G d : ℝ) : EReal))
    (h : Fin 8) (i : Fin 4096) (d : Fin 64) : (normed x g (ix3 h i d) : EReal) = ((unit (X h i) G d : ℝ) : EReal) := by
  unfold normed
  pointwise
  have hM : (∑ k, X h i k * X h i k) / 64 + eps = msq (X h i) := by norm_num [msq]
  have d64 : ∀ a : ℝ, Ideal.div (a : EReal) (Ideal.ofBits .f32 0x42800000#32) = ((a / 64 : ℝ) : EReal) := fun a => by
    rw [show Ideal.ofBits .f32 0x42800000#32 = ((64 : ℝ) : EReal) by simp [Ideal.ofBits, Ideal.ieee, -EReal.coe_mul]; norm_num]
    rw [Ideal.div_coe (by norm_num), ← EReal.coe_mul]
    congr 1
    ring
  simp only [hx, hg, lit_eps, ← EReal.coe_mul, coe_sum, d64, ← EReal.coe_add, hM, rsqrt_msq,
    Finset.univ_unique, Finset.sum_singleton]
  rfl

theorem heads_at (o : ℕ) (hs : S4096x1536.Slices ![0, o] S4096x512) (ho : o ≤ 1024) (a : FVec Ideal S4096x2560 .f32) (h : Fin 8) (i : Fin 4096) (d : Fin 64) :
    heads o hs a (ix3 h i d) = a (ix2 i ⟨1024 + o + 64 * h.val + d.val, by omega⟩) := by
  unfold heads
  pointwise
  congr 2
  apply Fin.ext
  show 1024 + (o + (h.val * 64 + d.val)) = 1024 + o + 64 * h.val + d.val
  omega

/-- Where a key comes before a row. -/
def before : IVec S8x4096x4096 1 :=
  broadcastInDim S8x4096x4096 ![1, 2] bcast_S4096x4096_S8x4096x4096_1_2 (cmpi .slt (broadcastInDim S4096x4096 ![0, 1] bcast_S1x4096_S4096x4096_0_1
    (broadcastInDim S1x4096 ![1] bcast_S4096_S1x4096_1 (iotaInDim S4096 32 0))) (broadcastInDim S4096x4096 ![0, 1] bcast_S4096x1_S4096x4096_0_1
    (broadcastInDim S4096x1 ![0] bcast_S4096_S4096x1_0 (iotaInDim S4096 32 0))))

theorem before_at (h : Fin 8) (i k : Fin 4096) : before (ix3 h i k) = 1#1 ↔ k.val < i.val := by
  unfold before
  pointwise
  rw [cmpi_slt, toInt_small (by omega), toInt_small (by omega)]
  omega

abbrev zeros : FVec Ideal S8x4096x4096 .f32 := broadcastInDim S8x4096x4096 ![] bcast_S_S8x4096x4096 (constant S_ .f32 0x00000000#32)

/-- The log of the share taken, from the scores with their signs turned. -/
def logTaken (x : FVec Ideal S8x4096x4096 .f32) : FVec Ideal S8x4096x4096 .f32 :=
  Host.negf (select (cmpf .une (subf x zeros) (subf x zeros)) (addf x zeros)
    (addf (maximumf x zeros) (Host.log1p (Host.exp (Host.negf (Host.absf (subf x zeros)))))))

theorem logTaken_at (x : FVec Ideal S8x4096x4096 .f32) (h : Fin 8) (i k : Fin 4096) (r : ℝ) (hx : (x (ix3 h i k) : EReal) = ((-r : ℝ) : EReal)) :
    (logTaken x (ix3 h i k) : EReal) = ((lb r : ℝ) : EReal) := by
  unfold logTaken
  pointwise
  simp only [hx]
  have h0 : (0 : ℝ) < 1 + Real.exp (-|r|) := by positivity
  have ha : (FloatOps.absf (F := Ideal) (φ := .f32) ((-r : ℝ) : EReal)) = ((|r| : ℝ) : EReal) := by
    show max ((-r : ℝ) : EReal) (-((-r : ℝ) : EReal)) = _
    rw [abs_coe, abs_neg]
  rw [if_neg (by simp), ha, ← EReal.coe_neg, Ideal.exp_coe]
  show -(max ((-r : ℝ) : EReal) 0 + Ideal.log (1 + ((Real.exp (-|r|) : ℝ) : EReal))) = _
  rw [one_add, Ideal.log_coe, if_neg h0.not_ge, show max ((-r : ℝ) : EReal) 0 = ((max (-r) 0 : ℝ) : EReal) from
    (EReal.coe_strictMono.monotone.map_max (a := -r) (b := 0)).symm, ← EReal.coe_add, ← EReal.coe_neg]
  congr 1
  unfold lb
  rcases le_total r 0 with h | h
  · rw [max_eq_left (by linarith), min_eq_left h]; ring
  · rw [max_eq_right (by linarith), min_eq_right h]; ring

def scores (q k : FVec Ideal S8x4096x64 .f32) : FVec Ideal S8x4096x4096 .f32 :=
  Host.dotGeneral dot_S8x4096x64_S8x4096x64_S8x4096x4096_2_2_1_1_0_0 none
    (mulf q (broadcastInDim S8x4096x64 ![] bcast_S_S8x4096x64 (constant S_ .f32 0x3E000000#32))) k

def kept (z : FVec Ideal S8x4096x4096 .f32) : FVec Ideal S8x4096x4096 .f32 :=
  select before (logTaken (Host.negf (Host.negf z))) (broadcastInDim S8x4096x4096 ![] bcast_S_S8x4096x4096 (id (constant S_ .f32 0x00000000#32)))

def onward (x : FVec Ideal S8x4096x4096 .f32) : FVec Ideal S8x4096x4096 .f32 :=
  Host.reduceWindowAdd ![1, 1, 4096] ![1, 1, 1] ![0, 0, 0] ![0, 0, 4095] x (broadcastInDim S_ ![] bcast_S_S_ (constant S_ .f32 0x00000000#32))
    reduceWindows_S8x4096x4096_S8x4096x4096_w1s1p0_0_w1s1p0_0_w4096s1p0_4095 h_S_

def weights (z : FVec Ideal S8x4096x4096 .f32) : FVec Ideal S8x4096x4096 .f32 :=
  select before (Host.exp (addf (logTaken (Host.negf z)) (subf (onward (kept z)) (kept z))))
    (broadcastInDim S8x4096x4096 ![] bcast_S_S8x4096x4096 (id (constant S_ .f32 0x00000000#32)))

def joined (w : FVec Ideal S8x4096x4096 .f32) (v : FVec Ideal S8x4096x64 .f32) : FVec Ideal S4096x512 .f32 :=
  shapeCast S4096x512 (transpose S4096x8x64 [1, 0, 2] (Host.dotGeneral dot_S8x4096x4096_S8x4096x64_S8x4096x64_2_1_1_2_0_0 none w v)
    transposes_S8x4096x64_S4096x8x64_1_0_2) shapeCasts_S4096x8x64_S4096x512

/-- The whole term, in those steps. -/
theorem res_eq (m : (ℓ : Loc nD τ sig) → Buf (Elt Ideal) ℓ) (c : Dev nD) :
    res_main_v58 m c = joined (weights (scores (normed (heads 0 slices_S4096x1536_S4096x512_0_0 (m ((c.tc : Thread nD τ).loc main_arg0)))
        (m ((c.tc : Thread nD τ).loc main_arg1))) (normed (heads 512 slices_S4096x1536_S4096x512_0_512 (m ((c.tc : Thread nD τ).loc main_arg0)))
        (m ((c.tc : Thread nD τ).loc main_arg2))))) (heads 1024 slices_S4096x1536_S4096x512_0_1024 (m ((c.tc : Thread nD τ).loc main_arg0))) := by
  unfold res_main_v58
  rfl

/-- A fold that adds is a sum. -/
theorem fold_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window's places, by number. -/
abbrev Strip : Shape := ⟨3, ![1, 1, 4096]⟩

def place : Strip.Idx ≃ Fin 4096 where
  toFun y := ⟨(y 2).val, (y 2).isLt⟩
  invFun n := ix3 0 0 n
  left_inv y := by
    funext a
    apply Fin.ext
    match a with
    | ⟨0, _⟩ => have : (y 0).val < 1 := (y 0).isLt; show 0 = (y 0).val; omega
    | ⟨1, _⟩ => have : (y 1).val < 1 := (y 1).isLt; show 0 = (y 1).val; omega
    | ⟨2, _⟩ => rfl
  right_inv n := rfl

theorem window_sum (f : Fin 4096 → ℝ) (k : Fin 4096) :
    (∑ n : Fin 4096, along f (k.val + n.val)) = ∑ j ∈ Finset.Ico k.val 4096, along f j := by
  rw [Finset.sum_Ico_eq_sum_range, ← Finset.sum_range (fun n => along f (k.val + n))]
  refine (Finset.sum_subset (fun n hn => ?_) fun n _ hn => dif_neg ?_).symm
  · rw [Finset.mem_range] at hn ⊢
    omega
  · rw [Finset.mem_range] at hn
    omega

theorem onward_at (x : FVec Ideal S8x4096x4096 .f32) (h : Fin 8) (i k : Fin 4096) (f : Fin 4096 → ℝ)
    (hx : ∀ j, (x (ix3 h i j) : EReal) = ((f j : ℝ) : EReal)) :
    (onward x (ix3 h i k) : EReal) = ((∑ j ∈ Finset.Ico k.val 4096, along f j : ℝ) : EReal) := by
  have hv : ((broadcastInDim S_ ![] bcast_S_S_ (constant S_ .f32 0x00000000#32) : FVec Ideal S_ .f32) (Shape.Idx.first h_S_) : EReal) = 0 := lit_zero
  unfold onward Host.reduceWindowAdd
  rw [Ideal.hostReduceWindowAdd_def, hv]
  unfold Ideal.hostReduceWindowAdd Host.reduceWindow
  refine (fold_sum _ _ _).trans ?_
  rw [zero_add, ← Fin.sum_univ_def, ← window_sum, ← coe_sum, ← Equiv.sum_comp (Strip.rowMajor.symm.trans place)]
  refine Finset.sum_congr rfl fun n _ => ?_
  have y0 : (Strip.rowMajor.symm n 0).val < 1 := (Strip.rowMajor.symm n 0).isLt
  have y1 : (Strip.rowMajor.symm n 1).val < 1 := (Strip.rowMajor.symm n 1).isLt
  show _ = ((along f (k.val + (Strip.rowMajor.symm n 2).val) : ℝ) : EReal)
  dsimp only
  split
  · next hin =>
    have h2 : 0 ≤ k.val * 1 + (Strip.rowMajor.symm n 2).val ∧ k.val * 1 + (Strip.rowMajor.symm n 2).val - 0 < 4096 := hin 2
    rw [along_of f _ (by omega), ← hx]
    refine congrArg x ?_
    funext a
    apply Fin.ext
    match a with
    | ⟨0, _⟩ => show h.val * 1 + (Strip.rowMajor.symm n 0).val - 0 = h.val; omega
    | ⟨1, _⟩ => show i.val * 1 + (Strip.rowMajor.symm n 1).val - 0 = i.val; omega
    | ⟨2, _⟩ => show k.val * 1 + (Strip.rowMajor.symm n 2).val - 0 = k.val + (Strip.rowMajor.symm n 2).val; omega
  · next hin =>
    have h2 : ¬ k.val + (Strip.rowMajor.symm n 2).val < 4096 := fun hlt => hin fun a => by
      match a with
      | ⟨0, _⟩ =>
        show 0 ≤ h.val * 1 + (Strip.rowMajor.symm n 0).val ∧ h.val * 1 + (Strip.rowMajor.symm n 0).val - 0 < 8
        omega
      | ⟨1, _⟩ =>
        show 0 ≤ i.val * 1 + (Strip.rowMajor.symm n 1).val ∧ i.val * 1 + (Strip.rowMajor.symm n 1).val - 0 < 4096
        omega
      | ⟨2, _⟩ =>
        show 0 ≤ k.val * 1 + (Strip.rowMajor.symm n 2).val ∧ k.val * 1 + (Strip.rowMajor.symm n 2).val - 0 < 4096
        omega
    rw [show along f (k.val + (Strip.rowMajor.symm n 2).val) = 0 from dif_neg h2]
    rfl

variable (z : FVec Ideal S8x4096x4096 .f32) (h : Fin 8) (i : Fin 4096) (r : Fin 4096 → ℝ) (hz : ∀ j, (z (ix3 h i j) : EReal) = ((r j : ℝ) : EReal))

include hz in
theorem kept_at (j : Fin 4096) : (kept z (ix3 h i j) : EReal) = (((if j.val < i.val then lm (r j) else 0) : ℝ) : EReal) := by
  have e := logTaken_at (Host.negf (Host.negf z)) h i j (-r j) (by pointwise; rw [hz, neg_neg, neg_neg])
  unfold kept
  generalize logTaken (Host.negf (Host.negf z)) = y at e ⊢
  pointwise
  rw [select_ite, e, lb_neg]
  by_cases hj : j.val < i.val
  · rw [if_pos ((before_at h i j).mpr hj), if_pos hj]
  · rw [if_neg fun hb => hj ((before_at h i j).mp hb), if_neg hj]
    exact lit_zero

include hz in
/-- A row's weights. -/
theorem weights_at (j : Fin 4096) : (weights z (ix3 h i j) : EReal) = (((if j.val < i.val then weight (along r) i.val j.val else 0) : ℝ) : EReal) := by
  have e := logTaken_at (Host.negf z) h i j (r j) (by pointwise; rw [hz, EReal.coe_neg])
  have e' := kept_at z h i r hz
  have e'' := onward_at (kept z) h i j _ e'
  unfold weights
  generalize logTaken (Host.negf z) = y at e ⊢
  generalize onward (kept z) = w at e'' ⊢
  generalize kept z = u at e' ⊢
  pointwise
  rw [select_ite, e, e', e'']
  by_cases hj : j.val < i.val
  · rw [if_pos ((before_at h i j).mpr hj), if_pos hj, if_pos hj, ← EReal.coe_sub, ← EReal.coe_add, Ideal.exp_coe]
    congr 2
    rw [along_of r _ j.isLt]
    congr 1
    rw [Finset.sum_eq_sum_Ico_succ_bot j.isLt, along_of _ _ j.isLt, if_pos hj, add_sub_cancel_left]
    refine (Finset.sum_subset (s₁ := Finset.Ico (j.val + 1) i.val) (fun n hn => ?_) fun n h4 hn => ?_).symm.trans (Finset.sum_congr rfl fun n hn => ?_)
    · rw [Finset.mem_Ico] at hn ⊢
      omega
    · rw [Finset.mem_Ico] at hn h4
      rw [along_of _ _ h4.2]
      exact if_neg (by show ¬ n < i.val; omega)
    · rw [Finset.mem_Ico] at hn
      rw [along_of _ n (by omega), along_of _ n (by omega)]
      exact if_pos (by show n < i.val; omega)
  · rw [if_neg fun hb => hj ((before_at h i j).mp hb), if_neg hj]
    exact lit_zero

/-- A row of the result, from its weights. -/
theorem joined_at (w : FVec Ideal S8x4096x4096 .f32) (v : FVec Ideal S8x4096x64 .f32) (z : ℕ → ℝ) (V : Fin 4096 → ℝ) (h : Fin 8) (i : Fin 4096) (d : Fin 64)
    (hw : ∀ j, (w (ix3 h i j) : EReal) = (((if j.val < i.val then weight z i.val j.val else 0) : ℝ) : EReal))
    (hv : ∀ j, (v (ix3 h j d) : EReal) = ((V j : ℝ) : EReal)) (l : Fin 512) (hl : l.val = 64 * h.val + d.val) :
    (joined w v (ix2 i l) : EReal) = ((row z (along V) i.val : ℝ) : EReal) := by
  have h0 : (⟨l.val / 64, by omega⟩ : Fin 8) = h := Fin.ext (by show l.val / 64 = h.val; omega)
  have d0 : (⟨l.val % 64, by omega⟩ : Fin 64) = d := Fin.ext (by show l.val % 64 = d.val; omega)
  unfold joined
  pointwise
  simp only [h0, d0, hw, hv, ← EReal.coe_mul, coe_sum]
  congr 1
  unfold row
  have e (j : Fin 4096) : (if j.val < i.val then weight z i.val j.val else 0) * V j = (if j.val < i.val then weight z i.val j.val else 0) * along V j.val := by
    rw [along_of V _ j.isLt]
  rw [Finset.sum_congr rfl fun j _ => e j, Fin.sum_univ_eq_sum_range (fun j => (if j < i.val then weight z i.val j else 0) * along V j) 4096]
  refine (Finset.sum_subset (s₁ := Finset.range i.val) (fun n hn => ?_) fun n h4 hn => ?_).symm.trans (Finset.sum_congr rfl fun n hn => ?_)
  · rw [Finset.mem_range] at hn ⊢
    omega
  · rw [Finset.mem_range] at hn
    rw [if_neg hn, zero_mul]
  · rw [Finset.mem_range] at hn
    rw [if_pos hn]

variable (a : FVec Ideal S4096x2560 .f32) (g g' : FVec Ideal S1x64 .f32) (A : Fin 4096 → Fin 2560 → ℝ) (G H : Fin 64 → ℝ)
  (ha : ∀ i l, (a (ix2 i l) : EReal) = ((A i l : ℝ) : EReal)) (hg : ∀ d, (g (ix2 0 d) : EReal) = ((G d : ℝ) : EReal))
  (hg' : ∀ d, (g' (ix2 0 d) : EReal) = ((H d : ℝ) : EReal))

include ha hg hg' in
theorem scores_at (h : Fin 8) (i j : Fin 4096) :
    (scores (normed (heads 0 slices_S4096x1536_S4096x512_0_0 a) g) (normed (heads 512 slices_S4096x1536_S4096x512_0_512 a) g') (ix3 h i j) : EReal)
      = (((∑ d, unit (third A 0 h i) G d * (1 / 8) * unit (third A 1 h j) H d : ℝ)) : EReal) := by
  have eq := normed_at (heads 0 slices_S4096x1536_S4096x512_0_0 a) g (third A 0) G (fun h i d => by rw [heads_at _ _ (by omega), ha]; rfl) hg h i
  have ek := normed_at (heads 512 slices_S4096x1536_S4096x512_0_512 a) g' (third A 1) H (fun h i d => by rw [heads_at _ _ (by omega), ha]; rfl) hg' h j
  generalize normed (heads 0 slices_S4096x1536_S4096x512_0_0 a) g = q at eq ⊢
  generalize normed (heads 512 slices_S4096x1536_S4096x512_0_512 a) g' = k at ek ⊢
  unfold scores
  pointwise
  simp only [eq, ek, lit_eighth, ← EReal.coe_mul, coe_sum]

include ha hg hg' in
/-- The reference's result at an index. -/
theorem result_at (h : Fin 8) (i : Fin 4096) (d : Fin 64) (l : Fin 512) (hl : l.val = 64 * h.val + d.val) :
    (joined (weights (scores (normed (heads 0 slices_S4096x1536_S4096x512_0_0 a) g) (normed (heads 512 slices_S4096x1536_S4096x512_0_512 a) g')))
      (heads 1024 slices_S4096x1536_S4096x512_0_1024 a) (ix2 i l) : EReal)
      = ((attendedTo (third A 0 h) (third A 1 h) (third A 2 h) G H i d : ℝ) : EReal) :=
  joined_at _ _ _ (fun j => third A 2 h j d) h i d (weights_at _ h i _ (scores_at a g g' A G H ha hg hg' h i))
    (fun j => by rw [heads_at _ _ (by omega), ha]; rfl) l hl

end Cert.SbRefIdeal.Step

end
-- ==== Proof.SbWords.lean ====
/-
  The attention's forward kernel's words: the windows it visits lie inside its buffers.
-/
module

public import proofs.«01_k».proof.SbKernel
public import Idealize.ShloMosaic.Lib.Tactic

@[expose] public section

namespace Cert.SbKernel.Carry

open Cert.SbKernel
open Idealize.ShloMosaic

set_option maxRecDepth 100000

/-- Every window of keys and values looked at lies inside the buffers. -/
theorem window_ok : ∀ (p : Fin k0_t1_loop.trips) (g : Fin 12), k0_chk1 p (BitVec.ofNat 32 g.val) := by
  decide +kernel

/-- A walk that goes on is not at the twelfth window yet. -/
theorem going : ∀ (p : Fin k0_t1_loop.trips) (g : Fin 12),
    Scalar.cmpi .sgt (Scalar.subi (Scalar.muli (Scalar.addi (Scalar.addi (Scalar.muli 2#32 (Scf.iv 0#32 1#32 p)) 1#32) 1#32) 128#32)
      (Scalar.muli (BitVec.ofNat 32 g.val) 384#32)) 0#32 = 1#1 → g.val < 11 := by
  decide +kernel

theorem left_of_and : ∀ a b : BitVec 1, Scalar.andi a b = 1#1 → a = 1#1 := by decide

theorem word_succ : ∀ g : Fin 12, Scalar.addi (BitVec.ofNat 32 g.val) 1#32 = BitVec.ofNat 32 (g.val + 1) := by decide

end Cert.SbKernel.Carry
-- ==== Proof.SbWalk.lean ====
module

public import proofs.«01_k».proof.Proof.SbWords
public import proofs.«01_k».proof.Proof.Gen.SbKernel.Skeleton
public import proofs.«01_k».proof.Proof.Gen.SbKernel.Loops

/-! The attention's forward call walks a pair of query tiles back through the windows of keys and values. The walk ends,
and every window it visits lies inside the buffers; nothing is said here of what it gathers. -/

@[expose] public section

set_option maxRecDepth 16384
set_option maxHeartbeats 4000000

noncomputable section

namespace Cert.SbKernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbKernel Cert.SbKernel.Gen

variable {F : FTy → Type} [FloatOps F]

local notation "𝕄" => MT nD τ sig Unit (Elt F) ℕ (UR sig nD τ) ℕ

/-- The walk is measured by the windows still in reach. -/
abbrev 𝒱₀ : Variants := Variants.nat

/-- A buffer held whole, whatever it contains. -/
abbrev whole {s : Shape} {e : EltTy} (c : Dev nD) (M : Memref sig .tc .vmem s e) : sProp 𝕄 :=
  iprop(∃ f : BufTy.Contents (Elt F) M.view.ty, M.view.loc (c : Thread nD τ) ↦[M.view.set]{fullShare} f)

abbrev Out (F : FTy → Type) [FloatOps F] := BitVec 32 × BitVec 32 × FVec F S128x128 .f32 × FVec F S128x128 .f32
  × FVec F S128x128 .f32 × FVec F S128x128 .f32 × FVec F S128x1 .f32 × FVec F S128x1 .f32 × FVec F S128x1 .f32 × FVec F S128x1 .f32

section Walk

variable (c : Dev nD) (i : grid0.Coords) (p : Fin k0_t1_loop.trips) (v0 v1 : IVec S128x384 32)
  (keys : Memref sig .tc .vmem S4096x128 .bf16) (hkeys : keys.IsWhole) (qa qb qc qd : Vec F S128x128 .bf16)
  (v8 : FVec F S256x256 .bf16) (v15 : FVec F S128x128 .bf16)
  (vals : Memref sig .tc .vmem S4096x128 .bf16) (hvals : vals.IsWhole)

/-- The keys and the values, which the walk reads. -/
def held : sProp 𝕄 := iprop(whole (F := F) c keys ∗ whole (F := F) c vals)

/-- The walk returns, and holds what it held. -/
def spec : sWPT 𝕄 (Out F) := do
  sWPT.consume (held c keys vals)
  let r ← sWPT.arbitrary
  sWPT.produce (held c keys vals)
  pure r

theorem spec_apply (K : Out F → sProp 𝕄) :
    spec c keys vals K = iprop(held c keys vals ∗ ∀ r : Out F, (held c keys vals -∗ K r)) := rfl

theorem spec_le (E : Set ℕ) : ∀ (k g : ℕ), g + k = 11 → ∀ (w : BitVec 32) (a0 a1 a2 a3 : FVec F S128x128 .f32)
    (r0 r1 r2 r3 : FVec F S128x1 .f32) (K : Out F → sProp 𝕄),
    spec c keys vals K
      ⊢ wp frame (wpE (defs₀ (F := F)) 𝒱₀ (c : Thread nD τ) (some k)) E
          (defs₀ (F := F) .tc 1 ⟨i, p, v0, v1, keys, hkeys, qa, qb, qc, qd, v8, v15, vals, hvals, BitVec.ofNat 32 g, w, a0, a1, a2, a3, r0, r1, r2, r3⟩) K := by
  intro k
  induction k with
  | zero =>
    intro g hg w a0 a1 a2 a3 r0 r1 r2 r3 K
    rw [spec_apply]
    show _ ⊢ wp frame (wpE (defs₀ (F := F)) 𝒱₀ (c : Thread nD τ) (some 0)) E
      (cc0_while1 i p v0 v1 keys hkeys qa qb qc qd v8 v15 vals hvals (BitVec.ofNat 32 g) w a0 a1 a2 a3 r0 r1 r2 r3) K
    simp only [cc0_while1_eq_skeleton]; unfold cc0_while1_skel; dsimp only
    rw [if_neg (fun h => by
      have := going p ⟨g, by omega⟩ (left_of_and _ _ h)
      simp only at this; omega)]
    iintro ⟨H, Hk⟩
    simp only [Prog.pure_eq_ret]
    rw [wp_ret]; imodintro
    iapply Hk
    iexact H
  | succ k ih =>
    intro g hg w a0 a1 a2 a3 r0 r1 r2 r3 K
    rw [spec_apply]
    show _ ⊢ wp frame (wpE (defs₀ (F := F)) 𝒱₀ (c : Thread nD τ) (some (k + 1))) E
      (cc0_while1 i p v0 v1 keys hkeys qa qb qc qd v8 v15 vals hvals (BitVec.ofNat 32 g) w a0 a1 a2 a3 r0 r1 r2 r3) K
    simp only [cc0_while1_eq_skeleton]; unfold cc0_while1_skel; dsimp only
    split
    · simp only [k0_part6_eq_skeleton, k0_part7_eq_skeleton, k0_part8_eq_skeleton, k0_part9_eq_skeleton, k0_part10_eq_skeleton]
      unfold k0_part6_skel
      simp only [Prog.lift, Prog.bind_op, Prog.bind_ret, Prog.pure_eq_ret]
      unfold held
      iintro ⟨⟨⟨%fk, Hx⟩, ⟨%fv, Hr⟩⟩, Hk⟩
      iapply (wp_assume 𝒱₀ (c : Thread nD τ) (some (k + 1)) E (window_ok p ⟨g, by omega⟩))
      sl_exec
      iapply (wp_call_spec 𝒱₀ (c : Thread nD τ) (some (k + 1)) E (spec c keys vals) k
        (fun u hu => by cases hu; exact Nat.lt_succ_self k)
        (by
          have h1 : Scalar.addi (BitVec.ofNat 32 g) 1#32 = BitVec.ofNat 32 (g + 1) := word_succ ⟨g, by omega⟩
          intro K'
          have := ih (g + 1) (by omega)
          rw [← h1] at this
          exact this _ _ _ _ _ _ _ _ _ K'))
      rw [spec_apply]; unfold held
      isplitl [Hx Hr]
      · isplitl [Hx]
        · iexists _; iexact Hx
        iexists _; iexact Hr
      iintro %r H
      rw [wp_ret]; imodintro
      iapply Hk
      iexact H
    · iintro ⟨H, Hk⟩
      simp only [Prog.pure_eq_ret]
      rw [wp_ret]; imodintro
      iapply Hk
      iexact H

end Walk

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (v0 v1 : IVec S128x384 32) (v8 : FVec F S256x256 .bf16) (v15 : FVec F S128x128 .bf16) (v42 v68 : IVec S1x128 1)

/-- What a pair of query tiles reads, and what it writes. -/
abbrev pair : sProp 𝕄 :=
  iprop(whole (F := F) c arg6 ∗ whole (F := F) c arg7 ∗ whole (F := F) c arg8 ∗ whole (F := F) c arg9)

theorem trip (p : Fin k0_t1_loop.trips) (u : Unit) :
    pair c arg6 arg7 arg8 arg9
      ⊢ wp frame (wpE (defs₀ (F := F)) 𝒱₀ (c : Thread nD τ) none) Set.univ
          (k0_t1_body (F := F) i arg1 harg1 arg2 harg2 arg3 harg3 arg4 harg4 arg5 harg5 arg6 harg6 arg7 harg7 arg8 harg8 arg9 harg9 v0 v1 v8 v15 v42 v68 p u)
          (fun _ => pair c arg6 arg7 arg8 arg9) := by
  unfold k0_t1_body
  simp only [k0_part1_eq_skeleton]
  iintro ⟨⟨%f6, H6⟩, ⟨%f7, H7⟩, ⟨%f8, H8⟩, ⟨%f9, H9⟩⟩
  sl_exec
  iapply (wp_call_spec 𝒱₀ (c : Thread nD τ) none Set.univ (spec c arg8 arg9) 11
    (fun u hu => nomatch hu) (spec_le c i p v0 v1 arg8 harg8 _ _ _ _ v8 v15 arg9 harg9 Set.univ 11 0 rfl _ _ _ _ _ _ _ _ _))
  rw [spec_apply]; unfold held
  isplitl [H8 H9]
  · isplitl [H8]
    · iexists _; iexact H8
    iexists _; iexact H9
  iintro %r ⟨⟨%g8, H8⟩, ⟨%g9, H9⟩⟩
  sl_exec
  sl_step
  isplitl [H6]; · iexists _; iexact H6
  isplitl [H7]; · iexists _; iexact H7
  isplitl [H8]; · iexists _; iexact H8
  iexists _; iexact H9

set_option warn.classDefReducibility false in
/-- The loop over the pairs, by what each pair holds. -/
@[sl_loop] def pairs : LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 v0 v1 v8 v15 v42 v68 where
  inv := fun _ _ => pair c arg6 arg7 arg8 arg9
  step p u := trip c i arg1 harg1 arg2 harg2 arg3 harg3 arg4 harg4 arg5 harg5 arg6 harg6 arg7 harg7 arg8 harg8 arg9 harg9 v0 v1 v8 v15 v42 v68 p u

end Cert.SbKernel.Carry
-- ==== Proof.SbFrame.lean ====
module

public import proofs.«01_k».proof.Proof.SbWalk
public import proofs.«01_k».proof.Proof.Gen.SbKernel.Launch
public import proofs.«01_k».proof.Proof.Gen.SbKernel.Points
public import Idealize.ShloMosaic.Lib.Pipeline.FrameBody
public import Idealize.ShloMosaic.Lib.Claim

/-! The attention's forward call ends, its arguments as they were. Nothing is said of what it returns. -/

@[expose] public section

set_option maxRecDepth 16384
set_option maxHeartbeats 4000000

noncomputable section

namespace Cert.SbKernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbKernel Cert.SbKernel.Gen

variable {F : FTy → Type} [FloatOps F]

local notation "𝕄" => MT nD τ sig Unit (Elt F) ℕ (UR sig nD τ) ℕ

section Body

variable (c : Dev nD) (i : grid0.Coords)
  (arg1 : Memref sig .tc .vmem S4096x128 .f32) (harg1 : arg1.IsWhole)
  (arg2 : Memref sig .tc .vmem S4096x128 .f32) (harg2 : arg2.IsWhole)
  (arg3 : Memref sig .tc .vmem S4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (X1 : BufTy.Contents (Elt F) arg1.view.ty)
  (X2 : BufTy.Contents (Elt F) arg2.view.ty)
  (X3 : BufTy.Contents (Elt F) arg3.view.ty)
  (X4 : BufTy.Contents (Elt F) arg4.view.ty)
  (X5 : BufTy.Contents (Elt F) arg5.view.ty)

/-- The body's buffers: the inputs' at their contents, the others' at any. -/
abbrev bufs : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ whole (F := F) c arg6 ∗ whole (F := F) c arg7 ∗ whole (F := F) c arg8 ∗ whole (F := F) c arg9)

theorem body :
    bufs c arg1 arg2 arg3 arg4 arg5 arg6 arg7 arg8 arg9 X1 X2 X3 X4 X5
      ⊢ wp frame (wpE (defs₀ (F := F)) 𝒱₀ (c : Thread nD τ) none) Set.univ
          (cc0_attn_fwd (F := F) i arg1 harg1 arg2 harg2 arg3 harg3 arg4 harg4 arg5 harg5 arg6 harg6 arg7 harg7 arg8 harg8 arg9 harg9)
          (fun _ => bufs c arg1 arg2 arg3 arg4 arg5 arg6 arg7 arg8 arg9 X1 X2 X3 X4 X5) := by
  simp only [cc0_attn_fwd_eq_skeleton]; unfold cc0_attn_fwd_skel
  simp only [k0_part2_eq_skeleton, k0_part3_eq_skeleton, k0_part4_eq_skeleton, k0_part5_eq_skeleton]
  iintro ⟨H1, H2, H3, H4, H5, ⟨%f6, H6⟩, ⟨%f7, H7⟩, ⟨%f8, H8⟩, ⟨%f9, H9⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

end Body

variable (m : (ℓ : Loc nD τ sig) → Buf (Elt F) ℓ) (ρ : Dev nD → PrngReg)

/-- What a core's buffers hold when the call begins: the two scales have been laid out for a pair of heads. -/
abbrev V (c : Dev nD) (b : Ref sig .tc) : Buf (Elt F) ((c : Thread nD τ).loc b) :=
  StableHlo.after (List.flatten [hostOps0]) (fun b => m (c, b)) b

theorem laid_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0] (by simp only [List.Forall]; exact hostOps0_sub)
    (by simp only [List.Forall]; exact laid_fresh) main_chain

/-- A buffer the layout does not write is found as it was. -/
theorem entry_kept (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  entry_kept m c main_arg0 (by decide) (by decide) (by decide) (by decide) (by decide) (by decide)
theorem V_main_arg1 (c : Dev nD) : V m c main_arg1 = m ((c : Thread nD τ).loc main_arg1) :=
  entry_kept m c main_arg1 (by decide) (by decide) (by decide) (by decide) (by decide) (by decide)
theorem V_main_arg2 (c : Dev nD) : V m c main_arg2 = m ((c : Thread nD τ).loc main_arg2) :=
  entry_kept m c main_arg2 (by decide) (by decide) (by decide) (by decide) (by decide) (by decide)

/-- The block of window `w` at a pair of heads. -/
def blockAt (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Nothing is said of the result. -/
def unsaid : Fin 6 → Bool := fun w => decide (5 ≤ w.val)

/-- The five inputs stay at their blocks. -/
def dats (_ : Fin 1) (c : Dev nD) : Dat τ (Elt F) Unit ℕ (UR sig nD τ) ℕ (cfg0 (F := F)) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, h⟩ => Dat.unnamed (cfg := cfg0 (F := F)) ⟨5, h⟩ t
    | ⟨_ + 6, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem before0 (c : Dev nD) (t : Fin (cfg0 (F := F)).N) (d) : (dats m 0 c).before 0 t d = blockAt m c 0 t :=
  (Dat.before_in_eq_fetched _ 0 rfl (fun _ => rfl) (fun _ _ _ => rfl) (fun _ => rfl) t d).trans rfl
theorem before1 (c : Dev nD) (t : Fin (cfg0 (F := F)).N) (d) : (dats m 0 c).before 1 t d = blockAt m c 1 t :=
  (Dat.before_in_eq_fetched _ 1 rfl (fun _ => rfl) (fun _ _ _ => rfl) (fun _ => rfl) t d).trans rfl
theorem before2 (c : Dev nD) (t : Fin (cfg0 (F := F)).N) (d) : (dats m 0 c).before 2 t d = blockAt m c 2 t :=
  (Dat.before_in_eq_fetched _ 2 rfl (fun _ => rfl) (fun _ _ _ => rfl) (fun _ => rfl) t d).trans rfl
theorem before3 (c : Dev nD) (t : Fin (cfg0 (F := F)).N) (d) : (dats m 0 c).before 3 t d = blockAt m c 3 t :=
  (Dat.before_in_eq_fetched _ 3 rfl (fun _ => rfl) (fun _ _ _ => rfl) (fun _ => rfl) t d).trans rfl
theorem before4 (c : Dev nD) (t : Fin (cfg0 (F := F)).N) (d) : (dats m 0 c).before 4 t d = blockAt m c 4 t :=
  (Dat.before_in_eq_fetched _ 4 rfl (fun _ => rfl) (fun _ _ _ => rfl) (fun _ => rfl) t d).trans rfl

/-- What the core keeps between pairs of heads: its scratch at any contents. -/
theorem kept_eq (c : Dev nD) :
    (Pipeline.ΦA spec0 c : sProp 𝕄)
      = iprop(iprop((∃ d, owns (c : Thread nD τ) (Memref.whole cc0_scratch0 : Memref sig .tc .vmem _ _) fullShare d)
        ∗ (∃ d, owns (c : Thread nD τ) (Memref.whole cc0_scratch1 : Memref sig .tc .vmem _ _) fullShare d)
        ∗ (∃ d, owns (c : Thread nD τ) (Memref.whole cc0_scratch2 : Memref sig .tc .vmem _ _) fullShare d)) ∗ (∃ r, prngReg c r)) := by
  unfold Pipeline.ΦA; rw [scopedRest0_eq]; simp only [owns_whole]; try rfl

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

theorem sound (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, kept_eq]
  unfold owns
  iintro ⟨⟨⟨⟨%e0, %g0, -, S0⟩, ⟨%e1, %g1, -, S1⟩, ⟨%e2, %g2, -, S2⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  iapply (wp_wand_r frame (wpE (defs₀ (F := F)) 𝒱₀ (c : Thread nD τ) none) Set.univ)
  isplitl [H0 H1 H2 H3 H4 H5 S0 S1 S2]
  · iapply (body c (grid0.coords t) _ _ _ _ _ _ _ _ _ _ _ _ _ _ _ _ _ _ f0 f1 f2 f3 f4)
    isplitl [H0]; · iexact H0
    isplitl [H1]; · iexact H1
    isplitl [H2]; · iexact H2
    isplitl [H3]; · iexact H3
    isplitl [H4]; · iexact H4
    isplitl [H5]; · iexists _; iexact H5
    isplitl [S0]; · iexists _; iexact S0
    isplitl [S1]; · iexists _; iexact S1
    iexists _; iexact S2
  · iintro %_ ⟨H0, H1, H2, H3, H4, ⟨%w5, H5⟩, ⟨%x0, S0⟩, ⟨%x1, S1⟩, ⟨%x2, S2⟩⟩
    isplitl [Hg S0 S1 S2]
    · isplitr [Hg]
      · isplitl [S0]
        · iexists _, x0; isplitr; · ipureintro; rfl
          iexact S0
        isplitl [S1]
        · iexists _, x1; isplitr; · ipureintro; rfl
          iexact S1
        iexists _, x2; isplitr; · ipureintro; rfl
        iexact S2
      · iexact Hg
    isplitl [Ho]; · iexact Ho
    isplitl [H0]
    · iexists _; isplitr; · ipureintro; exact h0
      iexact H0
    isplitl [H1]
    · iexists _; isplitr; · ipureintro; exact h1
      iexact H1
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    iexists _, w5; isplitr; · ipureintro; rfl
    iexact H5

theorem body_obligation (c : Dev nD) :
    BodyObligation (dats (F := F) m 0 c) (defs₀ (F := F)) 𝒱₀ () Set.univ unsaid := fun t => by
  rw [bigSep_W0, bigSep_W0,
    show defs₀ (F := F) .tc (cfg0 (F := F)).body ((cfg0 (F := F)).bodyArgs t ((cfg0 (F := F)).slots t)) = bodyAt0 t by unfold defs₀; rw [Defs.onTc_tc]]
  exact triple_restated (sound m c t) rfl .rfl fun _ => .rfl

theorem run : θ_run defs (onTc (τ := τ) (main (F := F))) (s₀ m ρ)
    (fun r => Pipeline.RDat.FramePost ((cfgs (F := F)) 0) (fun c => (dats m 0 c).toRForget unsaid) (V m) r ∧ r.2.sem = fun _ => 0) :=
  Pipeline.θ_run_frame_forget_shared (Q' := _) (cfgs (F := F)) (dats m) (0 : Fin 1) launch₀0 defs₀ 𝒱₀ unsaid m ρ main
    (hbody := fun c => (body_obligation m c).loose) (hq := fun _ _ _ => rfl)
    (howed := fun _ _ => rfl) (V := V m) (hmain := hmain m) (hA := A_eq m) (hΦ := fun _ _ => rfl)

/-- The call terminates and leaves its three arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c =>
    ⟨(Pipeline.RDat.FramePost.arr_in h c 0 rfl).trans ((A_eq m c 0).trans (V_main_arg0 m c)),
      ((h c).2 main_arg1 (Pipeline.mem_restRefs_of main_arg1 (by decide) (show ∀ w : Fin 6, (spec0 w).arr.view.ref ≠ main_arg1 by decide))).trans (V_main_arg1 m c),
      ((h c).2 main_arg2 (Pipeline.mem_restRefs_of main_arg2 (by decide) (show ∀ w : Fin 6, (spec0 w).arr.view.ref ≠ main_arg2 by decide))).trans (V_main_arg2 m c)⟩, hz⟩) (run m ρ)

end Cert.SbKernel.Carry
-- ==== Proof.SbClaim.lean ====
module

public import proofs.«01_k».proof.Proof.SbKer
public import proofs.«01_k».proof.Proof.SbRef
public import proofs.«01_k».proof.Proof.SbFrame
public import proofs.«01_k».proof.Defs
public import proofs.«01_k».proof.Proof.Gen.Pre_sb_finite
public import Idealize.ShloMosaic.Adequacy
public import Idealize.ShloMosaic.Init

@[expose] public section

set_option maxRecDepth 16384

noncomputable section

/-! The claims about the attention's forward call. -/

namespace Cert.Proof

open Idealize.ShloMosaic Idealize.SL.Sem Cert.Num

/-- The precondition, array by array. -/
theorem sb_bounds {x0 x1 x2} (h : Cert.Pre_sb_finite.fn (F := Ideal) x0 x1 x2 = fun _ => 1#1) :
    (∀ i, x0 i < (⊤ : EReal) ∧ (⊥ : EReal) < x0 i) ∧ (∀ i, x1 i < (⊤ : EReal) ∧ (⊥ : EReal) < x1 i)
    ∧ (∀ i, x2 i < (⊤ : EReal) ∧ (⊥ : EReal) < x2 i) := by
  have h := congrFun h (fun a => a.elim0)
  unfold Cert.Pre_sb_finite.fn Cert.Pre_sb_finite.fn_part1 at h
  obtain ⟨h, h2⟩ := IntOp.andi_eq_one.1 h
  obtain ⟨h0, h1⟩ := IntOp.andi_eq_one.1 h
  exact ⟨finite_of _ _ _ _ _ _ _ h0, finite_of _ _ _ _ _ _ _ h1, finite_of _ _ _ _ _ _ _ h2⟩

theorem sb_kernel_frame : Cert.quiescent_SbKernel := fun m ρ _ => Cert.SbKernel.Carry.frame m ρ

theorem sb_ideal_frame : Cert.quiescent_SbKernelIdeal := fun m ρ _ => Cert.SbKernelIdeal.Carry.frame m ρ

theorem sb_ideal_frame_pre : Cert.quiescent_SbKernelIdeal_pre_sb_finite := fun m ρ _ => Cert.SbKernelIdeal.Carry.frame m ρ

theorem sb_frame : Cert.quiescent_SbRefIdeal := fun m ρ _ =>
  (θ_run Cert.SbRefIdeal.defs _ _).mono
    (fun r h => ⟨fun c => (h c).2, Idealize.ShloMosaic.sem_eq_zero_of_no_sems (by decide) r.2⟩)
    (Cert.SbRefIdeal.Value.run (F := Ideal) m ρ)

theorem sb_frame_pre : Cert.quiescent_SbRefIdeal_pre_sb_finite := fun m ρ _ => sb_frame m ρ trivial

theorem sb_algebraic : Cert.algebraic_SbKernelIdeal_SbRefIdeal_pre_sb_finite := by
  intro m g m' g' hpre harg
  refine ⟨_, Cert.SbKernelIdeal.Carry.run m g, ?_⟩
  refine (θ_run Cert.SbRefIdeal.defs _ _).mono (fun r h c => ?_) (Cert.SbRefIdeal.Value.run (F := Ideal) m' g')
  obtain ⟨e0, e1, e2⟩ := harg c
  obtain ⟨b0, b1, b2⟩ := sb_bounds (hpre c)
  obtain ⟨hv, hrest⟩ := h c
  have r0 := reals_of b0
  have r1 := reals_of b1
  have r2 := reals_of b2
  refine ⟨hv.trans ?_, hrest⟩
  rw [Cert.SbRefIdeal.Step.res_eq, e0, e1, e2]
  funext j
  obtain ⟨i, l, rfl⟩ := Cert.SbKernelIdeal.Carry.ix_of (a := 4096) (b := 512) j
  exact (Cert.SbRefIdeal.Step.result_at _ _ _ (fun i l => _) (fun d => _) (fun d => _) (fun i l => r0 (ix2 i l)) (fun d => r1 (ix2 0 d)) (fun d => r2 (ix2 0 d))
    ⟨l.val / 64, by omega⟩ i ⟨l.val % 64, by omega⟩ l (by show l.val = 64 * (l.val / 64) + l.val % 64; omega)).trans
    (Cert.SbKernelIdeal.Carry.final_at m c _ _ _ (fun i l => r0 (ix2 i l)) (fun d => r1 (ix2 0 d)) (fun d => r2 (ix2 0 d))
    ⟨l.val / 64, by omega⟩ i ⟨l.val % 64, by omega⟩ l (by show l.val = 64 * (l.val / 64) + l.val % 64; omega)).symm

end Cert.Proof
-- ==== Proof.AdamClaim.lean ====
module

public import proofs.«01_k».proof.Proof.PostClaim
public import proofs.«01_k».proof.Proof.Tiles
public import proofs.«01_k».proof.Proof.Gen.AdamKernelIdeal.Value
public import proofs.«01_k».proof.Proof.Gen.AdamRefIdeal.Run
public import proofs.«01_k».proof.Proof.Gen.ScanRefIdeal.Run

@[expose] public section

set_option maxRecDepth 16384

noncomputable section

/-! The optimiser's step, at an index, and the claims about it; the frame of the recurrence's reference, forward. -/

namespace Cert.AdamKernelIdeal.Step

open Cert.AdamKernelIdeal Cert.AdamKernelIdeal.Gen Cert.AdamKernelIdeal.Value Cert.Num
open Idealize.ShloMosaic Idealize.ShloMosaic.TcCoe Idealize.ShloMosaic.Tactic

/-- The first moment, from the gradient and the old moment. -/
def first (g m : EReal) : EReal :=
  Ideal.ofBits .f32 0x3F666666#32 * m + Ideal.ofBits .f32 0x3DCCCCCD#32 * g

/-- The second moment, from the gradient and the old moment. -/
def second (g v : EReal) : EReal :=
  Ideal.ofBits .f32 0x3F7FBE77#32 * v + Ideal.ofBits .f32 0x3A83126F#32 * (g * g)

/-- The parameter's change. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
      + Ideal.ofBits .f32 0x3C23D70A#32 * w)

theorem zeros : (![0, 0] : Fin 2 → Nat) = fun _ => 0 := funext fun a => by fin_cases a <;> rfl

variable (w g m₁ v : Vec Ideal S128x640 .f32) (r : Fin 128) (l : Fin 640)

theorem first_at : out0_6 w g m₁ v (ix2 r l) = first (g (ix2 r l)) (m₁ (ix2 r l)) := by
  unfold out0_6
  rw [View.canon_cons_unit_zero (S := S128x640) zeros]
  simp only [View.ld_unit_zero (S := S128x640) zeros]
  pointwise [k0_pay2]
  rfl

theorem second_at : out0_7 w g m₁ v (ix2 r l) = second (g (ix2 r l)) (v (ix2 r l)) := by
  unfold out0_7
  rw [View.canon_cons_unit_zero (S := S128x640) zeros]
  simp only [View.ld_unit_zero (S := S128x640) zeros]
  pointwise [k0_pay3]
  rfl

theorem change_at : out0_5 w g m₁ v (ix2 r l) = change (w (ix2 r l)) (g (ix2 r l)) (m₁ (ix2 r l)) (v (ix2 r l)) := by
  unfold out0_5
  rw [View.canon_cons_unit_zero (S := S128x640) zeros]
  simp only [View.ld_unit_zero (S := S128x640) zeros]
  pointwise [k0_pay1, k0_pay2, k0_pay3, k0_pay4, k0_pay5]
  rfl

variable (m : (ℓ : Loc nD τ sig) → Buf (Elt Ideal) ℓ) (c : Dev nD)

/-- Row `r` of tile `t`, of all the rows. -/
def row (t : Fin cfg0.N) (r : Fin 128) : Fin 1024 := ⟨128 * t.val + r.val, by
  have h : t.val < 8 := lt_of_lt_of_eq t.isLt N_0
  omega⟩

theorem rows (i : Fin 1024) : ∃ t r, row t r = i :=
  ⟨⟨i.val / 128, lt_of_lt_of_eq (by omega : i.val / 128 < 8) N_0.symm⟩, ⟨i.val % 128, Nat.mod_lt _ (by norm_num)⟩,
    Fin.ext (Nat.div_add_mod i.val 128)⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem arr_0 (a : Fin 1024) (b : Fin 640) : V m c main_v0 (ix2 a b) = m ((c : Thread nD τ).loc main_arg0) (ix3 0 a b) := by
  unfold V
  after_results_simp
  pointwise

theorem blk_0 (t : Fin cfg0.N) (r : Fin 128) (l : Fin 640) : iblk m c 0 t (ix2 r l) = m ((c : Thread nD τ).loc main_arg0) (ix3 0 (row t r) l) :=
  (show V m c main_v0 (((cfg0.win 0).blk t).view.emb (ix2 r l)) = _ from
    congrArg _ (at_tile (idx t).1 rfl rfl rfl)).trans (arr_0 m c _ _)

theorem blk_1 (t : Fin cfg0.N) (r : Fin 128) (l : Fin 640) : iblk m c 1 t (ix2 r l) = m ((c : Thread nD τ).loc main_arg1) (ix2 (row t r) l) :=
  (show V m c main_arg1 (((cfg0.win 1).blk t).view.emb (ix2 r l)) = _ from
    congrArg _ (at_tile (idx t).2.1 rfl rfl rfl)).trans (congrFun (V_main_arg1 m c) _)

theorem arr_2 (a : Fin 1024) (b : Fin 640) : V m c main_v1 (ix2 a b) = m ((c : Thread nD τ).loc main_arg2) (ix3 0 a b) := by
  unfold V
  after_results_simp
  pointwise

theorem blk_2 (t : Fin cfg0.N) (r : Fin 128) (l : Fin 640) : iblk m c 2 t (ix2 r l) = m ((c : Thread nD τ).loc main_arg2) (ix3 0 (row t r) l) :=
  (show V m c main_v1 (((cfg0.win 2).blk t).view.emb (ix2 r l)) = _ from
    congrArg _ (at_tile (idx t).2.2.1 rfl rfl rfl)).trans (arr_2 m c _ _)

theorem arr_3 (a : Fin 1024) (b : Fin 640) : V m c main_v2 (ix2 a b) = m ((c : Thread nD τ).loc main_arg3) (ix3 0 a b) := by
  unfold V
  after_results_simp
  pointwise

theorem blk_3 (t : Fin cfg0.N) (r : Fin 128) (l : Fin 640) : iblk m c 3 t (ix2 r l) = m ((c : Thread nD τ).loc main_arg3) (ix3 0 (row t r) l) :=
  (show V m c main_v2 (((cfg0.win 3).blk t).view.emb (ix2 r l)) = _ from
    congrArg _ (at_tile (idx t).2.2.2.1 rfl rfl rfl)).trans (arr_3 m c _ _)

theorem new_change (i : Fin 1024) (l : Fin 640) : (dats m 0 c).arrAt 5 cfg0.N (ix2 i l) = change (m ((c : Thread nD τ).loc main_arg0) (ix3 0 i l)) (m ((c : Thread nD τ).loc main_arg1) (ix2 i l)) (m ((c : Thread nD τ).loc main_arg2) (ix3 0 i l)) (m ((c : Thread nD τ).loc main_arg3) (ix3 0 i l)) := by
  obtain ⟨t, r, rfl⟩ := rows i
  have place : ((cfg0.win 5).blk t).view.emb (ix2 r l) = (ix2 (row t r) l : S1024x640.Idx) := at_tile (idx t).2.2.2.2.1 rfl rfl rfl
  refine (congrArg _ place.symm).trans ((congrFun ((blocks5 m c t (flush0_5 t)).trans (flushed5 m c t)) (ix2 r l)).trans ?_)
  refine (change_at _ _ _ _ r l).trans ?_
  simp only [blk_0, blk_1, blk_2, blk_3]

theorem new_first (i : Fin 1024) (l : Fin 640) : (dats m 0 c).arrAt 6 cfg0.N (ix2 i l) = first (m ((c : Thread nD τ).loc main_arg1) (ix2 i l)) (m ((c : Thread nD τ).loc main_arg2) (ix3 0 i l)) := by
  obtain ⟨t, r, rfl⟩ := rows i
  have place : ((cfg0.win 6).blk t).view.emb (ix2 r l) = (ix2 (row t r) l : S1024x640.Idx) := at_tile (idx t).2.2.2.2.2.1 rfl rfl rfl
  refine (congrArg _ place.symm).trans ((congrFun ((blocks6 m c t (flush0_6 t)).trans (flushed6 m c t)) (ix2 r l)).trans ?_)
  refine (first_at _ _ _ _ r l).trans ?_
  simp only [blk_1, blk_2]

theorem new_second (i : Fin 1024) (l : Fin 640) : (dats m 0 c).arrAt 7 cfg0.N (ix2 i l) = second (m ((c : Thread nD τ).loc main_arg1) (ix2 i l)) (m ((c : Thread nD τ).loc main_arg3) (ix3 0 i l)) := by
  obtain ⟨t, r, rfl⟩ := rows i
  have place : ((cfg0.win 7).blk t).view.emb (ix2 r l) = (ix2 (row t r) l : S1024x640.Idx) := at_tile (idx t).2.2.2.2.2.2 rfl rfl rfl
  refine (congrArg _ place.symm).trans ((congrFun ((blocks7 m c t (flush0_7 t)).trans (flushed7 m c t)) (ix2 r l)).trans ?_)
  refine (second_at _ _ _ _ r l).trans ?_
  simp only [blk_1, blk_3]

end Cert.AdamKernelIdeal.Step

namespace Cert.AdamRefIdeal.Step

open Cert.AdamRefIdeal Cert.AdamRefIdeal.Gen
open Idealize.ShloMosaic Idealize.ShloMosaic.TcCoe Idealize.ShloMosaic.Tactic
open Cert.AdamKernelIdeal.Step (first second change)

/-- A constant, at every entry. -/
def every (b : BitVec 32) : FVec Ideal S1024x640 .f32 := broadcastInDim S1024x640 ![] bcast_S_S1024x640 (constant S_ .f32 b)

/-- A stored array, without its leading dimension. -/
def flat (a : FVec Ideal S1x1024x640 .f32) : FVec Ideal S1024x640 .f32 := shapeCast _ a shapeCasts_S1x1024x640_S1024x640

variable (w : FVec Ideal S1x1024x640 .f32) (g : FVec Ideal S1024x640 .f32) (m v : FVec Ideal S1x1024x640 .f32) (i : Fin 1024) (l : Fin 640)

/-- The first moment, as the reference's lines compute it. -/
def newFirst : FVec Ideal S1024x640 .f32 := addf (mulf (every 0x3F666666#32) (flat m)) (mulf (every 0x3DCCCCCD#32) g)

/-- The second moment, as the reference's lines compute it. -/
def newSecond : FVec Ideal S1024x640 .f32 := addf (mulf (every 0x3F7FBE77#32) (flat v)) (mulf (every 0x3A83126F#32) (mulf g g))

/-- The change, from the new moments, as the reference's lines compute it. -/
def newChange (a b : FVec Ideal S1024x640 .f32) : FVec Ideal S1024x640 .f32 :=
  mulf (every 0xBA83126F#32) (addf (Host.divf (Host.divf a (every 0x3F26BD02#32))
    (addf (Host.sqrt (Host.divf b (every 0x3C231ACC#32))) (every 0x322BCC77#32))) (mulf (every 0x3C23D70A#32) (flat w)))

theorem every_at (b : BitVec 32) : every b (ix2 i l) = Ideal.ofBits .f32 b := by
  unfold every
  pointwise

theorem flat_at : flat m (ix2 i l) = m (ix3 0 i l) := by
  unfold flat
  pointwise

theorem newFirst_at : newFirst g m (ix2 i l) = first (g (ix2 i l)) (m (ix3 0 i l)) := by
  show every _ _ * flat m _ + every _ _ * _ = _
  rw [every_at, every_at, flat_at]
  rfl

theorem newSecond_at : newSecond g v (ix2 i l) = second (g (ix2 i l)) (v (ix3 0 i l)) := by
  show every _ _ * flat v _ + every _ _ * (_ * _) = _
  rw [every_at, every_at, flat_at]
  rfl

theorem newChange_at : newChange w (newFirst g m) (newSecond g v) (ix2 i l)
    = change (w (ix3 0 i l)) (g (ix2 i l)) (m (ix3 0 i l)) (v (ix3 0 i l)) := by
  show every _ _ * (Ideal.div (Ideal.div (newFirst g m _) (every _ _))
    (Ideal.sqrt (Ideal.div (newSecond g v _) (every _ _)) + every _ _) + every _ _ * flat w _) = _
  rw [newFirst_at, newSecond_at, flat_at, every_at, every_at, every_at, every_at, every_at]
  rfl

end Cert.AdamRefIdeal.Step

namespace Cert.Proof

open Idealize.ShloMosaic Idealize.ShloMosaic.Tactic Idealize.SL.Sem Cert.Num

theorem scan_frame : Cert.quiescent_ScanRefIdeal := fun m ρ _ =>
  (θ_run Cert.ScanRefIdeal.defs _ _).mono (fun r h => ⟨fun c => (h c).2.2, sem_eq_zero_of_no_sems (by decide) r.2⟩)
    (Cert.ScanRefIdeal.Value.run (F := Ideal) m ρ)

theorem adam_frame : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem adam_algebraic : Cert.algebraic_AdamKernelIdeal_AdamRefIdeal := by
  intro m g m' g' _ harg
  refine ⟨_, _, _, (θ_run Cert.AdamKernelIdeal.defs _ _).mono (fun r h c => (h c).2) (Cert.AdamKernelIdeal.Value.run_blocks m g), ?_⟩
  refine (θ_run Cert.AdamRefIdeal.defs _ _).mono (fun r h c => ?_) (Cert.AdamRefIdeal.Value.run (F := Ideal) m' g')
  obtain ⟨e0, e1, e2, e3⟩ := harg c
  obtain ⟨h0, h1, h2, hrest⟩ := h c
  rw [e0, e1, e2, e3] at h0
  rw [e1, e2] at h1
  rw [e1, e3] at h2
  refine ⟨h0.trans ?_, h1.trans ?_, h2.trans ?_, hrest⟩
  · funext j
    obtain ⟨i, l, rfl⟩ := ix2_of (a := 1024) (b := 640) j
    exact (Cert.AdamRefIdeal.Step.newChange_at _ _ _ _ i l).trans (Cert.AdamKernelIdeal.Step.new_change m c i l).symm
  · funext j
    obtain ⟨i, l, rfl⟩ := ix2_of (a := 1024) (b := 640) j
    exact (Cert.AdamRefIdeal.Step.newFirst_at _ _ i l).trans (Cert.AdamKernelIdeal.Step.new_first m c i l).symm
  · funext j
    obtain ⟨i, l, rfl⟩ := ix2_of (a := 1024) (b := 640) j
    exact (Cert.AdamRefIdeal.Step.newSecond_at _ _ i l).trans (Cert.AdamKernelIdeal.Step.new_second m c i l).symm

end Cert.Proof
-- ==== Proof.Wgrad.lean ====
module

public import proofs.«01_k».proof.Proof.Tiles
public import proofs.«01_k».proof.Proof.PostClaim
public import proofs.«01_k».proof.Proof.Gen.WdownKernelIdeal.Value
public import proofs.«01_k».proof.Proof.Gen.WdownRefIdeal.Run

@[expose] public section

set_option maxRecDepth 16384

noncomputable section

/-! The gradient of the feed-forward's last weight. -/

namespace Cert.Num

open Idealize.ShloMosaic Idealize.ShloMosaic.Tactic

theorem ix3_of {a b c : ℕ} (j : (⟨3, ![a, b, c]⟩ : Shape).Idx) : ∃ (i : Fin a) (k : Fin b) (l : Fin c), j = ix3 i k l :=
  ⟨j 0, j 1, j 2, by funext k; match k with | ⟨0, _⟩ => rfl | ⟨1, _⟩ => rfl | ⟨2, _⟩ => rfl⟩

/-- A factor that is a number, not negative, goes into a sum. -/
theorem half_sum {n : ℕ} (f : Fin n → EReal) : Ideal.ofBits .f32 0x3F000000#32 * ∑ k, f k = ∑ k, Ideal.ofBits .f32 0x3F000000#32 * f k := by
  rw [lit_half]
  refine Finset.induction_on (Finset.univ : Finset (Fin n)) (by simp) fun k S hk ih => ?_
  rw [Finset.sum_insert hk, Finset.sum_insert hk, ← ih]
  exact EReal.left_distrib_of_nonneg_of_ne_top (EReal.coe_nonneg.mpr (by norm_num)) (EReal.coe_ne_top _) _ _

end Cert.Num

namespace Cert.WdownKernelIdeal.Step

open Cert.WdownKernelIdeal Cert.WdownKernelIdeal.Gen Cert.WdownKernelIdeal.Value Cert.Num
open Idealize.ShloMosaic Idealize.ShloMosaic.TcCoe Idealize.ShloMosaic.Tactic

theorem hz : (![0, 0] : Fin 2 → Nat) = fun _ => 0 := funext fun a => by fin_cases a <;> rfl

variable (m : (ℓ : Loc nD τ sig) → Buf (Elt Ideal) ℓ) (c : Dev nD) (t : Fin cfg0.N)

/-- The scratch after the first half of the tokens. -/
theorem first (h0 : t.val % 2 = 0) : (outsAt0 m c t.val t.isLt).2 = k0_pay2 k0_pay1 (iblk m c 0 t) (iblk m c 1 t) := by
  rw [outsAt0_A m c t h0 (by omega)]
  dsimp only
  unfold sout0_A_0
  simp only [View.read_writes_junk_eq_canon]
  unfold kernelRun0_A
  dsimp only
  sl_unfold_words
  rw [View.canon_cons_unit_zero (S := S1408x1024) hz]
  simp only [View.readCov_ld, View.canon_cons_unit_zero (S := S1408x1024) hz, View.readAt_eq_ld, Memref.IsWhole.read_unread,
    View.ld_unit_zero (S := S1408x1024) hz, View.ld_unit_zero (S := S2048x1408) hz, View.ld_unit_zero (S := S2048x1024) hz]

/-- One of the two shards that a tile holds, of the whole sum's. -/
theorem later (h1 : t.val % 2 = 1) (s : Fin 2) (a : Fin 704) (b : Fin 1024) (p)
    (hp : outsAt0 m c (t.val - 1) (Nat.lt_of_le_of_lt (Nat.sub_le _ _) t.isLt) = p) : (outsAt0 m c t.val t.isLt).1 (ix3 s a b)
      = k0_pay2 p.2 (iblk m c 0 t) (iblk m c 1 t) (ix2 (⟨704 * s.val + a.val, by omega⟩ : Fin 1408) b) * Ideal.ofBits .f32 0x3F000000#32 := by
  rw [outsAt0_B m c t (by omega) h1, hp]
  dsimp only
  unfold out0_B_2
  simp only [View.read_writes_junk_eq_canon]
  unfold kernelRun0_B
  dsimp only
  sl_unfold_words
  simp only [View.readCov_ld, View.canon_cons_unit_zero (S := S1408x1024) hz, View.readAt_eq_ld, Memref.IsWhole.read_unread,
    View.ld_unit_zero (S := S1408x1024) hz, View.ld_unit_zero (S := S2048x1408) hz, View.ld_unit_zero (S := S2048x1024) hz]
  rw [show View.read (Elt Ideal) (View.whole cc0_scratch0) ((Memref.isWhole_whole cc0_scratch0).unread p.2) = p.2 from
    Memref.IsWhole.read_unread _ _]
  generalize k0_pay2 p.2 (iblk m c 0 t) (iblk m c 1 t) = f
  refine View.canon_eq_of_allAt _ _ _ (View.cover_of_tiledL _ ![1, 704, 1024] (by sl_kernel_rfl) _) ?_
  refine View.allAt_cons_unit _ _ _ _ _ (fun x hx => ?_) (View.allAt_cons_unit _ _ _ _ _ (fun x hx => ?_) (View.allAt_nil _ _)) <;>
    obtain ⟨z, a', b', rfl⟩ := ix3_of (a := 1) (b := 704) (c := 1024) x <;>
    have e0 := hx 0 <;> have e1 := hx 1 <;> have e2 := hx 2
  · have hs : s.val = 1 := by change s.val = 1 + z.val at e0; omega
    have ha : a = a' := Fin.ext (by change a.val = 0 + a'.val at e1; omega)
    have hb : b = b' := Fin.ext (by change b.val = 0 + b'.val at e2; omega)
    subst ha hb
    pointwise [k0_pay4]
    exact congrArg (fun q => f q * _) (congrArg (fun q => ix2 q b) (Fin.ext (by show 704 + a.val = 704 * s.val + a.val; omega)))
  · have hs : s.val = 0 := by change s.val = 0 + z.val at e0; omega
    have ha : a = a' := Fin.ext (by change a.val = 0 + a'.val at e1; omega)
    have hb : b = b' := Fin.ext (by change b.val = 0 + b'.val at e2; omega)
    subst ha hb
    pointwise [k0_pay3]
    exact congrArg (fun q => f q * _) (congrArg (fun q => ix2 q b) (Fin.ext (by show a.val = 704 * s.val + a.val; omega)))

/-- The products of two columns' entries. -/
def each {n : ℕ} (A B : Fin n → EReal) (k : Fin n) : EReal := A k * B k

/-- Half of the product of two columns. -/
def prods (A B : Fin 4096 → EReal) : EReal := (∑ k, each A B k) * Ideal.ofBits .f32 0x3F000000#32

/-- Token `r` of the half that point `t` takes. -/
def tok (r : Fin 2048) : Fin 4096 := ⟨2048 * (t.val % 2) + r.val, by omega⟩

theorem idx : ∀ t : Fin cfg0.N, (win0_0.index t (0 : Fin 2) = t.val % 2 ∧ win0_0.index t (1 : Fin 2) = t.val / 2)
    ∧ (win0_1.index t (0 : Fin 2) = t.val % 2 ∧ win0_1.index t (1 : Fin 2) = 0)
    ∧ win0_2.index t (0 : Fin 3) = t.val / 2 ∧ win0_2.index t (1 : Fin 3) = 0 ∧ win0_2.index t (2 : Fin 3) = 0 :=
  (by decide +kernel : ∀ t : Fin grid0.N, _)

theorem blk_0 (r : Fin 2048) (a : Fin 1408) (i : Fin 2816) (hi : i.val = 1408 * (t.val / 2) + a.val) :
    iblk m c 0 t (ix2 r a) = m ((c : Thread nD τ).loc main_arg0) (ix2 (tok t r) i) := by
  obtain ⟨e0, e1⟩ := (idx t).1
  refine (show V m c main_arg0 (((cfg0.win 0).blk t).view.emb (ix2 r a)) = _ from congrArg _ ?_).trans (congrFun (V_main_arg0 m c) _)
  funext k
  apply Fin.ext
  match k with
  | ⟨0, _⟩ => show win0_0.index t (0 : Fin 2) * 2048 + 1 * r.val = 2048 * (t.val % 2) + r.val; omega
  | ⟨1, _⟩ => show win0_0.index t (1 : Fin 2) * 1408 + 1 * a.val = i.val; omega

theorem arr_1 (k : Fin 4096) (b : Fin 1024) : V m c main_v0 (ix2 k b) = m ((c : Thread nD τ).loc main_arg1) (ix2 k b) := by
  unfold V
  after_results_simp
  pointwise

theorem blk_1 (r : Fin 2048) (b : Fin 1024) : iblk m c 1 t (ix2 r b) = m ((c : Thread nD τ).loc main_arg1) (ix2 (tok t r) b) :=
  (show V m c main_v0 (((cfg0.win 1).blk t).view.emb (ix2 r b)) = _ from congrArg _ (at_tile (idx t).2.1 rfl rfl rfl)).trans (arr_1 m c _ _)

/-- What a point adds to the scratch. -/
theorem pay_at (acc : Vec Ideal S1408x1024 .f32) (a : Fin 1408) (b : Fin 1024) (i : Fin 2816) (hi : i.val = 1408 * (t.val / 2) + a.val) :
    k0_pay2 acc (iblk m c 0 t) (iblk m c 1 t) (ix2 a b) = acc (ix2 a b) + ∑ r : Fin 2048,
      tot (each (fun k => m ((c : Thread nD τ).loc main_arg0) (ix2 k i)) (fun k => m ((c : Thread nD τ).loc main_arg1) (ix2 k b))) (2048 * (t.val % 2) + r.val) := by
  refine (show _ = acc (ix2 a b) + ∑ r : Fin 2048, each (fun r => iblk m c 0 t (ix2 r a)) (fun r => iblk m c 1 t (ix2 r b)) r from by
    pointwise [k0_pay2, each]).trans ?_
  refine congrArg _ (Finset.sum_congr rfl fun r _ => ?_)
  refine Eq.trans ?_ (tot_of _ (tok t r) _ rfl).symm
  unfold each
  dsimp only
  rw [blk_0 m c t r a i hi, blk_1]

theorem zero_at (a : Fin 1408) (b : Fin 1024) : k0_pay1 (F := Ideal) (ix2 a b) = 0 := by
  pointwise [k0_pay1]

/-- The result at an index. -/
theorem result_at (j : Fin 4) (a : Fin 704) (b : Fin 1024) (i : Fin 2816) (hi : i.val = 704 * j.val + a.val) :
    (dats m 0 c).arrAt 2 cfg0.N (ix3 j a b)
      = prods (fun k => m ((c : Thread nD τ).loc main_arg0) (ix2 k i)) (fun k => m ((c : Thread nD τ).loc main_arg1) (ix2 k b)) := by
  have hN : cfg0.N = 4 := N_0
  let t : Fin cfg0.N := ⟨2 * (j.val / 2) + 1, by omega⟩
  have ht : t.val = 2 * (j.val / 2) + 1 := rfl
  let u : Fin cfg0.N := ⟨2 * (j.val / 2), by omega⟩
  let s : Fin 2 := ⟨j.val % 2, by omega⟩
  have place : ((cfg0.win 2).blk t).view.emb (ix3 s a b) = (ix3 j a b : S4x704x1024.Idx) := by
    obtain ⟨e0, e1, e2⟩ := (idx t).2.2
    funext k
    apply Fin.ext
    match k with
    | ⟨0, _⟩ => show win0_2.index t (0 : Fin 3) * 2 + 1 * (j.val % 2) = j.val; omega
    | ⟨1, _⟩ => show win0_2.index t (1 : Fin 3) * 704 + 1 * a.val = a.val; omega
    | ⟨2, _⟩ => show win0_2.index t (2 : Fin 3) * 1024 + 1 * b.val = b.val; omega
  refine (congrArg _ place.symm).trans ((congrFun (final2 m c) _).trans ?_)
  refine (congrFun ((flushed2_eq m c t ((flush0_2 t).mpr (by omega))).symm.trans (flushed2 m c t)) (ix3 s a b)).trans ?_
  refine (later m c t (by omega) s a b _ rfl).trans ?_
  have hu : outsAt0 m c (t.val - 1) (Nat.lt_of_le_of_lt (Nat.sub_le _ _) t.isLt) = outsAt0 m c u.val u.isLt := rfl
  have hq : i.val = 1408 * (j.val / 2) + (704 * (j.val % 2) + a.val) := by omega
  rw [hu, first m c u (by show 2 * (j.val / 2) % 2 = 0; omega), pay_at m c t _ _ b i (by rw [ht]; show _ = _ + (704 * (j.val % 2) + a.val); omega),
    pay_at m c u _ _ b i (by show _ = 1408 * (2 * (j.val / 2) / 2) + (704 * (j.val % 2) + a.val); omega)]
  unfold prods
  rw [← sum_tiles 2 2048 _ rfl, Finset.sum_range_succ, Finset.sum_range_one, show t.val % 2 = 1 by omega, show u.val % 2 = 0 from by show 2 * (j.val / 2) % 2 = 0; omega]
  refine congrArg (fun z => z * Ideal.ofBits .f32 0x3F000000#32) (congrArg (fun z => z + _) ?_)
  exact (congrArg (fun z => z + _) (zero_at _ b)).trans (zero_add _)

end Cert.WdownKernelIdeal.Step

namespace Cert.WdownRefIdeal.Step

open Cert.WdownRefIdeal Cert.WdownRefIdeal.Gen Cert.Num
open Cert.WdownKernelIdeal.Step (prods each)
open Idealize.ShloMosaic Idealize.ShloMosaic.TcCoe Idealize.ShloMosaic.Tactic

/-- The product's derivative, as the reference's lines compute it. -/
def grad (h : FVec Ideal S4096x2816 .bf16) (y : FVec Ideal S4096x1024 .f32) : FVec Ideal S4x704x1024 .bf16 :=
  truncf .bf16 (shapeCast _ (transpose S2816x1024 [1, 0] (Host.dotGeneral dot_S4096x1024_S4096x2816_S1024x2816_0_0_1_1_n_n none
    (mulf (broadcastInDim S4096x1024 ![] bcast_S_S4096x1024 (constant S_ .f32 0x3F000000#32)) y)
    (extf .f32 h bitsLt_bf16_f32)) transposes_S1024x2816_S2816x1024_1_0) shapeCasts_S2816x1024_S4x704x1024) bitsLt_bf16_f32

theorem grad_at (h : FVec Ideal S4096x2816 .bf16) (y : FVec Ideal S4096x1024 .f32) (j : Fin 4) (a : Fin 704) (b : Fin 1024)
    (i : Fin 2816) (hi : i.val = 704 * j.val + a.val) : grad h y (ix3 j a b) = prods (fun k => h (ix2 k i)) (fun k => y (ix2 k b)) := by
  unfold prods
  rw [mul_comm, half_sum]
  pointwise [grad, each]
  refine Finset.sum_congr rfl fun k _ => ?_
  rw [mul_assoc, mul_comm (y _)]
  exact congrArg (fun q => _ * (h (ix2 k q) * _)) (Fin.ext (by show j.val * 704 + a.val = i.val; omega))

end Cert.WdownRefIdeal.Step

namespace Cert.Proof

open Idealize.ShloMosaic Idealize.ShloMosaic.Tactic Idealize.SL.Sem Cert.Num

theorem wdown_frame : Cert.quiescent_WdownRefIdeal := fun m ρ _ =>
  (θ_run Cert.WdownRefIdeal.defs _ _).mono (fun r h => ⟨fun c => (h c).2, sem_eq_zero_of_no_sems (by decide) r.2⟩)
    (Cert.WdownRefIdeal.Value.run (F := Ideal) m ρ)

theorem wdown_algebraic : Cert.algebraic_WdownKernelIdeal_WdownRefIdeal := by
  intro m g m' g' _ harg
  refine ⟨_, Cert.WdownKernelIdeal.Value.run_blocks m g, ?_⟩
  refine (θ_run Cert.WdownRefIdeal.defs _ _).mono (fun r h c => ?_) (Cert.WdownRefIdeal.Value.run (F := Ideal) m' g')
  obtain ⟨e0, e1⟩ := harg c
  refine ⟨(h c).1.trans ?_, (h c).2⟩
  rw [e0, e1]
  funext q
  obtain ⟨j, a, b, rfl⟩ := ix3_of (a := 4) (b := 704) (c := 1024) q
  exact (Cert.WdownRefIdeal.Step.grad_at _ _ j a b ⟨704 * j.val + a.val, by omega⟩ rfl).trans
    (Cert.WdownKernelIdeal.Step.result_at m c j a b _ rfl).symm

end Cert.Proof
-- ==== Proof.WgradWhole.lean ====
module

public import proofs.«01_k».proof.Proof.Wgrad
public import proofs.«01_k».proof.Proof.Gen.WinKernelIdeal.Value
public import proofs.«01_k».proof.Proof.Gen.WinRefIdeal.Run

@[expose] public section

set_option maxRecDepth 16384

noncomputable section

/-! The gradient of the mixing block's projection. -/

namespace Cert.WinKernelIdeal.Step

open Cert.WinKernelIdeal Cert.WinKernelIdeal.Gen Cert.WinKernelIdeal.Value Cert.Num
open Cert.WdownKernelIdeal.Step (each hz)
open Idealize.ShloMosaic Idealize.ShloMosaic.TcCoe Idealize.ShloMosaic.Tactic

/-- Five rows side by side. -/
def five (X0 X1 X2 X3 X4 : Fin 512 → EReal) (b : Fin 2560) : EReal :=
  if h : b.val < 512 then X0 ⟨b.val, h⟩
  else if h : b.val - 512 < 512 then X1 ⟨b.val - 512, h⟩
  else if h : b.val - 512 - 512 < 512 then X2 ⟨b.val - 512 - 512, h⟩
  else if h : b.val - 512 - 512 - 512 < 512 then X3 ⟨b.val - 512 - 512 - 512, h⟩
  else X4 ⟨b.val - 512 - 512 - 512 - 512, by omega⟩

variable (m : (ℓ : Loc nD τ sig) → Buf (Elt Ideal) ℓ) (c : Dev nD) (t : Fin cfg0.N)

/-- The scratch after a point, over what it held. -/
def more (acc : FVec Ideal S1024x2560 .f32) : FVec Ideal S1024x2560 .f32 :=
  k0_pay2 acc (iblk m c 0 t) (iblk m c 1 t) (iblk m c 2 t) (iblk m c 3 t) (iblk m c 4 t) (iblk m c 5 t)

theorem first (h0 : t.val % 4 = 0) : (outsAt0 m c t.val t.isLt).2 = more m c t k0_pay1 := by
  rw [outsAt0_A m c t h0 (by omega)]
  dsimp only
  unfold sout0_A_0
  simp only [View.read_writes_junk_eq_canon]
  unfold kernelRun0_A
  dsimp only
  sl_unfold_words
  rw [View.canon_cons_unit_zero (S := S1024x2560) hz]
  simp only [View.readCov_ld, View.canon_cons_unit_zero (S := S1024x2560) hz, View.readAt_eq_ld, Memref.IsWhole.read_unread,
    View.ld_unit_zero (S := S1024x2560) hz, View.ld_unit_zero (S := S1024x1024) hz, View.ld_unit_zero (S := S1024x512) hz]
  rfl

theorem mid (h0 : ¬ t.val % 4 = 0) (h1 : ¬ t.val % 4 = 3) (p)
    (hp : outsAt0 m c (t.val - 1) (Nat.lt_of_le_of_lt (Nat.sub_le _ _) t.isLt) = p) : (outsAt0 m c t.val t.isLt).2 = more m c t p.2 := by
  rw [outsAt0_B m c t h0 h1, hp]
  dsimp only
  unfold sout0_B_0
  simp only [View.read_writes_junk_eq_canon]
  unfold kernelRun0_B
  dsimp only
  sl_unfold_words
  rw [View.canon_cons_unit_zero (S := S1024x2560) hz]
  simp only [View.readAt_eq_ld, Memref.IsWhole.read_unread,
    View.ld_unit_zero (S := S1024x2560) hz, View.ld_unit_zero (S := S1024x1024) hz, View.ld_unit_zero (S := S1024x512) hz]
  rw [show View.read (Elt Ideal) (View.whole cc0_scratch0) ((Memref.isWhole_whole cc0_scratch0).unread p.2) = p.2 from
    Memref.IsWhole.read_unread _ _]
  rfl

/-- One shard's columns of the whole sum. -/
theorem later (h1 : t.val % 4 = 3) (j : Fin 4) (a : Fin 1024) (b : Fin 640) (p)
    (hp : outsAt0 m c (t.val - 1) (Nat.lt_of_le_of_lt (Nat.sub_le _ _) t.isLt) = p) :
    (outsAt0 m c t.val t.isLt).1 (ix3 j a b) = more m c t p.2 (ix2 a (⟨j.val * 640 + b.val, by omega⟩ : Fin 2560)) := by
  rw [outsAt0_C m c t (by omega) h1, hp]
  dsimp only
  unfold out0_C_6
  simp only [View.read_writes_junk_eq_canon]
  unfold kernelRun0_C
  dsimp only
  sl_unfold_words
  simp only [View.readCov_ld, View.canon_cons_unit_zero (S := S1024x2560) hz, View.readAt_eq_ld, Memref.IsWhole.read_unread,
    View.ld_unit_zero (S := S1024x2560) hz, View.ld_unit_zero (S := S1024x1024) hz, View.ld_unit_zero (S := S1024x512) hz]
  rw [show View.read (Elt Ideal) (View.whole cc0_scratch0) ((Memref.isWhole_whole cc0_scratch0).unread p.2) = p.2 from
    Memref.IsWhole.read_unread _ _]
  change _ = k0_pay2 p.2 (iblk m c 0 t) (iblk m c 1 t) (iblk m c 2 t) (iblk m c 3 t) (iblk m c 4 t) (iblk m c 5 t) _
  generalize k0_pay2 p.2 (iblk m c 0 t) (iblk m c 1 t) (iblk m c 2 t) (iblk m c 3 t) (iblk m c 4 t) (iblk m c 5 t) = f
  refine View.canon_eq_of_allAt _ _ _ (View.cover_of_tiledL _ ![1, 1024, 640] (by sl_kernel_rfl) _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _)))) <;>
    obtain ⟨z, a', b', rfl⟩ := ix3_of (a := 1) (b := 1024) (c := 640) x <;>
    have e0 := hx 0 <;> have e1 := hx 1 <;> have e2 := hx 2 <;>
    obtain rfl : a = a' := Fin.ext (e1.trans (Nat.zero_add _)) <;>
    obtain rfl : b = b' := Fin.ext (e2.trans (Nat.zero_add _))
  · have hs : j.val = 3 + z.val := e0
    pointwise [k0_pay6]
    exact congrArg (fun q => f (ix2 a q)) (Fin.ext (by show 1920 + b.val = j.val * 640 + b.val; omega))
  · have hs : j.val = 2 + z.val := e0
    pointwise [k0_pay5]
    exact congrArg (fun q => f (ix2 a q)) (Fin.ext (by show 1280 + b.val = j.val * 640 + b.val; omega))
  · have hs : j.val = 1 + z.val := e0
    pointwise [k0_pay4]
    exact congrArg (fun q => f (ix2 a q)) (Fin.ext (by show 640 + b.val = j.val * 640 + b.val; omega))
  · have hs : j.val = 0 + z.val := e0
    pointwise [k0_pay3]
    exact congrArg (fun q => f (ix2 a q)) (Fin.ext (by show b.val = j.val * 640 + b.val; omega))

theorem pay (acc : FVec Ideal S1024x2560 .f32) (x : Vec Ideal S1024x1024 .bf16) (y0 y1 y2 y3 y4 : Vec Ideal S1024x512 .bf16) (a : Fin 1024)
    (b : Fin 2560) : k0_pay2 acc x y0 y1 y2 y3 y4 (ix2 a b) = acc (ix2 a b) + ∑ r : Fin 1024, each (fun r => x (ix2 r a)) (fun r =>
      five (fun l => y0 (ix2 r l)) (fun l => y1 (ix2 r l)) (fun l => y2 (ix2 r l)) (fun l => y3 (ix2 r l)) (fun l => y4 (ix2 r l)) b) r := by
  pointwise [k0_pay2, each, five]

/-- Token `r` of those that point `t` takes. -/
def tok (r : Fin 1024) : Fin 4096 := ⟨1024 * t.val + r.val, by
  have h : t.val < 4 := lt_of_lt_of_eq t.isLt N_0
  omega⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ win0_6.index t (0 : Fin 3) = 0 ∧ win0_6.index t (1 : Fin 3) = 0 ∧ win0_6.index t (2 : Fin 3) = 0 :=
  (by decide +kernel : ∀ t : Fin grid0.N, _)

theorem blk_0 (r a : Fin 1024) : iblk m c 0 t (ix2 r a) = m ((c : Thread nD τ).loc main_arg0) (ix2 (tok t r) a) :=
  (congrArg (V m c main_arg0) (at_tile (idx t).1 rfl rfl rfl)).trans (congrFun (V_main_arg0 m c) _)

theorem blks (r : Fin 1024) (l : Fin 512) : iblk m c 1 t (ix2 r l) = m ((c : Thread nD τ).loc main_arg1) (ix2 (tok t r) l)
    ∧ iblk m c 2 t (ix2 r l) = m ((c : Thread nD τ).loc main_arg2) (ix2 (tok t r) l)
    ∧ iblk m c 3 t (ix2 r l) = m ((c : Thread nD τ).loc main_arg3) (ix2 (tok t r) l)
    ∧ iblk m c 4 t (ix2 r l) = m ((c : Thread nD τ).loc main_arg4) (ix2 (tok t r) l)
    ∧ iblk m c 5 t (ix2 r l) = m ((c : Thread nD τ).loc main_arg5) (ix2 (tok t r) l) := by
  refine ⟨(congrArg (V m c main_v0) (at_tile (i := tok t r) (l := l) (idx t).2.1 rfl rfl rfl)).trans ?_,
    (congrArg (V m c main_v1) (at_tile (i := tok t r) (l := l) (idx t).2.2.1 rfl rfl rfl)).trans ?_,
    (congrArg (V m c main_v2) (at_tile (i := tok t r) (l := l) (idx t).2.2.2.1 rfl rfl rfl)).trans ?_,
    (congrArg (V m c main_v3) (at_tile (i := tok t r) (l := l) (idx t).2.2.2.2.1 rfl rfl rfl)).trans ?_,
    (congrArg (V m c main_v4) (at_tile (i := tok t r) (l := l) (idx t).2.2.2.2.2.1 rfl rfl rfl)).trans ?_⟩ <;>
  · unfold V
    after_results_simp
    pointwise

/-- The products that an entry sums. -/
def prods (a : Fin 1024) (b : Fin 2560) : Fin 4096 → EReal :=
  each (fun k => m ((c : Thread nD τ).loc main_arg0) (ix2 k a)) fun k => five (fun l => m ((c : Thread nD τ).loc main_arg1) (ix2 k l))
    (fun l => m ((c : Thread nD τ).loc main_arg2) (ix2 k l)) (fun l => m ((c : Thread nD τ).loc main_arg3) (ix2 k l))
    (fun l => m ((c : Thread nD τ).loc main_arg4) (ix2 k l)) (fun l => m ((c : Thread nD τ).loc main_arg5) (ix2 k l)) b

theorem more_at (acc : FVec Ideal S1024x2560 .f32) (a : Fin 1024) (b : Fin 2560) :
    more m c t acc (ix2 a b) = acc (ix2 a b) + ∑ r : Fin 1024, tot (prods m c a b) (1024 * t.val + r.val) := by
  refine (pay acc _ _ _ _ _ _ a b).trans (congrArg _ (Finset.sum_congr rfl fun r _ => ?_))
  refine Eq.trans ?_ (tot_of _ (tok t r) _ rfl).symm
  unfold prods each
  simp only [blk_0, blks]

/-- The scratch after a point that is not the last. -/
theorem sum_at (a : Fin 1024) (b : Fin 2560) : ∀ (n : ℕ) (h : n < cfg0.N), n < 3 →
    (outsAt0 m c n h).2 (ix2 a b) = ∑ s ∈ Finset.range (n + 1), ∑ r : Fin 1024, tot (prods m c a b) (1024 * s + r.val)
  | 0, h, _ => by
    rw [show outsAt0 m c 0 h = outsAt0 m c (⟨0, h⟩ : Fin cfg0.N).val h from rfl, first m c ⟨0, h⟩ rfl, more_at, Finset.sum_range_one]
    refine (congrArg (fun z => z + _) (?_ : k0_pay1 (F := Ideal) (ix2 a b) = 0)).trans (zero_add _)
    pointwise [k0_pay1]
  | n + 1, h, hn => by
    rw [show outsAt0 m c (n + 1) h = outsAt0 m c (⟨n + 1, h⟩ : Fin cfg0.N).val h from rfl,
      mid m c ⟨n + 1, h⟩ (by show ¬(n + 1) % 4 = 0; omega) (by show ¬(n + 1) % 4 = 3; omega) _ rfl, more_at, Finset.sum_range_succ]
    exact congrArg (fun z => z + _) (sum_at a b n (Nat.lt_of_succ_lt h) (by omega))

/-- The result at an index. -/
theorem result_at (j : Fin 4) (a : Fin 1024) (b : Fin 640) :
    (dats m 0 c).arrAt 6 cfg0.N (ix3 j a b) = ∑ k, prods m c a ⟨j.val * 640 + b.val, by omega⟩ k := by
  have hN : cfg0.N = 4 := N_0
  let t : Fin cfg0.N := ⟨3, by omega⟩
  have place : ((cfg0.win 6).blk t).view.emb (ix3 j a b) = (ix3 j a b : S4x1024x640.Idx) := by
    obtain ⟨e0, e1, e2⟩ := (idx t).2.2.2.2.2.2
    funext k
    apply Fin.ext
    match k with
    | ⟨0, _⟩ => show win0_6.index t (0 : Fin 3) * 4 + 1 * j.val = j.val; omega
    | ⟨1, _⟩ => show win0_6.index t (1 : Fin 3) * 1024 + 1 * a.val = a.val; omega
    | ⟨2, _⟩ => show win0_6.index t (2 : Fin 3) * 640 + 1 * b.val = b.val; omega
  refine (congrArg _ place.symm).trans ((congrFun (final6 m c) _).trans ?_)
  refine (congrFun ((flushed6_eq m c t ((flush0_6 t).mpr rfl)).symm.trans (flushed6 m c t)) (ix3 j a b)).trans ?_
  refine (later m c t rfl j a b _ rfl).trans ?_
  have h2 : 2 < cfg0.N := by omega
  rw [show outsAt0 m c (t.val - 1) (Nat.lt_of_le_of_lt (Nat.sub_le _ _) t.isLt) = outsAt0 m c 2 h2 from rfl, more_at,
    sum_at m c a _ 2 h2 (by norm_num), ← sum_tiles 4 1024 _ rfl, Finset.sum_range_succ _ 3]

end Cert.WinKernelIdeal.Step

namespace Cert.WinRefIdeal.Step

open Cert.WinRefIdeal Cert.WinRefIdeal.Gen Cert.Num
open Cert.WdownKernelIdeal.Step (each)
open Cert.WinKernelIdeal.Step (five)
open Idealize.ShloMosaic Idealize.ShloMosaic.TcCoe Idealize.ShloMosaic.Tactic

/-- The product's derivative, as the reference's lines compute it. -/
def grad (h : FVec Ideal S4096x1024 .bf16) (y1 y2 y3 y4 y5 : FVec Ideal S4096x512 .f32) : FVec Ideal S4x1024x640 .bf16 :=
  truncf .bf16 (transpose S4x1024x640 [1, 0, 2] (shapeCast _ (transpose S1024x2560 [1, 0] (Host.dotGeneral
    dot_S4096x2560_S4096x1024_S2560x1024_0_0_1_1_n_n none (concatenate S4096x2560 1 [⟨S4096x512, y1⟩, ⟨S4096x512, y2⟩, ⟨S4096x512, y3⟩,
      ⟨S4096x512, y4⟩, ⟨S4096x512, y5⟩] concatenates_S4096x512_S4096x512_S4096x512_S4096x512_S4096x512_S4096x2560_d1 : FVec Ideal S4096x2560 .f32)
    (extf .f32 h bitsLt_bf16_f32)) transposes_S2560x1024_S1024x2560_1_0) shapeCasts_S1024x2560_S1024x4x640)
    transposes_S1024x4x640_S4x1024x640_1_0_2) bitsLt_bf16_f32

theorem grad_at (h : FVec Ideal S4096x1024 .bf16) (y1 y2 y3 y4 y5 : FVec Ideal S4096x512 .f32) (j : Fin 4) (a : Fin 1024) (b : Fin 640) :
    grad h y1 y2 y3 y4 y5 (ix3 j a b) = ∑ k, each (fun k => h (ix2 k a)) (fun k => five (fun l => y1 (ix2 k l)) (fun l => y2 (ix2 k l))
      (fun l => y3 (ix2 k l)) (fun l => y4 (ix2 k l)) (fun l => y5 (ix2 k l)) ⟨j.val * 640 + b.val, by omega⟩) k := by
  unfold each
  simp only [mul_comm (h _)]
  pointwise [grad, five]

end Cert.WinRefIdeal.Step

namespace Cert.Proof

open Idealize.ShloMosaic Idealize.ShloMosaic.Tactic Idealize.SL.Sem Cert.Num

theorem win_frame : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem win_algebraic : Cert.algebraic_WinKernelIdeal_WinRefIdeal := by
  intro m g m' g' _ harg
  refine ⟨_, Cert.WinKernelIdeal.Value.run_blocks m g, ?_⟩
  refine (θ_run Cert.WinRefIdeal.defs _ _).mono (fun r h c => ?_) (Cert.WinRefIdeal.Value.run (F := Ideal) m' g')
  obtain ⟨e0, e1, e2, e3, e4, e5⟩ := harg c
  refine ⟨(h c).1.trans ?_, (h c).2⟩
  rw [e0, e1, e2, e3, e4, e5]
  funext q
  obtain ⟨j, a, b, rfl⟩ := ix3_of (a := 4) (b := 1024) (c := 640) q
  exact (Cert.WinRefIdeal.Step.grad_at _ _ _ _ _ _ j a b).trans (Cert.WinKernelIdeal.Step.result_at m c j a b).symm

end Cert.Proof
-- ==== Proof.Down.lean ====
module

public import proofs.«01_k».proof.Proof.Tiles
public import proofs.«01_k».proof.Proof.PostClaim
public import proofs.«01_k».proof.Proof.Gen.DownKernelIdeal.Value
public import proofs.«01_k».proof.Proof.Gen.DownRefIdeal.Run

@[expose] public section

set_option maxRecDepth 16384

noncomputable section

/-! The feed-forward's last product, onto what the block was given. -/

namespace Cert.DownKernelIdeal.Step

open Cert.DownKernelIdeal Cert.DownKernelIdeal.Gen Cert.DownKernelIdeal.Value Cert.Num
open Idealize.ShloMosaic Idealize.ShloMosaic.TcCoe Idealize.ShloMosaic.Tactic

/-- A row of the result: what the block was given, and half of the product. -/
def summed (X : Fin 1024 → EReal) (H : Fin 2816 → EReal) (W : Fin 2816 → Fin 1024 → EReal) (l : Fin 1024) : EReal :=
  X l + Ideal.ofBits .f32 0x3F000000#32 * ∑ k : Fin 2816, H k * W k l

/-- One tile's block. -/
theorem tile_at (x : Vec Ideal S512x1024 .f32) (h : Vec Ideal S512x2816 .bf16) (w : Vec Ideal S2816x1024 .bf16) (r : Fin 512) (l : Fin 1024) :
    out0_3 x h w (ix2 r l) = summed (fun l => x (ix2 r l)) (fun k => h (ix2 r k)) (fun a b => w (ix2 a b)) l := by
  have hz : (![0, 0] : Fin 2 → Nat) = fun _ => 0 := funext fun a => by fin_cases a <;> rfl
  unfold out0_3
  rw [View.canon_cons_unit_zero (S := S512x1024) hz]
  simp only [View.ld_unit_zero (S := S512x1024) hz, View.ld_unit_zero (S := S512x2816) hz, View.ld_unit_zero (S := S2816x1024) hz]
  pointwise [k0_pay1, summed]

variable (m : (ℓ : Loc nD τ sig) → Buf (Elt Ideal) ℓ) (c : Dev nD)

/-- Row `r` of tile `t`, of all the rows. -/
def row (t : Fin cfg0.N) (r : Fin 512) : Fin 4096 := ⟨512 * t.val + r.val, by
  have h : t.val < 8 := lt_of_lt_of_eq t.isLt N_0
  omega⟩

theorem rows (i : Fin 4096) : ∃ t r, row t r = i :=
  ⟨⟨i.val / 512, lt_of_lt_of_eq (by omega : i.val / 512 < 8) N_0.symm⟩, ⟨i.val % 512, Nat.mod_lt _ (by norm_num)⟩,
    Fin.ext (Nat.div_add_mod i.val 512)⟩

theorem weight (a : Fin 2816) (b : Fin 1024) : V m c main_v1 (ix2 a b) = m ((c : Thread nD τ).loc main_arg2) (ix3 0 a b) := by
  unfold V
  after_results_simp
  pointwise

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem blk_0 (t : Fin cfg0.N) (r : Fin 512) (l : Fin 1024) : iblk m c 0 t (ix2 r l) = m ((c : Thread nD τ).loc main_arg0) (ix2 (row t r) l) :=
  (show V m c main_arg0 (((cfg0.win 0).blk t).view.emb (ix2 r l)) = _ from congrArg _ (at_tile (idx t).1 rfl rfl rfl)).trans
    (congrFun (V_main_arg0 m c) _)

theorem blk_1 (t : Fin cfg0.N) (r : Fin 512) (l : Fin 2816) : iblk m c 1 t (ix2 r l) = m ((c : Thread nD τ).loc main_arg1) (ix2 (row t r) l) :=
  (show V m c main_arg1 (((cfg0.win 1).blk t).view.emb (ix2 r l)) = _ from congrArg _ (at_tile (idx t).2.1 rfl rfl rfl)).trans
    (congrFun (V_main_arg1 m c) _)

theorem blk_2 (t : Fin cfg0.N) (a : Fin 2816) (b : Fin 1024) : iblk m c 2 t (ix2 a b) = m ((c : Thread nD τ).loc main_arg2) (ix3 0 a b) :=
  (show V m c main_v1 (((cfg0.win 2).blk t).view.emb (ix2 a b)) = _ from
    congrArg _ (at_tile (idx t).2.2.1 rfl rfl (Nat.zero_add _).symm)).trans (weight m c a b)

/-- The result at an index. -/
theorem result_at (i : Fin 4096) (l : Fin 1024) : (dats m 0 c).arrAt 3 cfg0.N (ix2 i l)
    = summed (fun l => m ((c : Thread nD τ).loc main_arg0) (ix2 i l)) (fun k => m ((c : Thread nD τ).loc main_arg1) (ix2 i k))
        (fun a b => m ((c : Thread nD τ).loc main_arg2) (ix3 0 a b)) l := by
  obtain ⟨t, r, rfl⟩ := rows i
  have place : ((cfg0.win 3).blk t).view.emb (ix2 r l) = (ix2 (row t r) l : S4096x1024.Idx) := at_tile (idx t).2.2.2 rfl rfl rfl
  refine (congrArg _ place.symm).trans ((congrFun ((blocks3 m c t (flush0_3 t)).trans (flushed3 m c t)) (ix2 r l)).trans ?_)
  refine (tile_at _ _ _ r l).trans ?_
  simp only [blk_0, blk_1, blk_2]

end Cert.DownKernelIdeal.Step

namespace Cert.DownRefIdeal.Step

open Cert.DownRefIdeal Cert.DownRefIdeal.Gen
open Cert.DownKernelIdeal.Step (summed)
open Idealize.ShloMosaic Idealize.ShloMosaic.TcCoe Idealize.ShloMosaic.Tactic

/-- The product, halved and added, as the reference's lines compute it. -/
def onto (x : FVec Ideal S4096x1024 .f32) (h : FVec Ideal S4096x2816 .bf16) (w : FVec Ideal S1x2816x1024 .f32) : FVec Ideal S4096x1024 .f32 :=
  addf x (mulf (broadcastInDim S4096x1024 ![] bcast_S_S4096x1024 (constant S_ .f32 0x3F000000#32))
    (Host.dotGeneral (φ₁ := .f32) (φ₂ := .f32) dot_S4096x2816_S2816x1024_S4096x1024_1_0_0_1_n_n none (extf .f32 h bitsLt_bf16_f32)
      (shapeCast _ w shapeCasts_S1x2816x1024_S2816x1024 : FVec Ideal S2816x1024 .f32)))

theorem onto_at (x : FVec Ideal S4096x1024 .f32) (h : FVec Ideal S4096x2816 .bf16) (w : FVec Ideal S1x2816x1024 .f32) (i : Fin 4096)
    (l : Fin 1024) : onto x h w (ix2 i l) = summed (fun l => x (ix2 i l)) (fun k => h (ix2 i k)) (fun a b => w (ix3 0 a b)) l := by
  pointwise [onto, summed]

end Cert.DownRefIdeal.Step

namespace Cert.Proof

open Idealize.ShloMosaic Idealize.ShloMosaic.Tactic Idealize.SL.Sem Cert.Num

theorem down_frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem down_algebraic : Cert.algebraic_DownKernelIdeal_DownRefIdeal := by
  intro m g m' g' _ harg
  refine ⟨_, Cert.DownKernelIdeal.Value.run_blocks m g, ?_⟩
  refine (θ_run Cert.DownRefIdeal.defs _ _).mono (fun r h c => ?_) (Cert.DownRefIdeal.Value.run (F := Ideal) m' g')
  obtain ⟨e0, e1, e2⟩ := harg c
  refine ⟨(h c).1.trans ?_, (h c).2⟩
  rw [e0, e1, e2]
  funext j
  obtain ⟨i, l, rfl⟩ := ix2_of (a := 4096) (b := 1024) j
  exact (Cert.DownRefIdeal.Step.onto_at _ _ _ i l).trans (Cert.DownKernelIdeal.Step.result_at m c i l).symm

end Cert.Proof
-- ==== Proof.lean ====
module

public import proofs.«01_k».proof.Proof.Gen.FfnRefIdeal
public import proofs.«01_k».proof.Proof.Gen.PostKernelIdeal.Frame
public import proofs.«01_k».proof.Proof.Gen.PostRefIdeal
public import proofs.«01_k».proof.Defs
public import proofs.«01_k».proof.Proof.Gen.PreKernelIdeal.Frame
public import proofs.«01_k».proof.Proof.Gen.PreRefIdeal
public import proofs.«01_k».proof.Proof.Gen.LossKernelIdeal.Frame
public import proofs.«01_k».proof.Proof.Gen.LossRefIdeal
public import proofs.«01_k».proof.Proof.Gen.RnnKernel
public import proofs.«01_k».proof.Proof.Gen.RnnKernel.Skeleton
public import proofs.«01_k».proof.Proof.Gen.RnnKernel.Launch
public import proofs.«01_k».proof.Proof.Gen.RnnKernel.Points
public import proofs.«01_k».proof.Proof.Gen.RnnKernelIdeal
public import proofs.«01_k».proof.Proof.Gen.RnnKernelIdeal.Skeleton
public import proofs.«01_k».proof.Proof.Gen.RnnKernelIdeal.Launch
public import proofs.«01_k».proof.Proof.Gen.RnnKernelIdeal.Points
public import proofs.«01_k».proof.Proof.Gen.RnnRefIdeal
public import proofs.«01_k».proof.Proof.Gen.AttKernel
public import proofs.«01_k».proof.Proof.Gen.AttKernelIdeal
public import proofs.«01_k».proof.Proof.Gen.AttRefIdeal
public import proofs.«01_k».proof.Proof.Gen.MixInKernel.Frame
public import proofs.«01_k».proof.Proof.Gen.MixInKernelIdeal.Frame
public import proofs.«01_k».proof.Proof.Gen.MixInRefIdeal
public import proofs.«01_k».proof.Proof.Gen.MixOutKernel.Frame
public import proofs.«01_k».proof.Proof.Gen.MixOutKernelIdeal.Frame
public import proofs.«01_k».proof.Proof.Gen.MixOutRefIdeal
public import proofs.«01_k».proof.Proof.Gen.SbKernel
public import proofs.«01_k».proof.Proof.Gen.SbKernelIdeal
public import proofs.«01_k».proof.Proof.Gen.SbRefIdeal
public import proofs.«01_k».proof.Proof.Gen.ScanKernel.Frame
public import proofs.«01_k».proof.Proof.Gen.ScanKernelIdeal.Frame
public import proofs.«01_k».proof.Proof.Gen.ScanRefIdeal
public import proofs.«01_k».proof.Proof.Gen.AdamKernel.Frame
public import proofs.«01_k».proof.Proof.Gen.AdamKernelIdeal.Frame
public import proofs.«01_k».proof.Proof.Gen.AdamRefIdeal
public import proofs.«01_k».proof.Proof.Gen.DownKernel.Frame
public import proofs.«01_k».proof.Proof.Gen.DownKernelIdeal.Frame
public import proofs.«01_k».proof.Proof.Gen.DownRefIdeal
public import proofs.«01_k».proof.Proof.PreClaim
public import proofs.«01_k».proof.Proof.PostClaim
public import proofs.«01_k».proof.Proof.FfnClaim
public import proofs.«01_k».proof.Proof.LossClaim
public import proofs.«01_k».proof.Proof.RnnFrame
public import proofs.«01_k».proof.Proof.RnnClaim
public import proofs.«01_k».proof.Proof.AttClaim
public import proofs.«01_k».proof.Proof.MixClaim
public import proofs.«01_k».proof.Proof.SbClaim
public import proofs.«01_k».proof.Proof.Gen.WdownKernel.Frame
public import proofs.«01_k».proof.Proof.Gen.WdownKernelIdeal.Frame
public import proofs.«01_k».proof.Proof.Gen.WdownRefIdeal
public import proofs.«01_k».proof.Proof.Gen.WinKernel.Frame
public import proofs.«01_k».proof.Proof.Gen.WinKernelIdeal.Frame
public import proofs.«01_k».proof.Proof.Gen.WinRefIdeal
public import proofs.«01_k».proof.Proof.AdamClaim
public import proofs.«01_k».proof.Proof.WgradWhole
public import proofs.«01_k».proof.Proof.Wgrad
public import proofs.«01_k».proof.Proof.Down
public import Idealize.ShloMosaic.Adequacy
public import Idealize.ShloMosaic.Init

@[expose] public section

noncomputable section

namespace Cert.Proof

open Idealize.ShloMosaic Idealize.SL.Sem Cert.PreKernel

theorem claim : Cert.Claim := ⟨Cert.PreKernel.Gen.facts, Cert.PreKernelIdeal.Gen.facts, Cert.PreRefIdeal.Gen.facts,
  Cert.PostKernel.Gen.facts, Cert.PostKernelIdeal.Gen.facts, Cert.PostRefIdeal.Gen.facts,
  Cert.FfnKernel.Gen.facts, Cert.FfnKernelIdeal.Gen.facts, Cert.FfnRefIdeal.Gen.facts,
  Cert.LossKernel.Gen.facts, Cert.LossKernelIdeal.Gen.facts, Cert.LossRefIdeal.Gen.facts,
  Cert.RnnKernel.Gen.facts, Cert.RnnKernelIdeal.Gen.facts, Cert.RnnRefIdeal.Gen.facts,
  Cert.AttKernel.Gen.facts, Cert.AttKernelIdeal.Gen.facts, Cert.AttRefIdeal.Gen.facts,
  Cert.MixInKernel.Gen.facts, Cert.MixInKernelIdeal.Gen.facts, Cert.MixInRefIdeal.Gen.facts,
  Cert.MixOutKernel.Gen.facts, Cert.MixOutKernelIdeal.Gen.facts, Cert.MixOutRefIdeal.Gen.facts,
  Cert.SbKernel.Gen.facts, Cert.SbKernelIdeal.Gen.facts, Cert.SbRefIdeal.Gen.facts,
  Cert.ScanKernel.Gen.facts, Cert.ScanKernelIdeal.Gen.facts, Cert.ScanRefIdeal.Gen.facts,
  Cert.AdamKernel.Gen.facts, Cert.AdamKernelIdeal.Gen.facts, Cert.AdamRefIdeal.Gen.facts,
  Cert.DownKernel.Gen.facts, Cert.DownKernelIdeal.Gen.facts, Cert.DownRefIdeal.Gen.facts,
  Cert.WdownKernel.Gen.facts, Cert.WdownKernelIdeal.Gen.facts, Cert.WdownRefIdeal.Gen.facts,
  Cert.WinKernel.Gen.facts, Cert.WinKernelIdeal.Gen.facts, Cert.WinRefIdeal.Gen.facts,
  Cert.Pre_pre_finite.Gen.facts, Cert.Pre_post_finite.Gen.facts, Cert.Pre_ffn_finite.Gen.facts, Cert.Pre_rnn_finite.Gen.facts,
  Cert.Pre_sb_finite.Gen.facts,
  fun m ρ _ => Cert.PreKernel.Gen.frame m ρ, fun m ρ _ => Cert.PreKernelIdeal.Gen.frame m ρ, fun m ρ _ => Cert.PreKernelIdeal.Gen.frame m ρ,
  pre_frame, fun m ρ _ => pre_frame m ρ trivial,
  fun m ρ _ => Cert.PostKernel.Gen.frame m ρ, fun m ρ _ => Cert.PostKernelIdeal.Gen.frame m ρ, fun m ρ _ => Cert.PostKernelIdeal.Gen.frame m ρ,
  post_frame, fun m ρ _ => post_frame m ρ trivial,
  fun m ρ _ => Cert.FfnKernel.Gen.frame m ρ, fun m ρ _ => Cert.FfnKernelIdeal.Gen.frame m ρ, fun m ρ _ => Cert.FfnKernelIdeal.Gen.frame m ρ,
  ffn_frame, fun m ρ _ => ffn_frame m ρ trivial,
  fun m ρ _ => Cert.LossKernel.Gen.frame m ρ, fun m ρ _ => Cert.LossKernelIdeal.Gen.frame m ρ, loss_frame,
  fun m ρ _ => Cert.RnnKernel.Carry.frame m ρ, fun m ρ _ => Cert.RnnKernelIdeal.Carry.frame m ρ, fun m ρ _ => Cert.RnnKernelIdeal.Carry.frame m ρ,
  rnn_frame, fun m ρ _ => rnn_frame m ρ trivial,
  att_kernel_frame, att_ideal_frame, att_frame,
  fun m ρ _ => Cert.MixInKernel.Gen.frame m ρ, fun m ρ _ => Cert.MixInKernelIdeal.Gen.frame m ρ, mix_in_frame,
  fun m ρ _ => Cert.MixOutKernel.Gen.frame m ρ, fun m ρ _ => Cert.MixOutKernelIdeal.Gen.frame m ρ, mix_out_frame,
  sb_kernel_frame, sb_ideal_frame, sb_ideal_frame_pre, sb_frame, sb_frame_pre,
  fun m ρ _ => Cert.ScanKernel.Gen.frame m ρ, fun m ρ _ => Cert.ScanKernelIdeal.Gen.frame m ρ, scan_frame,
  fun m ρ _ => Cert.AdamKernel.Gen.frame m ρ, fun m ρ _ => Cert.AdamKernelIdeal.Gen.frame m ρ, adam_frame,
  fun m ρ _ => Cert.DownKernel.Gen.frame m ρ, fun m ρ _ => Cert.DownKernelIdeal.Gen.frame m ρ, down_frame,
  fun m ρ _ => Cert.WdownKernel.Gen.frame m ρ, fun m ρ _ => Cert.WdownKernelIdeal.Gen.frame m ρ, wdown_frame,
  fun m ρ _ => Cert.WinKernel.Gen.frame m ρ, fun m ρ _ => Cert.WinKernelIdeal.Gen.frame m ρ, win_frame,
  trivial, pre_algebraic, trivial, post_algebraic, trivial, ffn_algebraic, trivial, loss_algebraic,
  ⟨IdealRules.named_const.statement Cert.RnnKernelIdeal.κ "k1" .f32 0x3D372713#32 ((8943 / 200000 : ℝ) : EReal) rfl,
    IdealRules.named_const.statement Cert.RnnKernelIdeal.κ "k1_thrice" .f32 0x3E095D4F#32 ((26829 / 200000 : ℝ) : EReal) rfl⟩,
  rnn_algebraic,
  IdealRules.named_const.statement Cert.AttKernelIdeal.κ "exit" .f32 0xC2D20000#32 ⊥ rfl,
  trivial, mix_in_algebraic, trivial, mix_out_algebraic,
  IdealRules.named_const.statement Cert.SbKernelIdeal.κ "exit" .f32 0xC2D20000#32 ⊥ rfl, sb_algebraic,
  IdealRules.named_const.statement Cert.ScanKernelIdeal.κ "k1" .f32 0x3D372713#32 ((8943 / 200000 : ℝ) : EReal) rfl,
  trivial, adam_algebraic,
  trivial, down_algebraic,
  trivial, wdown_algebraic,
  trivial, win_algebraic⟩

end Cert.Proof

end
